-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v66)) (v3 : (c : Dev Cert.KernelIdeal.nD) → Buf (Elt Ideal) ((c.tc : Thread Cert.KernelIdeal.nD Cert.KernelIdeal.τ).loc Cert.KernelIdeal.main_v67)) (v4 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_v67) = v3 c
          ∧ r.2.mem ((c.tc : Thread Cert.KernelIdeal.nD Cert.KernelIdeal.τ).loc Cert.KernelIdeal.main_v68) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_v9) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v86) = v0 c
          ∧ r.2.mem ((c.tc : Thread Cert.Reference6Ideal.nD Cert.Reference6Ideal.τ).loc Cert.Reference6Ideal.main_v87) = v1 c
          ∧ r.2.mem ((c.tc : Thread Cert.Reference6Ideal.nD Cert.Reference6Ideal.τ).loc Cert.Reference6Ideal.main_v88) = v2 c
          ∧ r.2.mem ((c.tc : Thread Cert.Reference6Ideal.nD Cert.Reference6Ideal.τ).loc Cert.Reference6Ideal.main_v83) = v3 c
          ∧ r.2.mem ((c.tc : Thread Cert.Reference6Ideal.nD Cert.Reference6Ideal.τ).loc Cert.Reference6Ideal.main_v52) = v4 c
          ∧ r.2.mem ((c.tc : Thread Cert.Reference6Ideal.nD Cert.Reference6Ideal.τ).loc Cert.Reference6Ideal.main_v49) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)) (v6 : (c : Dev Cert.Kernel7Ideal.nD) → Buf (Elt Ideal) ((c.tc : Thread Cert.Kernel7Ideal.nD Cert.Kernel7Ideal.τ).loc Cert.Kernel7Ideal.main_v0_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_v0_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v86) = v0 c
          ∧ r.2.mem ((c.tc : Thread Cert.Reference7Ideal.nD Cert.Reference7Ideal.τ).loc Cert.Reference7Ideal.main_v87) = v1 c
          ∧ r.2.mem ((c.tc : Thread Cert.Reference7Ideal.nD Cert.Reference7Ideal.τ).loc Cert.Reference7Ideal.main_v84) = v2 c
          ∧ r.2.mem ((c.tc : Thread Cert.Reference7Ideal.nD Cert.Reference7Ideal.τ).loc Cert.Reference7Ideal.main_v53) = v3 c
          ∧ r.2.mem ((c.tc : Thread Cert.Reference7Ideal.nD Cert.Reference7Ideal.τ).loc Cert.Reference7Ideal.main_v50) = v4 c
          ∧ r.2.mem ((c.tc : Thread Cert.Reference7Ideal.nD Cert.Reference7Ideal.τ).loc Cert.Reference7Ideal.main_v45) = v5 c
          ∧ r.2.mem ((c.tc : Thread Cert.Reference7Ideal.nD Cert.Reference7Ideal.τ).loc Cert.Reference7Ideal.main_v42) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)) (v3 : (c : Dev Cert.Kernel8Ideal.nD) → Buf (Elt Ideal) ((c.tc : Thread Cert.Kernel8Ideal.nD Cert.Kernel8Ideal.τ).loc Cert.Kernel8Ideal.main_v5_3)) (v4 : (c : Dev Cert.Kernel8Ideal.nD) → Buf (Elt Ideal) ((c.tc : Thread Cert.Kernel8Ideal.nD Cert.Kernel8Ideal.τ).loc Cert.Kernel8Ideal.main_v5_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_v5_3) = v3 c
          ∧ r.2.mem ((c.tc : Thread Cert.Kernel8Ideal.nD Cert.Kernel8Ideal.τ).loc Cert.Kernel8Ideal.main_v5_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v50) = v0 c
          ∧ r.2.mem ((c.tc : Thread Cert.Reference8Ideal.nD Cert.Reference8Ideal.τ).loc Cert.Reference8Ideal.main_v57) = v1 c
          ∧ r.2.mem ((c.tc : Thread Cert.Reference8Ideal.nD Cert.Reference8Ideal.τ).loc Cert.Reference8Ideal.main_v58) = v2 c
          ∧ r.2.mem ((c.tc : Thread Cert.Reference8Ideal.nD Cert.Reference8Ideal.τ).loc Cert.Reference8Ideal.main_v56) = v3 c
          ∧ r.2.mem ((c.tc : Thread Cert.Reference8Ideal.nD Cert.Reference8Ideal.τ).loc Cert.Reference8Ideal.main_v59) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel12_Kernel12Ideal : Prop :=
  IdealRules.named_const.Statement Cert.Kernel12Ideal.κ "mask" .f32 0xF149F2CA#32 ⊥
  ∧ IdealRules.named_const.Statement Cert.Kernel12Ideal.κ "inv_ln2" .f32 0x3FB8AA3B#32 (((Real.log 2)⁻¹ : ℝ) : EReal)

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v18_0)) (v1 : (c : Dev Cert.Kernel12Ideal.nD) → Buf (Elt Ideal) ((c.tc : Thread Cert.Kernel12Ideal.nD Cert.Kernel12Ideal.τ).loc Cert.Kernel12Ideal.main_v18_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v18_0) = v0 c
          ∧ r.2.mem ((c.tc : Thread Cert.Kernel12Ideal.nD Cert.Kernel12Ideal.τ).loc Cert.Kernel12Ideal.main_v18_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v41) = v0 c
          ∧ r.2.mem ((c.tc : Thread Cert.Reference12Ideal.nD Cert.Reference12Ideal.τ).loc Cert.Reference12Ideal.main_v42) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)) →
    ∃ (v0 : (c : Dev Cert.Kernel9Ideal.nD) → Buf (Elt Ideal) ((c.tc : Thread Cert.Kernel9Ideal.nD Cert.Kernel9Ideal.τ).loc Cert.Kernel9Ideal.main_v40_0)) (v1 : (c : Dev Cert.Kernel9Ideal.nD) → Buf (Elt Ideal) ((c.tc : Thread Cert.Kernel9Ideal.nD Cert.Kernel9Ideal.τ).loc Cert.Kernel9Ideal.main_v40_1)) (v2 : (c : Dev Cert.Kernel9Ideal.nD) → Buf (Elt Ideal) ((c.tc : Thread Cert.Kernel9Ideal.nD Cert.Kernel9Ideal.τ).loc Cert.Kernel9Ideal.main_v40_2)) (v3 : (c : Dev Cert.Kernel9Ideal.nD) → Buf (Elt Ideal) ((c.tc : Thread Cert.Kernel9Ideal.nD Cert.Kernel9Ideal.τ).loc Cert.Kernel9Ideal.main_v40_3)) (v4 : (c : Dev Cert.Kernel9Ideal.nD) → Buf (Elt Ideal) ((c.tc : Thread Cert.Kernel9Ideal.nD Cert.Kernel9Ideal.τ).loc Cert.Kernel9Ideal.main_v40_4)) (v5 : (c : Dev Cert.Kernel9Ideal.nD) → Buf (Elt Ideal) ((c.tc : Thread Cert.Kernel9Ideal.nD Cert.Kernel9Ideal.τ).loc Cert.Kernel9Ideal.main_v40_5)) (v6 : (c : Dev Cert.Kernel9Ideal.nD) → Buf (Elt Ideal) ((c.tc : Thread Cert.Kernel9Ideal.nD Cert.Kernel9Ideal.τ).loc Cert.Kernel9Ideal.main_v40_6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v40_0) = v0 c
          ∧ r.2.mem ((c.tc : Thread Cert.Kernel9Ideal.nD Cert.Kernel9Ideal.τ).loc Cert.Kernel9Ideal.main_v40_1) = v1 c
          ∧ r.2.mem ((c.tc : Thread Cert.Kernel9Ideal.nD Cert.Kernel9Ideal.τ).loc Cert.Kernel9Ideal.main_v40_2) = v2 c
          ∧ r.2.mem ((c.tc : Thread Cert.Kernel9Ideal.nD Cert.Kernel9Ideal.τ).loc Cert.Kernel9Ideal.main_v40_3) = v3 c
          ∧ r.2.mem ((c.tc : Thread Cert.Kernel9Ideal.nD Cert.Kernel9Ideal.τ).loc Cert.Kernel9Ideal.main_v40_4) = v4 c
          ∧ r.2.mem ((c.tc : Thread Cert.Kernel9Ideal.nD Cert.Kernel9Ideal.τ).loc Cert.Kernel9Ideal.main_v40_5) = v5 c
          ∧ r.2.mem ((c.tc : Thread Cert.Kernel9Ideal.nD Cert.Kernel9Ideal.τ).loc Cert.Kernel9Ideal.main_v40_6) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v180) = v0 c
          ∧ r.2.mem ((c.tc : Thread Cert.Reference9Ideal.nD Cert.Reference9Ideal.τ).loc Cert.Reference9Ideal.main_v181) = v1 c
          ∧ r.2.mem ((c.tc : Thread Cert.Reference9Ideal.nD Cert.Reference9Ideal.τ).loc Cert.Reference9Ideal.main_v182) = v2 c
          ∧ r.2.mem ((c.tc : Thread Cert.Reference9Ideal.nD Cert.Reference9Ideal.τ).loc Cert.Reference9Ideal.main_v183) = v3 c
          ∧ r.2.mem ((c.tc : Thread Cert.Reference9Ideal.nD Cert.Reference9Ideal.τ).loc Cert.Reference9Ideal.main_v184) = v4 c
          ∧ r.2.mem ((c.tc : Thread Cert.Reference9Ideal.nD Cert.Reference9Ideal.τ).loc Cert.Reference9Ideal.main_v185) = v5 c
          ∧ r.2.mem ((c.tc : Thread Cert.Reference9Ideal.nD Cert.Reference9Ideal.τ).loc Cert.Reference9Ideal.main_v186) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)) (v2 : (c : Dev Cert.Kernel4Ideal.nD) → Buf (Elt Ideal) ((c.tc : Thread Cert.Kernel4Ideal.nD Cert.Kernel4Ideal.τ).loc Cert.Kernel4Ideal.main_v24_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_v24_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_v17) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_1)) (v2 : (c : Dev Cert.Kernel13Ideal.nD) → Buf (Elt Ideal) ((c.tc : Thread Cert.Kernel13Ideal.nD Cert.Kernel13Ideal.τ).loc Cert.Kernel13Ideal.main_v5_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_1) = v1 c
          ∧ r.2.mem ((c.tc : Thread Cert.Kernel13Ideal.nD Cert.Kernel13Ideal.τ).loc Cert.Kernel13Ideal.main_v5_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_v11) = v1 c
          ∧ r.2.mem ((c.tc : Thread Cert.Reference13Ideal.nD Cert.Reference13Ideal.τ).loc Cert.Reference13Ideal.main_v12) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v9) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v19) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v27) = v0 c
          ∧ r.2.mem ((c.tc : Thread Cert.Reference16Ideal.nD Cert.Reference16Ideal.τ).loc Cert.Reference16Ideal.main_v34) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v34_0)) (v1 : (c : Dev Cert.Kernel18Ideal.nD) → Buf (Elt Ideal) ((c.tc : Thread Cert.Kernel18Ideal.nD Cert.Kernel18Ideal.τ).loc Cert.Kernel18Ideal.main_v34_1)) (v2 : (c : Dev Cert.Kernel18Ideal.nD) → Buf (Elt Ideal) ((c.tc : Thread Cert.Kernel18Ideal.nD Cert.Kernel18Ideal.τ).loc Cert.Kernel18Ideal.main_v34_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v34_0) = v0 c
          ∧ r.2.mem ((c.tc : Thread Cert.Kernel18Ideal.nD Cert.Kernel18Ideal.τ).loc Cert.Kernel18Ideal.main_v34_1) = v1 c
          ∧ r.2.mem ((c.tc : Thread Cert.Kernel18Ideal.nD Cert.Kernel18Ideal.τ).loc Cert.Kernel18Ideal.main_v34_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v85) = v0 c
          ∧ r.2.mem ((c.tc : Thread Cert.Reference18Ideal.nD Cert.Reference18Ideal.τ).loc Cert.Reference18Ideal.main_v86) = v1 c
          ∧ r.2.mem ((c.tc : Thread Cert.Reference18Ideal.nD Cert.Reference18Ideal.τ).loc Cert.Reference18Ideal.main_v89) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)) (v3 : (c : Dev Cert.Kernel22Ideal.nD) → Buf (Elt Ideal) ((c.tc : Thread Cert.Kernel22Ideal.nD Cert.Kernel22Ideal.τ).loc Cert.Kernel22Ideal.main_v4_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_v4_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v27) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v13) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v3_0)) (v1 : (c : Dev Cert.Kernel24Ideal.nD) → Buf (Elt Ideal) ((c.tc : Thread Cert.Kernel24Ideal.nD Cert.Kernel24Ideal.τ).loc Cert.Kernel24Ideal.main_v3_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3_0) = v0 c
          ∧ r.2.mem ((c.tc : Thread Cert.Kernel24Ideal.nD Cert.Kernel24Ideal.τ).loc Cert.Kernel24Ideal.main_v3_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_v5) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel12 : Cert.Kernel12.Facts) (hKernel12Ideal : Cert.Kernel12Ideal.Facts) (hReference12Ideal : Cert.Reference12Ideal.Facts) (hKernel9 : Cert.Kernel9.Facts) (hKernel9Ideal : Cert.Kernel9Ideal.Facts) (hReference9Ideal : Cert.Reference9Ideal.Facts) (hKernel4 : Cert.Kernel4.Facts) (hKernel4Ideal : Cert.Kernel4Ideal.Facts) (hReference4Ideal : Cert.Reference4Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite6 : Cert.Pre_finite6.Facts) (hPre_finite7 : Cert.Pre_finite7.Facts) (hPre_finite12 : Cert.Pre_finite12.Facts) (hPre_finite4 : Cert.Pre_finite4.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel9_Kernel9Ideal
    ∧ algebraic_Kernel9Ideal_Reference9Ideal (hKernel9Ideal := hKernel9Ideal) (hReference9Ideal := hReference9Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S1x4096x4x128 : Shape := ⟨4, ![1, 4096, 4, 128]⟩
abbrev S1x4096x4x64 : Shape := ⟨4, ![1, 4096, 4, 64]⟩
abbrev S1x4096x64 : Shape := ⟨3, ![1, 4096, 64]⟩
abbrev S_ : Shape := ⟨0, ![]⟩

class Facts : Prop where
  bcast_S_S1x4096x4x128 : S_.BroadcastsInDim S1x4096x4x128 (![] : Fin 0 → Fin S1x4096x4x128.rank)
  reducesTo_S1x4096x4x128_S_d0_1_2_3 : S1x4096x4x128.ReducesTo [0, 1, 2, 3] S_
  h_S_ : 0 < S_.numel
  bcast_S_S1x4096x4x64 : S_.BroadcastsInDim S1x4096x4x64 (![] : Fin 0 → Fin S1x4096x4x64.rank)
  reducesTo_S1x4096x4x64_S_d0_1_2_3 : S1x4096x4x64.ReducesTo [0, 1, 2, 3] S_
  bcast_S_S1x4096x64 : S_.BroadcastsInDim S1x4096x64 (![] : Fin 0 → Fin S1x4096x64.rank)
  reducesTo_S1x4096x64_S_d0_1_2 : S1x4096x64.ReducesTo [0, 1, 2] S_

variable [Facts]

def fn_part1 {F : FTy → Type} [FloatOps F] (main_arg4 : FVec F S1x4096x4x128 .f32) (main_arg5 : FVec F S1x4096x4x128 .f32) (main_v13 : IVec S_ 1) (main_v16 : IVec S1x4096x64 1) : IVec S_ 1 :=
  let main_c_5 : IVec S_ 1 := constantI S_ 1 1#1
  let main_v17 : IVec S_ 1 := (fun x v => Host.reduce IntOp.andi x v reducesTo_S1x4096x64_S_d0_1_2 h_S_) main_v16 main_c_5
  let main_v18 : IVec S_ 1 := andi main_v13 main_v17
  let main_v19 : FVec F S1x4096x4x128 .f32 := Host.absf main_arg4
  let main_cst_6 : FVec F S_ .f32 := constant S_ .f32 0x7F800000#32
  let main_v20 : FVec F S1x4096x4x128 .f32 := broadcastInDim S1x4096x4x128 ![] bcast_S_S1x4096x4x128 main_cst_6
  let main_v21 : IVec S1x4096x4x128 1 := cmpf .olt main_v19 main_v20
  let main_c_7 : IVec S_ 1 := constantI S_ 1 1#1
  let main_v22 : IVec S_ 1 := (fun x v => Host.reduce IntOp.andi x v reducesTo_S1x4096x4x128_S_d0_1_2_3 h_S_) main_v21 main_c_7
  let main_v23 : IVec S_ 1 := andi main_v18 main_v22
  let main_v24 : FVec F S1x4096x4x128 .f32 := Host.absf main_arg5
  let main_cst_8 : FVec F S_ .f32 := constant S_ .f32 0x7F800000#32
  let main_v25 : FVec F S1x4096x4x128 .f32 := broadcastInDim S1x4096x4x128 ![] bcast_S_S1x4096x4x128 main_cst_8
  let main_v26 : IVec S1x4096x4x128 1 := cmpf .olt main_v24 main_v25
  let main_c_9 : IVec S_ 1 := constantI S_ 1 1#1
  let main_v27 : IVec S_ 1 := (fun x v => Host.reduce IntOp.andi x v reducesTo_S1x4096x4x128_S_d0_1_2_3 h_S_) main_v26 main_c_9
  let main_v28 : IVec S_ 1 := andi main_v23 main_v27
  main_v28

def fn {F : FTy → Type} [FloatOps F] (main_arg0 : FVec F S1x4096x4x128 .f32) (main_arg1 : FVec F S1x4096x4x64 .f32) (main_arg2 : FVec F S1x4096x4x128 .f32) (main_arg3 : FVec F S1x4096x64 .f32) (main_arg4 : FVec F S1x4096x4x128 .f32) (main_arg5 : FVec F S1x4096x4x128 .f32) : IVec S_ 1 :=
  let main_v0 : FVec F S1x4096x4x128 .f32 := Host.absf main_arg0
  let main_cst : FVec F S_ .f32 := constant S_ .f32 0x7F800000#32
  let main_v1 : FVec F S1x4096x4x128 .f32 := broadcastInDim S1x4096x4x128 ![] bcast_S_S1x4096x4x128 main_cst
  let main_v2 : IVec S1x4096x4x128 1 := cmpf .olt main_v0 main_v1
  let main_c : IVec S_ 1 := constantI S_ 1 1#1
  let main_v3 : IVec S_ 1 := (fun x v => Host.reduce IntOp.andi x v reducesTo_S1x4096x4x128_S_d0_1_2_3 h_S_) main_v2 main_c
  let main_v4 : FVec F S1x4096x4x64 .f32 := Host.absf main_arg1
  let main_cst_0 : FVec F S_ .f32 := constant S_ .f32 0x7F800000#32
  let main_v5 : FVec F S1x4096x4x64 .f32 := broadcastInDim S1x4096x4x64 ![] bcast_S_S1x4096x4x64 main_cst_0
  let main_v6 : IVec S1x4096x4x64 1 := cmpf .olt main_v4 main_v5
  let main_c_1 : IVec S_ 1 := constantI S_ 1 1#1
  let main_v7 : IVec S_ 1 := (fun x v => Host.reduce IntOp.andi x v reducesTo_S1x4096x4x64_S_d0_1_2_3 h_S_) main_v6 main_c_1
  let main_v8 : IVec S_ 1 := andi main_v3 main_v7
  let main_v9 : FVec F S1x4096x4x128 .f32 := Host.absf main_arg2
  let main_cst_2 : FVec F S_ .f32 := constant S_ .f32 0x7F800000#32
  let main_v10 : FVec F S1x4096x4x128 .f32 := broadcastInDim S1x4096x4x128 ![] bcast_S_S1x4096x4x128 main_cst_2
  let main_v11 : IVec S1x4096x4x128 1 := cmpf .olt main_v9 main_v10
  let main_c_3 : IVec S_ 1 := constantI S_ 1 1#1
  let main_v12 : IVec S_ 1 := (fun x v => Host.reduce IntOp.andi x v reducesTo_S1x4096x4x128_S_d0_1_2_3 h_S_) main_v11 main_c_3
  let main_v13 : IVec S_ 1 := andi main_v8 main_v12
  let main_v14 : FVec F S1x4096x64 .f32 := Host.absf main_arg3
  let main_cst_4 : FVec F S_ .f32 := constant S_ .f32 0x7F800000#32
  let main_v15 : FVec F S1x4096x64 .f32 := broadcastInDim S1x4096x64 ![] bcast_S_S1x4096x64 main_cst_4
  let main_v16 : IVec S1x4096x64 1 := cmpf .olt main_v14 main_v15
  fn_part1 (F := F) main_arg4 main_arg5 main_v13 main_v16
-- ==== Pre_finite12.lean ====
abbrev S1x4096x4x128 : Shape := ⟨4, ![1, 4096, 4, 128]⟩
abbrev S1x4096x4x64 : Shape := ⟨4, ![1, 4096, 4, 64]⟩
abbrev S1x4096x64 : Shape := ⟨3, ![1, 4096, 64]⟩
abbrev S_ : Shape := ⟨0, ![]⟩

class Facts : Prop where
  bcast_S_S1x4096x4x128 : S_.BroadcastsInDim S1x4096x4x128 (![] : Fin 0 → Fin S1x4096x4x128.rank)
  reducesTo_S1x4096x4x128_S_d0_1_2_3 : S1x4096x4x128.ReducesTo [0, 1, 2, 3] S_
  h_S_ : 0 < S_.numel
  bcast_S_S1x4096x4x64 : S_.BroadcastsInDim S1x4096x4x64 (![] : Fin 0 → Fin S1x4096x4x64.rank)
  reducesTo_S1x4096x4x64_S_d0_1_2_3 : S1x4096x4x64.ReducesTo [0, 1, 2, 3] S_
  bcast_S_S1x4096x64 : S_.BroadcastsInDim S1x4096x64 (![] : Fin 0 → Fin S1x4096x64.rank)
  reducesTo_S1x4096x64_S_d0_1_2 : S1x4096x64.ReducesTo [0, 1, 2] S_

variable [Facts]

def fn_part1 {F : FTy → Type} [FloatOps F] (main_arg4 : FVec F S1x4096x4x128 .f32) (main_v13 : IVec S_ 1) (main_v16 : IVec S1x4096x64 1) : IVec S_ 1 :=
  let main_c_5 : IVec S_ 1 := constantI S_ 1 1#1
  let main_v17 : IVec S_ 1 := (fun x v => Host.reduce IntOp.andi x v reducesTo_S1x4096x64_S_d0_1_2 h_S_) main_v16 main_c_5
  let main_v18 : IVec S_ 1 := andi main_v13 main_v17
  let main_v19 : FVec F S1x4096x4x128 .f32 := Host.absf main_arg4
  let main_cst_6 : FVec F S_ .f32 := constant S_ .f32 0x7F800000#32
  let main_v20 : FVec F S1x4096x4x128 .f32 := broadcastInDim S1x4096x4x128 ![] bcast_S_S1x4096x4x128 main_cst_6
  let main_v21 : IVec S1x4096x4x128 1 := cmpf .olt main_v19 main_v20
  let main_c_7 : IVec S_ 1 := constantI S_ 1 1#1
  let main_v22 : IVec S_ 1 := (fun x v => Host.reduce IntOp.andi x v reducesTo_S1x4096x4x128_S_d0_1_2_3 h_S_) main_v21 main_c_7
  let main_v23 : IVec S_ 1 := andi main_v18 main_v22
  main_v23

def fn {F : FTy → Type} [FloatOps F] (main_arg0 : FVec F S1x4096x4x128 .f32) (main_arg1 : FVec F S1x4096x4x64 .f32) (main_arg2 : FVec F S1x4096x4x128 .f32) (main_arg3 : FVec F S1x4096x64 .f32) (main_arg4 : FVec F S1x4096x4x128 .f32) : IVec S_ 1 :=
  let main_v0 : FVec F S1x4096x4x128 .f32 := Host.absf main_arg0
  let main_cst : FVec F S_ .f32 := constant S_ .f32 0x7F800000#32
  let main_v1 : FVec F S1x4096x4x128 .f32 := broadcastInDim S1x4096x4x128 ![] bcast_S_S1x4096x4x128 main_cst
  let main_v2 : IVec S1x4096x4x128 1 := cmpf .olt main_v0 main_v1
  let main_c : IVec S_ 1 := constantI S_ 1 1#1
  let main_v3 : IVec S_ 1 := (fun x v => Host.reduce IntOp.andi x v reducesTo_S1x4096x4x128_S_d0_1_2_3 h_S_) main_v2 main_c
  let main_v4 : FVec F S1x4096x4x64 .f32 := Host.absf main_arg1
  let main_cst_0 : FVec F S_ .f32 := constant S_ .f32 0x7F800000#32
  let main_v5 : FVec F S1x4096x4x64 .f32 := broadcastInDim S1x4096x4x64 ![] bcast_S_S1x4096x4x64 main_cst_0
  let main_v6 : IVec S1x4096x4x64 1 := cmpf .olt main_v4 main_v5
  let main_c_1 : IVec S_ 1 := constantI S_ 1 1#1
  let main_v7 : IVec S_ 1 := (fun x v => Host.reduce IntOp.andi x v reducesTo_S1x4096x4x64_S_d0_1_2_3 h_S_) main_v6 main_c_1
  let main_v8 : IVec S_ 1 := andi main_v3 main_v7
  let main_v9 : FVec F S1x4096x4x128 .f32 := Host.absf main_arg2
  let main_cst_2 : FVec F S_ .f32 := constant S_ .f32 0x7F800000#32
  let main_v10 : FVec F S1x4096x4x128 .f32 := broadcastInDim S1x4096x4x128 ![] bcast_S_S1x4096x4x128 main_cst_2
  let main_v11 : IVec S1x4096x4x128 1 := cmpf .olt main_v9 main_v10
  let main_c_3 : IVec S_ 1 := constantI S_ 1 1#1
  let main_v12 : IVec S_ 1 := (fun x v => Host.reduce IntOp.andi x v reducesTo_S1x4096x4x128_S_d0_1_2_3 h_S_) main_v11 main_c_3
  let main_v13 : IVec S_ 1 := andi main_v8 main_v12
  let main_v14 : FVec F S1x4096x64 .f32 := Host.absf main_arg3
  let main_cst_4 : FVec F S_ .f32 := constant S_ .f32 0x7F800000#32
  let main_v15 : FVec F S1x4096x64 .f32 := broadcastInDim S1x4096x64 ![] bcast_S_S1x4096x64 main_cst_4
  let main_v16 : IVec S1x4096x64 1 := cmpf .olt main_v14 main_v15
  fn_part1 (F := F) main_arg4 main_v13 main_v16
-- ==== Pre_finite13.lean ====
abbrev S4096x1024 : Shape := ⟨2, ![4096, 1024]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S4096x1024 .f32) (main_arg1 : FVec F S1024x2816 .f32) (main_arg2 : FVec F S1024x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  main_v8
-- ==== Pre_finite4.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite6.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  main_v29

def fn {F : FTy → Type} [FloatOps F] (main_arg0 : FVec F S4096x1024 .f32) (main_arg1 : FVec F S4096x1024 .bf16) (main_arg2 : FVec F S4096x1024 .f32) (main_arg3 : FVec F S1x1024 .f32) (main_arg4 : FVec F S1x1024 .f32) (main_arg5 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_arg5 main_v14 main_v15 main_v16
-- ==== Pre_finite7.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v31 : IVec S_ 1) (main_v34 : IVec S1x1024 1) : IVec S_ 1 :=
  let main_c_11 : IVec S_ 1 := constantI S_ 1 1#1
  let main_v35 : IVec S_ 1 := (fun x v => Host.reduce IntOp.andi x v reducesTo_S1x1024_S_d0_1 h_S_) main_v34 main_c_11
  let main_v36 : IVec S_ 1 := andi main_v31 main_v35
  main_v36

def fn_part1 {F : FTy → Type} [FloatOps F] (main_arg4 : FVec F S1x1024 .f32) (main_arg5 : FVec F S1x1024 .f32) (main_arg7 : FVec F S1x1024 .f32) (main_v16 : IVec S_ 1) (main_v17 : FVec F S4096x1024 .f32) : IVec S_ 1 :=
  let main_cst_4 : FVec F S_ .f32 := constant S_ .f32 0x7F800000#32
  let main_v18 : FVec F S4096x1024 .f32 := broadcastInDim S4096x1024 ![] bcast_S_S4096x1024 main_cst_4
  let main_v19 : IVec S4096x1024 1 := cmpf .olt main_v17 main_v18
  let main_c_5 : IVec S_ 1 := constantI S_ 1 1#1
  let main_v20 : IVec S_ 1 := (fun x v => Host.reduce IntOp.andi x v reducesTo_S4096x1024_S_d0_1 h_S_) main_v19 main_c_5
  let main_v21 : IVec S_ 1 := andi main_v16 main_v20
  let main_v22 : FVec F S1x1024 .f32 := Host.absf main_arg4
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  let main_v27 : FVec F S1x1024 .f32 := Host.absf main_arg5
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_c_9 : IVec S_ 1 := constantI S_ 1 1#1
  let main_v30 : IVec S_ 1 := (fun x v => Host.reduce IntOp.andi x v reducesTo_S1x1024_S_d0_1 h_S_) main_v29 main_c_9
  let main_v31 : IVec S_ 1 := andi main_v26 main_v30
  let main_v32 : FVec F S1x1024 .f32 := Host.absf main_arg7
  let main_cst_10 : FVec F S_ .f32 := constant S_ .f32 0x7F800000#32
  let main_v33 : FVec F S1x1024 .f32 := broadcastInDim S1x1024 ![] bcast_S_S1x1024 main_cst_10
  let main_v34 : IVec S1x1024 1 := cmpf .olt main_v32 main_v33
  fn_part2 (F := F) main_v31 main_v34

def fn {F : FTy → Type} [FloatOps F] (main_arg0 : FVec F S4096x1024 .f32) (main_arg1 : FVec F S4096x1024 .bf16) (main_arg2 : FVec F S4096x1024 .bf16) (main_arg3 : FVec F S4096x1024 .bf16) (main_arg4 : FVec F S1x1024 .f32) (main_arg5 : FVec F S1x1024 .f32) (main_arg6 : FVec F S1x1024 .f32) (main_arg7 : FVec F S1x1024 .f32) (main_arg8 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := (extf .f32 · bitsLt_bf16_f32) main_arg2
  let main_v6 : FVec F S4096x1024 .f32 := (extf .f32 · bitsLt_bf16_f32) main_arg3
  let main_v7 : FVec F S4096x1024 .f32 := Host.absf main_v4
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  let main_c_1 : IVec S_ 1 := constantI S_ 1 1#1
  let main_v10 : IVec S_ 1 := (fun x v => Host.reduce IntOp.andi x v reducesTo_S4096x1024_S_d0_1 h_S_) main_v9 main_c_1
  let main_v11 : IVec S_ 1 := andi main_v3 main_v10
  let main_v12 : FVec F S4096x1024 .f32 := Host.absf main_v5
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v11 main_v15
  let main_v17 : FVec F S4096x1024 .f32 := Host.absf main_v6
  fn_part1 (F := F) main_arg4 main_arg5 main_arg7 main_v16 main_v17
-- ==== Kernel.lean ====
abbrev S1x4096x4x128 : Shape := ⟨4, ![1, 4096, 4, 128]⟩
abbrev S1x4096x4x64 : Shape := ⟨4, ![1, 4096, 4, 64]⟩
abbrev S1x4096x64 : Shape := ⟨3, ![1, 4096, 64]⟩
abbrev S_ : Shape := ⟨0, ![]⟩
abbrev S1x4096x4x256 : Shape := ⟨4, ![1, 4096, 4, 256]⟩
abbrev S1x4096x1x64 : Shape := ⟨4, ![1, 4096, 1, 64]⟩
abbrev S1x4x4096x4096 : Shape := ⟨4, ![1, 4, 4096, 4096]⟩
abbrev S4096x4096 : Shape := ⟨2, ![4096, 4096]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4096x4x1 : Shape := ⟨4, ![1, 4096, 4, 1]⟩
abbrev S1x4096x4 : Shape := ⟨3, ![1, 4096, 4]⟩
abbrev S4096x1024 : Shape := ⟨2, ![4096, 1024]⟩
abbrev S4096x512 : Shape := ⟨2, ![4096, 512]⟩
abbrev S4096x256 : Shape := ⟨2, ![4096, 256]⟩
abbrev S1024x256 : Shape := ⟨2, ![1024, 256]⟩
abbrev S1024x128 : Shape := ⟨2, ![1024, 128]⟩
abbrev S4096x128 : Shape := ⟨2, ![4096, 128]⟩
abbrev S512x256 : Shape := ⟨2, ![512, 256]⟩
abbrev S512x128 : Shape := ⟨2, ![512, 128]⟩
abbrev S512x512 : Shape := ⟨2, ![512, 512]⟩
abbrev S512x1 : Shape := ⟨2, ![512, 1]⟩
abbrev S512x1024 : Shape := ⟨2, ![512, 1024]⟩

abbrev nBuf : Space → Nat
  | .hbm => 90
  | .vmem => 18
  | .smem => 0
  | _ => 0

abbrev bufTy : (tb : Table) → Fin (tcTables nBuf tb) → BufTy
  | .hbm, ⟨0, _⟩ => ⟨S1x4096x4x128, .f32⟩
  | .hbm, ⟨1, _⟩ => ⟨S1x4096x4x64, .f32⟩
  | .hbm, ⟨2, _⟩ => ⟨S1x4096x4x128, .f32⟩
  | .hbm, ⟨3, _⟩ => ⟨S1x4096x64, .f32⟩
  | .hbm, ⟨4, _⟩ => ⟨S1x4096x4x128, .f32⟩
  | .hbm, ⟨5, _⟩ => ⟨S1x4096x4x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x4096x4x128, .f32⟩
  | .hbm, ⟨11, _⟩ => ⟨S1x4096x4x128, .f32⟩
  | .hbm, ⟨12, _⟩ => ⟨S1x4096x4x64, .f32⟩
  | .hbm, ⟨13, _⟩ => ⟨S1x4096x4x64, .f32⟩
  | .hbm, ⟨14, _⟩ => ⟨S_, .f32⟩
  | .hbm, ⟨15, _⟩ => ⟨S1x4096x4x64, .f32⟩
  | .hbm, ⟨16, _⟩ => ⟨S1x4096x4x256, .f32⟩
  | .hbm, ⟨17, _⟩ => ⟨S1x4096x4x256, .bf16⟩
  | .hbm, ⟨18, _⟩ => ⟨S1x4096x1x64, .f32⟩
  | .hbm, ⟨19, _⟩ => ⟨S1x4096x4x64, .f32⟩
  | .hbm, ⟨20, _⟩ => ⟨S_, .f32⟩
  | .hbm, ⟨21, _⟩ => ⟨S1x4096x4x64, .f32⟩
  | .hbm, ⟨22, _⟩ => ⟨S1x4096x4x256, .f32⟩
  | .hbm, ⟨23, _⟩ => ⟨S1x4096x4x256, .bf16⟩
  | .hbm, ⟨24, _⟩ => ⟨S1x4096x4x256, .f32⟩
  | .hbm, ⟨25, _⟩ => ⟨S1x4096x4x256, .f32⟩
  | .hbm, ⟨26, _⟩ => ⟨S1x4x4096x4096, .f32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S4096x4096, .i32⟩
  | .hbm, ⟨32, _⟩ => ⟨S_, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S1x4x4096x4096, .i1⟩
  | .hbm, ⟨39, _⟩ => ⟨S1x4x4096x4096, .f32⟩
  | .hbm, ⟨40, _⟩ => ⟨S1x4x4096x4096, .f32⟩
  | .hbm, ⟨41, _⟩ => ⟨S_, .f32⟩
  | .hbm, ⟨42, _⟩ => ⟨S1x4x4096, .f32⟩
  | .hbm, ⟨43, _⟩ => ⟨S1x4x4096x1, .f32⟩
  | .hbm, ⟨44, _⟩ => ⟨S1x4x4096x4096, .f32⟩
  | .hbm, ⟨45, _⟩ => ⟨S1x4x4096x4096, .f32⟩
  | .hbm, ⟨46, _⟩ => ⟨S1x4x4096x4096, .f32⟩
  | .hbm, ⟨47, _⟩ => ⟨S1x4x4096x4096, .f32⟩
  | .hbm, ⟨48, _⟩ => ⟨S1x4x4096x4096, .f32⟩
  | .hbm, ⟨49, _⟩ => ⟨S_, .f32⟩
  | .hbm, ⟨50, _⟩ => ⟨S1x4x4096, .f32⟩
  | .hbm, ⟨51, _⟩ => ⟨S1x4x4096x1, .f32⟩
  | .hbm, ⟨52, _⟩ => ⟨S1x4096x4x128, .bf16⟩
  | .hbm, ⟨53, _⟩ => ⟨S1x4096x4x128, .f32⟩
  | .hbm, ⟨54, _⟩ => ⟨S1x4x128x4096, .f32⟩
  | .hbm, ⟨55, _⟩ => ⟨S1x4096x4x128, .f32⟩
  | .hbm, ⟨56, _⟩ => ⟨S1x4096x4x1, .f32⟩
  | .hbm, ⟨57, _⟩ => ⟨S1x4096x4x128, .f32⟩
  | .hbm, ⟨58, _⟩ => ⟨S1x4096x4x128, .f32⟩
  | .hbm, ⟨59, _⟩ => ⟨S1x4x4096x1, .f32⟩
  | .hbm, ⟨60, _⟩ => ⟨S1x4x4096x1, .f32⟩
  | .hbm, ⟨61, _⟩ => ⟨S1x4x4096x1, .f32⟩
  | .hbm, ⟨62, _⟩ => ⟨S1x4x4096x1, .f32⟩
  | .hbm, ⟨63, _⟩ => ⟨S1x4096x4x1, .f32⟩
  | .hbm, ⟨64, _⟩ => ⟨S1x4096x4x128, .f32⟩
  | .hbm, ⟨65, _⟩ => ⟨S_, .f32⟩
  | .hbm, ⟨66, _⟩ => ⟨S1x4096x4, .f32⟩
  | .hbm, ⟨67, _⟩ => ⟨S1x4096x4x1, .f32⟩
  | .hbm, ⟨68, _⟩ => ⟨S4096x1024, .bf16⟩
  | .hbm, ⟨69, _⟩ => ⟨S4096x1024, .bf16⟩
  | .hbm, ⟨70, _⟩ => ⟨S4096x512, .f32⟩
  | .hbm, ⟨71, _⟩ => ⟨S4096x512, .bf16⟩
  | .hbm, ⟨72, _⟩ => ⟨S4096x512, .f32⟩
  | .hbm, ⟨73, _⟩ => ⟨S4096x512, .bf16⟩
  | .hbm, ⟨74, _⟩ => ⟨S1x4096x4x128, .f32⟩
  | .hbm, ⟨75, _⟩ => ⟨S4096x512, .f32⟩
  | .hbm, ⟨76, _⟩ => ⟨S1x4096x4x128, .f32⟩
  | .hbm, ⟨77, _⟩ => ⟨S4096x512, .f32⟩
  | .hbm, ⟨78, _⟩ => ⟨S4096x1024, .f32⟩
  | .hbm, ⟨79, _⟩ => ⟨S4096x1024, .f32⟩
  | .hbm, ⟨80, _⟩ => ⟨S4096x512, .f32⟩
  | .hbm, ⟨81, _⟩ => ⟨S1x4096x4x256, .f32⟩
  | .hbm, ⟨82, _⟩ => ⟨S1x4096x4x256, .f32⟩
  | .hbm, ⟨83, _⟩ => ⟨S1x4096x4x256, .f32⟩
  | .hbm, ⟨84, _⟩ => ⟨S1x4096x4x256, .f32⟩
  | .hbm, ⟨85, _⟩ => ⟨S1x4096x4x128, .f32⟩
  | .hbm, ⟨86, _⟩ => ⟨S1x4096x4x64, .f32⟩
  | .hbm, ⟨87, _⟩ => ⟨S1x4096x4x128, .f32⟩
  | .hbm, ⟨88, _⟩ => ⟨S1x4096x4x64, .f32⟩
  | .hbm, ⟨89, _⟩ => ⟨S1x4096x4x128, .f32⟩
  | .local _ .vmem, ⟨0, _⟩ => ⟨S4096x256, .bf16⟩
  | .local _ .vmem, ⟨1, _⟩ => ⟨S4096x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x256, .f32⟩
  | .local _ .vmem, ⟨13, _⟩ => ⟨S4096x256, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | _, _ => ⟨S1x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59_0 : Ref sig .tc := ⟨.hbm, 78, rfl⟩
abbrev main_v59_1 : Ref sig .tc := ⟨.hbm, 79, rfl⟩
abbrev main_v59_2 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  let c0_i32_5 : BitVec 32 := 0#32
  let v10 : BitVec 32 := Scalar.addi v9 c0_i32_5
  v10
def k0_off1 (i : grid0.Coords) (c0_i32_5 : BitVec 32) : Fin 2 → Nat :=
  let arg1 : BitVec 32 := BitVec.ofNat 32 (i 1).val
  let c1024_i32 : BitVec 32 := 1024#32
  let v9 : BitVec 32 := Scalar.muli arg1 c1024_i32
  let v10 : BitVec 32 := Scalar.addi v9 c0_i32_5
  let v11 : BitVec 32 := v10
  let v12 : Index := Scalar.indexCast v11
  let c0_6 : Index := 0#32
  ![v12.toNat, 0]
def k0_off2 (i : grid0.Coords) (c0_i32_5 : BitVec 32) : Fin 2 → Nat :=
  let arg1 : BitVec 32 := BitVec.ofNat 32 (i 1).val
  let c1024_i32 : BitVec 32 := 1024#32
  let v9 : BitVec 32 := Scalar.muli arg1 c1024_i32
  let v10 : BitVec 32 := Scalar.addi v9 c0_i32_5
  let v11 : BitVec 32 := v10
  let v15 : Index := Scalar.indexCast v11
  let c0_7 : Index := 0#32
  ![v15.toNat, 0]
def k0_off3 (i : grid0.Coords) (c0_i32_5 : BitVec 32) : Fin 2 → Nat :=
  let arg1 : BitVec 32 := BitVec.ofNat 32 (i 1).val
  let c1024_i32 : BitVec 32 := 1024#32
  let v9 : BitVec 32 := Scalar.muli arg1 c1024_i32
  let v10 : BitVec 32 := Scalar.addi v9 c0_i32_5
  let v11 : BitVec 32 := v10
  let v21 : Index := Scalar.indexCast v11
  let c0_9 : Index := 0#32
  ![v21.toNat, 0]
def k0_mult2 (i : grid0.Coords) : BitVec 32 :=
  let arg1 : BitVec 32 := BitVec.ofNat 32 (i 1).val
  let c1024_i32_19 : BitVec 32 := 1024#32
  let v63 : BitVec 32 := Scalar.muli arg1 c1024_i32_19
  let c512_i32 : BitVec 32 := 512#32
  let v64 : BitVec 32 := Scalar.addi v63 c512_i32
  v64
@[reducible] def k0_t1_loop (i : grid0.Coords) : Scf.Loop 32 :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_34 : BitVec 32 := 1#32
  ⟨v109, v114, c1_i32_34⟩
def k0_mult3 (i : grid0.Coords) (k0_t1 : Fin (k0_t1_loop i).trips) : BitVec 32 :=
  let arg1 : BitVec 32 := BitVec.ofNat 32 (i 1).val
  let c1_i32 : BitVec 32 := 1#32
  let v109 : BitVec 32 := Scalar.addi arg1 c1_i32
  let c1_i32_34 : BitVec 32 := 1#32
  let arg11 : BitVec 32 := Scf.iv v109 c1_i32_34 k0_t1
  let c1024_i32_42 : BitVec 32 := 1024#32
  let v124 : BitVec 32 := Scalar.muli arg11 c1024_i32_42
  let c0_i32_43 : BitVec 32 := 0#32
  let v125 : BitVec 32 := Scalar.addi v124 c0_i32_43
  v125
def k0_off4 (i : grid0.Coords) (k0_t1 : Fin (k0_t1_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c1_i32_34 : BitVec 32 := 1#32
  let arg11 : BitVec 32 := Scf.iv v109 c1_i32_34 k0_t1
  let c1024_i32_42 : BitVec 32 := 1024#32
  let v124 : BitVec 32 := Scalar.muli arg11 c1024_i32_42
  let v125 : BitVec 32 := Scalar.addi v124 c0_i32_43
  let v126 : BitVec 32 := v125
  let v127 : Index := Scalar.indexCast v126
  let c0_44 : Index := 0#32
  ![v127.toNat, 0]
def k0_off5 (i : grid0.Coords) (k0_t1 : Fin (k0_t1_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c1_i32_34 : BitVec 32 := 1#32
  let arg11 : BitVec 32 := Scf.iv v109 c1_i32_34 k0_t1
  let c1024_i32_42 : BitVec 32 := 1024#32
  let v124 : BitVec 32 := Scalar.muli arg11 c1024_i32_42
  let v125 : BitVec 32 := Scalar.addi v124 c0_i32_43
  let v126 : BitVec 32 := v125
  let v130 : Index := Scalar.indexCast v126
  let c0_45 : Index := 0#32
  ![v130.toNat, 0]
def k0_off6 (i : grid0.Coords) (k0_t1 : Fin (k0_t1_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c1_i32_34 : BitVec 32 := 1#32
  let arg11 : BitVec 32 := Scf.iv v109 c1_i32_34 k0_t1
  let c1024_i32_42 : BitVec 32 := 1024#32
  let v124 : BitVec 32 := Scalar.muli arg11 c1024_i32_42
  let v125 : BitVec 32 := Scalar.addi v124 c0_i32_43
  let v126 : BitVec 32 := v125
  let v134 : Index := Scalar.indexCast v126
  let c0_47 : Index := 0#32
  ![v134.toNat, 0]
def k0_mult4 (i : grid0.Coords) (k0_t1 : Fin (k0_t1_loop i).trips) : BitVec 32 :=
  let arg1 : BitVec 32 := BitVec.ofNat 32 (i 1).val
  let c1_i32 : BitVec 32 := 1#32
  let v109 : BitVec 32 := Scalar.addi arg1 c1_i32
  let c1_i32_34 : BitVec 32 := 1#32
  let arg11 : BitVec 32 := Scf.iv v109 c1_i32_34 k0_t1
  let c1024_i32_55 : BitVec 32 := 1024#32
  let v160 : BitVec 32 := Scalar.muli arg11 c1024_i32_55
  let c512_i32_56 : BitVec 32 := 512#32
  let v161 : BitVec 32 := Scalar.addi v160 c512_i32_56
  v161
@[reducible] def k0_t2_loop (i : grid0.Coords) : Scf.Loop 32 :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let v111 : BitVec 32 := Scalar.addi v109 v110
  let c1_i32_35 : BitVec 32 := 1#32
  ⟨v114, v111, c1_i32_35⟩
def k0_mult5 (i : grid0.Coords) (k0_t2 : Fin (k0_t2_loop i).trips) : BitVec 32 :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_35 : BitVec 32 := 1#32
  let arg11 : BitVec 32 := Scf.iv v114 c1_i32_35 k0_t2
  let c1024_i32_42 : BitVec 32 := 1024#32
  let v124 : BitVec 32 := Scalar.muli arg11 c1024_i32_42
  let c0_i32_43 : BitVec 32 := 0#32
  let v125 : BitVec 32 := Scalar.addi v124 c0_i32_43
  v125
def k0_off7 (i : grid0.Coords) (k0_t2 : Fin (k0_t2_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_35 : BitVec 32 := 1#32
  let arg11 : BitVec 32 := Scf.iv v114 c1_i32_35 k0_t2
  let c1024_i32_42 : BitVec 32 := 1024#32
  let v124 : BitVec 32 := Scalar.muli arg11 c1024_i32_42
  let v125 : BitVec 32 := Scalar.addi v124 c0_i32_43
  let v126 : BitVec 32 := v125
  let v127 : Index := Scalar.indexCast v126
  let c0_44 : Index := 0#32
  ![v127.toNat, 0]
def k0_off8 (i : grid0.Coords) (k0_t2 : Fin (k0_t2_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_35 : BitVec 32 := 1#32
  let arg11 : BitVec 32 := Scf.iv v114 c1_i32_35 k0_t2
  let c1024_i32_42 : BitVec 32 := 1024#32
  let v124 : BitVec 32 := Scalar.muli arg11 c1024_i32_42
  let v125 : BitVec 32 := Scalar.addi v124 c0_i32_43
  let v126 : BitVec 32 := v125
  let v130 : Index := Scalar.indexCast v126
  let c0_45 : Index := 0#32
  ![v130.toNat, 0]
def k0_off9 (i : grid0.Coords) (k0_t2 : Fin (k0_t2_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_35 : BitVec 32 := 1#32
  let arg11 : BitVec 32 := Scf.iv v114 c1_i32_35 k0_t2
  let c1024_i32_42 : BitVec 32 := 1024#32
  let v124 : BitVec 32 := Scalar.muli arg11 c1024_i32_42
  let v125 : BitVec 32 := Scalar.addi v124 c0_i32_43
  let v126 : BitVec 32 := v125
  let v134 : Index := Scalar.indexCast v126
  let c0_47 : Index := 0#32
  ![v134.toNat, 0]
def k0_mult6 (i : grid0.Coords) (k0_t2 : Fin (k0_t2_loop i).trips) : BitVec 32 :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_35 : BitVec 32 := 1#32
  let arg11 : BitVec 32 := Scf.iv v114 c1_i32_35 k0_t2
  let c1024_i32_55 : BitVec 32 := 1024#32
  let v160 : BitVec 32 := Scalar.muli arg11 c1024_i32_55
  let c512_i32_56 : BitVec 32 := 512#32
  let v161 : BitVec 32 := Scalar.addi v160 c512_i32_56
  v161
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S1x4096x4x128 : Shape := ⟨4, ![1, 4096, 4, 128]⟩
abbrev S1x4096x4x64 : Shape := ⟨4, ![1, 4096, 4, 64]⟩
abbrev S1x4096x64 : Shape := ⟨3, ![1, 4096, 64]⟩
abbrev S1x4096x1x64 : Shape := ⟨4, ![1, 4096, 1, 64]⟩
abbrev S1x4x4096x4096 : Shape := ⟨4, ![1, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S4x4096 : Shape := ⟨2, ![4, 4096]⟩
abbrev S1x4x4096x64 : Shape := ⟨4, ![1, 4, 4096, 64]⟩
abbrev S1x4x4096x128 : Shape := ⟨4, ![1, 4, 4096, 128]⟩

abbrev nBuf : Space → Nat
  | .hbm => 100
  | .vmem => 0
  | .smem => 0
  | _ => 0

abbrev bufTy : (tb : Table) → Fin (tcTables nBuf tb) → BufTy
  | .hbm, ⟨0, _⟩ => ⟨S1x4096x4x128, .f32⟩
  | .hbm, ⟨1, _⟩ => ⟨S1x4096x4x64, .f32⟩
  | .hbm, ⟨2, _⟩ => ⟨S1x4096x4x128, .f32⟩
  | .hbm, ⟨3, _⟩ => ⟨S1x4096x64, .f32⟩
  | .hbm, ⟨4, _⟩ => ⟨S1x4096x4x128, .f32⟩
  | .hbm, ⟨5, _⟩ => ⟨S1x4096x4x128, .f32⟩
  | .hbm, ⟨6, _⟩ => ⟨S1x4096x1x64, .f32⟩
  | .hbm, ⟨7, _⟩ => ⟨S1x4096x4x64, .f32⟩
  | .hbm, ⟨8, _⟩ => ⟨S1x4x4096x4096, .f32⟩
  | .hbm, ⟨9, _⟩ => ⟨S1x4x4096x4096, .f32⟩
  | .hbm, ⟨10, _⟩ => ⟨S1x4x4096x4096, .f32⟩
  | .hbm, ⟨11, _⟩ => ⟨S_, .f32⟩
  | .hbm, ⟨12, _⟩ => ⟨S1x4x4096x4096, .f32⟩
  | .hbm, ⟨13, _⟩ => ⟨S1x4x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S1x4x4096x4096, .i1⟩
  | .hbm, ⟨23, _⟩ => ⟨S1x4x4096x4096, .f32⟩
  | .hbm, ⟨24, _⟩ => ⟨S1x4x4096x4096, .f32⟩
  | .hbm, ⟨25, _⟩ => ⟨S_, .f32⟩
  | .hbm, ⟨26, _⟩ => ⟨S1x4x4096x4096, .f32⟩
  | .hbm, ⟨27, _⟩ => ⟨S_, .f32⟩
  | .hbm, ⟨28, _⟩ => ⟨S1x4x4096, .f32⟩
  | .hbm, ⟨29, _⟩ => ⟨S1x4x4096x1, .f32⟩
  | .hbm, ⟨30, _⟩ => ⟨S1x4x4096x4096, .f32⟩
  | .hbm, ⟨31, _⟩ => ⟨S1x4x4096x4096, .i1⟩
  | .hbm, ⟨32, _⟩ => ⟨S1x4x4096x4096, .f32⟩
  | .hbm, ⟨33, _⟩ => ⟨S_, .f32⟩
  | .hbm, ⟨34, _⟩ => ⟨S1x4x4096, .f32⟩
  | .hbm, ⟨35, _⟩ => ⟨S_, .f32⟩
  | .hbm, ⟨36, _⟩ => ⟨S1x4x4096, .f32⟩
  | .hbm, ⟨37, _⟩ => ⟨S1x4x4096, .f32⟩
  | .hbm, ⟨38, _⟩ => ⟨S_, .f32⟩
  | .hbm, ⟨39, _⟩ => ⟨S1x4x4096, .f32⟩
  | .hbm, ⟨40, _⟩ => ⟨S1x4x4096, .i1⟩
  | .hbm, ⟨41, _⟩ => ⟨S_, .f32⟩
  | .hbm, ⟨42, _⟩ => ⟨S1x4x4096, .f32⟩
  | .hbm, ⟨43, _⟩ => ⟨S1x4x4096, .i1⟩
  | .hbm, ⟨44, _⟩ => ⟨S_, .f32⟩
  | .hbm, ⟨45, _⟩ => ⟨S1x4x4096, .f32⟩
  | .hbm, ⟨46, _⟩ => ⟨S_, .f32⟩
  | .hbm, ⟨47, _⟩ => ⟨S1x4x4096, .f32⟩
  | .hbm, ⟨48, _⟩ => ⟨S_, .f32⟩
  | .hbm, ⟨49, _⟩ => ⟨S1x4x4096, .f32⟩
  | .hbm, ⟨50, _⟩ => ⟨S1x4x4096, .f32⟩
  | .hbm, ⟨51, _⟩ => ⟨S1x4x4096, .f32⟩
  | .hbm, ⟨52, _⟩ => ⟨S1x4x4096x1, .f32⟩
  | .hbm, ⟨53, _⟩ => ⟨S1x4x4096x4096, .f32⟩
  | .hbm, ⟨54, _⟩ => ⟨S1x4x4096x4096, .f32⟩
  | .hbm, ⟨55, _⟩ => ⟨S1x4x4096x4096, .f32⟩
  | .hbm, ⟨56, _⟩ => ⟨S_, .f32⟩
  | .hbm, ⟨57, _⟩ => ⟨S1x4x4096, .f32⟩
  | .hbm, ⟨58, _⟩ => ⟨S1x4x4096x1, .f32⟩
  | .hbm, ⟨59, _⟩ => ⟨S1x4x4096x4096, .f32⟩
  | .hbm, ⟨60, _⟩ => ⟨S1x4x4096x4096, .f32⟩
  | .hbm, ⟨61, _⟩ => ⟨S1x4x4096x1, .f32⟩
  | .hbm, ⟨62, _⟩ => ⟨S_, .f32⟩
  | .hbm, ⟨63, _⟩ => ⟨S1x4x4096x1, .f32⟩
  | .hbm, ⟨64, _⟩ => ⟨S1x4x4096x1, .f32⟩
  | .hbm, ⟨65, _⟩ => ⟨S1x4x128x4096, .f32⟩
  | .hbm, ⟨66, _⟩ => ⟨S1x4096x4x128, .f32⟩
  | .hbm, ⟨67, _⟩ => ⟨S1x4x128x4096, .f32⟩
  | .hbm, ⟨68, _⟩ => ⟨S1x4x4096x4096, .f32⟩
  | .hbm, ⟨69, _⟩ => ⟨S1x4x128x4096, .f32⟩
  | .hbm, ⟨70, _⟩ => ⟨S1x4096x4x128, .f32⟩
  | .hbm, ⟨71, _⟩ => ⟨S1x4x4096x4096, .f32⟩
  | .hbm, ⟨72, _⟩ => ⟨S1x4x4096x4096, .f32⟩
  | .hbm, ⟨73, _⟩ => ⟨S1x4x4096x4096, .f32⟩
  | .hbm, ⟨74, _⟩ => ⟨S_, .f32⟩
  | .hbm, ⟨75, _⟩ => ⟨S1x4x4096, .f32⟩
  | .hbm, ⟨76, _⟩ => ⟨S1x4x4096x1, .f32⟩
  | .hbm, ⟨77, _⟩ => ⟨S1x4x4096x1, .f32⟩
  | .hbm, ⟨78, _⟩ => ⟨S1x4x4096x4096, .f32⟩
  | .hbm, ⟨79, _⟩ => ⟨S1x4x4096x4096, .f32⟩
  | .hbm, ⟨80, _⟩ => ⟨S_, .f32⟩
  | .hbm, ⟨81, _⟩ => ⟨S4x4096, .f32⟩
  | .hbm, ⟨82, _⟩ => ⟨S1x4x4096, .f32⟩
  | .hbm, ⟨83, _⟩ => ⟨S1x4x4096x4096, .f32⟩
  | .hbm, ⟨84, _⟩ => ⟨S1x4x4096x4096, .f32⟩
  | .hbm, ⟨85, _⟩ => ⟨S1x4x4096x4096, .f32⟩
  | .hbm, ⟨86, _⟩ => ⟨S_, .f32⟩
  | .hbm, ⟨87, _⟩ => ⟨S1x4x4096x4096, .f32⟩
  | .hbm, ⟨88, _⟩ => ⟨S1x4x4096x4096, .f32⟩
  | .hbm, ⟨89, _⟩ => ⟨S_, .f32⟩
  | .hbm, ⟨90, _⟩ => ⟨S1x4x4096x4096, .f32⟩
  | .hbm, ⟨91, _⟩ => ⟨S1x4x4096x4096, .f32⟩
  | .hbm, ⟨92, _⟩ => ⟨S1x4x4096x64, .f32⟩
  | .hbm, ⟨93, _⟩ => ⟨S1x4096x4x64, .f32⟩
  | .hbm, ⟨94, _⟩ => ⟨S1x4x4096x64, .f32⟩
  | .hbm, ⟨95, _⟩ => ⟨S1x4096x4x64, .f32⟩
  | .hbm, ⟨96, _⟩ => ⟨S1x4x4096x128, .f32⟩
  | .hbm, ⟨97, _⟩ => ⟨S1x4096x4x128, .f32⟩
  | .hbm, ⟨98, _⟩ => ⟨S1x4x4096x128, .f32⟩
  | .hbm, ⟨99, _⟩ => ⟨S1x4096x4x128, .f32⟩
  | _, _ => ⟨S1x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel5.lean ====
abbrev S8x1024 : Shape := ⟨2, ![8, 1024]⟩
abbrev S8x768 : Shape := ⟨2, ![8, 768]⟩
abbrev S1024x8 : Shape := ⟨2, ![1024, 8]⟩
abbrev S1024x768 : Shape := ⟨2, ![1024, 768]⟩
abbrev S1024x1 : Shape := ⟨2, ![1024, 1]⟩
abbrev S1x768 : Shape := ⟨2, ![1, 768]⟩

abbrev nBuf : Space → Nat
  | .hbm => 4
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x8, .f32⟩
  | .hbm, ⟨3, _⟩ => ⟨S1024x768, .f32⟩
  | .local _ .vmem, ⟨0, _⟩ => ⟨S1024x8, .f32⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference5Ideal.lean ====
abbrev S8x1024 : Shape := ⟨2, ![8, 1024]⟩
abbrev S8x768 : Shape := ⟨2, ![8, 768]⟩
abbrev S_ : Shape := ⟨0, ![]⟩
abbrev S1024x768 : Shape := ⟨2, ![1024, 768]⟩
abbrev S768x1024 : Shape := ⟨2, ![768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S_, .f32⟩
  | .hbm, ⟨3, _⟩ => ⟨S1024x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x768, .f32⟩
  | .hbm, ⟨14, _⟩ => ⟨S768x1024, .f32⟩
  | .hbm, ⟨15, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S4096x1024, .bf16⟩
  | .hbm, ⟨8, _⟩ => ⟨S1x128, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x1024, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S4096, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S_, .f32⟩
  | .hbm, ⟨114, _⟩ => ⟨S1024, .f32⟩
  | .hbm, ⟨115, _⟩ => ⟨S1x1024, .f32⟩
  | .hbm, ⟨116, _⟩ => ⟨S_, .f32⟩
  | .hbm, ⟨117, _⟩ => ⟨S4096x1024, .f32⟩
  | .hbm, ⟨118, _⟩ => ⟨S4096x1024, .f32⟩
  | .hbm, ⟨119, _⟩ => ⟨S4096x1024, .bf16⟩
  | .hbm, ⟨120, _⟩ => ⟨S4096x1024, .bf16⟩
  | .hbm, ⟨121, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_cst_20 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_21 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_22 : Ref sig .tc := ⟨.hbm, 103, rfl⟩
abbrev main_v74 : Ref sig .tc := ⟨.hbm, 104, rfl⟩
abbrev main_v75 : Ref sig .tc := ⟨.hbm, 105, rfl⟩
abbrev main_cst_23 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_24 : Ref sig .tc := ⟨.hbm, 113, rfl⟩
abbrev main_v82 : Ref sig .tc := ⟨.hbm, 114, rfl⟩
abbrev main_v83 : Ref sig .tc := ⟨.hbm, 115, rfl⟩
abbrev main_cst_25 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference7Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x1024, .f32⟩
  | .hbm, ⟨101, _⟩ => ⟨S4096x1, .f32⟩
  | .hbm, ⟨102, _⟩ => ⟨S_, .f32⟩
  | .hbm, ⟨103, _⟩ => ⟨S4096x1, .f32⟩
  | .hbm, ⟨104, _⟩ => ⟨S4096x1, .f32⟩
  | .hbm, ⟨105, _⟩ => ⟨S_, .f32⟩
  | .hbm, ⟨106, _⟩ => ⟨S4096, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S_, .f32⟩
  | .hbm, ⟨113, _⟩ => ⟨S1024, .f32⟩
  | .hbm, ⟨114, _⟩ => ⟨S1x1024, .f32⟩
  | .hbm, ⟨115, _⟩ => ⟨S_, .f32⟩
  | .hbm, ⟨116, _⟩ => ⟨S4096x1024, .f32⟩
  | .hbm, ⟨117, _⟩ => ⟨S4096x1024, .f32⟩
  | .hbm, ⟨118, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_17 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_19 : Ref sig .tc := ⟨.hbm, 112, rfl⟩
abbrev main_v83 : Ref sig .tc := ⟨.hbm, 113, rfl⟩
abbrev main_v84 : Ref sig .tc := ⟨.hbm, 114, rfl⟩
abbrev main_cst_20 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]
-- ==== Kernel8.lean ====
abbrev S4096x512 : Shape := ⟨2, ![4096, 512]⟩
abbrev S4096x1024 : Shape := ⟨2, ![4096, 1024]⟩
abbrev S128 : Shape := ⟨1, ![128]⟩
abbrev S_ : Shape := ⟨0, ![]⟩
abbrev S4096x1536 : Shape := ⟨2, ![4096, 1536]⟩
abbrev S4096x3072 : Shape := ⟨2, ![4096, 3072]⟩
abbrev S1x128 : Shape := ⟨2, ![1, 128]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x384 : Shape := ⟨2, ![512, 384]⟩
abbrev S512x256 : Shape := ⟨2, ![512, 256]⟩

abbrev nBuf : Space → Nat
  | .hbm => 17
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .bf16⟩
  | .hbm, ⟨4, _⟩ => ⟨S128, .f32⟩
  | .hbm, ⟨5, _⟩ => ⟨S_, .f32⟩
  | .hbm, ⟨6, _⟩ => ⟨S4096x1536, .f32⟩
  | .hbm, ⟨7, _⟩ => ⟨S_, .f32⟩
  | .hbm, ⟨8, _⟩ => ⟨S4096x1024, .f32⟩
  | .hbm, ⟨9, _⟩ => ⟨S4096x3072, .f32⟩
  | .hbm, ⟨10, _⟩ => ⟨S4096x3072, .bf16⟩
  | .hbm, ⟨11, _⟩ => ⟨S1x128, .f32⟩
  | .hbm, ⟨12, _⟩ => ⟨S4096x512, .f32⟩
  | .hbm, ⟨13, _⟩ => ⟨S4096x512, .bf16⟩
  | .hbm, ⟨14, _⟩ => ⟨S4096x512, .bf16⟩
  | .hbm, ⟨15, _⟩ => ⟨S4096x512, .f32⟩
  | .hbm, ⟨16, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x128, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S4096x512 : Shape := ⟨2, ![4096, 512]⟩
abbrev S4096x1024 : Shape := ⟨2, ![4096, 1024]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .bf16⟩
  | .hbm, ⟨4, _⟩ => ⟨S128, .f32⟩
  | .hbm, ⟨5, _⟩ => ⟨S4096x4x128, .f32⟩
  | .hbm, ⟨6, _⟩ => ⟨S4096x4x128, .f32⟩
  | .hbm, ⟨7, _⟩ => ⟨S_, .f32⟩
  | .hbm, ⟨8, _⟩ => ⟨S4096x4x128, .f32⟩
  | .hbm, ⟨9, _⟩ => ⟨S4096x4x128, .f32⟩
  | .hbm, ⟨10, _⟩ => ⟨S_, .f32⟩
  | .hbm, ⟨11, _⟩ => ⟨S4096x4, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x128, .f32⟩
  | .hbm, ⟨25, _⟩ => ⟨S4096x4x128, .f32⟩
  | .hbm, ⟨26, _⟩ => ⟨S1x1x128, .f32⟩
  | .hbm, ⟨27, _⟩ => ⟨S4096x4x128, .f32⟩
  | .hbm, ⟨28, _⟩ => ⟨S4096x4x128, .f32⟩
  | .hbm, ⟨29, _⟩ => ⟨S4096x4x128, .f32⟩
  | .hbm, ⟨30, _⟩ => ⟨S4096x4x128, .f32⟩
  | .hbm, ⟨31, _⟩ => ⟨S4096x4x128, .f32⟩
  | .hbm, ⟨32, _⟩ => ⟨S_, .f32⟩
  | .hbm, ⟨33, _⟩ => ⟨S4096x4x128, .f32⟩
  | .hbm, ⟨34, _⟩ => ⟨S4096x4x128, .f32⟩
  | .hbm, ⟨35, _⟩ => ⟨S_, .f32⟩
  | .hbm, ⟨36, _⟩ => ⟨S4096x4x128, .f32⟩
  | .hbm, ⟨37, _⟩ => ⟨S4096x4x128, .f32⟩
  | .hbm, ⟨38, _⟩ => ⟨S_, .f32⟩
  | .hbm, ⟨39, _⟩ => ⟨S4096x4x128, .f32⟩
  | .hbm, ⟨40, _⟩ => ⟨S4096x4x128, .f32⟩
  | .hbm, ⟨41, _⟩ => ⟨S4096x4x128, .f32⟩
  | .hbm, ⟨42, _⟩ => ⟨S4096x4x128, .f32⟩
  | .hbm, ⟨43, _⟩ => ⟨S4096x4x128, .f32⟩
  | .hbm, ⟨44, _⟩ => ⟨S4096x512, .f32⟩
  | .hbm, ⟨45, _⟩ => ⟨S4096x1024, .f32⟩
  | .hbm, ⟨46, _⟩ => ⟨S4096x1024, .f32⟩
  | .hbm, ⟨47, _⟩ => ⟨S4096x512, .f32⟩
  | .hbm, ⟨48, _⟩ => ⟨S4096x512, .f32⟩
  | .hbm, ⟨49, _⟩ => ⟨S4096x4x128, .f32⟩
  | .hbm, ⟨50, _⟩ => ⟨S4096x4x128, .f32⟩
  | .hbm, ⟨51, _⟩ => ⟨S4096x4x128, .f32⟩
  | .hbm, ⟨52, _⟩ => ⟨S4096x4x128, .f32⟩
  | .hbm, ⟨53, _⟩ => ⟨S4096x4x128, .f32⟩
  | .hbm, ⟨54, _⟩ => ⟨S4096x4x128, .f32⟩
  | .hbm, ⟨55, _⟩ => ⟨S4096x4x128, .f32⟩
  | .hbm, ⟨56, _⟩ => ⟨S4096x512, .f32⟩
  | .hbm, ⟨57, _⟩ => ⟨S4096x4x128, .f32⟩
  | .hbm, ⟨58, _⟩ => ⟨S_, .f32⟩
  | .hbm, ⟨59, _⟩ => ⟨S128, .f32⟩
  | .hbm, ⟨60, _⟩ => ⟨S1x1x128, .f32⟩
  | .hbm, ⟨61, _⟩ => ⟨S4096x4x128, .f32⟩
  | .hbm, ⟨62, _⟩ => ⟨S4096x4x128, .f32⟩
  | .hbm, ⟨63, _⟩ => ⟨S_, .f32⟩
  | .hbm, ⟨64, _⟩ => ⟨S128, .f32⟩
  | .hbm, ⟨65, _⟩ => ⟨S4096x4x128, .f32⟩
  | .hbm, ⟨66, _⟩ => ⟨S_, .f32⟩
  | .hbm, ⟨67, _⟩ => ⟨S4096x4, .f32⟩
  | .hbm, ⟨68, _⟩ => ⟨S4096x4x1, .f32⟩
  | .hbm, ⟨69, _⟩ => ⟨S4096x4x128, .f32⟩
  | .hbm, ⟨70, _⟩ => ⟨S4096x4x128, .f32⟩
  | .hbm, ⟨71, _⟩ => ⟨S4096x4x1, .f32⟩
  | .hbm, ⟨72, _⟩ => ⟨S_, .f32⟩
  | .hbm, ⟨73, _⟩ => ⟨S4096x4x1, .f32⟩
  | .hbm, ⟨74, _⟩ => ⟨S4096x4x1, .f32⟩
  | .hbm, ⟨75, _⟩ => ⟨S_, .f32⟩
  | .hbm, ⟨76, _⟩ => ⟨S4096x4, .f32⟩
  | .hbm, ⟨77, _⟩ => ⟨S4096x4x128, .f32⟩
  | .hbm, ⟨78, _⟩ => ⟨S4096x4x128, .f32⟩
  | .hbm, ⟨79, _⟩ => ⟨S4096x4x128, .f32⟩
  | .hbm, ⟨80, _⟩ => ⟨S4096x512, .f32⟩
  | .hbm, ⟨81, _⟩ => ⟨S4096x512, .f32⟩
  | .hbm, ⟨82, _⟩ => ⟨S4096x4x128, .f32⟩
  | .hbm, ⟨83, _⟩ => ⟨S_, .f32⟩
  | .hbm, ⟨84, _⟩ => ⟨S4096x4, .f32⟩
  | .hbm, ⟨85, _⟩ => ⟨S4096x4x1, .f32⟩
  | .hbm, ⟨86, _⟩ => ⟨S4096x4x128, .f32⟩
  | .hbm, ⟨87, _⟩ => ⟨S4096x512, .f32⟩
  | .hbm, ⟨88, _⟩ => ⟨S4096x512, .bf16⟩
  | .hbm, ⟨89, _⟩ => ⟨S4096x512, .bf16⟩
  | .hbm, ⟨90, _⟩ => ⟨S1x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Kernel12.lean ====
abbrev S1x4096x4x128 : Shape := ⟨4, ![1, 4096, 4, 128]⟩
abbrev S1x4096x4x64 : Shape := ⟨4, ![1, 4096, 4, 64]⟩
abbrev S1x4096x64 : Shape := ⟨3, ![1, 4096, 64]⟩
abbrev S_ : Shape := ⟨0, ![]⟩
abbrev S1x4096x4x256 : Shape := ⟨4, ![1, 4096, 4, 256]⟩
abbrev S1x4096x1x64 : Shape := ⟨4, ![1, 4096, 1, 64]⟩
abbrev S4096x1024 : Shape := ⟨2, ![4096, 1024]⟩
abbrev S4096x512 : Shape := ⟨2, ![4096, 512]⟩
abbrev S1024x256 : Shape := ⟨2, ![1024, 256]⟩
abbrev S4096x256 : Shape := ⟨2, ![4096, 256]⟩
abbrev S4096x128 : Shape := ⟨2, ![4096, 128]⟩
abbrev S1024x128 : Shape := ⟨2, ![1024, 128]⟩
abbrev S512x1 : Shape := ⟨2, ![512, 1]⟩
abbrev S512x128 : Shape := ⟨2, ![512, 128]⟩
abbrev S512x256 : Shape := ⟨2, ![512, 256]⟩
abbrev S512x1024 : Shape := ⟨2, ![512, 1024]⟩
abbrev S512 : Shape := ⟨1, ![512]⟩
abbrev S512x512 : Shape := ⟨2, ![512, 512]⟩

abbrev nBuf : Space → Nat
  | .hbm => 29
  | .vmem => 10
  | .smem => 0
  | _ => 0

abbrev bufTy : (tb : Table) → Fin (tcTables nBuf tb) → BufTy
  | .hbm, ⟨0, _⟩ => ⟨S1x4096x4x128, .f32⟩
  | .hbm, ⟨1, _⟩ => ⟨S1x4096x4x64, .f32⟩
  | .hbm, ⟨2, _⟩ => ⟨S1x4096x4x128, .f32⟩
  | .hbm, ⟨3, _⟩ => ⟨S1x4096x64, .f32⟩
  | .hbm, ⟨4, _⟩ => ⟨S1x4096x4x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x4096x4x128, .f32⟩
  | .hbm, ⟨10, _⟩ => ⟨S1x4096x4x128, .f32⟩
  | .hbm, ⟨11, _⟩ => ⟨S1x4096x4x64, .f32⟩
  | .hbm, ⟨12, _⟩ => ⟨S1x4096x4x64, .f32⟩
  | .hbm, ⟨13, _⟩ => ⟨S_, .f32⟩
  | .hbm, ⟨14, _⟩ => ⟨S1x4096x4x64, .f32⟩
  | .hbm, ⟨15, _⟩ => ⟨S1x4096x4x256, .f32⟩
  | .hbm, ⟨16, _⟩ => ⟨S1x4096x4x256, .bf16⟩
  | .hbm, ⟨17, _⟩ => ⟨S1x4096x1x64, .f32⟩
  | .hbm, ⟨18, _⟩ => ⟨S1x4096x4x64, .f32⟩
  | .hbm, ⟨19, _⟩ => ⟨S_, .f32⟩
  | .hbm, ⟨20, _⟩ => ⟨S1x4096x4x64, .f32⟩
  | .hbm, ⟨21, _⟩ => ⟨S1x4096x4x256, .f32⟩
  | .hbm, ⟨22, _⟩ => ⟨S1x4096x4x256, .bf16⟩
  | .hbm, ⟨23, _⟩ => ⟨S4096x1024, .bf16⟩
  | .hbm, ⟨24, _⟩ => ⟨S4096x1024, .bf16⟩
  | .hbm, ⟨25, _⟩ => ⟨S4096x512, .f32⟩
  | .hbm, ⟨26, _⟩ => ⟨S4096x512, .bf16⟩
  | .hbm, ⟨27, _⟩ => ⟨S4096x512, .f32⟩
  | .hbm, ⟨28, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | _, _ => ⟨S1x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v24 : BitVec 32 := Scalar.subi v17 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_12 : BitVec 32 := 1#32
  ⟨c0_i32_10, v28, c1_i32_12⟩
def k0_mult1 (i : grid0.Coords) (k0_t1 : Fin (k0_t1_loop i).trips) : BitVec 32 :=
  let c0_i32_10 : BitVec 32 := 0#32
  let c1_i32_12 : BitVec 32 := 1#32
  let arg7 : BitVec 32 := Scf.iv c0_i32_10 c1_i32_12 k0_t1
  let c1024_i32_45 : BitVec 32 := 1024#32
  let v128 : BitVec 32 := Scalar.muli arg7 c1024_i32_45
  v128
def k0_off1 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c1024_i32_45 : BitVec 32 := 1024#32
  let v128 : BitVec 32 := Scalar.muli arg7 c1024_i32_45
  let v129 : BitVec 32 := v128
  let v130 : Index := Scalar.indexCast v129
  let c0_46 : Index := 0#32
  ![v130.toNat, 0]
def k0_off2 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c1024_i32_45 : BitVec 32 := 1024#32
  let v128 : BitVec 32 := Scalar.muli arg7 c1024_i32_45
  let v129 : BitVec 32 := v128
  let v133 : Index := Scalar.indexCast v129
  let c0_47 : Index := 0#32
  ![v133.toNat, 0]
@[reducible] def k0_t2_loop (i : grid0.Coords) : Scf.Loop 32 :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v24 : BitVec 32 := Scalar.subi v17 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let v25 : BitVec 32 := Scalar.addi c0_i32_10 v24
  let c1_i32_13 : BitVec 32 := 1#32
  ⟨v28, v25, c1_i32_13⟩
def k0_mult2 (i : grid0.Coords) (k0_t2 : Fin (k0_t2_loop i).trips) : BitVec 32 :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v24 : BitVec 32 := Scalar.subi v17 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c1024_i32_45 : BitVec 32 := 1024#32
  let v128 : BitVec 32 := Scalar.muli arg7 c1024_i32_45
  v128
def k0_off3 (i : grid0.Coords) (k0_t2 : Fin (k0_t2_loop i).trips) : Fin 2 → Nat :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v24 : BitVec 32 := Scalar.subi v17 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c1024_i32_45 : BitVec 32 := 1024#32
  let v128 : BitVec 32 := Scalar.muli arg7 c1024_i32_45
  let v129 : BitVec 32 := v128
  let v130 : Index := Scalar.indexCast v129
  let c0_46 : Index := 0#32
  ![v130.toNat, 0]
def k0_off4 (i : grid0.Coords) (k0_t2 : Fin (k0_t2_loop i).trips) : Fin 2 → Nat :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v24 : BitVec 32 := Scalar.subi v17 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c1024_i32_45 : BitVec 32 := 1024#32
  let v128 : BitVec 32 := Scalar.muli arg7 c1024_i32_45
  let v129 : BitVec 32 := v128
  let v133 : Index := Scalar.indexCast v129
  let c0_47 : Index := 0#32
  ![v133.toNat, 0]
def k0_mult3 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c0_i32_14 : BitVec 32 := 0#32
  let v31 : BitVec 32 := Scalar.addi v17 c0_i32_14
  let c1024_i32_15 : BitVec 32 := 1024#32
  let v32 : BitVec 32 := Scalar.muli v31 c1024_i32_15
  v32
def k0_off5 (i : grid0.Coords) : Fin 2 → Nat :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c0_i32_14 : BitVec 32 := 0#32
  let v31 : BitVec 32 := Scalar.addi v17 c0_i32_14
  let c1024_i32_15 : BitVec 32 := 1024#32
  let v32 : BitVec 32 := Scalar.muli v31 c1024_i32_15
  let v33 : BitVec 32 := v32
  let v34 : Index := Scalar.indexCast v33
  let c0 : Index := 0#32
  ![v34.toNat, 0]
def k0_off6 (i : grid0.Coords) : Fin 2 → Nat :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c0_i32_14 : BitVec 32 := 0#32
  let v31 : BitVec 32 := Scalar.addi v17 c0_i32_14
  let c1024_i32_15 : BitVec 32 := 1024#32
  let v32 : BitVec 32 := Scalar.muli v31 c1024_i32_15
  let v33 : BitVec 32 := v32
  let v37 : Index := Scalar.indexCast v33
  let c0_16 : Index := 0#32
  ![v37.toNat, 0]
def k0_off7 (i : grid0.Coords) : Fin 2 → Nat :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c0_i32_14 : BitVec 32 := 0#32
  let v31 : BitVec 32 := Scalar.addi v17 c0_i32_14
  let c1024_i32_15 : BitVec 32 := 1024#32
  let v32 : BitVec 32 := Scalar.muli v31 c1024_i32_15
  let v33 : BitVec 32 := v32
  let v71 : Index := Scalar.indexCast v33
  let c0_26 : Index := 0#32
  ![v71.toNat, 0]
def k0_off8 (i : grid0.Coords) : Fin 2 → Nat :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c0_i32_14 : BitVec 32 := 0#32
  let v31 : BitVec 32 := Scalar.addi v17 c0_i32_14
  let c1024_i32_15 : BitVec 32 := 1024#32
  let v32 : BitVec 32 := Scalar.muli v31 c1024_i32_15
  let v33 : BitVec 32 := v32
  let v74 : Index := Scalar.indexCast v33
  let c0_27 : Index := 0#32
  ![v74.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel12Ideal.lean ====
variable {F : FTy → Type} [FloatOps F] [Named F]
def κ : String → Option EReal := fun
  | "inv_ln2" => some (((Real.log 2)⁻¹ : ℝ) : EReal)
  | "mask" => some ⊥
  | _ => none
-- ==== Reference12Ideal.lean ====
abbrev S1x4096x4x128 : Shape := ⟨4, ![1, 4096, 4, 128]⟩
abbrev S1x4096x4x64 : Shape := ⟨4, ![1, 4096, 4, 64]⟩
abbrev S1x4096x64 : Shape := ⟨3, ![1, 4096, 64]⟩
abbrev S1x4096x1x64 : Shape := ⟨4, ![1, 4096, 1, 64]⟩
abbrev S1x4x4096x4096 : Shape := ⟨4, ![1, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4096x4x1 : Shape := ⟨4, ![1, 4096, 4, 1]⟩
abbrev S4096x512 : Shape := ⟨2, ![4096, 512]⟩

abbrev nBuf : Space → Nat
  | .hbm => 59
  | .vmem => 0
  | .smem => 0
  | _ => 0

abbrev bufTy : (tb : Table) → Fin (tcTables nBuf tb) → BufTy
  | .hbm, ⟨0, _⟩ => ⟨S1x4096x4x128, .f32⟩
  | .hbm, ⟨1, _⟩ => ⟨S1x4096x4x64, .f32⟩
  | .hbm, ⟨2, _⟩ => ⟨S1x4096x4x128, .f32⟩
  | .hbm, ⟨3, _⟩ => ⟨S1x4096x64, .f32⟩
  | .hbm, ⟨4, _⟩ => ⟨S1x4096x4x128, .f32⟩
  | .hbm, ⟨5, _⟩ => ⟨S1x4096x1x64, .f32⟩
  | .hbm, ⟨6, _⟩ => ⟨S1x4096x4x64, .f32⟩
  | .hbm, ⟨7, _⟩ => ⟨S1x4x4096x4096, .f32⟩
  | .hbm, ⟨8, _⟩ => ⟨S1x4x4096x4096, .f32⟩
  | .hbm, ⟨9, _⟩ => ⟨S1x4x4096x4096, .f32⟩
  | .hbm, ⟨10, _⟩ => ⟨S_, .f32⟩
  | .hbm, ⟨11, _⟩ => ⟨S1x4x4096x4096, .f32⟩
  | .hbm, ⟨12, _⟩ => ⟨S1x4x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S1x4x4096x4096, .i1⟩
  | .hbm, ⟨22, _⟩ => ⟨S1x4x4096x4096, .f32⟩
  | .hbm, ⟨23, _⟩ => ⟨S1x4x4096x4096, .f32⟩
  | .hbm, ⟨24, _⟩ => ⟨S_, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .f32⟩
  | .hbm, ⟨29, _⟩ => ⟨S1x4x4096x1, .f32⟩
  | .hbm, ⟨30, _⟩ => ⟨S1x4x4096x4096, .f32⟩
  | .hbm, ⟨31, _⟩ => ⟨S1x4x4096x4096, .f32⟩
  | .hbm, ⟨32, _⟩ => ⟨S1x4x4096x4096, .f32⟩
  | .hbm, ⟨33, _⟩ => ⟨S_, .f32⟩
  | .hbm, ⟨34, _⟩ => ⟨S1x4x4096, .f32⟩
  | .hbm, ⟨35, _⟩ => ⟨S1x4x4096x1, .f32⟩
  | .hbm, ⟨36, _⟩ => ⟨S1x4x4096x4096, .f32⟩
  | .hbm, ⟨37, _⟩ => ⟨S1x4x4096x4096, .f32⟩
  | .hbm, ⟨38, _⟩ => ⟨S1x4x128x4096, .f32⟩
  | .hbm, ⟨39, _⟩ => ⟨S1x4096x4x128, .f32⟩
  | .hbm, ⟨40, _⟩ => ⟨S_, .f32⟩
  | .hbm, ⟨41, _⟩ => ⟨S1x4x4096, .f32⟩
  | .hbm, ⟨42, _⟩ => ⟨S1x4x4096x1, .f32⟩
  | .hbm, ⟨43, _⟩ => ⟨S1x4x4096x4096, .f32⟩
  | .hbm, ⟨44, _⟩ => ⟨S1x4x4096x4096, .f32⟩
  | .hbm, ⟨45, _⟩ => ⟨S1x4x4096x4096, .f32⟩
  | .hbm, ⟨46, _⟩ => ⟨S_, .f32⟩
  | .hbm, ⟨47, _⟩ => ⟨S1x4x4096, .f32⟩
  | .hbm, ⟨48, _⟩ => ⟨S1x4x4096x1, .f32⟩
  | .hbm, ⟨49, _⟩ => ⟨S1x4x4096x1, .f32⟩
  | .hbm, ⟨50, _⟩ => ⟨S1x4x4096x1, .f32⟩
  | .hbm, ⟨51, _⟩ => ⟨S_, .f32⟩
  | .hbm, ⟨52, _⟩ => ⟨S_, .f32⟩
  | .hbm, ⟨53, _⟩ => ⟨S1x4x4096x1, .f32⟩
  | .hbm, ⟨54, _⟩ => ⟨S1x4x4096x1, .f32⟩
  | .hbm, ⟨55, _⟩ => ⟨S1x4096x4x1, .f32⟩
  | .hbm, ⟨56, _⟩ => ⟨S1x4096x4x128, .f32⟩
  | .hbm, ⟨57, _⟩ => ⟨S4096x512, .f32⟩
  | .hbm, ⟨58, _⟩ => ⟨S4096x512, .f32⟩
  | _, _ => ⟨S1x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel9.lean ====
abbrev S4096x512 : Shape := ⟨2, ![4096, 512]⟩
abbrev S4096x256 : Shape := ⟨2, ![4096, 256]⟩
abbrev S4096x64 : Shape := ⟨2, ![4096, 64]⟩
abbrev S4096 : Shape := ⟨1, ![4096]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S4096x4x128 : Shape := ⟨3, ![4096, 4, 128]⟩
abbrev S4096x4x64 : Shape := ⟨3, ![4096, 4, 64]⟩
abbrev S4096x1 : Shape := ⟨2, ![4096, 1]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S4096x2048 : Shape := ⟨2, ![4096, 2048]⟩
abbrev S4096x128 : Shape := ⟨2, ![4096, 128]⟩
abbrev S4096x3072 : Shape := ⟨2, ![4096, 3072]⟩
abbrev S4096x4x256 : Shape := ⟨3, ![4096, 4, 256]⟩
abbrev S4096x1024 : Shape := ⟨2, ![4096, 1024]⟩
abbrev S1x512 : Shape := ⟨2, ![1, 512]⟩
abbrev S1x256 : Shape := ⟨2, ![1, 256]⟩
abbrev S768x512 : Shape := ⟨2, ![768, 512]⟩
abbrev S4x192x512 : Shape := ⟨3, ![4, 192, 512]⟩
abbrev S4x128x512 : Shape := ⟨3, ![4, 128, 512]⟩
abbrev S512x512 : Shape := ⟨2, ![512, 512]⟩
abbrev S4x64x512 : Shape := ⟨3, ![4, 64, 512]⟩
abbrev S1024x512 : Shape := ⟨2, ![1024, 512]⟩
abbrev S1024x256 : Shape := ⟨2, ![1024, 256]⟩
abbrev S512x256 : Shape := ⟨2, ![512, 256]⟩
abbrev S512x128 : Shape := ⟨2, ![512, 128]⟩
abbrev S512x1 : Shape := ⟨2, ![512, 1]⟩
abbrev S512x1024 : Shape := ⟨2, ![512, 1024]⟩
abbrev S512x896 : Shape := ⟨2, ![512, 896]⟩
abbrev S512x384 : Shape := ⟨2, ![512, 384]⟩
abbrev S512x640 : Shape := ⟨2, ![512, 640]⟩

abbrev nBuf : Space → Nat
  | .hbm => 73
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x64, .f32⟩
  | .hbm, ⟨3, _⟩ => ⟨S4096, .i32⟩
  | .hbm, ⟨4, _⟩ => ⟨S512, .f32⟩
  | .hbm, ⟨5, _⟩ => ⟨S256, .f32⟩
  | .hbm, ⟨6, _⟩ => ⟨S512x768, .f32⟩
  | .hbm, ⟨7, _⟩ => ⟨S256x1024, .f32⟩
  | .hbm, ⟨8, _⟩ => ⟨S4096x4x128, .f32⟩
  | .hbm, ⟨9, _⟩ => ⟨S4096x4x64, .f32⟩
  | .hbm, ⟨10, _⟩ => ⟨S4096x4x128, .f32⟩
  | .hbm, ⟨11, _⟩ => ⟨S4096x4x64, .f32⟩
  | .hbm, ⟨12, _⟩ => ⟨S4096x4x128, .f32⟩
  | .hbm, ⟨13, _⟩ => ⟨S4096, .f32⟩
  | .hbm, ⟨14, _⟩ => ⟨S4096x1, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S64, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S_, .f32⟩
  | .hbm, ⟨37, _⟩ => ⟨S4096x2048, .f32⟩
  | .hbm, ⟨38, _⟩ => ⟨S_, .f32⟩
  | .hbm, ⟨39, _⟩ => ⟨S4096x128, .f32⟩
  | .hbm, ⟨40, _⟩ => ⟨S_, .f32⟩
  | .hbm, ⟨41, _⟩ => ⟨S4096x64, .f32⟩
  | .hbm, ⟨42, _⟩ => ⟨S4096x3072, .f32⟩
  | .hbm, ⟨43, _⟩ => ⟨S4096x3072, .bf16⟩
  | .hbm, ⟨44, _⟩ => ⟨S_, .f32⟩
  | .hbm, ⟨45, _⟩ => ⟨S4096x4x64, .f32⟩
  | .hbm, ⟨46, _⟩ => ⟨S4096x4x256, .f32⟩
  | .hbm, ⟨47, _⟩ => ⟨S4096x1024, .f32⟩
  | .hbm, ⟨48, _⟩ => ⟨S4096x4x256, .f32⟩
  | .hbm, ⟨49, _⟩ => ⟨S4096x1024, .f32⟩
  | .hbm, ⟨50, _⟩ => ⟨S1x512, .f32⟩
  | .hbm, ⟨51, _⟩ => ⟨S1x256, .f32⟩
  | .hbm, ⟨52, _⟩ => ⟨S768x512, .f32⟩
  | .hbm, ⟨53, _⟩ => ⟨S4x192x512, .f32⟩
  | .hbm, ⟨54, _⟩ => ⟨S4x128x512, .f32⟩
  | .hbm, ⟨55, _⟩ => ⟨S512x512, .f32⟩
  | .hbm, ⟨56, _⟩ => ⟨S4x64x512, .f32⟩
  | .hbm, ⟨57, _⟩ => ⟨S_, .i32⟩
  | .hbm, ⟨58, _⟩ => ⟨S_, .f32⟩
  | .hbm, ⟨59, _⟩ => ⟨S4x128x512, .f32⟩
  | .hbm, ⟨60, _⟩ => ⟨S512x512, .f32⟩
  | .hbm, ⟨61, _⟩ => ⟨S1024x512, .f32⟩
  | .hbm, ⟨62, _⟩ => ⟨S1024x512, .bf16⟩
  | .hbm, ⟨63, _⟩ => ⟨S1024x256, .f32⟩
  | .hbm, ⟨64, _⟩ => ⟨S1024x256, .bf16⟩
  | .hbm, ⟨65, _⟩ => ⟨S4096x512, .f32⟩
  | .hbm, ⟨66, _⟩ => ⟨S4096x512, .bf16⟩
  | .hbm, ⟨67, _⟩ => ⟨S4096x256, .bf16⟩
  | .hbm, ⟨68, _⟩ => ⟨S4096x128, .bf16⟩
  | .hbm, ⟨69, _⟩ => ⟨S1x512, .f32⟩
  | .hbm, ⟨70, _⟩ => ⟨S1x256, .f32⟩
  | .hbm, ⟨71, _⟩ => ⟨S1024x512, .f32⟩
  | .hbm, ⟨72, _⟩ => ⟨S1024x256, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x1, .f32⟩
  | .local _ .vmem, ⟨7, _⟩ => ⟨S512x1, .f32⟩
  | .local _ .vmem, ⟨8, _⟩ => ⟨S1x128, .f32⟩
  | .local _ .vmem, ⟨9, _⟩ => ⟨S1x512, .f32⟩
  | .local _ .vmem, ⟨10, _⟩ => ⟨S1x256, .f32⟩
  | .local _ .vmem, ⟨11, _⟩ => ⟨S1024x512, .bf16⟩
  | .local _ .vmem, ⟨12, _⟩ => ⟨S1024x256, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S512x256, .bf16⟩
  | .local _ .vmem, ⟨22, _⟩ => ⟨S512x256, .bf16⟩
  | .local _ .vmem, ⟨23, _⟩ => ⟨S512x128, .bf16⟩
  | .local _ .vmem, ⟨24, _⟩ => ⟨S512x128, .bf16⟩
  | .local _ .vmem, ⟨25, _⟩ => ⟨S1x512, .f32⟩
  | .local _ .vmem, ⟨26, _⟩ => ⟨S1x256, .f32⟩
  | .local _ .vmem, ⟨27, _⟩ => ⟨S1024x512, .f32⟩
  | .local _ .vmem, ⟨28, _⟩ => ⟨S1024x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_call0_v0 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_call1_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40_0 : Ref sig .tc := ⟨.hbm, 66, rfl⟩
abbrev main_v40_1 : Ref sig .tc := ⟨.hbm, 67, rfl⟩
abbrev main_v40_2 : Ref sig .tc := ⟨.hbm, 68, rfl⟩
abbrev main_v40_3 : Ref sig .tc := ⟨.hbm, 69, rfl⟩
abbrev main_v40_4 : Ref sig .tc := ⟨.hbm, 70, rfl⟩
abbrev main_v40_5 : Ref sig .tc := ⟨.hbm, 71, rfl⟩
abbrev main_v40_6 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c23_i32 : BitVec 32 := 23#32
  let c0_i32 : BitVec 32 := 0#32
  ![arg0.toNat, c23_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference9Ideal.lean ====
abbrev S4096x512 : Shape := ⟨2, ![4096, 512]⟩
abbrev S4096x256 : Shape := ⟨2, ![4096, 256]⟩
abbrev S4096x64 : Shape := ⟨2, ![4096, 64]⟩
abbrev S4096 : Shape := ⟨1, ![4096]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S4096x4x128 : Shape := ⟨3, ![4096, 4, 128]⟩
abbrev S4096x4x64 : Shape := ⟨3, ![4096, 4, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x512 : Shape := ⟨2, ![1, 512]⟩
abbrev S4096x768 : Shape := ⟨2, ![4096, 768]⟩
abbrev S4096x4x192 : Shape := ⟨3, ![4096, 4, 192]⟩
abbrev S1x256 : Shape := ⟨2, ![1, 256]⟩
abbrev S4096x1024 : Shape := ⟨2, ![4096, 1024]⟩
abbrev S4096x4x256 : Shape := ⟨3, ![4096, 4, 256]⟩
abbrev S4096x1x32 : Shape := ⟨3, ![4096, 1, 32]⟩
abbrev S4096x4x32 : Shape := ⟨3, ![4096, 4, 32]⟩
abbrev S4096x1x64 : Shape := ⟨3, ![4096, 1, 64]⟩
abbrev S1024x256 : Shape := ⟨2, ![1024, 256]⟩
abbrev S768x512 : Shape := ⟨2, ![768, 512]⟩
abbrev S4x192x512 : Shape := ⟨3, ![4, 192, 512]⟩
abbrev S4x128x512 : Shape := ⟨3, ![4, 128, 512]⟩
abbrev S512x512 : Shape := ⟨2, ![512, 512]⟩
abbrev S4x64x512 : Shape := ⟨3, ![4, 64, 512]⟩
abbrev S4096x128 : Shape := ⟨2, ![4096, 128]⟩
abbrev S1024x512 : Shape := ⟨2, ![1024, 512]⟩

abbrev nBuf : Space → Nat
  | .hbm => 235
  | .vmem => 0
  | .smem => 0
  | _ => 0

abbrev hbmTy0_0 (i : Nat) : BufTy := match i % 128 with
  | 0 => ⟨S4096x512, .f32⟩
  | 1 => ⟨S4096x256, .f32⟩
  | 2 => ⟨S4096x64, .f32⟩
  | 3 => ⟨S4096, .i32⟩
  | 4 => ⟨S512, .f32⟩
  | 5 => ⟨S256, .f32⟩
  | 6 => ⟨S512x768, .f32⟩
  | 7 => ⟨S256x1024, .f32⟩
  | 8 => ⟨S4096x4x128, .f32⟩
  | 9 => ⟨S4096x4x64, .f32⟩
  | 10 => ⟨S4096x4x128, .f32⟩
  | 11 => ⟨S4096x4x64, .f32⟩
  | 12 => ⟨S4096x4x128, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S4096x1, .i32⟩
  | 30 => ⟨S4096x1, .f32⟩
  | 31 => ⟨S1x32, .f32⟩
  | 32 => ⟨S4096x32, .f32⟩
  | 33 => ⟨S4096x32, .f32⟩
  | 34 => ⟨S4096x32, .f32⟩
  | 35 => ⟨S4096x32, .f32⟩
  | 36 => ⟨S4096x32, .f32⟩
  | 37 => ⟨S4096x512, .f32⟩
  | 38 => ⟨S_, .f32⟩
  | 39 => ⟨S4096x512, .f32⟩
  | 40 => ⟨S4096x512, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x512, .f32⟩
  | 56 => ⟨S4096x512, .f32⟩
  | 57 => ⟨S1x512, .f32⟩
  | 58 => ⟨S4096x512, .f32⟩
  | 59 => ⟨S4096x512, .f32⟩
  | 60 => ⟨S4096x768, .f32⟩
  | 61 => ⟨S_, .f32⟩
  | 62 => ⟨S4096x768, .f32⟩
  | 63 => ⟨S4096x768, .f32⟩
  | 64 => ⟨S4096x4x192, .f32⟩
  | 65 => ⟨S4096x256, .f32⟩
  | 66 => ⟨S_, .f32⟩
  | 67 => ⟨S4096x256, .f32⟩
  | 68 => ⟨S4096x256, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x256, .f32⟩
  | 84 => ⟨S4096x256, .f32⟩
  | 85 => ⟨S1x256, .f32⟩
  | 86 => ⟨S4096x256, .f32⟩
  | 87 => ⟨S4096x256, .f32⟩
  | 88 => ⟨S4096x1024, .f32⟩
  | 89 => ⟨S4096x4x256, .f32⟩
  | 90 => ⟨S4096x4x64, .f32⟩
  | 91 => ⟨S4096x1x32, .f32⟩
  | 92 => ⟨S4096x1x32, .f32⟩
  | 93 => ⟨S4096x4x32, .f32⟩
  | 94 => ⟨S4096x4x32, .f32⟩
  | 95 => ⟨S4096x4x32, .f32⟩
  | 96 => ⟨S4096x4x32, .f32⟩
  | 97 => ⟨S4096x4x32, .f32⟩
  | 98 => ⟨S4096x4x32, .f32⟩
  | 99 => ⟨S4096x4x32, .f32⟩
  | 100 => ⟨S4096x4x32, .f32⟩
  | 101 => ⟨S4096x4x32, .f32⟩
  | 102 => ⟨S4096x4x32, .f32⟩
  | 103 => ⟨S4096x4x32, .f32⟩
  | 104 => ⟨S4096x4x32, .f32⟩
  | 105 => ⟨S4096x4x64, .f32⟩
  | 106 => ⟨S4096x32, .f32⟩
  | 107 => ⟨S4096x32, .f32⟩
  | 108 => ⟨S4096x32, .f32⟩
  | 109 => ⟨S4096x32, .f32⟩
  | 110 => ⟨S4096x32, .f32⟩
  | 111 => ⟨S4096x32, .f32⟩
  | 112 => ⟨S4096x32, .f32⟩
  | 113 => ⟨S4096x32, .f32⟩
  | 114 => ⟨S4096x64, .f32⟩
  | 115 => ⟨S4096x1x64, .f32⟩
  | 116 => ⟨S4096x4x64, .f32⟩
  | 117 => ⟨S4096x4x128, .f32⟩
  | 118 => ⟨S4096x4x128, .f32⟩
  | 119 => ⟨S4096x4x128, .f32⟩
  | 120 => ⟨S_, .f32⟩
  | 121 => ⟨S4096x4x256, .f32⟩
  | 122 => ⟨S_, .f32⟩
  | 123 => ⟨S4096x4x256, .f32⟩
  | 124 => ⟨S4096x4x256, .f32⟩
  | 125 => ⟨S_, .f32⟩
  | 126 => ⟨S4096x4x192, .f32⟩
  | 127 => ⟨S_, .f32⟩
  | _ => ⟨S4096x512, .f32⟩

abbrev hbmTy0_1 (i : Nat) : BufTy := match i % 128 with
  | 0 => ⟨S4096x64, .f32⟩
  | 1 => ⟨S4096x1x64, .f32⟩
  | 2 => ⟨S_, .f32⟩
  | 3 => ⟨S4096x64, .f32⟩
  | 4 => ⟨S4096x32, .f32⟩
  | 5 => ⟨S4096x32, .f32⟩
  | 6 => ⟨S4096x32, .f32⟩
  | 7 => ⟨S4096x32, .f32⟩
  | 8 => ⟨S4096x32, .f32⟩
  | 9 => ⟨S4096x32, .f32⟩
  | 10 => ⟨S4096x32, .f32⟩
  | 11 => ⟨S4096x32, .f32⟩
  | 12 => ⟨S4096x32, .f32⟩
  | 13 => ⟨S4096x64, .f32⟩
  | 14 => ⟨S4096x4x32, .f32⟩
  | 15 => ⟨S4096x4x32, .f32⟩
  | 16 => ⟨S4096x4x32, .f32⟩
  | 17 => ⟨S4096x4x32, .f32⟩
  | 18 => ⟨S4096x4x32, .f32⟩
  | 19 => ⟨S4096x4x32, .f32⟩
  | 20 => ⟨S4096x4x32, .f32⟩
  | 21 => ⟨S4096x4x32, .f32⟩
  | 22 => ⟨S4096x4x32, .f32⟩
  | 23 => ⟨S4096x4x32, .f32⟩
  | 24 => ⟨S4096x4x32, .f32⟩
  | 25 => ⟨S4096x4x32, .f32⟩
  | 26 => ⟨S4096x4x32, .f32⟩
  | 27 => ⟨S4096x4x64, .f32⟩
  | 28 => ⟨S_, .f32⟩
  | 29 => ⟨S4096x4x192, .f32⟩
  | 30 => ⟨S4096x4x192, .f32⟩
  | 31 => ⟨S4096x1024, .f32⟩
  | 32 => ⟨S1024x256, .f32⟩
  | 33 => ⟨S256x1024, .f32⟩
  | 34 => ⟨S4096x256, .f32⟩
  | 35 => ⟨S4096x256, .f32⟩
  | 36 => ⟨S_, .f32⟩
  | 37 => ⟨S256, .f32⟩
  | 38 => ⟨S1x256, .f32⟩
  | 39 => ⟨S4096x256, .f32⟩
  | 40 => ⟨S4096x256, .f32⟩
  | 41 => ⟨S_, .f32⟩
  | 42 => ⟨S256, .f32⟩
  | 43 => ⟨S4096x256, .f32⟩
  | 44 => ⟨S_, .f32⟩
  | 45 => ⟨S4096, .f32⟩
  | 46 => ⟨S4096x1, .f32⟩
  | 47 => ⟨S4096x256, .f32⟩
  | 48 => ⟨S4096x256, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096, .f32⟩
  | 55 => ⟨S4096x256, .f32⟩
  | 56 => ⟨S4096x256, .f32⟩
  | 57 => ⟨S4096x256, .f32⟩
  | 58 => ⟨S4096x768, .f32⟩
  | 59 => ⟨S_, .f32⟩
  | 60 => ⟨S4096x768, .f32⟩
  | 61 => ⟨S4096x768, .f32⟩
  | 62 => ⟨S768x512, .f32⟩
  | 63 => ⟨S512x768, .f32⟩
  | 64 => ⟨S4096x512, .f32⟩
  | 65 => ⟨S4096x512, .f32⟩
  | 66 => ⟨S_, .f32⟩
  | 67 => ⟨S512, .f32⟩
  | 68 => ⟨S1x512, .f32⟩
  | 69 => ⟨S4096x512, .f32⟩
  | 70 => ⟨S4096x512, .f32⟩
  | 71 => ⟨S_, .f32⟩
  | 72 => ⟨S512, .f32⟩
  | 73 => ⟨S4096x512, .f32⟩
  | 74 => ⟨S_, .f32⟩
  | 75 => ⟨S4096, .f32⟩
  | 76 => ⟨S4096x1, .f32⟩
  | 77 => ⟨S4096x512, .f32⟩
  | 78 => ⟨S4096x512, .f32⟩
  | 79 => ⟨S4096x1, .f32⟩
  | 80 => ⟨S_, .f32⟩
  | 81 => ⟨S4096x1, .f32⟩
  | 82 => ⟨S4096x1, .f32⟩
  | 83 => ⟨S_, .f32⟩
  | 84 => ⟨S4096, .f32⟩
  | 85 => ⟨S4096x512, .f32⟩
  | 86 => ⟨S4096x512, .f32⟩
  | 87 => ⟨S4096x512, .f32⟩
  | 88 => ⟨S768x512, .f32⟩
  | 89 => ⟨S4x192x512, .f32⟩
  | 90 => ⟨S4x128x512, .f32⟩
  | 91 => ⟨S512x512, .f32⟩
  | 92 => ⟨S4x64x512, .f32⟩
  | 93 => ⟨S_, .f32⟩
  | 94 => ⟨S4x64x512, .f32⟩
  | 95 => ⟨S4x128x512, .f32⟩
  | 96 => ⟨S512x512, .f32⟩
  | 97 => ⟨S_, .f32⟩
  | 98 => ⟨S4096x64, .f32⟩
  | 99 => ⟨S4096x128, .f32⟩
  | 100 => ⟨S4096x512, .bf16⟩
  | 101 => ⟨S4096x256, .bf16⟩
  | 102 => ⟨S4096x128, .bf16⟩
  | 103 => ⟨S1x512, .f32⟩
  | 104 => ⟨S1x256, .f32⟩
  | 105 => ⟨S1024x512, .f32⟩
  | 106 => ⟨S1024x256, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_15 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_cst_17 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_v96 : Ref sig .tc := ⟨.hbm, 129, rfl⟩
abbrev main_cst_19 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_20 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_21 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_22 : Ref sig .tc := ⟨.hbm, 169, rfl⟩
abbrev main_v133 : Ref sig .tc := ⟨.hbm, 170, rfl⟩
abbrev main_v134 : Ref sig .tc := ⟨.hbm, 171, rfl⟩
abbrev main_cst_23 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_24 : Ref sig .tc := ⟨.hbm, 178, rfl⟩
abbrev main_v140 : Ref sig .tc := ⟨.hbm, 179, rfl⟩
abbrev main_v141 : Ref sig .tc := ⟨.hbm, 180, rfl⟩
abbrev main_cst_25 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_26 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_27 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_28 : Ref sig .tc := ⟨.hbm, 199, rfl⟩
abbrev main_v157 : Ref sig .tc := ⟨.hbm, 200, rfl⟩
abbrev main_v158 : Ref sig .tc := ⟨.hbm, 201, rfl⟩
abbrev main_cst_29 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_30 : Ref sig .tc := ⟨.hbm, 208, rfl⟩
abbrev main_v164 : Ref sig .tc := ⟨.hbm, 209, rfl⟩
abbrev main_v165 : Ref sig .tc := ⟨.hbm, 210, rfl⟩
abbrev main_cst_31 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_cst_32 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_cst_33 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩

abbrev nD : Nat := 1
abbrev τ : Topo := Topo.v7x

variable {F : FTy → Type} [FloatOps F]
-- ==== Kernel4.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 35
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S2816x1024, .f32⟩
  | .hbm, ⟨11, _⟩ => ⟨S4096x2816, .f32⟩
  | .hbm, ⟨12, _⟩ => ⟨S2816x1024, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x2816, .bf16⟩
  | .hbm, ⟨31, _⟩ => ⟨S4096x1024, .bf16⟩
  | .hbm, ⟨32, _⟩ => ⟨S4096x2816, .bf16⟩
  | .hbm, ⟨33, _⟩ => ⟨S4096x2816, .bf16⟩
  | .hbm, ⟨34, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1024, .bf16⟩
  | .local _ .vmem, ⟨17, _⟩ => ⟨S512x1024, .bf16⟩
  | .local _ .vmem, ⟨18, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_17 : BitVec 32 := 0#32
  let v28 : BitVec 1 := Scalar.cmpi .ne v27 c0_i32_17
  v28

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0_21 : Index := 0#32
  ![v35.toNat, 0]
def k0_cond2 (i : grid0.Coords) : BitVec 1 :=
  let arg0 : BitVec 32 := BitVec.ofNat 32 (i 0).val
  let c0_i32_18 : BitVec 32 := 0#32
  let v29 : BitVec 1 := Scalar.cmpi .sgt arg0 c0_i32_18
  let v30 : BitVec 32 := Scalar.extui v29
  let c0_i32_19 : BitVec 32 := 0#32
  let v31 : BitVec 1 := Scalar.cmpi .ne v30 c0_i32_19
  v31

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0_21 : Index := 0#32
  ![v35.toNat, 0]
def k0_cond3 (i : grid0.Coords) : BitVec 1 :=
  let arg0 : BitVec 32 := BitVec.ofNat 32 (i 0).val
  let c1_i32 : BitVec 32 := 1#32
  let v32 : BitVec 1 := Scalar.cmpi .eq arg0 c1_i32
  let v33 : BitVec 32 := Scalar.extui v32
  let c0_i32_20 : BitVec 32 := 0#32
  let v34 : BitVec 1 := Scalar.cmpi .ne v33 c0_i32_20
  v34

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0_21 : Index := 0#32
  ![v35.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x2816, .bf16⟩
  | .hbm, ⟨37, _⟩ => ⟨S4096x2816, .bf16⟩
  | .hbm, ⟨38, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩

abbrev nD : Nat := 1
abbrev τ : Topo := Topo.v7x

variable {F : FTy → Type} [FloatOps F]
-- ==== Kernel13.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | .hbm, ⟨38, _⟩ => ⟨S4096x2816, .bf16⟩
  | .hbm, ⟨39, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_call2_v0 : Ref sig .tc := ⟨.hbm, 27, rfl⟩
abbrev main_call2_v1 : Ref sig .tc := ⟨.hbm, 28, rfl⟩
abbrev main_call2_cst : Ref sig .tc := ⟨.hbm, 29, rfl⟩
abbrev main_call2_v2 : Ref sig .tc := ⟨.hbm, 30, rfl⟩
abbrev main_call2_v3 : Ref sig .tc := ⟨.hbm, 31, rfl⟩
abbrev main_call2_cst_0 : Ref sig .tc := ⟨.hbm, 32, rfl⟩
abbrev main_call2_v4 : Ref sig .tc := ⟨.hbm, 33, rfl⟩
abbrev main_call2_v5 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1024x8 : Shape := ⟨2, ![1024, 8]⟩
abbrev S8x1024 : Shape := ⟨2, ![8, 1024]⟩
abbrev S_ : Shape := ⟨0, ![]⟩
abbrev S120x1024 : Shape := ⟨2, ![120, 1024]⟩
abbrev S128x1024 : Shape := ⟨2, ![128, 1024]⟩
abbrev S4096x128 : Shape := ⟨2, ![4096, 128]⟩
abbrev S512x1024 : Shape := ⟨2, ![512, 1024]⟩
abbrev S512x128 : Shape := ⟨2, ![512, 128]⟩

abbrev nBuf : Space → Nat
  | .hbm => 11
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x8, .f32⟩
  | .hbm, ⟨4, _⟩ => ⟨S8x1024, .f32⟩
  | .hbm, ⟨5, _⟩ => ⟨S_, .f32⟩
  | .hbm, ⟨6, _⟩ => ⟨S120x1024, .f32⟩
  | .hbm, ⟨7, _⟩ => ⟨S128x1024, .f32⟩
  | .hbm, ⟨8, _⟩ => ⟨S128x1024, .bf16⟩
  | .hbm, ⟨9, _⟩ => ⟨S4096x1024, .bf16⟩
  | .hbm, ⟨10, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S128x1024, .bf16⟩
  | .local _ .vmem, ⟨5, _⟩ => ⟨S512x1024, .bf16⟩
  | .local _ .vmem, ⟨6, _⟩ => ⟨S512x1024, .bf16⟩
  | .local _ .vmem, ⟨7, _⟩ => ⟨S512x128, .f32⟩
  | .local _ .vmem, ⟨8, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S4096x1024 : Shape := ⟨2, ![4096, 1024]⟩
abbrev S1x1024 : Shape := ⟨2, ![1, 1024]⟩
abbrev S1024x8 : Shape := ⟨2, ![1024, 8]⟩
abbrev S_ : Shape := ⟨0, ![]⟩
abbrev S4096x8 : Shape := ⟨2, ![4096, 8]⟩
abbrev S4096x120 : Shape := ⟨2, ![4096, 120]⟩
abbrev S4096x128 : Shape := ⟨2, ![4096, 128]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x8, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x8, .f32⟩
  | .hbm, ⟨13, _⟩ => ⟨S_, .f32⟩
  | .hbm, ⟨14, _⟩ => ⟨S4096x120, .f32⟩
  | .hbm, ⟨15, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel15.lean ====
abbrev S4096x512 : Shape := ⟨2, ![4096, 512]⟩
abbrev S128 : Shape := ⟨1, ![128]⟩
abbrev S_ : Shape := ⟨0, ![]⟩
abbrev S4096x1536 : Shape := ⟨2, ![4096, 1536]⟩
abbrev S4096x1024 : Shape := ⟨2, ![4096, 1024]⟩
abbrev S4096x3072 : Shape := ⟨2, ![4096, 3072]⟩
abbrev S1x128 : Shape := ⟨2, ![1, 128]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S128, .f32⟩
  | .hbm, ⟨4, _⟩ => ⟨S_, .f32⟩
  | .hbm, ⟨5, _⟩ => ⟨S4096x1536, .f32⟩
  | .hbm, ⟨6, _⟩ => ⟨S_, .f32⟩
  | .hbm, ⟨7, _⟩ => ⟨S4096x1024, .f32⟩
  | .hbm, ⟨8, _⟩ => ⟨S4096x3072, .f32⟩
  | .hbm, ⟨9, _⟩ => ⟨S4096x3072, .bf16⟩
  | .hbm, ⟨10, _⟩ => ⟨S1x128, .f32⟩
  | .hbm, ⟨11, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S4096x512 : Shape := ⟨2, ![4096, 512]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S4096x1024 : Shape := ⟨2, ![4096, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S128, .f32⟩
  | .hbm, ⟨4, _⟩ => ⟨S4096x4x128, .f32⟩
  | .hbm, ⟨5, _⟩ => ⟨S4096x4x128, .f32⟩
  | .hbm, ⟨6, _⟩ => ⟨S_, .f32⟩
  | .hbm, ⟨7, _⟩ => ⟨S4096x4, .f32⟩
  | .hbm, ⟨8, _⟩ => ⟨S4096x4x1, .f32⟩
  | .hbm, ⟨9, _⟩ => ⟨S_, .f32⟩
  | .hbm, ⟨10, _⟩ => ⟨S4096x4x1, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S4096x4x1, .f32⟩
  | .hbm, ⟨16, _⟩ => ⟨S4096x4x128, .f32⟩
  | .hbm, ⟨17, _⟩ => ⟨S4096x4x128, .f32⟩
  | .hbm, ⟨18, _⟩ => ⟨S1x1x128, .f32⟩
  | .hbm, ⟨19, _⟩ => ⟨S4096x4x128, .f32⟩
  | .hbm, ⟨20, _⟩ => ⟨S4096x4x128, .f32⟩
  | .hbm, ⟨21, _⟩ => ⟨S4096x4x128, .f32⟩
  | .hbm, ⟨22, _⟩ => ⟨S4096x4x128, .f32⟩
  | .hbm, ⟨23, _⟩ => ⟨S4096x4x128, .f32⟩
  | .hbm, ⟨24, _⟩ => ⟨S_, .f32⟩
  | .hbm, ⟨25, _⟩ => ⟨S4096x4x128, .f32⟩
  | .hbm, ⟨26, _⟩ => ⟨S4096x4x128, .f32⟩
  | .hbm, ⟨27, _⟩ => ⟨S_, .f32⟩
  | .hbm, ⟨28, _⟩ => ⟨S4096x4x128, .f32⟩
  | .hbm, ⟨29, _⟩ => ⟨S4096x4x128, .f32⟩
  | .hbm, ⟨30, _⟩ => ⟨S4096x4x128, .f32⟩
  | .hbm, ⟨31, _⟩ => ⟨S4096x4x128, .f32⟩
  | .hbm, ⟨32, _⟩ => ⟨S4096x512, .f32⟩
  | .hbm, ⟨33, _⟩ => ⟨S4096x1024, .f32⟩
  | .hbm, ⟨34, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel16.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel17.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference17Ideal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel18.lean ====
abbrev S4096x512 : Shape := ⟨2, ![4096, 512]⟩
abbrev S4096x256 : Shape := ⟨2, ![4096, 256]⟩
abbrev S4096x64 : Shape := ⟨2, ![4096, 64]⟩
abbrev S4096 : Shape := ⟨1, ![4096]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S4096x1 : Shape := ⟨2, ![4096, 1]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S4096x2048 : Shape := ⟨2, ![4096, 2048]⟩
abbrev S4096x128 : Shape := ⟨2, ![4096, 128]⟩
abbrev S4096x3072 : Shape := ⟨2, ![4096, 3072]⟩
abbrev S1x512 : Shape := ⟨2, ![1, 512]⟩
abbrev S1x256 : Shape := ⟨2, ![1, 256]⟩
abbrev S768x512 : Shape := ⟨2, ![768, 512]⟩
abbrev S4x192x512 : Shape := ⟨3, ![4, 192, 512]⟩
abbrev S4x128x512 : Shape := ⟨3, ![4, 128, 512]⟩
abbrev S512x512 : Shape := ⟨2, ![512, 512]⟩
abbrev S4x64x512 : Shape := ⟨3, ![4, 64, 512]⟩
abbrev S1024x512 : Shape := ⟨2, ![1024, 512]⟩
abbrev S1024x256 : Shape := ⟨2, ![1024, 256]⟩
abbrev S4096x1024 : Shape := ⟨2, ![4096, 1024]⟩
abbrev S512x256 : Shape := ⟨2, ![512, 256]⟩
abbrev S512x128 : Shape := ⟨2, ![512, 128]⟩
abbrev S512x1 : Shape := ⟨2, ![512, 1]⟩
abbrev S512x1024 : Shape := ⟨2, ![512, 1024]⟩

abbrev nBuf : Space → Nat
  | .hbm => 57
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x64, .f32⟩
  | .hbm, ⟨3, _⟩ => ⟨S4096, .i32⟩
  | .hbm, ⟨4, _⟩ => ⟨S512, .f32⟩
  | .hbm, ⟨5, _⟩ => ⟨S256, .f32⟩
  | .hbm, ⟨6, _⟩ => ⟨S512x768, .f32⟩
  | .hbm, ⟨7, _⟩ => ⟨S256x1024, .f32⟩
  | .hbm, ⟨8, _⟩ => ⟨S4096, .f32⟩
  | .hbm, ⟨9, _⟩ => ⟨S4096x1, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S64, .f32⟩
  | .hbm, ⟨27, _⟩ => ⟨S_, .i32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S_, .f32⟩
  | .hbm, ⟨32, _⟩ => ⟨S4096x2048, .f32⟩
  | .hbm, ⟨33, _⟩ => ⟨S_, .f32⟩
  | .hbm, ⟨34, _⟩ => ⟨S4096x128, .f32⟩
  | .hbm, ⟨35, _⟩ => ⟨S_, .f32⟩
  | .hbm, ⟨36, _⟩ => ⟨S4096x64, .f32⟩
  | .hbm, ⟨37, _⟩ => ⟨S4096x3072, .f32⟩
  | .hbm, ⟨38, _⟩ => ⟨S4096x3072, .bf16⟩
  | .hbm, ⟨39, _⟩ => ⟨S1x512, .f32⟩
  | .hbm, ⟨40, _⟩ => ⟨S1x256, .f32⟩
  | .hbm, ⟨41, _⟩ => ⟨S768x512, .f32⟩
  | .hbm, ⟨42, _⟩ => ⟨S4x192x512, .f32⟩
  | .hbm, ⟨43, _⟩ => ⟨S4x128x512, .f32⟩
  | .hbm, ⟨44, _⟩ => ⟨S512x512, .f32⟩
  | .hbm, ⟨45, _⟩ => ⟨S4x64x512, .f32⟩
  | .hbm, ⟨46, _⟩ => ⟨S_, .i32⟩
  | .hbm, ⟨47, _⟩ => ⟨S_, .f32⟩
  | .hbm, ⟨48, _⟩ => ⟨S4x128x512, .f32⟩
  | .hbm, ⟨49, _⟩ => ⟨S512x512, .f32⟩
  | .hbm, ⟨50, _⟩ => ⟨S1024x512, .f32⟩
  | .hbm, ⟨51, _⟩ => ⟨S1024x512, .bf16⟩
  | .hbm, ⟨52, _⟩ => ⟨S1024x256, .f32⟩
  | .hbm, ⟨53, _⟩ => ⟨S1024x256, .bf16⟩
  | .hbm, ⟨54, _⟩ => ⟨S4096x1024, .bf16⟩
  | .hbm, ⟨55, _⟩ => ⟨S4096x1024, .bf16⟩
  | .hbm, ⟨56, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x1, .f32⟩
  | .local _ .vmem, ⟨7, _⟩ => ⟨S512x1, .f32⟩
  | .local _ .vmem, ⟨8, _⟩ => ⟨S1x128, .f32⟩
  | .local _ .vmem, ⟨9, _⟩ => ⟨S1x512, .f32⟩
  | .local _ .vmem, ⟨10, _⟩ => ⟨S1x256, .f32⟩
  | .local _ .vmem, ⟨11, _⟩ => ⟨S1024x512, .bf16⟩
  | .local _ .vmem, ⟨12, _⟩ => ⟨S1024x256, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .bf16⟩
  | .local _ .vmem, ⟨18, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev main_v34_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c23_i32 : BitVec 32 := 23#32
  let c0_i32 : BitVec 32 := 0#32
  ![arg0.toNat, c23_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference18Ideal.lean ====
abbrev S4096x512 : Shape := ⟨2, ![4096, 512]⟩
abbrev S4096x256 : Shape := ⟨2, ![4096, 256]⟩
abbrev S4096x64 : Shape := ⟨2, ![4096, 64]⟩
abbrev S4096 : Shape := ⟨1, ![4096]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x512 : Shape := ⟨2, ![1, 512]⟩
abbrev S4096x768 : Shape := ⟨2, ![4096, 768]⟩
abbrev S4096x4x192 : Shape := ⟨3, ![4096, 4, 192]⟩
abbrev S1x256 : Shape := ⟨2, ![1, 256]⟩
abbrev S4096x1024 : Shape := ⟨2, ![4096, 1024]⟩
abbrev S4096x4x256 : Shape := ⟨3, ![4096, 4, 256]⟩
abbrev S4096x4x64 : Shape := ⟨3, ![4096, 4, 64]⟩
abbrev S4096x1x32 : Shape := ⟨3, ![4096, 1, 32]⟩
abbrev S4096x4x32 : Shape := ⟨3, ![4096, 4, 32]⟩
abbrev S4096x1x64 : Shape := ⟨3, ![4096, 1, 64]⟩
abbrev S4096x4x128 : Shape := ⟨3, ![4096, 4, 128]⟩

abbrev nBuf : Space → Nat
  | .hbm => 111
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x64, .f32⟩
  | .hbm, ⟨3, _⟩ => ⟨S4096, .i32⟩
  | .hbm, ⟨4, _⟩ => ⟨S512, .f32⟩
  | .hbm, ⟨5, _⟩ => ⟨S256, .f32⟩
  | .hbm, ⟨6, _⟩ => ⟨S512x768, .f32⟩
  | .hbm, ⟨7, _⟩ => ⟨S256x1024, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096x1, .i32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x512, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x512, .f32⟩
  | .hbm, ⟨44, _⟩ => ⟨S4096x512, .f32⟩
  | .hbm, ⟨45, _⟩ => ⟨S1x512, .f32⟩
  | .hbm, ⟨46, _⟩ => ⟨S4096x512, .f32⟩
  | .hbm, ⟨47, _⟩ => ⟨S4096x512, .f32⟩
  | .hbm, ⟨48, _⟩ => ⟨S4096x768, .f32⟩
  | .hbm, ⟨49, _⟩ => ⟨S_, .f32⟩
  | .hbm, ⟨50, _⟩ => ⟨S4096x768, .f32⟩
  | .hbm, ⟨51, _⟩ => ⟨S4096x768, .f32⟩
  | .hbm, ⟨52, _⟩ => ⟨S4096x4x192, .f32⟩
  | .hbm, ⟨53, _⟩ => ⟨S4096x256, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x256, .f32⟩
  | .hbm, ⟨65, _⟩ => ⟨S4096x256, .f32⟩
  | .hbm, ⟨66, _⟩ => ⟨S1x256, .f32⟩
  | .hbm, ⟨67, _⟩ => ⟨S4096x256, .f32⟩
  | .hbm, ⟨68, _⟩ => ⟨S4096x256, .f32⟩
  | .hbm, ⟨69, _⟩ => ⟨S4096x1024, .f32⟩
  | .hbm, ⟨70, _⟩ => ⟨S4096x4x256, .f32⟩
  | .hbm, ⟨71, _⟩ => ⟨S4096x4x64, .f32⟩
  | .hbm, ⟨72, _⟩ => ⟨S4096x1x32, .f32⟩
  | .hbm, ⟨73, _⟩ => ⟨S4096x1x32, .f32⟩
  | .hbm, ⟨74, _⟩ => ⟨S4096x4x32, .f32⟩
  | .hbm, ⟨75, _⟩ => ⟨S4096x4x32, .f32⟩
  | .hbm, ⟨76, _⟩ => ⟨S4096x4x32, .f32⟩
  | .hbm, ⟨77, _⟩ => ⟨S4096x4x32, .f32⟩
  | .hbm, ⟨78, _⟩ => ⟨S4096x4x32, .f32⟩
  | .hbm, ⟨79, _⟩ => ⟨S4096x4x32, .f32⟩
  | .hbm, ⟨80, _⟩ => ⟨S4096x4x32, .f32⟩
  | .hbm, ⟨81, _⟩ => ⟨S4096x4x32, .f32⟩
  | .hbm, ⟨82, _⟩ => ⟨S4096x4x32, .f32⟩
  | .hbm, ⟨83, _⟩ => ⟨S4096x4x32, .f32⟩
  | .hbm, ⟨84, _⟩ => ⟨S4096x4x32, .f32⟩
  | .hbm, ⟨85, _⟩ => ⟨S4096x4x32, .f32⟩
  | .hbm, ⟨86, _⟩ => ⟨S4096x4x64, .f32⟩
  | .hbm, ⟨87, _⟩ => ⟨S4096x32, .f32⟩
  | .hbm, ⟨88, _⟩ => ⟨S4096x32, .f32⟩
  | .hbm, ⟨89, _⟩ => ⟨S4096x32, .f32⟩
  | .hbm, ⟨90, _⟩ => ⟨S4096x32, .f32⟩
  | .hbm, ⟨91, _⟩ => ⟨S4096x32, .f32⟩
  | .hbm, ⟨92, _⟩ => ⟨S4096x32, .f32⟩
  | .hbm, ⟨93, _⟩ => ⟨S4096x32, .f32⟩
  | .hbm, ⟨94, _⟩ => ⟨S4096x32, .f32⟩
  | .hbm, ⟨95, _⟩ => ⟨S4096x64, .f32⟩
  | .hbm, ⟨96, _⟩ => ⟨S4096x1x64, .f32⟩
  | .hbm, ⟨97, _⟩ => ⟨S4096x4x64, .f32⟩
  | .hbm, ⟨98, _⟩ => ⟨S_, .f32⟩
  | .hbm, ⟨99, _⟩ => ⟨S4096x4x64, .f32⟩
  | .hbm, ⟨100, _⟩ => ⟨S4096x4x128, .f32⟩
  | .hbm, ⟨101, _⟩ => ⟨S4096x4x256, .f32⟩
  | .hbm, ⟨102, _⟩ => ⟨S4096x1024, .f32⟩
  | .hbm, ⟨103, _⟩ => ⟨S4096x4x128, .f32⟩
  | .hbm, ⟨104, _⟩ => ⟨S4096x4x256, .f32⟩
  | .hbm, ⟨105, _⟩ => ⟨S4096x1024, .f32⟩
  | .hbm, ⟨106, _⟩ => ⟨S4096x1024, .bf16⟩
  | .hbm, ⟨107, _⟩ => ⟨S4096x1024, .bf16⟩
  | .hbm, ⟨108, _⟩ => ⟨S4096x4x128, .f32⟩
  | .hbm, ⟨109, _⟩ => ⟨S4096x512, .f32⟩
  | .hbm, ⟨110, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_11 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== Kernel20.lean ====
abbrev S1x1024x361 : Shape := ⟨3, ![1, 1024, 361]⟩
abbrev S1024x361 : Shape := ⟨2, ![1024, 361]⟩
abbrev S361x1024 : Shape := ⟨2, ![361, 1024]⟩

abbrev nBuf : Space → Nat
  | .hbm => 4
  | .vmem => 2
  | .smem => 0
  | _ => 0

abbrev bufTy : (tb : Table) → Fin (tcTables nBuf tb) → BufTy
  | .hbm, ⟨0, _⟩ => ⟨S1x1024x361, .f32⟩
  | .hbm, ⟨1, _⟩ => ⟨S1024x361, .f32⟩
  | .hbm, ⟨2, _⟩ => ⟨S361x1024, .f32⟩
  | .hbm, ⟨3, _⟩ => ⟨S361x1024, .bf16⟩
  | .local _ .vmem, ⟨0, _⟩ => ⟨S361x1024, .f32⟩
  | .local _ .vmem, ⟨1, _⟩ => ⟨S361x1024, .bf16⟩
  | _, _ => ⟨S1x1024x361, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S361x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S361x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference20Ideal.lean ====
abbrev S1x1024x361 : Shape := ⟨3, ![1, 1024, 361]⟩
abbrev S1024x361 : Shape := ⟨2, ![1024, 361]⟩
abbrev S361x1024 : Shape := ⟨2, ![361, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1x1024x361, .f32⟩
  | .hbm, ⟨1, _⟩ => ⟨S1024x361, .f32⟩
  | .hbm, ⟨2, _⟩ => ⟨S361x1024, .f32⟩
  | .hbm, ⟨3, _⟩ => ⟨S361x1024, .bf16⟩
  | _, _ => ⟨S1x1024x361, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel21.lean ====
abbrev S8x136x128 : Shape := ⟨3, ![8, 136, 128]⟩
abbrev S136x128 : Shape := ⟨2, ![136, 128]⟩
abbrev S1x136x128 : Shape := ⟨3, ![1, 136, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x136x128, .f32⟩
  | .hbm, ⟨1, _⟩ => ⟨S136x128, .f32⟩
  | .local _ .vmem, ⟨0, _⟩ => ⟨S8x136x128, .f32⟩
  | .local _ .vmem, ⟨1, _⟩ => ⟨S136x128, .f32⟩
  | _, _ => ⟨S8x136x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference21Ideal.lean ====
abbrev S8x136x128 : Shape := ⟨3, ![8, 136, 128]⟩
abbrev S_ : Shape := ⟨0, ![]⟩
abbrev S136x128 : Shape := ⟨2, ![136, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x136x128, .f32⟩
  | .hbm, ⟨1, _⟩ => ⟨S_, .f32⟩
  | .hbm, ⟨2, _⟩ => ⟨S136x128, .f32⟩
  | _, _ => ⟨S8x136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S1x352x1024 : Shape := ⟨3, ![1, 352, 1024]⟩
abbrev S8x352x1024 : Shape := ⟨3, ![8, 352, 1024]⟩
abbrev S352x1024 : Shape := ⟨2, ![352, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1x352x1024, .f32⟩
  | .hbm, ⟨1, _⟩ => ⟨S8x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S8x352x1024, .bf16⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S352x1024, .f32⟩
  | .local _ .vmem, ⟨0, _⟩ => ⟨S352x1024, .f32⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S1x352x1024 : Shape := ⟨3, ![1, 352, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S8x352x1024, .f32⟩
  | .hbm, ⟨2, _⟩ => ⟨S1x352x1024, .f32⟩
  | .hbm, ⟨3, _⟩ => ⟨S1x352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel23.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x4096, .f32⟩
  | .hbm, ⟨3, _⟩ => ⟨S2816x1024, .f32⟩
  | .hbm, ⟨4, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩
abbrev S4096x512 : Shape := ⟨2, ![4096, 512]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x1024, .f32⟩
  | .hbm, ⟨3, _⟩ => ⟨S4096x2816, .bf16⟩
  | .hbm, ⟨4, _⟩ => ⟨S4096x2816, .bf16⟩
  | .hbm, ⟨5, _⟩ => ⟨S4096x1024, .bf16⟩
  | .hbm, ⟨6, _⟩ => ⟨S2816x1024, .bf16⟩
  | .hbm, ⟨7, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x1024, .f32⟩
  | .hbm, ⟨3, _⟩ => ⟨S2816x4096, .f32⟩
  | .hbm, ⟨4, _⟩ => ⟨S2816x1024, .f32⟩
  | .hbm, ⟨5, _⟩ => ⟨S2816x1024, .bf16⟩
  | .hbm, ⟨6, _⟩ => ⟨S2816x4096, .f32⟩
  | .hbm, ⟨7, _⟩ => ⟨S2816x1024, .f32⟩
  | .hbm, ⟨8, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.AttnRun.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 16384

noncomputable section

namespace Cert.KernelIdeal.Attn

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open KernelIdeal KernelIdeal.Gen

variable {F : FTy → Type} [FloatOps F] [Named F]

local notation "𝕄" => MT nD τ sig Unit (Elt F) ℕ (UR sig nD τ) ℕ

theorem rows256 {R : ℕ} (h : R + 512 ≤ 4096) : ∀ a, (![R, 0] : Fin 2 → ℕ) a + S512x256.size a ≤ S4096x256.size a
  | ⟨0, _⟩ => h
  | ⟨1, _⟩ => le_refl 256

theorem rows128 {R : ℕ} (h : R + 512 ≤ 4096) : ∀ a, (![R, 0] : Fin 2 → ℕ) a + S512x128.size a ≤ S4096x128.size a
  | ⟨0, _⟩ => h
  | ⟨1, _⟩ => le_refl 128

theorem rows1 {R : ℕ} (h : R + 512 ≤ 4096) : ∀ a, (![R, 0] : Fin 2 → ℕ) a + S512x1.size a ≤ S4096x128.size a
  | ⟨0, _⟩ => h
  | ⟨1, _⟩ => show 0 + 1 ≤ 128 by decide

/-- What a tile of key rows holds while query rows go by: the gradients of its keys and of its values so far, and the
    gradient of all query rows so far. -/
abbrev St (F : FTy → Type) [FloatOps F] : Type :=
  (FVec F S1024x256 .f32 × FVec F S1024x128 .f32) × Vec F S4096x256 .f32

/-- The 512 query rows from row `R` on: queries, cotangent, log-sums, row sums. -/
abbrev qRows (x : Vec F S4096x256 .bf16) {R : ℕ} (h : R + 512 ≤ 4096) : Vec F S512x256 .bf16 :=
  VecWindow.window x ![R, 0] S512x256.size (rows256 h)
abbrev oRows (x : Vec F S4096x128 .bf16) {R : ℕ} (h : R + 512 ≤ 4096) : Vec F S512x128 .bf16 :=
  VecWindow.window x ![R, 0] S512x128.size (rows128 h)
abbrev lRows (x : Vec F S4096x128 .f32) {R : ℕ} (h : R + 512 ≤ 4096) : Vec F S512x1 .f32 :=
  VecWindow.window x ![R, 0] S512x1.size (rows1 h)
abbrev dRows (x : Vec F S4096x256 .f32) {R : ℕ} (h : R + 512 ≤ 4096) : Vec F S512x256 .f32 :=
  VecWindow.window x ![R, 0] S512x256.size (rows256 h)

/-- The first half of a trip: the 512 query rows from `R` on against the key tile. -/
def halfA (v4 : FVec F S1024x256 .bf16) (v6 : FVec F S1024x128 .bf16) (x2 : Vec F S4096x256 .bf16) (x5 : Vec F S4096x128 .bf16)
    (x6 x7 : Vec F S4096x128 .f32) {R : ℕ} (h : R + 512 ≤ 4096) (s : St F) : St F :=
  ((k0_pay7 v4 v6 s.1.1 (qRows x2 h) (oRows x5 h) (lRows x6 h) (lRows x7 h),
    k0_pay8 v4 s.1.2 (qRows x2 h) (oRows x5 h) (lRows x6 h)),
   VecWindow.put s.2 ![R, 0] S512x256.size
    (k0_pay6 v4 v6 (qRows x2 h) (oRows x5 h) (lRows x6 h) (lRows x7 h) (dRows s.2 h)))

/-- The second half of a trip. -/
def halfB (v4 : FVec F S1024x256 .bf16) (v6 : FVec F S1024x128 .bf16) (x2 : Vec F S4096x256 .bf16) (x5 : Vec F S4096x128 .bf16)
    (x6 x7 : Vec F S4096x128 .f32) {R : ℕ} (h : R + 512 ≤ 4096) (s : St F) : St F :=
  ((k0_pay47 v4 v6 s.1.1 (k0_pay9 (qRows x2 h)) (oRows x5 h) (lRows x6 h) (lRows x7 h),
    k0_pay48 v4 s.1.2 (k0_pay9 (qRows x2 h)) (oRows x5 h) (lRows x6 h)),
   VecWindow.put s.2 ![R, 0] S512x256.size
    (k0_pay46 v4 v6 (k0_pay9 (qRows x2 h)) (oRows x5 h) (lRows x6 h) (lRows x7 h) (dRows s.2 h)))

/-- One trip: the 1024 query rows from `R` on. -/
def trip (v4 : FVec F S1024x256 .bf16) (v6 : FVec F S1024x128 .bf16) (x2 : Vec F S4096x256 .bf16) (x5 : Vec F S4096x128 .bf16)
    (x6 x7 : Vec F S4096x128 .f32) {R : ℕ} (h : R + 1024 ≤ 4096) (s : St F) : St F :=
  halfB v4 v6 x2 x5 x6 x7 (R := R + 512) (by omega) (halfA v4 v6 x2 x5 x6 x7 (R := R) (by omega) s)

theorem trips_eq (i : grid0.Coords) : (k0_t1_loop i).trips = 3 - (i 1).val := by
  have h : (i 1).val < 4 := (i 1).isLt
  unfold k0_t1_loop
  generalize (i 1).val = a at h
  revert a
  decide +kernel

theorem trips2_eq (i : grid0.Coords) : (k0_t2_loop i).trips = 0 := by
  have h : (i 1).val < 4 := (i 1).isLt
  unfold k0_t2_loop
  generalize (i 1).val = a at h
  revert a
  decide +kernel

theorem trip_rows (i : grid0.Coords) (k : Fin (k0_t1_loop i).trips) : 1024 * ((i 1).val + 1 + k.val) + 1024 ≤ 4096 := by
  have h : k.val < 3 - (i 1).val := lt_of_lt_of_eq k.isLt (trips_eq i)
  omega

theorem off4_lo (i : grid0.Coords) (k : Fin (k0_t1_loop i).trips) : k0_off4 i k 0#32 = ![1024 * ((i 1).val + 1 + k.val), 0] :=
  (k0_off4_eq i k 0).trans (by congr 1; simp only [Fin.val_zero]; omega)
theorem off4_hi (i : grid0.Coords) (k : Fin (k0_t1_loop i).trips) : k0_off4 i k 512#32 = ![1024 * ((i 1).val + 1 + k.val) + 512, 0] :=
  (k0_off4_eq i k 1).trans (by congr 1; simp only [Fin.val_one]; omega)
theorem off5_lo (i : grid0.Coords) (k : Fin (k0_t1_loop i).trips) : k0_off5 i k 0#32 = ![1024 * ((i 1).val + 1 + k.val), 0] :=
  (k0_off5_eq i k 0).trans (by congr 1; simp only [Fin.val_zero]; omega)
theorem off5_hi (i : grid0.Coords) (k : Fin (k0_t1_loop i).trips) : k0_off5 i k 512#32 = ![1024 * ((i 1).val + 1 + k.val) + 512, 0] :=
  (k0_off5_eq i k 1).trans (by congr 1; simp only [Fin.val_one]; omega)
theorem off6_lo (i : grid0.Coords) (k : Fin (k0_t1_loop i).trips) : k0_off6 i k 0#32 = ![1024 * ((i 1).val + 1 + k.val), 0] :=
  (k0_off6_eq i k 0).trans (by congr 1; simp only [Fin.val_zero]; omega)
theorem off6_hi (i : grid0.Coords) (k : Fin (k0_t1_loop i).trips) : k0_off6 i k 512#32 = ![1024 * ((i 1).val + 1 + k.val) + 512, 0] :=
  (k0_off6_eq i k 1).trans (by congr 1; simp only [Fin.val_one]; omega)

/-- Rows below the ones put are not touched by them. -/
theorem dRows_put (D : Vec F S4096x256 .f32) {R R' : ℕ} (h : R' + 512 ≤ 4096) (hR : R + 512 ≤ R') (w : Vec F S512x256 .f32) :
    dRows (VecWindow.put D ![R, 0] S512x256.size w) h = dRows D h :=
  VecWindow.window_put_of_disjoint D _ _ _ _ _ w 0 (.inr hR)

theorem tripRun (c : Dev nD) (i : grid0.Coords)
    (arg2 : Memref sig .tc .vmem S4096x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .f32) (harg8 : arg8.IsWhole) (arg9 : Memref sig .tc .vmem S1024x256 .f32) (harg9 : arg9.IsWhole) (arg10 : Memref sig .tc .vmem S1024x128 .f32) (harg10 : arg10.IsWhole) (arg1 : BitVec 32) (v4 : FVec F S1024x256 .bf16) (v6 : FVec F S1024x128 .bf16) (v58 : FVec F S1024x256 .f32) (v62 : FVec F S1024x128 .f32) (v65 : BitVec 32) (v68 : FVec F S512x256 .bf16) (v71 : FVec F S512x128 .bf16) (v78 : FVec F S512x1024 .f32) (v82 : IVec S512x1024 32) (v85 : IVec S512x1024 32) (v109 : BitVec 32)
    (w4 : FVec F S1024x256 .bf16) (w6 : FVec F S1024x128 .bf16) (h4 : v4 = w4) (h6 : v6 = w6)
    (x2 : Vec F S4096x256 .bf16) (x5 : Vec F S4096x128 .bf16) (x6 x7 : Vec F S4096x128 .f32) (D : Vec F S4096x256 .f32)
    (k : Fin (k0_t1_loop i).trips) (acc : FVec F S1024x256 .f32 × FVec F S1024x128 .f32) :
    (iprop(owns (c : Thread nD τ) arg2 fullShare x2 ∗ owns (c : Thread nD τ) arg5 fullShare x5 ∗ owns (c : Thread nD τ) arg6 fullShare x6
      ∗ owns (c : Thread nD τ) arg7 fullShare x7 ∗ owns (c : Thread nD τ) arg8 fullShare D) : sProp 𝕄)
    ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg1 v4 v6 v58 v62 v65 v68 v71 v78 v82 v85 v109 k acc)
        (fun y => iprop(⌜y = (trip w4 w6 x2 x5 x6 x7 (trip_rows i k) (acc, D)).1⌝
          ∗ owns (c : Thread nD τ) arg2 fullShare x2 ∗ owns (c : Thread nD τ) arg5 fullShare x5 ∗ owns (c : Thread nD τ) arg6 fullShare x6
          ∗ owns (c : Thread nD τ) arg7 fullShare x7 ∗ owns (c : Thread nD τ) arg8 fullShare (trip w4 w6 x2 x5 x6 x7 (trip_rows i k) (acc, D)).2)) := by
  subst h4 h6
  unfold k0_t1_body owns
  iintro ⟨⟨%f2, %hf2, H2⟩, ⟨%f5, %hf5, H5⟩, ⟨%f6, %hf6, H6⟩, ⟨%f7, %hf7, H7⟩, ⟨%f8, %hf8, H8⟩⟩
  sl_exec
  sl_step
  isplitr
  · ipureintro
    sl_unfold_run_names
    subst hf2 hf5 hf6 hf7 hf8
    have hr := trip_rows i k
    rw [View.readAt_unit arg2.view f2 _ (off4_lo i k) (rows256 (by omega)), View.readAt_unit arg2.view f2 _ (off4_hi i k) (rows256 (by omega)),
      View.readAt_unit arg5.view f5 _ (off5_lo i k) (rows128 (by omega)), View.readAt_unit arg5.view f5 _ (off5_hi i k) (rows128 (by omega)),
      View.readAt_unit arg6.view f6 _ (off6_lo i k) (rows1 (by omega)), View.readAt_unit arg6.view f6 _ (off6_hi i k) (rows1 (by omega)),
      View.readAt_unit arg7.view f7 _ (off6_lo i k) (rows1 (by omega)), View.readAt_unit arg7.view f7 _ (off6_hi i k) (rows1 (by omega))]
    rfl
  isplitl [H2]; · iexists _; isplitr; · ipureintro; exact hf2
                  iexact H2
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  iexists _; isplitr; swap; · iexact H8
  ipureintro
  sl_unfold_run_names
  subst hf2 hf5 hf6 hf7 hf8
  have hr := trip_rows i k
  rw [View.read_writes_cons_put arg8.view f8 _ _ _ (off4_hi i k), View.read_writes_cons_put arg8.view f8 _ _ _ (off4_lo i k)]
  rw [View.readAt_unit arg2.view f2 _ (off4_lo i k) (rows256 (by omega)), View.readAt_unit arg2.view f2 _ (off4_hi i k) (rows256 (by omega)),
    View.readAt_unit arg5.view f5 _ (off5_lo i k) (rows128 (by omega)), View.readAt_unit arg5.view f5 _ (off5_hi i k) (rows128 (by omega)),
    View.readAt_unit arg6.view f6 _ (off6_lo i k) (rows1 (by omega)), View.readAt_unit arg6.view f6 _ (off6_hi i k) (rows1 (by omega)),
    View.readAt_unit arg7.view f7 _ (off6_lo i k) (rows1 (by omega)), View.readAt_unit arg7.view f7 _ (off6_hi i k) (rows1 (by omega)),
    View.readAt_unit arg8.view f8 _ (off4_lo i k) (rows256 (by omega)), View.readAt_unit arg8.view f8 _ (off4_hi i k) (rows256 (by omega))]
  unfold trip halfB
  rw [show (halfA v4 v6 (View.read (Elt F) arg2.view f2) (View.read (Elt F) arg5.view f5) (View.read (Elt F) arg6.view f6)
        (View.read (Elt F) arg7.view f7) (R := 1024 * ((i 1).val + 1 + k.val)) (by omega) (acc, View.read (Elt F) arg8.view f8)).2 = VecWindow.put _ _ _ _ from rfl,
    dRows_put _ _ (by omega)]
  rfl

/-- The offsets of a point's own rows: the diagonal tile's. -/
theorem diag_rows (i : grid0.Coords) : 1024 * (i 1).val + 1024 ≤ 4096 := by
  have h : (i 1).val < 4 := (i 1).isLt
  omega

theorem off1_lo (i : grid0.Coords) : k0_off1 i 0#32 = ![1024 * (i 1).val, 0] :=
  (k0_off1_eq i 0).trans (by congr 1)
theorem off1_hi (i : grid0.Coords) : k0_off1 i 512#32 = ![1024 * (i 1).val + 512, 0] :=
  (k0_off1_eq i 1).trans (by congr 1)
theorem off2_lo (i : grid0.Coords) : k0_off2 i 0#32 = ![1024 * (i 1).val, 0] := off1_lo i
theorem off2_hi (i : grid0.Coords) : k0_off2 i 512#32 = ![1024 * (i 1).val + 512, 0] := off1_hi i
theorem off3_lo (i : grid0.Coords) : k0_off3 i 0#32 = ![1024 * (i 1).val, 0] := off1_lo i
theorem off3_hi (i : grid0.Coords) : k0_off3 i 512#32 = ![1024 * (i 1).val + 512, 0] := off1_hi i

abbrev cond0 (i : grid0.Coords) : Prop := (Scalar.cmpi .ne (Scalar.extui (Scalar.cmpi .eq (BitVec.ofNat 32 (i 1).val) 0#32)) 0#32) = 1#1
abbrev cond1 (i : grid0.Coords) : Prop := (Scalar.cmpi .ne (Scalar.extui (Scalar.cmpi .eq (BitVec.ofNat 32 (i 1).val) 3#32)) 0#32) = 1#1

/-- The first 512 rows of the diagonal tile, which meet the first 512 keys only. -/
def diagA (i : grid0.Coords) (x2 : Vec F S4096x256 .bf16) (x3 : Vec F S1024x256 .bf16) (x4 : Vec F S1024x128 .bf16) (x5 : Vec F S4096x128 .bf16)
    (x6 x7 : Vec F S4096x128 .f32) {R : ℕ} (h : R + 512 ≤ 4096) (D : Vec F S4096x256 .f32) : St F :=
  ((k0_pay31 (k0_pay21 (F := F)) (k0_pay23 (qRows x2 h)) (k0_pay24 (oRows x5 h)) (k0_pay26 x4) (k0_pay27 i x3 (qRows x2 h) (lRows x6 h))
      (constant S512x512 .f32 0x00000000#32) (lRows x7 h),
    k0_pay32 (k0_pay22 (F := F)) (k0_pay28 i x3 (qRows x2 h) (oRows x5 h) (lRows x6 h))),
   VecWindow.put D ![R, 0] S512x256.size
    (k0_pay30 (k0_pay24 (oRows x5 h)) (k0_pay25 x3) (k0_pay26 x4) (k0_pay27 i x3 (qRows x2 h) (lRows x6 h))
      (constant S512x512 .f32 0x00000000#32) (lRows x7 h) (dRows D h)))

/-- The last 512 rows of the diagonal tile. -/
def diagB (i : grid0.Coords) (x2 : Vec F S4096x256 .bf16) (x3 : Vec F S1024x256 .bf16) (x4 : Vec F S1024x128 .bf16) (x5 : Vec F S4096x128 .bf16)
    (x6 x7 : Vec F S4096x128 .f32) {R : ℕ} (h : R + 512 ≤ 4096) (s : St F) : St F :=
  ((k0_pay41 (k0_pay20 x4) s.1.1 (k0_pay33 (qRows x2 h)) (k0_pay34 (oRows x5 h)) (k0_pay35 (k0_pay19 x3) (qRows x2 h) (lRows x6 h))
      (k0_pay36 (BitVec.ofNat 32 (i 1).val)) (k0_pay37 (BitVec.ofNat 32 (i 1).val)) (lRows x7 h),
    k0_pay42 s.1.2 (k0_pay34 (oRows x5 h)) (k0_pay35 (k0_pay19 x3) (qRows x2 h) (lRows x6 h))
      (k0_pay36 (BitVec.ofNat 32 (i 1).val)) (k0_pay37 (BitVec.ofNat 32 (i 1).val))),
   VecWindow.put s.2 ![R, 0] S512x256.size
    (k0_pay40 (k0_pay19 x3) (k0_pay20 x4) (k0_pay34 (oRows x5 h)) (k0_pay35 (k0_pay19 x3) (qRows x2 h) (lRows x6 h))
      (k0_pay36 (BitVec.ofNat 32 (i 1).val)) (k0_pay37 (BitVec.ofNat 32 (i 1).val)) (lRows x7 h) (dRows s.2 h)))

/-- The state before trip `k` of the rows below the diagonal tile. -/
def loopSt (i : grid0.Coords) (v4 : FVec F S1024x256 .bf16) (v6 : FVec F S1024x128 .bf16) (x2 : Vec F S4096x256 .bf16) (x5 : Vec F S4096x128 .bf16)
    (x6 x7 : Vec F S4096x128 .f32) (s : St F) : ℕ → St F
  | 0 => s
  | k + 1 => if h : 1024 * ((i 1).val + 1 + k) + 1024 ≤ 4096 then trip v4 v6 x2 x5 x6 x7 h (loopSt i v4 v6 x2 x5 x6 x7 s k) else loopSt i v4 v6 x2 x5 x6 x7 s k

theorem loopSt_succ (i : grid0.Coords) (v4 : FVec F S1024x256 .bf16) (v6 : FVec F S1024x128 .bf16) (x2 : Vec F S4096x256 .bf16) (x5 : Vec F S4096x128 .bf16)
    (x6 x7 : Vec F S4096x128 .f32) (s : St F) (k : Fin (k0_t1_loop i).trips) :
    loopSt i v4 v6 x2 x5 x6 x7 s (k.val + 1) = trip v4 v6 x2 x5 x6 x7 (trip_rows i k) (loopSt i v4 v6 x2 x5 x6 x7 s k.val) := by
  rw [loopSt, dif_pos (trip_rows i k)]

/-- What a grid point leaves: the key tile's two gradients and the query gradients so far, from the query gradients it finds. -/
def pointSt (i : grid0.Coords) (x2 : Vec F S4096x256 .bf16) (x3 : Vec F S1024x256 .bf16) (x4 : Vec F S1024x128 .bf16) (x5 : Vec F S4096x128 .bf16)
    (x6 x7 : Vec F S4096x128 .f32) (D : Vec F S4096x256 .f32) : St F :=
  loopSt i (k0_pay19 x3) (k0_pay20 x4) x2 x5 x6 x7
    (diagB i x2 x3 x4 x5 x6 x7 (R := 1024 * (i 1).val + 512) (diag_rows i)
      (diagA i x2 x3 x4 x5 x6 x7 (R := 1024 * (i 1).val) (by have := diag_rows i; omega) D)) (3 - (i 1).val)

/-- The query gradients a point starts from: zeros at a head's first key tile. -/
def startD (i : grid0.Coords) (D : Vec F S4096x256 .f32) : Vec F S4096x256 .f32 :=
  if cond0 i then k0_pay18 (F := F) else D

/-- The query gradients a point leaves: scaled at a head's last key tile. -/
def pointDq (i : grid0.Coords) (x2 : Vec F S4096x256 .bf16) (x3 : Vec F S1024x256 .bf16) (x4 : Vec F S1024x128 .bf16) (x5 : Vec F S4096x128 .bf16)
    (x6 x7 : Vec F S4096x128 .f32) (D : Vec F S4096x256 .f32) : Vec F S4096x256 .f32 :=
  if cond1 i then k0_pay1 (pointSt i x2 x3 x4 x5 x6 x7 (startD i D)).2 else (pointSt i x2 x3 x4 x5 x6 x7 (startD i D)).2

set_option maxHeartbeats 1000000 in
theorem kernelRun (c : Dev nD) (i : grid0.Coords)
    (arg2 : Memref sig .tc .vmem S4096x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .f32) (harg8 : arg8.IsWhole) (arg9 : Memref sig .tc .vmem S1024x256 .f32) (harg9 : arg9.IsWhole) (arg10 : Memref sig .tc .vmem S1024x128 .f32) (harg10 : arg10.IsWhole)
    (x2 : Vec F S4096x256 .bf16) (x3 : Vec F S1024x256 .bf16) (x4 : Vec F S1024x128 .bf16) (x5 : Vec F S4096x128 .bf16)
    (x6 x7 : Vec F S4096x128 .f32) (D : Vec F S4096x256 .f32) (K : PUnit → sProp 𝕄) :
    iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7
      ∗ owns (c : Thread nD τ) arg8 fullShare D ∗ (∃ d, owns (c : Thread nD τ) arg9 fullShare d) ∗ (∃ d, owns (c : Thread nD τ) arg10 fullShare d)
      ∗ (iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7
      ∗ owns (c : Thread nD τ) arg8 fullShare (pointDq i x2 x3 x4 x5 x6 x7 D)
      ∗ owns (c : Thread nD τ) arg9 fullShare (k0_pay55 (pointSt i x2 x3 x4 x5 x6 x7 (startD i D)).1.1)
      ∗ owns (c : Thread nD τ) arg10 fullShare (pointSt i x2 x3 x4 x5 x6 x7 (startD i D)).1.2) -∗ K ⟨⟩))
    ⊢ wp frame (wpE (defs₀ (F := F)) Variants.none (c : Thread nD τ) none) Set.univ
        (cc0_attn_bwd i arg2 harg2 arg3 harg3 arg4 harg4 arg5 harg5 arg6 harg6 arg7 harg7 arg8 harg8 arg9 harg9 arg10 harg10) K := by
  simp only [cc0_attn_bwd_eq_skeleton]; unfold cc0_attn_bwd_skel
  simp only [k0_part3_eq_skeleton, k0_part4_eq_skeleton, k0_part5_eq_skeleton]
  have hd := diag_rows i
  obtain ⟨s0, hs0⟩ : ∃ s0, s0 = diagB i x2 x3 x4 x5 x6 x7 (R := 1024 * (i 1).val + 512) (by omega)
      (diagA i x2 x3 x4 x5 x6 x7 (R := 1024 * (i 1).val) (by omega) (startD i D)) := ⟨_, rfl⟩
  have htr : (k0_t2_loop i).trips = 0 := trips2_eq i
  have hend : loopSt i (k0_pay19 x3) (k0_pay20 x4) x2 x5 x6 x7 s0 (Scf.trips (k0_t1_loop i).lb (k0_t1_loop i).ub (k0_t1_loop i).st)
      = pointSt i x2 x3 x4 x5 x6 x7 (startD i D) := by
    rw [hs0, show Scf.trips (k0_t1_loop i).lb (k0_t1_loop i).ub (k0_t1_loop i).st = 3 - (i 1).val from trips_eq i]
    rfl
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  by_cases hc0 : cond0 i
  all_goals
    sl_exec (disch := sl_exact hc0)
    sl_for (fun k acc => iprop(⌜acc = (loopSt i (k0_pay19 x3) (k0_pay20 x4) x2 x5 x6 x7 s0 k).1⌝
        ∗ owns (c : Thread nD τ) arg2 fullShare x2 ∗ owns (c : Thread nD τ) arg5 fullShare x5 ∗ owns (c : Thread nD τ) arg6 fullShare x6
        ∗ owns (c : Thread nD τ) arg7 fullShare x7 ∗ owns (c : Thread nD τ) arg8 fullShare (loopSt i (k0_pay19 x3) (k0_pay20 x4) x2 x5 x6 x7 s0 k).2)) $$ [H2 H5 H6 H7 H8]
    case region =>
      intro k acc
      iintro ⟨%hacc, HS⟩
      subst hacc
      first | delta kernelRun.sl.prog.body_1 | delta kernelRun.sl.prog.body_2
      rw [loopSt_succ]
      iapply (tripRun c i arg2 harg2 arg3 harg3 arg4 harg4 arg5 harg5 arg6 harg6 arg7 harg7 arg8 harg8 arg9 harg9 arg10 harg10 _ _ _ _ _ _ _ _ _ _ _ _
        (k0_pay19 x3) (k0_pay20 x4) (by sl_unfold_run_names; rw [View.readAt_full, hf3]) (by sl_unfold_run_names; rw [View.readAt_full, hf4]) x2 x5 x6 x7 _ k _)
      iexact HS
    · unfold owns
      isplitr
      · ipureintro
        rw [loopSt, hs0]
        sl_unfold_run_names
        subst hf2 hf3 hf4 hf5 hf6 hf7 hf8
        rw [View.readAt_unit arg2.view f2 _ (off1_lo i) (rows256 (by omega)), View.readAt_unit arg2.view f2 _ (off1_hi i) (rows256 (by omega)),
          View.readAt_unit arg5.view f5 _ (off2_lo i) (rows128 (by omega)), View.readAt_unit arg5.view f5 _ (off2_hi i) (rows128 (by omega)),
          View.readAt_unit arg6.view f6 _ (off3_lo i) (rows1 (by omega)), View.readAt_unit arg6.view f6 _ (off3_hi i) (rows1 (by omega)),
          View.readAt_unit arg7.view f7 _ (off3_lo i) (rows1 (by omega)), View.readAt_unit arg7.view f7 _ (off3_hi i) (rows1 (by omega)),
          View.readAt_full, View.readAt_full]
        rfl
      isplitl [H2]; · iexists _; isplitr; · ipureintro; exact hf2
                      iexact H2
      isplitl [H5]; · iexists _; isplitr; · ipureintro; exact hf5
                      iexact H5
      isplitl [H6]; · iexists _; isplitr; · ipureintro; exact hf6
                      iexact H6
      isplitl [H7]; · iexists _; isplitr; · ipureintro; exact hf7
                      iexact H7
      iexists _; isplitr; swap; · iexact H8
      ipureintro
      rw [loopSt, hs0]
      sl_unfold_run_names
      subst hf2 hf3 hf4 hf5 hf6 hf7 hf8
      rw [View.readAt_unit arg2.view f2 _ (off1_lo i) (rows256 (by omega)), View.readAt_unit arg2.view f2 _ (off1_hi i) (rows256 (by omega)),
        View.readAt_unit arg5.view f5 _ (off2_lo i) (rows128 (by omega)), View.readAt_unit arg5.view f5 _ (off2_hi i) (rows128 (by omega)),
        View.readAt_unit arg6.view f6 _ (off3_lo i) (rows1 (by omega)), View.readAt_unit arg6.view f6 _ (off3_hi i) (rows1 (by omega)),
        View.readAt_unit arg7.view f7 _ (off3_lo i) (rows1 (by omega)), View.readAt_unit arg7.view f7 _ (off3_hi i) (rows1 (by omega)),
        View.readAt_full, View.readAt_full]
      unfold diagB
      rw [show ∀ x2 x3 x4 x5 x6 x7 D, (diagA (F := F) i x2 x3 x4 x5 x6 x7 (R := 1024 * (i 1).val) (by omega) D).2 = VecWindow.put D _ _ _ from fun _ _ _ _ _ _ _ => rfl,
        dRows_put _ _ (by omega)]
      rw [View.read_writes_cons_put arg8.view _ _ _ _ (off1_hi i), View.read_writes_cons_put arg8.view _ _ _ _ (off1_lo i)]
      first
        | rw [View.readAt_unit arg8.view f8 _ (off1_lo i) (rows256 (by omega)), View.readAt_unit arg8.view f8 _ (off1_hi i) (rows256 (by omega)),
            startD, if_neg hc0]
          rfl
        | rw [View.readAt_unit arg8.view _ _ (off1_hi i) (rows256 (by omega)), View.readAt_unit arg8.view _ _ (off1_lo i) (rows256 (by omega)),
            View.read_writes_cons_put arg8.view _ _ _ _ (off1_lo i), View.read_writes_full,
            VecWindow.window_put_of_disjoint (k0_pay18 (F := F)) ![1024 * (i 1).val, 0] S512x256.size ![1024 * (i 1).val + 512, 0] S512x256.size (rows256 hd) _ 0
              (.inr (le_refl (1024 * (i 1).val + 512))), startD, if_pos hc0]
    unfold owns
    iintro %acc ⟨%hacc, ⟨%g2, %hg2, H2⟩, ⟨%g5, %hg5, H5⟩, ⟨%g6, %hg6, H6⟩, ⟨%g7, %hg7, H7⟩, ⟨%g8, %hg8, H8⟩⟩
    subst hacc
    rw [hend] at hg8
    by_cases hc1 : cond1 i
    all_goals
      sl_exec (disch := sl_exact hc1)
      sl_step
      iapply Hk
      isplitl [H2]; · iexists _; isplitr; · ipureintro; exact hg2
                      iexact H2
      isplitl [H3]; · iexists _; isplitr; · ipureintro; exact hf3
                      iexact H3
      isplitl [H4]; · iexists _; isplitr; · ipureintro; exact hf4
                      iexact H4
      isplitl [H5]; · iexists _; isplitr; · ipureintro; exact hg5
                      iexact H5
      isplitl [H6]; · iexists _; isplitr; · ipureintro; exact hg6
                      iexact H6
      isplitl [H7]; · iexists _; isplitr; · ipureintro; exact hg7
                      iexact H7
      isplitl [H8]
      · iexists _; isplitr; swap; · iexact H8
        ipureintro
        sl_unfold_run_names
        first
          | rw [View.read_writes_full, View.readAt_full, hg8, pointDq, if_pos hc1]
          | rw [hg8, pointDq, if_neg hc1]
      isplitl [H9]
      · iexists _; isplitr; swap; · iexact H9
        ipureintro
        rw [View.read_writes_full, hend]
      iexists _; isplitr; swap; · iexact H10
      ipureintro
      rw [View.read_writes_full, hend]

end Cert.KernelIdeal.Attn
-- ==== Proof.AttnFrame.lean ====
module

public import proofs.«01_k».proof.Proof.Gen.KernelIdeal.Frame
public import proofs.«01_k».proof.Proof.AttnRun
public import Idealize.ShloMosaic.Lib.Claim

@[expose] public section

set_option maxRecDepth 16384

noncomputable section

namespace Cert.KernelIdeal.Attn

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open KernelIdeal KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem tile_of (t : Fin cfg0.N) : (grid0.coords t 1).val = t.val % 4 :=
  (by decide +kernel : ∀ t : Fin grid0.N, (grid0.coords t 1).val = t.val % 4) t

theorem cond0_iff (t : Fin cfg0.N) : cond0 (grid0.coords t) ↔ t.val % 4 = 0 :=
  (by decide +kernel : ∀ t : Fin grid0.N, cond0 (grid0.coords t) ↔ t.val % 4 = 0) t

theorem cond1_iff (t : Fin cfg0.N) : cond1 (grid0.coords t) ↔ t.val % 4 = 3 :=
  (by decide +kernel : ∀ t : Fin grid0.N, cond1 (grid0.coords t) ↔ t.val % 4 = 3) t

/-- The query gradients after point `n`. -/
def dqAfter (c : Dev nD) : (n : ℕ) → n < cfg0.N → Vec F S4096x256 .f32
  | 0, h => pointDq (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay18 (F := F))
  | n + 1, h => pointDq (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩)
      (iblk m c 5 ⟨n + 1, h⟩) (dqAfter c n (by omega))

/-- The query gradients point `t` starts from. -/
def dqBefore (c : Dev nD) (t : Fin cfg0.N) : Vec F S4096x256 .f32 :=
  if h : t.val % 4 = 0 then k0_pay18 (F := F) else dqAfter m c (t.val - 1) (by omega)

/-- What point `t` leaves. -/
def stAt (c : Dev nD) (t : Fin cfg0.N) : St F :=
  pointSt (grid0.coords t) (iblk m c 0 t) (iblk m c 1 t) (iblk m c 2 t) (iblk m c 3 t) (iblk m c 4 t) (iblk m c 5 t) (dqBefore m c t)

theorem startD_before (c : Dev nD) (t : Fin cfg0.N) (D : Vec F S4096x256 .f32) (hD : ¬ t.val % 4 = 0 → D = dqBefore m c t) :
    startD (grid0.coords t) D = dqBefore m c t := by
  unfold startD
  by_cases h : t.val % 4 = 0
  · rw [if_pos ((cond0_iff t).mpr h), dqBefore, dif_pos h]
  · rw [if_neg (fun h' => h ((cond0_iff t).mp h')), hD h]

theorem dqAfter_eq (c : Dev nD) (t : Fin cfg0.N) :
    dqAfter m c t.val t.isLt = if t.val % 4 = 3 then k0_pay1 (stAt m c t).2 else (stAt m c t).2 := by
  obtain ⟨n, hn⟩ := t
  cases n with
  | zero =>
    rw [dqAfter, pointDq, startD_before m c ⟨0, hn⟩ _ (fun h => absurd rfl h)]
    rw [if_neg (fun h => by have := (cond1_iff ⟨0, hn⟩).mp h; simp at this), if_neg (by simp)]
    rfl
  | succ n =>
    rw [dqAfter, pointDq, startD_before m c ⟨n + 1, hn⟩ _ (fun h => by rw [dqBefore, dif_neg h]; rfl)]
    by_cases h : (n + 1) % 4 = 3
    · rw [if_pos ((cond1_iff ⟨n + 1, hn⟩).mpr h), if_pos h]; rfl
    · rw [if_neg (fun h' => h ((cond1_iff ⟨n + 1, hn⟩).mp h')), if_neg h]; rfl

/-- The proof data: the arrays as the region finds them, and after each point the inputs' blocks and the three gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAfter m c t.val t.isLt
    | ⟨7, _⟩ => k0_pay55 (stAt m c t).1.1
    | ⟨8, _⟩ => (stAt m c t).1.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqAfter m c t.val t.isLt := by dsimp only [dats]
theorem after_7 (c : Dev nD) (t : Fin cfg0.N) : (dats m 0 c).after 7 t = k0_pay55 (stAt m c t).1.1 := by dsimp only [dats]
theorem after_8 (c : Dev nD) (t : Fin cfg0.N) : (dats m 0 c).after 8 t = (stAt m c t).1.2 := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- Within a head the query gradients stay in their buffer from one key tile to the next. -/
theorem before_6 (c : Dev nD) (t : Fin cfg0.N) (h : ¬ t.val % 4 = 0) (d) : (dats m 0 c).before 6 t d = dqBefore m c t := by
  rw [Dat.before_out_kept _ 6 rfl t (by omega) (Bool.eq_false_iff.mpr fun h' => by have := (flush0_6 _).mp h'; dsimp only at this; omega) (fun _ => rfl) (fun _ _ => rfl)]
  rw [after_6, dqBefore, dif_neg h]

abbrev st_0 (t : Fin cfg0.N) : Memref sig .tc .vmem S4096x256 .bf16 := win0_0.stage (cfg0.slots t 0)
abbrev st_1 (t : Fin cfg0.N) : Memref sig .tc .vmem S1024x256 .bf16 := win0_1.stage (cfg0.slots t 1)
abbrev st_2 (t : Fin cfg0.N) : Memref sig .tc .vmem S1024x128 .bf16 := win0_2.stage (cfg0.slots t 2)
abbrev st_3 (t : Fin cfg0.N) : Memref sig .tc .vmem S4096x128 .bf16 := win0_3.stage (cfg0.slots t 3)
abbrev st_4 (t : Fin cfg0.N) : Memref sig .tc .vmem S4096x128 .f32 := win0_4.stage (cfg0.slots t 4)
abbrev st_5 (t : Fin cfg0.N) : Memref sig .tc .vmem S4096x128 .f32 := win0_5.stage (cfg0.slots t 5)
abbrev st_6 (t : Fin cfg0.N) : Memref sig .tc .vmem S4096x256 .f32 := win0_6.stage (cfg0.slots t 6)
abbrev st_7 (t : Fin cfg0.N) : Memref sig .tc .vmem S1024x256 .f32 := win0_7.stage (cfg0.slots t 7)
abbrev st_8 (t : Fin cfg0.N) : Memref sig .tc .vmem S1024x128 .f32 := win0_8.stage (cfg0.slots t 8)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ d, owns (c : Thread nD τ) (st_5 t) fullShare ((dats m 0 c).before 5 t d))
    ∗ (∃ d, owns (c : Thread nD τ) (st_6 t) fullShare ((dats m 0 c).before 6 t d))
    ∗ (∃ d, owns (c : Thread nD τ) (st_7 t) fullShare ((dats m 0 c).before 7 t d))
    ∗ (∃ d, owns (c : Thread nD τ) (st_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t)
    ∗ owns (c : Thread nD τ) (st_3 t) fullShare ((dats m 0 c).after 3 t)
    ∗ owns (c : Thread nD τ) (st_4 t) fullShare ((dats m 0 c).after 4 t)
    ∗ owns (c : Thread nD τ) (st_5 t) fullShare ((dats m 0 c).after 5 t)
    ∗ owns (c : Thread nD τ) (st_6 t) fullShare ((dats m 0 c).after 6 t)
    ∗ owns (c : Thread nD τ) (st_7 t) fullShare ((dats m 0 c).after 7 t)
    ∗ owns (c : Thread nD τ) (st_8 t) fullShare ((dats m 0 c).after 8 t))

/-- What the body leaves in the query gradients' buffer, whatever it found there at a head's first tile. -/
theorem pointDq_after (c : Dev nD) (t : Fin cfg0.N) (d) :
    pointDq (grid0.coords t) (iblk m c 0 t) (iblk m c 1 t) (iblk m c 2 t) (iblk m c 3 t) (iblk m c 4 t) (iblk m c 5 t) ((dats m 0 c).before 6 t d)
      = dqAfter m c t.val t.isLt := by
  rw [dqAfter_eq, pointDq, startD_before m c t _ (fun h => before_6 m c t h d)]
  by_cases h : t.val % 4 = 3
  · rw [if_pos ((cond1_iff t).mpr h), if_pos h]; rfl
  · rw [if_neg (fun h' => h ((cond1_iff t).mp h')), if_neg h]; rfl

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← pointDq_after m c t d6, stAt, ← startD_before m c t _ (fun h => before_6 m c t h d6)]
  iapply (kernelRun c (grid0.coords t) _ _ _ _ _ _ _ _ _ _ _ _ _ _ _ _ _ _ (iblk m c 0 t) (iblk m c 1 t) (iblk m c 2 t) (iblk m c 3 t) (iblk m c 4 t) (iblk m c 5 t) ((dats m 0 c).before 6 t d6))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every final state holds the arrays as the points leave them, what the host lines after the region make of them, and counters at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Attn
-- ==== Proof.AttnPoint.lean ====
module

public import proofs.«01_k».proof.Proof.AttnRun
public import Idealize.ShloMosaic.Lib.Pointwise
public import Idealize.ShloMosaic.Lib.WordCmp

@[expose] public section

set_option maxRecDepth 16384

noncomputable section

namespace Cert.KernelIdeal.Attn

open Idealize.ShloMosaic TcCoe Idealize.ShloMosaic.Tactic
open Idealize.SL.Sem
open KernelIdeal KernelIdeal.Gen

variable (C : ℕ) (x2 : FVec Ideal S4096x256 .bf16) (x3 : FVec Ideal S1024x256 .bf16) (x4 : FVec Ideal S1024x128 .bf16)
  (x5 : FVec Ideal S4096x128 .bf16) (x6 x7 : FVec Ideal S4096x128 .f32)

/-- The weight of key `j` of a tile for query row `r`, before the causal mask. -/
def wt (r : Fin 4096) (j : Fin 1024) : EReal := FloatOps.exp2 (F := Ideal) (φ := .f32) ((∑ d, x2 (ix2 r d) * x3 (ix2 j d)) - x6 (ix2 r 0))

/-- The gradient of that score, before the mask. -/
def ws (r : Fin 4096) (j : Fin 1024) : EReal := wt x2 x3 x6 r j * ((∑ d, x5 (ix2 r d) * x4 (ix2 j d)) - x7 (ix2 r 0))

/-- The masked weight, where the tile's keys start at row `C`. -/
def pr (r : Fin 4096) (j : Fin 1024) : EReal := if C + j.val ≤ r.val then wt x2 x3 x6 r j else 0

/-- The masked gradient of the score. -/
def ds (r : Fin 4096) (j : Fin 1024) : EReal := if C + j.val ≤ r.val then ws x2 x3 x4 x5 x6 x7 r j else 0

/-- What 512 query rows from `R` on add to the three gradients. -/
structure Adv (R : ℕ) (h : R + 512 ≤ 4096) (s s' : St Ideal) : Prop where
  dk : ∀ (j : Fin 1024) (e : Fin 256), s'.1.1 (ix2 j e) = s.1.1 (ix2 j e)
    + ∑ a : Fin 512, ds C x2 x3 x4 x5 x6 x7 ⟨R + a.val, by omega⟩ j * x2 (ix2 ⟨R + a.val, by omega⟩ e)
  dv : ∀ (j : Fin 1024) (e : Fin 128), s'.1.2 (ix2 j e) = s.1.2 (ix2 j e)
    + ∑ a : Fin 512, pr C x2 x3 x6 ⟨R + a.val, by omega⟩ j * x5 (ix2 ⟨R + a.val, by omega⟩ e)
  dq : ∀ (r : Fin 4096) (e : Fin 256), s'.2 (ix2 r e) =
    if R ≤ r.val ∧ r.val < R + 512 then s.2 (ix2 r e) + ∑ j : Fin 1024, ds C x2 x3 x4 x5 x6 x7 r j * x3 (ix2 j e) else s.2 (ix2 r e)

theorem qRows_at {R : ℕ} (h : R + 512 ≤ 4096) (a : Fin 512) (e : Fin 256) :
    qRows (F := Ideal) x2 h (ix2 a e) = x2 (ix2 ⟨R + a.val, by omega⟩ e) :=
  congrArg x2 (by idx_ext)

theorem oRows_at {R : ℕ} (h : R + 512 ≤ 4096) (a : Fin 512) (e : Fin 128) :
    oRows (F := Ideal) x5 h (ix2 a e) = x5 (ix2 ⟨R + a.val, by omega⟩ e) :=
  congrArg x5 (by idx_ext)

theorem lRows_at {R : ℕ} (h : R + 512 ≤ 4096) (a : Fin 512) :
    lRows (F := Ideal) x6 h (ix2 a 0) = x6 (ix2 ⟨R + a.val, by omega⟩ 0) :=
  congrArg x6 (by idx_ext)

theorem dRows_at (D : FVec Ideal S4096x256 .f32) {R : ℕ} (h : R + 512 ≤ 4096) (a : Fin 512) (e : Fin 256) :
    dRows (F := Ideal) D h (ix2 a e) = D (ix2 ⟨R + a.val, by omega⟩ e) :=
  congrArg D (by idx_ext)

theorem put_at (D : FVec Ideal S4096x256 .f32) (R : ℕ) (w : FVec Ideal S512x256 .f32) (r : Fin 4096) (e : Fin 256) :
    (VecWindow.put D ![R, 0] S512x256.size w : FVec Ideal S4096x256 .f32) (ix2 r e)
      = if h : R ≤ r.val ∧ r.val < R + 512 then w (ix2 ⟨r.val - R, by omega⟩ e) else D (ix2 r e) := by
  unfold VecWindow.put
  by_cases h : R ≤ r.val ∧ r.val < R + 512
  · rw [dif_pos h, dif_pos (show ∀ a : Fin 2, (![R, 0] : Fin 2 → ℕ) a ≤ ((ix2 r e : S4096x256.Idx) a).val ∧ ((ix2 r e : S4096x256.Idx) a).val < (![R, 0] : Fin 2 → ℕ) a + S512x256.size a from
      fun | ⟨0, _⟩ => h | ⟨1, _⟩ => ⟨Nat.zero_le _, by show e.val < 0 + 256; omega⟩)]
    exact congrArg w (by idx_ext)
  · rw [dif_neg h, dif_neg (fun hall => h (hall 0))]

theorem word_row (c o j : ℕ) : IntOp.addi (Scalar.addi (Scalar.muli (BitVec.ofNat 32 c) 1024#32) (BitVec.ofNat 32 o)) (BitVec.ofNat 32 j)
    = BitVec.ofNat 32 (1024 * c + o + j) := by
  rw [BitVec.ofNat_add, BitVec.ofNat_add, Nat.mul_comm, BitVec.ofNat_mul]; rfl

theorem word_key (c j : ℕ) : IntOp.addi (Scalar.muli (BitVec.ofNat 32 c) 1024#32) (BitVec.ofNat 32 j)
    = BitVec.ofNat 32 (1024 * c + j) := by
  rw [BitVec.ofNat_add, Nat.mul_comm, BitVec.ofNat_mul]; rfl

theorem sel_row (c o j x : ℕ) (hc : c < 4) (ho : o ≤ 512) (hj : j < 1024) (hx : x < 512) (a : EReal) :
    Scalar.select (IntOp.cmpi CmpIPredicate.sle (IntOp.addi (Scalar.muli (BitVec.ofNat 32 c) 1024#32) (BitVec.ofNat 32 j))
      (IntOp.addi (Scalar.addi (Scalar.muli (BitVec.ofNat 32 c) 1024#32) (BitVec.ofNat 32 o)) (BitVec.ofNat 32 x))) a 0
    = if 1024 * c + j ≤ 1024 * c + o + x then a else 0 := by
  rw [word_row, word_key]
  word_cmp

theorem adv_halfA (R : ℕ) (h : R + 512 ≤ 4096) (hC : C + 1024 ≤ R) (s : St Ideal) :
    Adv C x2 x3 x4 x5 x6 x7 R h s (halfA (k0_pay19 x3) (k0_pay20 x4) x2 x5 x6 x7 h s) where
  dk j e := by
    obtain ⟨⟨s1, s2⟩, s3⟩ := s
    show k0_pay7 _ _ _ _ _ _ _ _ = _
    pointwise [k0_pay7, k0_pay5, k0_pay4, k0_pay3, k0_pay2, k0_pay19, k0_pay20]
    refine congrArg _ (Finset.sum_congr rfl fun a _ => ?_)
    rw [ds, if_pos (by have := j.isLt; show C + j.val ≤ R + a.val; omega), ws, wt]
    simp only [qRows_at x2, oRows_at x5, lRows_at x6, lRows_at x7]
  dv j e := by
    obtain ⟨⟨s1, s2⟩, s3⟩ := s
    show k0_pay8 _ _ _ _ _ _ = _
    pointwise [k0_pay8, k0_pay4, k0_pay3, k0_pay2, k0_pay19, k0_pay20]
    refine congrArg _ (Finset.sum_congr rfl fun a _ => ?_)
    rw [pr, if_pos (by have := j.isLt; show C + j.val ≤ R + a.val; omega), wt]
    simp only [qRows_at x2, oRows_at x5, lRows_at x6]
  dq r e := by
    obtain ⟨⟨s1, s2⟩, s3⟩ := s
    refine (put_at s3 R _ r e).trans ?_
    by_cases hr : R ≤ r.val ∧ r.val < R + 512
    · rw [dif_pos hr, if_pos hr]
      pointwise [k0_pay6, k0_pay5, k0_pay4, k0_pay3, k0_pay2, k0_pay19, k0_pay20]
      have e1 : (⟨R + (r.val - R), by omega⟩ : Fin 4096) = r := Fin.ext (by show R + (r.val - R) = r.val; omega)
      simp only [qRows_at x2, oRows_at x5, lRows_at x6, lRows_at x7, dRows_at s3, e1]
      refine congrArg _ (Finset.sum_congr rfl fun j _ => ?_)
      rw [ds, if_pos (by have := j.isLt; omega), ws, wt]
    · rw [dif_neg hr, if_neg hr]

theorem adv_halfB (R : ℕ) (h : R + 512 ≤ 4096) (hC : C + 1024 ≤ R) (s : St Ideal) :
    Adv C x2 x3 x4 x5 x6 x7 R h s (halfB (k0_pay19 x3) (k0_pay20 x4) x2 x5 x6 x7 h s) where
  dk j e := by
    obtain ⟨⟨s1, s2⟩, s3⟩ := s
    show k0_pay47 _ _ _ _ _ _ _ _ = _
    pointwise [k0_pay47, k0_pay45, k0_pay44, k0_pay43, k0_pay9, k0_pay19, k0_pay20]
    refine congrArg _ (Finset.sum_congr rfl fun a _ => ?_)
    rw [ds, if_pos (by have := j.isLt; show C + j.val ≤ R + a.val; omega), ws, wt]
    simp only [qRows_at x2, oRows_at x5, lRows_at x6, lRows_at x7]
  dv j e := by
    obtain ⟨⟨s1, s2⟩, s3⟩ := s
    show k0_pay48 _ _ _ _ _ _ = _
    pointwise [k0_pay48, k0_pay44, k0_pay43, k0_pay9, k0_pay19, k0_pay20]
    refine congrArg _ (Finset.sum_congr rfl fun a _ => ?_)
    rw [pr, if_pos (by have := j.isLt; show C + j.val ≤ R + a.val; omega), wt]
    simp only [qRows_at x2, oRows_at x5, lRows_at x6]
  dq r e := by
    obtain ⟨⟨s1, s2⟩, s3⟩ := s
    refine (put_at s3 R _ r e).trans ?_
    by_cases hr : R ≤ r.val ∧ r.val < R + 512
    · rw [dif_pos hr, if_pos hr]
      pointwise [k0_pay46, k0_pay45, k0_pay44, k0_pay43, k0_pay9, k0_pay19, k0_pay20]
      have e1 : (⟨R + (r.val - R), by omega⟩ : Fin 4096) = r := Fin.ext (by show R + (r.val - R) = r.val; omega)
      simp only [qRows_at x2, oRows_at x5, lRows_at x6, lRows_at x7, dRows_at s3, e1]
      refine congrArg _ (Finset.sum_congr rfl fun j _ => ?_)
      rw [ds, if_pos (by have := j.isLt; omega), ws, wt]
    · rw [dif_neg hr, if_neg hr]

theorem adv_diagB (i : grid0.Coords) (s : St Ideal) :
    Adv (1024 * (i 1).val) x2 x3 x4 x5 x6 x7 (1024 * (i 1).val + 512) (diag_rows i) s (diagB i x2 x3 x4 x5 x6 x7 (diag_rows i) s) where
  dk j e := by
    obtain ⟨⟨s1, s2⟩, s3⟩ := s
    show k0_pay41 _ _ _ _ _ _ _ _ _ = _
    pointwise [k0_pay41, k0_pay39, k0_pay38, k0_pay36, k0_pay37, k0_pay35, k0_pay34, k0_pay33, k0_pay19, k0_pay20]
    refine congrArg _ (Finset.sum_congr rfl fun a _ => ?_)
    refine (sel_row (i 1).val 512 j.val a.val (i 1).isLt (by decide) j.isLt a.isLt _).trans ?_
    rw [ds, ws, wt, ite_mul, zero_mul]
    simp only [qRows_at x2, oRows_at x5, lRows_at x6, lRows_at x7]
  dv j e := by
    obtain ⟨⟨s1, s2⟩, s3⟩ := s
    show k0_pay42 _ _ _ _ _ _ = _
    pointwise [k0_pay42, k0_pay38, k0_pay36, k0_pay37, k0_pay35, k0_pay34, k0_pay33, k0_pay19, k0_pay20]
    refine congrArg _ (Finset.sum_congr rfl fun a _ => ?_)
    refine (sel_row (i 1).val 512 j.val a.val (i 1).isLt (by decide) j.isLt a.isLt _).trans ?_
    rw [pr, wt, ite_mul, zero_mul]
    simp only [qRows_at x2, oRows_at x5, lRows_at x6]
  dq r e := by
    obtain ⟨⟨s1, s2⟩, s3⟩ := s
    refine (put_at s3 _ _ r e).trans ?_
    by_cases hr : 1024 * (i 1).val + 512 ≤ r.val ∧ r.val < 1024 * (i 1).val + 512 + 512
    · rw [dif_pos hr, if_pos hr]
      pointwise [k0_pay40, k0_pay39, k0_pay38, k0_pay36, k0_pay37, k0_pay35, k0_pay34, k0_pay33, k0_pay19, k0_pay20]
      have e1 : (⟨1024 * (i 1).val + 512 + (r.val - (1024 * (i 1).val + 512)), by omega⟩ : Fin 4096) = r :=
        Fin.ext (by show 1024 * (i 1).val + 512 + (r.val - (1024 * (i 1).val + 512)) = r.val; omega)
      simp only [qRows_at x2, oRows_at x5, lRows_at x6, lRows_at x7, dRows_at s3, e1]
      refine congrArg _ (Finset.sum_congr rfl fun j _ => ?_)
      refine (sel_row (i 1).val 512 j.val (r.val - (1024 * (i 1).val + 512)) (i 1).isLt (by decide) j.isLt (by omega) _).trans ?_
      rw [ds, ws, wt, ite_mul, zero_mul]
      exact if_congr (by omega) rfl rfl
    · rw [dif_neg hr, if_neg hr]

theorem adv_diagA (i : grid0.Coords) (D : Vec Ideal S4096x256 .f32) :
    Adv (1024 * (i 1).val) x2 x3 x4 x5 x6 x7 (1024 * (i 1).val) (by have := diag_rows i; omega) ((fun _ => 0, fun _ => 0), D)
      (diagA i x2 x3 x4 x5 x6 x7 (R := 1024 * (i 1).val) (by have := diag_rows i; omega) D) where
  dk j e := by
    show k0_pay31 _ _ _ _ _ _ _ _ = _
    pointwise [k0_pay31, k0_pay29, k0_pay27, k0_pay26, k0_pay25, k0_pay24, k0_pay23, k0_pay21, k0_pay19, k0_pay20]
    by_cases hj : j.val < 512
    · rw [dif_pos hj]
      refine Finset.sum_congr rfl fun a _ => ?_
      refine (sel_row (i 1).val 0 j.val a.val (i 1).isLt (by decide) j.isLt a.isLt _).trans ?_
      rw [ds, ws, wt, ite_mul, zero_mul]
      simp only [qRows_at x2, oRows_at x5, lRows_at x6, lRows_at x7, Nat.add_zero]
    · rw [dif_neg hj]
      refine (Finset.sum_eq_zero fun a _ => ?_).symm
      rw [ds, if_neg (by have := a.isLt; show ¬ 1024 * (i 1).val + j.val ≤ 1024 * (i 1).val + a.val; omega), zero_mul]
  dv j e := by
    show k0_pay32 _ _ _ = _
    pointwise [k0_pay32, k0_pay28, k0_pay27, k0_pay25, k0_pay24, k0_pay23, k0_pay22, k0_pay19, k0_pay20]
    by_cases hj : j.val < 512
    · rw [dif_pos hj]
      refine Finset.sum_congr rfl fun a _ => ?_
      refine (sel_row (i 1).val 0 j.val a.val (i 1).isLt (by decide) j.isLt a.isLt _).trans ?_
      rw [pr, wt, ite_mul, zero_mul]
      simp only [qRows_at x2, oRows_at x5, lRows_at x6, Nat.add_zero]
    · rw [dif_neg hj]
      refine (Finset.sum_eq_zero fun a _ => ?_).symm
      rw [pr, if_neg (by have := a.isLt; show ¬ 1024 * (i 1).val + j.val ≤ 1024 * (i 1).val + a.val; omega), zero_mul]
  dq r e := by
    refine (put_at D _ _ r e).trans ?_
    by_cases hr : 1024 * (i 1).val ≤ r.val ∧ r.val < 1024 * (i 1).val + 512
    · rw [dif_pos hr, if_pos hr]
      pointwise [k0_pay30, k0_pay29, k0_pay27, k0_pay26, k0_pay25, k0_pay24, k0_pay23, k0_pay19, k0_pay20]
      have e1 : (⟨1024 * (i 1).val + (r.val - 1024 * (i 1).val), by omega⟩ : Fin 4096) = r :=
        Fin.ext (by show 1024 * (i 1).val + (r.val - 1024 * (i 1).val) = r.val; omega)
      rw [Fin.sum_univ_two_halves 512 512 rfl (fun x : Fin 1024 => ds (1024 * (i 1).val) x2 x3 x4 x5 x6 x7 r x * x3 (ix2 x e)),
        Finset.sum_eq_zero (f := fun k : Fin 512 => ds (1024 * (i 1).val) x2 x3 x4 x5 x6 x7 r ⟨512 + k.val, by omega⟩ * x3 (ix2 ⟨512 + k.val, by omega⟩ e))
          (fun k _ => by rw [ds, if_neg (by show ¬ 1024 * (i 1).val + (512 + k.val) ≤ r.val; omega), zero_mul]), add_zero]
      simp only [qRows_at x2, oRows_at x5, lRows_at x6, lRows_at x7, dRows_at D, e1]
      refine congrArg _ (Finset.sum_congr rfl fun j _ => ?_)
      refine (sel_row (i 1).val 0 j.val (r.val - 1024 * (i 1).val) (i 1).isLt (by decide) (by have := j.isLt; omega) (by omega) _).trans ?_
      rw [ds, ws, wt, ite_mul, zero_mul]
      exact if_congr (by show _ ↔ 1024 * (i 1).val + j.val ≤ r.val; omega) rfl rfl
    · rw [dif_neg hr, if_neg hr]

/-- The three gradients after the query rows before `R`, over those the point started with. -/
structure Upto (R : ℕ) (D : Vec Ideal S4096x256 .f32) (s : St Ideal) : Prop where
  dk : ∀ (j : Fin 1024) (e : Fin 256), s.1.1 (ix2 j e)
    = ∑ n ∈ Finset.Ico C R, if h : n < 4096 then ds C x2 x3 x4 x5 x6 x7 ⟨n, h⟩ j * x2 (ix2 ⟨n, h⟩ e) else 0
  dv : ∀ (j : Fin 1024) (e : Fin 128), s.1.2 (ix2 j e)
    = ∑ n ∈ Finset.Ico C R, if h : n < 4096 then pr C x2 x3 x6 ⟨n, h⟩ j * x5 (ix2 ⟨n, h⟩ e) else 0
  dq : ∀ (r : Fin 4096) (e : Fin 256), s.2 (ix2 r e) =
    if C ≤ r.val ∧ r.val < R then D (ix2 r e) + ∑ j : Fin 1024, ds C x2 x3 x4 x5 x6 x7 r j * x3 (ix2 j e) else D (ix2 r e)

theorem sum_rows (f : Fin 4096 → EReal) (R : ℕ) (h : R + 512 ≤ 4096) :
    ∑ a : Fin 512, f ⟨R + a.val, by omega⟩ = ∑ n ∈ Finset.Ico R (R + 512), if h : n < 4096 then f ⟨n, h⟩ else 0 := by
  rw [Finset.sum_Ico_eq_sum_range, show R + 512 - R = 512 by omega, Finset.sum_range]
  exact Finset.sum_congr rfl fun a _ => by rw [dif_pos (show R + a.val < 4096 by omega)]

theorem Upto.step {C : ℕ} {x2 x3 x4 x5 x6 x7} {R : ℕ} {h : R + 512 ≤ 4096} {D : Vec Ideal S4096x256 .f32} {s s' : St Ideal} (hC : C ≤ R)
    (u : Upto C x2 x3 x4 x5 x6 x7 R D s) (a : Adv C x2 x3 x4 x5 x6 x7 R h s s') : Upto C x2 x3 x4 x5 x6 x7 (R + 512) D s' where
  dk j e := by
    rw [a.dk, u.dk, sum_rows (fun r => ds C x2 x3 x4 x5 x6 x7 r j * x2 (ix2 r e)) R h,
      Finset.sum_Ico_consecutive _ hC (Nat.le_add_right R 512)]
  dv j e := by
    rw [a.dv, u.dv, sum_rows (fun r => pr C x2 x3 x6 r j * x5 (ix2 r e)) R h,
      Finset.sum_Ico_consecutive _ hC (Nat.le_add_right R 512)]
  dq r e := by
    rw [a.dq, u.dq]
    by_cases h1 : R ≤ r.val ∧ r.val < R + 512
    · rw [if_pos h1, if_neg (by omega), if_pos (by omega)]
    · rw [if_neg h1]; exact if_congr (by omega) rfl rfl

theorem upto_zero (C : ℕ) (D : Vec Ideal S4096x256 .f32) : Upto C x2 x3 x4 x5 x6 x7 C D ((fun _ => 0, fun _ => 0), D) where
  dk j e := by rw [Finset.Ico_self, Finset.sum_empty]
  dv j e := by rw [Finset.Ico_self, Finset.sum_empty]
  dq r e := by rw [if_neg (by omega)]

theorem upto_loop (i : grid0.Coords) (D : Vec Ideal S4096x256 .f32) (s : St Ideal)
    (hs : Upto (1024 * (i 1).val) x2 x3 x4 x5 x6 x7 (1024 * (i 1).val + 512 + 512) D s) :
    ∀ k, (i 1).val + 1 + k ≤ 4 → Upto (1024 * (i 1).val) x2 x3 x4 x5 x6 x7 (1024 * ((i 1).val + 1 + k)) D
      (loopSt i (k0_pay19 x3) (k0_pay20 x4) x2 x5 x6 x7 s k)
  | 0, _ => hs
  | k + 1, hk => by
    have ih := upto_loop i D s hs k (by omega)
    have hr : 1024 * ((i 1).val + 1 + k) + 1024 ≤ 4096 := by omega
    rw [loopSt, dif_pos hr]
    have hC : 1024 * (i 1).val ≤ 1024 * ((i 1).val + 1 + k) := by omega
    have u1 := ih.step hC (adv_halfA (1024 * (i 1).val) x2 x3 x4 x5 x6 x7 (1024 * ((i 1).val + 1 + k)) (by omega) (by omega) _)
    exact u1.step (hC.trans (Nat.le_add_right _ 512)) (adv_halfB (1024 * (i 1).val) x2 x3 x4 x5 x6 x7 (1024 * ((i 1).val + 1 + k) + 512) (by omega) (by omega) _)

theorem upto_point (i : grid0.Coords) (D : Vec Ideal S4096x256 .f32) :
    Upto (1024 * (i 1).val) x2 x3 x4 x5 x6 x7 4096 D (pointSt i x2 x3 x4 x5 x6 x7 D) := by
  have h4 : (i 1).val < 4 := (i 1).isLt
  have u0 := (upto_zero x2 x3 x4 x5 x6 x7 (1024 * (i 1).val) D).step (le_refl _) (adv_diagA x2 x3 x4 x5 x6 x7 i D)
  have u1 := u0.step (by omega) (adv_diagB x2 x3 x4 x5 x6 x7 i _)
  have u2 := upto_loop x2 x3 x4 x5 x6 x7 i D _ u1 (3 - (i 1).val) (by omega)
  rwa [show 1024 * ((i 1).val + 1 + (3 - (i 1).val)) = 4096 by omega] at u2

theorem sum_from (f : Fin 4096 → EReal) (C : ℕ) (h0 : ∀ r : Fin 4096, r.val < C → f r = 0) :
    (∑ n ∈ Finset.Ico C 4096, if h : n < 4096 then f ⟨n, h⟩ else 0) = ∑ r, f r := by
  have e : ∑ r, f r = ∑ n ∈ Finset.range 4096, if h : n < 4096 then f ⟨n, h⟩ else 0 := by
    rw [Finset.sum_range]; exact Finset.sum_congr rfl fun r _ => by rw [dif_pos r.isLt]
  rw [e]
  refine Finset.sum_subset (fun n hn => Finset.mem_range.2 (Finset.mem_Ico.1 hn).2) fun n hn hm => ?_
  have h : n < 4096 := Finset.mem_range.1 hn
  rw [dif_pos h]
  exact h0 ⟨n, h⟩ (by by_contra hc; exact hm (Finset.mem_Ico.2 ⟨by simpa using hc, h⟩))

/-- A key row's gradient after the point, before the last scale. -/
theorem point_dk (i : grid0.Coords) (D : Vec Ideal S4096x256 .f32) (j : Fin 1024) (e : Fin 256) :
    (pointSt i x2 x3 x4 x5 x6 x7 D).1.1 (ix2 j e) = ∑ r, ds (1024 * (i 1).val) x2 x3 x4 x5 x6 x7 r j * x2 (ix2 r e) := by
  rw [(upto_point x2 x3 x4 x5 x6 x7 i D).dk]
  exact sum_from (fun r => ds (1024 * (i 1).val) x2 x3 x4 x5 x6 x7 r j * x2 (ix2 r e)) _ fun r hr => by
    show ds _ _ _ _ _ _ _ _ _ * _ = 0
    rw [ds, if_neg (by omega), zero_mul]

/-- A value row's gradient after the point. -/
theorem point_dv (i : grid0.Coords) (D : Vec Ideal S4096x256 .f32) (j : Fin 1024) (e : Fin 128) :
    (pointSt i x2 x3 x4 x5 x6 x7 D).1.2 (ix2 j e) = ∑ r, pr (1024 * (i 1).val) x2 x3 x6 r j * x5 (ix2 r e) := by
  rw [(upto_point x2 x3 x4 x5 x6 x7 i D).dv]
  exact sum_from (fun r => pr (1024 * (i 1).val) x2 x3 x6 r j * x5 (ix2 r e)) _ fun r hr => by
    show pr _ _ _ _ _ _ * _ = 0
    rw [pr, if_neg (by omega), zero_mul]

/-- A query row's gradient after the point: the tile's part is added. -/
theorem point_dq (i : grid0.Coords) (D : Vec Ideal S4096x256 .f32) (r : Fin 4096) (e : Fin 256) :
    (pointSt i x2 x3 x4 x5 x6 x7 D).2 (ix2 r e) = D (ix2 r e) + ∑ j, ds (1024 * (i 1).val) x2 x3 x4 x5 x6 x7 r j * x3 (ix2 j e) := by
  rw [(upto_point x2 x3 x4 x5 x6 x7 i D).dq]
  by_cases h : 1024 * (i 1).val ≤ r.val ∧ r.val < 4096
  · rw [if_pos h]
  · rw [if_neg h, Finset.sum_eq_zero fun j _ => by rw [ds, if_neg (by have := r.isLt; omega), zero_mul], add_zero]

end Cert.KernelIdeal.Attn
-- ==== Proof.AttnArr.lean ====
/- What the attention backward region leaves in its three result arrays, as sums over the arrays it is launched with. -/
module

public import proofs.«01_k».proof.Proof.AttnFrame
public import proofs.«01_k».proof.Proof.AttnPoint
public import Idealize.ShloMosaic.Lib.Pipeline.ValueKit

@[expose] public section

set_option maxRecDepth 16384

noncomputable section

namespace Cert.KernelIdeal.Attn

open Idealize.ShloMosaic TcCoe Idealize.ShloMosaic.Tactic
open Idealize.SL.Sem
open Idealize.ShloMosaic.Pipeline (Dat)
open KernelIdeal KernelIdeal.Gen
open scoped BigOperators

/-- Column `e` of head `h` in an array with 256 columns a head, -/
abbrev col (h : Fin 4) (e : Fin 256) : Fin 1024 := ⟨256 * h.val + e.val, by omega⟩
/-- and in one with 128 columns a head. -/
abbrev vcol (h : Fin 4) (e : Fin 128) : Fin 512 := ⟨128 * h.val + e.val, by omega⟩

section
variable (Q K : FVec Ideal S4096x1024 .bf16) (W O : FVec Ideal S4096x512 .bf16) (L D : FVec Ideal S4096x512 .f32)

/-- The masked weight of key `k` for query `r` in head `h`. -/
def gp (h : Fin 4) (r k : Fin 4096) : EReal :=
  if k.val ≤ r.val then FloatOps.exp2 (F := Ideal) (φ := .f32) ((∑ d, Q (ix2 r (col h d)) * K (ix2 k (col h d))) - L (ix2 r (vcol h 0))) else 0

/-- The masked gradient of that score. -/
def gds (h : Fin 4) (r k : Fin 4096) : EReal :=
  if k.val ≤ r.val then FloatOps.exp2 (F := Ideal) (φ := .f32) ((∑ d, Q (ix2 r (col h d)) * K (ix2 k (col h d))) - L (ix2 r (vcol h 0)))
    * ((∑ d, O (ix2 r (vcol h d)) * W (ix2 k (vcol h d))) - D (ix2 r (vcol h 0))) else 0
end

/-- The log of two the kernel multiplies by. -/
def ln2 : EReal := ((Real.log 2 : ℝ) : EReal)

theorem pay1_at (x : Vec Ideal S4096x256 .f32) (r : Fin 4096) (e : Fin 256) : k0_pay1 (F := Ideal) x (ix2 r e) = x (ix2 r e) * ln2 := by
  pointwise [k0_pay1]
  rfl

theorem pay55_at (x : Vec Ideal S1024x256 .f32) (r : Fin 1024) (e : Fin 256) : k0_pay55 (F := Ideal) x (ix2 r e) = x (ix2 r e) * ln2 := by
  pointwise [k0_pay55]
  rfl

theorem pay18_at (r : Fin 4096) (e : Fin 256) : k0_pay18 (F := Ideal) (ix2 r e) = 0 := by
  pointwise! [k0_pay18]

/-- Every window's block index at every grid point. -/
theorem idx_val : ∀ t : Fin cfg0.N, win0_0.index t = ![0, t.val / 4]
    ∧ win0_1.index t = ![t.val % 4, t.val / 4]
    ∧ win0_2.index t = ![t.val % 4, t.val / 4]
    ∧ win0_3.index t = ![0, t.val / 4]
    ∧ win0_4.index t = ![0, t.val / 4]
    ∧ win0_5.index t = ![0, t.val / 4]
    ∧ win0_6.index t = ![0, t.val / 4]
    ∧ win0_7.index t = ![t.val % 4, t.val / 4]
    ∧ win0_8.index t = ![t.val % 4, t.val / 4] :=
  (by decide +kernel : ∀ t : Fin grid0.N, _)

theorem point_lt (t : Fin cfg0.N) : t.val < 16 := t.isLt

variable (m : (ℓ : Loc nD τ sig) → Buf (Elt Ideal) ℓ) (c : Dev nD)

/-- The arrays the region is launched with. -/
def aQ : FVec Ideal S4096x1024 .bf16 := V m c (Pipeline.arrRef spec0 0)
def aK : FVec Ideal S4096x1024 .bf16 := V m c (Pipeline.arrRef spec0 1)
def aW : FVec Ideal S4096x512 .bf16 := V m c (Pipeline.arrRef spec0 2)
def aO : FVec Ideal S4096x512 .bf16 := V m c (Pipeline.arrRef spec0 3)
def aL : FVec Ideal S4096x512 .f32 := V m c (Pipeline.arrRef spec0 4)
def aD : FVec Ideal S4096x512 .f32 := V m c (Pipeline.arrRef spec0 5)

/-- The head of a point, -/
abbrev hd (t : Fin cfg0.N) : Fin 4 := ⟨t.val / 4, by have := point_lt t; omega⟩
/-- and row `j` of its key tile. -/
abbrev row (t : Fin cfg0.N) (j : Fin 1024) : Fin 4096 := ⟨1024 * (t.val % 4) + j.val, by omega⟩

theorem read_0 (X : FVec Ideal S4096x1024 .bf16) (t : Fin cfg0.N) (r : Fin 4096) (d : Fin 256) :
    ((cfg0.win 0).blk t).view.read (Elt Ideal) X (ix2 r d) = X (ix2 r (col (hd t) d)) := by
  blk_ext [idx_val t]
theorem blk_0 (t : Fin cfg0.N) (r : Fin 4096) (d : Fin 256) : iblk m c 0 t (ix2 r d) = aQ m c (ix2 r (col (hd t) d)) :=
  read_0 (V m c (Pipeline.arrRef spec0 0)) t r d
theorem read_1 (X : FVec Ideal S4096x1024 .bf16) (t : Fin cfg0.N) (j : Fin 1024) (d : Fin 256) :
    ((cfg0.win 1).blk t).view.read (Elt Ideal) X (ix2 j d) = X (ix2 (row t j) (col (hd t) d)) := by
  blk_ext [idx_val t]
theorem blk_1 (t : Fin cfg0.N) (j : Fin 1024) (d : Fin 256) : iblk m c 1 t (ix2 j d) = aK m c (ix2 (row t j) (col (hd t) d)) :=
  read_1 (V m c (Pipeline.arrRef spec0 1)) t j d
theorem read_2 (X : FVec Ideal S4096x512 .bf16) (t : Fin cfg0.N) (j : Fin 1024) (d : Fin 128) :
    ((cfg0.win 2).blk t).view.read (Elt Ideal) X (ix2 j d) = X (ix2 (row t j) (vcol (hd t) d)) := by
  blk_ext [idx_val t]
theorem blk_2 (t : Fin cfg0.N) (j : Fin 1024) (d : Fin 128) : iblk m c 2 t (ix2 j d) = aW m c (ix2 (row t j) (vcol (hd t) d)) :=
  read_2 (V m c (Pipeline.arrRef spec0 2)) t j d
theorem read_3 (X : FVec Ideal S4096x512 .bf16) (t : Fin cfg0.N) (r : Fin 4096) (d : Fin 128) :
    ((cfg0.win 3).blk t).view.read (Elt Ideal) X (ix2 r d) = X (ix2 r (vcol (hd t) d)) := by
  blk_ext [idx_val t]
theorem blk_3 (t : Fin cfg0.N) (r : Fin 4096) (d : Fin 128) : iblk m c 3 t (ix2 r d) = aO m c (ix2 r (vcol (hd t) d)) :=
  read_3 (V m c (Pipeline.arrRef spec0 3)) t r d
theorem read_4 (X : FVec Ideal S4096x512 .f32) (t : Fin cfg0.N) (r : Fin 4096) (d : Fin 128) :
    ((cfg0.win 4).blk t).view.read (Elt Ideal) X (ix2 r d) = X (ix2 r (vcol (hd t) d)) := by
  blk_ext [idx_val t]
theorem blk_4 (t : Fin cfg0.N) (r : Fin 4096) (d : Fin 128) : iblk m c 4 t (ix2 r d) = aL m c (ix2 r (vcol (hd t) d)) :=
  read_4 (V m c (Pipeline.arrRef spec0 4)) t r d
theorem read_5 (X : FVec Ideal S4096x512 .f32) (t : Fin cfg0.N) (r : Fin 4096) (d : Fin 128) :
    ((cfg0.win 5).blk t).view.read (Elt Ideal) X (ix2 r d) = X (ix2 r (vcol (hd t) d)) := by
  blk_ext [idx_val t]
theorem blk_5 (t : Fin cfg0.N) (r : Fin 4096) (d : Fin 128) : iblk m c 5 t (ix2 r d) = aD m c (ix2 r (vcol (hd t) d)) :=
  read_5 (V m c (Pipeline.arrRef spec0 5)) t r d

theorem pr_eq (t : Fin cfg0.N) (r : Fin 4096) (j : Fin 1024) :
    pr (1024 * (grid0.coords t 1).val) (iblk m c 0 t) (iblk m c 1 t) (iblk m c 4 t) r j = gp (aQ m c) (aK m c) (aL m c) (hd t) r (row t j) := by
  unfold pr gp wt
  simp only [blk_0, blk_1, blk_4, tile_of]

theorem ds_eq (t : Fin cfg0.N) (r : Fin 4096) (j : Fin 1024) :
    ds (1024 * (grid0.coords t 1).val) (iblk m c 0 t) (iblk m c 1 t) (iblk m c 2 t) (iblk m c 3 t) (iblk m c 4 t) (iblk m c 5 t) r j
      = gds (aQ m c) (aK m c) (aW m c) (aO m c) (aL m c) (aD m c) (hd t) r (row t j) := by
  unfold ds gds ws wt
  simp only [blk_0, blk_1, blk_2, blk_3, blk_4, blk_5, tile_of]

/-- The gradient of the values. -/
def arrV : FVec Ideal S4096x512 .f32 := fun i =>
  ∑ r : Fin 4096, gp (aQ m c) (aK m c) (aL m c) ⟨(i 1).val / 128, by have := (i 1).isLt; change _ < 512 at this; omega⟩ r (i 0) * aO m c (ix2 r (i 1))

/-- The gradient of the keys. -/
def arrK : FVec Ideal S4096x1024 .f32 := fun i =>
  (∑ r : Fin 4096, gds (aQ m c) (aK m c) (aW m c) (aO m c) (aL m c) (aD m c) ⟨(i 1).val / 256, by have := (i 1).isLt; change _ < 1024 at this; omega⟩ r (i 0)
    * aQ m c (ix2 r (i 1))) * ln2

/-- The gradient of the queries. -/
def arrQ : FVec Ideal S4096x1024 .f32 := fun i =>
  (∑ k : Fin 4096, gds (aQ m c) (aK m c) (aW m c) (aO m c) (aL m c) (aD m c) ⟨(i 1).val / 256, by have := (i 1).isLt; change _ < 1024 at this; omega⟩ (i 0) k
    * aK m c (ix2 k (i 1))) * ln2

theorem emb_8 (t : Fin cfg0.N) (j : Fin 1024) (e : Fin 128) : ((cfg0.win 8).blk t).view.emb (ix2 j e) = ix2 (row t j) (vcol (hd t) e) := by
  blk_ext [idx_val t]
theorem emb_7 (t : Fin cfg0.N) (j : Fin 1024) (e : Fin 256) : ((cfg0.win 7).blk t).view.emb (ix2 j e) = ix2 (row t j) (col (hd t) e) := by
  blk_ext [idx_val t]
theorem emb_6 (t : Fin cfg0.N) (r : Fin 4096) (e : Fin 256) : ((cfg0.win 6).blk t).view.emb (ix2 r e) = ix2 r (col (hd t) e) := by
  blk_ext [idx_val t]

theorem arrV_at (h : Fin 4) (k : Fin 4096) (e : Fin 128) :
    arrV m c (ix2 k (vcol h e)) = ∑ r : Fin 4096, gp (aQ m c) (aK m c) (aL m c) h r k * aO m c (ix2 r (vcol h e)) := by
  have he : (⟨(vcol h e).val / 128, by have := (vcol h e).isLt; omega⟩ : Fin 4) = h := Fin.ext (by show (128 * h.val + e.val) / 128 = _; omega)
  exact congrArg (fun h' => ∑ r : Fin 4096, gp (aQ m c) (aK m c) (aL m c) h' r k * aO m c (ix2 r (vcol h e))) he

theorem arrK_at (h : Fin 4) (k : Fin 4096) (e : Fin 256) :
    arrK m c (ix2 k (col h e)) = (∑ r : Fin 4096, gds (aQ m c) (aK m c) (aW m c) (aO m c) (aL m c) (aD m c) h r k * aQ m c (ix2 r (col h e))) * ln2 := by
  have he : (⟨(col h e).val / 256, by have := (col h e).isLt; omega⟩ : Fin 4) = h := Fin.ext (by show (256 * h.val + e.val) / 256 = _; omega)
  exact congrArg (fun h' => (∑ r : Fin 4096, gds (aQ m c) (aK m c) (aW m c) (aO m c) (aL m c) (aD m c) h' r k * aQ m c (ix2 r (col h e))) * ln2) he

theorem arrQ_at (h : Fin 4) (r : Fin 4096) (e : Fin 256) :
    arrQ m c (ix2 r (col h e)) = (∑ k : Fin 4096, gds (aQ m c) (aK m c) (aW m c) (aO m c) (aL m c) (aD m c) h r k * aK m c (ix2 k (col h e))) * ln2 := by
  have he : (⟨(col h e).val / 256, by have := (col h e).isLt; omega⟩ : Fin 4) = h := Fin.ext (by show (256 * h.val + e.val) / 256 = _; omega)
  exact congrArg (fun h' => (∑ k : Fin 4096, gds (aQ m c) (aK m c) (aW m c) (aO m c) (aL m c) (aD m c) h' r k * aK m c (ix2 k (col h e))) * ln2) he

theorem final_8 : (dats m 0 c).arrAt 8 (cfgs 0).N = arrV m c := by
  refine (dats m 0 c).arrAt_eq_of_covers 8 _ (by decide +kernel) fun t hf y => ?_
  rw [after_8]
  idx_vars y
  refine (point_dv _ _ _ _ _ _ _ _ _ _).trans (((arrV_at m c (hd t) (row t y0) y1).trans ?_).symm.trans (congrArg (arrV m c) (emb_8 t y0 y1).symm))
  exact Finset.sum_congr rfl fun r _ => by rw [pr_eq, blk_3]

theorem final_7 : (dats m 0 c).arrAt 7 (cfgs 0).N = arrK m c := by
  refine (dats m 0 c).arrAt_eq_of_covers 7 _ (by decide +kernel) fun t hf y => ?_
  rw [after_7]
  idx_vars y
  refine (pay55_at _ _ _).trans ((congrArg (· * ln2) ((point_dk _ _ _ _ _ _ _ _ _ _).trans ?_)).trans ((arrK_at m c (hd t) (row t y0) y1).symm.trans (congrArg (arrK m c) (emb_7 t y0 y1).symm)))
  exact Finset.sum_congr rfl fun r _ => by rw [ds_eq, blk_0]

/-- What key tile `s` of head `h` adds to the gradient of query `r`. -/
def part (h : Fin 4) (r : Fin 4096) (e : Fin 256) (s : Fin 4) : EReal :=
  ∑ j : Fin 1024, gds (aQ m c) (aK m c) (aW m c) (aO m c) (aL m c) (aD m c) h r ⟨1024 * s.val + j.val, by omega⟩
    * aK m c (ix2 ⟨1024 * s.val + j.val, by omega⟩ (col h e))

theorem st_dq (t : Fin cfg0.N) (r : Fin 4096) (e : Fin 256) :
    (stAt m c t).2 (ix2 r e) = dqBefore m c t (ix2 r e) + part m c (hd t) r e ⟨t.val % 4, by omega⟩ := by
  refine (point_dq _ _ _ _ _ _ _ _ _ _).trans (congrArg (dqBefore m c t (ix2 r e) + ·) ?_)
  exact Finset.sum_congr rfl fun r _ => by rw [ds_eq, blk_1]

theorem st_dq_step (t t' : Fin cfg0.N) (h : t'.val = t.val + 1) (ht : ¬ t.val % 4 = 3) (r : Fin 4096) (e : Fin 256) :
    (stAt m c t').2 (ix2 r e) = (stAt m c t).2 (ix2 r e) + part m c (hd t') r e ⟨t'.val % 4, by omega⟩ := by
  have hb : dqBefore m c t' = (stAt m c t).2 := by
    rw [dqBefore, dif_neg (by omega)]
    have := dqAfter_eq m c t
    rw [if_neg ht] at this
    rw [← this]
    congr 1; omega
  rw [st_dq, hb]

theorem final_6 : (dats m 0 c).arrAt 6 (cfgs 0).N = arrQ m c := by
  refine (dats m 0 c).arrAt_eq_of_covers 6 _ (by decide +kernel) fun t hf y => ?_
  have h3 : t.val % 4 = 3 := (flush0_6 t).mp hf
  have hlt := point_lt t
  rw [after_6, dqAfter_eq, if_pos h3]
  idx_vars y
  refine (pay1_at _ _ _).trans ((congrArg (· * ln2) ?_).trans ((arrQ_at m c (hd t) y0 y1).symm.trans (congrArg (arrQ m c) (emb_6 t y0 y1).symm)))
  have hN : cfg0.N = 16 := rfl
  let t0 : Fin cfg0.N := ⟨t.val - 3, by omega⟩
  let t1 : Fin cfg0.N := ⟨t.val - 2, by omega⟩
  let t2 : Fin cfg0.N := ⟨t.val - 1, by omega⟩
  have e0 : hd t0 = hd t := Fin.ext (by show (t.val - 3) / 4 = t.val / 4; omega)
  have e1 : hd t1 = hd t := Fin.ext (by show (t.val - 2) / 4 = t.val / 4; omega)
  have e2 : hd t2 = hd t := Fin.ext (by show (t.val - 1) / 4 = t.val / 4; omega)
  rw [st_dq_step m c t2 t (by show t.val = t.val - 1 + 1; omega) (by show ¬ (t.val - 1) % 4 = 3; omega),
    st_dq_step m c t1 t2 (by show t.val - 1 = t.val - 2 + 1; omega) (by show ¬ (t.val - 2) % 4 = 3; omega),
    st_dq_step m c t0 t1 (by show t.val - 2 = t.val - 3 + 1; omega) (by show ¬ (t.val - 3) % 4 = 3; omega),
    st_dq, dqBefore, dif_pos (by show (t.val - 3) % 4 = 0; omega), pay18_at, zero_add, e0, e1, e2]
  rw [Fin.sum_univ_tiles 4 1024 rfl, Fin.sum_univ_four]
  have q0 : (⟨t0.val % 4, by omega⟩ : Fin 4) = 0 := Fin.ext (by show (t.val - 3) % 4 = 0; omega)
  have q1 : (⟨t1.val % 4, by omega⟩ : Fin 4) = 1 := Fin.ext (by show (t.val - 2) % 4 = 1; omega)
  have q2 : (⟨t2.val % 4, by omega⟩ : Fin 4) = 2 := Fin.ext (by show (t.val - 1) % 4 = 2; omega)
  have q3 : (⟨t.val % 4, by omega⟩ : Fin 4) = 3 := Fin.ext (by show t.val % 4 = 3; omega)
  have hp : ∀ s : Fin 4, part m c (hd t) y0 y1 s = ∑ j : Fin 1024, gds (aQ m c) (aK m c) (aW m c) (aO m c) (aL m c) (aD m c) (hd t) y0 ⟨s.val * 1024 + j.val, by omega⟩
      * aK m c (ix2 ⟨s.val * 1024 + j.val, by omega⟩ (col (hd t) y1)) := fun s => Finset.sum_congr rfl fun j _ => by
    have hj : (⟨1024 * s.val + j.val, by omega⟩ : Fin 4096) = ⟨s.val * 1024 + j.val, by omega⟩ := Fin.ext (by show 1024 * s.val + j.val = s.val * 1024 + j.val; omega)
    rw [hj]
  rw [q0, q1, q2, q3, hp, hp, hp, hp]

end Cert.KernelIdeal.Attn
-- ==== Proof.AttnHost.lean ====
/- The host lines before the attention backward region, named one by one: what each packed array holds as a term of the arguments. -/
module

public import proofs.«01_k».proof.Proof.AttnArr
public import Idealize.ShloMosaic.Lib.IdealHost

@[expose] public section

set_option maxRecDepth 16384

noncomputable section

namespace Cert.KernelIdeal.Attn

open Idealize.ShloMosaic TcCoe Idealize.ShloMosaic.Tactic
open Idealize.SL.Sem
open Idealize.ShloMosaic.Pipeline (Dat)
open KernelIdeal KernelIdeal.Gen
open scoped BigOperators

section
variable (a0 : FVec Ideal S1x4096x4x128 .f32) (a1 : FVec Ideal S1x4096x4x64 .f32) (a2 : FVec Ideal S1x4096x4x128 .f32) (a3 : FVec Ideal S1x4096x64 .f32) (a4 : FVec Ideal S1x4096x4x128 .f32) (a5 : FVec Ideal S1x4096x4x128 .f32)

def kv0 : FVec Ideal S_ .f32 :=
  Host.log (constant S_ .f32 0x40000000#32)
def kv1 : FVec Ideal S_ .f32 :=
  Host.divf (constant S_ .f32 0x3D93CD3A#32) kv0
def kv2 : FVec Ideal S1x4096x4x128 .f32 :=
  broadcastInDim S1x4096x4x128 ![] bcast_S_S1x4096x4x128 kv1
def kv3 : FVec Ideal S1x4096x4x128 .f32 :=
  mulf a0 kv2
def kv4 : FVec Ideal S1x4096x4x64 .f32 :=
  broadcastInDim S1x4096x4x64 ![] bcast_S_S1x4096x4x64 kv1
def kv5 : FVec Ideal S1x4096x4x64 .f32 :=
  mulf a1 kv4
def kv6 : FVec Ideal S1x4096x4x64 .f32 :=
  broadcastInDim S1x4096x4x64 ![] bcast_S_S1x4096x4x64 (constant S_ .f32 0x00000000#32)
def kv7 : FVec Ideal S1x4096x4x256 .f32 :=
  concatenate S1x4096x4x256 3 [⟨S1x4096x4x128, (kv3 a0)⟩, ⟨S1x4096x4x64, (kv5 a1)⟩, ⟨S1x4096x4x64, kv6⟩] concatenates_S1x4096x4x128_S1x4096x4x64_S1x4096x4x64_S1x4096x4x256_d3
def kv8 : FVec Ideal S1x4096x4x256 .bf16 :=
  truncf .bf16 (kv7 a0 a1) bitsLt_bf16_f32
def kv9 : FVec Ideal S1x4096x1x64 .f32 :=
  broadcastInDim S1x4096x1x64 ![0, 1, 3] bcast_S1x4096x64_S1x4096x1x64_0_1_3 a3
def kv10 : FVec Ideal S1x4096x4x64 .f32 :=
  broadcastInDim S1x4096x4x64 ![0, 1, 2, 3] bcast_S1x4096x1x64_S1x4096x4x64_0_1_2_3 (kv9 a3)
def kv11 : FVec Ideal S1x4096x4x64 .f32 :=
  broadcastInDim S1x4096x4x64 ![] bcast_S_S1x4096x4x64 (constant S_ .f32 0x00000000#32)
def kv12 : FVec Ideal S1x4096x4x256 .f32 :=
  concatenate S1x4096x4x256 3 [⟨S1x4096x4x128, a2⟩, ⟨S1x4096x4x64, (kv10 a3)⟩, ⟨S1x4096x4x64, kv11⟩] concatenates_S1x4096x4x128_S1x4096x4x64_S1x4096x4x64_S1x4096x4x256_d3
def kv13 : FVec Ideal S1x4096x4x256 .bf16 :=
  truncf .bf16 (kv12 a2 a3) bitsLt_bf16_f32
def kv14 : FVec Ideal S1x4096x4x256 .f32 :=
  extf .f32 (kv8 a0 a1) bitsLt_bf16_f32
def kv15 : FVec Ideal S1x4096x4x256 .f32 :=
  extf .f32 (kv13 a2 a3) bitsLt_bf16_f32
def kv16 : FVec Ideal S1x4x4096x4096 .f32 :=
  Host.dotGeneral dot_S1x4096x4x256_S1x4096x4x256_S1x4x4096x4096_3_3_1_1_02_02 none (kv14 a0 a1) (kv15 a2 a3)
def kv17 : IVec S4096x4096 32 :=
  iotaInDim S4096x4096 32 0
def kv18 : IVec S4096x4096 32 :=
  broadcastInDim S4096x4096 ![] bcast_S_S4096x4096 (constantI S_ 32 0#32)
def kv19 : IVec S4096x4096 32 :=
  addi kv18 kv17
def kv20 : IVec S4096x4096 32 :=
  iotaInDim S4096x4096 32 1
def kv21 : IVec S4096x4096 32 :=
  broadcastInDim S4096x4096 ![] bcast_S_S4096x4096 (constantI S_ 32 0#32)
def kv22 : IVec S4096x4096 32 :=
  addi kv21 kv20
def kv23 : IVec S4096x4096 1 :=
  cmpi .sle kv22 kv19
def kcall0_v1 : IVec S1x4x4096x4096 1 :=
  broadcastInDim S1x4x4096x4096 ![2, 3] bcast_S4096x4096_S1x4x4096x4096_2_3 kv23
def kcall0_v2 : FVec Ideal S1x4x4096x4096 .f32 :=
  broadcastInDim S1x4x4096x4096 ![] bcast_S_S1x4x4096x4096 (id (constant S_ .f32 0xFF800000#32))
def kv24 : FVec Ideal S1x4x4096x4096 .f32 :=
  select kcall0_v1 (kv16 a0 a1 a2 a3) kcall0_v2
def kv25 : FVec Ideal S1x4x4096 .f32 :=
  Host.reduce FloatOps.maximumf (kv24 a0 a1 a2 a3) (constant S_ .f32 0xFF800000#32) reducesTo_S1x4x4096x4096_S1x4x4096_d3 h_S_
def kv26 : FVec Ideal S1x4x4096x1 .f32 :=
  broadcastInDim S1x4x4096x1 ![0, 1, 2] bcast_S1x4x4096_S1x4x4096x1_0_1_2 (kv25 a0 a1 a2 a3)
def kv27 : FVec Ideal S1x4x4096x4096 .f32 :=
  broadcastInDim S1x4x4096x4096 ![0, 1, 2, 3] bcast_S1x4x4096x1_S1x4x4096x4096_0_1_2_3 (kv26 a0 a1 a2 a3)
def kv28 : FVec Ideal S1x4x4096x4096 .f32 :=
  subf (kv24 a0 a1 a2 a3) (kv27 a0 a1 a2 a3)
def kv29 : FVec Ideal S1x4x4096x4096 .f32 :=
  broadcastInDim S1x4x4096x4096 ![] bcast_S_S1x4x4096x4096 kv0
def kv30 : FVec Ideal S1x4x4096x4096 .f32 :=
  mulf (kv28 a0 a1 a2 a3) kv29
def kv31 : FVec Ideal S1x4x4096x4096 .f32 :=
  Host.exp (kv30 a0 a1 a2 a3)
def kv32 : FVec Ideal S1x4x4096 .f32 :=
  Host.reduceAdd (kv31 a0 a1 a2 a3) (constant S_ .f32 0x00000000#32) reducesTo_S1x4x4096x4096_S1x4x4096_d3 h_S_
def kv33 : FVec Ideal S1x4x4096x1 .f32 :=
  broadcastInDim S1x4x4096x1 ![0, 1, 2] bcast_S1x4x4096_S1x4x4096x1_0_1_2 (kv32 a0 a1 a2 a3)
def kv34 : FVec Ideal S1x4096x4x128 .bf16 :=
  truncf .bf16 a4 bitsLt_bf16_f32
def kv35 : FVec Ideal S1x4096x4x128 .f32 :=
  extf .f32 (kv34 a4) bitsLt_bf16_f32
def kv36 : FVec Ideal S1x4x128x4096 .f32 :=
  Host.dotGeneral dot_S1x4096x4x128_S1x4x4096x4096_S1x4x128x4096_1_3_3_2_02_01 none (kv35 a4) (kv31 a0 a1 a2 a3)
def kv37 : FVec Ideal S1x4096x4x128 .f32 :=
  transpose S1x4096x4x128 [0, 3, 1, 2] (kv36 a0 a1 a2 a3 a4) transposes_S1x4x128x4096_S1x4096x4x128_0_3_1_2
def kv38 : FVec Ideal S1x4096x4x1 .f32 :=
  transpose S1x4096x4x1 [0, 2, 1, 3] (kv33 a0 a1 a2 a3) transposes_S1x4x4096x1_S1x4096x4x1_0_2_1_3
def kv39 : FVec Ideal S1x4096x4x128 .f32 :=
  broadcastInDim S1x4096x4x128 ![0, 1, 2, 3] bcast_S1x4096x4x1_S1x4096x4x128_0_1_2_3 (kv38 a0 a1 a2 a3)
def kv40 : FVec Ideal S1x4096x4x128 .f32 :=
  Host.divf (kv37 a0 a1 a2 a3 a4) (kv39 a0 a1 a2 a3)
def kv41 : FVec Ideal S1x4x4096x1 .f32 :=
  Host.log (kv33 a0 a1 a2 a3)
def kv42 : FVec Ideal S1x4x4096x1 .f32 :=
  broadcastInDim S1x4x4096x1 ![] bcast_S_S1x4x4096x1 kv0
def kv43 : FVec Ideal S1x4x4096x1 .f32 :=
  Host.divf (kv41 a0 a1 a2 a3) kv42
def kv44 : FVec Ideal S1x4x4096x1 .f32 :=
  addf (kv26 a0 a1 a2 a3) (kv43 a0 a1 a2 a3)
def kv45 : FVec Ideal S1x4096x4x1 .f32 :=
  transpose S1x4096x4x1 [0, 2, 1, 3] (kv44 a0 a1 a2 a3) transposes_S1x4x4096x1_S1x4096x4x1_0_2_1_3
def kv46 : FVec Ideal S1x4096x4x128 .f32 :=
  mulf a5 (kv40 a0 a1 a2 a3 a4)
def kv47 : FVec Ideal S1x4096x4 .f32 :=
  Host.reduceAdd (kv46 a0 a1 a2 a3 a4 a5) (constant S_ .f32 0x00000000#32) reducesTo_S1x4096x4x128_S1x4096x4_d3 h_S_
def kv48 : FVec Ideal S1x4096x4x1 .f32 :=
  broadcastInDim S1x4096x4x1 ![0, 1, 2] bcast_S1x4096x4_S1x4096x4x1_0_1_2 (kv47 a0 a1 a2 a3 a4 a5)
def kv49 : FVec Ideal S4096x1024 .bf16 :=
  shapeCast _ (kv8 a0 a1) shapeCasts_S1x4096x4x256_S4096x1024
def kv50 : FVec Ideal S4096x1024 .bf16 :=
  shapeCast _ (kv13 a2 a3) shapeCasts_S1x4096x4x256_S4096x1024
def kv51 : FVec Ideal S4096x512 .f32 :=
  shapeCast _ a4 shapeCasts_S1x4096x4x128_S4096x512
def kv52 : FVec Ideal S4096x512 .bf16 :=
  truncf .bf16 (kv51 a4) bitsLt_bf16_f32
def kv53 : FVec Ideal S4096x512 .f32 :=
  shapeCast _ a5 shapeCasts_S1x4096x4x128_S4096x512
def kv54 : FVec Ideal S4096x512 .bf16 :=
  truncf .bf16 (kv53 a5) bitsLt_bf16_f32
def kv55 : FVec Ideal S1x4096x4x128 .f32 :=
  broadcastInDim S1x4096x4x128 ![0, 1, 2, 3] bcast_S1x4096x4x1_S1x4096x4x128_0_1_2_3 (kv45 a0 a1 a2 a3)
def kv56 : FVec Ideal S4096x512 .f32 :=
  shapeCast _ (kv55 a0 a1 a2 a3) shapeCasts_S1x4096x4x128_S4096x512
def kv57 : FVec Ideal S1x4096x4x128 .f32 :=
  broadcastInDim S1x4096x4x128 ![0, 1, 2, 3] bcast_S1x4096x4x1_S1x4096x4x128_0_1_2_3 (kv48 a0 a1 a2 a3 a4 a5)
def kv58 : FVec Ideal S4096x512 .f32 :=
  shapeCast _ (kv57 a0 a1 a2 a3 a4 a5) shapeCasts_S1x4096x4x128_S4096x512

end

variable (m : (ℓ : Loc nD τ sig) → Buf (Elt Ideal) ℓ) (c : Dev nD)

theorem aQ_eq : aQ m c = kv49 (m ((c : Thread nD τ).loc main_arg0)) (m ((c : Thread nD τ).loc main_arg1)) := by
  show StableHlo.after (List.flatten [hostOps0, hostOps0_1, hostOps0_2]) (fun b => m (c, b)) (Proc.devRef .tc main_v49) = _
  simp only [hostOps0, hostOps0_1, hostOps0_2, List.flatten_cons, List.flatten_nil, List.append_nil, List.cons_append, List.nil_append]
  after_results
  rfl
theorem aK_eq : aK m c = kv50 (m ((c : Thread nD τ).loc main_arg2)) (m ((c : Thread nD τ).loc main_arg3)) := by
  show StableHlo.after (List.flatten [hostOps0, hostOps0_1, hostOps0_2]) (fun b => m (c, b)) (Proc.devRef .tc main_v50) = _
  simp only [hostOps0, hostOps0_1, hostOps0_2, List.flatten_cons, List.flatten_nil, List.append_nil, List.cons_append, List.nil_append]
  after_results
  rfl
theorem aW_eq : aW m c = kv52 (m ((c : Thread nD τ).loc main_arg4)) := by
  show StableHlo.after (List.flatten [hostOps0, hostOps0_1, hostOps0_2]) (fun b => m (c, b)) (Proc.devRef .tc main_v52) = _
  simp only [hostOps0, hostOps0_1, hostOps0_2, List.flatten_cons, List.flatten_nil, List.append_nil, List.cons_append, List.nil_append]
  after_results
  rfl
theorem aO_eq : aO m c = kv54 (m ((c : Thread nD τ).loc main_arg5)) := by
  show StableHlo.after (List.flatten [hostOps0, hostOps0_1, hostOps0_2]) (fun b => m (c, b)) (Proc.devRef .tc main_v54) = _
  simp only [hostOps0, hostOps0_1, hostOps0_2, List.flatten_cons, List.flatten_nil, List.append_nil, List.cons_append, List.nil_append]
  after_results
  rfl
theorem aL_eq : aL m c = kv56 (m ((c : Thread nD τ).loc main_arg0)) (m ((c : Thread nD τ).loc main_arg1)) (m ((c : Thread nD τ).loc main_arg2)) (m ((c : Thread nD τ).loc main_arg3)) := by
  show StableHlo.after (List.flatten [hostOps0, hostOps0_1, hostOps0_2]) (fun b => m (c, b)) (Proc.devRef .tc main_v56) = _
  simp only [hostOps0, hostOps0_1, hostOps0_2, List.flatten_cons, List.flatten_nil, List.append_nil, List.cons_append, List.nil_append]
  after_results
  rfl
theorem aD_eq : aD m c = kv58 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after (List.flatten [hostOps0, hostOps0_1, hostOps0_2]) (fun b => m (c, b)) (Proc.devRef .tc main_v58) = _
  simp only [hostOps0, hostOps0_1, hostOps0_2, List.flatten_cons, List.flatten_nil, List.append_nil, List.cons_append, List.nil_append]
  after_results
  rfl
theorem scale_eq : V m c main_v1 = kv1 := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  after_results
  rfl

end Cert.KernelIdeal.Attn
-- ==== Proof.AttnReal.lean ====
/- The softmax gradient over the reals: the causal weights do not depend on the shift the exponentials are taken with, and the
   sums both programs are read as are these. -/
module

public import Idealize.ShloMosaic.Lib.IdealHost
public import Idealize.ShloMosaic.Lib.WordCmp
public import Idealize.ShloMosaic.Lib.Pointwise

@[expose] public section

noncomputable section

namespace Cert.Attn

open Idealize.ShloMosaic
open scoped BigOperators

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of some numbers and minus infinities, one of them a number, is a number. -/
theorem fold_max_real {n : ℕ} (f : Fin n → EReal) (hf : ∀ i, f i = ⊥ ∨ ∃ x : ℝ, f i = x) (i : Fin n) (x : ℝ) (hi : f i = x) :
    ∃ M : ℝ, Finset.fold max ⊥ f Finset.univ = M := by
  have htop : Finset.fold max ⊥ f Finset.univ < ⊤ := by
    rw [Finset.fold_max_lt]
    refine ⟨bot_lt_top, fun j _ => ?_⟩
    rcases hf j with h | ⟨y, h⟩
    · rw [h]; exact bot_lt_top
    · rw [h]; exact EReal.coe_lt_top y
  have hbot : (x : EReal) ≤ Finset.fold max ⊥ f Finset.univ := by
    rw [Finset.le_fold_max]
    exact Or.inr ⟨i, Finset.mem_univ _, hi.ge⟩
  generalize hm : Finset.fold max ⊥ f Finset.univ = M at htop hbot
  induction M using EReal.rec with
  | bot => exact absurd hbot (by simp)
  | coe y => exact ⟨y, rfl⟩
  | top => exact absurd htop (by simp)

theorem div_real (x y : ℝ) (h : y ≠ 0) : Ideal.div (x : EReal) (y : EReal) = ((x / y : ℝ) : EReal) := by
  rw [Ideal.div, if_neg (by exact_mod_cast h), ← EReal.coe_inv, ← EReal.coe_mul, div_eq_mul_inv]

/-- A comparison of two row numbers as words. -/
theorem sel_le (k r : Fin 4096) (a b : EReal) :
    Scalar.select (IntOp.cmpi CmpIPredicate.sle (BitVec.ofNat 32 k.val) (BitVec.ofNat 32 r.val)) a b = if k.val ≤ r.val then a else b := by
  have hk := k.isLt
  have hr := r.isLt
  word_cmp

theorem two_f32 : Ideal.ofBits .f32 0x40000000#32 = ((2 : ℝ) : EReal) := by
  simp [Ideal.ofBits, Ideal.ieee, -EReal.coe_mul]; norm_num

/-- The scale of the scores. -/
def scale : ℝ := (Ideal.ofBits .f32 0x3D93CD3A#32).toReal

theorem scale_f32 : Ideal.ofBits .f32 0x3D93CD3A#32 = (scale : EReal) := by
  have h : ∃ x : ℝ, Ideal.ofBits .f32 0x3D93CD3A#32 = (x : EReal) := by
    simp only [Ideal.ofBits, Ideal.ieee]
    exact ⟨_, rfl⟩
  obtain ⟨x, hx⟩ := h
  rw [scale, hx, EReal.toReal_coe]

/-- The arguments as real numbers. -/
structure Args where
  qn : Fin 4096 → Fin 4 → Fin 128 → ℝ
  qr : Fin 4096 → Fin 4 → Fin 64 → ℝ
  kn : Fin 4096 → Fin 4 → Fin 128 → ℝ
  kr : Fin 4096 → Fin 64 → ℝ
  v : Fin 4096 → Fin 4 → Fin 128 → ℝ
  o : Fin 4096 → Fin 4 → Fin 128 → ℝ

namespace Args
variable (x : Args) (h : Fin 4) (r k : Fin 4096)

/-- The score of key `k` for query `r`, -/
def score : ℝ := ((∑ d, x.qn r h d * x.kn k h d) + ∑ d, x.qr r h d * x.kr k d) * scale
/-- its exponential under the mask, taken with a shift, -/
def ex (M : ℝ) (h : Fin 4) (r k : Fin 4096) : ℝ := if k.val ≤ r.val then Real.exp (x.score h r k - M) else 0
/-- the sum of a row of these, -/
def sm (M : ℝ) (h : Fin 4) (r : Fin 4096) : ℝ := ∑ k, x.ex M h r k
/-- the weight, -/
def wt : ℝ := x.ex 0 h r k / x.sm 0 h r
/-- its cotangent, -/
def ct : ℝ := ∑ e, x.o r h e * x.v k h e
/-- and the score's gradient. -/
def gr : ℝ := x.wt h r k * (x.ct h r k - ∑ j, x.wt h r j * x.ct h r j)

theorem ex_shift (M : ℝ) : x.ex M h r k = Real.exp (-M) * x.ex 0 h r k := by
  unfold ex
  split
  · rw [← Real.exp_add]; congr 1; ring
  · rw [mul_zero]

theorem sm_shift (M : ℝ) : x.sm M h r = Real.exp (-M) * x.sm 0 h r := by
  unfold sm
  rw [Finset.mul_sum]
  exact Finset.sum_congr rfl fun k _ => x.ex_shift h r k M

theorem ex_nonneg (M : ℝ) : 0 ≤ x.ex M h r k := by
  unfold ex; split
  · exact (Real.exp_pos _).le
  · exact le_rfl

theorem sm_pos (M : ℝ) : 0 < x.sm M h r :=
  Finset.sum_pos' (fun k _ => x.ex_nonneg h r k M) ⟨r, Finset.mem_univ _, by unfold ex; rw [if_pos le_rfl]; exact Real.exp_pos _⟩

theorem wt_shift (M : ℝ) : x.ex M h r k / x.sm M h r = x.wt h r k := by
  rw [ex_shift, sm_shift, wt, mul_div_mul_left _ _ (Real.exp_pos _).ne']

/-- The weight as an exponential of the score less the row's log-sum. -/
theorem wt_log (M : ℝ) (hk : k.val ≤ r.val) : Real.exp (x.score h r k - M - Real.log (x.sm M h r)) = x.wt h r k := by
  rw [Real.exp_sub, Real.exp_log (x.sm_pos h r M), ← x.wt_shift h r k M, ex, if_pos hk]

theorem wt_masked (hk : ¬ k.val ≤ r.val) : x.wt h r k = 0 := by
  rw [wt, ex, if_neg hk, zero_div]

/-- The gradient as the quotient rule writes it. -/
theorem gr_quot (M : ℝ) :
    (x.ct h r k / x.sm M h r + -(∑ j, x.ct h r j * (1 / (x.sm M h r * x.sm M h r)) * x.ex M h r j)) * x.ex M h r k = x.gr h r k := by
  have hs := (x.sm_pos h r M).ne'
  have h1 : ∑ j, x.ct h r j * (1 / (x.sm M h r * x.sm M h r)) * x.ex M h r j = (∑ j, x.wt h r j * x.ct h r j) / x.sm M h r := by
    rw [Finset.sum_div]
    refine Finset.sum_congr rfl fun j _ => ?_
    rw [← x.wt_shift h r j M]
    field_simp
  rw [h1, gr, ← x.wt_shift h r k M]
  field_simp
  ring

end Args

/-- Arrays that hold these numbers. -/
structure Holds (a0 : FVec Ideal ⟨4, ![1, 4096, 4, 128]⟩ .f32) (a1 : FVec Ideal ⟨4, ![1, 4096, 4, 64]⟩ .f32) (a2 : FVec Ideal ⟨4, ![1, 4096, 4, 128]⟩ .f32)
    (a3 : FVec Ideal ⟨3, ![1, 4096, 64]⟩ .f32) (a4 a5 : FVec Ideal ⟨4, ![1, 4096, 4, 128]⟩ .f32) (x : Args) : Prop where
  qn : ∀ r h d, a0 (ix4 0 r h d) = (x.qn r h d : EReal)
  qr : ∀ r h d, a1 (ix4 0 r h d) = (x.qr r h d : EReal)
  kn : ∀ r h d, a2 (ix4 0 r h d) = (x.kn r h d : EReal)
  kr : ∀ r d, a3 (ix3 0 r d) = (x.kr r d : EReal)
  v : ∀ r h d, a4 (ix4 0 r h d) = (x.v r h d : EReal)
  o : ∀ r h d, a5 (ix4 0 r h d) = (x.o r h d : EReal)

end Cert.Attn
-- ==== Proof.AttnReadK.lean ====
/- The packed arrays at numbers, and with them what the attention backward region leaves. -/
module

public import proofs.«01_k».proof.Proof.AttnHost
public import proofs.«01_k».proof.Proof.AttnReal

@[expose] public section

set_option maxRecDepth 16384

noncomputable section

namespace Cert.KernelIdeal.Attn

open Idealize.ShloMosaic TcCoe Idealize.ShloMosaic.Tactic
open Idealize.SL.Sem
open KernelIdeal KernelIdeal.Gen Cert.Attn
open scoped BigOperators

/-- A column among the first 128 of 256, -/
abbrev lo (d : Fin 128) : Fin 256 := ⟨d.val, by omega⟩
/-- among the next 64, -/
abbrev mi (d : Fin 64) : Fin 256 := ⟨128 + d.val, by omega⟩
/-- and among the last 64. -/
abbrev hi (d : Fin 64) : Fin 256 := ⟨192 + d.val, by omega⟩

theorem sum_cols (f : Fin 256 → EReal) : ∑ d, f d = (∑ d, f (lo d)) + ((∑ d, f (mi d)) + ∑ d, f (hi d)) := by
  have h1 := Fin.sum_univ_add (a := 128) (b := 128) f
  have h2 := Fin.sum_univ_add (a := 64) (b := 64) (fun d => f (Fin.natAdd 128 d))
  rw [h1, h2]
  rfl

variable (a0 : FVec Ideal S1x4096x4x128 .f32) (a1 : FVec Ideal S1x4096x4x64 .f32) (a2 : FVec Ideal S1x4096x4x128 .f32) (a3 : FVec Ideal S1x4096x64 .f32)
  (a4 : FVec Ideal S1x4096x4x128 .f32) (a5 : FVec Ideal S1x4096x4x128 .f32)

theorem log2_ne : Real.log 2 ≠ 0 := (Real.log_pos (by norm_num)).ne'

theorem kv0_at : kv0 ix0 = ((Real.log 2 : ℝ) : EReal) := by
  pointwise [kv0]
  rw [two_f32, Ideal.log_coe, if_neg (by norm_num)]

theorem kv1_at : kv1 ix0 = ((scale / Real.log 2 : ℝ) : EReal) := by
  pointwise [kv1]
  rw [kv0_at, scale_f32, div_real _ _ log2_ne]

theorem kv8_at (r : Fin 4096) (h : Fin 4) (d : Fin 256) : kv8 a0 a1 (ix4 0 r h d) =
    (if h_1 : d.val < 128 then a0 (ix4 0 r h ⟨d, h_1⟩) * kv1 ix0
    else if h_2 : d.val - 128 < 64 then a1 (ix4 0 r h ⟨d.val - 128, h_2⟩) * kv1 ix0 else 0) := by
  pointwise [kv8, kv7, kv6, kv5, kv4, kv3, kv2]

theorem kv13_at (r : Fin 4096) (h : Fin 4) (d : Fin 256) : kv13 a2 a3 (ix4 0 r h d) =
    (if h_1 : d.val < 128 then a2 (ix4 0 r h ⟨d, h_1⟩)
    else if h_2 : d.val - 128 < 64 then a3 (ix3 0 r ⟨d.val - 128, h_2⟩) else 0) := by
  pointwise [kv13, kv12, kv11, kv10, kv9]

theorem kv24_at (r k : Fin 4096) (h : Fin 4) : kv24 a0 a1 a2 a3 (ix4 0 h r k)
    = if k.val ≤ r.val then ∑ d, kv8 a0 a1 (ix4 0 r h d) * kv13 a2 a3 (ix4 0 k h d) else ⊥ := by
  have hz : ∀ w : BitVec 32, IntOp.addi (0#32) w = w := fun w => by unfold IntOp.addi; exact BitVec.zero_add w
  have hb : (id (constant (F := Ideal) S_ FTy.f32 4286578688#32) ix0 : EReal) = ⊥ := by
    show Ideal.ofBits .f32 0xFF800000#32 = ⊥
    simp [Ideal.ofBits, Ideal.ieee]
  pointwise [kv24, kcall0_v1, kcall0_v2, kv23, kv22, kv21, kv20, kv19, kv18, kv17, kv16, kv15, kv14]
  rw [hz, hz, sel_le, hb]

theorem kv25_at (r : Fin 4096) (h : Fin 4) : kv25 a0 a1 a2 a3 (ix3 0 h r) = Finset.fold max ⊥ (fun k => kv24 a0 a1 a2 a3 (ix4 0 h r k)) Finset.univ := by
  have hb : Ideal.ofBits .f32 0xFF800000#32 = ⊥ := by simp [Ideal.ofBits, Ideal.ieee]
  pointwise [kv25]
  rw [hb]

theorem kv31_at (r k : Fin 4096) (h : Fin 4) : kv31 a0 a1 a2 a3 (ix4 0 h r k)
    = Ideal.exp ((kv24 a0 a1 a2 a3 (ix4 0 h r k) - kv25 a0 a1 a2 a3 (ix3 0 h r)) * kv0 ix0) := by
  pointwise [kv31, kv30, kv29, kv28, kv27, kv26]

theorem kv32_at (r : Fin 4096) (h : Fin 4) : kv32 a0 a1 a2 a3 (ix3 0 h r) = ∑ k, kv31 a0 a1 a2 a3 (ix4 0 h r k) := by
  pointwise [kv32]

theorem kv40_at (r : Fin 4096) (h : Fin 4) (e : Fin 128) : kv40 a0 a1 a2 a3 a4 (ix4 0 r h e)
    = Ideal.div (∑ k, a4 (ix4 0 k h e) * kv31 a0 a1 a2 a3 (ix4 0 h r k)) (kv32 a0 a1 a2 a3 (ix3 0 h r)) := by
  pointwise [kv40, kv39, kv38, kv37, kv36, kv35, kv34, kv33]

theorem log_sum_at (X Y : FVec Ideal S1x4x4096 .f32) (z : FVec Ideal S_ .f32) (r : Fin 4096) (h : Fin 4) :
    addf (broadcastInDim S1x4x4096x1 ![0, 1, 2] bcast_S1x4x4096_S1x4x4096x1_0_1_2 X)
      (Host.divf (Host.log (broadcastInDim S1x4x4096x1 ![0, 1, 2] bcast_S1x4x4096_S1x4x4096x1_0_1_2 Y)) (broadcastInDim S1x4x4096x1 ![] bcast_S_S1x4x4096x1 z))
      (ix4 0 h r 0) = X (ix3 0 h r) + Ideal.div (Ideal.log (Y (ix3 0 h r))) (z ix0) := by
  pointwise

theorem kv44_at (r : Fin 4096) (h : Fin 4) : kv44 a0 a1 a2 a3 (ix4 0 h r 0)
    = kv25 a0 a1 a2 a3 (ix3 0 h r) + Ideal.div (Ideal.log (kv32 a0 a1 a2 a3 (ix3 0 h r))) (kv0 ix0) := by
  unfold kv44 kv43 kv42 kv41 kv33 kv26
  exact log_sum_at _ _ _ r h

theorem kv55_at (r : Fin 4096) (h : Fin 4) (e : Fin 128) : kv55 a0 a1 a2 a3 (ix4 0 r h e) = kv44 a0 a1 a2 a3 (ix4 0 h r 0) := by
  pointwise [kv55, kv45]

theorem kv57_at (r : Fin 4096) (h : Fin 4) (e : Fin 128) : kv57 a0 a1 a2 a3 a4 a5 (ix4 0 r h e)
    = ∑ d, a5 (ix4 0 r h d) * kv40 a0 a1 a2 a3 a4 (ix4 0 r h d) := by
  pointwise [kv57, kv48, kv47, kv46]

/-- Reading an array of 256 columns a head through its packing, -/
theorem cast_col {φ : FTy} (X : FVec Ideal S1x4096x4x256 φ) (r : Fin 4096) (h : Fin 4) (e : Fin 256) :
    shapeCast S4096x1024 X shapeCasts_S1x4096x4x256_S4096x1024 (ix2 r (col h e)) = X (ix4 0 r h e) := by
  pointwise
  congr 1
  have h1 : (256 * h.val + e.val) / 256 = h.val := by omega
  have h2 : (256 * h.val + e.val) % 256 = e.val := by omega
  simp only [h1, h2]

/-- and of 128. -/
theorem cast_vcol {φ : FTy} (X : FVec Ideal S1x4096x4x128 φ) (r : Fin 4096) (h : Fin 4) (e : Fin 128) :
    shapeCast S4096x512 X shapeCasts_S1x4096x4x128_S4096x512 (ix2 r (vcol h e)) = X (ix4 0 r h e) := by
  pointwise
  congr 1
  have h1 : (128 * h.val + e.val) / 128 = h.val := by omega
  have h2 : (128 * h.val + e.val) % 128 = e.val := by omega
  simp only [h1, h2]

end Cert.KernelIdeal.Attn
-- ==== Proof.AttnNumK.lean ====
/- What the attention backward region and the host lines around it leave, as numbers. -/
module

public import proofs.«01_k».proof.Proof.AttnReadK

@[expose] public section

set_option maxRecDepth 16384

noncomputable section

namespace Cert.KernelIdeal.Attn

open Idealize.ShloMosaic TcCoe Idealize.ShloMosaic.Tactic
open Idealize.SL.Sem
open KernelIdeal KernelIdeal.Gen Cert.Attn
open scoped BigOperators

variable {a0 : FVec Ideal S1x4096x4x128 .f32} {a1 : FVec Ideal S1x4096x4x64 .f32} {a2 : FVec Ideal S1x4096x4x128 .f32} {a3 : FVec Ideal S1x4096x64 .f32}
  {a4 : FVec Ideal S1x4096x4x128 .f32} {a5 : FVec Ideal S1x4096x4x128 .f32} {x : Args} (H : Holds a0 a1 a2 a3 a4 a5 x)
include H

theorem q_lo (r : Fin 4096) (h : Fin 4) (d : Fin 128) : kv8 a0 a1 (ix4 0 r h (lo d)) = ((x.qn r h d * (scale / Real.log 2) : ℝ) : EReal) := by
  rw [kv8_at, dif_pos d.isLt, kv1_at, EReal.coe_mul, ← H.qn]
theorem q_mi (r : Fin 4096) (h : Fin 4) (d : Fin 64) : kv8 a0 a1 (ix4 0 r h (mi d)) = ((x.qr r h d * (scale / Real.log 2) : ℝ) : EReal) := by
  have hd : (⟨(mi d).val - 128, by show 128 + d.val - 128 < 64; omega⟩ : Fin 64) = d := Fin.ext (by show 128 + d.val - 128 = d.val; omega)
  rw [kv8_at, dif_neg (by show ¬ 128 + d.val < 128; omega), dif_pos (by show 128 + d.val - 128 < 64; omega), hd, kv1_at, EReal.coe_mul, ← H.qr]
theorem k_lo (r : Fin 4096) (h : Fin 4) (d : Fin 128) : kv13 a2 a3 (ix4 0 r h (lo d)) = (x.kn r h d : EReal) := by
  rw [kv13_at, dif_pos d.isLt, ← H.kn]
theorem k_mi (r : Fin 4096) (h : Fin 4) (d : Fin 64) : kv13 a2 a3 (ix4 0 r h (mi d)) = (x.kr r d : EReal) := by
  have hd : (⟨(mi d).val - 128, by show 128 + d.val - 128 < 64; omega⟩ : Fin 64) = d := Fin.ext (by show 128 + d.val - 128 = d.val; omega)
  rw [kv13_at, dif_neg (by show ¬ 128 + d.val < 128; omega), dif_pos (by show 128 + d.val - 128 < 64; omega), hd, ← H.kr]
omit H in
theorem k_hi (r : Fin 4096) (h : Fin 4) (d : Fin 64) : kv13 a2 a3 (ix4 0 r h (hi d)) = 0 := by
  rw [kv13_at, dif_neg (by show ¬ 192 + d.val < 128; omega), dif_neg (by show ¬ 192 + d.val - 128 < 64; omega)]

/-- The packed product is the score over the log of two. -/
theorem qk_num (r k : Fin 4096) (h : Fin 4) :
    ∑ d, kv8 a0 a1 (ix4 0 r h d) * kv13 a2 a3 (ix4 0 k h d) = ((x.score h r k / Real.log 2 : ℝ) : EReal) := by
  rw [sum_cols]
  simp only [q_lo H, q_mi H, k_lo H, k_mi H, k_hi, mul_zero, Finset.sum_const_zero, add_zero, ← EReal.coe_mul, coe_sum, ← EReal.coe_add]
  congr 1
  unfold Args.score
  rw [add_mul, add_div, Finset.sum_mul, Finset.sum_mul, Finset.sum_div, Finset.sum_div]
  congr 1 <;> exact Finset.sum_congr rfl fun d _ => by ring

theorem s_num (r k : Fin 4096) (h : Fin 4) :
    kv24 a0 a1 a2 a3 (ix4 0 h r k) = if k.val ≤ r.val then ((x.score h r k / Real.log 2 : ℝ) : EReal) else ⊥ := by
  rw [kv24_at, qk_num H]

/-- A row's greatest score is a number. -/
theorem max_num (r : Fin 4096) (h : Fin 4) : ∃ M : ℝ, kv25 a0 a1 a2 a3 (ix3 0 h r) = M := by
  rw [kv25_at]
  refine fold_max_real _ (fun k => ?_) r (x.score h r r / Real.log 2) ?_
  · rw [s_num H]
    split
    · exact Or.inr ⟨_, rfl⟩
    · exact Or.inl rfl
  · rw [s_num H, if_pos le_rfl]

section
variable {r : Fin 4096} {h : Fin 4} {M : ℝ} (hM : kv25 a0 a1 a2 a3 (ix3 0 h r) = M)
include hM

theorem e_num (k : Fin 4096) : kv31 a0 a1 a2 a3 (ix4 0 h r k) = (x.ex (M * Real.log 2) h r k : EReal) := by
  rw [kv31_at, s_num H, hM, kv0_at, Args.ex]
  have hl := Real.log_pos (one_lt_two)
  split
  · rw [← EReal.coe_sub, ← EReal.coe_mul, Ideal.exp_coe]
    refine congrArg (fun y : ℝ => ((Real.exp y : ℝ) : EReal)) ?_
    rw [sub_mul, div_mul_cancel₀ _ log2_ne]
  · rw [EReal.bot_sub, EReal.bot_mul_coe_of_pos hl, Ideal.exp_bot, EReal.coe_zero]

theorem l_num : kv32 a0 a1 a2 a3 (ix3 0 h r) = (x.sm (M * Real.log 2) h r : EReal) := by
  rw [kv32_at]
  simp only [e_num H hM, coe_sum]
  rfl

theorem o_num (e : Fin 128) : kv40 a0 a1 a2 a3 a4 (ix4 0 r h e) = ((∑ k, x.v k h e * x.wt h r k : ℝ) : EReal) := by
  rw [kv40_at, l_num H hM]
  simp only [e_num H hM, H.v, ← EReal.coe_mul, coe_sum]
  rw [div_real _ _ (x.sm_pos h r _).ne', Finset.sum_div]
  refine congrArg Real.toEReal ?_
  exact Finset.sum_congr rfl fun k _ => by rw [← x.wt_shift h r k (M * Real.log 2), mul_div_assoc]

theorem lse_num (e : Fin 128) : kv55 a0 a1 a2 a3 (ix4 0 r h e) = ((M + Real.log (x.sm (M * Real.log 2) h r) / Real.log 2 : ℝ) : EReal) := by
  rw [kv55_at, kv44_at, hM, l_num H hM, kv0_at, Ideal.log_coe, if_neg (not_le.mpr (x.sm_pos h r _)), div_real _ _ log2_ne, ← EReal.coe_add]

theorem delta_num (e : Fin 128) : kv57 a0 a1 a2 a3 a4 a5 (ix4 0 r h e) = ((∑ k, x.wt h r k * x.ct h r k : ℝ) : EReal) := by
  rw [kv57_at]
  simp only [o_num H hM, H.o, ← EReal.coe_mul, coe_sum]
  refine congrArg Real.toEReal ?_
  simp only [Args.ct, Finset.mul_sum]
  rw [Finset.sum_comm]
  exact Finset.sum_congr rfl fun k _ => Finset.sum_congr rfl fun d _ => by ring
end

/-- The weights the region recomputes. -/
theorem exp2_num (r k : Fin 4096) (h : Fin 4) (hk : k.val ≤ r.val) :
    FloatOps.exp2 (F := Ideal) (φ := .f32) ((∑ d, kv49 a0 a1 (ix2 r (col h d)) * kv50 a2 a3 (ix2 k (col h d))) - kv56 a0 a1 a2 a3 (ix2 r (vcol h 0)))
      = (x.wt h r k : EReal) := by
  obtain ⟨M, hM⟩ := max_num H r h
  have hs : ∑ d, kv49 a0 a1 (ix2 r (col h d)) * kv50 a2 a3 (ix2 k (col h d)) = ((x.score h r k / Real.log 2 : ℝ) : EReal) := by
    rw [← qk_num H]
    exact Finset.sum_congr rfl fun d _ => congrArg₂ (· * ·) (cast_col _ r h d) (cast_col _ k h d)
  have hl : kv56 a0 a1 a2 a3 (ix2 r (vcol h 0)) = ((M + Real.log (x.sm (M * Real.log 2) h r) / Real.log 2 : ℝ) : EReal) :=
    (cast_vcol _ r h 0).trans (lse_num H hM 0)
  rw [hs, hl, ← EReal.coe_sub]
  refine (Ideal.exp2_coe _).trans ?_
  refine congrArg Real.toEReal ?_
  refine (Real.rpow_def_of_pos (by norm_num) _).trans ?_
  rw [← x.wt_log h r k (M * Real.log 2) hk]
  refine congrArg Real.exp ?_
  have := log2_ne
  field_simp
  ring

theorem gp_num (r k : Fin 4096) (h : Fin 4) : gp (kv49 a0 a1) (kv50 a2 a3) (kv56 a0 a1 a2 a3) h r k = (x.wt h r k : EReal) := by
  unfold gp
  split
  · exact exp2_num H r k h ‹_›
  · rw [x.wt_masked h r k ‹_›, EReal.coe_zero]

theorem gds_num (r k : Fin 4096) (h : Fin 4) :
    gds (kv49 a0 a1) (kv50 a2 a3) (kv52 a4) (kv54 a5) (kv56 a0 a1 a2 a3) (kv58 a0 a1 a2 a3 a4 a5) h r k = (x.gr h r k : EReal) := by
  unfold gds
  split
  · rw [exp2_num H r k h ‹_›]
    obtain ⟨M, hM⟩ := max_num H r h
    have ho : ∀ d, kv54 a5 (ix2 r (vcol h d)) = (x.o r h d : EReal) := fun d => (cast_vcol a5 r h d).trans (H.o r h d)
    have hv : ∀ d, kv52 a4 (ix2 k (vcol h d)) = (x.v k h d : EReal) := fun d => (cast_vcol a4 k h d).trans (H.v k h d)
    have hd : kv58 a0 a1 a2 a3 a4 a5 (ix2 r (vcol h 0)) = ((∑ k, x.wt h r k * x.ct h r k : ℝ) : EReal) := (cast_vcol _ r h 0).trans (delta_num H hM 0)
    simp only [ho, hv, hd, ← EReal.coe_mul, coe_sum, ← EReal.coe_sub]
    rfl
  · rw [Args.gr, x.wt_masked h r k ‹_›, zero_mul, EReal.coe_zero]

end Cert.KernelIdeal.Attn
-- ==== Proof.AttnTail.lean ====
/- What the host lines after the region return: the five gradients, cut out of the region's three packed arrays. -/
module

public import proofs.«01_k».proof.Proof.AttnNumK

@[expose] public section

set_option maxRecDepth 16384

noncomputable section

namespace Cert.KernelIdeal.Attn

open Idealize.ShloMosaic TcCoe Idealize.ShloMosaic.Tactic
open Idealize.SL.Sem
open KernelIdeal KernelIdeal.Gen Cert.Attn
open scoped BigOperators

/-- A packed array with its heads apart, -/
def heads (X : FVec Ideal S4096x1024 .f32) : FVec Ideal S1x4096x4x256 .f32 := shapeCast _ X shapeCasts_S4096x1024_S1x4096x4x256
/-- the same times the score factor, -/
def scaled (X : FVec Ideal S4096x1024 .f32) (s : FVec Ideal S_ .f32) : FVec Ideal S1x4096x4x256 .f32 :=
  mulf (heads X) (broadcastInDim S1x4096x4x256 ![] bcast_S_S1x4096x4x256 s)
/-- the columns without and -/
def nope (Y : FVec Ideal S1x4096x4x256 .f32) : FVec Ideal S1x4096x4x128 .f32 := extractStridedSlice S1x4096x4x128 ![0, 0, 0, 0] Y slices_S1x4096x4x256_S1x4096x4x128_0_0_0_0
/-- with position. -/
def rope (Y : FVec Ideal S1x4096x4x256 .f32) : FVec Ideal S1x4096x4x64 .f32 := extractStridedSlice S1x4096x4x64 ![0, 0, 0, 128] Y slices_S1x4096x4x256_S1x4096x4x64_0_0_0_128
def vheads (X : FVec Ideal S4096x512 .f32) : FVec Ideal S1x4096x4x128 .f32 := shapeCast _ X shapeCasts_S4096x512_S1x4096x4x128

section
variable (W : Valuation τ sig (Elt Ideal))

theorem after_v64 : StableHlo.after (List.flatten [hostOps1]) W (Proc.devRef .tc main_v64) = nope (scaled (W (Proc.devRef .tc main_v59_0)) (W (Proc.devRef .tc main_v1))) := by
  simp only [hostOps1, List.flatten_cons, List.flatten_nil, List.append_nil, List.cons_append, List.nil_append]
  after_results
  rfl
theorem after_v65 : StableHlo.after (List.flatten [hostOps1]) W (Proc.devRef .tc main_v65) = rope (scaled (W (Proc.devRef .tc main_v59_0)) (W (Proc.devRef .tc main_v1))) := by
  simp only [hostOps1, List.flatten_cons, List.flatten_nil, List.append_nil, List.cons_append, List.nil_append]
  after_results
  rfl
theorem after_v66 : StableHlo.after (List.flatten [hostOps1]) W (Proc.devRef .tc main_v66) = nope (heads (W (Proc.devRef .tc main_v59_1))) := by
  simp only [hostOps1, List.flatten_cons, List.flatten_nil, List.append_nil, List.cons_append, List.nil_append]
  after_results
  rfl
theorem after_v67 : StableHlo.after (List.flatten [hostOps1]) W (Proc.devRef .tc main_v67) = rope (heads (W (Proc.devRef .tc main_v59_1))) := by
  simp only [hostOps1, List.flatten_cons, List.flatten_nil, List.append_nil, List.cons_append, List.nil_append]
  after_results
  rfl
theorem after_v68 : StableHlo.after (List.flatten [hostOps1]) W (Proc.devRef .tc main_v68) = vheads (W (Proc.devRef .tc main_v59_2)) := by
  simp only [hostOps1, List.flatten_cons, List.flatten_nil, List.append_nil, List.cons_append, List.nil_append]
  after_results
  rfl
end

variable (m : (ℓ : Loc nD τ sig) → Buf (Elt Ideal) ℓ) (c : Dev nD)

/-- The memory when the region has ended. -/
def end₀ : Valuation τ sig (Elt Ideal) := Pipeline.withArrays (cfgs 0).spec c (V0 m c) fun w => (dats m 0 c).arrAt w (cfgs 0).N

theorem arr_inj : Function.Injective (Pipeline.arrRef spec0) := by decide

theorem end_6 : end₀ m c (Proc.devRef .tc main_v59_0) = arrQ m c := (Pipeline.withArrays_arr spec0 arr_inj c (V0 m c) (fun w => (dats m 0 c).arrAt w (cfgs 0).N) 6).trans (final_6 m c)
theorem end_7 : end₀ m c (Proc.devRef .tc main_v59_1) = arrK m c := (Pipeline.withArrays_arr spec0 arr_inj c (V0 m c) (fun w => (dats m 0 c).arrAt w (cfgs 0).N) 7).trans (final_7 m c)
theorem end_8 : end₀ m c (Proc.devRef .tc main_v59_2) = arrV m c := (Pipeline.withArrays_arr spec0 arr_inj c (V0 m c) (fun w => (dats m 0 c).arrAt w (cfgs 0).N) 8).trans (final_8 m c)
theorem end_scale : end₀ m c (Proc.devRef .tc main_v1) = kv1 :=
  (Pipeline.withArrays_of_ne spec0 c (V0 m c) (fun w => (dats m 0 c).arrAt w (cfgs 0).N) main_v1 (by decide)).trans (scale_eq m c)

abbrev tail (b : Ref sig .tc) := Pipeline.afterTail₀ cfgs (dats m) 0 (V0 m) [hostOps1] c b

theorem tail_v64 : tail m c main_v64 = nope (scaled (arrQ m c) kv1) := by
  rw [← end_6, ← end_scale m c]; exact after_v64 (end₀ m c)
theorem tail_v65 : tail m c main_v65 = rope (scaled (arrQ m c) kv1) := by
  rw [← end_6, ← end_scale m c]; exact after_v65 (end₀ m c)
theorem tail_v66 : tail m c main_v66 = nope (heads (arrK m c)) := by
  rw [← end_7]; exact after_v66 (end₀ m c)
theorem tail_v67 : tail m c main_v67 = rope (heads (arrK m c)) := by
  rw [← end_7]; exact after_v67 (end₀ m c)
theorem tail_v68 : tail m c main_v68 = vheads (arrV m c) := by
  rw [← end_8]; exact after_v68 (end₀ m c)

/-! ## Read at an index -/

theorem heads_at (X : FVec Ideal S4096x1024 .f32) (r : Fin 4096) (h : Fin 4) (e : Fin 256) : heads X (ix4 0 r h e) = X (ix2 r (col h e)) := by
  pointwise [heads]
  refine congrArg (fun j => X (ix2 r j)) (Fin.ext ?_)
  show h.val * 256 + e.val = 256 * h.val + e.val
  omega
theorem vheads_at (X : FVec Ideal S4096x512 .f32) (r : Fin 4096) (h : Fin 4) (e : Fin 128) : vheads X (ix4 0 r h e) = X (ix2 r (vcol h e)) := by
  pointwise [vheads]
  refine congrArg (fun j => X (ix2 r j)) (Fin.ext ?_)
  show h.val * 128 + e.val = 128 * h.val + e.val
  omega
theorem scaled_at (X : FVec Ideal S4096x1024 .f32) (s : FVec Ideal S_ .f32) (r : Fin 4096) (h : Fin 4) (e : Fin 256) :
    scaled X s (ix4 0 r h e) = X (ix2 r (col h e)) * s ix0 := by
  rw [← heads_at X r h e]
  pointwise [scaled]
theorem nope_at (Y : FVec Ideal S1x4096x4x256 .f32) (r : Fin 4096) (h : Fin 4) (e : Fin 128) : nope Y (ix4 0 r h e) = Y (ix4 0 r h (lo e)) := by
  pointwise [nope]
theorem rope_at (Y : FVec Ideal S1x4096x4x256 .f32) (r : Fin 4096) (h : Fin 4) (e : Fin 64) : rope Y (ix4 0 r h e) = Y (ix4 0 r h (mi e)) := by
  pointwise [rope]

/-! ## The five gradients as numbers -/

variable {m} {c} {x : Args} (H : Holds (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) x)
include H

theorem gp_m (h : Fin 4) (r k : Fin 4096) : gp (aQ m c) (aK m c) (aL m c) h r k = (x.wt h r k : EReal) := by
  rw [aQ_eq, aK_eq, aL_eq]; exact gp_num H r k h
theorem gds_m (h : Fin 4) (r k : Fin 4096) : gds (aQ m c) (aK m c) (aW m c) (aO m c) (aL m c) (aD m c) h r k = (x.gr h r k : EReal) := by
  rw [aQ_eq, aK_eq, aL_eq, aW_eq, aO_eq, aD_eq]; exact gds_num H r k h
theorem aO_num (h : Fin 4) (r : Fin 4096) (e : Fin 128) : aO m c (ix2 r (vcol h e)) = (x.o r h e : EReal) := by
  rw [aO_eq, ← H.o]; exact cast_vcol _ r h e
theorem aQ_lo (h : Fin 4) (r : Fin 4096) (e : Fin 128) : aQ m c (ix2 r (col h (lo e))) = ((x.qn r h e * (scale / Real.log 2) : ℝ) : EReal) := by
  rw [aQ_eq, ← q_lo H]; exact cast_col _ r h _
theorem aQ_mi (h : Fin 4) (r : Fin 4096) (e : Fin 64) : aQ m c (ix2 r (col h (mi e))) = ((x.qr r h e * (scale / Real.log 2) : ℝ) : EReal) := by
  rw [aQ_eq, ← q_mi H]; exact cast_col _ r h _
theorem aK_lo (h : Fin 4) (r : Fin 4096) (e : Fin 128) : aK m c (ix2 r (col h (lo e))) = (x.kn r h e : EReal) := by
  rw [aK_eq, ← k_lo H]; exact cast_col _ r h _
theorem aK_mi (h : Fin 4) (r : Fin 4096) (e : Fin 64) : aK m c (ix2 r (col h (mi e))) = (x.kr r e : EReal) := by
  rw [aK_eq, ← k_mi H r h e]; exact cast_col _ r h _

theorem v68_num (h : Fin 4) (k : Fin 4096) (e : Fin 128) : tail m c main_v68 (ix4 0 k h e) = ((∑ r, x.wt h r k * x.o r h e : ℝ) : EReal) := by
  rw [tail_v68, vheads_at, arrV_at]
  simp only [gp_m H, aO_num H, ← EReal.coe_mul, coe_sum]
theorem v66_num (h : Fin 4) (k : Fin 4096) (e : Fin 128) : tail m c main_v66 (ix4 0 k h e) = (((∑ r, x.gr h r k * (x.qn r h e * (scale / Real.log 2))) * Real.log 2 : ℝ) : EReal) := by
  rw [tail_v66, nope_at, heads_at, arrK_at]
  simp only [gds_m H, aQ_lo H, ← EReal.coe_mul, coe_sum, ln2]
theorem v67_num (h : Fin 4) (k : Fin 4096) (e : Fin 64) : tail m c main_v67 (ix4 0 k h e) = (((∑ r, x.gr h r k * (x.qr r h e * (scale / Real.log 2))) * Real.log 2 : ℝ) : EReal) := by
  rw [tail_v67, rope_at, heads_at, arrK_at]
  simp only [gds_m H, aQ_mi H, ← EReal.coe_mul, coe_sum, ln2]
theorem v64_num (h : Fin 4) (r : Fin 4096) (e : Fin 128) : tail m c main_v64 (ix4 0 r h e) = (((∑ k, x.gr h r k * x.kn k h e) * Real.log 2 * (scale / Real.log 2) : ℝ) : EReal) := by
  rw [tail_v64, nope_at, scaled_at, arrQ_at, kv1_at]
  simp only [gds_m H, aK_lo H, ← EReal.coe_mul, coe_sum, ln2]
theorem v65_num (h : Fin 4) (r : Fin 4096) (e : Fin 64) : tail m c main_v65 (ix4 0 r h e) = (((∑ k, x.gr h r k * x.kr k e) * Real.log 2 * (scale / Real.log 2) : ℝ) : EReal) := by
  rw [tail_v65, rope_at, scaled_at, arrQ_at, kv1_at]
  simp only [gds_m H, aK_mi H, ← EReal.coe_mul, coe_sum, ln2]

end Cert.KernelIdeal.Attn
-- ==== Proof.AttnHostR.lean ====
/- The reference's lines, named one by one: each gradient as a term of the arguments. -/
module

public import proofs.«01_k».proof.Proof.Gen.ReferenceIdeal.Run
public import proofs.«01_k».proof.Proof.AttnReal

@[expose] public section

set_option maxRecDepth 16384

noncomputable section

namespace Cert.ReferenceIdeal.Attn

open Idealize.ShloMosaic TcCoe Idealize.ShloMosaic.Tactic
open Idealize.SL.Sem
open ReferenceIdeal ReferenceIdeal.Gen
open scoped BigOperators

section
variable (a0 : FVec Ideal S1x4096x4x128 .f32) (a1 : FVec Ideal S1x4096x4x64 .f32) (a2 : FVec Ideal S1x4096x4x128 .f32) (a3 : FVec Ideal S1x4096x64 .f32) (a4 : FVec Ideal S1x4096x4x128 .f32) (a5 : FVec Ideal S1x4096x4x128 .f32)

def rv0 : FVec Ideal S1x4096x1x64 .f32 :=
  broadcastInDim S1x4096x1x64 ![0, 1, 3] bcast_S1x4096x64_S1x4096x1x64_0_1_3 a3
def rv1 : FVec Ideal S1x4096x4x64 .f32 :=
  broadcastInDim S1x4096x4x64 ![0, 1, 2, 3] bcast_S1x4096x1x64_S1x4096x4x64_0_1_2_3 (rv0 a3)
def rv2 : FVec Ideal S1x4x4096x4096 .f32 :=
  Host.dotGeneral dot_S1x4096x4x128_S1x4096x4x128_S1x4x4096x4096_3_3_1_1_02_02 none a0 a2
def rv3 : FVec Ideal S1x4x4096x4096 .f32 :=
  Host.dotGeneral dot_S1x4096x4x64_S1x4096x4x64_S1x4x4096x4096_3_3_1_1_02_02 none a1 (rv1 a3)
def rv4 : FVec Ideal S1x4x4096x4096 .f32 :=
  addf (rv2 a0 a2) (rv3 a1 a3)
def rv5 : FVec Ideal S1x4x4096x4096 .f32 :=
  broadcastInDim S1x4x4096x4096 ![] bcast_S_S1x4x4096x4096 (constant S_ .f32 0x3D93CD3A#32)
def rv6 : FVec Ideal S1x4x4096x4096 .f32 :=
  mulf (rv4 a0 a1 a2 a3) rv5
def rv7 : IVec S4096 32 :=
  iotaInDim S4096 32 0
def rv8 : IVec S1x4096 32 :=
  broadcastInDim S1x4096 ![1] bcast_S4096_S1x4096_1 rv7
def rv9 : IVec S4096x1 32 :=
  broadcastInDim S4096x1 ![0] bcast_S4096_S4096x1_0 rv7
def rv10 : IVec S4096x4096 32 :=
  broadcastInDim S4096x4096 ![0, 1] bcast_S1x4096_S4096x4096_0_1 rv8
def rv11 : IVec S4096x4096 32 :=
  broadcastInDim S4096x4096 ![0, 1] bcast_S4096x1_S4096x4096_0_1 rv9
def rv12 : IVec S4096x4096 1 :=
  cmpi .sle rv10 rv11
def rv13_1 : IVec S1x4x4096x4096 1 :=
  broadcastInDim S1x4x4096x4096 ![2, 3] bcast_S4096x4096_S1x4x4096x4096_2_3 rv12
def rcall0_v2 : FVec Ideal S1x4x4096x4096 .f32 :=
  broadcastInDim S1x4x4096x4096 ![] bcast_S_S1x4x4096x4096 (id (constant S_ .f32 0xFF800000#32))
def rv13_0 : FVec Ideal S1x4x4096x4096 .f32 :=
  select rv13_1 (rv6 a0 a1 a2 a3) rcall0_v2
def rv14 : FVec Ideal S1x4x4096 .f32 :=
  Host.reduce FloatOps.maximumf (rv13_0 a0 a1 a2 a3) (constant S_ .f32 0xFF800000#32) reducesTo_S1x4x4096x4096_S1x4x4096_d3 h_S_
def rv20 : FVec Ideal S1x4x4096 .f32 :=
  broadcastInDim S1x4x4096 ![] bcast_S_S1x4x4096 (constant S_ .f32 0xFF800000#32)
def rv21 : FVec Ideal S1x4x4096 .f32 :=
  maximumf rv20 (rv14 a0 a1 a2 a3)
def rv31 : FVec Ideal S1x4x4096x1 .f32 :=
  broadcastInDim S1x4x4096x1 ![0, 1, 2] bcast_S1x4x4096_S1x4x4096x1_0_1_2 (rv21 a0 a1 a2 a3)
def rv32 : FVec Ideal S1x4x4096x4096 .f32 :=
  broadcastInDim S1x4x4096x4096 ![0, 1, 2, 3] bcast_S1x4x4096x1_S1x4x4096x4096_0_1_2_3 (rv31 a0 a1 a2 a3)
def rv33 : FVec Ideal S1x4x4096x4096 .f32 :=
  subf (rv13_0 a0 a1 a2 a3) (rv32 a0 a1 a2 a3)
def rv34 : FVec Ideal S1x4x4096x4096 .f32 :=
  Host.exp (rv33 a0 a1 a2 a3)
def rv35 : FVec Ideal S1x4x4096 .f32 :=
  Host.reduceAdd (rv34 a0 a1 a2 a3) (constant S_ .f32 0x00000000#32) reducesTo_S1x4x4096x4096_S1x4x4096_d3 h_S_
def rv36 : FVec Ideal S1x4x4096x1 .f32 :=
  broadcastInDim S1x4x4096x1 ![0, 1, 2] bcast_S1x4x4096_S1x4x4096x1_0_1_2 (rv35 a0 a1 a2 a3)
def rv37 : FVec Ideal S1x4x4096x4096 .f32 :=
  broadcastInDim S1x4x4096x4096 ![0, 1, 2, 3] bcast_S1x4x4096x1_S1x4x4096x4096_0_1_2_3 (rv36 a0 a1 a2 a3)
def rv38 : FVec Ideal S1x4x4096x4096 .f32 :=
  Host.divf (rv34 a0 a1 a2 a3) (rv37 a0 a1 a2 a3)
def rv39 : FVec Ideal S1x4x4096x1 .f32 :=
  mulf (rv36 a0 a1 a2 a3) (rv36 a0 a1 a2 a3)
def rv40 : FVec Ideal S1x4x4096x1 .f32 :=
  broadcastInDim S1x4x4096x1 ![] bcast_S_S1x4x4096x1 (constant S_ .f32 0x3F800000#32)
def rv41 : FVec Ideal S1x4x4096x1 .f32 :=
  Host.divf rv40 (rv39 a0 a1 a2 a3)
def rv44 : FVec Ideal S1x4x128x4096 .f32 :=
  transpose S1x4x128x4096 [0, 2, 3, 1] a5 transposes_S1x4096x4x128_S1x4x128x4096_0_2_3_1
def rv45 : FVec Ideal S1x4x4096x4096 .f32 :=
  Host.dotGeneral dot_S1x4x128x4096_S1x4096x4x128_S1x4x4096x4096_2_3_3_1_01_02 none (rv44 a5) a4
def rv46 : FVec Ideal S1x4x128x4096 .f32 :=
  Host.dotGeneral dot_S1x4x128x4096_S1x4x4096x4096_S1x4x128x4096_3_2_2_3_01_01 none (rv44 a5) (rv38 a0 a1 a2 a3)
def rv47 : FVec Ideal S1x4096x4x128 .f32 :=
  transpose S1x4096x4x128 [0, 3, 1, 2] (rv46 a0 a1 a2 a3 a5) transposes_S1x4x128x4096_S1x4096x4x128_0_3_1_2
def rv48 : FVec Ideal S1x4x4096x4096 .f32 :=
  broadcastInDim S1x4x4096x4096 ![0, 1, 2, 3] bcast_S1x4x4096x1_S1x4x4096x4096_0_1_2_3 (rv41 a0 a1 a2 a3)
def rv49 : FVec Ideal S1x4x4096x4096 .f32 :=
  mulf (rv45 a4 a5) (rv48 a0 a1 a2 a3)
def rv50 : FVec Ideal S1x4x4096x4096 .f32 :=
  mulf (rv49 a0 a1 a2 a3 a4 a5) (rv34 a0 a1 a2 a3)
def rv51 : FVec Ideal S1x4x4096 .f32 :=
  Host.reduceAdd (rv50 a0 a1 a2 a3 a4 a5) (constant S_ .f32 0x00000000#32) reducesTo_S1x4x4096x4096_S1x4x4096_d3 h_S_
def rv52 : FVec Ideal S1x4x4096x1 .f32 :=
  shapeCast _ (rv51 a0 a1 a2 a3 a4 a5) shapeCasts_S1x4x4096_S1x4x4096x1
def rv53 : FVec Ideal S1x4x4096x1 .f32 :=
  Host.negf (rv52 a0 a1 a2 a3 a4 a5)
def rv54 : FVec Ideal S1x4x4096x4096 .f32 :=
  broadcastInDim S1x4x4096x4096 ![0, 1, 2, 3] bcast_S1x4x4096x1_S1x4x4096x4096_0_1_2_3 (rv36 a0 a1 a2 a3)
def rv55 : FVec Ideal S1x4x4096x4096 .f32 :=
  Host.divf (rv45 a4 a5) (rv54 a0 a1 a2 a3)
def rv56 : FVec Ideal S4x4096 .f32 :=
  Host.reduceAdd (rv53 a0 a1 a2 a3 a4 a5) (constant S_ .f32 0x00000000#32) reducesTo_S1x4x4096x1_S4x4096_d0_3 h_S_
def rv57 : FVec Ideal S1x4x4096 .f32 :=
  broadcastInDim S1x4x4096 ![1, 2] bcast_S4x4096_S1x4x4096_1_2 (rv56 a0 a1 a2 a3 a4 a5)
def rv58 : FVec Ideal S1x4x4096x4096 .f32 :=
  broadcastInDim S1x4x4096x4096 ![0, 1, 2] bcast_S1x4x4096_S1x4x4096x4096_0_1_2 (rv57 a0 a1 a2 a3 a4 a5)
def rv59 : FVec Ideal S1x4x4096x4096 .f32 :=
  addf (rv55 a0 a1 a2 a3 a4 a5) (rv58 a0 a1 a2 a3 a4 a5)
def rv60 : FVec Ideal S1x4x4096x4096 .f32 :=
  mulf (rv59 a0 a1 a2 a3 a4 a5) (rv34 a0 a1 a2 a3)
def rcall1_v0 : FVec Ideal S1x4x4096x4096 .f32 :=
  broadcastInDim S1x4x4096x4096 ![] bcast_S_S1x4x4096x4096 (constant S_ .f32 0x00000000#32)
def rv61 : FVec Ideal S1x4x4096x4096 .f32 :=
  select rv13_1 (rv60 a0 a1 a2 a3 a4 a5) rcall1_v0
def rv62 : FVec Ideal S1x4x4096x4096 .f32 :=
  broadcastInDim S1x4x4096x4096 ![] bcast_S_S1x4x4096x4096 (constant S_ .f32 0x3D93CD3A#32)
def rv63 : FVec Ideal S1x4x4096x4096 .f32 :=
  mulf (rv61 a0 a1 a2 a3 a4 a5) rv62
def rv64 : FVec Ideal S1x4x4096x64 .f32 :=
  Host.dotGeneral dot_S1x4x4096x4096_S1x4096x4x64_S1x4x4096x64_2_1_3_3_01_02 none (rv63 a0 a1 a2 a3 a4 a5) a1
def rv65 : FVec Ideal S1x4096x4x64 .f32 :=
  transpose S1x4096x4x64 [0, 2, 1, 3] (rv64 a0 a1 a2 a3 a4 a5) transposes_S1x4x4096x64_S1x4096x4x64_0_2_1_3
def rv66 : FVec Ideal S1x4x4096x64 .f32 :=
  Host.dotGeneral dot_S1x4x4096x4096_S1x4096x4x64_S1x4x4096x64_3_1_2_3_01_02 none (rv63 a0 a1 a2 a3 a4 a5) (rv1 a3)
def rv67 : FVec Ideal S1x4096x4x64 .f32 :=
  transpose S1x4096x4x64 [0, 2, 1, 3] (rv66 a0 a1 a2 a3 a4 a5) transposes_S1x4x4096x64_S1x4096x4x64_0_2_1_3
def rv68 : FVec Ideal S1x4x4096x128 .f32 :=
  Host.dotGeneral dot_S1x4x4096x4096_S1x4096x4x128_S1x4x4096x128_2_1_3_3_01_02 none (rv63 a0 a1 a2 a3 a4 a5) a0
def rv69 : FVec Ideal S1x4096x4x128 .f32 :=
  transpose S1x4096x4x128 [0, 2, 1, 3] (rv68 a0 a1 a2 a3 a4 a5) transposes_S1x4x4096x128_S1x4096x4x128_0_2_1_3
def rv70 : FVec Ideal S1x4x4096x128 .f32 :=
  Host.dotGeneral dot_S1x4x4096x4096_S1x4096x4x128_S1x4x4096x128_3_1_2_3_01_02 none (rv63 a0 a1 a2 a3 a4 a5) a2
def rv71 : FVec Ideal S1x4096x4x128 .f32 :=
  transpose S1x4096x4x128 [0, 2, 1, 3] (rv70 a0 a1 a2 a3 a4 a5) transposes_S1x4x4096x128_S1x4096x4x128_0_2_1_3

end

variable (m : (ℓ : Loc nD τ sig) → Buf (Elt Ideal) ℓ) (c : Dev nD)

theorem res_v71 : ReferenceIdeal.Value.res_main_v71 m c = rv71 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [ReferenceIdeal.Value.res_main_v71]; rfl
theorem res_v67 : ReferenceIdeal.Value.res_main_v67 m c = rv67 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [ReferenceIdeal.Value.res_main_v67]; rfl
theorem res_v69 : ReferenceIdeal.Value.res_main_v69 m c = rv69 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [ReferenceIdeal.Value.res_main_v69]; rfl
theorem res_v65 : ReferenceIdeal.Value.res_main_v65 m c = rv65 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [ReferenceIdeal.Value.res_main_v65]; rfl
theorem res_v47 : ReferenceIdeal.Value.res_main_v47 m c = rv47 (m ((c : Thread nD τ).loc main_arg0)) (m ((c : Thread nD τ).loc main_arg1)) (m ((c : Thread nD τ).loc main_arg2)) (m ((c : Thread nD τ).loc main_arg3)) (m ((c : Thread nD τ).loc main_arg5)) := by
  rw [ReferenceIdeal.Value.res_main_v47]; rfl

end Cert.ReferenceIdeal.Attn
-- ==== Proof.AttnNumR.lean ====
/- The reference's lines at numbers: each gradient as a sum of the softmax gradient's terms. -/
module

public import proofs.«01_k».proof.Proof.AttnHostR

@[expose] public section

set_option maxRecDepth 16384

noncomputable section

namespace Cert.ReferenceIdeal.Attn

open Idealize.ShloMosaic TcCoe Idealize.ShloMosaic.Tactic
open Idealize.SL.Sem
open ReferenceIdeal ReferenceIdeal.Gen Cert.Attn
open scoped BigOperators

section
variable (a0 : FVec Ideal S1x4096x4x128 .f32) (a1 : FVec Ideal S1x4096x4x64 .f32) (a2 : FVec Ideal S1x4096x4x128 .f32) (a3 : FVec Ideal S1x4096x64 .f32)
  (a4 : FVec Ideal S1x4096x4x128 .f32) (a5 : FVec Ideal S1x4096x4x128 .f32)

theorem bot_f32 : Ideal.ofBits .f32 0xFF800000#32 = ⊥ := by simp [Ideal.ofBits, Ideal.ieee]

theorem rv1_at (r : Fin 4096) (h : Fin 4) (d : Fin 64) : rv1 a3 (ix4 0 r h d) = a3 (ix3 0 r d) := by
  pointwise [rv1, rv0]

theorem rv6_at (r k : Fin 4096) (h : Fin 4) : rv6 a0 a1 a2 a3 (ix4 0 h r k)
    = ((∑ d, a0 (ix4 0 r h d) * a2 (ix4 0 k h d)) + ∑ d, a1 (ix4 0 r h d) * rv1 a3 (ix4 0 k h d)) * Ideal.ofBits .f32 0x3D93CD3A#32 := by
  pointwise [rv6, rv5, rv4, rv3, rv2]

theorem mask_at (X Y : FVec Ideal S1x4x4096x4096 .f32) (r k : Fin 4096) (h : Fin 4) :
    select rv13_1 X Y (ix4 0 h r k) = if k.val ≤ r.val then X (ix4 0 h r k) else Y (ix4 0 h r k) := by
  pointwise [rv13_1, rv12, rv11, rv10, rv9, rv8, rv7]
  rw [sel_le]

theorem rv13_at (r k : Fin 4096) (h : Fin 4) : rv13_0 a0 a1 a2 a3 (ix4 0 h r k) = if k.val ≤ r.val then rv6 a0 a1 a2 a3 (ix4 0 h r k) else ⊥ := by
  unfold rv13_0
  rw [mask_at]
  have hb : rcall0_v2 (ix4 0 h r k) = ⊥ := bot_f32
  rw [hb]

theorem rv14_at (r : Fin 4096) (h : Fin 4) : rv14 a0 a1 a2 a3 (ix3 0 h r) = Finset.fold max ⊥ (fun k => rv13_0 a0 a1 a2 a3 (ix4 0 h r k)) Finset.univ := by
  pointwise [rv14]
  rw [bot_f32]

theorem row_max_at (X Y : FVec Ideal S1x4x4096 .f32) (i : S1x4x4096.Idx) : maximumf X Y i = max (X i) (Y i) := by
  pointwise

theorem rv21_at (r : Fin 4096) (h : Fin 4) : rv21 a0 a1 a2 a3 (ix3 0 h r) = max ⊥ (rv14 a0 a1 a2 a3 (ix3 0 h r)) := by
  have h20 : rv20 (ix3 0 h r) = ⊥ := bot_f32
  rw [← h20]
  unfold rv21
  exact row_max_at _ _ _

theorem rv34_at (r k : Fin 4096) (h : Fin 4) : rv34 a0 a1 a2 a3 (ix4 0 h r k)
    = Ideal.exp (rv13_0 a0 a1 a2 a3 (ix4 0 h r k) - rv21 a0 a1 a2 a3 (ix3 0 h r)) := by
  pointwise [rv34, rv33, rv32, rv31]

theorem rv35_at (r : Fin 4096) (h : Fin 4) : rv35 a0 a1 a2 a3 (ix3 0 h r) = ∑ k, rv34 a0 a1 a2 a3 (ix4 0 h r k) := by
  pointwise [rv35]

theorem rv38_at (r k : Fin 4096) (h : Fin 4) : rv38 a0 a1 a2 a3 (ix4 0 h r k)
    = Ideal.div (rv34 a0 a1 a2 a3 (ix4 0 h r k)) (rv35 a0 a1 a2 a3 (ix3 0 h r)) := by
  pointwise [rv38, rv37, rv36]

theorem rv41_at (r : Fin 4096) (h : Fin 4) : rv41 a0 a1 a2 a3 (ix4 0 h r 0)
    = Ideal.div 1 (rv35 a0 a1 a2 a3 (ix3 0 h r) * rv35 a0 a1 a2 a3 (ix3 0 h r)) := by
  pointwise [rv41, rv40, rv39, rv36]

theorem rv45_at (r k : Fin 4096) (h : Fin 4) : rv45 a4 a5 (ix4 0 h r k) = ∑ e, a5 (ix4 0 r h e) * a4 (ix4 0 k h e) := by
  pointwise [rv45, rv44]

theorem rv47_at (k : Fin 4096) (h : Fin 4) (e : Fin 128) : rv47 a0 a1 a2 a3 a5 (ix4 0 k h e) = ∑ r, a5 (ix4 0 r h e) * rv38 a0 a1 a2 a3 (ix4 0 h r k) := by
  pointwise [rv47, rv46, rv44]

theorem rv50_at (r k : Fin 4096) (h : Fin 4) : rv50 a0 a1 a2 a3 a4 a5 (ix4 0 h r k)
    = rv45 a4 a5 (ix4 0 h r k) * rv41 a0 a1 a2 a3 (ix4 0 h r 0) * rv34 a0 a1 a2 a3 (ix4 0 h r k) := by
  pointwise [rv50, rv49, rv48]

theorem rv51_at (r : Fin 4096) (h : Fin 4) : rv51 a0 a1 a2 a3 a4 a5 (ix3 0 h r) = ∑ k, rv50 a0 a1 a2 a3 a4 a5 (ix4 0 h r k) := by
  pointwise [rv51]

/-- The sum over the two axes of size one is the only term. -/
theorem unit_sum (X : FVec Ideal S1x4x4096x1 .f32) (h : Fin 4) (r : Fin 4096) :
    Ideal.hostReduceAdd reducesTo_S1x4x4096x1_S4x4096_d0_3 X 0 (ix2 h r) = X (ix4 0 h r 0) := by
  unfold Ideal.hostReduceAdd
  have hf : Finset.univ.filter (fun i => reducesTo_S1x4x4096x1_S4x4096_d0_3.drop i = ix2 h r) = {ix4 0 h r 0} := by
    ext i
    simp only [Finset.mem_filter, Finset.mem_univ, true_and, Finset.mem_singleton]
    constructor
    · intro hi
      have h1 : (i 1).val = h.val := congrArg Fin.val (congrFun hi 0)
      have h2 : (i 2).val = r.val := congrArg Fin.val (congrFun hi 1)
      have h0 : (i 0).val < 1 := (i 0).isLt
      have h3 : (i 3).val < 1 := (i 3).isLt
      funext a
      fin_cases a <;> apply Fin.ext
      · show (i 0).val = 0; omega
      · exact h1
      · exact h2
      · show (i 3).val = 0; omega
    · rintro rfl
      funext b
      fin_cases b <;> rfl
  rw [hf, Finset.sum_singleton, zero_add]

theorem rv57_at (r : Fin 4096) (h : Fin 4) : rv57 a0 a1 a2 a3 a4 a5 (ix3 0 h r) = - rv51 a0 a1 a2 a3 a4 a5 (ix3 0 h r) := by
  pointwise [rv57, rv56, rv53, rv52]
  rw [unit_sum]
  pointwise

theorem rv60_at (r k : Fin 4096) (h : Fin 4) : rv60 a0 a1 a2 a3 a4 a5 (ix4 0 h r k)
    = (Ideal.div (rv45 a4 a5 (ix4 0 h r k)) (rv35 a0 a1 a2 a3 (ix3 0 h r)) + rv57 a0 a1 a2 a3 a4 a5 (ix3 0 h r)) * rv34 a0 a1 a2 a3 (ix4 0 h r k) := by
  pointwise [rv60, rv59, rv58, rv55, rv54, rv36]

theorem rv63_at (r k : Fin 4096) (h : Fin 4) : rv63 a0 a1 a2 a3 a4 a5 (ix4 0 h r k)
    = (if k.val ≤ r.val then rv60 a0 a1 a2 a3 a4 a5 (ix4 0 h r k) else 0) * Ideal.ofBits .f32 0x3D93CD3A#32 := by
  have h0 : rcall1_v0 (ix4 0 h r k) = 0 := Ideal.ofBits_zero .f32
  have h1 : rv62 (ix4 0 h r k) = Ideal.ofBits .f32 0x3D93CD3A#32 := rfl
  have h2 : rv61 a0 a1 a2 a3 a4 a5 (ix4 0 h r k) = if k.val ≤ r.val then rv60 a0 a1 a2 a3 a4 a5 (ix4 0 h r k) else 0 := by
    unfold rv61
    rw [mask_at, h0]
  rw [← h1, ← h2]
  rfl

theorem rv65_at (k : Fin 4096) (h : Fin 4) (e : Fin 64) : rv65 a0 a1 a2 a3 a4 a5 (ix4 0 k h e) = ∑ r, rv63 a0 a1 a2 a3 a4 a5 (ix4 0 h r k) * a1 (ix4 0 r h e) := by
  pointwise [rv65, rv64]
theorem rv67_at (r : Fin 4096) (h : Fin 4) (e : Fin 64) : rv67 a0 a1 a2 a3 a4 a5 (ix4 0 r h e) = ∑ k, rv63 a0 a1 a2 a3 a4 a5 (ix4 0 h r k) * rv1 a3 (ix4 0 k h e) := by
  pointwise [rv67, rv66]
theorem rv69_at (k : Fin 4096) (h : Fin 4) (e : Fin 128) : rv69 a0 a1 a2 a3 a4 a5 (ix4 0 k h e) = ∑ r, rv63 a0 a1 a2 a3 a4 a5 (ix4 0 h r k) * a0 (ix4 0 r h e) := by
  pointwise [rv69, rv68]
theorem rv71_at (r : Fin 4096) (h : Fin 4) (e : Fin 128) : rv71 a0 a1 a2 a3 a4 a5 (ix4 0 r h e) = ∑ k, rv63 a0 a1 a2 a3 a4 a5 (ix4 0 h r k) * a2 (ix4 0 k h e) := by
  pointwise [rv71, rv70]

end

variable {a0 : FVec Ideal S1x4096x4x128 .f32} {a1 : FVec Ideal S1x4096x4x64 .f32} {a2 : FVec Ideal S1x4096x4x128 .f32} {a3 : FVec Ideal S1x4096x64 .f32}
  {a4 : FVec Ideal S1x4096x4x128 .f32} {a5 : FVec Ideal S1x4096x4x128 .f32} {x : Args} (H : Holds a0 a1 a2 a3 a4 a5 x)
include H

theorem s_num (r k : Fin 4096) (h : Fin 4) : rv6 a0 a1 a2 a3 (ix4 0 h r k) = (x.score h r k : EReal) := by
  rw [rv6_at, scale_f32]
  simp only [rv1_at, H.qn, H.kn, H.qr, H.kr, ← EReal.coe_mul, coe_sum, ← EReal.coe_add]
  rfl

/-- A row's greatest score is a number. -/
theorem max_num (r : Fin 4096) (h : Fin 4) : ∃ M : ℝ, rv21 a0 a1 a2 a3 (ix3 0 h r) = M := by
  rw [rv21_at, rv14_at]
  obtain ⟨M, hM⟩ := fold_max_real (fun k => rv13_0 a0 a1 a2 a3 (ix4 0 h r k)) (fun k => by
    rw [rv13_at, s_num H]
    split
    · exact Or.inr ⟨_, rfl⟩
    · exact Or.inl rfl) r (x.score h r r) (by rw [rv13_at, s_num H, if_pos le_rfl])
  exact ⟨M, by rw [hM]; exact max_eq_right bot_le⟩

section
variable {r : Fin 4096} {h : Fin 4} {M : ℝ} (hM : rv21 a0 a1 a2 a3 (ix3 0 h r) = M)
include hM

theorem e_num (k : Fin 4096) : rv34 a0 a1 a2 a3 (ix4 0 h r k) = (x.ex M h r k : EReal) := by
  rw [rv34_at, rv13_at, s_num H, hM, Args.ex]
  split
  · rw [← EReal.coe_sub, Ideal.exp_coe]
  · rw [EReal.bot_sub, Ideal.exp_bot, EReal.coe_zero]

theorem l_num : rv35 a0 a1 a2 a3 (ix3 0 h r) = (x.sm M h r : EReal) := by
  rw [rv35_at]
  simp only [e_num H hM, coe_sum]
  rfl
end

theorem p_num (r k : Fin 4096) (h : Fin 4) : rv38 a0 a1 a2 a3 (ix4 0 h r k) = (x.wt h r k : EReal) := by
  obtain ⟨M, hM⟩ := max_num H r h
  rw [rv38_at, e_num H hM, l_num H hM, div_real _ _ (x.sm_pos h r _).ne', x.wt_shift]

theorem ct_num (r k : Fin 4096) (h : Fin 4) : rv45 a4 a5 (ix4 0 h r k) = (x.ct h r k : EReal) := by
  rw [rv45_at]
  simp only [H.o, H.v, ← EReal.coe_mul, coe_sum]
  rfl

theorem g_num (r k : Fin 4096) (h : Fin 4) : rv63 a0 a1 a2 a3 a4 a5 (ix4 0 h r k) = ((x.gr h r k * scale : ℝ) : EReal) := by
  obtain ⟨M, hM⟩ := max_num H r h
  have hs := (x.sm_pos h r M).ne'
  have h50 : ∀ j, rv50 a0 a1 a2 a3 a4 a5 (ix4 0 h r j) = ((x.ct h r j * (1 / (x.sm M h r * x.sm M h r)) * x.ex M h r j : ℝ) : EReal) := fun j => by
    rw [rv50_at, ct_num H, rv41_at, l_num H hM, e_num H hM, ← EReal.coe_mul, ← EReal.coe_one, div_real _ _ (mul_ne_zero hs hs), ← EReal.coe_mul, ← EReal.coe_mul]
  have h60 : rv60 a0 a1 a2 a3 a4 a5 (ix4 0 h r k) = (x.gr h r k : EReal) := by
    rw [rv60_at, ct_num H, l_num H hM, e_num H hM, rv57_at, rv51_at, div_real _ _ hs]
    simp only [h50, coe_sum, ← EReal.coe_neg, ← EReal.coe_add, ← EReal.coe_mul]
    rw [x.gr_quot]
  rw [rv63_at, h60, scale_f32]
  split
  · rw [← EReal.coe_mul]
  · rw [Args.gr, x.wt_masked h r k ‹_›, zero_mul, zero_mul, zero_mul, EReal.coe_zero]

end Cert.ReferenceIdeal.Attn
-- ==== Proof.Finite.lean ====
/- Arrays whose absolute values are all below the top hold real numbers. -/
module

public import Idealize.ShloMosaic.Lib.Pipeline.ValueKit
public import Idealize.ShloMosaic.Lib.ReduceAll

@[expose] public section

noncomputable section

namespace Cert.Finite

open Idealize.ShloMosaic TcCoe

theorem top_f32 : Ideal.ofBits .f32 0x7F800000#32 = ⊤ := by simp [Ideal.ofBits, Ideal.ieee]

/-- An extended real whose absolute value is below the top is a real number, -/
theorem real_of_abs (z : EReal) (h : Ideal.cmp .olt (max z (-z)) ⊤ = 1#1) : z = (z.toReal : EReal) := by
  have hlt : max z (-z) < ⊤ := by
    by_contra hn
    simp [Ideal.cmp, hn] at h
  refine (EReal.coe_toReal (fun ht => ?_) (fun hb => ?_)).symm
  · rw [ht] at hlt; simp at hlt
  · rw [hb] at hlt; simp at hlt

/-- so an array whose absolute values are all below the top holds real numbers. -/
theorem real_of_all {s : Shape} {axes : List (Fin s.rank)} (X T : FVec Ideal s .f32) (hT : ∀ i, T i = ⊤) (init : IVec ⟨0, ![]⟩ 1)
    (h : s.ReducesTo axes ⟨0, ![]⟩) (hu : 0 < Shape.numel ⟨0, ![]⟩) (e : Host.reduce IntOp.andi (cmpf .olt (Host.absf X) T) init h hu ix0 = 1#1) (i : s.Idx) :
    X i = ((X i).toReal : EReal) := by
  haveI : Subsingleton (Shape.Idx ⟨0, ![]⟩) := ⟨fun a b => funext fun d => d.elim0⟩
  have h1 := Host.reduce_andi_all _ init h hu ix0 e i
  refine real_of_abs _ ?_
  rw [← hT i]
  exact h1

end Cert.Finite
-- ==== Proof.AttnFinite.lean ====
/- Finite argument arrays are arrays of real numbers. -/
module

public import proofs.«01_k».proof.Proof.Gen.Pre_finite
public import proofs.«01_k».proof.Proof.AttnReal
public import proofs.«01_k».proof.Proof.Finite

@[expose] public section

set_option maxRecDepth 16384

noncomputable section

namespace Cert.Pre_finite

open Idealize.ShloMosaic TcCoe Idealize.ShloMosaic.Tactic Cert.Attn Cert.Finite

/-- Arrays that satisfy the precondition hold real numbers. -/
theorem holds [Facts] (a0 : FVec Ideal ⟨4, ![1, 4096, 4, 128]⟩ .f32) (a1 : FVec Ideal ⟨4, ![1, 4096, 4, 64]⟩ .f32) (a2 : FVec Ideal ⟨4, ![1, 4096, 4, 128]⟩ .f32)
    (a3 : FVec Ideal ⟨3, ![1, 4096, 64]⟩ .f32) (a4 a5 : FVec Ideal ⟨4, ![1, 4096, 4, 128]⟩ .f32)
    (h : fn (F := Ideal) a0 a1 a2 a3 a4 a5 = fun _ => 1#1) : ∃ x, Holds a0 a1 a2 a3 a4 a5 x := by
  have h0 := congrFun h ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨⟨fun r h d => (a0 (ix4 0 r h d)).toReal, fun r h d => (a1 (ix4 0 r h d)).toReal, fun r h d => (a2 (ix4 0 r h d)).toReal,
      fun r d => (a3 (ix3 0 r d)).toReal, fun r h d => (a4 (ix4 0 r h d)).toReal, fun r h d => (a5 (ix4 0 r h d)).toReal⟩,
    fun r h d => real_of_all _ _ (fun _ => top_f32) _ _ _ e0 _, fun r h d => real_of_all _ _ (fun _ => top_f32) _ _ _ e1 _,
    fun r h d => real_of_all _ _ (fun _ => top_f32) _ _ _ e2 _, fun r d => real_of_all _ _ (fun _ => top_f32) _ _ _ e3 _,
    fun r h d => real_of_all _ _ (fun _ => top_f32) _ _ _ e4 _, fun r h d => real_of_all _ _ (fun _ => top_f32) _ _ _ e5 _⟩

end Cert.Pre_finite
-- ==== Proof.AttnEq.lean ====
/- The five gradients of the kernel are the reference's. -/
module

public import proofs.«01_k».proof.Proof.AttnTail
public import proofs.«01_k».proof.Proof.AttnNumR
public import proofs.«01_k».proof.Proof.AttnFinite

@[expose] public section

set_option maxRecDepth 16384

noncomputable section

namespace Cert.KernelIdeal.Attn

open Idealize.ShloMosaic TcCoe Idealize.ShloMosaic.Tactic
open Idealize.SL.Sem
open KernelIdeal KernelIdeal.Gen Cert.Attn
open scoped BigOperators

theorem log_two_ne : Real.log 2 ≠ 0 := (Real.log_pos (by norm_num)).ne'

/-- The score factor inside the sum is the packed factor outside it, -/
theorem factor_in {n : ℕ} (g f : Fin n → ℝ) : (∑ r, g r * (f r * (scale / Real.log 2))) * Real.log 2 = ∑ r, g r * scale * f r := by
  rw [Finset.sum_mul]
  refine Finset.sum_congr rfl fun r _ => ?_
  have := log_two_ne
  field_simp

/-- and the same on the other side. -/
theorem factor_out {n : ℕ} (g f : Fin n → ℝ) : (∑ r, g r * f r) * Real.log 2 * (scale / Real.log 2) = ∑ r, g r * scale * f r := by
  rw [mul_assoc, Finset.sum_mul]
  refine Finset.sum_congr rfl fun r _ => ?_
  have := log_two_ne
  field_simp

variable {m : (ℓ : Loc nD τ sig) → Buf (Elt Ideal) ℓ} {c : Dev nD} {x : Args} (H : Holds (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) x)
include H

theorem eq_v64 : tail m c main_v64 = ReferenceIdeal.Attn.rv71 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, r, h, e, rfl⟩ : ∃ b r h e, i = ix4 b r h e := ⟨i 0, i 1, i 2, i 3, by funext d; fin_cases d <;> rfl⟩
  obtain rfl : b = 0 := Subsingleton.elim _ _
  refine (v64_num H h r e).trans ?_
  rw [ReferenceIdeal.Attn.rv71_at]
  simp only [ReferenceIdeal.Attn.g_num H, H.kn, ← EReal.coe_mul, coe_sum]
  exact congrArg Real.toEReal (factor_out _ _)

theorem eq_v65 : tail m c main_v65 = ReferenceIdeal.Attn.rv67 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, r, h, e, rfl⟩ : ∃ b r h e, i = ix4 b r h e := ⟨i 0, i 1, i 2, i 3, by funext d; fin_cases d <;> rfl⟩
  obtain rfl : b = 0 := Subsingleton.elim _ _
  refine (v65_num H h r e).trans ?_
  rw [ReferenceIdeal.Attn.rv67_at]
  simp only [ReferenceIdeal.Attn.g_num H, ReferenceIdeal.Attn.rv1_at, H.kr, ← EReal.coe_mul, coe_sum]
  exact congrArg Real.toEReal (factor_out _ _)

theorem eq_v66 : tail m c main_v66 = ReferenceIdeal.Attn.rv69 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, r, h, e, rfl⟩ : ∃ b r h e, i = ix4 b r h e := ⟨i 0, i 1, i 2, i 3, by funext d; fin_cases d <;> rfl⟩
  obtain rfl : b = 0 := Subsingleton.elim _ _
  refine (v66_num H h r e).trans ?_
  rw [ReferenceIdeal.Attn.rv69_at]
  simp only [ReferenceIdeal.Attn.g_num H, H.qn, ← EReal.coe_mul, coe_sum]
  exact congrArg Real.toEReal (factor_in _ _)

theorem eq_v67 : tail m c main_v67 = ReferenceIdeal.Attn.rv65 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, r, h, e, rfl⟩ : ∃ b r h e, i = ix4 b r h e := ⟨i 0, i 1, i 2, i 3, by funext d; fin_cases d <;> rfl⟩
  obtain rfl : b = 0 := Subsingleton.elim _ _
  refine (v67_num H h r e).trans ?_
  rw [ReferenceIdeal.Attn.rv65_at]
  simp only [ReferenceIdeal.Attn.g_num H, H.qr, ← EReal.coe_mul, coe_sum]
  exact congrArg Real.toEReal (factor_in _ _)

theorem eq_v68 : tail m c main_v68 = ReferenceIdeal.Attn.rv47 (m ((c : Thread nD τ).loc main_arg0)) (m ((c : Thread nD τ).loc main_arg1)) (m ((c : Thread nD τ).loc main_arg2))
    (m ((c : Thread nD τ).loc main_arg3)) (m ((c : Thread nD τ).loc main_arg5)) := by
  funext i
  obtain ⟨b, r, h, e, rfl⟩ : ∃ b r h e, i = ix4 b r h e := ⟨i 0, i 1, i 2, i 3, by funext d; fin_cases d <;> rfl⟩
  obtain rfl : b = 0 := Subsingleton.elim _ _
  refine (v68_num H h r e).trans ?_
  rw [ReferenceIdeal.Attn.rv47_at]
  simp only [ReferenceIdeal.Attn.p_num H, H.o, ← EReal.coe_mul, coe_sum]
  exact congrArg Real.toEReal (Finset.sum_congr rfl fun _ _ => mul_comm _ _)

end Cert.KernelIdeal.Attn
-- ==== Proof.AttnClaim.lean ====
/- The kernel's run, its results named, and the claim that they are the reference's. -/
module

public import proofs.«01_k».proof.Defs
public import proofs.«01_k».proof.Proof.AttnEq
public import Idealize.ShloMosaic.Lib.Claim

@[expose] public section

noncomputable section

namespace Cert.KernelIdeal.Attn

open Idealize.ShloMosaic TcCoe Idealize.ShloMosaic.Tactic
open Idealize.SL.Sem
open KernelIdeal KernelIdeal.Gen Cert.Attn

variable (m : (ℓ : Loc nD τ sig) → Buf (Elt Ideal) ℓ) (ρ : Dev nD → PrngReg)

/-- Every run ends with the five results the host lines make and the arguments as they were. -/
theorem run_tail : θ_run (defs (F := Ideal)) (onTc (τ := τ) (main (F := Ideal))) ⟨m, fun _ => 0, ρ⟩ (fun r => ∀ c : Dev nD,
      r.2.mem ((c.tc : Thread nD τ).loc main_v64) = tail m c main_v64
      ∧ r.2.mem ((c.tc : Thread nD τ).loc main_v65) = tail m c main_v65
      ∧ r.2.mem ((c.tc : Thread nD τ).loc main_v66) = tail m c main_v66
      ∧ r.2.mem ((c.tc : Thread nD τ).loc main_v67) = tail m c main_v67
      ∧ r.2.mem ((c.tc : Thread nD τ).loc main_v68) = tail m c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v64 (Pipeline.mem_restRefs_of main_v64 (by decide) (by decide)),
      (h c).2 main_v65 (Pipeline.mem_restRefs_of main_v65 (by decide) (by decide)),
      (h c).2 main_v66 (Pipeline.mem_restRefs_of main_v66 (by decide) (by decide)),
      (h c).2 main_v67 (Pipeline.mem_restRefs_of main_v67 (by decide) (by decide)),
      (h c).2 main_v68 (Pipeline.mem_restRefs_of main_v68 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

/-- The gradients of the kernel are the reference's, on finite arguments. -/
theorem algebraic : algebraic_KernelIdeal_ReferenceIdeal_pre_finite := by
  intro m g m' g' hpre hagree
  refine ⟨_, _, _, _, _, run_tail m g, (θ_run ReferenceIdeal.defs _ _).mono (fun r h c => ?_) (ReferenceIdeal.Value.run m' g')⟩
  obtain ⟨h0, h1, h2, h3, h4, hk⟩ := h c
  obtain ⟨b0, b1, b2, b3, b4, b5⟩ := hagree c
  obtain ⟨x, H⟩ := Cert.Pre_finite.holds _ _ _ _ _ _ (hpre c)
  refine ⟨?_, ?_, ?_, ?_, ?_, hk⟩
  · rw [h0, ReferenceIdeal.Attn.res_v71, b0, b1, b2, b3, b4, b5]; exact (eq_v64 H).symm
  · rw [h1, ReferenceIdeal.Attn.res_v67, b0, b1, b2, b3, b4, b5]; exact (eq_v65 H).symm
  · rw [h2, ReferenceIdeal.Attn.res_v69, b0, b1, b2, b3, b4, b5]; exact (eq_v66 H).symm
  · rw [h3, ReferenceIdeal.Attn.res_v65, b0, b1, b2, b3, b4, b5]; exact (eq_v67 H).symm
  · rw [h4, ReferenceIdeal.Attn.res_v47, b0, b1, b2, b3, b5]; exact (eq_v68 H).symm

theorem quiescent : quiescent_KernelIdeal := fun m g _ => frame m g

/-- The reference keeps its arguments; it declares no semaphore. -/
theorem quiescent_reference : quiescent_ReferenceIdeal := fun m g _ =>
  (θ_run ReferenceIdeal.defs _ _).mono
    (fun r h => ⟨fun c => (h c).2.2.2.2.2, sem_eq_zero_of_no_sems (by decide) r.2⟩) (ReferenceIdeal.Value.run m g)

end Cert.KernelIdeal.Attn
-- ==== Proof.AttnBits.lean ====
/- The frame of the program as printed: the same program with its constants unnamed. -/
module

public import proofs.«01_k».proof.Defs
public import proofs.«01_k».proof.Proof.Gen.Kernel
public import proofs.«01_k».proof.Proof.AttnFrame

@[expose] public section

set_option maxRecDepth 16384

noncomputable section

namespace Cert.KernelIdeal.Attn

open Idealize.ShloMosaic TcCoe Idealize.ShloMosaic.Tactic
open Idealize.SL.Sem

/-- A named constant read as its bits. -/
local instance : Named Bits where
  named _ _ {φ} bits := Scalar.ofBits (F := Bits) φ bits

/-- The frame's statement at the programs' own arithmetic. -/
def FrameBits : Prop := ∀ (m : (ℓ : Loc nD τ sig) → Buf (Elt Bits) ℓ) (ρ : Dev nD → PrngReg),
  θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem frame_bits : FrameBits := fun m ρ => frame m ρ

/-- The same of the program as printed. -/
def FrameKernel : Prop := ∀ (m : (ℓ : Loc Kernel.nD Kernel.τ Kernel.sig) → Buf (Elt Bits) ℓ) (ρ : Dev Kernel.nD → PrngReg),
  θ_run (Kernel.defs (F := Bits)) (onTc (τ := Kernel.τ) (Kernel.main (F := Bits))) ⟨m, fun _ => 0, ρ⟩ (fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2)
      ∧ r.2.mem ((c.tc : Thread Kernel.nD Kernel.τ).loc Kernel.main_arg3) = m ((c.tc : Thread Kernel.nD Kernel.τ).loc Kernel.main_arg3)
      ∧ r.2.mem ((c.tc : Thread Kernel.nD Kernel.τ).loc Kernel.main_arg4) = m ((c.tc : Thread Kernel.nD Kernel.τ).loc Kernel.main_arg4)
      ∧ r.2.mem ((c.tc : Thread Kernel.nD Kernel.τ).loc Kernel.main_arg5) = m ((c.tc : Thread Kernel.nD Kernel.τ).loc Kernel.main_arg5))
      ∧ r.2.sem = fun _ => 0)

/-- The two programs are one text, so the two statements are one. -/
theorem same : FrameKernel = FrameBits := by sl_kernel_rfl

theorem quiescent_printed : quiescent_Kernel := fun m g _ => cast same.symm frame_bits m g

end Cert.KernelIdeal.Attn
-- ==== Proof.Mod.lean ====
/- The modulation's gradients: what the eight grid points leave in the kernel's three result arrays is the
   reference's term of the arguments. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.ModValue

open Kernel2Ideal Kernel2Ideal.Gen Idealize.ShloMosaic TcCoe Idealize.SL.Sem
open Idealize.ShloMosaic.Pipeline (Dat)
open scoped BigOperators

variable (m : (ℓ : Loc nD τ sig) → Buf (Elt Ideal) ℓ)

/-- The gradient of x: the cotangent of h scaled, the residual's cotangent added. -/
abbrev refDx (x1 : FVec Ideal S4096x1024 .bf16) (x2 : FVec Ideal S4096x1024 .f32) (x3 : FVec Ideal S1x1024 .f32) :
    FVec Ideal S4096x1024 .f32 :=
  addf x2 (mulf (extf .f32 x1 Reference2Ideal.Gen.bitsLt_bf16_f32)
    (broadcastInDim S4096x1024 ![0, 1] Reference2Ideal.Gen.bcast_S1x1024_S4096x1024_0_1
      (addf (broadcastInDim S1x1024 ![] Reference2Ideal.Gen.bcast_S_S1x1024 (constant Reference2Ideal.S_ .f32 0x3F800000#32)) x3)))

/-- The gradient of the scale: the column sums of x times the cotangent. -/
abbrev refDsc (x0 : FVec Ideal S4096x1024 .f32) (x1 : FVec Ideal S4096x1024 .bf16) : FVec Ideal S1x1024 .f32 :=
  shapeCast _ (Host.reduceAdd (mulf x0 (extf .f32 x1 Reference2Ideal.Gen.bitsLt_bf16_f32))
    (constant Reference2Ideal.S_ .f32 0x00000000#32) Reference2Ideal.Gen.reducesTo_S4096x1024_S1024_d0
    Reference2Ideal.Gen.h_S_) Reference2Ideal.Gen.shapeCasts_S1024_S1x1024

/-- The gradient of the shift: the column sums of the cotangent. -/
abbrev refDsh (x1 : FVec Ideal S4096x1024 .bf16) : FVec Ideal S1x1024 .f32 :=
  shapeCast _ (Host.reduceAdd (extf .f32 x1 Reference2Ideal.Gen.bitsLt_bf16_f32)
    (constant Reference2Ideal.S_ .f32 0x00000000#32) Reference2Ideal.Gen.reducesTo_S4096x1024_S1024_d0
    Reference2Ideal.Gen.h_S_) Reference2Ideal.Gen.shapeCasts_S1024_S1x1024

/-- Every window's block index at every grid point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0]
    ∧ win0_6.index t = ![0, 0] :=
  (by decide +kernel : ∀ t : Fin grid0.N, _)

theorem point_4 (c : Dev nD) (t : Fin cfg0.N) (y : S512x1024.Idx) :
    k0_pay2 (iblk m c 1 t) (iblk m c 2 t) (iblk m c 3 t) y
      = refDx (m ((c : Thread nD τ).loc main_arg1)) (m ((c : Thread nD τ).loc main_arg2))
          (m ((c : Thread nD τ).loc main_arg3)) (((cfg0.win 4).blk t).view.emb y) := by
  pointwise [k0_pay1, k0_pay2, refDx]
  blk_point [iblk, V, idx_val t]

theorem final_4 (c : Dev nD) : (dats m 0 c).arrAt 4 (cfgs 0).N
    = refDx (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  by_cases h : t.val % 8 = 0
  · rw [outsAt0_A m c t h]; dsimp only; frame_out; exact point_4 m c t y
  · rw [outsAt0_B m c t h]; dsimp only; frame_out; exact point_4 m c t y

theorem zero_5 (j : S1x1024.Idx) : k0_pay3 (F := Ideal) j = 0 := by
  pointwise! [k0_pay3]

theorem zero_6 (j : S1x1024.Idx) : k0_pay4 (F := Ideal) j = 0 := by
  pointwise! [k0_pay4]

theorem step_5 (v0 : Vec Ideal S512x1024 .f32) (v1 : Vec Ideal S512x1024 .bf16) (v19 : Vec Ideal S1x1024 .f32) (j : S1x1024.Idx) :
    k0_pay5 v0 v1 v19 j = v19 j + k0_pay5 v0 v1 (fun _ => 0) j := by
  pointwise [k0_pay5]

theorem step_6 (v1 : Vec Ideal S512x1024 .bf16) (v23 : Vec Ideal S1x1024 .f32) (j : S1x1024.Idx) :
    k0_pay6 v1 v23 j = v23 j + k0_pay6 v1 (fun _ => 0) j := by
  pointwise [k0_pay6]

theorem final_5 (c : Dev nD) : (dats m 0 c).arrAt 5 (cfgs 0).N
    = refDsc (m ((c : Thread nD τ).loc main_arg0)) (m ((c : Thread nD τ).loc main_arg1)) := by
  refine (dats m 0 c).arrAt_eq_of_after_last 5 t0_7 (by decide +kernel) _ fun j => ?_
  blk_simp
  rw [after0_5, Pipeline.eq_sum_fin_of_reset_step_apply_last (fun n h => (outsAt0 m c n h).2.1) 8 (fun _ => 0) _
    (fun t h j => by rw [outsAt0_A m c t h]; frame_out; rw [step_5, zero_5])
    (fun t h j => by rw [outsAt0_B m c t h]; frame_out; rw [step_5])
    (le_of_eq N_0) t0_7 rfl j, zero_add]
  pointwise [k0_pay5, k0_pay1, refDsc]
  refine Fin.sum_mul_add_congr fun s k hl => (EReal.mul_comm _ _).trans ?_
  blk_point [iblk, V, idx_val s]

theorem final_6 (c : Dev nD) : (dats m 0 c).arrAt 6 (cfgs 0).N
    = refDsh (m ((c : Thread nD τ).loc main_arg1)) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0) _
    (fun t h j => by rw [outsAt0_A m c t h]; frame_out; rw [step_6, zero_6])
    (fun t h j => by rw [outsAt0_B m c t h]; frame_out; rw [step_6])
    (le_of_eq N_0) t0_7 rfl j, zero_add]
  pointwise [k0_pay6, k0_pay1, refDsh]
  refine Fin.sum_mul_add_congr fun s k hl => ?_
  blk_point [iblk, V, idx_val s]

end Cert.ModValue

end
-- ==== Proof.ModClaim.lean ====
/- The modulation's claim: the run of the kernel against the reference's. -/
module

public import proofs.«01_k».proof.Defs
public import proofs.«01_k».proof.Proof.Mod
public import Idealize.ShloMosaic.Lib.Claim

@[expose] public section

noncomputable section

namespace Cert.ModValue

open Idealize.ShloMosaic Idealize.SL.Sem

/-- The reference keeps its arguments; it declares no semaphore. -/
theorem quiescent_reference : quiescent_Reference2Ideal := fun m g _ =>
  (θ_run Reference2Ideal.defs _ _).mono
    (fun r h => ⟨fun c => (h c).2.2.2, sem_eq_zero_of_no_sems (by decide) r.2⟩) (Reference2Ideal.Value.run m g)

theorem algebraic : algebraic_Kernel2Ideal_Reference2Ideal := by
  intro m g m' g' _ hagree
  refine ⟨_, _, _, Kernel2Ideal.Value.run_blocks m g,
    (θ_run Reference2Ideal.defs _ _).mono (fun r h c => ?_) (Reference2Ideal.Value.run m' g')⟩
  obtain ⟨h0, h1, h2, hk⟩ := h c
  obtain ⟨a0, a1, a2, a3⟩ := hagree c
  refine ⟨?_, ?_, ?_, hk⟩
  · rw [h0, a1, a2, a3]; exact (Cert.ModValue.final_4 m c).symm
  · rw [h1, a0, a1]; exact (Cert.ModValue.final_5 m c).symm
  · rw [h2, a1]; exact (Cert.ModValue.final_6 m c).symm

end Cert.ModValue
-- ==== Proof.Gate.lean ====
/- The logistic function over the extended reals, in the two forms the programs write it. -/
module

public import Idealize.ShloMosaic.Lib.IdealHost
public import Idealize.ShloMosaic.Lib.Pointwise

@[expose] public section

noncomputable section

namespace Cert.Gate

open Idealize.ShloMosaic

/-- The logistic function as a host program computes it. -/
def sig (x : EReal) : EReal := Ideal.div 1 (1 + Ideal.exp (-x))

theorem half_f32 : Ideal.ofBits .f32 0x3F000000#32 = ((2⁻¹ : ℝ) : EReal) := by
  simp [Ideal.ofBits, Ideal.ieee, -EReal.coe_mul]; norm_num

theorem one_f32 : Ideal.ofBits .f32 0x3F800000#32 = 1 := by
  simp [Ideal.ofBits, Ideal.ieee, -EReal.coe_mul]; norm_num

theorem sig_coe (x : ℝ) : sig x = ((1 / (1 + Real.exp (-x)) : ℝ) : EReal) := by
  have h : (1 : ℝ) + Real.exp (-x) ≠ 0 := by positivity
  rw [sig, ← EReal.coe_neg, Ideal.exp_coe, ← EReal.coe_one, ← EReal.coe_add, Ideal.div, if_neg (by exact_mod_cast h), ← EReal.coe_inv,
    ← EReal.coe_mul, one_div, one_mul]

theorem sig_top : sig ⊤ = 1 := by
  simp [sig, Ideal.div]

theorem sig_bot : sig ⊥ = 0 := by
  have h : (1 : EReal) + ⊤ = ⊤ := by rw [← EReal.coe_one, EReal.coe_add_top]
  simp [sig, Ideal.div, h]

theorem tanh_half (x : ℝ) : 2⁻¹ * (Real.tanh (2⁻¹ * x) + 1) = 1 / (1 + Real.exp (-x)) := by
  have e : Real.exp (-x) = Real.exp (-(2⁻¹ * x)) * Real.exp (-(2⁻¹ * x)) := by rw [← Real.exp_add]; ring_nf
  have u : Real.exp (2⁻¹ * x) * Real.exp (-(2⁻¹ * x)) = 1 := by rw [← Real.exp_add]; simp
  have p := Real.exp_pos (2⁻¹ * x)
  have q := Real.exp_pos (-(2⁻¹ * x))
  rw [Real.tanh_eq_sinh_div_cosh, Real.sinh_eq, Real.cosh_eq, e]
  generalize Real.exp (2⁻¹ * x) = a at *
  generalize Real.exp (-(2⁻¹ * x)) = b at *
  have hb : b = 1 / a := by rw [eq_div_iff p.ne']; linarith
  subst hb
  field_simp
  ring

/-- The logistic function by the hyperbolic tangent, at every extended real. -/
theorem sig_tanh (x : EReal) :
    Ideal.ofBits .f32 0x3F000000#32 * (Ideal.tanh (Ideal.ofBits .f32 0x3F000000#32 * x) + 1) = sig x := by
  rw [half_f32]
  induction x using EReal.rec with
  | bot =>
    rw [EReal.coe_mul_bot_of_pos (by norm_num), Ideal.tanh_bot, sig_bot, ← EReal.coe_one, ← EReal.coe_neg, ← EReal.coe_add, ← EReal.coe_mul]
    norm_num
  | coe x =>
    rw [← EReal.coe_mul, Ideal.tanh_coe, ← EReal.coe_one, ← EReal.coe_add, ← EReal.coe_mul, tanh_half, sig_coe]
  | top =>
    rw [EReal.coe_mul_top_of_pos (by norm_num), Ideal.tanh_top, sig_top, ← EReal.coe_one, ← EReal.coe_add, ← EReal.coe_mul]
    norm_num

theorem sig_host (x : EReal) : Ideal.div 1 (1 + Ideal.exp (-x)) = sig x := rfl

end Cert.Gate

end
-- ==== Proof.ModW.lean ====
/- The gradient of the modulation's weights: the eight outer products the call adds up are the reference's product. -/
module

public import proofs.«01_k».proof.Proof.Gen.Kernel5Ideal.Value
public import proofs.«01_k».proof.Proof.Gen.Reference5Ideal.Run
public import proofs.«01_k».proof.Proof.Gate
public import Idealize.ShloMosaic.Lib.Pipeline.ValueKit

@[expose] public section

set_option maxRecDepth 16384

noncomputable section

namespace Cert.ModW

open Kernel5Ideal Kernel5Ideal.Gen Idealize.ShloMosaic TcCoe Idealize.SL.Sem
open Idealize.ShloMosaic.Pipeline (Dat)
open scoped BigOperators

variable (m : (ℓ : Loc nD τ sig) → Buf (Elt Ideal) ℓ)

/-- The gradient of the weights: the conditions' silu, transposed, times the modulation's gradient. -/
abbrev refW (a0 : FVec Ideal Reference5Ideal.S8x1024 .f32) (a1 : FVec Ideal Reference5Ideal.S8x768 .f32) :
    FVec Ideal Reference5Ideal.S1024x768 .f32 :=
  transpose Reference5Ideal.S1024x768 [1, 0] (Host.dotGeneral Reference5Ideal.dot_S8x768_S8x1024_S768x1024_0_0_1_1_n_n none a1
    (mulf a0 (Host.divf (broadcastInDim Reference5Ideal.S8x1024 ![] Reference5Ideal.Gen.bcast_S_S8x1024 (constant Reference5Ideal.S_ .f32 0x3F800000#32))
      (addf (broadcastInDim Reference5Ideal.S8x1024 ![] Reference5Ideal.Gen.bcast_S_S8x1024 (constant Reference5Ideal.S_ .f32 0x3F800000#32))
        (Host.exp (Host.negf a0)))))) Reference5Ideal.Gen.transposes_S768x1024_S1024x768_1_0

theorem idx_val : ∀ t : Fin cfg0.N, win0_0.index t = ![0, 0] ∧ win0_1.index t = ![0, 0] ∧ win0_2.index t = ![0, 0] :=
  (by decide +kernel : ∀ t : Fin grid0.N, _)

/-- The kernel's first block is the transposed argument. -/
theorem blk_0 (c : Dev nD) (t : Fin cfg0.N) (i : Fin 1024) (j : Fin 8) :
    iblk m c 0 t (ix2 i j) = m ((c : Thread nD τ).loc main_arg0) (ix2 j i) := by
  blk_simp [iblk]
  entry_read
  pointwise
  blk_ext [idx_val t]

/-- The kernel's second block is the whole argument. -/
theorem blk_1 (c : Dev nD) (t : Fin cfg0.N) (i : Fin 8) (j : Fin 768) :
    iblk m c 1 t (ix2 i j) = m ((c : Thread nD τ).loc main_arg1) (ix2 i j) := by
  blk_point [iblk, V, idx_val t]

theorem point (c : Dev nD) (t : Fin cfg0.N) (y) :
    k0_pay1 (k0_pay2 (iblk m c 0 t)) (k0_pay3 (iblk m c 0 t) (View.ld (iblk m c 1 t) r0_1) (View.ld (iblk m c 1 t) r0_2)
      (View.ld (iblk m c 1 t) r0_3) (View.ld (iblk m c 1 t) r0_4) (View.ld (iblk m c 1 t) r0_5)) (k0_pay4 (iblk m c 0 t))
      (k0_pay5 (View.ld (iblk m c 1 t) r0_6)) (View.ld (iblk m c 1 t) r0_7) (View.ld (iblk m c 1 t) r0_8) y
      = refW (m ((c : Thread nD τ).loc main_arg0)) (m ((c : Thread nD τ).loc main_arg1)) (((cfg0.win 2).blk t).view.emb y) := by
  obtain ⟨r, e, rfl⟩ : ∃ (r : Fin 1024) (e : Fin 768), y = ix2 r e := ⟨y 0, y 1, by funext d; fin_cases d <;> rfl⟩
  have he : ((cfg0.win 2).blk t).view.emb (ix2 r e) = ix2 r e := by blk_ext [idx_val t]
  rw [he]
  pointwise [k0_pay1, k0_pay2, k0_pay3, k0_pay4, k0_pay5, refW]
  simp only [blk_0, blk_1, Fin.sum_univ_eight, Gate.sig_tanh, Gate.sig_host, EReal.mul_comm (m ((c : Thread nD τ).loc main_arg1) _)]

theorem final (c : Dev nD) : (dats m 0 c).arrAt 2 (cfgs 0).N
    = refW (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.ModW

end
-- ==== Proof.ModWClaim.lean ====
/- The claim of the modulation's weight gradient. -/
module

public import proofs.«01_k».proof.Defs
public import proofs.«01_k».proof.Proof.ModW
public import Idealize.ShloMosaic.Lib.Claim

@[expose] public section

noncomputable section

namespace Cert.ModW

open Idealize.ShloMosaic Idealize.SL.Sem

/-- The reference keeps its arguments; it declares no semaphore. -/
theorem quiescent_reference : quiescent_Reference5Ideal := fun m g _ =>
  (θ_run Reference5Ideal.defs _ _).mono
    (fun r h => ⟨fun c => (h c).2, sem_eq_zero_of_no_sems (by decide) r.2⟩) (Reference5Ideal.Value.run m g)

theorem algebraic : algebraic_Kernel5Ideal_Reference5Ideal := by
  intro m g m' g' _ hagree
  refine ⟨_, Kernel5Ideal.Value.run_blocks m g,
    (θ_run Reference5Ideal.defs _ _).mono (fun r h c => ?_) (Reference5Ideal.Value.run m' g')⟩
  obtain ⟨h0, hk⟩ := h c
  obtain ⟨a0, a1⟩ := hagree c
  refine ⟨?_, hk⟩
  rw [h0, a0, a1]; exact (Cert.ModW.final m c).symm

end Cert.ModW
-- ==== Proof.Norm2Ref.lean ====
/- The reference of the second norm's call, its lines named one by one. -/
module

public import proofs.«01_k».proof.Proof.Gen.Reference6Ideal.Run
public import Idealize.ShloMosaic.Lib.Pipeline.ValueKit

@[expose] public section

set_option maxRecDepth 16384

noncomputable section

namespace Cert.Reference6Ideal.Norm2

open Idealize.ShloMosaic TcCoe Idealize.ShloMosaic.Tactic
open Idealize.SL.Sem
open Reference6Ideal Reference6Ideal.Gen
open scoped BigOperators

section
variable (a0 : FVec Ideal S4096x1024 .f32) (a1 : FVec Ideal S4096x1024 .bf16) (a2 : FVec Ideal S4096x1024 .f32) (a3 : FVec Ideal S1x1024 .f32) (a4 : FVec Ideal S1x1024 .f32) (a5 : FVec Ideal S1x1024 .f32)

def rv0 : FVec Ideal S4096x1024 .f32 :=
  extf .f32 a1 bitsLt_bf16_f32
def rv1 : FVec Ideal S4096x1024 .f32 :=
  broadcastInDim S4096x1024 ![] bcast_S_S4096x1024 (constant S_ .f32 0x3F9837F0#32)
def rv2 : FVec Ideal S4096x1024 .f32 :=
  mulf rv1 a0
def rv3 : FVec Ideal S4096x1024 .f32 :=
  broadcastInDim S4096x1024 ![0, 1] bcast_S1x1024_S4096x1024_0_1 a3
def rv4 : FVec Ideal S4096x1024 .f32 :=
  mulf (rv3 a3) (rv0 a1)
def rv5 : FVec Ideal S4096x1024 .f32 :=
  addf (rv2 a0) (rv4 a1 a3)
def rv6 : FVec Ideal S4096 .f32 :=
  Host.reduceAdd (rv5 a0 a1 a3) (constant S_ .f32 0x00000000#32) reducesTo_S4096x1024_S4096_d1 h_S_
def rv7 : FVec Ideal S4096x1 .f32 :=
  broadcastInDim S4096x1 ![0] bcast_S4096_S4096x1_0 (rv6 a0 a1 a3)
def rv8 : FVec Ideal S4096x1 .f32 :=
  broadcastInDim S4096x1 ![] bcast_S_S4096x1 (constant S_ .f32 0x44800000#32)
def rv9 : FVec Ideal S4096x1 .f32 :=
  Host.divf (rv7 a0 a1 a3) rv8
def rv10 : FVec Ideal S4096x1024 .f32 :=
  broadcastInDim S4096x1024 ![0, 1] bcast_S4096x1_S4096x1024_0_1 (rv9 a0 a1 a3)
def rv11 : FVec Ideal S4096x1024 .f32 :=
  subf (rv5 a0 a1 a3) (rv10 a0 a1 a3)
def rv12 : FVec Ideal S4096x1024 .f32 :=
  mulf (rv11 a0 a1 a3) (rv11 a0 a1 a3)
def rv13 : FVec Ideal S4096x1024 .f32 :=
  broadcastInDim S4096x1024 ![] bcast_S_S4096x1024 (constant S_ .f32 0x40000000#32)
def rv14 : FVec Ideal S4096x1024 .f32 :=
  mulf rv13 (rv11 a0 a1 a3)
def rv15 : FVec Ideal S4096 .f32 :=
  Host.reduceAdd (rv12 a0 a1 a3) (constant S_ .f32 0x00000000#32) reducesTo_S4096x1024_S4096_d1 h_S_
def rv16 : FVec Ideal S4096x1 .f32 :=
  broadcastInDim S4096x1 ![0] bcast_S4096_S4096x1_0 (rv15 a0 a1 a3)
def rv17 : FVec Ideal S4096x1 .f32 :=
  broadcastInDim S4096x1 ![] bcast_S_S4096x1 (constant S_ .f32 0x44800000#32)
def rv18 : FVec Ideal S4096x1 .f32 :=
  Host.divf (rv16 a0 a1 a3) rv17
def rv19 : FVec Ideal S4096x1024 .f32 :=
  broadcastInDim S4096x1024 ![0, 1] bcast_S4096x1_S4096x1024_0_1 (rv9 a0 a1 a3)
def rv20 : FVec Ideal S4096x1024 .f32 :=
  subf (rv5 a0 a1 a3) (rv19 a0 a1 a3)
def rv21 : FVec Ideal S4096x1 .f32 :=
  broadcastInDim S4096x1 ![] bcast_S_S4096x1 (constant S_ .f32 0x3727C5AC#32)
def rv22 : FVec Ideal S4096x1 .f32 :=
  addf (rv18 a0 a1 a3) rv21
def rv23 : FVec Ideal S4096x1 .f32 :=
  Host.rsqrt (rv22 a0 a1 a3)
def rv24 : FVec Ideal S4096x1 .f32 :=
  Host.divf (rv23 a0 a1 a3) (rv22 a0 a1 a3)
def rv25 : FVec Ideal S4096x1 .f32 :=
  broadcastInDim S4096x1 ![] bcast_S_S4096x1 (constant S_ .f32 0xBF000000#32)
def rv26 : FVec Ideal S4096x1 .f32 :=
  mulf rv25 (rv24 a0 a1 a3)
def rv27 : FVec Ideal S4096x1024 .f32 :=
  broadcastInDim S4096x1024 ![0, 1] bcast_S4096x1_S4096x1024_0_1 (rv23 a0 a1 a3)
def rv28 : FVec Ideal S4096x1024 .f32 :=
  mulf (rv20 a0 a1 a3) (rv27 a0 a1 a3)
def rv29 : FVec Ideal S4096x1024 .f32 :=
  broadcastInDim S4096x1024 ![0, 1] bcast_S1x1024_S4096x1024_0_1 a4
def rv30 : FVec Ideal S4096x1024 .f32 :=
  mulf (rv28 a0 a1 a3) (rv29 a4)
def rv31 : FVec Ideal S4096x1024 .f32 :=
  broadcastInDim S4096x1024 ![0, 1] bcast_S1x1024_S4096x1024_0_1 a5
def rv32 : FVec Ideal S4096x1024 .f32 :=
  addf (rv30 a0 a1 a3 a4) (rv31 a5)
def rv33 : FVec Ideal S4096x1024 .f32 :=
  subf (rv32 a0 a1 a3 a4 a5) a2
def rv34 : FVec Ideal S4096x1024 .f32 :=
  mulf (rv33 a0 a1 a2 a3 a4 a5) (rv33 a0 a1 a2 a3 a4 a5)
def rv35 : FVec Ideal S4096x1024 .f32 :=
  broadcastInDim S4096x1024 ![] bcast_S_S4096x1024 (constant S_ .f32 0x40000000#32)
def rv36 : FVec Ideal S4096x1024 .f32 :=
  mulf rv35 (rv33 a0 a1 a2 a3 a4 a5)
def rv37 : FVec Ideal S4096 .f32 :=
  Host.reduceAdd (rv34 a0 a1 a2 a3 a4 a5) (constant S_ .f32 0x00000000#32) reducesTo_S4096x1024_S4096_d1 h_S_
def rv38 : FVec Ideal S4096 .f32 :=
  broadcastInDim S4096 ![] bcast_S_S4096 (constant S_ .f32 0x44800000#32)
def rv39 : FVec Ideal S4096 .f32 :=
  Host.divf (rv37 a0 a1 a2 a3 a4 a5) rv38
def rv40 : FVec Ideal S_ .f32 :=
  Host.reduceAdd (rv39 a0 a1 a2 a3 a4 a5) (constant S_ .f32 0x00000000#32) reducesTo_S4096_S_d0 h_S_
def rv41 : FVec Ideal S_ .f32 :=
  mulf (constant S_ .f32 0x3F000000#32) (rv40 a0 a1 a2 a3 a4 a5)
def rv42 : FVec Ideal S_ .f32 :=
  mulf (constant S_ .f32 0x3F000000#32) (constant S_ .f32 0x3F800000#32)
def rv43 : FVec Ideal S4096 .f32 :=
  broadcastInDim S4096 ![] bcast_S_S4096 rv42
def rv44 : FVec Ideal S4096 .f32 :=
  broadcastInDim S4096 ![] bcast_S_S4096 (constant S_ .f32 0x44800000#32)
def rv45 : FVec Ideal S4096 .f32 :=
  Host.divf rv43 rv44
def rv46 : FVec Ideal S4096x1024 .f32 :=
  broadcastInDim S4096x1024 ![0] bcast_S4096_S4096x1024_0 rv45
def rv47 : FVec Ideal S4096x1024 .f32 :=
  mulf rv46 (rv36 a0 a1 a2 a3 a4 a5)
def rv48 : FVec Ideal S1024 .f32 :=
  Host.reduceAdd (rv47 a0 a1 a2 a3 a4 a5) (constant S_ .f32 0x00000000#32) reducesTo_S4096x1024_S1024_d0 h_S_
def rv49 : FVec Ideal S1x1024 .f32 :=
  shapeCast _ (rv48 a0 a1 a2 a3 a4 a5) shapeCasts_S1024_S1x1024
def rv50 : FVec Ideal S4096x1024 .f32 :=
  mulf (rv28 a0 a1 a3) (rv47 a0 a1 a2 a3 a4 a5)
def rv51 : FVec Ideal S1024 .f32 :=
  Host.reduceAdd (rv50 a0 a1 a2 a3 a4 a5) (constant S_ .f32 0x00000000#32) reducesTo_S4096x1024_S1024_d0 h_S_
def rv52 : FVec Ideal S1x1024 .f32 :=
  shapeCast _ (rv51 a0 a1 a2 a3 a4 a5) shapeCasts_S1024_S1x1024
def rv53 : FVec Ideal S4096x1024 .f32 :=
  broadcastInDim S4096x1024 ![0, 1] bcast_S1x1024_S4096x1024_0_1 a4
def rv54 : FVec Ideal S4096x1024 .f32 :=
  mulf (rv47 a0 a1 a2 a3 a4 a5) (rv53 a4)
def rv55 : FVec Ideal S4096x1024 .f32 :=
  mulf (rv20 a0 a1 a3) (rv54 a0 a1 a2 a3 a4 a5)
def rv56 : FVec Ideal S4096 .f32 :=
  Host.reduceAdd (rv55 a0 a1 a2 a3 a4 a5) (constant S_ .f32 0x00000000#32) reducesTo_S4096x1024_S4096_d1 h_S_
def rv57 : FVec Ideal S4096x1 .f32 :=
  shapeCast _ (rv56 a0 a1 a2 a3 a4 a5) shapeCasts_S4096_S4096x1
def rv58 : FVec Ideal S4096x1024 .f32 :=
  broadcastInDim S4096x1024 ![0, 1] bcast_S4096x1_S4096x1024_0_1 (rv23 a0 a1 a3)
def rv59 : FVec Ideal S4096x1024 .f32 :=
  mulf (rv54 a0 a1 a2 a3 a4 a5) (rv58 a0 a1 a3)
def rv60 : FVec Ideal S4096x1 .f32 :=
  mulf (rv57 a0 a1 a2 a3 a4 a5) (rv26 a0 a1 a3)
def rv61 : FVec Ideal S4096x1024 .f32 :=
  Host.negf (rv59 a0 a1 a2 a3 a4 a5)
def rv62 : FVec Ideal S4096 .f32 :=
  Host.reduceAdd (rv61 a0 a1 a2 a3 a4 a5) (constant S_ .f32 0x00000000#32) reducesTo_S4096x1024_S4096_d1 h_S_
def rv63 : FVec Ideal S4096x1 .f32 :=
  shapeCast _ (rv62 a0 a1 a2 a3 a4 a5) shapeCasts_S4096_S4096x1
def rv64 : FVec Ideal S4096x1 .f32 :=
  broadcastInDim S4096x1 ![] bcast_S_S4096x1 (constant S_ .f32 0x44800000#32)
def rv65 : FVec Ideal S4096x1 .f32 :=
  Host.divf (rv60 a0 a1 a2 a3 a4 a5) rv64
def rv66 : FVec Ideal S4096 .f32 :=
  Host.reduceAdd (rv65 a0 a1 a2 a3 a4 a5) (constant S_ .f32 0x00000000#32) reducesTo_S4096x1_S4096_d1 h_S_
def rv67 : FVec Ideal S4096x1024 .f32 :=
  broadcastInDim S4096x1024 ![0] bcast_S4096_S4096x1024_0 (rv66 a0 a1 a2 a3 a4 a5)
def rv68 : FVec Ideal S4096x1024 .f32 :=
  mulf (rv67 a0 a1 a2 a3 a4 a5) (rv14 a0 a1 a3)
def rv69 : FVec Ideal S4096x1024 .f32 :=
  Host.negf (rv68 a0 a1 a2 a3 a4 a5)
def rv70 : FVec Ideal S4096 .f32 :=
  Host.reduceAdd (rv69 a0 a1 a2 a3 a4 a5) (constant S_ .f32 0x00000000#32) reducesTo_S4096x1024_S4096_d1 h_S_
def rv71 : FVec Ideal S4096x1 .f32 :=
  shapeCast _ (rv70 a0 a1 a2 a3 a4 a5) shapeCasts_S4096_S4096x1
def rv72 : FVec Ideal S4096x1024 .f32 :=
  addf (rv59 a0 a1 a2 a3 a4 a5) (rv68 a0 a1 a2 a3 a4 a5)
def rv73 : FVec Ideal S4096x1 .f32 :=
  addf (rv63 a0 a1 a2 a3 a4 a5) (rv71 a0 a1 a2 a3 a4 a5)
def rv74 : FVec Ideal S4096x1 .f32 :=
  broadcastInDim S4096x1 ![] bcast_S_S4096x1 (constant S_ .f32 0x44800000#32)
def rv75 : FVec Ideal S4096x1 .f32 :=
  Host.divf (rv73 a0 a1 a2 a3 a4 a5) rv74
def rv76 : FVec Ideal S4096 .f32 :=
  Host.reduceAdd (rv75 a0 a1 a2 a3 a4 a5) (constant S_ .f32 0x00000000#32) reducesTo_S4096x1_S4096_d1 h_S_
def rv77 : FVec Ideal S4096x1024 .f32 :=
  broadcastInDim S4096x1024 ![0] bcast_S4096_S4096x1024_0 (rv76 a0 a1 a2 a3 a4 a5)
def rv78 : FVec Ideal S4096x1024 .f32 :=
  addf (rv72 a0 a1 a2 a3 a4 a5) (rv77 a0 a1 a2 a3 a4 a5)
def rv79 : FVec Ideal S4096x1024 .f32 :=
  broadcastInDim S4096x1024 ![0, 1] bcast_S1x1024_S4096x1024_0_1 a3
def rv80 : FVec Ideal S4096x1024 .f32 :=
  mulf (rv79 a3) (rv78 a0 a1 a2 a3 a4 a5)
def rv81 : FVec Ideal S4096x1024 .f32 :=
  mulf (rv78 a0 a1 a2 a3 a4 a5) (rv0 a1)
def rv82 : FVec Ideal S1024 .f32 :=
  Host.reduceAdd (rv81 a0 a1 a2 a3 a4 a5) (constant S_ .f32 0x00000000#32) reducesTo_S4096x1024_S1024_d0 h_S_
def rv83 : FVec Ideal S1x1024 .f32 :=
  shapeCast _ (rv82 a0 a1 a2 a3 a4 a5) shapeCasts_S1024_S1x1024
def rv84 : FVec Ideal S4096x1024 .f32 :=
  broadcastInDim S4096x1024 ![] bcast_S_S4096x1024 (constant S_ .f32 0x3F9837F0#32)
def rv85 : FVec Ideal S4096x1024 .f32 :=
  mulf rv84 (rv78 a0 a1 a2 a3 a4 a5)
def rv86 : FVec Ideal S4096x1024 .bf16 :=
  truncf .bf16 (rv85 a0 a1 a2 a3 a4 a5) bitsLt_bf16_f32
def rv87 : FVec Ideal S4096x1024 .bf16 :=
  truncf .bf16 (rv80 a0 a1 a2 a3 a4 a5) bitsLt_bf16_f32
def rv88 : FVec Ideal S1x128 .f32 :=
  broadcastInDim S1x128 ![] bcast_S_S1x128 (rv41 a0 a1 a2 a3 a4 a5)

end

variable (m : (ℓ : Loc nD τ sig) → Buf (Elt Ideal) ℓ) (c : Dev nD)

theorem res_v86 : Reference6Ideal.Value.res_main_v86 m c = rv86 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Reference6Ideal.Value.res_main_v86]; rfl
theorem res_v87 : Reference6Ideal.Value.res_main_v87 m c = rv87 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Reference6Ideal.Value.res_main_v87]; rfl
theorem res_v88 : Reference6Ideal.Value.res_main_v88 m c = rv88 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Reference6Ideal.Value.res_main_v88]; rfl
theorem res_v83 : Reference6Ideal.Value.res_main_v83 m c = rv83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Reference6Ideal.Value.res_main_v83]; rfl
theorem res_v52 : Reference6Ideal.Value.res_main_v52 m c = rv52 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Reference6Ideal.Value.res_main_v52]; rfl

end Cert.Reference6Ideal.Norm2
-- ==== Proof.Norm.lean ====
/- The gradient of a row's layer norm, written in two ways over the extended reals: they agree where the row and the cotangent
   are real numbers. -/
module

public import Idealize.ShloMosaic.Lib.IdealHost
public import Idealize.ShloMosaic.Lib.Pointwise

@[expose] public section

noncomputable section

namespace Cert.Norm

open Idealize.ShloMosaic
open scoped BigOperators

/-- The extended real is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} : IsR x → IsR y → IsR (x + y) := by rintro ⟨a, rfl⟩ ⟨b, rfl⟩; exact ⟨a + b, EReal.coe_add a b⟩
theorem IsR.sub {x y : EReal} : IsR x → IsR y → IsR (x - y) := by rintro ⟨a, rfl⟩ ⟨b, rfl⟩; exact ⟨a - b, EReal.coe_sub a b⟩
theorem IsR.mul {x y : EReal} : IsR x → IsR y → IsR (x * y) := by rintro ⟨a, rfl⟩ ⟨b, rfl⟩; exact ⟨a * b, EReal.coe_mul a b⟩
theorem IsR.neg {x : EReal} : IsR x → IsR (-x) := by rintro ⟨a, rfl⟩; exact ⟨-a, EReal.coe_neg a⟩
theorem IsR.sum {ι : Type} (s : Finset ι) {f : ι → EReal} (h : ∀ i, IsR (f i)) : IsR (∑ i ∈ s, f i) := by
  classical
  induction s using Finset.induction_on with
  | empty => simpa using IsR.zero
  | insert a s ha ih => rw [Finset.sum_insert ha]; exact (h a).add ih

theorem IsR.div {x : EReal} {y : ℝ} (hx : IsR x) (hy : y ≠ 0) : IsR (Ideal.div x (y : EReal)) := by
  obtain ⟨a, rfl⟩ := hx
  exact ⟨a * y⁻¹, by rw [Ideal.div, if_neg (by exact_mod_cast hy), ← EReal.coe_inv, ← EReal.coe_mul]⟩

/-- The row's length, the variance's offset and the other constants of the two programs. -/
abbrev n : EReal := Ideal.ofBits .f32 0x44800000#32
abbrev eps : EReal := Ideal.ofBits .f32 0x3727C5AC#32
abbrev alpha : EReal := Ideal.ofBits .f32 0x3F9837F0#32
abbrev mhalf : EReal := Ideal.ofBits .f32 0xBF000000#32
abbrev two : EReal := Ideal.ofBits .f32 0x40000000#32

theorem n_real : n = ((1024 : ℝ) : EReal) := by simp [Ideal.ofBits, Ideal.ieee, -EReal.coe_mul]; norm_num
theorem two_real : two = ((2 : ℝ) : EReal) := by simp [Ideal.ofBits, Ideal.ieee, -EReal.coe_mul]; norm_num
theorem mhalf_real : IsR mhalf := ⟨_, by simp only [mhalf, Ideal.ofBits, Ideal.ieee]; rfl⟩
theorem alpha_real : IsR alpha := ⟨_, by simp only [alpha, Ideal.ofBits, Ideal.ieee]; rfl⟩
theorem eps_real : ∃ e : ℝ, 0 < e ∧ eps = (e : EReal) := by
  refine ⟨_, ?_, by simp only [eps, Ideal.ofBits, Ideal.ieee]; rfl⟩
  simp

theorem IsR.divn {x : EReal} (hx : IsR x) : IsR (Ideal.div x n) := by rw [n_real]; exact hx.div (by norm_num)

abbrev Row := Fin 1024 → EReal

/-- The row the norm is taken of. -/
def mix (x f g : Row) : Row := fun k => alpha * x k + g k * f k
/-- The row less its mean. -/
def xc (a : Row) : Row := fun k => a k - Ideal.div (∑ j, a j) n
/-- The row's variance and its offset. -/
def vr (a : Row) : EReal := Ideal.div (∑ j, xc a j * xc a j) n + eps
def rs (a : Row) : EReal := Ideal.rsqrt (vr a)
def hs (a : Row) : EReal := mhalf * Ideal.div (rs a) (vr a)
/-- The normed row. -/
def nrm (a : Row) : Row := fun k => xc a k * rs a
/-- The cotangent of the variance's mean, a term of each element's square. -/
def sc (a w : Row) : EReal := Ideal.div ((∑ j, xc a j * w j) * hs a) n
/-- The gradient before the mean's part, as a product's two sides. -/
def part (a w : Row) : Row := fun k => w k * rs a + xc a k * sc a w + sc a w * xc a k
/-- The gradient of the row, `w` the cotangent of the normed row: the first way. -/
def grad (a w : Row) : Row := fun k => part a w k + Ideal.div (∑ j, (0 - part a w j)) n
/-- The second way: the square's derivative doubled, the mean's part in two sums. -/
def grad' (a w : Row) : Row := fun k => w k * rs a + sc a w * (two * xc a k)
  + Ideal.div ((∑ j, -(w j * rs a)) + ∑ j, -(sc a w * (two * xc a j))) n

theorem mix_real {x f g : Row} (hx : ∀ k, IsR (x k)) (hf : ∀ k, IsR (f k)) (hg : ∀ k, IsR (g k)) (k : Fin 1024) : IsR (mix x f g k) :=
  (alpha_real.mul (hx k)).add ((hg k).mul (hf k))

section
variable {a w : Row} (ha : ∀ k, IsR (a k)) (hw : ∀ k, IsR (w k))
include ha

theorem xc_real (k : Fin 1024) : IsR (xc a k) := (ha k).sub (IsR.divn (IsR.sum _ ha))

theorem vr_real : ∃ v : ℝ, 0 < v ∧ vr a = (v : EReal) := by
  choose x hx using xc_real ha
  obtain ⟨e, he, hE⟩ := eps_real
  refine ⟨(∑ j, x j * x j) * (1024 : ℝ)⁻¹ + e, ?_, ?_⟩
  · have : 0 ≤ ∑ j, x j * x j := Finset.sum_nonneg fun j _ => mul_self_nonneg _
    positivity
  · have hs : ∑ j, xc a j * xc a j = ((∑ j, x j * x j : ℝ) : EReal) := by
      rw [Finset.sum_congr rfl fun j _ => by rw [hx j, ← EReal.coe_mul]]
      induction (Finset.univ : Finset (Fin 1024)) using Finset.induction_on with
      | empty => simp
      | insert b s hb ih => rw [Finset.sum_insert hb, Finset.sum_insert hb, ih, EReal.coe_add]
    rw [vr, hs, hE, n_real, Ideal.div, if_neg (by norm_num), ← EReal.coe_inv, ← EReal.coe_mul, ← EReal.coe_add]

theorem rs_real : IsR (rs a) := by
  obtain ⟨v, hv, h⟩ := vr_real ha
  rw [rs, h, Ideal.rsqrt_coe, if_neg hv.le.not_gt, if_neg hv.ne']
  exact ⟨_, rfl⟩

theorem hs_real : IsR (hs a) := by
  obtain ⟨v, hv, h⟩ := vr_real ha
  rw [hs, h]
  exact mhalf_real.mul ((rs_real ha).div hv.ne')

theorem nrm_real (k : Fin 1024) : IsR (nrm a k) := (xc_real ha k).mul (rs_real ha)

include hw

theorem sc_real : IsR (sc a w) := ((IsR.sum _ fun j => (xc_real ha j).mul (hw j)).mul (hs_real ha)).divn

theorem part_eq (k : Fin 1024) : part a w k = w k * rs a + sc a w * (two * xc a k) := by
  obtain ⟨p, hp⟩ := (hw k).mul (rs_real ha)
  obtain ⟨s, hs⟩ := sc_real ha hw
  obtain ⟨x, hx⟩ := xc_real ha k
  rw [part, hp, hs, hx, two_real]
  norm_cast
  ring

theorem grad_eq (k : Fin 1024) : grad a w k = grad' a w k := by
  rw [grad, grad', part_eq ha hw k, ← Finset.sum_add_distrib]
  refine congrArg (fun z => _ + Ideal.div z n) (Finset.sum_congr rfl fun j _ => ?_)
  rw [part_eq ha hw j]
  obtain ⟨p, hp⟩ := (hw j).mul (rs_real ha)
  obtain ⟨s, hs⟩ := (sc_real ha hw).mul ((IsR.coe 2).mul (xc_real ha j))
  rw [two_real, hp, hs]
  norm_cast
  ring

end

end Cert.Norm

end
-- ==== Proof.Norm2K.lean ====
/- The second norm's backward call, row by row: what each of its vectors holds at a point. -/
module

public import proofs.«01_k».proof.Proof.Gen.Kernel6Ideal.Value
public import proofs.«01_k».proof.Proof.Norm
public import Idealize.ShloMosaic.Lib.Pipeline.ValueKit

@[expose] public section

set_option maxRecDepth 16384

noncomputable section

namespace Cert.Norm2

open Kernel6Ideal Kernel6Ideal.Gen Idealize.ShloMosaic TcCoe Idealize.SL.Sem
open Cert.Norm
open scoped BigOperators

/-- Half the cotangent of a row's mean of squares. -/
abbrev half : EReal := Ideal.ofBits .f32 0x3F000000#32
abbrev cof : EReal := Ideal.div half n

/-- The error of a row against its target. -/
def err (a g b t : Row) : Row := fun k => nrm a k * g k + b k - t k
/-- The cotangent of the normalized row's affine image. -/
def dy (a g b t : Row) : Row := fun k => cof * (two * err a g b t k)

section kernel
variable (v0 : FVec Ideal S512x1024 .f32) (v1 : FVec Ideal S512x1024 .bf16) (v2 : FVec Ideal S512x1024 .f32) (v3 v4 v5 : FVec Ideal S1x1024 .f32)

/-- A row of a block; the row of a one-row array. -/
abbrev row (v : FVec Ideal S512x1024 .f32) (r : Fin 512) : Row := fun k => v (ix2 r k)
abbrev row16 (v : FVec Ideal S512x1024 .bf16) (r : Fin 512) : Row := fun k => v (ix2 r k)
abbrev one (v : FVec Ideal S1x1024 .f32) : Row := fun k => v (ix2 0 k)
abbrev mx (r : Fin 512) : Row := mix (row v0 r) (row16 v1 r) (one v3)

theorem pay3_at (r : Fin 512) (k : Fin 1024) : k0_pay3 (F := Ideal) v0 v1 v3 (ix2 r k) = xc (mx v0 v1 v3 r) k := by
  pointwise [k0_pay3, k0_pay2]; rfl

theorem pay4_at (r : Fin 512) : k0_pay4 (F := Ideal) v0 v1 v3 (ix2 r 0) = vr (mx v0 v1 v3 r) := by
  pointwise [k0_pay4]; simp only [pay3_at]; rfl

theorem pay5_at (r : Fin 512) : k0_pay5 (F := Ideal) v0 v1 v3 (ix2 r 0) = rs (mx v0 v1 v3 r) := by
  pointwise [k0_pay5]; simp only [pay4_at]; rfl

theorem pay6_at (r : Fin 512) : k0_pay6 (F := Ideal) v0 v1 v3 (ix2 r 0) = hs (mx v0 v1 v3 r) := by
  pointwise [k0_pay6]; simp only [pay4_at, pay5_at]; rfl

theorem pay7_at (r : Fin 512) (k : Fin 1024) : k0_pay7 (F := Ideal) v0 v1 v3 (ix2 r k) = nrm (mx v0 v1 v3 r) k := by
  pointwise [k0_pay7]; simp only [pay3_at, pay5_at]; rfl

theorem pay8_at (r : Fin 512) (k : Fin 1024) :
    k0_pay8 (F := Ideal) v0 v1 v2 v3 v4 v5 (ix2 r k) = err (mx v0 v1 v3 r) (one v4) (one v5) (row v2 r) k := by
  pointwise [k0_pay8]; simp only [pay7_at]; rfl

theorem pay9_at (r : Fin 512) (k : Fin 1024) : k0_pay9 (F := Ideal) v0 v1 v2 v3 v4 v5 (ix2 r k)
    = err (mx v0 v1 v3 r) (one v4) (one v5) (row v2 r) k * err (mx v0 v1 v3 r) (one v4) (one v5) (row v2 r) k := by
  pointwise [k0_pay9]; simp only [pay8_at]

theorem pay10_at (r : Fin 512) (k : Fin 1024) :
    k0_pay10 (F := Ideal) v0 v1 v2 v3 v4 v5 (ix2 r k) = two * err (mx v0 v1 v3 r) (one v4) (one v5) (row v2 r) k := by
  pointwise [k0_pay10]; simp only [pay8_at]

variable (w : FVec Ideal S512x1024 .f32)

theorem pay12_at (r : Fin 512) (k : Fin 1024) : k0_pay12 (F := Ideal) w (ix2 r k) = cof * w (ix2 r k) := by
  pointwise [k0_pay12]

theorem pay13_at (k : Fin 1024) : k0_pay13 (F := Ideal) w (ix2 0 k) = ∑ r, cof * w (ix2 r k) := by
  pointwise [k0_pay13]; simp only [pay12_at]

theorem pay14_at (k : Fin 1024) : k0_pay14 (F := Ideal) v0 w (ix2 0 k) = ∑ r, v0 (ix2 r k) * (cof * w (ix2 r k)) := by
  pointwise [k0_pay14]; simp only [pay12_at]

variable (g : FVec Ideal S1x1024 .f32)

/-- The call's last vectors, for the gradient of the loss by the error's double. -/
theorem pay15_at (r : Fin 512) (k : Fin 1024) :
    k0_pay15 (F := Ideal) g (k0_pay3 v0 v1 v3) (k0_pay5 v0 v1 v3) (k0_pay6 v0 v1 v3) w (ix2 r k)
      = part (mx v0 v1 v3 r) (fun k => cof * w (ix2 r k) * g (ix2 0 k)) k := by
  pointwise [k0_pay15]; simp only [Fin.sum_univ_one, pay3_at, pay5_at, pay6_at, pay12_at]; rfl

theorem pay16_at (r : Fin 512) :
    k0_pay16 (F := Ideal) g (k0_pay3 v0 v1 v3) (k0_pay5 v0 v1 v3) (k0_pay6 v0 v1 v3) w (ix1 r)
      = Ideal.div (∑ k, (0 - part (mx v0 v1 v3 r) (fun k => cof * w (ix2 r k) * g (ix2 0 k)) k)) n := by
  pointwise [k0_pay16]; simp only [Fin.sum_univ_one, pay15_at]

theorem pay17_at (r : Fin 512) (k : Fin 1024) :
    k0_pay17 (F := Ideal) (k0_pay15 g (k0_pay3 v0 v1 v3) (k0_pay5 v0 v1 v3) (k0_pay6 v0 v1 v3) w)
        (k0_pay16 g (k0_pay3 v0 v1 v3) (k0_pay5 v0 v1 v3) (k0_pay6 v0 v1 v3) w) (ix2 r k)
      = grad (mx v0 v1 v3 r) (fun k => cof * w (ix2 r k) * g (ix2 0 k)) k := by
  pointwise [k0_pay17]; rw [pay15_at, pay16_at]; rfl

theorem pay11_at : k0_pay11 (F := Ideal) w = half * ∑ r : Fin 512, Ideal.div (∑ k : Fin 1024, w (ix2 r k)) n := by
  pointwise [k0_pay11]

end kernel

end Cert.Norm2

end
-- ==== Proof.Norm2R.lean ====
/- The second norm's reference, row by row. -/
module

public import proofs.«01_k».proof.Proof.Norm2Ref
public import proofs.«01_k».proof.Proof.Norm2K

@[expose] public section

set_option maxRecDepth 16384

noncomputable section

namespace Cert.Reference6Ideal.Norm2

open Idealize.ShloMosaic TcCoe
open Reference6Ideal Reference6Ideal.Gen
open Cert.Norm Cert.Norm2
open scoped BigOperators

variable (a0 : FVec Ideal S4096x1024 .f32) (a1 : FVec Ideal S4096x1024 .bf16) (a2 : FVec Ideal S4096x1024 .f32)
  (a3 a4 a5 : FVec Ideal S1x1024 .f32)

/-- The row the norm reads; the row of the cotangent of the norm's affine image. -/
abbrev ax (R : Fin 4096) : Row := mix (fun k => a0 (ix2 R k)) (fun k => a1 (ix2 R k)) (fun k => a3 (ix2 0 k))
abbrev ay (R : Fin 4096) : Row := dy (ax a0 a1 a3 R) (fun k => a4 (ix2 0 k)) (fun k => a5 (ix2 0 k)) (fun k => a2 (ix2 R k))

theorem v5_at (R : Fin 4096) (k : Fin 1024) : rv5 a0 a1 a3 (ix2 R k) = ax a0 a1 a3 R k := by
  pointwise [rv5, rv4, rv3, rv2, rv1, rv0]; rfl

theorem v9_at (R : Fin 4096) : rv9 a0 a1 a3 (ix2 R 0) = Ideal.div (∑ j, ax a0 a1 a3 R j) n := by
  pointwise [rv9, rv8, rv7, rv6]; simp only [v5_at]

theorem v11_at (R : Fin 4096) (k : Fin 1024) : rv11 a0 a1 a3 (ix2 R k) = xc (ax a0 a1 a3 R) k := by
  pointwise [rv11, rv10]; simp only [v5_at, v9_at]; rfl

theorem v20_at (R : Fin 4096) (k : Fin 1024) : rv20 a0 a1 a3 (ix2 R k) = xc (ax a0 a1 a3 R) k := by
  pointwise [rv20, rv19]; simp only [v5_at, v9_at]; rfl

theorem v22_at (R : Fin 4096) : rv22 a0 a1 a3 (ix2 R 0) = vr (ax a0 a1 a3 R) := by
  pointwise [rv22, rv21, rv18, rv17, rv16, rv15, rv12]; simp only [v11_at]; rfl

theorem v23_at (R : Fin 4096) : rv23 a0 a1 a3 (ix2 R 0) = rs (ax a0 a1 a3 R) := by
  pointwise [rv23]; simp only [v22_at]; rfl

theorem v26_at (R : Fin 4096) : rv26 a0 a1 a3 (ix2 R 0) = hs (ax a0 a1 a3 R) := by
  pointwise [rv26, rv25, rv24]; simp only [v22_at, v23_at]; rfl

theorem v28_at (R : Fin 4096) (k : Fin 1024) : rv28 a0 a1 a3 (ix2 R k) = nrm (ax a0 a1 a3 R) k := by
  pointwise [rv28, rv27]; simp only [v20_at, v23_at]; rfl

theorem v33_at (R : Fin 4096) (k : Fin 1024) : rv33 a0 a1 a2 a3 a4 a5 (ix2 R k)
    = err (ax a0 a1 a3 R) (fun k => a4 (ix2 0 k)) (fun k => a5 (ix2 0 k)) (fun k => a2 (ix2 R k)) k := by
  pointwise [rv33, rv32, rv31, rv30, rv29]; simp only [v28_at]; rfl

theorem v47_at (R : Fin 4096) (k : Fin 1024) : rv47 a0 a1 a2 a3 a4 a5 (ix2 R k) = ay a0 a1 a2 a3 a4 a5 R k := by
  pointwise [rv47, rv46, rv45, rv44, rv43, rv42, rv36, rv35]; simp only [v33_at]; rfl

theorem v54_at (R : Fin 4096) (k : Fin 1024) : rv54 a0 a1 a2 a3 a4 a5 (ix2 R k) = ay a0 a1 a2 a3 a4 a5 R k * a4 (ix2 0 k) := by
  pointwise [rv54, rv53]; simp only [v47_at]

theorem v59_at (R : Fin 4096) (k : Fin 1024) : rv59 a0 a1 a2 a3 a4 a5 (ix2 R k)
    = ay a0 a1 a2 a3 a4 a5 R k * a4 (ix2 0 k) * rs (ax a0 a1 a3 R) := by
  pointwise [rv59, rv58]; simp only [v54_at, v23_at]

theorem v66_at (R : Fin 4096) : rv66 a0 a1 a2 a3 a4 a5 (ix1 R)
    = sc (ax a0 a1 a3 R) (fun k => ay a0 a1 a2 a3 a4 a5 R k * a4 (ix2 0 k)) := by
  pointwise [rv66, rv65, rv64, rv60, rv57, rv56, rv55]; simp only [Fin.sum_univ_one, v20_at, v26_at, v54_at]; rfl

theorem v68_at (R : Fin 4096) (k : Fin 1024) : rv68 a0 a1 a2 a3 a4 a5 (ix2 R k)
    = sc (ax a0 a1 a3 R) (fun k => ay a0 a1 a2 a3 a4 a5 R k * a4 (ix2 0 k)) * (two * xc (ax a0 a1 a3 R) k) := by
  pointwise [rv68, rv67, rv14, rv13]; simp only [v66_at, v11_at]

theorem v72_at (R : Fin 4096) (k : Fin 1024) : rv72 a0 a1 a2 a3 a4 a5 (ix2 R k)
    = ay a0 a1 a2 a3 a4 a5 R k * a4 (ix2 0 k) * rs (ax a0 a1 a3 R)
      + sc (ax a0 a1 a3 R) (fun k => ay a0 a1 a2 a3 a4 a5 R k * a4 (ix2 0 k)) * (two * xc (ax a0 a1 a3 R) k) := by
  pointwise [rv72]; simp only [v59_at, v68_at]

theorem v76_at (R : Fin 4096) : rv76 a0 a1 a2 a3 a4 a5 (ix1 R)
    = Ideal.div ((∑ k, -(ay a0 a1 a2 a3 a4 a5 R k * a4 (ix2 0 k) * rs (ax a0 a1 a3 R)))
      + ∑ k, -(sc (ax a0 a1 a3 R) (fun k => ay a0 a1 a2 a3 a4 a5 R k * a4 (ix2 0 k)) * (two * xc (ax a0 a1 a3 R) k))) n := by
  pointwise [rv76, rv75, rv74, rv73, rv71, rv70, rv69, rv63, rv62, rv61]; simp only [Fin.sum_univ_one, v59_at, v68_at]

/-- The gradient of the row the norm reads, as the reference computes it. -/
theorem v78_at (R : Fin 4096) (k : Fin 1024) : rv78 a0 a1 a2 a3 a4 a5 (ix2 R k)
    = grad' (ax a0 a1 a3 R) (fun k => ay a0 a1 a2 a3 a4 a5 R k * a4 (ix2 0 k)) k := by
  pointwise [rv78, rv77]; rw [v72_at, v76_at]; rfl

end Cert.Reference6Ideal.Norm2
-- ==== Proof.Norm2.lean ====
/- The second norm's backward call: its arrays are the reference's gradients when the arguments are finite. -/
module

public import proofs.«01_k».proof.Proof.Norm2R

@[expose] public section

set_option maxRecDepth 16384

noncomputable section

namespace Cert.Norm2

open Kernel6Ideal Kernel6Ideal.Gen Idealize.ShloMosaic TcCoe Idealize.SL.Sem
open Idealize.ShloMosaic.Pipeline (Dat)
open Cert.Norm Reference6Ideal.Norm2
open scoped BigOperators

theorem idx_val : ∀ t : Fin cfg0.N, win0_0.index t = ![t.val, 0]
    ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0]
    ∧ win0_8.index t = ![0, 0] ∧ win0_9.index t = ![0, 0] ∧ win0_10.index t = ![0, 0] ∧ win0_11.index t = ![0, 0] :=
  (by decide +kernel : ∀ t : Fin grid0.N, _)

variable (m : (ℓ : Loc nD τ sig) → Buf (Elt Ideal) ℓ) (c : Dev nD) (t : Fin cfg0.N)

abbrev A0 : FVec Ideal Reference6Ideal.S4096x1024 .f32 := m ((c : Thread nD τ).loc main_arg0)
abbrev A1 : FVec Ideal Reference6Ideal.S4096x1024 .bf16 := m ((c : Thread nD τ).loc main_arg1)
abbrev A2 : FVec Ideal Reference6Ideal.S4096x1024 .f32 := m ((c : Thread nD τ).loc main_arg2)
abbrev A3 : FVec Ideal Reference6Ideal.S1x1024 .f32 := m ((c : Thread nD τ).loc main_arg3)
abbrev A4 : FVec Ideal Reference6Ideal.S1x1024 .f32 := m ((c : Thread nD τ).loc main_arg4)
abbrev A5 : FVec Ideal Reference6Ideal.S1x1024 .f32 := m ((c : Thread nD τ).loc main_arg5)

/-- The array's row a block's row is. -/
def at_ (r : Fin 512) : Fin 4096 := ⟨t.val * 512 + r.val, by have h : t.val < 8 := lt_of_lt_of_eq t.isLt N_0; have := r.isLt; omega⟩

theorem blk_0 (r : Fin 512) (k : Fin 1024) : iblk m c 0 t (ix2 r k) = A0 m c (ix2 (at_ t r) k) := by blk_point [iblk, V, at_, idx_val t]
theorem blk_1 (r : Fin 512) (k : Fin 1024) : iblk m c 1 t (ix2 r k) = A1 m c (ix2 (at_ t r) k) := by blk_point [iblk, V, at_, idx_val t]
theorem blk_2 (r : Fin 512) (k : Fin 1024) : iblk m c 2 t (ix2 r k) = A2 m c (ix2 (at_ t r) k) := by blk_point [iblk, V, at_, idx_val t]
theorem blk_3 (k : Fin 1024) : iblk m c 3 t (ix2 0 k) = A3 m c (ix2 0 k) := by blk_point [iblk, V, at_, idx_val t]
theorem blk_4 (k : Fin 1024) : iblk m c 4 t (ix2 0 k) = A4 m c (ix2 0 k) := by blk_point [iblk, V, at_, idx_val t]
theorem blk_5 (k : Fin 1024) : iblk m c 5 t (ix2 0 k) = A5 m c (ix2 0 k) := by blk_point [iblk, V, at_, idx_val t]

/-- Every entry of the six arguments is a real number. -/
structure Finite : Prop where
  h0 : ∀ i, IsR (A0 m c i)
  h1 : ∀ i, IsR (A1 m c i)
  h2 : ∀ i, IsR (A2 m c i)
  h3 : ∀ i, IsR (A3 m c i)
  h4 : ∀ i, IsR (A4 m c i)
  h5 : ∀ i, IsR (A5 m c i)

theorem half_real : IsR half := ⟨_, by simp only [half, Ideal.ofBits, Ideal.ieee]; rfl⟩

abbrev X (R : Fin 4096) : Row := ax (A0 m c) (A1 m c) (A3 m c) R
abbrev Y (R : Fin 4096) : Row := ay (A0 m c) (A1 m c) (A2 m c) (A3 m c) (A4 m c) (A5 m c) R

variable {m c} (h : Finite m c)
include h

theorem X_real (R : Fin 4096) (k : Fin 1024) : IsR (X m c R k) := mix_real (fun _ => h.h0 _) (fun _ => h.h1 _) (fun _ => h.h3 _) k

theorem err_real (R : Fin 4096) (k : Fin 1024) : IsR (err (X m c R) (fun k => A4 m c (ix2 0 k)) (fun k => A5 m c (ix2 0 k)) (fun k => A2 m c (ix2 R k)) k) :=
  (((nrm_real (X_real h R) k).mul (h.h4 _)).add (h.h5 _)).sub (h.h2 _)

theorem Y_real (R : Fin 4096) (k : Fin 1024) : IsR (Y m c R k) :=
  half_real.divn.mul ((two_real ▸ IsR.coe 2).mul (err_real h R k))

/-- The two ways of the gradient agree at the rows of these arrays. -/
theorem grad_X (R : Fin 4096) (k : Fin 1024) :
    grad (X m c R) (fun k => Y m c R k * A4 m c (ix2 0 k)) k = grad' (X m c R) (fun k => Y m c R k * A4 m c (ix2 0 k)) k :=
  grad_eq (X_real h R) (fun k => (Y_real h R k).mul (h.h4 _)) k
omit h
variable (m c)

abbrev w := k0_pay10 (F := Ideal) (iblk m c 0 t) (iblk m c 1 t) (iblk m c 2 t) (iblk m c 3 t) (iblk m c 4 t) (iblk m c 5 t)
abbrev p15 := k0_pay15 (F := Ideal) (iblk m c 4 t) (k0_pay3 (iblk m c 0 t) (iblk m c 1 t) (iblk m c 3 t)) (k0_pay5 (iblk m c 0 t) (iblk m c 1 t) (iblk m c 3 t)) (k0_pay6 (iblk m c 0 t) (iblk m c 1 t) (iblk m c 3 t)) (w m c t)
abbrev p16 := k0_pay16 (F := Ideal) (iblk m c 4 t) (k0_pay3 (iblk m c 0 t) (iblk m c 1 t) (iblk m c 3 t)) (k0_pay5 (iblk m c 0 t) (iblk m c 1 t) (iblk m c 3 t)) (k0_pay6 (iblk m c 0 t) (iblk m c 1 t) (iblk m c 3 t)) (w m c t)

theorem row_X (r : Fin 512) : mx (iblk m c 0 t) (iblk m c 1 t) (iblk m c 3 t) r = X m c (at_ t r) := by
  show mix (fun k => iblk m c 0 t (ix2 r k)) (fun k => iblk m c 1 t (ix2 r k)) (fun k => iblk m c 3 t (ix2 0 k)) = _
  simp only [blk_0, blk_1, blk_3]

theorem err_at (r : Fin 512) (k : Fin 1024) :
    err (mx (iblk m c 0 t) (iblk m c 1 t) (iblk m c 3 t) r) (one (iblk m c 4 t)) (one (iblk m c 5 t)) (row (iblk m c 2 t) r) k
      = err (X m c (at_ t r)) (fun k => A4 m c (ix2 0 k)) (fun k => A5 m c (ix2 0 k)) (fun k => A2 m c (ix2 (at_ t r) k)) k := by
  rw [row_X]
  show err _ (fun k => iblk m c 4 t (ix2 0 k)) (fun k => iblk m c 5 t (ix2 0 k)) (fun k => iblk m c 2 t (ix2 r k)) k = _
  simp only [blk_2, blk_4, blk_5]

theorem dy_at (r : Fin 512) (k : Fin 1024) : cof * w m c t (ix2 r k) = Y m c (at_ t r) k := by
  rw [w, pay10_at, err_at]; rfl

theorem grad_at (r : Fin 512) (k : Fin 1024) : k0_pay17 (F := Ideal) (p15 m c t) (p16 m c t) (ix2 r k)
    = grad (X m c (at_ t r)) (fun k => Y m c (at_ t r) k * A4 m c (ix2 0 k)) k := by
  rw [pay17_at]; simp only [row_X, dy_at, blk_4]

include h
theorem point_6 (y) : k0_pay19 (F := Ideal) (p15 m c t) (p16 m c t) y
    = rv86 (A0 m c) (A1 m c) (A2 m c) (A3 m c) (A4 m c) (A5 m c) (((cfg0.win 6).blk t).view.emb y) := by
  obtain ⟨r, e, rfl⟩ : ∃ (r : Fin 512) (e : Fin 1024), y = ix2 r e := ⟨y 0, y 1, by funext d; fin_cases d <;> rfl⟩
  have he : ((cfg0.win 6).blk t).view.emb (ix2 r e) = ix2 (at_ t r) e := by blk_ext [at_, idx_val t]
  rw [he]
  pointwise [k0_pay19, rv86, rv85, rv84]
  rw [grad_at, v78_at, grad_X h]

theorem point_7 (y) : k0_pay18 (F := Ideal) (iblk m c 3 t) (p15 m c t) (p16 m c t) y
    = rv87 (A0 m c) (A1 m c) (A2 m c) (A3 m c) (A4 m c) (A5 m c) (((cfg0.win 7).blk t).view.emb y) := by
  obtain ⟨r, e, rfl⟩ : ∃ (r : Fin 512) (e : Fin 1024), y = ix2 r e := ⟨y 0, y 1, by funext d; fin_cases d <;> rfl⟩
  have he : ((cfg0.win 7).blk t).view.emb (ix2 r e) = ix2 (at_ t r) e := by blk_ext [at_, idx_val t]
  rw [he]
  pointwise [k0_pay18, rv87, rv80, rv79]
  rw [grad_at, v78_at, grad_X h, blk_3]

theorem final_6 : (dats m 0 c).arrAt 6 (cfgs 0).N = rv86 (A0 m c) (A1 m c) (A2 m c) (A3 m c) (A4 m c) (A5 m c) := by
  refine (dats m 0 c).arrAt_eq_of_covers 6 _ (by decide +kernel) fun t hf y => ?_
  blk_simp; rw [after0_6]
  by_cases ht : t.val % 8 = 0
  · rw [outsAt0_A m c t ht]; dsimp only; frame_out; exact point_6 m c t h y
  · rw [outsAt0_B m c t ht]; dsimp only; frame_out; exact point_6 m c t h y

theorem final_7 : (dats m 0 c).arrAt 7 (cfgs 0).N = rv87 (A0 m c) (A1 m c) (A2 m c) (A3 m c) (A4 m c) (A5 m c) := by
  refine (dats m 0 c).arrAt_eq_of_covers 7 _ (by decide +kernel) fun t hf y => ?_
  blk_simp; rw [after0_7]
  by_cases ht : t.val % 8 = 0
  · rw [outsAt0_A m c t ht]; dsimp only; frame_out; exact point_7 m c t h y
  · rw [outsAt0_B m c t ht]; dsimp only; frame_out; exact point_7 m c t h y

omit h

/-- The reference's sum over its 4096 rows is the call's sum over eight blocks of 512. -/
theorem rows_sum (f : Fin 4096 → EReal) : ∑ p : Fin cfg0.N, ∑ r : Fin 512, f (at_ p r) = ∑ R, f R :=
  Fin.sum_mul_add_congr fun s k hl => rfl

/-- A real factor of real terms leaves their sum. -/
theorem sum_real {ι : Type} (s : Finset ι) {a : EReal} (ha : IsR a) {f : ι → EReal} (hf : ∀ i, IsR (f i)) : ∑ i ∈ s, a * f i = a * ∑ i ∈ s, f i := by
  classical
  induction s using Finset.induction_on with
  | empty => simp
  | insert i s hi ih =>
    obtain ⟨a, rfl⟩ := ha
    obtain ⟨x, hx⟩ := hf i
    obtain ⟨y, hy⟩ := IsR.sum s hf
    rw [Finset.sum_insert hi, Finset.sum_insert hi, ih, hx, hy]
    norm_cast
    ring

/-- A row's mean of squared errors. -/
def sq (R : Fin 4096) : EReal :=
  Ideal.div (∑ k, err (X m c R) (fun k => A4 m c (ix2 0 k)) (fun k => A5 m c (ix2 0 k)) (fun k => A2 m c (ix2 R k)) k
    * err (X m c R) (fun k => A4 m c (ix2 0 k)) (fun k => A5 m c (ix2 0 k)) (fun k => A2 m c (ix2 R k)) k) n

theorem zero_8 (j : S1x128.Idx) : k0_pay20 (F := Ideal) j = 0 := by pointwise! [k0_pay20]
theorem zero_9 (j : S1x1024.Idx) : k0_pay21 (F := Ideal) j = 0 := by pointwise! [k0_pay21]
theorem zero_10 (j : S1x1024.Idx) : k0_pay22 (F := Ideal) j = 0 := by pointwise! [k0_pay22]
theorem zero_11 (j : S1x1024.Idx) : k0_pay23 (F := Ideal) j = 0 := by pointwise! [k0_pay23]

theorem step_8 (b : FVec Ideal S1x128 .f32) (j : S1x128.Idx) :
    k0_pay24 (F := Ideal) (k0_pay11 (k0_pay9 (iblk m c 0 t) (iblk m c 1 t) (iblk m c 2 t) (iblk m c 3 t) (iblk m c 4 t) (iblk m c 5 t))) b j
      = b j + half * ∑ r, sq m c (at_ t r) := by
  pointwise [k0_pay24]; rw [pay11_at]; simp only [pay9_at, err_at]; rfl

theorem split (j : S1x1024.Idx) : ∃ k : Fin 1024, j = ix2 0 k := ⟨j 1, by funext d; fin_cases d; exact Subsingleton.elim (α := Fin 1) _ _; rfl⟩

theorem step_9 (b : FVec Ideal S1x1024 .f32) (j : S1x1024.Idx) : k0_pay25 (F := Ideal) (k0_pay2 (iblk m c 1 t)) (p15 m c t) (p16 m c t) b j
      = b j + ∑ r, grad (X m c (at_ t r)) (fun k => Y m c (at_ t r) k * A4 m c (ix2 0 k)) (j 1) * A1 m c (ix2 (at_ t r) (j 1)) := by
  obtain ⟨k, rfl⟩ := split j
  pointwise [k0_pay25, k0_pay2]; simp only [grad_at, blk_1]

theorem step_10 (b : FVec Ideal S1x1024 .f32) (j : S1x1024.Idx) :
    k0_pay26 (F := Ideal) (k0_pay14 (k0_pay7 (iblk m c 0 t) (iblk m c 1 t) (iblk m c 3 t)) (w m c t)) b j
      = b j + ∑ r, nrm (X m c (at_ t r)) (j 1) * Y m c (at_ t r) (j 1) := by
  obtain ⟨k, rfl⟩ := split j
  pointwise [k0_pay26]; rw [pay14_at]; simp only [pay7_at, row_X, dy_at]

theorem step_11 (b : FVec Ideal S1x1024 .f32) (j : S1x1024.Idx) :
    k0_pay1 (F := Ideal) (k0_pay13 (w m c t)) (k0_pay27 b) j = b j + ∑ r, Y m c (at_ t r) (j 1) := by
  obtain ⟨k, rfl⟩ := split j
  pointwise [k0_pay1, k0_pay27]; rw [pay13_at]; simp only [dy_at]

theorem final_9' : (dats m 0 c).arrAt 9 (cfgs 0).N
    = fun j => ∑ R, grad (X m c R) (fun k => Y m c R k * A4 m c (ix2 0 k)) (j 1) * A1 m c (ix2 R (j 1)) := by
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => 0) _
    (fun t h j => by rw [outsAt0_A m c t h]; frame_out; rw [step_9, zero_9])
    (fun t h j => by rw [outsAt0_B m c t h]; frame_out; rw [step_9])
    (le_of_eq N_0) t0_7 rfl j, zero_add]
  exact rows_sum fun R => grad (X m c R) (fun k => Y m c R k * A4 m c (ix2 0 k)) (j 1) * A1 m c (ix2 R (j 1))

theorem final_10' : (dats m 0 c).arrAt 10 (cfgs 0).N = fun j => ∑ R, nrm (X m c R) (j 1) * Y m c R (j 1) := by
  refine (dats m 0 c).arrAt_eq_of_after_last 10 t0_7 (by decide +kernel) _ fun j => ?_
  blk_simp
  rw [after0_10, Pipeline.eq_sum_fin_of_reset_step_apply_last (fun n h => (outsAt0 m c n h).2.2.2.2.1) 8 (fun _ => 0) _
    (fun t h j => by rw [outsAt0_A m c t h]; frame_out; rw [step_10, zero_10])
    (fun t h j => by rw [outsAt0_B m c t h]; frame_out; rw [step_10])
    (le_of_eq N_0) t0_7 rfl j, zero_add]
  exact rows_sum fun R => nrm (X m c R) (j 1) * Y m c R (j 1)

theorem final_11' : (dats m 0 c).arrAt 11 (cfgs 0).N = fun j => ∑ R, Y m c R (j 1) := by
  refine (dats m 0 c).arrAt_eq_of_after_last 11 t0_7 (by decide +kernel) _ fun j => ?_
  blk_simp
  rw [after0_11, Pipeline.eq_sum_fin_of_reset_step_apply_last (fun n h => (outsAt0 m c n h).2.2.2.2.2) 8 (fun _ => 0) _
    (fun t h j => by rw [outsAt0_A m c t h]; frame_out; rw [step_11, zero_11])
    (fun t h j => by rw [outsAt0_B m c t h]; frame_out; rw [step_11])
    (le_of_eq N_0) t0_7 rfl j, zero_add]
  exact rows_sum fun R => Y m c R (j 1)

theorem final_8' : (dats m 0 c).arrAt 8 (cfgs 0).N = fun _ => ∑ p : Fin cfg0.N, half * ∑ r, sq m c (at_ p r) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) _
    (fun t h j => by rw [outsAt0_A m c t h]; frame_out; rw [step_8, zero_8])
    (fun t h j => by rw [outsAt0_B m c t h]; frame_out; rw [step_8])
    (le_of_eq N_0) t0_7 rfl j, zero_add]

include h
theorem final_8 : (dats m 0 c).arrAt 8 (cfgs 0).N = rv88 (A0 m c) (A1 m c) (A2 m c) (A3 m c) (A4 m c) (A5 m c) := by
  have hq : ∀ R, IsR (sq m c R) := fun R => (IsR.sum _ fun k => (err_real h R k).mul (err_real h R k)).divn
  rw [final_8']
  funext j
  rw [sum_real _ half_real fun p => IsR.sum _ fun r => hq _, rows_sum (sq m c)]
  pointwise [rv88, rv41, rv40, rv39, rv38, rv37, rv34]
  simp only [v33_at]; rfl

theorem final_9 : (dats m 0 c).arrAt 9 (cfgs 0).N = rv83 (A0 m c) (A1 m c) (A2 m c) (A3 m c) (A4 m c) (A5 m c) := by
  rw [final_9']
  funext j
  obtain ⟨k, rfl⟩ := split j
  pointwise [rv83, rv82, rv81, rv0]
  simp only [v78_at, ← grad_X h]
omit h

theorem final_10 : (dats m 0 c).arrAt 10 (cfgs 0).N = rv52 (A0 m c) (A1 m c) (A2 m c) (A3 m c) (A4 m c) (A5 m c) := by
  rw [final_10']
  funext j
  obtain ⟨k, rfl⟩ := split j
  pointwise [rv52, rv51, rv50]
  simp only [v28_at, v47_at]

theorem final_11 : (dats m 0 c).arrAt 11 (cfgs 0).N = rv49 (A0 m c) (A1 m c) (A2 m c) (A3 m c) (A4 m c) (A5 m c) := by
  rw [final_11']
  funext j
  obtain ⟨k, rfl⟩ := split j
  pointwise [rv49, rv48]
  simp only [v47_at]

end Cert.Norm2

end
-- ==== Proof.Norm2Claim.lean ====
/- The claim of the second norm's backward call. -/
module

public import proofs.«01_k».proof.Defs
public import proofs.«01_k».proof.Proof.Norm2
public import proofs.«01_k».proof.Proof.Finite
public import proofs.«01_k».proof.Proof.Gen.Pre_finite6
public import Idealize.ShloMosaic.Lib.Claim

@[expose] public section

set_option maxRecDepth 16384

noncomputable section

namespace Cert.Norm2

open Idealize.ShloMosaic TcCoe Idealize.SL.Sem

/-- Arguments that satisfy the precondition hold real numbers. -/
theorem finite_of_pre (m : (ℓ : Loc Kernel6Ideal.nD Kernel6Ideal.τ Kernel6Ideal.sig) → Buf (Elt Ideal) ℓ) (c : Dev Kernel6Ideal.nD)
    (h : Cert.Pre_finite6.fn (F := Ideal) (A0 m c) (A1 m c) (A2 m c) (A3 m c) (A4 m c) (A5 m c) = fun _ => 1#1) : Finite m c := by
  have h0 := congrFun h ix0
  dsimp only [Cert.Pre_finite6.fn, Cert.Pre_finite6.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => ⟨_, Cert.Finite.real_of_all _ _ (fun _ => Cert.Finite.top_f32) _ _ _ e0 i⟩, fun i => ⟨_, Cert.Finite.real_of_all _ _ (fun _ => Cert.Finite.top_f32) _ _ _ e1 i⟩,
    fun i => ⟨_, Cert.Finite.real_of_all _ _ (fun _ => Cert.Finite.top_f32) _ _ _ e2 i⟩, fun i => ⟨_, Cert.Finite.real_of_all _ _ (fun _ => Cert.Finite.top_f32) _ _ _ e3 i⟩,
    fun i => ⟨_, Cert.Finite.real_of_all _ _ (fun _ => Cert.Finite.top_f32) _ _ _ e4 i⟩, fun i => ⟨_, Cert.Finite.real_of_all _ _ (fun _ => Cert.Finite.top_f32) _ _ _ e5 i⟩⟩

/-- The reference keeps its arguments; it declares no semaphore. -/
theorem quiescent_reference : quiescent_Reference6Ideal := fun m g _ =>
  (θ_run Reference6Ideal.defs _ _).mono
    (fun r h => ⟨fun c => (h c).2.2.2.2.2.2, sem_eq_zero_of_no_sems (by decide) r.2⟩) (Reference6Ideal.Value.run m g)

theorem algebraic : algebraic_Kernel6Ideal_Reference6Ideal_pre_finite6 := by
  intro m g m' g' hp hagree
  refine ⟨_, _, _, _, _, _, Kernel6Ideal.Value.run_blocks m g,
    (θ_run Reference6Ideal.defs _ _).mono (fun r h c => ?_) (Reference6Ideal.Value.run m' g')⟩
  obtain ⟨h0, h1, h2, h3, h4, h5, hk⟩ := h c
  obtain ⟨a0, a1, a2, a3, a4, a5⟩ := hagree c
  have hf : Finite m c := finite_of_pre m c (hp c)
  refine ⟨?_, ?_, ?_, ?_, ?_, ?_, hk⟩
  · rw [h0, Reference6Ideal.Norm2.res_v86, a0, a1, a2, a3, a4, a5]; exact (final_6 m c hf).symm
  · rw [h1, Reference6Ideal.Norm2.res_v87, a0, a1, a2, a3, a4, a5]; exact (final_7 m c hf).symm
  · rw [h2, Reference6Ideal.Norm2.res_v88, a0, a1, a2, a3, a4, a5]; exact (final_8 m c hf).symm
  · rw [h3, Reference6Ideal.Norm2.res_v83, a0, a1, a2, a3, a4, a5]; exact (final_9 m c hf).symm
  · rw [h4, Reference6Ideal.Norm2.res_v52, a0, a1, a2, a3, a4, a5]; exact (final_10 m c).symm
  · rw [h5, a0, a1, a2, a3, a4, a5]; exact (final_11 m c).symm

end Cert.Norm2
-- ==== Proof.Norm1Ref.lean ====
/- The reference of the first norm's call, its lines named one by one. -/
module

public import proofs.«01_k».proof.Proof.Gen.Reference7Ideal.Run
public import Idealize.ShloMosaic.Lib.Pipeline.ValueKit

@[expose] public section

set_option maxRecDepth 16384

noncomputable section

namespace Cert.Reference7Ideal.Norm1

open Idealize.ShloMosaic TcCoe Idealize.ShloMosaic.Tactic
open Idealize.SL.Sem
open Reference7Ideal Reference7Ideal.Gen
open scoped BigOperators

section
variable (a0 : FVec Ideal S4096x1024 .f32) (a1 : FVec Ideal S4096x1024 .bf16) (a2 : FVec Ideal S4096x1024 .bf16) (a3 : FVec Ideal S4096x1024 .bf16) (a4 : FVec Ideal S1x1024 .f32) (a5 : FVec Ideal S1x1024 .f32) (a6 : FVec Ideal S1x1024 .f32) (a7 : FVec Ideal S1x1024 .f32) (a8 : FVec Ideal S1x1024 .f32)

def rv0 : FVec Ideal S4096x1024 .f32 :=
  extf .f32 a1 bitsLt_bf16_f32
def rv1 : FVec Ideal S4096x1024 .f32 :=
  broadcastInDim S4096x1024 ![] bcast_S_S4096x1024 (constant S_ .f32 0x3F9837F0#32)
def rv2 : FVec Ideal S4096x1024 .f32 :=
  mulf rv1 a0
def rv3 : FVec Ideal S4096x1024 .f32 :=
  broadcastInDim S4096x1024 ![0, 1] bcast_S1x1024_S4096x1024_0_1 a4
def rv4 : FVec Ideal S4096x1024 .f32 :=
  mulf (rv3 a4) (rv0 a1)
def rv5 : FVec Ideal S4096x1024 .f32 :=
  addf (rv2 a0) (rv4 a1 a4)
def rv6 : FVec Ideal S4096 .f32 :=
  Host.reduceAdd (rv5 a0 a1 a4) (constant S_ .f32 0x00000000#32) reducesTo_S4096x1024_S4096_d1 h_S_
def rv7 : FVec Ideal S4096x1 .f32 :=
  broadcastInDim S4096x1 ![0] bcast_S4096_S4096x1_0 (rv6 a0 a1 a4)
def rv8 : FVec Ideal S4096x1 .f32 :=
  broadcastInDim S4096x1 ![] bcast_S_S4096x1 (constant S_ .f32 0x44800000#32)
def rv9 : FVec Ideal S4096x1 .f32 :=
  Host.divf (rv7 a0 a1 a4) rv8
def rv10 : FVec Ideal S4096x1024 .f32 :=
  broadcastInDim S4096x1024 ![0, 1] bcast_S4096x1_S4096x1024_0_1 (rv9 a0 a1 a4)
def rv11 : FVec Ideal S4096x1024 .f32 :=
  subf (rv5 a0 a1 a4) (rv10 a0 a1 a4)
def rv12 : FVec Ideal S4096x1024 .f32 :=
  mulf (rv11 a0 a1 a4) (rv11 a0 a1 a4)
def rv13 : FVec Ideal S4096x1024 .f32 :=
  broadcastInDim S4096x1024 ![] bcast_S_S4096x1024 (constant S_ .f32 0x40000000#32)
def rv14 : FVec Ideal S4096x1024 .f32 :=
  mulf rv13 (rv11 a0 a1 a4)
def rv15 : FVec Ideal S4096 .f32 :=
  Host.reduceAdd (rv12 a0 a1 a4) (constant S_ .f32 0x00000000#32) reducesTo_S4096x1024_S4096_d1 h_S_
def rv16 : FVec Ideal S4096x1 .f32 :=
  broadcastInDim S4096x1 ![0] bcast_S4096_S4096x1_0 (rv15 a0 a1 a4)
def rv17 : FVec Ideal S4096x1 .f32 :=
  broadcastInDim S4096x1 ![] bcast_S_S4096x1 (constant S_ .f32 0x44800000#32)
def rv18 : FVec Ideal S4096x1 .f32 :=
  Host.divf (rv16 a0 a1 a4) rv17
def rv19 : FVec Ideal S4096x1024 .f32 :=
  broadcastInDim S4096x1024 ![0, 1] bcast_S4096x1_S4096x1024_0_1 (rv9 a0 a1 a4)
def rv20 : FVec Ideal S4096x1024 .f32 :=
  subf (rv5 a0 a1 a4) (rv19 a0 a1 a4)
def rv21 : FVec Ideal S4096x1 .f32 :=
  broadcastInDim S4096x1 ![] bcast_S_S4096x1 (constant S_ .f32 0x3727C5AC#32)
def rv22 : FVec Ideal S4096x1 .f32 :=
  addf (rv18 a0 a1 a4) rv21
def rv23 : FVec Ideal S4096x1 .f32 :=
  Host.rsqrt (rv22 a0 a1 a4)
def rv24 : FVec Ideal S4096x1 .f32 :=
  Host.divf (rv23 a0 a1 a4) (rv22 a0 a1 a4)
def rv25 : FVec Ideal S4096x1 .f32 :=
  broadcastInDim S4096x1 ![] bcast_S_S4096x1 (constant S_ .f32 0xBF000000#32)
def rv26 : FVec Ideal S4096x1 .f32 :=
  mulf rv25 (rv24 a0 a1 a4)
def rv27 : FVec Ideal S4096x1024 .f32 :=
  broadcastInDim S4096x1024 ![0, 1] bcast_S4096x1_S4096x1024_0_1 (rv23 a0 a1 a4)
def rv28 : FVec Ideal S4096x1024 .f32 :=
  mulf (rv20 a0 a1 a4) (rv27 a0 a1 a4)
def rv29 : FVec Ideal S4096x1024 .f32 :=
  broadcastInDim S4096x1024 ![0, 1] bcast_S1x1024_S4096x1024_0_1 a5
def rv30 : FVec Ideal S4096x1024 .f32 :=
  mulf (rv28 a0 a1 a4) (rv29 a5)
def rv31 : FVec Ideal S4096x1024 .f32 :=
  broadcastInDim S4096x1024 ![0, 1] bcast_S1x1024_S4096x1024_0_1 a6
def rv32 : FVec Ideal S4096x1024 .f32 :=
  addf (rv30 a0 a1 a4 a5) (rv31 a6)
def rv33 : FVec Ideal S1x1024 .f32 :=
  broadcastInDim S1x1024 ![] bcast_S_S1x1024 (constant S_ .f32 0x3F800000#32)
def rv34 : FVec Ideal S1x1024 .f32 :=
  addf rv33 a7
def rv39 : FVec Ideal S4096x1024 .f32 :=
  extf .f32 a2 bitsLt_bf16_f32
def rv40 : FVec Ideal S4096x1024 .f32 :=
  extf .f32 a3 bitsLt_bf16_f32
def rv41 : FVec Ideal S1024 .f32 :=
  Host.reduceAdd (rv40 a3) (constant S_ .f32 0x00000000#32) reducesTo_S4096x1024_S1024_d0 h_S_
def rv42 : FVec Ideal S1x1024 .f32 :=
  shapeCast _ (rv41 a3) shapeCasts_S1024_S1x1024
def rv43 : FVec Ideal S4096x1024 .f32 :=
  mulf (rv32 a0 a1 a4 a5 a6) (rv40 a3)
def rv44 : FVec Ideal S1024 .f32 :=
  Host.reduceAdd (rv43 a0 a1 a3 a4 a5 a6) (constant S_ .f32 0x00000000#32) reducesTo_S4096x1024_S1024_d0 h_S_
def rv45 : FVec Ideal S1x1024 .f32 :=
  shapeCast _ (rv44 a0 a1 a3 a4 a5 a6) shapeCasts_S1024_S1x1024
def rv46 : FVec Ideal S4096x1024 .f32 :=
  broadcastInDim S4096x1024 ![0, 1] bcast_S1x1024_S4096x1024_0_1 (rv34 a7)
def rv47 : FVec Ideal S4096x1024 .f32 :=
  mulf (rv40 a3) (rv46 a7)
def rv48 : FVec Ideal S4096x1024 .f32 :=
  addf (rv39 a2) (rv47 a3 a7)
def rv49 : FVec Ideal S1024 .f32 :=
  Host.reduceAdd (rv48 a2 a3 a7) (constant S_ .f32 0x00000000#32) reducesTo_S4096x1024_S1024_d0 h_S_
def rv50 : FVec Ideal S1x1024 .f32 :=
  shapeCast _ (rv49 a2 a3 a7) shapeCasts_S1024_S1x1024
def rv51 : FVec Ideal S4096x1024 .f32 :=
  mulf (rv28 a0 a1 a4) (rv48 a2 a3 a7)
def rv52 : FVec Ideal S1024 .f32 :=
  Host.reduceAdd (rv51 a0 a1 a2 a3 a4 a7) (constant S_ .f32 0x00000000#32) reducesTo_S4096x1024_S1024_d0 h_S_
def rv53 : FVec Ideal S1x1024 .f32 :=
  shapeCast _ (rv52 a0 a1 a2 a3 a4 a7) shapeCasts_S1024_S1x1024
def rv54 : FVec Ideal S4096x1024 .f32 :=
  broadcastInDim S4096x1024 ![0, 1] bcast_S1x1024_S4096x1024_0_1 a5
def rv55 : FVec Ideal S4096x1024 .f32 :=
  mulf (rv48 a2 a3 a7) (rv54 a5)
def rv56 : FVec Ideal S4096x1024 .f32 :=
  mulf (rv20 a0 a1 a4) (rv55 a2 a3 a5 a7)
def rv57 : FVec Ideal S4096 .f32 :=
  Host.reduceAdd (rv56 a0 a1 a2 a3 a4 a5 a7) (constant S_ .f32 0x00000000#32) reducesTo_S4096x1024_S4096_d1 h_S_
def rv58 : FVec Ideal S4096x1 .f32 :=
  shapeCast _ (rv57 a0 a1 a2 a3 a4 a5 a7) shapeCasts_S4096_S4096x1
def rv59 : FVec Ideal S4096x1024 .f32 :=
  broadcastInDim S4096x1024 ![0, 1] bcast_S4096x1_S4096x1024_0_1 (rv23 a0 a1 a4)
def rv60 : FVec Ideal S4096x1024 .f32 :=
  mulf (rv55 a2 a3 a5 a7) (rv59 a0 a1 a4)
def rv61 : FVec Ideal S4096x1 .f32 :=
  mulf (rv58 a0 a1 a2 a3 a4 a5 a7) (rv26 a0 a1 a4)
def rv62 : FVec Ideal S4096x1024 .f32 :=
  Host.negf (rv60 a0 a1 a2 a3 a4 a5 a7)
def rv63 : FVec Ideal S4096 .f32 :=
  Host.reduceAdd (rv62 a0 a1 a2 a3 a4 a5 a7) (constant S_ .f32 0x00000000#32) reducesTo_S4096x1024_S4096_d1 h_S_
def rv64 : FVec Ideal S4096x1 .f32 :=
  shapeCast _ (rv63 a0 a1 a2 a3 a4 a5 a7) shapeCasts_S4096_S4096x1
def rv65 : FVec Ideal S4096x1 .f32 :=
  broadcastInDim S4096x1 ![] bcast_S_S4096x1 (constant S_ .f32 0x44800000#32)
def rv66 : FVec Ideal S4096x1 .f32 :=
  Host.divf (rv61 a0 a1 a2 a3 a4 a5 a7) rv65
def rv67 : FVec Ideal S4096 .f32 :=
  Host.reduceAdd (rv66 a0 a1 a2 a3 a4 a5 a7) (constant S_ .f32 0x00000000#32) reducesTo_S4096x1_S4096_d1 h_S_
def rv68 : FVec Ideal S4096x1024 .f32 :=
  broadcastInDim S4096x1024 ![0] bcast_S4096_S4096x1024_0 (rv67 a0 a1 a2 a3 a4 a5 a7)
def rv69 : FVec Ideal S4096x1024 .f32 :=
  mulf (rv68 a0 a1 a2 a3 a4 a5 a7) (rv14 a0 a1 a4)
def rv70 : FVec Ideal S4096x1024 .f32 :=
  Host.negf (rv69 a0 a1 a2 a3 a4 a5 a7)
def rv71 : FVec Ideal S4096 .f32 :=
  Host.reduceAdd (rv70 a0 a1 a2 a3 a4 a5 a7) (constant S_ .f32 0x00000000#32) reducesTo_S4096x1024_S4096_d1 h_S_
def rv72 : FVec Ideal S4096x1 .f32 :=
  shapeCast _ (rv71 a0 a1 a2 a3 a4 a5 a7) shapeCasts_S4096_S4096x1
def rv73 : FVec Ideal S4096x1024 .f32 :=
  addf (rv60 a0 a1 a2 a3 a4 a5 a7) (rv69 a0 a1 a2 a3 a4 a5 a7)
def rv74 : FVec Ideal S4096x1 .f32 :=
  addf (rv64 a0 a1 a2 a3 a4 a5 a7) (rv72 a0 a1 a2 a3 a4 a5 a7)
def rv75 : FVec Ideal S4096x1 .f32 :=
  broadcastInDim S4096x1 ![] bcast_S_S4096x1 (constant S_ .f32 0x44800000#32)
def rv76 : FVec Ideal S4096x1 .f32 :=
  Host.divf (rv74 a0 a1 a2 a3 a4 a5 a7) rv75
def rv77 : FVec Ideal S4096 .f32 :=
  Host.reduceAdd (rv76 a0 a1 a2 a3 a4 a5 a7) (constant S_ .f32 0x00000000#32) reducesTo_S4096x1_S4096_d1 h_S_
def rv78 : FVec Ideal S4096x1024 .f32 :=
  broadcastInDim S4096x1024 ![0] bcast_S4096_S4096x1024_0 (rv77 a0 a1 a2 a3 a4 a5 a7)
def rv79 : FVec Ideal S4096x1024 .f32 :=
  addf (rv73 a0 a1 a2 a3 a4 a5 a7) (rv78 a0 a1 a2 a3 a4 a5 a7)
def rv80 : FVec Ideal S4096x1024 .f32 :=
  broadcastInDim S4096x1024 ![0, 1] bcast_S1x1024_S4096x1024_0_1 a4
def rv81 : FVec Ideal S4096x1024 .f32 :=
  mulf (rv80 a4) (rv79 a0 a1 a2 a3 a4 a5 a7)
def rv82 : FVec Ideal S4096x1024 .f32 :=
  mulf (rv79 a0 a1 a2 a3 a4 a5 a7) (rv0 a1)
def rv83 : FVec Ideal S1024 .f32 :=
  Host.reduceAdd (rv82 a0 a1 a2 a3 a4 a5 a7) (constant S_ .f32 0x00000000#32) reducesTo_S4096x1024_S1024_d0 h_S_
def rv84 : FVec Ideal S1x1024 .f32 :=
  shapeCast _ (rv83 a0 a1 a2 a3 a4 a5 a7) shapeCasts_S1024_S1x1024
def rv85 : FVec Ideal S4096x1024 .f32 :=
  broadcastInDim S4096x1024 ![] bcast_S_S4096x1024 (constant S_ .f32 0x3F9837F0#32)
def rv86 : FVec Ideal S4096x1024 .f32 :=
  mulf rv85 (rv79 a0 a1 a2 a3 a4 a5 a7)
def rv87 : FVec Ideal S4096x1024 .bf16 :=
  truncf .bf16 (rv81 a0 a1 a2 a3 a4 a5 a7) bitsLt_bf16_f32

end

variable (m : (ℓ : Loc nD τ sig) → Buf (Elt Ideal) ℓ) (c : Dev nD)

theorem res_v86 : Reference7Ideal.Value.res_main_v86 m c = rv86 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  rw [Reference7Ideal.Value.res_main_v86]; rfl
theorem res_v87 : Reference7Ideal.Value.res_main_v87 m c = rv87 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  rw [Reference7Ideal.Value.res_main_v87]; rfl
theorem res_v84 : Reference7Ideal.Value.res_main_v84 m c = rv84 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  rw [Reference7Ideal.Value.res_main_v84]; rfl

end Cert.Reference7Ideal.Norm1
-- ==== Proof.Norm1K.lean ====
/- The first norm's backward call, row by row: what each of its vectors holds at a point. -/
module

public import proofs.«01_k».proof.Proof.Gen.Kernel7Ideal.Value
public import proofs.«01_k».proof.Proof.Norm
public import Idealize.ShloMosaic.Lib.Pipeline.ValueKit

@[expose] public section

set_option maxRecDepth 16384

noncomputable section

namespace Cert.Norm1

open Kernel7Ideal Kernel7Ideal.Gen Idealize.ShloMosaic TcCoe Idealize.SL.Sem
open Cert.Norm
open scoped BigOperators

/-- The cotangent of the norm's affine image: the one given plus the modulated rows' one times the modulation. -/
def dy (d h c : Row) : Row := fun k => d k + h k * (1 + c k)

section kernel
variable (v0 : FVec Ideal S512x1024 .f32) (v1 v2 v3 : FVec Ideal S512x1024 .bf16) (v4 v5 v6 v7 : FVec Ideal S1x1024 .f32)

/-- A row of a block; the row of a one-row array. -/
abbrev row (v : FVec Ideal S512x1024 .f32) (r : Fin 512) : Row := fun k => v (ix2 r k)
abbrev row16 (v : FVec Ideal S512x1024 .bf16) (r : Fin 512) : Row := fun k => v (ix2 r k)
abbrev one (v : FVec Ideal S1x1024 .f32) : Row := fun k => v (ix2 0 k)
abbrev mx (r : Fin 512) : Row := mix (row v0 r) (row16 v1 r) (one v4)
abbrev my (r : Fin 512) : Row := dy (row16 v2 r) (row16 v3 r) (one v7)

theorem pay3_at (r : Fin 512) (k : Fin 1024) : k0_pay3 (F := Ideal) v0 v1 v4 (ix2 r k) = xc (mx v0 v1 v4 r) k := by
  pointwise [k0_pay3, k0_pay2]; rfl

theorem pay4_at (r : Fin 512) : k0_pay4 (F := Ideal) v0 v1 v4 (ix2 r 0) = vr (mx v0 v1 v4 r) := by
  pointwise [k0_pay4]; simp only [pay3_at]; rfl

theorem pay5_at (r : Fin 512) : k0_pay5 (F := Ideal) v0 v1 v4 (ix2 r 0) = rs (mx v0 v1 v4 r) := by
  pointwise [k0_pay5]; simp only [pay4_at]; rfl

theorem pay6_at (r : Fin 512) : k0_pay6 (F := Ideal) v0 v1 v4 (ix2 r 0) = hs (mx v0 v1 v4 r) := by
  pointwise [k0_pay6]; simp only [pay4_at, pay5_at]; rfl

theorem pay7_at (r : Fin 512) (k : Fin 1024) : k0_pay7 (F := Ideal) v0 v1 v4 (ix2 r k) = nrm (mx v0 v1 v4 r) k := by
  pointwise [k0_pay7]; simp only [pay3_at, pay5_at]; rfl

theorem pay13_at (r : Fin 512) (k : Fin 1024) : k0_pay13 (F := Ideal) v2 v3 v7 (ix2 r k) = my v2 v3 v7 r k := by
  pointwise [k0_pay13, k0_pay10]; rfl

theorem pay16_at (r : Fin 512) (k : Fin 1024) :
    k0_pay16 (F := Ideal) v2 v3 v5 v7 (k0_pay3 v0 v1 v4) (k0_pay5 v0 v1 v4) (k0_pay6 v0 v1 v4) (ix2 r k)
      = grad (mx v0 v1 v4 r) (fun k => my v2 v3 v7 r k * v5 (ix2 0 k)) k := by
  pointwise [k0_pay16]; simp only [Fin.sum_univ_one, pay3_at, pay5_at, pay6_at, pay13_at]; rfl

theorem pay11_at (k : Fin 1024) : k0_pay11 (F := Ideal) v3 (ix2 0 k) = ∑ r, v3 (ix2 r k) := by
  pointwise [k0_pay11, k0_pay10]

theorem pay12_at (k : Fin 1024) : k0_pay12 (F := Ideal) v3 (k0_pay8 v0 v1 v4 v5) (k0_pay9 v6) (ix2 0 k)
    = ∑ r, (nrm (mx v0 v1 v4 r) k * v5 (ix2 0 k) + v6 (ix2 0 k)) * v3 (ix2 r k) := by
  pointwise [k0_pay12, k0_pay8, k0_pay9, k0_pay10]; simp only [pay7_at]

theorem pay14_at (k : Fin 1024) : k0_pay14 (F := Ideal) v2 v3 v7 (ix2 0 k) = ∑ r, my v2 v3 v7 r k := by
  pointwise [k0_pay14]; simp only [pay13_at]

theorem pay15_at (k : Fin 1024) : k0_pay15 (F := Ideal) v2 v3 v7 (k0_pay7 v0 v1 v4) (ix2 0 k)
    = ∑ r, nrm (mx v0 v1 v4 r) k * my v2 v3 v7 r k := by
  pointwise [k0_pay15]; simp only [pay7_at, pay13_at]

end kernel

end Cert.Norm1

end
-- ==== Proof.Norm1R.lean ====
/- The first norm's reference, row by row. -/
module

public import proofs.«01_k».proof.Proof.Norm1Ref
public import proofs.«01_k».proof.Proof.Norm1K

@[expose] public section

set_option maxRecDepth 16384

noncomputable section

namespace Cert.Reference7Ideal.Norm1

open Idealize.ShloMosaic TcCoe
open Reference7Ideal Reference7Ideal.Gen
open Cert.Norm Cert.Norm1
open scoped BigOperators

variable (a0 : FVec Ideal S4096x1024 .f32) (a1 a2 a3 : FVec Ideal S4096x1024 .bf16) (a4 a5 a6 a7 : FVec Ideal S1x1024 .f32)

/-- The row the norm reads; the row of the cotangent of the norm's affine image. -/
abbrev ax (R : Fin 4096) : Row := mix (fun k => a0 (ix2 R k)) (fun k => a1 (ix2 R k)) (fun k => a4 (ix2 0 k))
abbrev ay (R : Fin 4096) : Row := dy (fun k => a2 (ix2 R k)) (fun k => a3 (ix2 R k)) (fun k => a7 (ix2 0 k))

theorem v5_at (R : Fin 4096) (k : Fin 1024) : rv5 a0 a1 a4 (ix2 R k) = ax a0 a1 a4 R k := by
  pointwise [rv5, rv4, rv3, rv2, rv1, rv0]; rfl

theorem v9_at (R : Fin 4096) : rv9 a0 a1 a4 (ix2 R 0) = Ideal.div (∑ j, ax a0 a1 a4 R j) n := by
  pointwise [rv9, rv8, rv7, rv6]; simp only [v5_at]

theorem v11_at (R : Fin 4096) (k : Fin 1024) : rv11 a0 a1 a4 (ix2 R k) = xc (ax a0 a1 a4 R) k := by
  pointwise [rv11, rv10]; simp only [v5_at, v9_at]; rfl

theorem v20_at (R : Fin 4096) (k : Fin 1024) : rv20 a0 a1 a4 (ix2 R k) = xc (ax a0 a1 a4 R) k := by
  pointwise [rv20, rv19]; simp only [v5_at, v9_at]; rfl

theorem v22_at (R : Fin 4096) : rv22 a0 a1 a4 (ix2 R 0) = vr (ax a0 a1 a4 R) := by
  pointwise [rv22, rv21, rv18, rv17, rv16, rv15, rv12]; simp only [v11_at]; rfl

theorem v23_at (R : Fin 4096) : rv23 a0 a1 a4 (ix2 R 0) = rs (ax a0 a1 a4 R) := by
  pointwise [rv23]; simp only [v22_at]; rfl

theorem v26_at (R : Fin 4096) : rv26 a0 a1 a4 (ix2 R 0) = hs (ax a0 a1 a4 R) := by
  pointwise [rv26, rv25, rv24]; simp only [v22_at, v23_at]; rfl

theorem v28_at (R : Fin 4096) (k : Fin 1024) : rv28 a0 a1 a4 (ix2 R k) = nrm (ax a0 a1 a4 R) k := by
  pointwise [rv28, rv27]; simp only [v20_at, v23_at]; rfl

theorem v48_at (R : Fin 4096) (k : Fin 1024) : rv48 a2 a3 a7 (ix2 R k) = ay a2 a3 a7 R k := by
  pointwise [rv48, rv47, rv46, rv40, rv39, rv34, rv33]; rfl

theorem v55_at (R : Fin 4096) (k : Fin 1024) : rv55 a2 a3 a5 a7 (ix2 R k) = ay a2 a3 a7 R k * a5 (ix2 0 k) := by
  pointwise [rv55, rv54]; simp only [v48_at]

theorem v60_at (R : Fin 4096) (k : Fin 1024) : rv60 a0 a1 a2 a3 a4 a5 a7 (ix2 R k)
    = ay a2 a3 a7 R k * a5 (ix2 0 k) * rs (ax a0 a1 a4 R) := by
  pointwise [rv60, rv59]; simp only [v55_at, v23_at]

theorem v67_at (R : Fin 4096) : rv67 a0 a1 a2 a3 a4 a5 a7 (ix1 R)
    = sc (ax a0 a1 a4 R) (fun k => ay a2 a3 a7 R k * a5 (ix2 0 k)) := by
  pointwise [rv67, rv66, rv65, rv61, rv58, rv57, rv56]; simp only [Fin.sum_univ_one, v20_at, v26_at, v55_at]; rfl

theorem v69_at (R : Fin 4096) (k : Fin 1024) : rv69 a0 a1 a2 a3 a4 a5 a7 (ix2 R k)
    = sc (ax a0 a1 a4 R) (fun k => ay a2 a3 a7 R k * a5 (ix2 0 k)) * (two * xc (ax a0 a1 a4 R) k) := by
  pointwise [rv69, rv68, rv14, rv13]; simp only [v67_at, v11_at]

theorem v73_at (R : Fin 4096) (k : Fin 1024) : rv73 a0 a1 a2 a3 a4 a5 a7 (ix2 R k)
    = ay a2 a3 a7 R k * a5 (ix2 0 k) * rs (ax a0 a1 a4 R)
      + sc (ax a0 a1 a4 R) (fun k => ay a2 a3 a7 R k * a5 (ix2 0 k)) * (two * xc (ax a0 a1 a4 R) k) := by
  pointwise [rv73]; simp only [v60_at, v69_at]

theorem v77_at (R : Fin 4096) : rv77 a0 a1 a2 a3 a4 a5 a7 (ix1 R)
    = Ideal.div ((∑ k, -(ay a2 a3 a7 R k * a5 (ix2 0 k) * rs (ax a0 a1 a4 R)))
      + ∑ k, -(sc (ax a0 a1 a4 R) (fun k => ay a2 a3 a7 R k * a5 (ix2 0 k)) * (two * xc (ax a0 a1 a4 R) k))) n := by
  pointwise [rv77, rv76, rv75, rv74, rv72, rv71, rv70, rv64, rv63, rv62]; simp only [Fin.sum_univ_one, v60_at, v69_at]

/-- The gradient of the row the norm reads, as the reference computes it. -/
theorem v79_at (R : Fin 4096) (k : Fin 1024) : rv79 a0 a1 a2 a3 a4 a5 a7 (ix2 R k)
    = grad' (ax a0 a1 a4 R) (fun k => ay a2 a3 a7 R k * a5 (ix2 0 k)) k := by
  pointwise [rv79, rv78]; rw [v73_at, v77_at]; rfl

/-- The modulated row's factor, the norm's affine image. -/
theorem v32_at (R : Fin 4096) (k : Fin 1024) : rv32 a0 a1 a4 a5 a6 (ix2 R k) = nrm (ax a0 a1 a4 R) k * a5 (ix2 0 k) + a6 (ix2 0 k) := by
  pointwise [rv32, rv31, rv30, rv29]; simp only [v28_at]

end Cert.Reference7Ideal.Norm1
-- ==== Proof.Norm1.lean ====
/- The first norm's backward call: its arrays are the reference's gradients when the arguments are finite. -/
module

public import proofs.«01_k».proof.Proof.Norm1R

@[expose] public section

set_option maxRecDepth 16384

noncomputable section

namespace Cert.Norm1

open Kernel7Ideal Kernel7Ideal.Gen Idealize.ShloMosaic TcCoe Idealize.SL.Sem
open Idealize.ShloMosaic.Pipeline (Dat)
open Cert.Norm Reference7Ideal.Norm1
open scoped BigOperators

theorem idx_val : ∀ t : Fin cfg0.N, win0_0.index t = ![t.val, 0]
    ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![0, 0] ∧ win0_12.index t = ![0, 0]
    ∧ win0_13.index t = ![0, 0] ∧ win0_14.index t = ![0, 0] ∧ win0_15.index t = ![0, 0] :=
  (by decide +kernel : ∀ t : Fin grid0.N, _)

variable (m : (ℓ : Loc nD τ sig) → Buf (Elt Ideal) ℓ) (c : Dev nD) (t : Fin cfg0.N)

abbrev A0 : FVec Ideal Reference7Ideal.S4096x1024 .f32 := m ((c : Thread nD τ).loc main_arg0)
abbrev A1 : FVec Ideal Reference7Ideal.S4096x1024 .bf16 := m ((c : Thread nD τ).loc main_arg1)
abbrev A2 : FVec Ideal Reference7Ideal.S4096x1024 .bf16 := m ((c : Thread nD τ).loc main_arg2)
abbrev A3 : FVec Ideal Reference7Ideal.S4096x1024 .bf16 := m ((c : Thread nD τ).loc main_arg3)
abbrev A4 : FVec Ideal Reference7Ideal.S1x1024 .f32 := m ((c : Thread nD τ).loc main_arg4)
abbrev A5 : FVec Ideal Reference7Ideal.S1x1024 .f32 := m ((c : Thread nD τ).loc main_arg5)
abbrev A6 : FVec Ideal Reference7Ideal.S1x1024 .f32 := m ((c : Thread nD τ).loc main_arg6)
abbrev A7 : FVec Ideal Reference7Ideal.S1x1024 .f32 := m ((c : Thread nD τ).loc main_arg7)

/-- The array's row a block's row is. -/
def at_ (r : Fin 512) : Fin 4096 := ⟨t.val * 512 + r.val, by have h : t.val < 8 := lt_of_lt_of_eq t.isLt N_0; have := r.isLt; omega⟩

theorem blk_0 (r : Fin 512) (k : Fin 1024) : iblk m c 0 t (ix2 r k) = A0 m c (ix2 (at_ t r) k) := by blk_point [iblk, V, at_, idx_val t]
theorem blk_1 (r : Fin 512) (k : Fin 1024) : iblk m c 1 t (ix2 r k) = A1 m c (ix2 (at_ t r) k) := by blk_point [iblk, V, at_, idx_val t]
theorem blk_2 (r : Fin 512) (k : Fin 1024) : iblk m c 2 t (ix2 r k) = A2 m c (ix2 (at_ t r) k) := by blk_point [iblk, V, at_, idx_val t]
theorem blk_3 (r : Fin 512) (k : Fin 1024) : iblk m c 3 t (ix2 r k) = A3 m c (ix2 (at_ t r) k) := by blk_point [iblk, V, at_, idx_val t]
theorem blk_4 (k : Fin 1024) : iblk m c 4 t (ix2 0 k) = A4 m c (ix2 0 k) := by blk_point [iblk, V, at_, idx_val t]
theorem blk_5 (k : Fin 1024) : iblk m c 5 t (ix2 0 k) = A5 m c (ix2 0 k) := by blk_point [iblk, V, at_, idx_val t]
theorem blk_6 (k : Fin 1024) : iblk m c 6 t (ix2 0 k) = A6 m c (ix2 0 k) := by blk_point [iblk, V, at_, idx_val t]
theorem blk_7 (k : Fin 1024) : iblk m c 7 t (ix2 0 k) = A7 m c (ix2 0 k) := by blk_point [iblk, V, at_, idx_val t]

/-- Every entry of the arguments the call's products read is a real number. -/
structure Finite : Prop where
  h0 : ∀ i, IsR (A0 m c i)
  h1 : ∀ i, IsR (A1 m c i)
  h2 : ∀ i, IsR (A2 m c i)
  h3 : ∀ i, IsR (A3 m c i)
  h4 : ∀ i, IsR (A4 m c i)
  h5 : ∀ i, IsR (A5 m c i)
  h7 : ∀ i, IsR (A7 m c i)

abbrev X (R : Fin 4096) : Row := ax (A0 m c) (A1 m c) (A4 m c) R
abbrev Y (R : Fin 4096) : Row := ay (A2 m c) (A3 m c) (A7 m c) R

variable {m c} (h : Finite m c)
include h

theorem X_real (R : Fin 4096) (k : Fin 1024) : IsR (X m c R k) := mix_real (fun _ => h.h0 _) (fun _ => h.h1 _) (fun _ => h.h4 _) k

theorem Y_real (R : Fin 4096) (k : Fin 1024) : IsR (Y m c R k) := (h.h2 _).add ((h.h3 _).mul (IsR.one.add (h.h7 _)))

/-- The two ways of the gradient agree at the rows of these arrays. -/
theorem grad_X (R : Fin 4096) (k : Fin 1024) :
    grad (X m c R) (fun k => Y m c R k * A5 m c (ix2 0 k)) k = grad' (X m c R) (fun k => Y m c R k * A5 m c (ix2 0 k)) k :=
  grad_eq (X_real h R) (fun k => (Y_real h R k).mul (h.h5 _)) k
omit h
variable (m c)

abbrev p16 := k0_pay16 (F := Ideal) (iblk m c 2 t) (iblk m c 3 t) (iblk m c 5 t) (iblk m c 7 t) (k0_pay3 (iblk m c 0 t) (iblk m c 1 t) (iblk m c 4 t))
  (k0_pay5 (iblk m c 0 t) (iblk m c 1 t) (iblk m c 4 t)) (k0_pay6 (iblk m c 0 t) (iblk m c 1 t) (iblk m c 4 t))
abbrev p17 := k0_pay17 (F := Ideal) (iblk m c 2 t) (iblk m c 3 t) (iblk m c 4 t) (iblk m c 5 t) (iblk m c 7 t) (k0_pay3 (iblk m c 0 t) (iblk m c 1 t) (iblk m c 4 t))
  (k0_pay5 (iblk m c 0 t) (iblk m c 1 t) (iblk m c 4 t)) (k0_pay6 (iblk m c 0 t) (iblk m c 1 t) (iblk m c 4 t))
abbrev p18 := k0_pay18 (F := Ideal) (iblk m c 2 t) (iblk m c 3 t) (iblk m c 5 t) (iblk m c 7 t) (k0_pay2 (iblk m c 1 t)) (k0_pay3 (iblk m c 0 t) (iblk m c 1 t) (iblk m c 4 t))
  (k0_pay5 (iblk m c 0 t) (iblk m c 1 t) (iblk m c 4 t)) (k0_pay6 (iblk m c 0 t) (iblk m c 1 t) (iblk m c 4 t))

theorem row_X (r : Fin 512) : mx (iblk m c 0 t) (iblk m c 1 t) (iblk m c 4 t) r = X m c (at_ t r) := by
  show mix (fun k => iblk m c 0 t (ix2 r k)) (fun k => iblk m c 1 t (ix2 r k)) (fun k => iblk m c 4 t (ix2 0 k)) = _
  simp only [blk_0, blk_1, blk_4]

theorem row_Y (r : Fin 512) : my (iblk m c 2 t) (iblk m c 3 t) (iblk m c 7 t) r = Y m c (at_ t r) := by
  show dy (fun k => iblk m c 2 t (ix2 r k)) (fun k => iblk m c 3 t (ix2 r k)) (fun k => iblk m c 7 t (ix2 0 k)) = _
  simp only [blk_2, blk_3, blk_7]

theorem grad_at (r : Fin 512) (k : Fin 1024) : p16 m c t (ix2 r k) = grad (X m c (at_ t r)) (fun k => Y m c (at_ t r) k * A5 m c (ix2 0 k)) k := by
  rw [p16, pay16_at]; simp only [row_X, row_Y, blk_5]

include h
theorem point_9 (y) : k0_pay20 (F := Ideal) (p16 m c t) y
    = rv86 (A0 m c) (A1 m c) (A2 m c) (A3 m c) (A4 m c) (A5 m c) (A7 m c) (((cfg0.win 9).blk t).view.emb y) := by
  obtain ⟨r, e, rfl⟩ : ∃ (r : Fin 512) (e : Fin 1024), y = ix2 r e := ⟨y 0, y 1, by funext d; fin_cases d <;> rfl⟩
  have he : ((cfg0.win 9).blk t).view.emb (ix2 r e) = ix2 (at_ t r) e := by blk_ext [at_, idx_val t]
  rw [he]
  pointwise [k0_pay20, rv86, rv85]
  rw [grad_at, v79_at, grad_X h]

theorem point_10 (y) : k0_pay19 (F := Ideal) (p17 m c t) y
    = rv87 (A0 m c) (A1 m c) (A2 m c) (A3 m c) (A4 m c) (A5 m c) (A7 m c) (((cfg0.win 10).blk t).view.emb y) := by
  obtain ⟨r, e, rfl⟩ : ∃ (r : Fin 512) (e : Fin 1024), y = ix2 r e := ⟨y 0, y 1, by funext d; fin_cases d <;> rfl⟩
  have he : ((cfg0.win 10).blk t).view.emb (ix2 r e) = ix2 (at_ t r) e := by blk_ext [at_, idx_val t]
  rw [he]
  pointwise [k0_pay19, k0_pay17, rv87, rv81, rv80]
  rw [blk_4, v79_at, ← grad_X h, ← grad_at]

theorem final_9 : (dats m 0 c).arrAt 9 (cfgs 0).N = rv86 (A0 m c) (A1 m c) (A2 m c) (A3 m c) (A4 m c) (A5 m c) (A7 m c) := by
  refine (dats m 0 c).arrAt_eq_of_covers 9 _ (by decide +kernel) fun t hf y => ?_
  blk_simp; rw [after0_9]
  by_cases ht : t.val % 8 = 0
  · rw [outsAt0_A m c t ht]; dsimp only; frame_out; exact point_9 m c t h y
  · rw [outsAt0_B m c t ht]; dsimp only; frame_out; exact point_9 m c t h y

theorem final_10 : (dats m 0 c).arrAt 10 (cfgs 0).N = rv87 (A0 m c) (A1 m c) (A2 m c) (A3 m c) (A4 m c) (A5 m c) (A7 m c) := by
  refine (dats m 0 c).arrAt_eq_of_covers 10 _ (by decide +kernel) fun t hf y => ?_
  blk_simp; rw [after0_10]
  by_cases ht : t.val % 8 = 0
  · rw [outsAt0_A m c t ht]; dsimp only; frame_out; exact point_10 m c t h y
  · rw [outsAt0_B m c t ht]; dsimp only; frame_out; exact point_10 m c t h y
omit h

/-- The reference's sum over its 4096 rows is the call's sum over eight blocks of 512. -/
theorem rows_sum (f : Fin 4096 → EReal) : ∑ p : Fin cfg0.N, ∑ r : Fin 512, f (at_ p r) = ∑ R, f R :=
  Fin.sum_mul_add_congr fun s k hl => rfl

theorem zero_11 (j : S1x1024.Idx) : k0_pay21 (F := Ideal) j = 0 := by pointwise! [k0_pay21]
theorem zero_12 (j : S1x1024.Idx) : k0_pay22 (F := Ideal) j = 0 := by pointwise! [k0_pay22]
theorem zero_13 (j : S1x1024.Idx) : k0_pay23 (F := Ideal) j = 0 := by pointwise! [k0_pay23]
theorem zero_14 (j : S1x1024.Idx) : k0_pay24 (F := Ideal) j = 0 := by pointwise! [k0_pay24]
theorem zero_15 (j : S1x1024.Idx) : k0_pay25 (F := Ideal) j = 0 := by pointwise! [k0_pay25]

theorem split (j : S1x1024.Idx) : ∃ k : Fin 1024, j = ix2 0 k := ⟨j 1, by funext d; fin_cases d; exact Subsingleton.elim (α := Fin 1) _ _; rfl⟩

/-- One row's part of each of the five column sums. -/
def row_11 (R : Fin 4096) : Row := fun k => grad (X m c R) (fun k => Y m c R k * A5 m c (ix2 0 k)) k * A1 m c (ix2 R k)
def row_12 (R : Fin 4096) : Row := fun k => nrm (X m c R) k * Y m c R k
def row_14 (R : Fin 4096) : Row := fun k => (nrm (X m c R) k * A5 m c (ix2 0 k) + A6 m c (ix2 0 k)) * A3 m c (ix2 R k)
def row_13 (R : Fin 4096) : Row := Y m c R
def row_15 (R : Fin 4096) : Row := fun k => A3 m c (ix2 R k)

variable (b : FVec Ideal S1x1024 .f32) (j : S1x1024.Idx)

theorem step_11 : k0_pay26 (F := Ideal) (p18 m c t) b j = b j + ∑ r, row_11 m c (at_ t r) (j 1) := by
  obtain ⟨k, rfl⟩ := split j
  pointwise [k0_pay26, k0_pay18, k0_pay2]; simp only [grad_at, blk_1]; rfl

theorem step_12 : k0_pay27 (F := Ideal) (k0_pay15 (iblk m c 2 t) (iblk m c 3 t) (iblk m c 7 t) (k0_pay7 (iblk m c 0 t) (iblk m c 1 t) (iblk m c 4 t))) b j
    = b j + ∑ r, row_12 m c (at_ t r) (j 1) := by
  obtain ⟨k, rfl⟩ := split j
  pointwise [k0_pay27]; rw [pay15_at]; simp only [row_X, row_Y]; rfl

theorem step_13 : k0_pay28 (F := Ideal) (k0_pay14 (iblk m c 2 t) (iblk m c 3 t) (iblk m c 7 t)) b j = b j + ∑ r, row_13 m c (at_ t r) (j 1) := by
  obtain ⟨k, rfl⟩ := split j
  pointwise [k0_pay28]; rw [pay14_at]; simp only [row_Y]; rfl

theorem step_14 : k0_pay29 (F := Ideal) (k0_pay12 (iblk m c 3 t) (k0_pay8 (iblk m c 0 t) (iblk m c 1 t) (iblk m c 4 t) (iblk m c 5 t)) (k0_pay9 (iblk m c 6 t))) b j
    = b j + ∑ r, row_14 m c (at_ t r) (j 1) := by
  obtain ⟨k, rfl⟩ := split j
  pointwise [k0_pay29]; rw [pay12_at]; simp only [row_X, blk_3, blk_5, blk_6]; rfl

theorem step_15 : k0_pay1 (F := Ideal) (k0_pay11 (iblk m c 3 t)) b j = b j + ∑ r, row_15 m c (at_ t r) (j 1) := by
  obtain ⟨k, rfl⟩ := split j
  pointwise [k0_pay1]; rw [pay11_at]; simp only [blk_3]; rfl

theorem sum_11 : (dats m 0 c).arrAt 11 (cfgs 0).N = fun j => ∑ R, row_11 m c R (j 1) := by
  refine (dats m 0 c).arrAt_eq_of_after_last 11 t0_7 (by decide +kernel) _ fun j => ?_
  blk_simp
  rw [after0_11, Pipeline.eq_sum_fin_of_reset_step_apply_last (fun n h => (outsAt0 m c n h).2.2.1) 8 (fun _ => 0) _
    (fun t h j => by rw [outsAt0_A m c t h]; frame_out; rw [step_11, zero_11])
    (fun t h j => by rw [outsAt0_B m c t h]; frame_out; rw [step_11])
    (le_of_eq N_0) t0_7 rfl j, zero_add]
  exact rows_sum fun R => row_11 m c R (j 1)

theorem sum_12 : (dats m 0 c).arrAt 12 (cfgs 0).N = fun j => ∑ R, row_12 m c R (j 1) := by
  refine (dats m 0 c).arrAt_eq_of_after_last 12 t0_7 (by decide +kernel) _ fun j => ?_
  blk_simp
  rw [after0_12, Pipeline.eq_sum_fin_of_reset_step_apply_last (fun n h => (outsAt0 m c n h).2.2.2.1) 8 (fun _ => 0) _
    (fun t h j => by rw [outsAt0_A m c t h]; frame_out; rw [step_12, zero_12])
    (fun t h j => by rw [outsAt0_B m c t h]; frame_out; rw [step_12])
    (le_of_eq N_0) t0_7 rfl j, zero_add]
  exact rows_sum fun R => row_12 m c R (j 1)

theorem sum_13 : (dats m 0 c).arrAt 13 (cfgs 0).N = fun j => ∑ R, row_13 m c R (j 1) := by
  refine (dats m 0 c).arrAt_eq_of_after_last 13 t0_7 (by decide +kernel) _ fun j => ?_
  blk_simp
  rw [after0_13, Pipeline.eq_sum_fin_of_reset_step_apply_last (fun n h => (outsAt0 m c n h).2.2.2.2.1) 8 (fun _ => 0) _
    (fun t h j => by rw [outsAt0_A m c t h]; frame_out; rw [step_13, zero_13])
    (fun t h j => by rw [outsAt0_B m c t h]; frame_out; rw [step_13])
    (le_of_eq N_0) t0_7 rfl j, zero_add]
  exact rows_sum fun R => row_13 m c R (j 1)

theorem sum_14 : (dats m 0 c).arrAt 14 (cfgs 0).N = fun j => ∑ R, row_14 m c R (j 1) := by
  refine (dats m 0 c).arrAt_eq_of_after_last 14 t0_7 (by decide +kernel) _ fun j => ?_
  blk_simp
  rw [after0_14, Pipeline.eq_sum_fin_of_reset_step_apply_last (fun n h => (outsAt0 m c n h).2.2.2.2.2.1) 8 (fun _ => 0) _
    (fun t h j => by rw [outsAt0_A m c t h]; frame_out; rw [step_14, zero_14])
    (fun t h j => by rw [outsAt0_B m c t h]; frame_out; rw [step_14])
    (le_of_eq N_0) t0_7 rfl j, zero_add]
  exact rows_sum fun R => row_14 m c R (j 1)

theorem sum_15 : (dats m 0 c).arrAt 15 (cfgs 0).N = fun j => ∑ R, row_15 m c R (j 1) := by
  refine (dats m 0 c).arrAt_eq_of_after_last 15 t0_7 (by decide +kernel) _ fun j => ?_
  blk_simp
  rw [after0_15, Pipeline.eq_sum_fin_of_reset_step_apply_last (fun n h => (outsAt0 m c n h).2.2.2.2.2.2) 8 (fun _ => 0) _
    (fun t h j => by rw [outsAt0_A m c t h]; frame_out; rw [step_15, zero_15])
    (fun t h j => by rw [outsAt0_B m c t h]; frame_out; rw [step_15])
    (le_of_eq N_0) t0_7 rfl j, zero_add]
  exact rows_sum fun R => row_15 m c R (j 1)

include h in
theorem final_11 : (dats m 0 c).arrAt 11 (cfgs 0).N = rv84 (A0 m c) (A1 m c) (A2 m c) (A3 m c) (A4 m c) (A5 m c) (A7 m c) := by
  rw [sum_11]
  funext j
  obtain ⟨k, rfl⟩ := split j
  pointwise [rv84, rv83, rv82, rv0, row_11]
  simp only [v79_at, ← grad_X h]

theorem final_12 : (dats m 0 c).arrAt 12 (cfgs 0).N = rv53 (A0 m c) (A1 m c) (A2 m c) (A3 m c) (A4 m c) (A7 m c) := by
  rw [sum_12]
  funext j
  obtain ⟨k, rfl⟩ := split j
  pointwise [rv53, rv52, rv51, row_12]
  simp only [v28_at, v48_at]

theorem final_13 : (dats m 0 c).arrAt 13 (cfgs 0).N = rv50 (A2 m c) (A3 m c) (A7 m c) := by
  rw [sum_13]
  funext j
  obtain ⟨k, rfl⟩ := split j
  pointwise [rv50, rv49, row_13]
  simp only [v48_at]

theorem final_14 : (dats m 0 c).arrAt 14 (cfgs 0).N = rv45 (A0 m c) (A1 m c) (A3 m c) (A4 m c) (A5 m c) (A6 m c) := by
  rw [sum_14]
  funext j
  obtain ⟨k, rfl⟩ := split j
  pointwise [rv45, rv44, rv43, rv40, row_14]
  simp only [v32_at]

theorem final_15 : (dats m 0 c).arrAt 15 (cfgs 0).N = rv42 (A3 m c) := by
  rw [sum_15]
  funext j
  obtain ⟨k, rfl⟩ := split j
  pointwise [rv42, rv41, rv40, row_15]

end Cert.Norm1

end
-- ==== Proof.Norm1Claim.lean ====
/- The claim of the first norm's backward call. -/
module

public import proofs.«01_k».proof.Defs
public import proofs.«01_k».proof.Proof.Norm1
public import proofs.«01_k».proof.Proof.Finite
public import proofs.«01_k».proof.Proof.Gen.Pre_finite7
public import Idealize.ShloMosaic.Lib.Claim

@[expose] public section

set_option maxRecDepth 16384

noncomputable section

namespace Cert.Norm1

open Idealize.ShloMosaic TcCoe Idealize.SL.Sem

/-- Arguments that satisfy the precondition hold real numbers. -/
theorem finite_of_pre (m : (ℓ : Loc Kernel7Ideal.nD Kernel7Ideal.τ Kernel7Ideal.sig) → Buf (Elt Ideal) ℓ) (c : Dev Kernel7Ideal.nD)
    (h : Cert.Pre_finite7.fn (F := Ideal) (A0 m c) (A1 m c) (A2 m c) (A3 m c) (A4 m c) (A5 m c) (A6 m c) (A7 m c) (m ((c : Thread Kernel7Ideal.nD Kernel7Ideal.τ).loc Kernel7Ideal.main_arg8)) = fun _ => 1#1) : Finite m c := by
  have h0 := congrFun h ix0
  dsimp only [Cert.Pre_finite7.fn, Cert.Pre_finite7.fn_part1] at h0
  obtain ⟨h0, e7⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => ⟨_, Cert.Finite.real_of_all _ _ (fun _ => Cert.Finite.top_f32) _ _ _ e0 i⟩,
    fun i => ⟨_, Cert.Finite.real_of_all _ _ (fun _ => Cert.Finite.top_f32) _ _ _ e1 i⟩,
    fun i => ⟨_, Cert.Finite.real_of_all _ _ (fun _ => Cert.Finite.top_f32) _ _ _ e2 i⟩,
    fun i => ⟨_, Cert.Finite.real_of_all _ _ (fun _ => Cert.Finite.top_f32) _ _ _ e3 i⟩,
    fun i => ⟨_, Cert.Finite.real_of_all _ _ (fun _ => Cert.Finite.top_f32) _ _ _ e4 i⟩,
    fun i => ⟨_, Cert.Finite.real_of_all _ _ (fun _ => Cert.Finite.top_f32) _ _ _ e5 i⟩,
    fun i => ⟨_, Cert.Finite.real_of_all _ _ (fun _ => Cert.Finite.top_f32) _ _ _ e7 i⟩⟩

/-- The reference keeps its arguments; it declares no semaphore. -/
theorem quiescent_reference : quiescent_Reference7Ideal := fun m g _ =>
  (θ_run Reference7Ideal.defs _ _).mono
    (fun r h => ⟨fun c => (h c).2.2.2.2.2.2.2, sem_eq_zero_of_no_sems (by decide) r.2⟩) (Reference7Ideal.Value.run m g)

theorem algebraic : algebraic_Kernel7Ideal_Reference7Ideal_pre_finite7 := by
  intro m g m' g' hp hagree
  refine ⟨_, _, _, _, _, _, _, Kernel7Ideal.Value.run_blocks m g,
    (θ_run Reference7Ideal.defs _ _).mono (fun r h c => ?_) (Reference7Ideal.Value.run m' g')⟩
  obtain ⟨h0, h1, h2, h3, h4, h5, h6, hk⟩ := h c
  obtain ⟨a0, a1, a2, a3, a4, a5, a6, a7, a8⟩ := hagree c
  have hf : Finite m c := finite_of_pre m c (hp c)
  refine ⟨?_, ?_, ?_, ?_, ?_, ?_, ?_, hk⟩
  · rw [h0, Reference7Ideal.Norm1.res_v86, a0, a1, a2, a3, a4, a5, a7]; exact (final_9 m c hf).symm
  · rw [h1, Reference7Ideal.Norm1.res_v87, a0, a1, a2, a3, a4, a5, a7]; exact (final_10 m c hf).symm
  · rw [h2, Reference7Ideal.Norm1.res_v84, a0, a1, a2, a3, a4, a5, a7]; exact (final_11 m c hf).symm
  · rw [h3, a0, a1, a2, a3, a4, a7]; exact (final_12 m c).symm
  · rw [h4, a2, a3, a7]; exact (final_13 m c).symm
  · rw [h5, a0, a1, a3, a4, a5, a6]; exact (final_14 m c).symm
  · rw [h6, a3]; exact (final_15 m c).symm

end Cert.Norm1
-- ==== Proof.MixRef.lean ====
/- The mixer output's gradient, line by line: each definition is one line of the reference's program. -/
module

public import proofs.«01_k».proof.Proof.Gen.Reference8Ideal.Run
public import Idealize.ShloMosaic.Lib.Pipeline.ValueKit

@[expose] public section

set_option maxRecDepth 16384

noncomputable section

namespace Cert.Reference8Ideal.Mix

open Idealize.ShloMosaic TcCoe Idealize.ShloMosaic.Tactic
open Idealize.SL.Sem
open Reference8Ideal Reference8Ideal.Gen
open scoped BigOperators

section
variable (a0 : FVec Ideal S4096x512 .f32) (a1 : FVec Ideal S4096x512 .f32) (a2 : FVec Ideal S4096x512 .f32) (a3 : FVec Ideal S4096x1024 .bf16) (a4 : FVec Ideal S128 .f32)

def rv0 : FVec Ideal S4096x4x128 .f32 :=
  shapeCast _ a0 shapeCasts_S4096x512_S4096x4x128
def rv1 : FVec Ideal S4096x4x128 .f32 :=
  mulf (rv0 a0) (rv0 a0)
def rv2 : FVec Ideal S4096x4x128 .f32 :=
  broadcastInDim S4096x4x128 ![] bcast_S_S4096x4x128 (constant S_ .f32 0x40000000#32)
def rv3 : FVec Ideal S4096x4x128 .f32 :=
  mulf rv2 (rv0 a0)
def rv4 : FVec Ideal S4096x4 .f32 :=
  Host.reduceAdd (rv1 a0) (constant S_ .f32 0x00000000#32) reducesTo_S4096x4x128_S4096x4_d2 h_S_
def rv5 : FVec Ideal S4096x4x1 .f32 :=
  broadcastInDim S4096x4x1 ![0, 1] bcast_S4096x4_S4096x4x1_0_1 (rv4 a0)
def rv6 : FVec Ideal S4096x4x1 .f32 :=
  broadcastInDim S4096x4x1 ![] bcast_S_S4096x4x1 (constant S_ .f32 0x43000000#32)
def rv7 : FVec Ideal S4096x4x1 .f32 :=
  Host.divf (rv5 a0) rv6
def rv8 : FVec Ideal S4096x4x1 .f32 :=
  broadcastInDim S4096x4x1 ![] bcast_S_S4096x4x1 (constant S_ .f32 0x358637BD#32)
def rv9 : FVec Ideal S4096x4x1 .f32 :=
  addf (rv7 a0) rv8
def rv10 : FVec Ideal S4096x4x1 .f32 :=
  Host.rsqrt (rv9 a0)
def rv11 : FVec Ideal S4096x4x1 .f32 :=
  Host.divf (rv10 a0) (rv9 a0)
def rv12 : FVec Ideal S4096x4x1 .f32 :=
  broadcastInDim S4096x4x1 ![] bcast_S_S4096x4x1 (constant S_ .f32 0xBF000000#32)
def rv13 : FVec Ideal S4096x4x1 .f32 :=
  mulf rv12 (rv11 a0)
def rv14 : FVec Ideal S4096x4x128 .f32 :=
  broadcastInDim S4096x4x128 ![0, 1, 2] bcast_S4096x4x1_S4096x4x128_0_1_2 (rv10 a0)
def rv15 : FVec Ideal S4096x4x128 .f32 :=
  mulf (rv0 a0) (rv14 a0)
def rv16 : FVec Ideal S1x1x128 .f32 :=
  broadcastInDim S1x1x128 ![2] bcast_S128_S1x1x128_2 a4
def rv17 : FVec Ideal S4096x4x128 .f32 :=
  broadcastInDim S4096x4x128 ![0, 1, 2] bcast_S1x1x128_S4096x4x128_0_1_2 (rv16 a4)
def rv18 : FVec Ideal S4096x4x128 .f32 :=
  mulf (rv15 a0) (rv17 a4)
def rv19 : FVec Ideal S4096x4x128 .f32 :=
  shapeCast _ a1 shapeCasts_S4096x512_S4096x4x128
def rcall0_v0 : FVec Ideal S4096x4x128 .f32 :=
  Host.negf (rv19 a1)
def rcall0_v1 : FVec Ideal S4096x4x128 .f32 :=
  Host.exp (rcall0_v0 a1)
def rcall0_v2 : FVec Ideal S4096x4x128 .f32 :=
  broadcastInDim S4096x4x128 ![] bcast_S_S4096x4x128 (constant S_ .f32 0x3F800000#32)
def rcall0_v3 : FVec Ideal S4096x4x128 .f32 :=
  addf rcall0_v2 (rcall0_v1 a1)
def rcall0_v4 : FVec Ideal S4096x4x128 .f32 :=
  broadcastInDim S4096x4x128 ![] bcast_S_S4096x4x128 (constant S_ .f32 0x3F800000#32)
def rv20_2 : FVec Ideal S4096x4x128 .f32 :=
  Host.divf rcall0_v4 (rcall0_v3 a1)
def rcall0_v6 : FVec Ideal S4096x4x128 .f32 :=
  broadcastInDim S4096x4x128 ![] bcast_S_S4096x4x128 (constant S_ .f32 0x3F800000#32)
def rcall0_v7 : FVec Ideal S4096x4x128 .f32 :=
  subf rcall0_v6 (rv20_2 a1)
def rv20_1 : FVec Ideal S4096x4x128 .f32 :=
  mulf (rv20_2 a1) (rcall0_v7 a1)
def rv20_0 : FVec Ideal S4096x4x128 .f32 :=
  mulf (rv19 a1) (rv20_2 a1)
def rv24 : FVec Ideal S4096x1024 .f32 :=
  extf .f32 a3 bitsLt_bf16_f32
def rv25 : FVec Ideal S4096x512 .f32 :=
  extractStridedSlice S4096x512 ![0, 0] (rv24 a3) slices_S4096x1024_S4096x512_0_0
def rv26 : FVec Ideal S4096x512 .f32 :=
  extractStridedSlice S4096x512 ![0, 512] (rv24 a3) slices_S4096x1024_S4096x512_0_512
def rv27 : FVec Ideal S4096x4x128 .f32 :=
  shapeCast _ (rv25 a3) shapeCasts_S4096x512_S4096x4x128
def rv28 : FVec Ideal S4096x4x128 .f32 :=
  mulf (rv18 a0 a4) (rv27 a3)
def rv29 : FVec Ideal S4096x4x128 .f32 :=
  mulf (rv27 a3) (rv20_0 a1)
def rcall1_v0 : FVec Ideal S4096x4x128 .f32 :=
  mulf (rv19 a1) (rv28 a0 a3 a4)
def rcall1_v1 : FVec Ideal S4096x4x128 .f32 :=
  mulf (rv28 a0 a3 a4) (rv20_2 a1)
def rcall1_v2 : FVec Ideal S4096x4x128 .f32 :=
  mulf (rcall1_v0 a0 a1 a3 a4) (rv20_1 a1)
def rv30 : FVec Ideal S4096x4x128 .f32 :=
  addf (rcall1_v1 a0 a1 a3 a4) (rcall1_v2 a0 a1 a3 a4)
def rv31 : FVec Ideal S4096x512 .f32 :=
  shapeCast _ (rv30 a0 a1 a3 a4) shapeCasts_S4096x4x128_S4096x512
def rv32 : FVec Ideal S4096x4x128 .f32 :=
  mulf (rv15 a0) (rv29 a1 a3)
def rv33 : FVec Ideal S128 .f32 :=
  Host.reduceAdd (rv32 a0 a1 a3) (constant S_ .f32 0x00000000#32) reducesTo_S4096x4x128_S128_d0_1 h_S_
def rv34 : FVec Ideal S1x1x128 .f32 :=
  shapeCast _ (rv33 a0 a1 a3) shapeCasts_S128_S1x1x128
def rv35 : FVec Ideal S4096x4x128 .f32 :=
  broadcastInDim S4096x4x128 ![0, 1, 2] bcast_S1x1x128_S4096x4x128_0_1_2 (rv16 a4)
def rv36 : FVec Ideal S4096x4x128 .f32 :=
  mulf (rv29 a1 a3) (rv35 a4)
def rv37 : FVec Ideal S128 .f32 :=
  Host.reduceAdd (rv34 a0 a1 a3) (constant S_ .f32 0x00000000#32) reducesTo_S1x1x128_S128_d0_1 h_S_
def rv38 : FVec Ideal S4096x4x128 .f32 :=
  mulf (rv0 a0) (rv36 a1 a3 a4)
def rv39 : FVec Ideal S4096x4 .f32 :=
  Host.reduceAdd (rv38 a0 a1 a3 a4) (constant S_ .f32 0x00000000#32) reducesTo_S4096x4x128_S4096x4_d2 h_S_
def rv40 : FVec Ideal S4096x4x1 .f32 :=
  shapeCast _ (rv39 a0 a1 a3 a4) shapeCasts_S4096x4_S4096x4x1
def rv41 : FVec Ideal S4096x4x128 .f32 :=
  broadcastInDim S4096x4x128 ![0, 1, 2] bcast_S4096x4x1_S4096x4x128_0_1_2 (rv10 a0)
def rv42 : FVec Ideal S4096x4x128 .f32 :=
  mulf (rv36 a1 a3 a4) (rv41 a0)
def rv43 : FVec Ideal S4096x4x1 .f32 :=
  mulf (rv40 a0 a1 a3 a4) (rv13 a0)
def rv44 : FVec Ideal S4096x4x1 .f32 :=
  broadcastInDim S4096x4x1 ![] bcast_S_S4096x4x1 (constant S_ .f32 0x43000000#32)
def rv45 : FVec Ideal S4096x4x1 .f32 :=
  Host.divf (rv43 a0 a1 a3 a4) rv44
def rv46 : FVec Ideal S4096x4 .f32 :=
  Host.reduceAdd (rv45 a0 a1 a3 a4) (constant S_ .f32 0x00000000#32) reducesTo_S4096x4x1_S4096x4_d2 h_S_
def rv47 : FVec Ideal S4096x4x128 .f32 :=
  broadcastInDim S4096x4x128 ![0, 1] bcast_S4096x4_S4096x4x128_0_1 (rv46 a0 a1 a3 a4)
def rv48 : FVec Ideal S4096x4x128 .f32 :=
  mulf (rv47 a0 a1 a3 a4) (rv3 a0)
def rv49 : FVec Ideal S4096x4x128 .f32 :=
  addf (rv42 a0 a1 a3 a4) (rv48 a0 a1 a3 a4)
def rv50 : FVec Ideal S4096x512 .f32 :=
  shapeCast _ (rv49 a0 a1 a3 a4) shapeCasts_S4096x4x128_S4096x512
def rv51 : FVec Ideal S4096x512 .f32 :=
  mulf (rv26 a3) a2
def rv52 : FVec Ideal S4096x4x128 .f32 :=
  shapeCast _ (rv51 a2 a3) shapeCasts_S4096x512_S4096x4x128
def rv53 : FVec Ideal S4096x4 .f32 :=
  Host.reduceAdd (rv52 a2 a3) (constant S_ .f32 0x00000000#32) reducesTo_S4096x4x128_S4096x4_d2 h_S_
def rv54 : FVec Ideal S4096x4x1 .f32 :=
  broadcastInDim S4096x4x1 ![0, 1] bcast_S4096x4_S4096x4x1_0_1 (rv53 a2 a3)
def rv55 : FVec Ideal S4096x4x128 .f32 :=
  broadcastInDim S4096x4x128 ![0, 1, 2] bcast_S4096x4x1_S4096x4x128_0_1_2 (rv54 a2 a3)
def rv56 : FVec Ideal S4096x512 .f32 :=
  shapeCast _ (rv55 a2 a3) shapeCasts_S4096x4x128_S4096x512
def rv57 : FVec Ideal S4096x512 .bf16 :=
  truncf .bf16 (rv31 a0 a1 a3 a4) bitsLt_bf16_f32
def rv58 : FVec Ideal S4096x512 .bf16 :=
  truncf .bf16 (rv26 a3) bitsLt_bf16_f32
def rv59 : FVec Ideal S1x128 .f32 :=
  shapeCast _ (rv37 a0 a1 a3) shapeCasts_S128_S1x128

end

variable (m : (ℓ : Loc nD τ sig) → Buf (Elt Ideal) ℓ) (c : Dev nD)

theorem res_v50 : Reference8Ideal.Value.res_main_v50 m c = rv50 (m ((c : Thread nD τ).loc main_arg0)) (m ((c : Thread nD τ).loc main_arg1)) (m ((c : Thread nD τ).loc main_arg3)) (m ((c : Thread nD τ).loc main_arg4)) := by
  rw [Reference8Ideal.Value.res_main_v50]; rfl

end Cert.Reference8Ideal.Mix
-- ==== Proof.MixK.lean ====
/- The mixer output's backward call. -/
module

public import proofs.«01_k».proof.Proof.Gen.Kernel8Ideal.Value
public import proofs.«01_k».proof.Proof.Gate
public import Idealize.ShloMosaic.Lib.Pipeline.ValueKit

@[expose] public section

set_option maxRecDepth 16384

noncomputable section

namespace Cert.Mix

open Kernel8Ideal Kernel8Ideal.Gen Idealize.ShloMosaic TcCoe Idealize.SL.Sem
open scoped BigOperators

/-- A row of one head: its 128 columns. -/
abbrev Row := Fin 128 → EReal

section model
variable (O Z M G : Row)

/-- The mean square of a row and the small constant, its reciprocal root, and that root's derivative. -/
def ms : EReal := Ideal.div (∑ k, O k * O k) (Ideal.ofBits .f32 0x43000000#32) + Ideal.ofBits .f32 0x358637BD#32
def rs : EReal := Ideal.rsqrt (ms O)
def ws : EReal := Ideal.ofBits .f32 0xBF000000#32 * Ideal.div (rs O) (ms O)

/-- The logistic function of the gate by the hyperbolic tangent. -/
def th : Row := fun k => Ideal.tanh (Ideal.ofBits .f32 0x3F000000#32 * Z k)
def sg : Row := fun k => Ideal.ofBits .f32 0x3F000000#32 * (th Z k + 1)

/-- The gated cotangent, and the same with the norm's gain. -/
def mz : Row := fun k => M k * (Z k * sg Z k)
def mg : Row := fun k => mz Z M k * G k

def sm : EReal := Ideal.div ((∑ k, O k * mg Z M G k) * ws O) (Ideal.ofBits .f32 0x43000000#32)

/-- The call's gradients of the row, of the gate's row, and the row's part of the gain's gradient. -/
def dO : Row := fun k => mg Z M G k * rs O + O k * sm O Z M G + sm O Z M G * O k
def tz : Row := fun k => O k * rs O * G k * M k
def dZ : Row := fun k => tz O M G k * sg Z k
  + Ideal.ofBits .f32 0x3F000000#32 * (Ideal.ofBits .f32 0x3F000000#32 * (Z k * tz O M G k) * ((1 + th Z k) * (1 - th Z k)))
def dG : Row := fun k => O k * rs O * mz Z M k
end model

/-- A column of a head; a column of the second half of a row of 1024. -/
def col (h : Fin 4) (k : Fin 128) : Fin 512 := ⟨128 * h.val + k.val, by omega⟩
def lo (e : Fin 512) : Fin 1024 := ⟨e.val, by omega⟩
def hi (e : Fin 512) : Fin 1024 := ⟨512 + e.val, by omega⟩

variable (o : FVec Ideal S512x512 .f32) (z : FVec Ideal S512x512 .bf16) (q : FVec Ideal S512x512 .f32) (d : FVec Ideal S512x1024 .bf16) (g : FVec Ideal S1x128 .f32)
variable (h : Fin 4) (r : Fin 512) (k : Fin 128)

abbrev oR : Row := fun k => o (ix2 r (col h k))
abbrev zR : Row := fun k => z (ix2 r (col h k))
abbrev mR : Row := fun k => d (ix2 r (lo (col h k)))
abbrev gR : Row := fun k => g (ix2 0 k)

abbrev g1 := k0_pay3 (F := Ideal) g
abbrev z1 := k0_pay4 (F := Ideal) z
abbrev v8 := k0_pay5 (F := Ideal) o
abbrev v16 := k0_pay7 (F := Ideal) o
abbrev v19 := k0_pay8 (F := Ideal) o
abbrev v21 := k0_pay9 (F := Ideal) o
abbrev v23 := k0_pay10 (F := Ideal) o g
abbrev v24 := k0_pay11 (F := Ideal) z
abbrev v32 := k0_pay13 (F := Ideal) z
abbrev v36 := k0_pay14 (F := Ideal) z
abbrev v37 := k0_pay15 (F := Ideal) z
abbrev v38 := k0_pay16 (F := Ideal) o
abbrev v39 := k0_pay17 (F := Ideal) o
abbrev v46 := k0_pay19 (F := Ideal) (v39 o)
abbrev v49 := k0_pay20 (F := Ideal) (v39 o)
abbrev v51 := k0_pay21 (F := Ideal) (v38 o) (v39 o)
abbrev v53 := k0_pay22 (F := Ideal) (g1 g) (v38 o) (v39 o)
abbrev v54 := k0_pay23 (F := Ideal) (z1 z)
abbrev v62 := k0_pay25 (F := Ideal) (z1 z)
abbrev v66 := k0_pay26 (F := Ideal) (z1 z)
abbrev v67 := k0_pay27 (F := Ideal) (z1 z)
abbrev v68 := k0_pay28 (F := Ideal) o
abbrev v76 := k0_pay30 (F := Ideal) o
abbrev v79 := k0_pay31 (F := Ideal) o
abbrev v81 := k0_pay32 (F := Ideal) o
abbrev v83 := k0_pay33 (F := Ideal) o (g1 g)
abbrev v84 := k0_pay34 (F := Ideal) (z1 z)
abbrev v85 := k0_pay35 (F := Ideal)
abbrev v92 := k0_pay37 (F := Ideal) (v84 z) v85
abbrev v96 := k0_pay38 (F := Ideal) (v84 z) v85
abbrev v97 := k0_pay39 (F := Ideal) (v84 z) v85
abbrev v98 := k0_pay40 (F := Ideal) o
abbrev v106 := k0_pay42 (F := Ideal) o
abbrev v109 := k0_pay43 (F := Ideal) o
abbrev v111 := k0_pay44 (F := Ideal) o
abbrev v113 := k0_pay45 (F := Ideal) o (g1 g)
abbrev v114 := k0_pay46 (F := Ideal) (z1 z)
abbrev v122 := k0_pay48 (F := Ideal) (z1 z)
abbrev v126 := k0_pay49 (F := Ideal) (z1 z)
abbrev v127 := k0_pay50 (F := Ideal) (z1 z)
abbrev v129 := k0_pay51 (F := Ideal) d
abbrev v130 := k0_pay52 (F := Ideal) d
abbrev v131 := k0_pay53 (F := Ideal) d
abbrev v132 := k0_pay54 (F := Ideal) d
abbrev v145 := k0_pay57 (F := Ideal) (v113 o g) (v114 z) (v122 z) (v126 z) (v129 d)
abbrev v148 := k0_pay58 (F := Ideal) (v111 o) (v127 z) (v129 d)
abbrev v167 := k0_pay59 (F := Ideal) (g1 g) (v98 o) (v106 o) (v109 o) (v127 z) (v129 d)
abbrev v169 := k0_pay60 (F := Ideal) (v97 z) (v132 d)
abbrev v181 := k0_pay61 (F := Ideal) (v83 o g) (v84 z) (v92 z) (v96 z) (v132 d)
abbrev v208 := k0_pay62 (F := Ideal) (g1 g) (v68 o) (v76 o) (v79 o) (v167 o z d g) (v169 z d)
abbrev v223 := k0_pay64 (F := Ideal) (v53 o g) (v54 z) (v62 z) (v66 z) (v131 d) (v145 o z d g) (v181 o z d g)
abbrev v227 := k0_pay65 (F := Ideal) (v51 o) (v67 z) (v81 o) (v131 d) (v148 o z d) (v169 z d)
abbrev v229 := k0_pay66 (F := Ideal) (g1 g) (v67 z) (v131 d)
abbrev v231 := k0_pay67 (F := Ideal) (g1 g) (v38 o) (v67 z) (v131 d)
abbrev v249 := k0_pay68 (F := Ideal) (v38 o) (v46 o) (v49 o) (v208 o z d g) (v229 z d g) (v231 o z d g)
abbrev v262 := k0_pay70 (F := Ideal) (v23 o g) (v24 z) (v32 z) (v36 z) (v130 d) (v223 o z d g)
abbrev v266 := k0_pay71 (F := Ideal) (v21 o) (v37 z) (v130 d) (v227 o z d)
abbrev v279 := k0_pay73 (F := Ideal) (g1 g) (v8 o) (v19 o) (v37 z) (v130 d)
abbrev v281 := k0_pay74 (F := Ideal) (g1 g) (v8 o) (v16 o) (v19 o) (v37 z) (v130 d)
abbrev v286 := k0_pay75 (F := Ideal) (v8 o) (v249 o z d g) (v279 o z d g) (v281 o z d g)

theorem c0 (x : Fin 128) (hx : x.val < 512) : (⟨x.val, hx⟩ : Fin 512) = col 0 x := Fin.ext (by show x.val = 128 * 0 + x.val; omega)
theorem l0 (x : Fin 128) (hx : x.val < 1024) : (⟨x.val, hx⟩ : Fin 1024) = lo (col 0 x) := Fin.ext (by show x.val = 128 * 0 + x.val; omega)
theorem h0 (x : Fin 128) (hx : 512 + x.val < 1024) : (⟨512 + x.val, hx⟩ : Fin 1024) = hi (col 0 x) := Fin.ext (by show 512 + x.val = 512 + (128 * 0 + x.val); omega)

theorem dd_0 : v286 o z d g (ix2 r (col 0 k)) = dO (oR o 0 r) (zR z 0 r) (mR d 0 r) (gR g) k
    ∧ v262 o z d g (ix2 r (col 0 k)) = dZ (oR o 0 r) (zR z 0 r) (mR d 0 r) (gR g) k := by
  have a : ((col 0 k : Fin 512) : ℕ) < 128 := by show 128 * 0 + k.val < 128; omega
  have b : ((col 0 k : Fin 512) : ℕ) < 256 := by show 128 * 0 + k.val < 256; omega
  have c : ((col 0 k : Fin 512) : ℕ) < 384 := by show 128 * 0 + k.val < 384; omega
  have e : ((col 0 k : Fin 512) : ℕ) = k.val := by show 128 * 0 + k.val = k.val; omega
  constructor
  all_goals
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [dif_pos a, dif_pos b, dif_pos c, zero_add, add_zero, Fin.sum_univ_one]
    simp only [e, c0, l0]
    rfl

theorem do_0 : v286 o z d g (ix2 r (col 0 k)) = dO (oR o 0 r) (zR z 0 r) (mR d 0 r) (gR g) k := (dd_0 o z d g r k).1
theorem dz_0 : v262 o z d g (ix2 r (col 0 k)) = dZ (oR o 0 r) (zR z 0 r) (mR d 0 r) (gR g) k := (dd_0 o z d g r k).2

theorem de_0 : k0_pay77 (F := Ideal) q d (ix2 r (col 0 k)) = ∑ x, d (ix2 r (hi (col 0 x))) * q (ix2 r (col 0 x)) := by
  have a : ((col 0 k : Fin 512) : ℕ) < 128 := by show 128 * 0 + k.val < 128; omega
  pointwise [k0_pay76, k0_pay77]
  simp only [dif_pos a, c0, h0]

theorem dd_1 : v286 o z d g (ix2 r (col 1 k)) = dO (oR o 1 r) (zR z 1 r) (mR d 1 r) (gR g) k
    ∧ v262 o z d g (ix2 r (col 1 k)) = dZ (oR o 1 r) (zR z 1 r) (mR d 1 r) (gR g) k := by
  have a : ¬ ((col 1 k : Fin 512) : ℕ) < 128 := by show ¬ 128 * 1 + k.val < 128; omega
  have b : ((col 1 k : Fin 512) : ℕ) < 256 := by show 128 * 1 + k.val < 256; omega
  have c : ((col 1 k : Fin 512) : ℕ) < 384 := by show 128 * 1 + k.val < 384; omega
  have e : ((col 1 k : Fin 512) : ℕ) - 128 = k.val := by show 128 * 1 + k.val - 128 = k.val; omega
  constructor
  all_goals
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [dif_neg a, dif_pos b, dif_pos c, zero_add, add_zero, Fin.sum_univ_one, e]
    rfl

theorem do_1 : v286 o z d g (ix2 r (col 1 k)) = dO (oR o 1 r) (zR z 1 r) (mR d 1 r) (gR g) k := (dd_1 o z d g r k).1
theorem dz_1 : v262 o z d g (ix2 r (col 1 k)) = dZ (oR o 1 r) (zR z 1 r) (mR d 1 r) (gR g) k := (dd_1 o z d g r k).2

theorem de_1 : k0_pay77 (F := Ideal) q d (ix2 r (col 1 k)) = ∑ x, d (ix2 r (hi (col 1 x))) * q (ix2 r (col 1 x)) := by
  have a : ¬ ((col 1 k : Fin 512) : ℕ) < 128 := by show ¬ 128 * 1 + k.val < 128; omega
  have b : ((col 1 k : Fin 512) : ℕ) - 128 < 128 := by show 128 * 1 + k.val - 128 < 128; omega
  pointwise [k0_pay76, k0_pay77]
  simp only [dif_neg a, dif_pos b]
  refine Finset.sum_congr rfl fun x _ => ?_
  rfl

theorem dd_2 : v286 o z d g (ix2 r (col 2 k)) = dO (oR o 2 r) (zR z 2 r) (mR d 2 r) (gR g) k
    ∧ v262 o z d g (ix2 r (col 2 k)) = dZ (oR o 2 r) (zR z 2 r) (mR d 2 r) (gR g) k := by
  have a : ¬ ((col 2 k : Fin 512) : ℕ) < 128 := by show ¬ 128 * 2 + k.val < 128; omega
  have b : ¬ ((col 2 k : Fin 512) : ℕ) < 256 := by show ¬ 128 * 2 + k.val < 256; omega
  have c : ((col 2 k : Fin 512) : ℕ) < 384 := by show 128 * 2 + k.val < 384; omega
  have e : ((col 2 k : Fin 512) : ℕ) - 256 = k.val := by show 128 * 2 + k.val - 256 = k.val; omega
  constructor
  all_goals
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [dif_neg a, dif_neg b, dif_pos c, zero_add, add_zero, Fin.sum_univ_one, e]
    rfl

theorem do_2 : v286 o z d g (ix2 r (col 2 k)) = dO (oR o 2 r) (zR z 2 r) (mR d 2 r) (gR g) k := (dd_2 o z d g r k).1
theorem dz_2 : v262 o z d g (ix2 r (col 2 k)) = dZ (oR o 2 r) (zR z 2 r) (mR d 2 r) (gR g) k := (dd_2 o z d g r k).2

theorem de_2 : k0_pay77 (F := Ideal) q d (ix2 r (col 2 k)) = ∑ x, d (ix2 r (hi (col 2 x))) * q (ix2 r (col 2 x)) := by
  have a : ¬ ((col 2 k : Fin 512) : ℕ) < 128 := by show ¬ 128 * 2 + k.val < 128; omega
  have b : ¬ ((col 2 k : Fin 512) : ℕ) - 128 < 128 := by show ¬ 128 * 2 + k.val - 128 < 128; omega
  have c : ((col 2 k : Fin 512) : ℕ) - 128 - 128 < 128 := by show 128 * 2 + k.val - 128 - 128 < 128; omega
  pointwise [k0_pay76, k0_pay77]
  simp only [dif_neg a, dif_neg b, dif_pos c]
  refine Finset.sum_congr rfl fun x _ => ?_
  rfl

theorem dd_3 : v286 o z d g (ix2 r (col 3 k)) = dO (oR o 3 r) (zR z 3 r) (mR d 3 r) (gR g) k
    ∧ v262 o z d g (ix2 r (col 3 k)) = dZ (oR o 3 r) (zR z 3 r) (mR d 3 r) (gR g) k := by
  have a : ¬ ((col 3 k : Fin 512) : ℕ) < 128 := by show ¬ 128 * 3 + k.val < 128; omega
  have b : ¬ ((col 3 k : Fin 512) : ℕ) < 256 := by show ¬ 128 * 3 + k.val < 256; omega
  have c : ¬ ((col 3 k : Fin 512) : ℕ) < 384 := by show ¬ 128 * 3 + k.val < 384; omega
  have e : ((col 3 k : Fin 512) : ℕ) - 384 = k.val := by show 128 * 3 + k.val - 384 = k.val; omega
  constructor
  all_goals
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [dif_neg a, dif_neg b, dif_neg c, zero_add, add_zero, Fin.sum_univ_one, e]
    rfl

theorem do_3 : v286 o z d g (ix2 r (col 3 k)) = dO (oR o 3 r) (zR z 3 r) (mR d 3 r) (gR g) k := (dd_3 o z d g r k).1
theorem dz_3 : v262 o z d g (ix2 r (col 3 k)) = dZ (oR o 3 r) (zR z 3 r) (mR d 3 r) (gR g) k := (dd_3 o z d g r k).2

theorem de_3 : k0_pay77 (F := Ideal) q d (ix2 r (col 3 k)) = ∑ x, d (ix2 r (hi (col 3 x))) * q (ix2 r (col 3 x)) := by
  have a : ¬ ((col 3 k : Fin 512) : ℕ) < 128 := by show ¬ 128 * 3 + k.val < 128; omega
  have b : ¬ ((col 3 k : Fin 512) : ℕ) - 128 < 128 := by show ¬ 128 * 3 + k.val - 128 < 128; omega
  have c : ¬ ((col 3 k : Fin 512) : ℕ) - 128 - 128 < 128 := by show ¬ 128 * 3 + k.val - 128 - 128 < 128; omega
  pointwise [k0_pay76, k0_pay77]
  simp only [dif_neg a, dif_neg b, dif_neg c]
  refine Finset.sum_congr rfl fun x _ => ?_
  rfl

theorem dg_all : v266 o z d (ix2 0 k) = ∑ r, dG (oR o 3 r) (zR z 3 r) (mR d 3 r) k + ∑ r, dG (oR o 2 r) (zR z 2 r) (mR d 2 r) k
    + ∑ r, dG (oR o 1 r) (zR z 1 r) (mR d 1 r) k + ∑ r, dG (oR o 0 r) (zR z 0 r) (mR d 0 r) k := by
  pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
  simp only [c0, l0]
  rfl
end Cert.Mix
end
-- ==== Proof.MixR.lean ====
/- The mixer output's gradient, the reference's results at a point. -/
module

public import proofs.«01_k».proof.Proof.MixRef
public import proofs.«01_k».proof.Proof.MixK

@[expose] public section

set_option maxRecDepth 16384

noncomputable section

namespace Cert.Mix

open Reference8Ideal Reference8Ideal.Gen Idealize.ShloMosaic TcCoe Idealize.SL.Sem
open Reference8Ideal.Mix Cert.Gate
open scoped BigOperators

/-- A sum over the first two of three axes. -/
theorem sum01 {n0 n1 n2 : ℕ} (hr : (⟨3, ![n0, n1, n2]⟩ : Shape).ReducesTo [0, 1] ⟨1, ![n2]⟩) (X : (⟨3, ![n0, n1, n2]⟩ : Shape).Idx → EReal) (k : Fin n2) :
    Ideal.hostReduceAdd hr X 0 (ix1 k) = ∑ a : Fin n0, ∑ b : Fin n1, X (ix3 a b k) := by
  unfold Ideal.hostReduceAdd
  rw [zero_add, ← Fintype.sum_prod_type' (fun a b => X (ix3 a b k))]
  refine Finset.sum_nbij' (fun i => ((i 0 : Fin n0), (i 1 : Fin n1))) (fun p => ix3 p.1 p.2 k) (fun _ _ => Finset.mem_univ _) (fun p _ => ?_) (fun i hi => ?_) (fun _ _ => rfl) (fun i hi => ?_)
  · rw [Finset.mem_filter]
    refine ⟨Finset.mem_univ _, ?_⟩
    funext a; fin_cases a; rfl
  · have h2 : (i 2).val = k.val := congrArg Fin.val (congrFun (Finset.mem_filter.1 hi).2 0)
    funext a; fin_cases a
    · rfl
    · rfl
    · exact Fin.ext h2.symm
  · have h2 : (i 2).val = k.val := congrArg Fin.val (congrFun (Finset.mem_filter.1 hi).2 0)
    congr 1
    funext a; fin_cases a
    · rfl
    · rfl
    · exact Fin.ext h2

variable (a0 a1 a2 : FVec Ideal S4096x512 .f32) (a3 : FVec Ideal S4096x1024 .bf16) (a4 : FVec Ideal S128 .f32) (R : Fin 4096) (h : Fin 4) (k : Fin 128)

/-- The rows of one head that the results are gradients of. -/
abbrev oA : Row := fun k => a0 (ix2 R (col h k))
abbrev mA : Row := fun k => a3 (ix2 R (lo (col h k)))
abbrev gA : Row := fun k => a4 (ix1 k)

theorem col_flat (hh : h.val * 128 + k.val < 512) : (⟨h.val * 128 + k.val, hh⟩ : Fin 512) = col h k := Fin.ext (by show h.val * 128 + k.val = 128 * h.val + k.val; omega)
theorem lo_flat (hh : h.val * 128 + k.val < 1024) : (⟨h.val * 128 + k.val, hh⟩ : Fin 1024) = lo (col h k) := Fin.ext (by show h.val * 128 + k.val = 128 * h.val + k.val; omega)
theorem hi_flat (hh : 512 + (h.val * 128 + k.val) < 1024) : (⟨512 + (h.val * 128 + k.val), hh⟩ : Fin 1024) = hi (col h k) := Fin.ext (by show 512 + (h.val * 128 + k.val) = 512 + (128 * h.val + k.val); omega)
theorem col_div (hh : (col h k).val / 128 < 4) : (⟨(col h k).val / 128, hh⟩ : Fin 4) = h := Fin.ext (by show (128 * h.val + k.val) / 128 = h.val; omega)
theorem col_mod (hh : (col h k).val % 128 < 128) : (⟨(col h k).val % 128, hh⟩ : Fin 128) = k := Fin.ext (by show (128 * h.val + k.val) % 128 = k.val; omega)

theorem rv0_at : rv0 a0 (ix3 R h k) = oA a0 R h k := by
  pointwise [rv0]; rw [col_flat]

theorem rv9_at : rv9 a0 (ix3 R h 0) = ms (oA a0 R h) := by
  pointwise [rv9, rv8, rv7, rv6, rv5, rv4, rv1]; simp only [rv0_at]; rfl

theorem rv29_at : rv29 a1 a3 (ix3 R h k) = mz (oA a1 R h) (mA a3 R h) k := by
  pointwise [rv29, rv27, rv25, rv24, rv20_0, rv19, rv20_2, rcall0_v4, rcall0_v3, rcall0_v2, rcall0_v1, rcall0_v0]
  rw [lo_flat, col_flat, sig_host, ← sig_tanh]; rfl

theorem rv36_at : rv36 a1 a3 a4 (ix3 R h k) = mg (oA a1 R h) (mA a3 R h) (gA a4) k := by
  pointwise [rv36, rv35, rv16]; rw [rv29_at]; rfl

theorem rv28_at : rv28 a0 a3 a4 (ix3 R h k) = tz (oA a0 R h) (mA a3 R h) (gA a4) k := by
  pointwise [rv28, rv27, rv25, rv24, rv18, rv17, rv16, rv15, rv14, rv10]; rw [rv0_at, rv9_at, lo_flat]; rfl

theorem rv46_at : rv46 a0 a1 a3 a4 (ix2 R h) = sm (oA a0 R h) (oA a1 R h) (mA a3 R h) (gA a4) := by
  pointwise [rv46, rv45, rv44, rv43, rv40, rv39, rv38, rv13, rv12, rv11, rv10]
  simp only [Fin.sum_univ_one]
  rw [rv9_at]
  simp only [rv0_at, rv36_at]; rfl

theorem two_f32 : Ideal.ofBits .f32 0x40000000#32 = ((2 : ℝ) : EReal) := by
  simp [Ideal.ofBits, Ideal.ieee, -EReal.coe_mul]; norm_num

theorem two_mul' (x : EReal) : ((2 : ℝ) : EReal) * x = x + x := by
  rw [show ((2 : ℝ) : EReal) = 1 + 1 by rw [← EReal.coe_one, ← EReal.coe_add]; norm_num, EReal.right_distrib_of_nonneg zero_le_one zero_le_one, one_mul]

theorem rv50_at : rv50 a0 a1 a3 a4 (ix2 R (col h k)) = dO (oA a0 R h) (oA a1 R h) (mA a3 R h) (gA a4) k := by
  pointwise [rv50, rv49, rv48, rv47, rv42, rv41, rv10, rv3, rv2]
  rw [col_div, col_mod, rv36_at, rv9_at, rv46_at, rv0_at, two_f32, mul_left_comm, two_mul', ← add_assoc, dO, mul_comm (sm _ _ _ _)]; rfl

/-- The derivative of the logistic function by the hyperbolic tangent. -/
theorem sig_deriv (x : EReal) : Ideal.ofBits .f32 0x3F000000#32 * (Ideal.ofBits .f32 0x3F000000#32
    * ((1 + Ideal.tanh (Ideal.ofBits .f32 0x3F000000#32 * x)) * (1 - Ideal.tanh (Ideal.ofBits .f32 0x3F000000#32 * x)))) = sig x * (1 - sig x) := by
  rw [← sig_tanh]
  obtain ⟨t, ht⟩ : ∃ t : ℝ, Ideal.tanh (Ideal.ofBits .f32 0x3F000000#32 * x) = t := by
    generalize Ideal.ofBits .f32 0x3F000000#32 * x = y
    induction y using EReal.rec with
    | bot => exact ⟨-1, by rw [Ideal.tanh_bot]; rfl⟩
    | coe y => exact ⟨_, Ideal.tanh_coe y⟩
    | top => exact ⟨1, by rw [Ideal.tanh_top]; rfl⟩
  rw [ht, half_f32, ← EReal.coe_one]
  simp only [← EReal.coe_add, ← EReal.coe_sub, ← EReal.coe_mul]
  congr 1; ring

theorem rv57_at : rv57 a0 a1 a3 a4 (ix2 R (col h k)) = dZ (oA a0 R h) (oA a1 R h) (mA a3 R h) (gA a4) k := by
  pointwise [rv57, rv31, rv30, rcall1_v2, rcall1_v1, rcall1_v0, rv20_1, rcall0_v7, rcall0_v6, rv19, rv20_2, rcall0_v4, rcall0_v3, rcall0_v2, rcall0_v1, rcall0_v0]
  rw [col_div, col_mod, rv28_at, sig_host, ← sig_deriv, ← sig_tanh]
  simp only [dZ, sg, th]
  congr 1
  simp only [mul_left_comm, mul_assoc, mul_comm]

theorem rv58_at (e : Fin 512) : rv58 a3 (ix2 R e) = a3 (ix2 R (hi e)) := by
  pointwise [rv58, rv26, rv24]; rfl

theorem rv56_at : rv56 a2 a3 (ix2 R (col h k)) = ∑ x, a3 (ix2 R (hi (col h x))) * a2 (ix2 R (col h x)) := by
  pointwise [rv56, rv55, rv54, rv53, rv52, rv51, rv26, rv24]
  have e : (col h k).val / 128 = h.val := by show (128 * h.val + k.val) / 128 = h.val; omega
  simp only [e, col_flat, hi_flat]

theorem rv59_at : rv59 a0 a1 a3 (ix2 0 k) = ∑ R, ∑ h, dG (oA a0 R h) (oA a1 R h) (mA a3 R h) k := by
  pointwise [rv59, rv37, rv34, rv33]
  rw [sum01]
  simp only [Fin.sum_univ_one]
  pointwise
  rw [sum01]
  pointwise [rv32, rv15, rv14, rv10]
  simp only [rv0_at, rv9_at, rv29_at]; rfl

end Cert.Mix
end
-- ==== Proof.Mix.lean ====
/- The mixer output's backward call: its arrays are the reference's gradients. -/
module

public import proofs.«01_k».proof.Proof.MixR

@[expose] public section

set_option maxRecDepth 16384

noncomputable section

namespace Cert.Mix

open Kernel8Ideal Kernel8Ideal.Gen Idealize.ShloMosaic TcCoe Idealize.SL.Sem
open Idealize.ShloMosaic.Pipeline (Dat)
open Reference8Ideal.Mix
open scoped BigOperators

theorem idx_val : ∀ t : Fin cfg0.N, win0_0.index t = ![t.val, 0]
    ∧ win0_1.index t = ![t.val, 3] ∧ win0_2.index t = ![t.val, 0] ∧ win0_3.index t = ![t.val, 0]
    ∧ win0_4.index t = ![0, 0] ∧ win0_5.index t = ![t.val, 0] ∧ win0_6.index t = ![t.val, 0] ∧ win0_7.index t = ![t.val, 0] ∧ win0_8.index t = ![t.val, 0]
    ∧ win0_9.index t = ![0, 0] :=
  (by decide +kernel : ∀ t : Fin grid0.N, _)

variable (m : (ℓ : Loc nD τ sig) → Buf (Elt Ideal) ℓ) (c : Dev nD) (t : Fin cfg0.N)

abbrev A0 : FVec Ideal Reference8Ideal.S4096x512 .f32 := m ((c : Thread nD τ).loc main_arg0)
abbrev A1 : FVec Ideal Reference8Ideal.S4096x512 .f32 := m ((c : Thread nD τ).loc main_arg1)
abbrev A2 : FVec Ideal Reference8Ideal.S4096x512 .f32 := m ((c : Thread nD τ).loc main_arg2)
abbrev A3 : FVec Ideal Reference8Ideal.S4096x1024 .bf16 := m ((c : Thread nD τ).loc main_arg3)
abbrev A4 : FVec Ideal Reference8Ideal.S128 .f32 := m ((c : Thread nD τ).loc main_arg4)

/-- The array's row a block's row is. -/
def at_ (r : Fin 512) : Fin 4096 := ⟨t.val * 512 + r.val, by have h : t.val < 8 := lt_of_lt_of_eq t.isLt N_0; have := r.isLt; omega⟩

theorem blk_0 (r : Fin 512) (k : Fin 512) : iblk m c 0 t (ix2 r k) = A0 m c (ix2 (at_ t r) k) := by blk_point [iblk, V, at_, idx_val t]
theorem conc3 {a a' : FVec Ideal S4096x1536 .f32} {b b' : FVec Ideal S4096x512 .f32} {d d' : FVec Ideal S4096x1024 .f32} (ha : a = a') (hb : b = b') (hd : d = d') :
    concatenate S4096x3072 1 [⟨S4096x1536, a⟩, ⟨S4096x512, b⟩, ⟨S4096x1024, d⟩] concatenates_S4096x1536_S4096x512_S4096x1024_S4096x3072_d1
      = concatenate S4096x3072 1 [⟨S4096x1536, a'⟩, ⟨S4096x512, b'⟩, ⟨S4096x1024, d'⟩] concatenates_S4096x1536_S4096x512_S4096x1024_S4096x3072_d1 := by
  subst ha hb hd; rfl

/-- The host's first four lines. -/
abbrev front : List (HloOp τ sig (Elt Ideal)) :=
  [ StableHlo.nullary main_cst (constant (F := Ideal) S_ .f32 0x00000000#32),
    StableHlo.unary main_cst main_v0 (broadcastInDim S4096x1536 ![] bcast_S_S4096x1536 : (⟨S_, .f32⟩ : BufTy).Contents (Elt Ideal) → (⟨S4096x1536, .f32⟩ : BufTy).Contents (Elt Ideal)),
    StableHlo.nullary main_cst_0 (constant (F := Ideal) S_ .f32 0x00000000#32),
    StableHlo.unary main_cst_0 main_v1 (broadcastInDim S4096x1024 ![] bcast_S_S4096x1024 : (⟨S_, .f32⟩ : BufTy).Contents (Elt Ideal) → (⟨S4096x1024, .f32⟩ : BufTy).Contents (Elt Ideal)) ]

/-- The projections' array at the call: the gate's columns between zeros. -/
theorem V_v3 : V m c main_v3 = (truncf .bf16 (concatenate S4096x3072 1 [⟨S4096x1536, broadcastInDim S4096x1536 ![] bcast_S_S4096x1536 (constant S_ .f32 0x00000000#32)⟩, ⟨S4096x512, A1 m c⟩,
    ⟨S4096x1024, broadcastInDim S4096x1024 ![] bcast_S_S4096x1024 (constant S_ .f32 0x00000000#32)⟩] concatenates_S4096x1536_S4096x512_S4096x1024_S4096x3072_d1) bitsLt_bf16_f32 : FVec Ideal S4096x3072 .bf16) := by
  show StableHlo.after hostOps0 (fun b => m (c, b)) (Proc.devRef .tc main_v3) = _
  after_results
  refine congrArg (fun x : FVec Ideal S4096x3072 .f32 => (truncf .bf16 x bitsLt_bf16_f32 : FVec Ideal S4096x3072 .bf16)) (conc3 ?_ ?_ ?_)
  · show StableHlo.after front (fun b => m (c, b)) (Proc.devRef .tc main_v0) = _
    after_results
  · show StableHlo.after front (fun b => m (c, b)) (Proc.devRef .tc main_arg1) = _
    after_results
  · show StableHlo.after front (fun b => m (c, b)) (Proc.devRef .tc main_v1) = _
    after_results

theorem blk_1 (r : Fin 512) (k : Fin 512) : iblk m c 1 t (ix2 r k) = A1 m c (ix2 (at_ t r) k) := by
  have he : ((cfg0.win 1).blk t).view.emb (ix2 r k) = ix2 (at_ t r) (⟨1536 + k.val, by omega⟩ : Fin 3072) := by blk_ext [at_, idx_val t]
  show V m c main_v3 (((cfg0.win 1).blk t).view.emb (ix2 r k)) = _
  rw [he, V_v3]
  pointwise

theorem blk_2 (r : Fin 512) (k : Fin 512) : iblk m c 2 t (ix2 r k) = A2 m c (ix2 (at_ t r) k) := by blk_point [iblk, V, at_, idx_val t]
theorem blk_3 (r : Fin 512) (k : Fin 1024) : iblk m c 3 t (ix2 r k) = A3 m c (ix2 (at_ t r) k) := by blk_point [iblk, V, at_, idx_val t]
theorem blk_4 (k : Fin 128) : iblk m c 4 t (ix2 0 k) = A4 m c (ix1 k) := by
  have he : ((cfg0.win 4).blk t).view.emb (ix2 0 k) = ix2 0 k := by blk_ext [at_, idx_val t]
  blk_simp [iblk]
  rw [he]
  entry_read
  pointwise

theorem row_0 (h : Fin 4) (r : Fin 512) : oR (iblk m c 0 t) h r = oA (A0 m c) (at_ t r) h := funext fun _ => blk_0 m c t r _
theorem row_1 (h : Fin 4) (r : Fin 512) : zR (iblk m c 1 t) h r = oA (A1 m c) (at_ t r) h := funext fun _ => blk_1 m c t r _
theorem row_3 (h : Fin 4) (r : Fin 512) : mR (iblk m c 3 t) h r = mA (A3 m c) (at_ t r) h := funext fun _ => blk_3 m c t r _
theorem row_4 : gR (iblk m c 4 t) = gA (A4 m c) := funext fun _ => blk_4 m c t _

theorem split_col (e : Fin 512) : ∃ (h : Fin 4) (k : Fin 128), e = col h k :=
  ⟨⟨e.val / 128, by omega⟩, ⟨e.val % 128, by omega⟩, Fin.ext (by show e.val = 128 * (e.val / 128) + e.val % 128; omega)⟩

theorem do_at (o : FVec Ideal S512x512 .f32) (z : FVec Ideal S512x512 .bf16) (d : FVec Ideal S512x1024 .bf16) (g : FVec Ideal S1x128 .f32) (r : Fin 512) (k : Fin 128) :
    ∀ h : Fin 4, v286 o z d g (ix2 r (col h k)) = dO (oR o h r) (zR z h r) (mR d h r) (gR g) k
  | 0 => do_0 .. | 1 => do_1 .. | 2 => do_2 .. | 3 => do_3 ..

theorem dz_at (o : FVec Ideal S512x512 .f32) (z : FVec Ideal S512x512 .bf16) (d : FVec Ideal S512x1024 .bf16) (g : FVec Ideal S1x128 .f32) (r : Fin 512) (k : Fin 128) :
    ∀ h : Fin 4, v262 o z d g (ix2 r (col h k)) = dZ (oR o h r) (zR z h r) (mR d h r) (gR g) k
  | 0 => dz_0 .. | 1 => dz_1 .. | 2 => dz_2 .. | 3 => dz_3 ..

theorem de_at (q : FVec Ideal S512x512 .f32) (d : FVec Ideal S512x1024 .bf16) (r : Fin 512) (k : Fin 128) :
    ∀ h : Fin 4, k0_pay77 (F := Ideal) q d (ix2 r (col h k)) = ∑ x, d (ix2 r (hi (col h x))) * q (ix2 r (col h x))
  | 0 => de_0 .. | 1 => de_1 .. | 2 => de_2 .. | 3 => de_3 ..

theorem point_5 (y) : v286 (iblk m c 0 t) (iblk m c 1 t) (iblk m c 3 t) (iblk m c 4 t) y = rv50 (A0 m c) (A1 m c) (A3 m c) (A4 m c) (((cfg0.win 5).blk t).view.emb y) := by
  obtain ⟨r, e, rfl⟩ : ∃ (r : Fin 512) (e : Fin 512), y = ix2 r e := ⟨y 0, y 1, by funext d; fin_cases d <;> rfl⟩
  have he : ((cfg0.win 5).blk t).view.emb (ix2 r e) = ix2 (at_ t r) e := by blk_ext [at_, idx_val t]
  obtain ⟨h, k, rfl⟩ := split_col e
  rw [he, rv50_at, do_at, row_0, row_1, row_3, row_4]

theorem point_6 (y) : k0_pay78 (F := Ideal) (v262 (iblk m c 0 t) (iblk m c 1 t) (iblk m c 3 t) (iblk m c 4 t)) y = rv57 (A0 m c) (A1 m c) (A3 m c) (A4 m c) (((cfg0.win 6).blk t).view.emb y) := by
  obtain ⟨r, e, rfl⟩ : ∃ (r : Fin 512) (e : Fin 512), y = ix2 r e := ⟨y 0, y 1, by funext d; fin_cases d <;> rfl⟩
  have he : ((cfg0.win 6).blk t).view.emb (ix2 r e) = ix2 (at_ t r) e := by blk_ext [at_, idx_val t]
  obtain ⟨h, k, rfl⟩ := split_col e
  rw [he, rv57_at, ← row_0, ← row_1, ← row_3, ← row_4 m c t, ← dz_at]
  pointwise [k0_pay78]

theorem point_7 (y) : k0_pay76 (F := Ideal) (iblk m c 3 t) y = rv58 (A3 m c) (((cfg0.win 7).blk t).view.emb y) := by
  obtain ⟨r, e, rfl⟩ : ∃ (r : Fin 512) (e : Fin 512), y = ix2 r e := ⟨y 0, y 1, by funext d; fin_cases d <;> rfl⟩
  have he : ((cfg0.win 7).blk t).view.emb (ix2 r e) = ix2 (at_ t r) e := by blk_ext [at_, idx_val t]
  rw [he, rv58_at]
  pointwise [k0_pay76]
  exact blk_3 m c t r _

theorem point_8 (y) : k0_pay77 (F := Ideal) (iblk m c 2 t) (iblk m c 3 t) y = rv56 (A2 m c) (A3 m c) (((cfg0.win 8).blk t).view.emb y) := by
  obtain ⟨r, e, rfl⟩ : ∃ (r : Fin 512) (e : Fin 512), y = ix2 r e := ⟨y 0, y 1, by funext d; fin_cases d <;> rfl⟩
  have he : ((cfg0.win 8).blk t).view.emb (ix2 r e) = ix2 (at_ t r) e := by blk_ext [at_, idx_val t]
  obtain ⟨h, k, rfl⟩ := split_col e
  rw [he, rv56_at, de_at]
  simp only [blk_2, blk_3]

theorem final_5 : (dats m 0 c).arrAt 5 (cfgs 0).N = rv50 (A0 m c) (A1 m c) (A3 m c) (A4 m c) := by
  refine (dats m 0 c).arrAt_eq_of_covers 5 _ (by decide +kernel) fun t hf y => ?_
  blk_simp; rw [after0_5]
  by_cases ht : t.val % 8 = 0
  · rw [outsAt0_A m c t ht]; dsimp only; frame_out; exact point_5 m c t y
  · rw [outsAt0_B m c t ht]; dsimp only; frame_out; exact point_5 m c t y

theorem final_6 : (dats m 0 c).arrAt 6 (cfgs 0).N = rv57 (A0 m c) (A1 m c) (A3 m c) (A4 m c) := by
  refine (dats m 0 c).arrAt_eq_of_covers 6 _ (by decide +kernel) fun t hf y => ?_
  blk_simp; rw [after0_6]
  by_cases ht : t.val % 8 = 0
  · rw [outsAt0_A m c t ht]; dsimp only; frame_out; exact point_6 m c t y
  · rw [outsAt0_B m c t ht]; dsimp only; frame_out; exact point_6 m c t y

theorem final_7 : (dats m 0 c).arrAt 7 (cfgs 0).N = rv58 (A3 m c) := by
  refine (dats m 0 c).arrAt_eq_of_covers 7 _ (by decide +kernel) fun t hf y => ?_
  blk_simp; rw [after0_7]
  by_cases ht : t.val % 8 = 0
  · rw [outsAt0_A m c t ht]; dsimp only; frame_out; exact point_7 m c t y
  · rw [outsAt0_B m c t ht]; dsimp only; frame_out; exact point_7 m c t y

theorem final_8 : (dats m 0 c).arrAt 8 (cfgs 0).N = rv56 (A2 m c) (A3 m c) := by
  refine (dats m 0 c).arrAt_eq_of_covers 8 _ (by decide +kernel) fun t hf y => ?_
  blk_simp; rw [after0_8]
  by_cases ht : t.val % 8 = 0
  · rw [outsAt0_A m c t ht]; dsimp only; frame_out; exact point_8 m c t y
  · rw [outsAt0_B m c t ht]; dsimp only; frame_out; exact point_8 m c t y

/-- The reference's sum over its 4096 rows is the call's sum over eight blocks of 512. -/
theorem rows_sum (f : Fin 4096 → EReal) : ∑ p : Fin cfg0.N, ∑ r : Fin 512, f (at_ p r) = ∑ R, f R :=
  Fin.sum_mul_add_congr fun s k hl => rfl

theorem zero_9 (j : S1x128.Idx) : k0_pay1 (F := Ideal) j = 0 := by pointwise! [k0_pay1]

theorem split (j : S1x128.Idx) : ∃ k : Fin 128, j = ix2 0 k := ⟨j 1, by funext d; fin_cases d; exact Subsingleton.elim (α := Fin 1) _ _; rfl⟩

/-- One row's part of the gain's gradient, over the heads. -/
def row_9 (R : Fin 4096) : Row := fun k => ∑ h, dG (oA (A0 m c) R h) (oA (A1 m c) R h) (mA (A3 m c) R h) k

theorem rev4 (a b d e : EReal) : e + d + b + a = a + b + d + e := by ac_rfl

theorem step_9 (b : FVec Ideal S1x128 .f32) (j : S1x128.Idx) : k0_pay2 (F := Ideal) (v266 (iblk m c 0 t) (iblk m c 1 t) (iblk m c 3 t)) b j
    = b j + ∑ r, row_9 m c (at_ t r) (j 1) := by
  obtain ⟨k, rfl⟩ := split j
  have e : k0_pay2 (F := Ideal) (v266 (iblk m c 0 t) (iblk m c 1 t) (iblk m c 3 t)) b (ix2 0 k) = b (ix2 0 k) + v266 (iblk m c 0 t) (iblk m c 1 t) (iblk m c 3 t) (ix2 0 k) := by
    generalize v266 (iblk m c 0 t) (iblk m c 1 t) (iblk m c 3 t) = v
    pointwise [k0_pay2]
  rw [e, dg_all]
  simp only [row_0, row_1, row_3, row_9, Fin.sum_univ_four, ← Finset.sum_add_distrib]
  refine congrArg _ (Finset.sum_congr rfl fun r _ => ?_)
  exact rev4 _ _ _ _

theorem sum_9 : (dats m 0 c).arrAt 9 (cfgs 0).N = fun j => ∑ R, row_9 m c R (j 1) := by
  refine (dats m 0 c).arrAt_eq_of_after_last 9 t0_7 (by decide +kernel) _ fun j => ?_
  blk_simp
  rw [after0_9, Pipeline.eq_sum_fin_of_reset_step_apply_last (fun n h => (outsAt0 m c n h).2.2.2.2) 8 (fun _ => 0) _
    (fun t h j => by rw [outsAt0_A m c t h]; frame_out; rw [step_9, zero_9])
    (fun t h j => by rw [outsAt0_B m c t h]; frame_out; rw [step_9])
    (le_of_eq N_0) t0_7 rfl j, zero_add]
  exact rows_sum fun R => row_9 m c R (j 1)

theorem final_9 : (dats m 0 c).arrAt 9 (cfgs 0).N = rv59 (A0 m c) (A1 m c) (A3 m c) := by
  rw [sum_9]
  funext j
  obtain ⟨k, rfl⟩ := split j
  rw [rv59_at]; rfl

end Cert.Mix
end
-- ==== Proof.MixClaim.lean ====
/- The claim of the mixer output's backward call. -/
module

public import proofs.«01_k».proof.Defs
public import proofs.«01_k».proof.Proof.Mix
public import Idealize.ShloMosaic.Lib.Claim

@[expose] public section

set_option maxRecDepth 16384

noncomputable section

namespace Cert.Mix

open Idealize.ShloMosaic TcCoe Idealize.SL.Sem

/-- The reference keeps its arguments; it declares no semaphore. -/
theorem quiescent_reference : quiescent_Reference8Ideal := fun m g _ =>
  (θ_run Reference8Ideal.defs _ _).mono
    (fun r h => ⟨fun c => (h c).2.2.2.2.2, sem_eq_zero_of_no_sems (by decide) r.2⟩) (Reference8Ideal.Value.run m g)

theorem algebraic : algebraic_Kernel8Ideal_Reference8Ideal := by
  intro m g m' g' _ hagree
  refine ⟨_, _, _, _, _, Kernel8Ideal.Value.run_blocks m g,
    (θ_run Reference8Ideal.defs _ _).mono (fun r h c => ?_) (Reference8Ideal.Value.run m' g')⟩
  obtain ⟨h0, h1, h2, h3, h4, hk⟩ := h c
  obtain ⟨a0, a1, a2, a3, a4⟩ := hagree c
  refine ⟨?_, ?_, ?_, ?_, ?_, hk⟩
  · rw [h0, Reference8Ideal.Mix.res_v50, a0, a1, a3, a4]; exact (final_5 m c).symm
  · rw [h1, a0, a1, a3, a4]; exact (final_6 m c).symm
  · rw [h2, a3]; exact (final_7 m c).symm
  · rw [h3, a2, a3]; exact (final_8 m c).symm
  · rw [h4, a0, a1, a3]; exact (final_9 m c).symm

end Cert.Mix
-- ==== Proof.AttnFwdRef.lean ====
/- The lines of the reference of the forward attention, named one by one. -/
module

public import proofs.«01_k».proof.Proof.Gen.Reference12Ideal.Run
public import Idealize.ShloMosaic.Lib.Pipeline.ValueKit

@[expose] public section

set_option maxRecDepth 16384

noncomputable section

namespace Cert.Reference12Ideal.Fwd

open Idealize.ShloMosaic TcCoe Idealize.ShloMosaic.Tactic
open Idealize.SL.Sem
open Reference12Ideal Reference12Ideal.Gen
open scoped BigOperators

section
variable (a0 : FVec Ideal S1x4096x4x128 .f32) (a1 : FVec Ideal S1x4096x4x64 .f32) (a2 : FVec Ideal S1x4096x4x128 .f32) (a3 : FVec Ideal S1x4096x64 .f32) (a4 : FVec Ideal S1x4096x4x128 .f32)

def rv0 : FVec Ideal S1x4096x1x64 .f32 :=
  broadcastInDim S1x4096x1x64 ![0, 1, 3] bcast_S1x4096x64_S1x4096x1x64_0_1_3 a3
def rv1 : FVec Ideal S1x4096x4x64 .f32 :=
  broadcastInDim S1x4096x4x64 ![0, 1, 2, 3] bcast_S1x4096x1x64_S1x4096x4x64_0_1_2_3 (rv0 a3)
def rv2 : FVec Ideal S1x4x4096x4096 .f32 :=
  Host.dotGeneral dot_S1x4096x4x128_S1x4096x4x128_S1x4x4096x4096_3_3_1_1_02_02 none a0 a2
def rv3 : FVec Ideal S1x4x4096x4096 .f32 :=
  Host.dotGeneral dot_S1x4096x4x64_S1x4096x4x64_S1x4x4096x4096_3_3_1_1_02_02 none a1 (rv1 a3)
def rv4 : FVec Ideal S1x4x4096x4096 .f32 :=
  addf (rv2 a0 a2) (rv3 a1 a3)
def rv5 : FVec Ideal S1x4x4096x4096 .f32 :=
  broadcastInDim S1x4x4096x4096 ![] bcast_S_S1x4x4096x4096 (constant S_ .f32 0x3D93CD3A#32)
def rv6 : FVec Ideal S1x4x4096x4096 .f32 :=
  mulf (rv4 a0 a1 a2 a3) rv5
def rv7 : IVec S4096 32 :=
  iotaInDim S4096 32 0
def rv8 : IVec S1x4096 32 :=
  broadcastInDim S1x4096 ![1] bcast_S4096_S1x4096_1 rv7
def rv9 : IVec S4096x1 32 :=
  broadcastInDim S4096x1 ![0] bcast_S4096_S4096x1_0 rv7
def rv10 : IVec S4096x4096 32 :=
  broadcastInDim S4096x4096 ![0, 1] bcast_S1x4096_S4096x4096_0_1 rv8
def rv11 : IVec S4096x4096 32 :=
  broadcastInDim S4096x4096 ![0, 1] bcast_S4096x1_S4096x4096_0_1 rv9
def rv12 : IVec S4096x4096 1 :=
  cmpi .sle rv10 rv11
def rcall0_v1 : IVec S1x4x4096x4096 1 :=
  broadcastInDim S1x4x4096x4096 ![2, 3] bcast_S4096x4096_S1x4x4096x4096_2_3 rv12
def rcall0_v2 : FVec Ideal S1x4x4096x4096 .f32 :=
  broadcastInDim S1x4x4096x4096 ![] bcast_S_S1x4x4096x4096 (id (constant S_ .f32 0xFF800000#32))
def rv13 : FVec Ideal S1x4x4096x4096 .f32 :=
  select rcall0_v1 (rv6 a0 a1 a2 a3) rcall0_v2
def rv14 : FVec Ideal S1x4x4096 .f32 :=
  Host.reduce FloatOps.maximumf (rv13 a0 a1 a2 a3) (constant S_ .f32 0xFF800000#32) reducesTo_S1x4x4096x4096_S1x4x4096_d3 h_S_
def rv15 : FVec Ideal S1x4x4096 .f32 :=
  broadcastInDim S1x4x4096 ![] bcast_S_S1x4x4096 (constant S_ .f32 0xFF800000#32)
def rv16 : FVec Ideal S1x4x4096 .f32 :=
  maximumf rv15 (rv14 a0 a1 a2 a3)
def rv17 : FVec Ideal S1x4x4096x1 .f32 :=
  broadcastInDim S1x4x4096x1 ![0, 1, 2] bcast_S1x4x4096_S1x4x4096x1_0_1_2 (rv16 a0 a1 a2 a3)
def rv18 : FVec Ideal S1x4x4096x4096 .f32 :=
  broadcastInDim S1x4x4096x4096 ![0, 1, 2, 3] bcast_S1x4x4096x1_S1x4x4096x4096_0_1_2_3 (rv17 a0 a1 a2 a3)
def rv19 : FVec Ideal S1x4x4096x4096 .f32 :=
  subf (rv13 a0 a1 a2 a3) (rv18 a0 a1 a2 a3)
def rv20 : FVec Ideal S1x4x4096x4096 .f32 :=
  Host.exp (rv19 a0 a1 a2 a3)
def rv21 : FVec Ideal S1x4x4096 .f32 :=
  Host.reduceAdd (rv20 a0 a1 a2 a3) (constant S_ .f32 0x00000000#32) reducesTo_S1x4x4096x4096_S1x4x4096_d3 h_S_
def rv22 : FVec Ideal S1x4x4096x1 .f32 :=
  broadcastInDim S1x4x4096x1 ![0, 1, 2] bcast_S1x4x4096_S1x4x4096x1_0_1_2 (rv21 a0 a1 a2 a3)
def rv23 : FVec Ideal S1x4x4096x4096 .f32 :=
  broadcastInDim S1x4x4096x4096 ![0, 1, 2, 3] bcast_S1x4x4096x1_S1x4x4096x4096_0_1_2_3 (rv22 a0 a1 a2 a3)
def rv24 : FVec Ideal S1x4x4096x4096 .f32 :=
  Host.divf (rv20 a0 a1 a2 a3) (rv23 a0 a1 a2 a3)
def rv25 : FVec Ideal S1x4x128x4096 .f32 :=
  Host.dotGeneral dot_S1x4096x4x128_S1x4x4096x4096_S1x4x128x4096_1_3_3_2_02_01 none a4 (rv24 a0 a1 a2 a3)
def rv26 : FVec Ideal S1x4096x4x128 .f32 :=
  transpose S1x4096x4x128 [0, 3, 1, 2] (rv25 a0 a1 a2 a3 a4) transposes_S1x4x128x4096_S1x4096x4x128_0_3_1_2
def rv27 : FVec Ideal S1x4x4096 .f32 :=
  Host.reduce FloatOps.maximumf (rv13 a0 a1 a2 a3) (constant S_ .f32 0xFF800000#32) reducesTo_S1x4x4096x4096_S1x4x4096_d3 h_S_
def rv28 : FVec Ideal S1x4x4096x1 .f32 :=
  broadcastInDim S1x4x4096x1 ![0, 1, 2] bcast_S1x4x4096_S1x4x4096x1_0_1_2 (rv27 a0 a1 a2 a3)
def rv29 : FVec Ideal S1x4x4096x4096 .f32 :=
  broadcastInDim S1x4x4096x4096 ![0, 1, 2, 3] bcast_S1x4x4096x1_S1x4x4096x4096_0_1_2_3 (rv28 a0 a1 a2 a3)
def rv30 : FVec Ideal S1x4x4096x4096 .f32 :=
  subf (rv13 a0 a1 a2 a3) (rv29 a0 a1 a2 a3)
def rv31 : FVec Ideal S1x4x4096x4096 .f32 :=
  Host.exp (rv30 a0 a1 a2 a3)
def rv32 : FVec Ideal S1x4x4096 .f32 :=
  Host.reduceAdd (rv31 a0 a1 a2 a3) (constant S_ .f32 0x00000000#32) reducesTo_S1x4x4096x4096_S1x4x4096_d3 h_S_
def rv33 : FVec Ideal S1x4x4096x1 .f32 :=
  broadcastInDim S1x4x4096x1 ![0, 1, 2] bcast_S1x4x4096_S1x4x4096x1_0_1_2 (rv32 a0 a1 a2 a3)
def rv34 : FVec Ideal S1x4x4096x1 .f32 :=
  Host.log (rv33 a0 a1 a2 a3)
def rv35 : FVec Ideal S1x4x4096x1 .f32 :=
  addf (rv28 a0 a1 a2 a3) (rv34 a0 a1 a2 a3)
def rv36 : FVec Ideal S_ .f32 :=
  Host.log (constant S_ .f32 0x40000000#32)
def rv37 : FVec Ideal S1x4x4096x1 .f32 :=
  broadcastInDim S1x4x4096x1 ![] bcast_S_S1x4x4096x1 rv36
def rv38 : FVec Ideal S1x4x4096x1 .f32 :=
  Host.divf (rv35 a0 a1 a2 a3) rv37
def rv39 : FVec Ideal S1x4096x4x1 .f32 :=
  transpose S1x4096x4x1 [0, 2, 1, 3] (rv38 a0 a1 a2 a3) transposes_S1x4x4096x1_S1x4096x4x1_0_2_1_3
def rv40 : FVec Ideal S1x4096x4x128 .f32 :=
  broadcastInDim S1x4096x4x128 ![0, 1, 2, 3] bcast_S1x4096x4x1_S1x4096x4x128_0_1_2_3 (rv39 a0 a1 a2 a3)
def rv41 : FVec Ideal S4096x512 .f32 :=
  shapeCast _ (rv26 a0 a1 a2 a3 a4) shapeCasts_S1x4096x4x128_S4096x512
def rv42 : FVec Ideal S4096x512 .f32 :=
  shapeCast _ (rv40 a0 a1 a2 a3) shapeCasts_S1x4096x4x128_S4096x512

end

variable (m : (ℓ : Loc nD τ sig) → Buf (Elt Ideal) ℓ) (c : Dev nD)

theorem res_v41 : Reference12Ideal.Value.res_main_v41 m c = rv41 (m ((c : Thread nD τ).loc main_arg0)) (m ((c : Thread nD τ).loc main_arg1)) (m ((c : Thread nD τ).loc main_arg2)) (m ((c : Thread nD τ).loc main_arg3)) (m ((c : Thread nD τ).loc main_arg4)) := by
  rw [Reference12Ideal.Value.res_main_v41]; rfl
theorem res_v42 : Reference12Ideal.Value.res_main_v42 m c = rv42 (m ((c : Thread nD τ).loc main_arg0)) (m ((c : Thread nD τ).loc main_arg1)) (m ((c : Thread nD τ).loc main_arg2)) (m ((c : Thread nD τ).loc main_arg3)) := by
  rw [Reference12Ideal.Value.res_main_v42]; rfl

end Cert.Reference12Ideal.Fwd
-- ==== Proof.AttnFwdReal.lean ====
/- A row of causal attention over the reals, key by key: the greatest score so far, and the sums of exponentials and of weighted
   values taken with it as the shift, carried over blocks of keys. -/
module

public import proofs.«01_k».proof.Proof.AttnReal

@[expose] public section

noncomputable section

namespace Cert.AttnFwd

open Idealize.ShloMosaic Cert.Attn
open scoped BigOperators

/-- The power of two. -/
def pw (x : ℝ) : ℝ := (2 : ℝ) ^ x

theorem exp2_real (x : ℝ) : Ideal.exp2 (x : EReal) = (pw x : EReal) := Ideal.exp2_coe x

theorem pw_add (x y : ℝ) : pw x * pw y = pw (x + y) := (Real.rpow_add two_pos x y).symm

/-- What is carried for a row whose first `n` keys are seen: nothing yet, or a shift and the two sums taken with it. -/
def Row (w v : ℕ → ℝ) (n : ℕ) (m l a : EReal) : Prop :=
  (n = 0 ∧ m = ⊥ ∧ l = 0 ∧ a = 0) ∨
  ∃ μ : ℝ, m = μ ∧ l = ((∑ j ∈ Finset.range n, pw (w j - μ) : ℝ) : EReal) ∧ a = ((∑ j ∈ Finset.range n, pw (w j - μ) * v j : ℝ) : EReal)

/-- The keys a row sees of a block of `B` that starts at `C`, up to the row's own. -/
theorem sum_block {B C r : ℕ} (hC : C ≤ r) (f : ℕ → ℝ) :
    ∑ j : Fin B, (if C + j.val ≤ r then f (C + j.val) else 0) = ∑ j ∈ Finset.range (min B (r + 1 - C)), f (C + j) := by
  rw [Fin.sum_univ_eq_sum_range (fun j => if C + j ≤ r then f (C + j) else 0) B, ← Finset.sum_filter]
  refine Finset.sum_congr ?_ fun _ _ => rfl
  ext j
  simp only [Finset.mem_filter, Finset.mem_range, lt_min_iff]
  omega

/-- A block more: the shift grows to the block's greatest score, the sums are scaled to it and the block's terms come in. -/
theorem Row.step {w v : ℕ → ℝ} {B C r : ℕ} (hC : C ≤ r) (hB : 0 < B) {m l a : EReal} (H : Row w v C m l a) {t u : Fin B → EReal}
    (ht : ∀ j, t j = if C + j.val ≤ r then (w (C + j.val) : EReal) else ⊥) (hu : ∀ j, u j = (v (C + j.val) : EReal)) :
    Row w v (C + min B (r + 1 - C)) (max m (Finset.fold max ⊥ t Finset.univ))
      (Ideal.exp2 (m - max m (Finset.fold max ⊥ t Finset.univ)) * l + ∑ j, Ideal.exp2 (t j - max m (Finset.fold max ⊥ t Finset.univ)))
      (Ideal.exp2 (m - max m (Finset.fold max ⊥ t Finset.univ)) * a
        + ∑ j, Ideal.exp2 (t j - max m (Finset.fold max ⊥ t Finset.univ)) * u j) := by
  obtain ⟨M, hM⟩ := fold_max_real t (fun j => by
    rw [ht]; split
    · exact Or.inr ⟨_, rfl⟩
    · exact Or.inl rfl) ⟨0, hB⟩ (w (C + 0)) (by rw [ht]; exact if_pos hC)
  rw [hM]
  obtain ⟨μ, hμ⟩ : ∃ μ : ℝ, max m (M : EReal) = μ := by
    rcases H with ⟨_, hm, _⟩ | ⟨ν, hm, _⟩
    · exact ⟨M, by rw [hm]; exact max_eq_right bot_le⟩
    · exact ⟨max ν M, by rw [hm]; exact (EReal.coe_strictMono.monotone.map_max).symm⟩
  rw [hμ]
  have he : ∀ j, Ideal.exp2 (t j - (μ : EReal)) = ((if C + j.val ≤ r then pw (w (C + j.val) - μ) else 0 : ℝ) : EReal) := fun j => by
    rw [ht]; split
    · rw [← EReal.coe_sub, exp2_real]
    · rw [EReal.bot_sub, EReal.coe_zero]; exact Ideal.exp2_bot
  have hl : ∑ j, Ideal.exp2 (t j - (μ : EReal)) = ((∑ j ∈ Finset.range (min B (r + 1 - C)), pw (w (C + j) - μ) : ℝ) : EReal) := by
    rw [Finset.sum_congr rfl fun j _ => he j, coe_sum, sum_block hC fun j => pw (w j - μ)]
  have ha : ∑ j, Ideal.exp2 (t j - (μ : EReal)) * u j
      = ((∑ j ∈ Finset.range (min B (r + 1 - C)), pw (w (C + j) - μ) * v (C + j) : ℝ) : EReal) := by
    rw [Finset.sum_congr rfl fun j _ => (by rw [he, hu, ← EReal.coe_mul, ite_mul, zero_mul] :
      Ideal.exp2 (t j - (μ : EReal)) * u j = ((if C + j.val ≤ r then pw (w (C + j.val) - μ) * v (C + j.val) else 0 : ℝ) : EReal)),
      coe_sum, sum_block hC fun j => pw (w j - μ) * v j]
  rw [hl, ha]
  refine Or.inr ⟨μ, rfl, ?_, ?_⟩
  · rw [Finset.sum_range_add]
    rcases H with ⟨h0, _, h, _⟩ | ⟨ν, hm, h, _⟩
    · subst h0; rw [h, mul_zero, zero_add, Finset.sum_range_zero, zero_add]
    · rw [h, hm, ← EReal.coe_sub, exp2_real, ← EReal.coe_mul, ← EReal.coe_add, Finset.mul_sum]
      congr 2
      refine Finset.sum_congr rfl fun j _ => ?_
      rw [pw_add]; congr 1; ring
  · rw [Finset.sum_range_add]
    rcases H with ⟨h0, _, _, h⟩ | ⟨ν, hm, _, h⟩
    · subst h0; rw [h, mul_zero, zero_add, Finset.sum_range_zero, zero_add]
    · rw [h, hm, ← EReal.coe_sub, exp2_real, ← EReal.coe_mul, ← EReal.coe_add, Finset.mul_sum]
      congr 2
      refine Finset.sum_congr rfl fun j _ => ?_
      rw [← mul_assoc, pw_add]; congr 2; ring

/-- A key of the arguments, by its number. -/
abbrev key (j : ℕ) : Fin 4096 := Fin.ofNat 4096 j

theorem key_eq (j : Fin 4096) : key j.val = j := Fin.ext (Nat.mod_eq_of_lt j.isLt)

section
variable (x : Args) (h : Fin 4) (r : Fin 4096)

/-- The scores of a row over the log of two. -/
def sc (j : ℕ) : ℝ := x.score h r (key j) / Real.log 2
/-- A column of the values. -/
def vl (e : Fin 128) (j : ℕ) : ℝ := x.v (key j) h e

/-- A row's output, -/
def out (e : Fin 128) : ℝ := ∑ k, x.wt h r k * x.v k h e
/-- and the base-two log of its sum of exponentials. -/
def lse : ℝ := Real.log (x.sm 0 h r) / Real.log 2

theorem pw_sc (μ : ℝ) (j : ℕ) : pw (sc x h r j - μ) = Real.exp (x.score h r (key j) - μ * Real.log 2) := by
  have hl : Real.log 2 ≠ 0 := (Real.log_pos (by norm_num)).ne'
  rw [pw, Real.rpow_def_of_pos two_pos, sc]
  congr 1
  field_simp

theorem sum_row (μ : ℝ) (f : Fin 4096 → ℝ) :
    ∑ j ∈ Finset.range (r.val + 1), pw (sc x h r j - μ) * f (key j) = ∑ k, x.ex (μ * Real.log 2) h r k * f k := by
  have hr := r.isLt
  have h1 := sum_block (B := 4096) (C := 0) (r := r.val) (Nat.zero_le _) fun j => pw (sc x h r j - μ) * f (key j)
  have h2 : min 4096 (r.val + 1 - 0) = r.val + 1 := by omega
  rw [h2] at h1
  simp only [Nat.zero_add] at h1
  rw [← h1]
  refine Finset.sum_congr rfl fun k _ => ?_
  rw [Args.ex, pw_sc, key_eq]
  split
  · rfl
  · rw [zero_mul]

/-- A row that has seen its last key holds its output and its log-sum. -/
theorem Row.out {e : Fin 128} {m l a : EReal} (H : Row (sc x h r) (vl x h e) (r.val + 1) m l a) :
    Ideal.div a l = (out x h r e : EReal) ∧ m + Ideal.log l * (((Real.log 2)⁻¹ : ℝ) : EReal) = (lse x h r : EReal) := by
  rcases H with ⟨h0, _⟩ | ⟨μ, hm, hl, ha⟩
  · exact absurd h0 (Nat.succ_ne_zero _)
  have hL : Real.log 2 ≠ 0 := (Real.log_pos (by norm_num)).ne'
  have h1 := sum_row x h r μ fun _ => 1
  have h2 := sum_row x h r μ fun k => x.v k h e
  simp only [mul_one] at h1
  change _ = x.sm (μ * Real.log 2) h r at h1
  have ha' : a = ((∑ k, x.ex (μ * Real.log 2) h r k * x.v k h e : ℝ) : EReal) := by rw [ha, ← h2]; rfl
  rw [hm, hl, ha', h1]
  have hs := x.sm_pos h r (μ * Real.log 2)
  constructor
  · rw [div_real _ _ hs.ne', Finset.sum_div]
    congr 1
    refine Finset.sum_congr rfl fun k _ => ?_
    rw [← x.wt_shift h r k (μ * Real.log 2)]
    ring
  · rw [Ideal.log_coe, if_neg (not_le.mpr hs), ← EReal.coe_mul, ← EReal.coe_add, x.sm_shift,
      Real.log_mul (Real.exp_pos _).ne' (x.sm_pos h r 0).ne', Real.log_exp, lse]
    congr 1
    field_simp
    ring
end

end Cert.AttnFwd
-- ==== Proof.AttnFwdPoint.lean ====
module

public import proofs.«01_k».proof.Proof.Gen.Kernel12Ideal.Value
public import proofs.«01_k».proof.Proof.AttnFwdReal
public import Idealize.ShloMosaic.Lib.Pipeline.ValueKit
public import Idealize.ShloMosaic.Lib.Pointwise
public import Idealize.ShloMosaic.Lib.WordCmp

@[expose] public section

set_option maxRecDepth 16384

noncomputable section

namespace Cert.AttnFwd

open Idealize.ShloMosaic TcCoe Idealize.ShloMosaic.Tactic Idealize.SL.Sem
open Kernel12Ideal Kernel12Ideal.Gen
open scoped BigOperators

theorem low_f32 : Ideal.ofBits .f32 0xFF800000#32 = ⊥ := by simp [Ideal.ofBits, Ideal.ieee]

section
variable (K : FVec Ideal S1024x256 .bf16) (Q : FVec Ideal S512x256 .bf16) (V : FVec Ideal S1024x128 .bf16)
  (m l : FVec Ideal S512x1 .f32) (a : FVec Ideal S512x128 .f32) (r : Fin 512) (e : Fin 128) (j : Fin 1024)

theorem pay2_at : k0_pay2 (F := Ideal) K Q (ix2 r j) = ∑ d, Q (ix2 r d) * K (ix2 j d) := by
  pointwise [k0_pay2]

theorem pay3_at : k0_pay3 (F := Ideal) m K Q (ix2 r 0) = max (m (ix2 r 0)) (Finset.fold max ⊥ (fun j => k0_pay2 (F := Ideal) K Q (ix2 r j)) Finset.univ) := by
  pointwise [k0_pay3]
  rw [low_f32]

theorem pay4_at : k0_pay4 (F := Ideal) m K Q (ix2 r j) = Ideal.exp2 (k0_pay2 (F := Ideal) K Q (ix2 r j) - k0_pay3 (F := Ideal) m K Q (ix2 r 0)) := by
  pointwise [k0_pay4]
  rfl

theorem pay6_at : k0_pay6 (F := Ideal) m l K Q (ix2 r 0)
    = Ideal.exp2 (m (ix2 r 0) - k0_pay3 (F := Ideal) m K Q (ix2 r 0)) * l (ix2 r 0) + ∑ j, k0_pay4 (F := Ideal) m K Q (ix2 r j) := by
  pointwise [k0_pay6, k0_pay5]
  rfl

theorem pay7_at : k0_pay7 (F := Ideal) m a K V Q (ix2 r e)
    = Ideal.exp2 (m (ix2 r 0) - k0_pay3 (F := Ideal) m K Q (ix2 r 0)) * a (ix2 r e) + ∑ j, k0_pay4 (F := Ideal) m K Q (ix2 r j) * V (ix2 j e) := by
  pointwise [k0_pay7, k0_pay5]
  rfl

theorem pay10_eq : k0_pay10 (F := Ideal) m K Q = k0_pay3 (F := Ideal) m K Q := rfl
theorem pay31_eq : k0_pay31 (F := Ideal) l (k0_pay11 (F := Ideal) m K Q) (k0_pay12 (F := Ideal) m K Q) = k0_pay6 (F := Ideal) m l K Q := rfl
theorem pay32_eq : k0_pay32 (F := Ideal) a (k0_pay8 (F := Ideal) V) (k0_pay11 (F := Ideal) m K Q) (k0_pay12 (F := Ideal) m K Q) = k0_pay7 (F := Ideal) m a K V Q := rfl
end

theorem pay24_at (r : Fin 512) : k0_pay24 (F := Ideal) (ix2 r 0) = ⊥ := by
  pointwise [k0_pay24]
  rfl
theorem pay25_at (r : Fin 512) : k0_pay25 (F := Ideal) (ix2 r 0) = 0 := by
  pointwise [k0_pay25]
theorem pay26_at (r : Fin 512) (e : Fin 128) : k0_pay26 (F := Ideal) (ix2 r e) = 0 := by
  pointwise [k0_pay26]

theorem pay27_at (r : Fin 512) : k0_pay27 (F := Ideal) (ix2 r 0) = ⊥ := pay24_at r
theorem pay28_at (r : Fin 512) : k0_pay28 (F := Ideal) (ix2 r 0) = 0 := pay25_at r
theorem pay29_at (r : Fin 512) (e : Fin 128) : k0_pay29 (F := Ideal) (ix2 r e) = 0 := pay26_at r e

/-- A comparison of a key's and a row's number as words. -/
theorem sel_key {c x j : ℕ} (o : ℕ) (hc : c < 4) (hx : x < 1024) (hj : j < 1024) (ho : o < 1024) (a b : EReal) :
    Scalar.select (IntOp.cmpi CmpIPredicate.sle (IntOp.addi (BitVec.ofNat 32 (1024 * c)) (BitVec.ofNat 32 j))
      (IntOp.addi (Scalar.addi (Scalar.muli (BitVec.ofNat 32 c) 1024#32) (BitVec.ofNat 32 o)) (BitVec.ofNat 32 x))) a b
      = if 1024 * c + j ≤ 1024 * c + o + x then a else b := by
  have h1 : IntOp.addi (Scalar.addi (Scalar.muli (BitVec.ofNat 32 c) 1024#32) (BitVec.ofNat 32 o)) (BitVec.ofNat 32 x)
      = BitVec.ofNat 32 (1024 * c + o + x) := by
    show BitVec.ofNat 32 c * BitVec.ofNat 32 1024 + BitVec.ofNat 32 o + BitVec.ofNat 32 x = _
    rw [← BitVec.ofNat_mul, ← BitVec.ofNat_add, ← BitVec.ofNat_add, Nat.mul_comm]
  have h2 : IntOp.addi (BitVec.ofNat 32 (1024 * c)) (BitVec.ofNat 32 j) = BitVec.ofNat 32 (1024 * c + j) := by
    show BitVec.ofNat 32 (1024 * c) + BitVec.ofNat 32 j = _
    rw [← BitVec.ofNat_add]
  rw [h1, h2]
  word_cmp

section
variable (c : ℕ) (hc : c < 4) (K : FVec Ideal S512x256 .bf16) (Q : FVec Ideal S512x256 .bf16) (V : FVec Ideal S512x128 .bf16)
  (m l : FVec Ideal S512x1 .f32) (a : FVec Ideal S512x128 .f32) (r : Fin 512) (e : Fin 128) (j : Fin 512)

/-- The masked scores of the first 512 rows, -/
abbrev s0 : FVec Ideal S512x512 .f32 := k0_pay37 (F := Ideal) (BitVec.ofNat 32 c) (BitVec.ofNat 32 (1024 * c)) (k0_pay36 (F := Ideal) K) Q
/-- and their greatest so far. -/
abbrev m0 : FVec Ideal S512x1 .f32 := k0_pay38 (F := Ideal) (BitVec.ofNat 32 c) m (BitVec.ofNat 32 (1024 * c)) (k0_pay36 (F := Ideal) K) Q

include hc in
theorem pay37_at : k0_pay37 (F := Ideal) (BitVec.ofNat 32 c) (BitVec.ofNat 32 (1024 * c)) (k0_pay36 (F := Ideal) K) Q (ix2 r j)
    = if 1024 * c + j.val ≤ 1024 * c + 0 + r.val then ∑ d, Q (ix2 r d) * K (ix2 j d) else ⊥ := by
  pointwise [k0_pay37, k0_pay36]
  have hb : Named.named (F := Ideal) κ "mask" (φ := .f32) 0xF149F2CA#32 = (⊥ : EReal) := rfl
  rw [hb]
  exact sel_key 0 hc (by omega) (by omega) (by omega) _ _

theorem pay38_at : k0_pay38 (F := Ideal) (BitVec.ofNat 32 c) m (BitVec.ofNat 32 (1024 * c)) (k0_pay36 (F := Ideal) K) Q (ix2 r 0)
    = max (m (ix2 r 0)) (Finset.fold max ⊥ (fun j => s0 c K Q (ix2 r j)) Finset.univ) := by
  pointwise [k0_pay38]
  rw [low_f32]

theorem pay39_at : k0_pay39 (F := Ideal) (BitVec.ofNat 32 c) m (BitVec.ofNat 32 (1024 * c)) (k0_pay36 (F := Ideal) K) Q (ix2 r j)
    = Ideal.exp2 (s0 c K Q (ix2 r j) - m0 c K Q m (ix2 r 0)) := by
  pointwise [k0_pay39]
  rfl

theorem pay41_at : k0_pay41 (F := Ideal) (BitVec.ofNat 32 c) m l (BitVec.ofNat 32 (1024 * c)) (k0_pay36 (F := Ideal) K) Q (ix2 r 0)
    = Ideal.exp2 (m (ix2 r 0) - m0 c K Q m (ix2 r 0)) * l (ix2 r 0)
      + ∑ j, k0_pay39 (F := Ideal) (BitVec.ofNat 32 c) m (BitVec.ofNat 32 (1024 * c)) (k0_pay36 (F := Ideal) K) Q (ix2 r j) := by
  pointwise [k0_pay41, k0_pay40]
  rfl

theorem pay42_at : k0_pay42 (F := Ideal) (BitVec.ofNat 32 c) m a (BitVec.ofNat 32 (1024 * c)) (k0_pay36 (F := Ideal) K) V Q (ix2 r e)
    = Ideal.exp2 (m (ix2 r 0) - m0 c K Q m (ix2 r 0)) * a (ix2 r e)
      + ∑ j, k0_pay39 (F := Ideal) (BitVec.ofNat 32 c) m (BitVec.ofNat 32 (1024 * c)) (k0_pay36 (F := Ideal) K) Q (ix2 r j) * V (ix2 j e) := by
  pointwise [k0_pay42, k0_pay40]
  rfl
end

theorem pay50_at (l : FVec Ideal S512x1 .f32) (a : FVec Ideal S512x128 .f32) (r : Fin 512) (e : Fin 128) :
    k0_pay50 (F := Ideal) l a (ix2 r e) = Ideal.div (a (ix2 r e)) (l (ix2 r 0)) := by
  pointwise [k0_pay50]

theorem inv_ln2 : Named.named (F := Ideal) κ "inv_ln2" (φ := .f32) 0x3FB8AA3B#32 = (((Real.log 2)⁻¹ : ℝ) : EReal) := rfl

theorem pay51_at (m l : FVec Ideal S512x1 .f32) (r : Fin 512) (e : Fin 128) :
    k0_pay51 (F := Ideal) m l (ix2 r e) = m (ix2 r 0) + Ideal.log (l (ix2 r 0)) * (((Real.log 2)⁻¹ : ℝ) : EReal) := by
  pointwise [k0_pay51]
  rw [inv_ln2]

section
variable (c : ℕ) (hc : c < 4) (K : FVec Ideal S1024x256 .bf16) (Q : FVec Ideal S512x256 .bf16) (V : FVec Ideal S1024x128 .bf16)
  (s : FVec Ideal S512x1024 .f32)
  (m l : FVec Ideal S512x1 .f32) (a : FVec Ideal S512x128 .f32) (r : Fin 512) (e : Fin 128) (j : Fin 1024)

theorem pay44_at : k0_pay44 (F := Ideal) K Q (ix2 r j) = ∑ d, Q (ix2 r d) * K (ix2 j d) := by
  pointwise [k0_pay44]

/-- The masked scores of the last 512 rows, -/
abbrev s1 : FVec Ideal S512x1024 .f32 := k0_pay45 (F := Ideal) (BitVec.ofNat 32 (1024 * c)) s (Scalar.muli (BitVec.ofNat 32 c) 1024#32)
/-- and their greatest so far. -/
abbrev m1 : FVec Ideal S512x1 .f32 := k0_pay46 (F := Ideal) m (BitVec.ofNat 32 (1024 * c)) s (Scalar.muli (BitVec.ofNat 32 c) 1024#32)

include hc in
theorem pay45_at : k0_pay45 (F := Ideal) (BitVec.ofNat 32 (1024 * c)) s (Scalar.muli (BitVec.ofNat 32 c) 1024#32) (ix2 r j)
    = if 1024 * c + j.val ≤ 1024 * c + 512 + r.val then s (ix2 r j) else ⊥ := by
  pointwise [k0_pay45]
  have hb : Named.named (F := Ideal) κ "mask" (φ := .f32) 0xF149F2CA#32 = (⊥ : EReal) := rfl
  rw [hb]
  exact sel_key 512 hc (by omega) (by omega) (by omega) _ _

theorem pay46_at : k0_pay46 (F := Ideal) m (BitVec.ofNat 32 (1024 * c)) s (Scalar.muli (BitVec.ofNat 32 c) 1024#32) (ix2 r 0)
    = max (m (ix2 r 0)) (Finset.fold max ⊥ (fun j => s1 c s (ix2 r j)) Finset.univ) := by
  pointwise [k0_pay46]
  rw [low_f32]

theorem pay47_at : k0_pay47 (F := Ideal) m (BitVec.ofNat 32 (1024 * c)) s (Scalar.muli (BitVec.ofNat 32 c) 1024#32) (ix2 r j)
    = Ideal.exp2 (s1 c s (ix2 r j) - m1 c s m (ix2 r 0)) := by
  pointwise [k0_pay47]
  rfl

theorem pay49_at : k0_pay49 (F := Ideal) m l (BitVec.ofNat 32 (1024 * c)) s (Scalar.muli (BitVec.ofNat 32 c) 1024#32) (ix2 r 0)
    = Ideal.exp2 (m (ix2 r 0) - m1 c s m (ix2 r 0)) * l (ix2 r 0)
      + ∑ j, k0_pay47 (F := Ideal) m (BitVec.ofNat 32 (1024 * c)) s (Scalar.muli (BitVec.ofNat 32 c) 1024#32) (ix2 r j) := by
  pointwise [k0_pay49, k0_pay48]
  rfl

theorem pay52_at : k0_pay52 (F := Ideal) m l a (BitVec.ofNat 32 (1024 * c)) (k0_pay43 (F := Ideal) V) s (Scalar.muli (BitVec.ofNat 32 c) 1024#32) (ix2 r e)
    = Ideal.div (Ideal.exp2 (m (ix2 r 0) - m1 c s m (ix2 r 0)) * a (ix2 r e)
      + ∑ j, k0_pay47 (F := Ideal) m (BitVec.ofNat 32 (1024 * c)) s (Scalar.muli (BitVec.ofNat 32 c) 1024#32) (ix2 r j) * V (ix2 j e))
      (k0_pay49 (F := Ideal) m l (BitVec.ofNat 32 (1024 * c)) s (Scalar.muli (BitVec.ofNat 32 c) 1024#32) (ix2 r 0)) := by
  pointwise [k0_pay52, k0_pay48, k0_pay43]
  rfl

theorem pay53_at : k0_pay1 (F := Ideal) (k0_pay53 (F := Ideal) m l (BitVec.ofNat 32 (1024 * c)) s (Scalar.muli (BitVec.ofNat 32 c) 1024#32)) (ix2 r e)
    = m1 c s m (ix2 r 0)
      + Ideal.log (k0_pay49 (F := Ideal) m l (BitVec.ofNat 32 (1024 * c)) s (Scalar.muli (BitVec.ofNat 32 c) 1024#32) (ix2 r 0))
        * (((Real.log 2)⁻¹ : ℝ) : EReal) := by
  pointwise [k0_pay53, k0_pay1]
  rw [inv_ln2]
end

end Cert.AttnFwd
-- ==== Proof.AttnFwdRun.lean ====
/- The loop over the key blocks below the diagonal: what it carries for each row. -/
module

public import proofs.«01_k».proof.Proof.AttnFwdPoint

@[expose] public section

set_option maxRecDepth 16384

noncomputable section

namespace Cert.AttnFwd

open Idealize.ShloMosaic TcCoe Idealize.ShloMosaic.Tactic Idealize.SL.Sem
open Kernel12Ideal Kernel12Ideal.Gen
open scoped BigOperators

theorem trips_eq (i : grid0.Coords) : (k0_t1_loop i).trips = (i 1).val := by
  have h : (i 1).val < 4 := (i 1).isLt
  unfold k0_t1_loop
  generalize (i 1).val = a at h
  revert a
  decide +kernel

theorem trips2_eq (i : grid0.Coords) : (k0_t2_loop i).trips = 0 := by
  have h : (i 1).val < 4 := (i 1).isLt
  unfold k0_t2_loop
  generalize (i 1).val = a at h
  revert a
  decide +kernel

theorem trip_lt (i : grid0.Coords) (k : Fin (k0_t1_loop i).trips) : k.val < 3 := by
  have h : (i 1).val < 4 := (i 1).isLt
  have hk := lt_of_lt_of_eq k.isLt (trips_eq i)
  omega

theorem off1_eq (i : grid0.Coords) (k : Fin (k0_t1_loop i).trips) : k0_off1 i k = ![1024 * k.val, 0] := by
  have hk := trip_lt i k
  unfold k0_off1
  generalize k.val = a at hk
  revert a
  decide +kernel

theorem off2_eq (i : grid0.Coords) (k : Fin (k0_t1_loop i).trips) : k0_off2 i k = ![1024 * k.val, 0] := by
  have hk := trip_lt i k
  unfold k0_off2
  generalize k.val = a at hk
  revert a
  decide +kernel

theorem off5_eq (i : grid0.Coords) : k0_off5 i = ![1024 * (i 1).val, 0] := by
  have h : (i 1).val < 4 := (i 1).isLt
  unfold k0_off5
  generalize (i 1).val = a at h
  revert a
  decide +kernel

theorem off6_eq (i : grid0.Coords) : k0_off6 i = ![1024 * (i 1).val, 0] := by
  have h : (i 1).val < 4 := (i 1).isLt
  unfold k0_off6
  generalize (i 1).val = a at h
  revert a
  decide +kernel

theorem off7_eq (i : grid0.Coords) : k0_off7 i = ![1024 * (i 1).val, 0] := by
  have h : (i 1).val < 4 := (i 1).isLt
  unfold k0_off7
  generalize (i 1).val = a at h
  revert a
  decide +kernel

theorem off8_eq (i : grid0.Coords) : k0_off8 i = ![1024 * (i 1).val, 0] := by
  have h : (i 1).val < 4 := (i 1).isLt
  unfold k0_off8
  generalize (i 1).val = a at h
  revert a
  decide +kernel

/-- Rows of an array from a row on. -/
theorem ld_rows {N M B : ℕ} {φ : EltTy} (X : Vec Ideal ⟨2, ![N, M]⟩ φ) {off : Fin 2 → ℕ} {R : ℕ} (ho : off = ![R, 0])
    (h : ∀ a, off a + (![B, M] : Fin 2 → ℕ) a ≤ (⟨2, ![N, M]⟩ : Shape).size a) (j : Fin B) (d : Fin M) (hj : R + j.val < N) :
    View.ld (Val := Elt Ideal) X (Rect.unit (s := ⟨2, ![N, M]⟩) off ![B, M] h) (ix2 j d) = X (ix2 ⟨R + j.val, hj⟩ d) := by
  subst ho
  exact congrArg X (by idx_ext)

/-- What the loop carries: for each half of the rows the greatest score, the sum and the weighted values. -/
abbrev St : Type := FVec Ideal S512x1 .f32 × FVec Ideal S512x1 .f32 × FVec Ideal S512x128 .f32 × FVec Ideal S512x1 .f32 × FVec Ideal S512x1 .f32 × FVec Ideal S512x128 .f32

/-- A row of the first half of a tile, -/
abbrev up (r : Fin 512) : Fin 1024 := ⟨0 + r.val, by omega⟩
/-- and of the last. -/
abbrev dn (r : Fin 512) : Fin 1024 := ⟨512 + r.val, by omega⟩

/-- The rows' sums over the first `n` keys. -/
def Inv (w : Fin 1024 → ℕ → ℝ) (v : Fin 128 → ℕ → ℝ) (n : ℕ) (s : St) : Prop :=
  ∀ (r : Fin 512) (e : Fin 128), Row (w (up r)) (v e) n (s.1 (ix2 r 0)) (s.2.1 (ix2 r 0)) (s.2.2.1 (ix2 r e))
    ∧ Row (w (dn r)) (v e) n (s.2.2.2.1 (ix2 r 0)) (s.2.2.2.2.1 (ix2 r 0)) (s.2.2.2.2.2 (ix2 r e))

theorem inv_init (w : Fin 1024 → ℕ → ℝ) (v : Fin 128 → ℕ → ℝ) :
    Inv w v 0 (k0_pay24 (F := Ideal), k0_pay25 (F := Ideal), k0_pay26 (F := Ideal), k0_pay27 (F := Ideal), k0_pay28 (F := Ideal), k0_pay29 (F := Ideal)) :=
  fun r e => ⟨Or.inl ⟨rfl, pay24_at r, pay25_at r, pay26_at r e⟩, Or.inl ⟨rfl, pay27_at r, pay28_at r, pay29_at r e⟩⟩

/-- One block of 1024 keys, all seen, for 512 rows. -/
theorem half_step {w v : ℕ → ℝ} {C : ℕ} (K : FVec Ideal S1024x256 .bf16) (Q : FVec Ideal S512x256 .bf16) (V : FVec Ideal S1024x128 .bf16)
    (m l : FVec Ideal S512x1 .f32) (a : FVec Ideal S512x128 .f32) (r : Fin 512) (e : Fin 128)
    (hs : ∀ j : Fin 1024, ∑ d, Q (ix2 r d) * K (ix2 j d) = (w (C + j.val) : EReal)) (hv : ∀ j : Fin 1024, V (ix2 j e) = (v (C + j.val) : EReal))
    (H : Row w v C (m (ix2 r 0)) (l (ix2 r 0)) (a (ix2 r e))) :
    Row w v (C + 1024) (k0_pay3 (F := Ideal) m K Q (ix2 r 0)) (k0_pay6 (F := Ideal) m l K Q (ix2 r 0)) (k0_pay7 (F := Ideal) m a K V Q (ix2 r e)) := by
  have h := H.step (B := 1024) (r := C + 1023) (by omega) (by omega) (t := fun j => k0_pay2 (F := Ideal) K Q (ix2 r j)) (u := fun j => V (ix2 j e))
    (fun j => by rw [if_pos (by omega), pay2_at]; exact hs j) hv
  have hn : C + min 1024 (C + 1023 + 1 - C) = C + 1024 := by omega
  rw [hn] at h
  rw [pay6_at, pay7_at]
  simp only [pay4_at, pay3_at]
  exact h

/-- One trip. -/
def trip (Q0 Q1 : FVec Ideal S512x256 .bf16) (K : FVec Ideal S1024x256 .bf16) (V : FVec Ideal S1024x128 .bf16) (s : St) : St :=
  (k0_pay3 (F := Ideal) s.1 K Q0, k0_pay6 (F := Ideal) s.1 s.2.1 K Q0, k0_pay7 (F := Ideal) s.1 s.2.2.1 K V Q0,
   k0_pay3 (F := Ideal) s.2.2.2.1 K Q1, k0_pay6 (F := Ideal) s.2.2.2.1 s.2.2.2.2.1 K Q1, k0_pay7 (F := Ideal) s.2.2.2.1 s.2.2.2.2.2 K V Q1)

section
variable (𝒱 : Variants) (c : Dev nD) (bd : Option 𝒱.V) (i : grid0.Coords) (arg2 : Memref sig .tc .vmem S1024x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .f32) (harg6 : arg6.IsWhole)
  (q : Vec Ideal S1024x256 .bf16) (kk : Vec Ideal S4096x256 .bf16) (vv : Vec Ideal S4096x128 .bf16)

theorem tripR_eq (k : Fin (k0_t1_loop i).trips) (s : St) :
    tripR_k0_t1 (F := Ideal) 𝒱 c bd i arg2 harg2 arg3 harg3 arg4 harg4 arg5 harg5 arg6 harg6 (harg2.unread q) (harg3.unread kk) (harg4.unread vv) k s
      = trip (View.ld (Val := Elt Ideal) q (Rect.unit (s := S1024x256) ![0, 0] S512x256.size inb_S1024x256_S512x256_0_0)) (View.ld (Val := Elt Ideal) q (Rect.unit (s := S1024x256) ![512, 0] S512x256.size inb_S1024x256_S512x256_512_0))
          (View.ld (Val := Elt Ideal) kk (Rect.unit (s := S4096x256) (k0_off1 i k) S1024x256.size (k0_off1_inb i k))) (View.ld (Val := Elt Ideal) vv (Rect.unit (s := S4096x128) (k0_off2 i k) S1024x128.size (k0_off2_inb i k))) s := by
  have e : tripR_k0_t1 (F := Ideal) 𝒱 c bd i arg2 harg2 arg3 harg3 arg4 harg4 arg5 harg5 arg6 harg6 (harg2.unread q) (harg3.unread kk) (harg4.unread vv) k s
      = trip (View.readAt (Elt Ideal) arg2.view (Rect.unit (s := S1024x256) ![0, 0] S512x256.size inb_S1024x256_S512x256_0_0).toLoadRect (harg2.unread q))
          (View.readAt (Elt Ideal) arg2.view (Rect.unit (s := S1024x256) ![512, 0] S512x256.size inb_S1024x256_S512x256_512_0).toLoadRect (harg2.unread q))
          (View.readAt (Elt Ideal) arg3.view (Rect.unit (s := S4096x256) (k0_off1 i k) S1024x256.size (k0_off1_inb i k)).toLoadRect (harg3.unread kk))
          (View.readAt (Elt Ideal) arg4.view (Rect.unit (s := S4096x128) (k0_off2 i k) S1024x128.size (k0_off2_inb i k)).toLoadRect (harg4.unread vv)) s := by
    unfold tripR_k0_t1 trip_k0_t1
    rfl
  rw [e, View.readAt_eq_ld, View.readAt_eq_ld, View.readAt_eq_ld, View.readAt_eq_ld, harg2.read_unread, harg3.read_unread, harg4.read_unread]

variable {w : Fin 1024 → ℕ → ℝ} {v : Fin 128 → ℕ → ℝ}
  (hs : ∀ (r : Fin 1024) (j : Fin 4096), ∑ d, q (ix2 r d) * kk (ix2 j d) = (w r j.val : EReal))
  (hv : ∀ (j : Fin 4096) (e : Fin 128), vv (ix2 j e) = (v e j.val : EReal))

include hs hv in
theorem loop_inv (s : St) (H : Inv w v 0 s) : ∀ k, k ≤ (k0_t1_loop i).trips →
    Inv w v (1024 * k) (st_k0_t1 (F := Ideal) 𝒱 c bd i arg2 harg2 arg3 harg3 arg4 harg4 arg5 harg5 arg6 harg6 (harg2.unread q) (harg3.unread kk) (harg4.unread vv) s k) := by
  intro k
  induction k with
  | zero => intro _; rw [st_k0_t1_zero]; exact H
  | succ k ih =>
    intro hk
    have hI := ih (by omega)
    have hk3 := trip_lt i ⟨k, hk⟩
    have hk3' : k < 3 := hk3
    rw [show st_k0_t1 (F := Ideal) 𝒱 c bd i arg2 harg2 arg3 harg3 arg4 harg4 arg5 harg5 arg6 harg6 (harg2.unread q) (harg3.unread kk) (harg4.unread vv) s (k + 1) = _
      from st_k0_t1_succ 𝒱 c bd i arg2 harg2 arg3 harg3 arg4 harg4 arg5 harg5 arg6 harg6 (harg2.unread q) (harg3.unread kk) (harg4.unread vv) s ⟨k, hk⟩, tripR_eq]
    intro r e
    obtain ⟨h0, h1⟩ := hI r e
    have hK : ∀ (j : Fin 1024) (d : Fin 256), View.ld (Val := Elt Ideal) kk (Rect.unit (k0_off1 i ⟨k, hk⟩) ![1024, 256] (k0_off1_inb i ⟨k, hk⟩)) (ix2 j d) = kk (ix2 ⟨1024 * k + j.val, by omega⟩ d) :=
      fun j d => ld_rows kk (off1_eq i ⟨k, hk⟩) _ j d _
    have hV : ∀ (j : Fin 1024), View.ld (Val := Elt Ideal) vv (Rect.unit (k0_off2 i ⟨k, hk⟩) ![1024, 128] (k0_off2_inb i ⟨k, hk⟩)) (ix2 j e) = (v e (1024 * k + j.val) : EReal) :=
      fun j => (ld_rows vv (off2_eq i ⟨k, hk⟩) _ j e (by show 1024 * k + j.val < 4096; omega)).trans (hv _ e)
    rw [Nat.mul_succ]
    refine ⟨half_step _ _ _ _ _ _ r e (fun j => ?_) hV h0, half_step _ _ _ _ _ _ r e (fun j => ?_) hV h1⟩
    · rw [← hs (up r) ⟨1024 * k + j.val, by omega⟩]
      exact Finset.sum_congr rfl fun d _ => congrArg₂ (· * ·) (ld_rows q rfl _ r d _) (hK j d)
    · rw [← hs (dn r) ⟨1024 * k + j.val, by omega⟩]
      exact Finset.sum_congr rfl fun d _ => congrArg₂ (· * ·) (ld_rows q rfl _ r d _) (hK j d)
end

/-- The block on the diagonal closes the first 512 rows of a tile, -/
theorem close_up {x : Attn.Args} {h : Fin 4} {c : ℕ} (hc : c < 4) (K Q : FVec Ideal S512x256 .bf16) (V : FVec Ideal S512x128 .bf16)
    (m l : FVec Ideal S512x1 .f32) (a : FVec Ideal S512x128 .f32) (r : Fin 512) (e : Fin 128) (R : Fin 4096) (hR : R.val = 1024 * c + r.val)
    (hs : ∀ j : Fin 512, ∑ d, Q (ix2 r d) * K (ix2 j d) = (sc x h R (1024 * c + j.val) : EReal))
    (hv : ∀ j : Fin 512, V (ix2 j e) = (vl x h e (1024 * c + j.val) : EReal))
    (H : Row (sc x h R) (vl x h e) (1024 * c) (m (ix2 r 0)) (l (ix2 r 0)) (a (ix2 r e))) :
    k0_pay50 (F := Ideal) (k0_pay41 (F := Ideal) (BitVec.ofNat 32 c) m l (BitVec.ofNat 32 (1024 * c)) (k0_pay36 (F := Ideal) K) Q)
      (k0_pay42 (F := Ideal) (BitVec.ofNat 32 c) m a (BitVec.ofNat 32 (1024 * c)) (k0_pay36 (F := Ideal) K) V Q) (ix2 r e) = (out x h R e : EReal)
    ∧ k0_pay51 (F := Ideal) (k0_pay38 (F := Ideal) (BitVec.ofNat 32 c) m (BitVec.ofNat 32 (1024 * c)) (k0_pay36 (F := Ideal) K) Q)
      (k0_pay41 (F := Ideal) (BitVec.ofNat 32 c) m l (BitVec.ofNat 32 (1024 * c)) (k0_pay36 (F := Ideal) K) Q) (ix2 r e) = (lse x h R : EReal) := by
  have g := H.step (B := 512) (r := R.val) (by omega) (by omega) (t := fun j => s0 c K Q (ix2 r j)) (u := fun j => V (ix2 j e))
    (fun j => by
      show k0_pay37 (F := Ideal) _ _ _ _ _ = _
      rw [pay37_at c hc, hs, hR]
      simp only [Nat.add_zero]) hv
  have hn : 1024 * c + min 512 (R.val + 1 - 1024 * c) = R.val + 1 := by omega
  rw [hn] at g
  rw [pay50_at, pay51_at, pay41_at, pay42_at]
  simp only [pay39_at, pay38_at]
  exact g.out x h R

/-- and the last. -/
theorem close_dn {x : Attn.Args} {h : Fin 4} {c : ℕ} (hc : c < 4) (K : FVec Ideal S1024x256 .bf16) (Q : FVec Ideal S512x256 .bf16) (V : FVec Ideal S1024x128 .bf16)
    (m l : FVec Ideal S512x1 .f32) (a : FVec Ideal S512x128 .f32) (r : Fin 512) (e : Fin 128) (R : Fin 4096) (hR : R.val = 1024 * c + 512 + r.val)
    (hs : ∀ j : Fin 1024, ∑ d, Q (ix2 r d) * K (ix2 j d) = (sc x h R (1024 * c + j.val) : EReal))
    (hv : ∀ j : Fin 1024, V (ix2 j e) = (vl x h e (1024 * c + j.val) : EReal))
    (H : Row (sc x h R) (vl x h e) (1024 * c) (m (ix2 r 0)) (l (ix2 r 0)) (a (ix2 r e))) :
    k0_pay52 (F := Ideal) m l a (BitVec.ofNat 32 (1024 * c)) (k0_pay43 (F := Ideal) V) (k0_pay44 (F := Ideal) K Q) (Scalar.muli (BitVec.ofNat 32 c) 1024#32) (ix2 r e)
      = (out x h R e : EReal)
    ∧ k0_pay1 (F := Ideal) (k0_pay53 (F := Ideal) m l (BitVec.ofNat 32 (1024 * c)) (k0_pay44 (F := Ideal) K Q) (Scalar.muli (BitVec.ofNat 32 c) 1024#32)) (ix2 r e)
      = (lse x h R : EReal) := by
  have g := H.step (B := 1024) (r := R.val) (by omega) (by omega) (t := fun j => s1 c (k0_pay44 (F := Ideal) K Q) (ix2 r j)) (u := fun j => V (ix2 j e))
    (fun j => by
      show k0_pay45 (F := Ideal) _ _ _ _ = _
      rw [pay45_at c hc, pay44_at, hs, hR]) hv
  have hn : 1024 * c + min 1024 (R.val + 1 - 1024 * c) = R.val + 1 := by omega
  rw [hn] at g
  rw [pay52_at, pay53_at, pay49_at]
  simp only [pay47_at, pay46_at]
  exact g.out x h R

end Cert.AttnFwd
-- ==== Proof.AttnFwdNum.lean ====
/- The forward attention's two sides at numbers: the packed arrays the kernel is launched with, and the reference's lines. -/
module

public import proofs.«01_k».proof.Proof.AttnFwdRef
public import proofs.«01_k».proof.Proof.AttnFwdRun
public import proofs.«01_k».proof.Proof.AttnNumK
public import proofs.«01_k».proof.Proof.AttnNumR

@[expose] public section

set_option maxRecDepth 16384

noncomputable section

namespace Cert.Reference12Ideal.Fwd

open Idealize.ShloMosaic TcCoe Idealize.ShloMosaic.Tactic
open Idealize.SL.Sem
open Cert.Reference12Ideal Cert.Reference12Ideal.Gen Cert.Attn
open Cert.KernelIdeal.Attn (col vcol cast_col cast_vcol)
open scoped BigOperators

section
variable (a0 : FVec Ideal S1x4096x4x128 .f32) (a1 : FVec Ideal S1x4096x4x64 .f32) (a2 : FVec Ideal S1x4096x4x128 .f32) (a3 : FVec Ideal S1x4096x64 .f32) (a4 : FVec Ideal S1x4096x4x128 .f32)

theorem p_same : rv24 a0 a1 a2 a3 = Cert.ReferenceIdeal.Attn.rv38 a0 a1 a2 a3 := rfl
theorem s_same : rv13 a0 a1 a2 a3 = Cert.ReferenceIdeal.Attn.rv13_0 a0 a1 a2 a3 := rfl
theorem m_same : rv27 a0 a1 a2 a3 = Cert.ReferenceIdeal.Attn.rv14 a0 a1 a2 a3 := rfl
theorem log2_same : rv36 = Cert.KernelIdeal.Attn.kv0 := rfl

theorem rv26_at (r : Fin 4096) (h : Fin 4) (e : Fin 128) : rv26 a0 a1 a2 a3 a4 (ix4 0 r h e) = ∑ k, a4 (ix4 0 k h e) * rv24 a0 a1 a2 a3 (ix4 0 h r k) := by
  pointwise [rv26, rv25]

theorem rv31_at (r k : Fin 4096) (h : Fin 4) : rv31 a0 a1 a2 a3 (ix4 0 h r k) = Ideal.exp (rv13 a0 a1 a2 a3 (ix4 0 h r k) - rv27 a0 a1 a2 a3 (ix3 0 h r)) := by
  pointwise [rv31, rv30, rv29, rv28]

theorem rv32_at (r : Fin 4096) (h : Fin 4) : rv32 a0 a1 a2 a3 (ix3 0 h r) = ∑ k, rv31 a0 a1 a2 a3 (ix4 0 h r k) := by
  pointwise [rv32]

theorem log_sum_at (X Y : FVec Ideal S1x4x4096 .f32) (z : FVec Ideal S_ .f32) (r : Fin 4096) (h : Fin 4) (e : Fin 128) :
    broadcastInDim S1x4096x4x128 ![0, 1, 2, 3] bcast_S1x4096x4x1_S1x4096x4x128_0_1_2_3 (transpose S1x4096x4x1 [0, 2, 1, 3]
      (Host.divf (addf (broadcastInDim S1x4x4096x1 ![0, 1, 2] bcast_S1x4x4096_S1x4x4096x1_0_1_2 X)
        (Host.log (broadcastInDim S1x4x4096x1 ![0, 1, 2] bcast_S1x4x4096_S1x4x4096x1_0_1_2 Y)))
        (broadcastInDim S1x4x4096x1 ![] bcast_S_S1x4x4096x1 z)) transposes_S1x4x4096x1_S1x4096x4x1_0_2_1_3) (ix4 0 r h e)
      = Ideal.div (X (ix3 0 h r) + Ideal.log (Y (ix3 0 h r))) (z ix0) := by
  pointwise

theorem rv40_at (r : Fin 4096) (h : Fin 4) (e : Fin 128) : rv40 a0 a1 a2 a3 (ix4 0 r h e)
    = Ideal.div (rv27 a0 a1 a2 a3 (ix3 0 h r) + Ideal.log (rv32 a0 a1 a2 a3 (ix3 0 h r))) (rv36 ix0) := by
  unfold rv40 rv39 rv38 rv37 rv35 rv34 rv33 rv28
  exact log_sum_at _ _ _ r h e
end

variable {a0 : FVec Ideal S1x4096x4x128 .f32} {a1 : FVec Ideal S1x4096x4x64 .f32} {a2 : FVec Ideal S1x4096x4x128 .f32} {a3 : FVec Ideal S1x4096x64 .f32}
  {a4 : FVec Ideal S1x4096x4x128 .f32} {x : Args} (H : Holds a0 a1 a2 a3 a4 a4 x)
include H

theorem out_num (r : Fin 4096) (h : Fin 4) (e : Fin 128) : rv41 a0 a1 a2 a3 a4 (ix2 r (vcol h e)) = (Cert.AttnFwd.out x h r e : EReal) := by
  refine (cast_vcol (rv26 a0 a1 a2 a3 a4) r h e).trans ?_
  rw [rv26_at, p_same]
  simp only [Cert.ReferenceIdeal.Attn.p_num H, H.v, ← EReal.coe_mul, coe_sum]
  refine congrArg Real.toEReal ?_
  exact Finset.sum_congr rfl fun k _ => mul_comm _ _

theorem lse_num (r : Fin 4096) (h : Fin 4) (e : Fin 128) : rv42 a0 a1 a2 a3 (ix2 r (vcol h e)) = (Cert.AttnFwd.lse x h r : EReal) := by
  refine (cast_vcol (rv40 a0 a1 a2 a3) r h e).trans ?_
  obtain ⟨M, hM⟩ := Cert.ReferenceIdeal.Attn.max_num H r h
  have h27 : rv27 a0 a1 a2 a3 (ix3 0 h r) = M := by
    rw [m_same, ← hM, Cert.ReferenceIdeal.Attn.rv21_at]
    exact (max_eq_right bot_le).symm
  have h32 : rv32 a0 a1 a2 a3 (ix3 0 h r) = (x.sm M h r : EReal) := by
    rw [rv32_at, ← Cert.ReferenceIdeal.Attn.l_num H hM, Cert.ReferenceIdeal.Attn.rv35_at]
    refine Finset.sum_congr rfl fun k _ => ?_
    rw [rv31_at, Cert.ReferenceIdeal.Attn.rv34_at, h27, hM, s_same]
  have hs := x.sm_pos h r
  rw [rv40_at, h27, h32, log2_same, Cert.KernelIdeal.Attn.kv0_at, Ideal.log_coe, if_neg (not_le.mpr (hs M)), ← EReal.coe_add,
    div_real _ _ Cert.KernelIdeal.Attn.log2_ne, x.sm_shift, Real.log_mul (Real.exp_pos _).ne' (hs 0).ne', Real.log_exp, Cert.AttnFwd.lse]
  exact congrArg Real.toEReal (by rw [← add_assoc, add_neg_cancel, zero_add])

end Cert.Reference12Ideal.Fwd

namespace Cert.AttnFwd

open Idealize.ShloMosaic TcCoe Idealize.ShloMosaic.Tactic
open Idealize.SL.Sem
open Cert.Kernel12Ideal Cert.Kernel12Ideal.Gen Cert.Attn
open Cert.KernelIdeal.Attn (col vcol cast_col cast_vcol kv49 kv50 kv52)
open scoped BigOperators

variable (m : (ℓ : Loc nD τ sig) → Buf (Elt Ideal) ℓ) (c : Dev nD)

abbrev A0 : FVec Ideal Cert.KernelIdeal.S1x4096x4x128 .f32 := m ((c : Thread nD τ).loc main_arg0)
abbrev A1 : FVec Ideal Cert.KernelIdeal.S1x4096x4x64 .f32 := m ((c : Thread nD τ).loc main_arg1)
abbrev A2 : FVec Ideal Cert.KernelIdeal.S1x4096x4x128 .f32 := m ((c : Thread nD τ).loc main_arg2)
abbrev A3 : FVec Ideal Cert.KernelIdeal.S1x4096x64 .f32 := m ((c : Thread nD τ).loc main_arg3)
abbrev A4 : FVec Ideal Cert.KernelIdeal.S1x4096x4x128 .f32 := m ((c : Thread nD τ).loc main_arg4)

theorem q_eq : V m c (Pipeline.arrRef spec0 0) = kv49 (A0 m c) (A1 m c) := by
  show StableHlo.after hostOps0 (fun b => m (c, b)) (Proc.devRef .tc main_v14) = _
  after_results
  rfl
theorem k_eq : V m c (Pipeline.arrRef spec0 1) = kv50 (A2 m c) (A3 m c) := by
  show StableHlo.after hostOps0 (fun b => m (c, b)) (Proc.devRef .tc main_v15) = _
  after_results
  rfl
theorem v_eq : V m c (Pipeline.arrRef spec0 2) = kv52 (A4 m c) := by
  show StableHlo.after hostOps0 (fun b => m (c, b)) (Proc.devRef .tc main_v17) = _
  after_results
  rfl

/-- Every window's block index at every grid point. -/
theorem idx_val : ∀ t : Fin cfg0.N, win0_0.index t = ![t.val % 4, t.val / 4]
    ∧ win0_1.index t = ![0, t.val / 4]
    ∧ win0_2.index t = ![0, t.val / 4]
    ∧ win0_3.index t = ![t.val % 4, t.val / 4]
    ∧ win0_4.index t = ![t.val % 4, t.val / 4] :=
  (by decide +kernel : ∀ t : Fin grid0.N, _)

theorem point_lt (t : Fin cfg0.N) : t.val < 16 := t.isLt
/-- The head of a point, -/
abbrev hd (t : Fin cfg0.N) : Fin 4 := ⟨t.val / 4, by have := point_lt t; omega⟩
/-- and row `j` of its tile. -/
abbrev row (t : Fin cfg0.N) (j : Fin 1024) : Fin 4096 := ⟨1024 * (t.val % 4) + j.val, by omega⟩

theorem coord (t : Fin cfg0.N) : (grid0.coords t 1).val = t.val % 4 :=
  (by decide +kernel : ∀ t : Fin grid0.N, (grid0.coords t 1).val = t.val % 4) t

theorem read_0 (X : FVec Ideal S4096x1024 .bf16) (t : Fin cfg0.N) (j : Fin 1024) (d : Fin 256) :
    ((cfg0.win 0).blk t).view.read (Elt Ideal) X (ix2 j d) = X (ix2 (row t j) (col (hd t) d)) := by
  blk_ext [idx_val t]
theorem read_1 (X : FVec Ideal S4096x1024 .bf16) (t : Fin cfg0.N) (r : Fin 4096) (d : Fin 256) :
    ((cfg0.win 1).blk t).view.read (Elt Ideal) X (ix2 r d) = X (ix2 r (col (hd t) d)) := by
  blk_ext [idx_val t]
theorem read_2 (X : FVec Ideal S4096x512 .bf16) (t : Fin cfg0.N) (r : Fin 4096) (d : Fin 128) :
    ((cfg0.win 2).blk t).view.read (Elt Ideal) X (ix2 r d) = X (ix2 r (vcol (hd t) d)) := by
  blk_ext [idx_val t]
theorem emb_3 (t : Fin cfg0.N) (j : Fin 1024) (d : Fin 128) : ((cfg0.win 3).blk t).view.emb (ix2 j d) = ix2 (row t j) (vcol (hd t) d) := by
  blk_ext [idx_val t]
theorem emb_4 (t : Fin cfg0.N) (j : Fin 1024) (d : Fin 128) : ((cfg0.win 4).blk t).view.emb (ix2 j d) = ix2 (row t j) (vcol (hd t) d) := by
  blk_ext [idx_val t]

/-- The blocks a point is run with. -/
abbrev qB (t : Fin cfg0.N) : FVec Ideal S1024x256 .bf16 := iblk m c 0 t
abbrev kB (t : Fin cfg0.N) : FVec Ideal S4096x256 .bf16 := iblk m c 1 t
abbrev vB (t : Fin cfg0.N) : FVec Ideal S4096x128 .bf16 := iblk m c 2 t

theorem blk_0 (t : Fin cfg0.N) (j : Fin 1024) (d : Fin 256) : qB m c t (ix2 j d) = Cert.KernelIdeal.Attn.kv8 (A0 m c) (A1 m c) (ix4 0 (row t j) (hd t) d) :=
  (read_0 (V m c (Pipeline.arrRef spec0 0)) t j d).trans ((congrFun (q_eq m c) _).trans (cast_col _ _ _ _))
theorem blk_1 (t : Fin cfg0.N) (r : Fin 4096) (d : Fin 256) : kB m c t (ix2 r d) = Cert.KernelIdeal.Attn.kv13 (A2 m c) (A3 m c) (ix4 0 r (hd t) d) :=
  (read_1 (V m c (Pipeline.arrRef spec0 1)) t r d).trans ((congrFun (k_eq m c) _).trans (cast_col _ _ _ _))
theorem blk_2 (t : Fin cfg0.N) (r : Fin 4096) (d : Fin 128) : vB m c t (ix2 r d) = A4 m c (ix4 0 r (hd t) d) :=
  (read_2 (V m c (Pipeline.arrRef spec0 2)) t r d).trans ((congrFun (v_eq m c) _).trans (cast_vcol (A4 m c) _ _ _))

variable {m c} {x : Args} (H : Holds (A0 m c) (A1 m c) (A2 m c) (A3 m c) (A4 m c) (A4 m c) x)
include H

/-- The scores and values of a point's blocks. -/
theorem score_num (t : Fin cfg0.N) (j : Fin 1024) (k : Fin 4096) :
    ∑ d, qB m c t (ix2 j d) * kB m c t (ix2 k d) = (sc x (hd t) (row t j) k.val : EReal) := by
  simp only [blk_0, blk_1]
  rw [Cert.KernelIdeal.Attn.qk_num H, sc, key_eq]
theorem value_num (t : Fin cfg0.N) (k : Fin 4096) (e : Fin 128) : vB m c t (ix2 k e) = (vl x (hd t) e k.val : EReal) := by
  rw [blk_2, H.v, vl, key_eq]

end Cert.AttnFwd
-- ==== Proof.AttnFwd.lean ====
/- The forward attention's two arrays are the reference's. -/
module

public import proofs.«01_k».proof.Proof.AttnFwdNum

@[expose] public section

set_option maxRecDepth 16384

noncomputable section

namespace Cert.AttnFwd

open Idealize.ShloMosaic TcCoe Idealize.ShloMosaic.Tactic
open Idealize.SL.Sem
open Kernel12Ideal Kernel12Ideal.Gen Cert.Attn
open KernelIdeal.Attn (col vcol)
open Reference12Ideal.Fwd (rv41 rv42 out_num lse_num)
open scoped BigOperators

section
variable {𝒱 : Variants} {c : Dev nD} {bd : Option 𝒱.V} {i : grid0.Coords} {arg2 : Memref sig .tc .vmem S1024x256 .bf16} {harg2 : arg2.IsWhole} {arg3 : Memref sig .tc .vmem S4096x256 .bf16} {harg3 : arg3.IsWhole} {arg4 : Memref sig .tc .vmem S4096x128 .bf16} {harg4 : arg4.IsWhole} {arg5 : Memref sig .tc .vmem S1024x128 .f32} {harg5 : arg5.IsWhole} {arg6 : Memref sig .tc .vmem S1024x128 .f32} {harg6 : arg6.IsWhole}

/-- The second loop makes no trip. -/
theorem st2_eq {v28 X2 X3 X4 s n} (hn : n = 0) :
    st_k0_t2 (F := Ideal) 𝒱 c bd i arg2 harg2 arg3 harg3 arg4 harg4 arg5 harg5 arg6 harg6 v28 X2 X3 X4 s n = s := by
  subst hn; rfl
end

/-- A block of two pieces at an index. -/
theorem two_pieces {i1 i0} (P1 P0 : FVec Ideal S512x128 .f32) (j : Fin 1024) (e : Fin 128) (v : EReal)
    (h1 : ∀ r : Fin 512, j.val = 512 + r.val → P1 (ix2 r e) = v) (h0 : ∀ r : Fin 512, j.val = r.val → P0 (ix2 r e) = v) :
    View.canon (Val := Elt Ideal) (s := S1024x128) (e := .f32)
      [⟨Rect.unit (s := S1024x128) ![512, 0] S512x128.size i1, P1⟩, ⟨Rect.unit (s := S1024x128) ![0, 0] S512x128.size i0, P0⟩] (ix2 j e) = v := by
  have em : ∀ (o : ℕ) (ho) (r : Fin 512), o + r.val = j.val → (Rect.unit (s := S1024x128) ![o, 0] S512x128.size ho).emb (ix2 r e) = ix2 j e := fun o ho r h => by
    funext a
    apply Fin.ext
    match a with
    | ⟨0, _⟩ => exact (congrArg (o + ·) (Nat.one_mul _)).trans h
    | ⟨1, _⟩ => exact (Nat.zero_add _).trans (Nat.one_mul _)
  by_cases hj : j.val < 512
  · have hn : ix2 j e ∉ (Rect.unit (s := S1024x128) ![512, 0] S512x128.size i1).set := fun hm => by
      have h := (Rect.mem_set_unit (s := S1024x128) (off := ![512, 0]) (size := S512x128.size)).1 hm ⟨0, by decide⟩
      have h2 : 512 ≤ j.val := h.1
      omega
    rw [View.canon_cons_of_not_mem _ _ (by exact hn), ← em 0 i0 ⟨j.val, hj⟩ (Nat.zero_add _), View.canon_cons_emb]
    exact h0 _ rfl
  · rw [← em 512 i1 ⟨j.val - 512, by omega⟩ (by show 512 + (j.val - 512) = _; omega), View.canon_cons_emb]
    exact h1 _ (by show _ = 512 + (j.val - 512); omega)

variable {m : (ℓ : Loc nD τ sig) → Buf (Elt Ideal) ℓ} {c : Dev nD} {x : Args} (H : Holds (A0 m c) (A1 m c) (A2 m c) (A3 m c) (A4 m c) (A4 m c) x)
include H

/-- The sums the first loop leaves at a point. -/
theorem sums (t : Fin cfg0.N) {s : St} (hs : s = st_k0_t1 (F := Ideal) Variants.none c none (grid0.coords t) (ms0_0 t) (hs0_0 t) (ms0_1 t) (hs0_1 t) (ms0_2 t) (hs0_2 t)
      (ms0_3 t) (hs0_3 t) (ms0_4 t) (hs0_4 t) ((hs0_0 t).unread (qB m c t)) ((hs0_1 t).unread (kB m c t)) ((hs0_2 t).unread (vB m c t))
      (k0_pay24 (F := Ideal), k0_pay25 (F := Ideal), k0_pay26 (F := Ideal), k0_pay27 (F := Ideal), k0_pay28 (F := Ideal), k0_pay29 (F := Ideal))
      (k0_t1_loop (grid0.coords t)).trips) :
    Inv (fun r => sc x (hd t) (row t r)) (vl x (hd t)) (1024 * (grid0.coords t 1).val) s := by
  rw [hs, ← trips_eq (grid0.coords t)]
  exact loop_inv Variants.none c none (grid0.coords t) _ _ _ _ _ _ _ _ _ _ (qB m c t) (kB m c t) (vB m c t) (score_num H t) (value_num H t) _ (inv_init _ _) _ le_rfl

theorem up_num (t : Fin cfg0.N) (r : Fin 512) (e : Fin 128) {s : St} {w : BitVec 32} {h5 h6 h0}
    (hI : Inv (fun r => sc x (hd t) (row t r)) (vl x (hd t)) (1024 * (grid0.coords t 1).val) s) (hw : w = BitVec.ofNat 32 (1024 * (grid0.coords t 1).val)) :
    k0_pay50 (F := Ideal)
      (k0_pay41 (F := Ideal) (BitVec.ofNat 32 (grid0.coords t 1).val) s.1 s.2.1 w (k0_pay36 (F := Ideal) (View.ld (Val := Elt Ideal) (kB m c t) (Rect.unit (s := S4096x256) (k0_off5 (grid0.coords t)) ![512, 256] h5)))
        (View.ld (Val := Elt Ideal) (qB m c t) (Rect.unit (s := S1024x256) ![0, 0] ![512, 256] h0)))
      (k0_pay42 (F := Ideal) (BitVec.ofNat 32 (grid0.coords t 1).val) s.1 s.2.2.1 w (k0_pay36 (F := Ideal) (View.ld (Val := Elt Ideal) (kB m c t) (Rect.unit (s := S4096x256) (k0_off5 (grid0.coords t)) ![512, 256] h5)))
        (View.ld (Val := Elt Ideal) (vB m c t) (Rect.unit (s := S4096x128) (k0_off6 (grid0.coords t)) ![512, 128] h6))
        (View.ld (Val := Elt Ideal) (qB m c t) (Rect.unit (s := S1024x256) ![0, 0] ![512, 256] h0))) (ix2 r e) = (out x (hd t) (row t (up r)) e : EReal)
    ∧ k0_pay51 (F := Ideal)
      (k0_pay38 (F := Ideal) (BitVec.ofNat 32 (grid0.coords t 1).val) s.1 w (k0_pay36 (F := Ideal) (View.ld (Val := Elt Ideal) (kB m c t) (Rect.unit (s := S4096x256) (k0_off5 (grid0.coords t)) ![512, 256] h5)))
        (View.ld (Val := Elt Ideal) (qB m c t) (Rect.unit (s := S1024x256) ![0, 0] ![512, 256] h0)))
      (k0_pay41 (F := Ideal) (BitVec.ofNat 32 (grid0.coords t 1).val) s.1 s.2.1 w (k0_pay36 (F := Ideal) (View.ld (Val := Elt Ideal) (kB m c t) (Rect.unit (s := S4096x256) (k0_off5 (grid0.coords t)) ![512, 256] h5)))
        (View.ld (Val := Elt Ideal) (qB m c t) (Rect.unit (s := S1024x256) ![0, 0] ![512, 256] h0))) (ix2 r e) = (lse x (hd t) (row t (up r)) : EReal) := by
  subst hw
  have hc : (grid0.coords t 1).val < 4 := (grid0.coords t 1).isLt
  refine close_up (h := hd t) hc _ _ _ _ _ _ r e (row t (up r)) (by rw [coord]; exact congrArg (1024 * (t.val % 4) + ·) (Nat.zero_add _)) (fun j => ?_) (fun j => ?_) (hI r e).1
  · rw [← score_num H t (up r) ⟨1024 * (grid0.coords t 1).val + j.val, by omega⟩]
    refine Finset.sum_congr rfl fun d _ => ?_
    have e0 := ld_rows (N := 1024) (M := 256) (B := 512) (φ := .bf16) (qB m c t) rfl h0 r d (by omega)
    have e1 := ld_rows (N := 4096) (M := 256) (B := 512) (φ := .bf16) (kB m c t) (off5_eq _) h5 j d (by omega)
    exact congrArg₂ (· * ·) e0 e1
  · have e1 := ld_rows (N := 4096) (M := 128) (B := 512) (φ := .bf16) (vB m c t) (off6_eq _) h6 j e (by omega)
    exact e1.trans (value_num H t _ e)

theorem dn_num (t : Fin cfg0.N) (r : Fin 512) (e : Fin 128) {s : St} {w : BitVec 32} {h7 h8 h0}
    (hI : Inv (fun r => sc x (hd t) (row t r)) (vl x (hd t)) (1024 * (grid0.coords t 1).val) s) (hw : w = BitVec.ofNat 32 (1024 * (grid0.coords t 1).val)) :
    k0_pay52 (F := Ideal) s.2.2.2.1 s.2.2.2.2.1 s.2.2.2.2.2 w (k0_pay43 (F := Ideal) (View.ld (Val := Elt Ideal) (vB m c t) (Rect.unit (s := S4096x128) (k0_off8 (grid0.coords t)) ![1024, 128] h8)))
      (k0_pay44 (F := Ideal) (View.ld (Val := Elt Ideal) (kB m c t) (Rect.unit (s := S4096x256) (k0_off7 (grid0.coords t)) ![1024, 256] h7))
        (View.ld (Val := Elt Ideal) (qB m c t) (Rect.unit (s := S1024x256) ![512, 0] ![512, 256] h0)))
      (Scalar.muli (BitVec.ofNat 32 (grid0.coords t 1).val) 1024#32) (ix2 r e) = (out x (hd t) (row t (dn r)) e : EReal)
    ∧ k0_pay1 (F := Ideal) (k0_pay53 (F := Ideal) s.2.2.2.1 s.2.2.2.2.1 w
      (k0_pay44 (F := Ideal) (View.ld (Val := Elt Ideal) (kB m c t) (Rect.unit (s := S4096x256) (k0_off7 (grid0.coords t)) ![1024, 256] h7))
        (View.ld (Val := Elt Ideal) (qB m c t) (Rect.unit (s := S1024x256) ![512, 0] ![512, 256] h0)))
      (Scalar.muli (BitVec.ofNat 32 (grid0.coords t 1).val) 1024#32)) (ix2 r e) = (lse x (hd t) (row t (dn r)) : EReal) := by
  subst hw
  have hc : (grid0.coords t 1).val < 4 := (grid0.coords t 1).isLt
  refine close_dn (h := hd t) hc _ _ _ _ _ _ r e (row t (dn r)) (by rw [coord]; exact (Nat.add_assoc _ _ _).symm) (fun j => ?_) (fun j => ?_) (hI r e).2
  · rw [← score_num H t (dn r) ⟨1024 * (grid0.coords t 1).val + j.val, by omega⟩]
    refine Finset.sum_congr rfl fun d _ => ?_
    have e0 := ld_rows (N := 1024) (M := 256) (B := 512) (φ := .bf16) (qB m c t) rfl h0 r d (by omega)
    have e1 := ld_rows (N := 4096) (M := 256) (B := 1024) (φ := .bf16) (kB m c t) (off7_eq _) h7 j d (by omega)
    exact congrArg₂ (· * ·) e0 e1
  · have e1 := ld_rows (N := 4096) (M := 128) (B := 1024) (φ := .bf16) (vB m c t) (off8_eq _) h8 j e (by omega)
    exact e1.trans (value_num H t _ e)

set_option maxHeartbeats 1000000 in
theorem final_3 : (dats m 0 c).arrAt 3 (cfgs 0).N = rv41 (A0 m c) (A1 m c) (A2 m c) (A3 m c) (A4 m c) := by
  refine (dats m 0 c).arrAt_eq_of_covers 3 _ (by decide +kernel) fun t hf y => ?_
  blk_simp; rw [after0_3]
  dsimp only [outsAt0]
  frame_out
  obtain ⟨j, e, rfl⟩ : ∃ j e, y = ix2 j e := ⟨y 0, y 1, eq_ix2 y⟩
  refine (two_pieces _ _ j e (out x (hd t) (row t j) e) (fun r hr => ?_) (fun r hr => ?_)).trans
    ((congrArg _ (emb_3 t j e)).trans (out_num H _ _ _)).symm
  · obtain rfl : j = dn r := Fin.ext hr
    generalize hs : st_k0_t2 (F := Ideal) _ _ _ _ _ _ _ _ _ _ _ _ _ _ _ _ _ _ _ _ = s
    generalize hw : Scalar.muli (Scalar.addi (Scalar.select _ _ _) _) 1024#32 = w
    rw [st2_eq (trips2_eq (grid0.coords t))] at hs
    have hI := sums H t hs.symm
    refine (dn_num H t r e hI (hw.symm.trans ?_)).1
    clear hw hI hs
    have h : (grid0.coords t 1).val < 4 := (grid0.coords t 1).isLt
    generalize (grid0.coords t 1).val = a at h
    revert a
    decide +kernel
  · obtain rfl : j = up r := Fin.ext (hr.trans (Nat.zero_add _).symm)
    generalize hs : st_k0_t2 (F := Ideal) _ _ _ _ _ _ _ _ _ _ _ _ _ _ _ _ _ _ _ _ = s
    generalize hw : Scalar.muli (Scalar.addi (Scalar.select _ _ _) _) 1024#32 = w
    rw [st2_eq (trips2_eq (grid0.coords t))] at hs
    have hI := sums H t hs.symm
    refine (up_num H t r e hI (hw.symm.trans ?_)).1
    clear hw hI hs
    have h : (grid0.coords t 1).val < 4 := (grid0.coords t 1).isLt
    generalize (grid0.coords t 1).val = a at h
    revert a
    decide +kernel

set_option maxHeartbeats 1000000 in
theorem final_4 : (dats m 0 c).arrAt 4 (cfgs 0).N = rv42 (A0 m c) (A1 m c) (A2 m c) (A3 m c) := by
  refine (dats m 0 c).arrAt_eq_of_covers 4 _ (by decide +kernel) fun t hf y => ?_
  blk_simp; rw [after0_4]
  dsimp only [outsAt0]
  frame_out
  obtain ⟨j, e, rfl⟩ : ∃ j e, y = ix2 j e := ⟨y 0, y 1, eq_ix2 y⟩
  refine (two_pieces _ _ j e (lse x (hd t) (row t j)) (fun r hr => ?_) (fun r hr => ?_)).trans
    ((congrArg _ (emb_4 t j e)).trans (lse_num H _ _ _)).symm
  · obtain rfl : j = dn r := Fin.ext hr
    generalize hs : st_k0_t2 (F := Ideal) _ _ _ _ _ _ _ _ _ _ _ _ _ _ _ _ _ _ _ _ = s
    generalize hw : Scalar.muli (Scalar.addi (Scalar.select _ _ _) _) 1024#32 = w
    rw [st2_eq (trips2_eq (grid0.coords t))] at hs
    have hI := sums H t hs.symm
    refine (dn_num (h8 := k0_off8_inb _) H t r e hI (hw.symm.trans ?_)).2
    clear hw hI hs
    have h : (grid0.coords t 1).val < 4 := (grid0.coords t 1).isLt
    generalize (grid0.coords t 1).val = a at h
    revert a
    decide +kernel
  · obtain rfl : j = up r := Fin.ext (hr.trans (Nat.zero_add _).symm)
    generalize hs : st_k0_t2 (F := Ideal) _ _ _ _ _ _ _ _ _ _ _ _ _ _ _ _ _ _ _ _ = s
    generalize hw : Scalar.muli (Scalar.addi (Scalar.select _ _ _) _) 1024#32 = w
    rw [st2_eq (trips2_eq (grid0.coords t))] at hs
    have hI := sums H t hs.symm
    refine (up_num (h6 := k0_off6_inb _) H t r e hI (hw.symm.trans ?_)).2
    clear hw hI hs
    have h : (grid0.coords t 1).val < 4 := (grid0.coords t 1).isLt
    generalize (grid0.coords t 1).val = a at h
    revert a
    decide +kernel

end Cert.AttnFwd
-- ==== Proof.AttnFwdClaim.lean ====
/- The claim of the attention's forward call. -/
module

public import proofs.«01_k».proof.Defs
public import proofs.«01_k».proof.Proof.AttnFwd
public import proofs.«01_k».proof.Proof.Finite
public import proofs.«01_k».proof.Proof.Gen.Pre_finite12
public import Idealize.ShloMosaic.Lib.Claim

@[expose] public section

set_option maxRecDepth 16384

noncomputable section

namespace Cert.AttnFwd

open Idealize.ShloMosaic TcCoe Idealize.SL.Sem Cert.Attn

/-- Arguments that satisfy the precondition hold real numbers. -/
theorem holds_of_pre (m : (ℓ : Loc Kernel12Ideal.nD Kernel12Ideal.τ Kernel12Ideal.sig) → Buf (Elt Ideal) ℓ) (c : Dev Kernel12Ideal.nD)
    (h : Cert.Pre_finite12.fn (F := Ideal) (A0 m c) (A1 m c) (A2 m c) (A3 m c) (A4 m c) = fun _ => 1#1) :
    ∃ x, Holds (A0 m c) (A1 m c) (A2 m c) (A3 m c) (A4 m c) (A4 m c) x := by
  have h0 := congrFun h ix0
  dsimp only [Cert.Pre_finite12.fn, Cert.Pre_finite12.fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have r4 := Cert.Finite.real_of_all _ _ (fun _ => Cert.Finite.top_f32) _ _ _ e4
  exact ⟨⟨fun r h d => (A0 m c (ix4 0 r h d)).toReal, fun r h d => (A1 m c (ix4 0 r h d)).toReal, fun r h d => (A2 m c (ix4 0 r h d)).toReal,
      fun r d => (A3 m c (ix3 0 r d)).toReal, fun r h d => (A4 m c (ix4 0 r h d)).toReal, fun r h d => (A4 m c (ix4 0 r h d)).toReal⟩,
    fun r h d => Cert.Finite.real_of_all _ _ (fun _ => Cert.Finite.top_f32) _ _ _ e0 _, fun r h d => Cert.Finite.real_of_all _ _ (fun _ => Cert.Finite.top_f32) _ _ _ e1 _,
    fun r h d => Cert.Finite.real_of_all _ _ (fun _ => Cert.Finite.top_f32) _ _ _ e2 _, fun r d => Cert.Finite.real_of_all _ _ (fun _ => Cert.Finite.top_f32) _ _ _ e3 _,
    fun r h d => r4 _, fun r h d => r4 _⟩

/-- The reference keeps its arguments; it declares no semaphore. -/
theorem quiescent_reference : quiescent_Reference12Ideal := fun m g _ =>
  (θ_run Reference12Ideal.defs _ _).mono
    (fun r h => ⟨fun c => (h c).2.2, sem_eq_zero_of_no_sems (by decide) r.2⟩) (Reference12Ideal.Value.run m g)

theorem algebraic : algebraic_Kernel12Ideal_Reference12Ideal_pre_finite12 := by
  intro m g m' g' hp hagree
  refine ⟨_, _, Kernel12Ideal.Value.run_blocks m g,
    (θ_run Reference12Ideal.defs _ _).mono (fun r h c => ?_) (Reference12Ideal.Value.run m' g')⟩
  obtain ⟨h0, h1, hk⟩ := h c
  obtain ⟨a0, a1, a2, a3, a4⟩ := hagree c
  obtain ⟨x, H⟩ := holds_of_pre m c (hp c)
  refine ⟨?_, ?_, hk⟩
  · rw [h0, Reference12Ideal.Fwd.res_v41, a0, a1, a2, a3, a4]; exact (final_3 H).symm
  · rw [h1, Reference12Ideal.Fwd.res_v42, a0, a1, a2, a3]; exact (final_4 H).symm

end Cert.AttnFwd
-- ==== Proof.PrepRef.lean ====
/- The reference's lines, one definition for each, and the named results equal them. -/
module

public import proofs.«01_k».proof.Proof.Gen.Reference9Ideal.Run
public import Idealize.ShloMosaic.Lib.Pipeline.ValueKit

@[expose] public section

set_option maxRecDepth 16384

noncomputable section

namespace Cert.Reference9Ideal.Prep

open Idealize.ShloMosaic TcCoe Idealize.ShloMosaic.Tactic
open Idealize.SL.Sem
open Reference9Ideal Reference9Ideal.Gen Reference9Ideal.Value
open scoped BigOperators

section
variable (a0 : FVec Ideal S4096x512 .f32) (a1 : FVec Ideal S4096x256 .f32) (a2 : FVec Ideal S4096x64 .f32) (a3 : IVec S4096 32) (a4 : FVec Ideal S512 .f32) (a5 : FVec Ideal S256 .f32) (a6 : FVec Ideal S512x768 .f32) (a7 : FVec Ideal S256x1024 .f32) (a8 : FVec Ideal S4096x4x128 .f32) (a9 : FVec Ideal S4096x4x64 .f32) (a10 : FVec Ideal S4096x4x128 .f32) (a11 : FVec Ideal S4096x4x64 .f32) (a12 : FVec Ideal S4096x4x128 .f32)

def rv0 : FVec Ideal S32 .f32 :=
  sitofp .f32 (iotaInDim S32 32 0)
def rv1 : FVec Ideal S32 .f32 :=
  broadcastInDim S32 ![] bcast_S_S32 (constant S_ .f32 0x40000000#32)
def rv2 : FVec Ideal S32 .f32 :=
  mulf rv1 rv0
def rv3 : FVec Ideal S32 .f32 :=
  broadcastInDim S32 ![] bcast_S_S32 (constant S_ .f32 0x00000000#32)
def rv4 : FVec Ideal S32 .f32 :=
  addf rv3 rv2
def rv5 : FVec Ideal S32 .f32 :=
  broadcastInDim S32 ![] bcast_S_S32 (constant S_ .f32 0x42800000#32)
def rv6 : FVec Ideal S32 .f32 :=
  Host.divf rv4 rv5
def rv7 : FVec Ideal S32 .f32 :=
  broadcastInDim S32 ![] bcast_S_S32 (constant S_ .f32 0x461C4000#32)
def rv8 : FVec Ideal S32 .f32 :=
  Host.powf rv7 rv6
def rv9 : FVec Ideal S32 .f32 :=
  broadcastInDim S32 ![] bcast_S_S32 (constant S_ .f32 0x3F800000#32)
def rv10 : FVec Ideal S32 .f32 :=
  Host.divf rv9 rv8
def rv11 : IVec S4096x1 32 :=
  broadcastInDim S4096x1 ![0] bcast_S4096_S4096x1_0 a3
def rv12 : FVec Ideal S4096x1 .f32 :=
  sitofp .f32 (rv11 a3)
def rv13 : FVec Ideal S1x32 .f32 :=
  broadcastInDim S1x32 ![1] bcast_S32_S1x32_1 rv10
def rv14 : FVec Ideal S4096x32 .f32 :=
  broadcastInDim S4096x32 ![0, 1] bcast_S4096x1_S4096x32_0_1 (rv12 a3)
def rv15 : FVec Ideal S4096x32 .f32 :=
  broadcastInDim S4096x32 ![0, 1] bcast_S1x32_S4096x32_0_1 rv13
def rv16 : FVec Ideal S4096x32 .f32 :=
  mulf (rv14 a3) rv15
def rv17 : FVec Ideal S4096x32 .f32 :=
  Host.cos (rv16 a3)
def rv18 : FVec Ideal S4096x32 .f32 :=
  Host.sin (rv16 a3)
def rv19 : FVec Ideal S4096x512 .f32 :=
  mulf a0 a0
def rv20 : FVec Ideal S4096x512 .f32 :=
  broadcastInDim S4096x512 ![] bcast_S_S4096x512 (constant S_ .f32 0x40000000#32)
def rv21 : FVec Ideal S4096x512 .f32 :=
  mulf rv20 a0
def rv22 : FVec Ideal S4096 .f32 :=
  Host.reduceAdd (rv19 a0) (constant S_ .f32 0x00000000#32) reducesTo_S4096x512_S4096_d1 h_S_
def rv23 : FVec Ideal S4096x1 .f32 :=
  broadcastInDim S4096x1 ![0] bcast_S4096_S4096x1_0 (rv22 a0)
def rv24 : FVec Ideal S4096x1 .f32 :=
  broadcastInDim S4096x1 ![] bcast_S_S4096x1 (constant S_ .f32 0x44000000#32)
def rv25 : FVec Ideal S4096x1 .f32 :=
  Host.divf (rv23 a0) rv24
def rv26 : FVec Ideal S4096x1 .f32 :=
  broadcastInDim S4096x1 ![] bcast_S_S4096x1 (constant S_ .f32 0x358637BD#32)
def rv27 : FVec Ideal S4096x1 .f32 :=
  addf (rv25 a0) rv26
def rv28 : FVec Ideal S4096x1 .f32 :=
  Host.rsqrt (rv27 a0)
def rv29 : FVec Ideal S4096x1 .f32 :=
  Host.divf (rv28 a0) (rv27 a0)
def rv30 : FVec Ideal S4096x1 .f32 :=
  broadcastInDim S4096x1 ![] bcast_S_S4096x1 (constant S_ .f32 0xBF000000#32)
def rv31 : FVec Ideal S4096x1 .f32 :=
  mulf rv30 (rv29 a0)
def rv32 : FVec Ideal S4096x512 .f32 :=
  broadcastInDim S4096x512 ![0, 1] bcast_S4096x1_S4096x512_0_1 (rv28 a0)
def rv33 : FVec Ideal S4096x512 .f32 :=
  mulf a0 (rv32 a0)
def rv34 : FVec Ideal S1x512 .f32 :=
  broadcastInDim S1x512 ![1] bcast_S512_S1x512_1 a4
def rv35 : FVec Ideal S4096x512 .f32 :=
  broadcastInDim S4096x512 ![0, 1] bcast_S1x512_S4096x512_0_1 (rv34 a4)
def rv36 : FVec Ideal S4096x512 .f32 :=
  mulf (rv33 a0) (rv35 a4)
def rv41 : FVec Ideal S4096x256 .f32 :=
  mulf a1 a1
def rv42 : FVec Ideal S4096x256 .f32 :=
  broadcastInDim S4096x256 ![] bcast_S_S4096x256 (constant S_ .f32 0x40000000#32)
def rv43 : FVec Ideal S4096x256 .f32 :=
  mulf rv42 a1
def rv44 : FVec Ideal S4096 .f32 :=
  Host.reduceAdd (rv41 a1) (constant S_ .f32 0x00000000#32) reducesTo_S4096x256_S4096_d1 h_S_
def rv45 : FVec Ideal S4096x1 .f32 :=
  broadcastInDim S4096x1 ![0] bcast_S4096_S4096x1_0 (rv44 a1)
def rv46 : FVec Ideal S4096x1 .f32 :=
  broadcastInDim S4096x1 ![] bcast_S_S4096x1 (constant S_ .f32 0x43800000#32)
def rv47 : FVec Ideal S4096x1 .f32 :=
  Host.divf (rv45 a1) rv46
def rv48 : FVec Ideal S4096x1 .f32 :=
  broadcastInDim S4096x1 ![] bcast_S_S4096x1 (constant S_ .f32 0x358637BD#32)
def rv49 : FVec Ideal S4096x1 .f32 :=
  addf (rv47 a1) rv48
def rv50 : FVec Ideal S4096x1 .f32 :=
  Host.rsqrt (rv49 a1)
def rv51 : FVec Ideal S4096x1 .f32 :=
  Host.divf (rv50 a1) (rv49 a1)
def rv52 : FVec Ideal S4096x1 .f32 :=
  broadcastInDim S4096x1 ![] bcast_S_S4096x1 (constant S_ .f32 0xBF000000#32)
def rv53 : FVec Ideal S4096x1 .f32 :=
  mulf rv52 (rv51 a1)
def rv54 : FVec Ideal S4096x256 .f32 :=
  broadcastInDim S4096x256 ![0, 1] bcast_S4096x1_S4096x256_0_1 (rv50 a1)
def rv55 : FVec Ideal S4096x256 .f32 :=
  mulf a1 (rv54 a1)
def rv56 : FVec Ideal S1x256 .f32 :=
  broadcastInDim S1x256 ![1] bcast_S256_S1x256_1 a5
def rv57 : FVec Ideal S4096x256 .f32 :=
  broadcastInDim S4096x256 ![0, 1] bcast_S1x256_S4096x256_0_1 (rv56 a5)
def rv58 : FVec Ideal S4096x256 .f32 :=
  mulf (rv55 a1) (rv57 a5)
def rv62 : FVec Ideal S4096x1x32 .f32 :=
  broadcastInDim S4096x1x32 ![0, 2] bcast_S4096x32_S4096x1x32_0_2 (rv17 a3)
def rv63 : FVec Ideal S4096x1x32 .f32 :=
  broadcastInDim S4096x1x32 ![0, 2] bcast_S4096x32_S4096x1x32_0_2 (rv18 a3)
def rv91 : FVec Ideal S4096x4x256 .f32 :=
  pad S4096x4x256 ![0, 0, 128] ![0, 0, 0] ![0, 0, 0] a12 (constant S_ .f32 0x00000000#32) pads_S4096x4x128_S4096x4x256_000_000_12800 h_S_
def rv92 : FVec Ideal S4096x4x256 .f32 :=
  pad S4096x4x256 ![0, 0, 0] ![0, 0, 128] ![0, 0, 0] a10 (constant S_ .f32 0x00000000#32) pads_S4096x4x128_S4096x4x256_000_000_01280 h_S_
def rv93 : FVec Ideal S4096x4x256 .f32 :=
  addf (rv91 a12) (rv92 a10)
def rv94 : FVec Ideal S4096x4x192 .f32 :=
  pad S4096x4x192 ![0, 0, 0] ![0, 0, 64] ![0, 0, 0] a8 (constant S_ .f32 0x00000000#32) pads_S4096x4x128_S4096x4x192_000_000_0640 h_S_
def rv95 : FVec Ideal S4096x64 .f32 :=
  Host.reduceAdd a11 (constant S_ .f32 0x00000000#32) reducesTo_S4096x4x64_S4096x64_d1 h_S_
def rv96 : FVec Ideal S4096x1x64 .f32 :=
  broadcastInDim S4096x1x64 ![0, 2] bcast_S4096x64_S4096x1x64_0_2 (rv95 a11)
def rv97 : FVec Ideal S4096x64 .f32 :=
  Host.reduceAdd (rv96 a11) (constant S_ .f32 0x00000000#32) reducesTo_S4096x1x64_S4096x64_d1 h_S_
def rv98 : FVec Ideal S4096x32 .f32 :=
  extractStridedSlice S4096x32 ![0, 0] (rv97 a11) slices_S4096x64_S4096x32_0_0
def rv99 : FVec Ideal S4096x32 .f32 :=
  extractStridedSlice S4096x32 ![0, 32] (rv97 a11) slices_S4096x64_S4096x32_0_32
def rv100 : FVec Ideal S4096x32 .f32 :=
  mulf (rv99 a11) (rv18 a3)
def rv101 : FVec Ideal S4096x32 .f32 :=
  mulf (rv99 a11) (rv17 a3)
def rv102 : FVec Ideal S4096x32 .f32 :=
  Host.negf (rv98 a11)
def rv103 : FVec Ideal S4096x32 .f32 :=
  mulf (rv102 a11) (rv18 a3)
def rv104 : FVec Ideal S4096x32 .f32 :=
  addf (rv101 a3 a11) (rv103 a3 a11)
def rv105 : FVec Ideal S4096x32 .f32 :=
  mulf (rv98 a11) (rv17 a3)
def rv106 : FVec Ideal S4096x32 .f32 :=
  addf (rv100 a3 a11) (rv105 a3 a11)
def rv107 : FVec Ideal S4096x64 .f32 :=
  fn_main_v107 (F := Ideal) (rv106 a3 a11) (rv104 a3 a11)
def rv108 : FVec Ideal S4096x4x32 .f32 :=
  extractStridedSlice S4096x4x32 ![0, 0, 0] a9 slices_S4096x4x64_S4096x4x32_0_0_0
def rv109 : FVec Ideal S4096x4x32 .f32 :=
  extractStridedSlice S4096x4x32 ![0, 0, 32] a9 slices_S4096x4x64_S4096x4x32_0_0_32
def rv110 : FVec Ideal S4096x4x32 .f32 :=
  broadcastInDim S4096x4x32 ![0, 1, 2] bcast_S4096x1x32_S4096x4x32_0_1_2 (rv63 a3)
def rv111 : FVec Ideal S4096x4x32 .f32 :=
  mulf (rv109 a9) (rv110 a3)
def rv112 : FVec Ideal S4096x4x32 .f32 :=
  broadcastInDim S4096x4x32 ![0, 1, 2] bcast_S4096x1x32_S4096x4x32_0_1_2 (rv62 a3)
def rv113 : FVec Ideal S4096x4x32 .f32 :=
  mulf (rv109 a9) (rv112 a3)
def rv114 : FVec Ideal S4096x4x32 .f32 :=
  Host.negf (rv108 a9)
def rv115 : FVec Ideal S4096x4x32 .f32 :=
  broadcastInDim S4096x4x32 ![0, 1, 2] bcast_S4096x1x32_S4096x4x32_0_1_2 (rv63 a3)
def rv116 : FVec Ideal S4096x4x32 .f32 :=
  mulf (rv114 a9) (rv115 a3)
def rv117 : FVec Ideal S4096x4x32 .f32 :=
  addf (rv113 a3 a9) (rv116 a3 a9)
def rv118 : FVec Ideal S4096x4x32 .f32 :=
  broadcastInDim S4096x4x32 ![0, 1, 2] bcast_S4096x1x32_S4096x4x32_0_1_2 (rv62 a3)
def rv119 : FVec Ideal S4096x4x32 .f32 :=
  mulf (rv108 a9) (rv118 a3)
def rv120 : FVec Ideal S4096x4x32 .f32 :=
  addf (rv111 a3 a9) (rv119 a3 a9)
def rv121 : FVec Ideal S4096x4x64 .f32 :=
  fn_main_v121 (F := Ideal) (rv120 a3 a9) (rv117 a3 a9)
def rv122 : FVec Ideal S4096x4x192 .f32 :=
  pad S4096x4x192 ![0, 0, 128] ![0, 0, 0] ![0, 0, 0] (rv121 a3 a9) (constant S_ .f32 0x00000000#32) pads_S4096x4x64_S4096x4x192_000_000_12800 h_S_
def rv123 : FVec Ideal S4096x4x192 .f32 :=
  addf (rv94 a8) (rv122 a3 a9)
def rv124 : FVec Ideal S4096x1024 .f32 :=
  shapeCast _ (rv93 a10 a12) shapeCasts_S4096x4x256_S4096x1024
def rv125 : FVec Ideal S1024x256 .f32 :=
  Host.dotGeneral dot_S4096x1024_S4096x256_S1024x256_0_0_1_1_n_n none (rv124 a10 a12) (rv58 a1 a5)
def rv126 : FVec Ideal S256x1024 .f32 :=
  transpose S256x1024 [1, 0] (rv125 a1 a5 a10 a12) transposes_S1024x256_S256x1024_1_0
def rv127 : FVec Ideal S4096x256 .f32 :=
  Host.dotGeneral dot_S4096x1024_S256x1024_S4096x256_1_1_0_0_n_n none (rv124 a10 a12) a7
def rv128 : FVec Ideal S4096x256 .f32 :=
  mulf (rv55 a1) (rv127 a7 a10 a12)
def rv129 : FVec Ideal S256 .f32 :=
  Host.reduceAdd (rv128 a1 a7 a10 a12) (constant S_ .f32 0x00000000#32) reducesTo_S4096x256_S256_d0 h_S_
def rv130 : FVec Ideal S1x256 .f32 :=
  shapeCast _ (rv129 a1 a7 a10 a12) shapeCasts_S256_S1x256
def rv131 : FVec Ideal S4096x256 .f32 :=
  broadcastInDim S4096x256 ![0, 1] bcast_S1x256_S4096x256_0_1 (rv56 a5)
def rv132 : FVec Ideal S4096x256 .f32 :=
  mulf (rv127 a7 a10 a12) (rv131 a5)
def rv133 : FVec Ideal S256 .f32 :=
  Host.reduceAdd (rv130 a1 a7 a10 a12) (constant S_ .f32 0x00000000#32) reducesTo_S1x256_S256_d0 h_S_
def rv134 : FVec Ideal S4096x256 .f32 :=
  mulf a1 (rv132 a5 a7 a10 a12)
def rv135 : FVec Ideal S4096 .f32 :=
  Host.reduceAdd (rv134 a1 a5 a7 a10 a12) (constant S_ .f32 0x00000000#32) reducesTo_S4096x256_S4096_d1 h_S_
def rv136 : FVec Ideal S4096x1 .f32 :=
  shapeCast _ (rv135 a1 a5 a7 a10 a12) shapeCasts_S4096_S4096x1
def rv137 : FVec Ideal S4096x256 .f32 :=
  broadcastInDim S4096x256 ![0, 1] bcast_S4096x1_S4096x256_0_1 (rv50 a1)
def rv138 : FVec Ideal S4096x256 .f32 :=
  mulf (rv132 a5 a7 a10 a12) (rv137 a1)
def rv139 : FVec Ideal S4096x1 .f32 :=
  mulf (rv136 a1 a5 a7 a10 a12) (rv53 a1)
def rv140 : FVec Ideal S4096x1 .f32 :=
  broadcastInDim S4096x1 ![] bcast_S_S4096x1 (constant S_ .f32 0x43800000#32)
def rv141 : FVec Ideal S4096x1 .f32 :=
  Host.divf (rv139 a1 a5 a7 a10 a12) rv140
def rv142 : FVec Ideal S4096 .f32 :=
  Host.reduceAdd (rv141 a1 a5 a7 a10 a12) (constant S_ .f32 0x00000000#32) reducesTo_S4096x1_S4096_d1 h_S_
def rv143 : FVec Ideal S4096x256 .f32 :=
  broadcastInDim S4096x256 ![0] bcast_S4096_S4096x256_0 (rv142 a1 a5 a7 a10 a12)
def rv144 : FVec Ideal S4096x256 .f32 :=
  mulf (rv143 a1 a5 a7 a10 a12) (rv43 a1)
def rv145 : FVec Ideal S4096x256 .f32 :=
  addf (rv138 a1 a5 a7 a10 a12) (rv144 a1 a5 a7 a10 a12)
def rv146 : FVec Ideal S4096x768 .f32 :=
  shapeCast _ (rv123 a3 a8 a9) shapeCasts_S4096x4x192_S4096x768
def rv147 : FVec Ideal S4096x768 .f32 :=
  broadcastInDim S4096x768 ![] bcast_S_S4096x768 (constant S_ .f32 0x3DD53B95#32)
def rv148 : FVec Ideal S4096x768 .f32 :=
  mulf (rv146 a3 a8 a9) rv147
def rv149 : FVec Ideal S768x512 .f32 :=
  Host.dotGeneral dot_S4096x768_S4096x512_S768x512_0_0_1_1_n_n none (rv148 a3 a8 a9) (rv36 a0 a4)
def rv150 : FVec Ideal S512x768 .f32 :=
  transpose S512x768 [1, 0] (rv149 a0 a3 a4 a8 a9) transposes_S768x512_S512x768_1_0
def rv151 : FVec Ideal S4096x512 .f32 :=
  Host.dotGeneral dot_S4096x768_S512x768_S4096x512_1_1_0_0_n_n none (rv148 a3 a8 a9) a6
def rv152 : FVec Ideal S4096x512 .f32 :=
  mulf (rv33 a0) (rv151 a3 a6 a8 a9)
def rv153 : FVec Ideal S512 .f32 :=
  Host.reduceAdd (rv152 a0 a3 a6 a8 a9) (constant S_ .f32 0x00000000#32) reducesTo_S4096x512_S512_d0 h_S_
def rv154 : FVec Ideal S1x512 .f32 :=
  shapeCast _ (rv153 a0 a3 a6 a8 a9) shapeCasts_S512_S1x512
def rv155 : FVec Ideal S4096x512 .f32 :=
  broadcastInDim S4096x512 ![0, 1] bcast_S1x512_S4096x512_0_1 (rv34 a4)
def rv156 : FVec Ideal S4096x512 .f32 :=
  mulf (rv151 a3 a6 a8 a9) (rv155 a4)
def rv157 : FVec Ideal S512 .f32 :=
  Host.reduceAdd (rv154 a0 a3 a6 a8 a9) (constant S_ .f32 0x00000000#32) reducesTo_S1x512_S512_d0 h_S_
def rv158 : FVec Ideal S4096x512 .f32 :=
  mulf a0 (rv156 a3 a4 a6 a8 a9)
def rv159 : FVec Ideal S4096 .f32 :=
  Host.reduceAdd (rv158 a0 a3 a4 a6 a8 a9) (constant S_ .f32 0x00000000#32) reducesTo_S4096x512_S4096_d1 h_S_
def rv160 : FVec Ideal S4096x1 .f32 :=
  shapeCast _ (rv159 a0 a3 a4 a6 a8 a9) shapeCasts_S4096_S4096x1
def rv161 : FVec Ideal S4096x512 .f32 :=
  broadcastInDim S4096x512 ![0, 1] bcast_S4096x1_S4096x512_0_1 (rv28 a0)
def rv162 : FVec Ideal S4096x512 .f32 :=
  mulf (rv156 a3 a4 a6 a8 a9) (rv161 a0)
def rv163 : FVec Ideal S4096x1 .f32 :=
  mulf (rv160 a0 a3 a4 a6 a8 a9) (rv31 a0)
def rv164 : FVec Ideal S4096x1 .f32 :=
  broadcastInDim S4096x1 ![] bcast_S_S4096x1 (constant S_ .f32 0x44000000#32)
def rv165 : FVec Ideal S4096x1 .f32 :=
  Host.divf (rv163 a0 a3 a4 a6 a8 a9) rv164
def rv166 : FVec Ideal S4096 .f32 :=
  Host.reduceAdd (rv165 a0 a3 a4 a6 a8 a9) (constant S_ .f32 0x00000000#32) reducesTo_S4096x1_S4096_d1 h_S_
def rv167 : FVec Ideal S4096x512 .f32 :=
  broadcastInDim S4096x512 ![0] bcast_S4096_S4096x512_0 (rv166 a0 a3 a4 a6 a8 a9)
def rv168 : FVec Ideal S4096x512 .f32 :=
  mulf (rv167 a0 a3 a4 a6 a8 a9) (rv21 a0)
def rv169 : FVec Ideal S4096x512 .f32 :=
  addf (rv162 a0 a3 a4 a6 a8 a9) (rv168 a0 a3 a4 a6 a8 a9)
def rv170 : FVec Ideal S768x512 .f32 :=
  transpose S768x512 [1, 0] (rv150 a0 a3 a4 a8 a9) transposes_S512x768_S768x512_1_0
def rv171 : FVec Ideal S4x192x512 .f32 :=
  shapeCast _ (rv170 a0 a3 a4 a8 a9) shapeCasts_S768x512_S4x192x512
def rv172 : FVec Ideal S4x128x512 .f32 :=
  extractStridedSlice S4x128x512 ![0, 0, 0] (rv171 a0 a3 a4 a8 a9) slices_S4x192x512_S4x128x512_0_0_0
def rv173 : FVec Ideal S512x512 .f32 :=
  shapeCast _ (rv172 a0 a3 a4 a8 a9) shapeCasts_S4x128x512_S512x512
def rv174 : FVec Ideal S4x64x512 .f32 :=
  extractStridedSlice S4x64x512 ![0, 128, 0] (rv171 a0 a3 a4 a8 a9) slices_S4x192x512_S4x64x512_0_128_0
def rv175 : FVec Ideal S4x64x512 .f32 :=
  broadcastInDim S4x64x512 ![] bcast_S_S4x64x512 (constant S_ .f32 0x00000000#32)
def rv176 : FVec Ideal S4x128x512 .f32 :=
  fn_main_v176 (F := Ideal) (rv174 a0 a3 a4 a8 a9) rv175
def rv177 : FVec Ideal S512x512 .f32 :=
  shapeCast _ (rv176 a0 a3 a4 a8 a9) shapeCasts_S4x128x512_S512x512
def rv178 : FVec Ideal S4096x64 .f32 :=
  broadcastInDim S4096x64 ![] bcast_S_S4096x64 (constant S_ .f32 0x00000000#32)
def rv179 : FVec Ideal S4096x128 .f32 :=
  fn_main_v179 (F := Ideal) (rv107 a3 a11) rv178
def rv180 : FVec Ideal S4096x512 .bf16 :=
  truncf .bf16 (rv169 a0 a3 a4 a6 a8 a9) bitsLt_bf16_f32
def rv181 : FVec Ideal S4096x256 .bf16 :=
  truncf .bf16 (rv145 a1 a5 a7 a10 a12) bitsLt_bf16_f32
def rv182 : FVec Ideal S4096x128 .bf16 :=
  truncf .bf16 (rv179 a3 a11) bitsLt_bf16_f32
def rv183 : FVec Ideal S1x512 .f32 :=
  shapeCast _ (rv157 a0 a3 a6 a8 a9) shapeCasts_S512_S1x512
def rv184 : FVec Ideal S1x256 .f32 :=
  shapeCast _ (rv133 a1 a7 a10 a12) shapeCasts_S256_S1x256
def rv185 : FVec Ideal S1024x512 .f32 :=
  fn_main_v185 (F := Ideal) (rv173 a0 a3 a4 a8 a9) (rv177 a0 a3 a4 a8 a9)
def rv186 : FVec Ideal S1024x256 .f32 :=
  transpose S1024x256 [1, 0] (rv126 a1 a5 a10 a12) transposes_S256x1024_S1024x256_1_0

end

variable (m : (ℓ : Loc nD τ sig) → Buf (Elt Ideal) ℓ) (c : Dev nD)

theorem res_v16 : Reference9Ideal.Value.res_main_v16 (StableHlo.launchContents m c) = rv16 (m ((c : Thread nD τ).loc main_arg3)) := by
  rw [Reference9Ideal.Value.res_main_v16]; rfl
theorem res_v17 : Reference9Ideal.Value.res_main_v17 (StableHlo.launchContents m c) = rv17 (m ((c : Thread nD τ).loc main_arg3)) := by
  rw [Reference9Ideal.Value.res_main_v17, res_v16]; rfl
theorem res_v18 : Reference9Ideal.Value.res_main_v18 (StableHlo.launchContents m c) = rv18 (m ((c : Thread nD τ).loc main_arg3)) := by
  rw [Reference9Ideal.Value.res_main_v18, res_v16]; rfl
theorem res_v27 : Reference9Ideal.Value.res_main_v27 (StableHlo.launchContents m c) = rv27 (m ((c : Thread nD τ).loc main_arg0)) := by
  rw [Reference9Ideal.Value.res_main_v27]; rfl
theorem res_v28 : Reference9Ideal.Value.res_main_v28 (StableHlo.launchContents m c) = rv28 (m ((c : Thread nD τ).loc main_arg0)) := by
  rw [Reference9Ideal.Value.res_main_v28, res_v27]; rfl
theorem res_v33 : Reference9Ideal.Value.res_main_v33 (StableHlo.launchContents m c) = rv33 (m ((c : Thread nD τ).loc main_arg0)) := by
  rw [Reference9Ideal.Value.res_main_v33, res_v28]; rfl
theorem res_v34 : Reference9Ideal.Value.res_main_v34 (StableHlo.launchContents m c) = rv34 (m ((c : Thread nD τ).loc main_arg4)) := by
  rw [Reference9Ideal.Value.res_main_v34]; rfl
theorem res_v36 : Reference9Ideal.Value.res_main_v36 (StableHlo.launchContents m c) = rv36 (m ((c : Thread nD τ).loc main_arg0)) (m ((c : Thread nD τ).loc main_arg4)) := by
  rw [Reference9Ideal.Value.res_main_v36, res_v33, res_v34]; rfl
theorem res_v49 : Reference9Ideal.Value.res_main_v49 (StableHlo.launchContents m c) = rv49 (m ((c : Thread nD τ).loc main_arg1)) := by
  rw [Reference9Ideal.Value.res_main_v49]; rfl
theorem res_v50 : Reference9Ideal.Value.res_main_v50 (StableHlo.launchContents m c) = rv50 (m ((c : Thread nD τ).loc main_arg1)) := by
  rw [Reference9Ideal.Value.res_main_v50, res_v49]; rfl
theorem res_v55 : Reference9Ideal.Value.res_main_v55 (StableHlo.launchContents m c) = rv55 (m ((c : Thread nD τ).loc main_arg1)) := by
  rw [Reference9Ideal.Value.res_main_v55, res_v50]; rfl
theorem res_v56 : Reference9Ideal.Value.res_main_v56 (StableHlo.launchContents m c) = rv56 (m ((c : Thread nD τ).loc main_arg5)) := by
  rw [Reference9Ideal.Value.res_main_v56]; rfl
theorem res_v58 : Reference9Ideal.Value.res_main_v58 (StableHlo.launchContents m c) = rv58 (m ((c : Thread nD τ).loc main_arg1)) (m ((c : Thread nD τ).loc main_arg5)) := by
  rw [Reference9Ideal.Value.res_main_v58, res_v55, res_v56]; rfl
theorem res_v62 : Reference9Ideal.Value.res_main_v62 (StableHlo.launchContents m c) = rv62 (m ((c : Thread nD τ).loc main_arg3)) := by
  rw [Reference9Ideal.Value.res_main_v62, res_v17]; rfl
theorem res_v63 : Reference9Ideal.Value.res_main_v63 (StableHlo.launchContents m c) = rv63 (m ((c : Thread nD τ).loc main_arg3)) := by
  rw [Reference9Ideal.Value.res_main_v63, res_v18]; rfl
theorem res_v97 : Reference9Ideal.Value.res_main_v97 (StableHlo.launchContents m c) = rv97 (m ((c : Thread nD τ).loc main_arg11)) := by
  rw [Reference9Ideal.Value.res_main_v97]; rfl
theorem res_v98 : Reference9Ideal.Value.res_main_v98 (StableHlo.launchContents m c) = rv98 (m ((c : Thread nD τ).loc main_arg11)) := by
  rw [Reference9Ideal.Value.res_main_v98, res_v97]; rfl
theorem res_v99 : Reference9Ideal.Value.res_main_v99 (StableHlo.launchContents m c) = rv99 (m ((c : Thread nD τ).loc main_arg11)) := by
  rw [Reference9Ideal.Value.res_main_v99, res_v97]; rfl
theorem res_v108 : Reference9Ideal.Value.res_main_v108 (StableHlo.launchContents m c) = rv108 (m ((c : Thread nD τ).loc main_arg9)) := by
  rw [Reference9Ideal.Value.res_main_v108]; rfl
theorem res_v109 : Reference9Ideal.Value.res_main_v109 (StableHlo.launchContents m c) = rv109 (m ((c : Thread nD τ).loc main_arg9)) := by
  rw [Reference9Ideal.Value.res_main_v109]; rfl
theorem res_v124 : Reference9Ideal.Value.res_main_v124 (StableHlo.launchContents m c) = rv124 (m ((c : Thread nD τ).loc main_arg10)) (m ((c : Thread nD τ).loc main_arg12)) := by
  rw [Reference9Ideal.Value.res_main_v124]; rfl
theorem res_v127 : Reference9Ideal.Value.res_main_v127 (StableHlo.launchContents m c) = rv127 (m ((c : Thread nD τ).loc main_arg7)) (m ((c : Thread nD τ).loc main_arg10)) (m ((c : Thread nD τ).loc main_arg12)) := by
  rw [Reference9Ideal.Value.res_main_v127, res_v124]; rfl
theorem res_v132 : Reference9Ideal.Value.res_main_v132 (StableHlo.launchContents m c) = rv132 (m ((c : Thread nD τ).loc main_arg5)) (m ((c : Thread nD τ).loc main_arg7)) (m ((c : Thread nD τ).loc main_arg10)) (m ((c : Thread nD τ).loc main_arg12)) := by
  rw [Reference9Ideal.Value.res_main_v132, res_v127, res_v56]; rfl
theorem res_v148 : Reference9Ideal.Value.res_main_v148 (StableHlo.launchContents m c) = rv148 (m ((c : Thread nD τ).loc main_arg3)) (m ((c : Thread nD τ).loc main_arg8)) (m ((c : Thread nD τ).loc main_arg9)) := by
  rw [Reference9Ideal.Value.res_main_v148, res_v108, res_v109, res_v62, res_v63]; rfl
theorem res_v151 : Reference9Ideal.Value.res_main_v151 (StableHlo.launchContents m c) = rv151 (m ((c : Thread nD τ).loc main_arg3)) (m ((c : Thread nD τ).loc main_arg6)) (m ((c : Thread nD τ).loc main_arg8)) (m ((c : Thread nD τ).loc main_arg9)) := by
  rw [Reference9Ideal.Value.res_main_v151, res_v148]; rfl
theorem res_v156 : Reference9Ideal.Value.res_main_v156 (StableHlo.launchContents m c) = rv156 (m ((c : Thread nD τ).loc main_arg3)) (m ((c : Thread nD τ).loc main_arg4)) (m ((c : Thread nD τ).loc main_arg6)) (m ((c : Thread nD τ).loc main_arg8)) (m ((c : Thread nD τ).loc main_arg9)) := by
  rw [Reference9Ideal.Value.res_main_v156, res_v151, res_v34]; rfl
theorem res_v171 : Reference9Ideal.Value.res_main_v171 (StableHlo.launchContents m c) = rv171 (m ((c : Thread nD τ).loc main_arg0)) (m ((c : Thread nD τ).loc main_arg3)) (m ((c : Thread nD τ).loc main_arg4)) (m ((c : Thread nD τ).loc main_arg8)) (m ((c : Thread nD τ).loc main_arg9)) := by
  rw [Reference9Ideal.Value.res_main_v171, res_v148, res_v36]; rfl

end Cert.Reference9Ideal.Prep
-- ==== Proof.PrepK.lean ====
/- The latent projections' backward call. -/
module

public import proofs.«01_k».proof.Proof.Gen.Kernel9Ideal.Value
public import proofs.«01_k».proof.Proof.Gate
public import Idealize.ShloMosaic.Lib.Pipeline.ValueKit

@[expose] public section

set_option maxRecDepth 16384

noncomputable section

namespace Cert.Prep

open Kernel9Ideal Kernel9Ideal.Gen Idealize.ShloMosaic TcCoe Idealize.SL.Sem
open scoped BigOperators

/-- Column `k` of block `b` of 128 columns. -/
def col (b : Fin 8) (k : Fin 128) : Fin 1024 := ⟨128 * b.val + k.val, by omega⟩

/-- A comparison of a lane's number with 32 or with 64 chooses. -/
theorem sel_64 (a b : EReal) (k : Fin 128) : Scalar.select (IntOp.cmpi CmpIPredicate.slt (BitVec.ofNat 32 k.val) 64#32) a b = if k.val < 64 then a else b := by
  have h : ∀ k : Fin 128, IntOp.cmpi CmpIPredicate.slt (BitVec.ofNat 32 k.val) 64#32 = if k.val < 64 then 1#1 else 0#1 := by decide
  rw [h]; split <;> rfl
theorem sel_32 (a b : EReal) (k : Fin 128) : Scalar.select (IntOp.cmpi CmpIPredicate.slt (BitVec.ofNat 32 k.val) 32#32) a b = if k.val < 32 then a else b := by
  have h : ∀ k : Fin 128, IntOp.cmpi CmpIPredicate.slt (BitVec.ofNat 32 k.val) 32#32 = if k.val < 32 then 1#1 else 0#1 := by decide
  rw [h]; split <;> rfl

section model
variable {n : ℕ} (N : EReal) (X D G : Fin n → EReal)

/-- The mean square of a row and the small constant, its reciprocal root, and that root's derivative. -/
def ms : EReal := Ideal.div (∑ k, X k * X k) N + Ideal.ofBits .f32 0x358637BD#32
def rs : EReal := Ideal.rsqrt (ms N X)
def ws : EReal := Ideal.ofBits .f32 0xBF000000#32 * Ideal.div (rs N X) (ms N X)
def sm : EReal := Ideal.div ((∑ k, X k * (D k * G k)) * ws N X) N

/-- The norm's gradients of the row, the row's part of the gain's gradient, and the norm's value. -/
def dX : Fin n → EReal := fun k => D k * G k * rs N X + X k * sm N X D G + sm N X D G * X k
def dG : Fin n → EReal := fun k => X k * rs N X * D k
def nX : Fin n → EReal := fun k => X k * rs N X * G k

/-- The rotation's transpose on a row of 128 columns, by the tables `C` and `S`. -/
def rt (C S g : Fin 128 → EReal) : Fin 128 → EReal := fun k =>
  (if k.val < 32 then g ⟨(k.val + 128 - 96) % 128, by omega⟩ * S ⟨(k.val + 128 - 96) % 128, by omega⟩
    else if k.val < 64 then g ⟨(k.val + 128 - 32) % 128, by omega⟩ * S ⟨(k.val + 128 - 32) % 128, by omega⟩ else 0) + g k * C k
end model

abbrev N512 : EReal := Ideal.ofBits .f32 0x44000000#32
abbrev N256 : EReal := Ideal.ofBits .f32 0x43800000#32
abbrev SC : EReal := Ideal.ofBits .f32 0x3DD53B95#32

variable (p : FVec Ideal S512x1 .f32) (f : FVec Ideal S1x128 .f32) (x : FVec Ideal S512x512 .bf16) (y : FVec Ideal S512x256 .bf16)
variable (gq : FVec Ideal S1x512 .f32) (gk : FVec Ideal S1x256 .f32) (wq : FVec Ideal S1024x512 .bf16) (wk : FVec Ideal S1024x256 .bf16)
variable (q0 q1 q2 q3 q4 q5 q6 q7 k0 k1 k2 k3 k4 k5 k6 k7 u0 u1 u2 u3 : FVec Ideal S512x128 .f32)
variable (r : Fin 512) (k : Fin 128)

variable (C S : FVec Ideal S512x128 .f32) (c : Fin 512) (e : Fin 256) (n : Fin 1024)
abbrev rw_ (a : FVec Ideal S512x128 .f32) : Fin 128 → EReal := fun k => a (ix2 r k)

abbrev v241 := k0_pay52 (F := Ideal) C S (k0_pay25 q0) (k0_pay26 q1) (k0_pay27 q2) (k0_pay28 q3)
  (k0_pay48 C S (k0_pay29 q4) (k0_pay30 q5) (k0_pay44 C S (k0_pay31 q6) (k0_pay32 q7))) (k0_pay50 S (k0_pay28 q3))
abbrev v220 := k0_pay51 (F := Ideal) (k0_pay33 k0) (k0_pay41 u0) (k0_pay49 (k0_pay35 k2) (k0_pay42 u1) (k0_pay45 (k0_pay39 k6) u2 u3) (k0_pay46 (k0_pay37 k4)) k0_pay47)
abbrev v119 := k0_pay43 (F := Ideal) (k0_pay34 k1) (k0_pay36 k3) (k0_pay38 k5) (k0_pay40 k7)
abbrev v254 := k0_pay56 (F := Ideal) C (v119 k1 k3 k5 k7) (k0_pay53 S (v119 k1 k3 k5 k7)) (iota .tc S512x128 32 [1] iota_S512x128_d1_w32)
  k0_pay54 (k0_pay55 S (v119 k1 k3 k5 k7)) 64#32

/-- The rotary tables at a column. -/
def cosv : Fin 128 → EReal := fun k => if k.val < 64 then Ideal.cos (p (ix2 r 0) * f (ix2 0 k)) else 0
def sinv : Fin 128 → EReal := fun k => if k.val < 32 then 0 - Ideal.sin (p (ix2 r 0) * f (ix2 0 k)) else if k.val < 64 then Ideal.sin (p (ix2 r 0) * f (ix2 0 k)) else 0

theorem cos_at : k0_pay7 (F := Ideal) p f (ix2 r k) = cosv p f r k := by
  pointwise [k0_pay7, k0_pay6]; rw [sel_64]; rfl
theorem sin_at : k0_pay8 (F := Ideal) p f (ix2 r k) = sinv p f r k := by
  pointwise [k0_pay8, k0_pay6]; rw [sel_32, sel_64]; rfl

theorem kr_at : k0_pay70 (F := Ideal) (v254 k1 k3 k5 k7 C S) (ix2 r k)
    = rt (rw_ r C) (rw_ r S) (fun j => k1 (ix2 r j) + k3 (ix2 r j) + k5 (ix2 r j) + k7 (ix2 r j)) k := by
  pointwise [k0_pay70, k0_pay56, k0_pay43, k0_pay53, k0_pay54, k0_pay55, k0_pay34, k0_pay36, k0_pay38, k0_pay40]
  rw [sel_32, sel_64]; rfl

theorem kv_0 : v220 k0 k2 k4 k6 u0 u1 u2 u3 (ix2 r (col 0 k)) = k0 (ix2 r k) := by
  have e : ((col 0 k : Fin 1024) : ℕ) = k.val := by show 128 * 0 + k.val = _; omega
  pointwise [k0_pay51, k0_pay33, k0_pay41, k0_pay49, k0_pay35, k0_pay42, k0_pay45, k0_pay39, k0_pay46, k0_pay37, k0_pay47]
  simp (disch := omega) only [e, dif_pos, dif_neg, zero_add, add_zero, Nat.add_sub_cancel_left]

theorem q_0 : v241 q0 q1 q2 q3 q4 q5 q6 q7 C S (ix2 r (col 0 k)) = q0 (ix2 r k) := by
  have e : ((col 0 k : Fin 1024) : ℕ) = k.val := by show 128 * 0 + k.val = _; omega
  pointwise [k0_pay52, k0_pay25, k0_pay26, k0_pay27, k0_pay28, k0_pay48, k0_pay29, k0_pay30, k0_pay44, k0_pay31, k0_pay32, k0_pay50]
  simp (disch := omega) only [e, dif_pos, dif_neg, zero_add, add_zero, Nat.add_sub_cancel_left]

theorem kv_1 : v220 k0 k2 k4 k6 u0 u1 u2 u3 (ix2 r (col 1 k)) = u0 (ix2 r k) := by
  have e : ((col 1 k : Fin 1024) : ℕ) = 128 + k.val := by show 128 * 1 + k.val = _; omega
  pointwise [k0_pay51, k0_pay33, k0_pay41, k0_pay49, k0_pay35, k0_pay42, k0_pay45, k0_pay39, k0_pay46, k0_pay37, k0_pay47]
  simp (disch := omega) only [e, dif_pos, dif_neg, zero_add, add_zero, Nat.add_sub_cancel_left]

theorem q_1 : v241 q0 q1 q2 q3 q4 q5 q6 q7 C S (ix2 r (col 1 k)) = q2 (ix2 r k) := by
  have e : ((col 1 k : Fin 1024) : ℕ) = 128 + k.val := by show 128 * 1 + k.val = _; omega
  pointwise [k0_pay52, k0_pay25, k0_pay26, k0_pay27, k0_pay28, k0_pay48, k0_pay29, k0_pay30, k0_pay44, k0_pay31, k0_pay32, k0_pay50]
  simp (disch := omega) only [e, dif_pos, dif_neg, zero_add, add_zero, Nat.add_sub_cancel_left]

theorem kv_2 : v220 k0 k2 k4 k6 u0 u1 u2 u3 (ix2 r (col 2 k)) = k2 (ix2 r k) := by
  have e : ((col 2 k : Fin 1024) : ℕ) = 256 + k.val := by show 128 * 2 + k.val = _; omega
  pointwise [k0_pay51, k0_pay33, k0_pay41, k0_pay49, k0_pay35, k0_pay42, k0_pay45, k0_pay39, k0_pay46, k0_pay37, k0_pay47]
  simp (disch := omega) only [e, dif_pos, dif_neg, zero_add, add_zero, Nat.add_sub_cancel_left]

theorem q_2 : v241 q0 q1 q2 q3 q4 q5 q6 q7 C S (ix2 r (col 2 k)) = q4 (ix2 r k) := by
  have e : ((col 2 k : Fin 1024) : ℕ) = 256 + k.val := by show 128 * 2 + k.val = _; omega
  pointwise [k0_pay52, k0_pay25, k0_pay26, k0_pay27, k0_pay28, k0_pay48, k0_pay29, k0_pay30, k0_pay44, k0_pay31, k0_pay32, k0_pay50]
  simp (disch := omega) only [e, dif_pos, dif_neg, zero_add, add_zero, Nat.add_sub_cancel_left]

theorem kv_3 : v220 k0 k2 k4 k6 u0 u1 u2 u3 (ix2 r (col 3 k)) = u1 (ix2 r k) := by
  have e : ((col 3 k : Fin 1024) : ℕ) = 384 + k.val := by show 128 * 3 + k.val = _; omega
  pointwise [k0_pay51, k0_pay33, k0_pay41, k0_pay49, k0_pay35, k0_pay42, k0_pay45, k0_pay39, k0_pay46, k0_pay37, k0_pay47]
  simp (disch := omega) only [e, dif_pos, dif_neg, zero_add, add_zero, Nat.add_sub_cancel_left]

theorem q_3 : v241 q0 q1 q2 q3 q4 q5 q6 q7 C S (ix2 r (col 3 k)) = q6 (ix2 r k) := by
  have e : ((col 3 k : Fin 1024) : ℕ) = 384 + k.val := by show 128 * 3 + k.val = _; omega
  pointwise [k0_pay52, k0_pay25, k0_pay26, k0_pay27, k0_pay28, k0_pay48, k0_pay29, k0_pay30, k0_pay44, k0_pay31, k0_pay32, k0_pay50]
  simp (disch := omega) only [e, dif_pos, dif_neg, zero_add, add_zero, Nat.add_sub_cancel_left]

theorem kv_4 : v220 k0 k2 k4 k6 u0 u1 u2 u3 (ix2 r (col 4 k)) = k4 (ix2 r k) := by
  have e : ((col 4 k : Fin 1024) : ℕ) = 512 + k.val := by show 128 * 4 + k.val = _; omega
  pointwise [k0_pay51, k0_pay33, k0_pay41, k0_pay49, k0_pay35, k0_pay42, k0_pay45, k0_pay39, k0_pay46, k0_pay37, k0_pay47]
  simp (disch := omega) only [e, dif_pos, dif_neg, zero_add, add_zero, Nat.add_sub_cancel_left]

theorem q_4 : v241 q0 q1 q2 q3 q4 q5 q6 q7 C S (ix2 r (col 4 k)) = rt (rw_ r C) (rw_ r S) (rw_ r q1) k := by
  have e : ((col 4 k : Fin 1024) : ℕ) = 512 + k.val := by show 128 * 4 + k.val = _; omega
  pointwise [k0_pay52, k0_pay25, k0_pay26, k0_pay27, k0_pay28, k0_pay48, k0_pay29, k0_pay30, k0_pay44, k0_pay31, k0_pay32, k0_pay50]
  simp (disch := omega) only [e, dif_pos, dif_neg, zero_add, add_zero, Nat.add_sub_cancel_left]
  rw [sel_32, sel_64]; rfl

theorem kv_5 : v220 k0 k2 k4 k6 u0 u1 u2 u3 (ix2 r (col 5 k)) = u2 (ix2 r k) := by
  have e : ((col 5 k : Fin 1024) : ℕ) = 640 + k.val := by show 128 * 5 + k.val = _; omega
  pointwise [k0_pay51, k0_pay33, k0_pay41, k0_pay49, k0_pay35, k0_pay42, k0_pay45, k0_pay39, k0_pay46, k0_pay37, k0_pay47]
  simp (disch := omega) only [e, dif_pos, dif_neg, zero_add, add_zero, Nat.add_sub_cancel_left]

theorem q_5 : v241 q0 q1 q2 q3 q4 q5 q6 q7 C S (ix2 r (col 5 k)) = rt (rw_ r C) (rw_ r S) (rw_ r q3) k := by
  have e : ((col 5 k : Fin 1024) : ℕ) = 640 + k.val := by show 128 * 5 + k.val = _; omega
  pointwise [k0_pay52, k0_pay25, k0_pay26, k0_pay27, k0_pay28, k0_pay48, k0_pay29, k0_pay30, k0_pay44, k0_pay31, k0_pay32, k0_pay50]
  simp (disch := omega) only [e, dif_pos, dif_neg, zero_add, add_zero, Nat.add_sub_cancel_left]
  rw [sel_32, sel_64]; rfl

theorem kv_6 : v220 k0 k2 k4 k6 u0 u1 u2 u3 (ix2 r (col 6 k)) = k6 (ix2 r k) := by
  have e : ((col 6 k : Fin 1024) : ℕ) = 768 + k.val := by show 128 * 6 + k.val = _; omega
  pointwise [k0_pay51, k0_pay33, k0_pay41, k0_pay49, k0_pay35, k0_pay42, k0_pay45, k0_pay39, k0_pay46, k0_pay37, k0_pay47]
  simp (disch := omega) only [e, dif_pos, dif_neg, zero_add, add_zero, Nat.add_sub_cancel_left]

theorem q_6 : v241 q0 q1 q2 q3 q4 q5 q6 q7 C S (ix2 r (col 6 k)) = rt (rw_ r C) (rw_ r S) (rw_ r q5) k := by
  have e : ((col 6 k : Fin 1024) : ℕ) = 768 + k.val := by show 128 * 6 + k.val = _; omega
  pointwise [k0_pay52, k0_pay25, k0_pay26, k0_pay27, k0_pay28, k0_pay48, k0_pay29, k0_pay30, k0_pay44, k0_pay31, k0_pay32, k0_pay50]
  simp (disch := omega) only [e, dif_pos, dif_neg, zero_add, add_zero, Nat.add_sub_cancel_left]
  rw [sel_32, sel_64]; rfl

theorem kv_7 : v220 k0 k2 k4 k6 u0 u1 u2 u3 (ix2 r (col 7 k)) = u3 (ix2 r k) := by
  have e : ((col 7 k : Fin 1024) : ℕ) = 896 + k.val := by show 128 * 7 + k.val = _; omega
  pointwise [k0_pay51, k0_pay33, k0_pay41, k0_pay49, k0_pay35, k0_pay42, k0_pay45, k0_pay39, k0_pay46, k0_pay37, k0_pay47]
  simp (disch := omega) only [e, dif_pos, dif_neg, zero_add, add_zero, Nat.add_sub_cancel_left]

theorem q_7 : v241 q0 q1 q2 q3 q4 q5 q6 q7 C S (ix2 r (col 7 k)) = rt (rw_ r C) (rw_ r S) (rw_ r q7) k := by
  have e : ((col 7 k : Fin 1024) : ℕ) = 896 + k.val := by show 128 * 7 + k.val = _; omega
  pointwise [k0_pay52, k0_pay25, k0_pay26, k0_pay27, k0_pay28, k0_pay48, k0_pay29, k0_pay30, k0_pay44, k0_pay31, k0_pay32, k0_pay50]
  simp (disch := omega) only [e, dif_pos, dif_neg, zero_add, add_zero, Nat.add_sub_cancel_left]
  rw [sel_32, sel_64]; rfl

abbrev xr (x : FVec Ideal S512x512 .bf16) (r : Fin 512) : Fin 512 → EReal := fun k => x (ix2 r k)
abbrev yr (y : FVec Ideal S512x256 .bf16) (r : Fin 512) : Fin 256 → EReal := fun k => y (ix2 r k)
variable (v : FVec Ideal S512x1024 .f32)
/-- The norms' cotangents before the gain: the products with the weights. -/
abbrev Dk : Fin 256 → EReal := fun e => ∑ n, v (ix2 r n) * wk (ix2 n e)
abbrev Dq : Fin 512 → EReal := fun c => ∑ n, v (ix2 r n) * SC * wq (ix2 n c)

theorem ckv_at : k0_pay69 (F := Ideal) (k0_pay61 (k0_pay10 y) (k0_pay12 gk) (k0_pay14 wk) (k0_pay21 (k0_pay10 y)) (k0_pay22 (k0_pay10 y)) v) (ix2 r e)
    = dX N256 (yr y r) (Dk wk r v) (fun k => gk (ix2 0 k)) e := by
  pointwise [k0_pay69, k0_pay61, k0_pay58, k0_pay57, k0_pay10, k0_pay12, k0_pay14, k0_pay21, k0_pay22, k0_pay20]
  simp only [zero_add, Fin.sum_univ_one]
  rfl

theorem gk_at (b : FVec Ideal S1x256 .f32) : k0_pay72 (F := Ideal) (k0_pay60 (k0_pay14 wk) (k0_pay23 (k0_pay10 y)) v) b (ix2 0 e)
    = b (ix2 0 e) + ∑ r, dG N256 (yr y r) (Dk wk r v) e := by
  pointwise [k0_pay72, k0_pay60, k0_pay58, k0_pay57, k0_pay10, k0_pay12, k0_pay14, k0_pay21, k0_pay23, k0_pay20]
  rfl

theorem wk_at (b : FVec Ideal S1024x256 .f32) : k0_pay1 (F := Ideal) (k0_pay59 (k0_pay24 (k0_pay10 y) gk) v) b (ix2 n e)
    = b (ix2 n e) + ∑ r, v (ix2 r n) * nX N256 (yr y r) (fun k => gk (ix2 0 k)) e := by
  pointwise [k0_pay1, k0_pay59, k0_pay57, k0_pay24, k0_pay10, k0_pay12, k0_pay21, k0_pay23, k0_pay20]
  rfl

theorem cq_at : k0_pay68 (F := Ideal) (k0_pay9 x) (k0_pay16 (k0_pay9 x)) (k0_pay17 (k0_pay9 x)) (k0_pay66 (k0_pay11 gq) (k0_pay13 wq) v) (k0_pay67 (k0_pay9 x) (k0_pay11 gq) (k0_pay13 wq) v) (ix2 r c)
    = dX N512 (xr x r) (Dq wq r v) (fun k => gq (ix2 0 k)) c := by
  pointwise [k0_pay68, k0_pay9, k0_pay16, k0_pay17, k0_pay66, k0_pay67, k0_pay63, k0_pay62, k0_pay11, k0_pay13, k0_pay15]
  simp only [zero_add, Fin.sum_univ_one]
  rfl

theorem gq_at (b : FVec Ideal S1x512 .f32) : k0_pay71 (F := Ideal) (k0_pay65 (k0_pay13 wq) (k0_pay18 (k0_pay9 x)) v) b (ix2 0 c)
    = b (ix2 0 c) + ∑ r, dG N512 (xr x r) (Dq wq r v) c := by
  pointwise [k0_pay71, k0_pay65, k0_pay63, k0_pay62, k0_pay13, k0_pay18, k0_pay9, k0_pay16, k0_pay15]
  rfl

theorem wq_at (b : FVec Ideal S1024x512 .f32) : k0_pay73 (F := Ideal) (k0_pay64 (k0_pay19 (k0_pay9 x) gq) v) b (ix2 n c)
    = b (ix2 n c) + ∑ r, v (ix2 r n) * SC * nX N512 (xr x r) (fun k => gq (ix2 0 k)) c := by
  pointwise [k0_pay73, k0_pay64, k0_pay62, k0_pay19, k0_pay18, k0_pay11, k0_pay9, k0_pay16, k0_pay15]
  rfl

end Cert.Prep
end
-- ==== Proof.PrepR.lean ====
/- The latent projections' backward call, the reference's results at a point. -/
module

public import proofs.«01_k».proof.Proof.PrepRef
public import proofs.«01_k».proof.Proof.PrepK

@[expose] public section

set_option maxRecDepth 16384

noncomputable section

namespace Cert.Prep

open Reference9Ideal Reference9Ideal.Value Reference9Ideal.Gen Idealize.ShloMosaic TcCoe Idealize.SL.Sem
open Reference9Ideal.Prep
open scoped BigOperators

/-- The rotation's transpose on a row of 64 columns at the angles `P * F i`, with 64 zeros after it. -/
def rot (P : EReal) (F : Fin 32 → EReal) (g : Fin 64 → EReal) (k : Fin 128) : EReal :=
  if h : k.val < 64 then
    if h' : k.val < 32 then g ⟨32 + k.val, by omega⟩ * Ideal.sin (P * F ⟨k.val, h'⟩) + g ⟨k.val, h⟩ * Ideal.cos (P * F ⟨k.val, h'⟩)
    else g ⟨32 + (k.val - 32), by omega⟩ * Ideal.cos (P * F ⟨k.val - 32, by omega⟩) + -g ⟨k.val - 32, by omega⟩ * Ideal.sin (P * F ⟨k.val - 32, by omega⟩)
  else 0

/-- The call's rotation by its tables is that one. -/
theorem rt_rot (p : FVec Ideal Kernel9Ideal.S512x1 .f32) (f : FVec Ideal Kernel9Ideal.S1x128 .f32) (r : Fin 512) (P : EReal) (F : Fin 32 → EReal)
    (hp : p (ix2 r 0) = P) (h0 : ∀ (i : Fin 128) (h : i.val < 32), f (ix2 0 i) = F ⟨i.val, h⟩)
    (h1 : ∀ (i : Fin 128) (h : 32 ≤ i.val) (h' : i.val < 64), f (ix2 0 i) = F ⟨i.val - 32, by omega⟩) (g : Fin 128 → EReal) (k : Fin 128) :
    rt (cosv p f r) (sinv p f r) g k = rot P F (fun j => g ⟨j.val, by omega⟩) k := by
  unfold rt rot
  by_cases hk : k.val < 32
  · have e : (⟨(k.val + 128 - 96) % 128, by omega⟩ : Fin 128) = ⟨32 + k.val, by omega⟩ := Fin.ext (by show (k.val + 128 - 96) % 128 = 32 + k.val; omega)
    have hk' : k.val < 64 := by omega
    have n1 : ¬ 32 + k.val < 32 := by omega
    have n2 : 32 + k.val < 64 := by omega
    rw [if_pos hk, dif_pos hk', dif_pos hk, e]
    simp only [cosv, sinv, n1, n2, hk', if_true, if_false, hp]
    rw [h0 k hk, h1 _ (by show 32 ≤ 32 + k.val; omega) n2]
    have e2 : (⟨32 + k.val - 32, by omega⟩ : Fin 32) = ⟨k.val, hk⟩ := Fin.ext (by show 32 + k.val - 32 = k.val; omega)
    rw [e2]
  · by_cases hk' : k.val < 64
    · have e : (⟨(k.val + 128 - 32) % 128, by omega⟩ : Fin 128) = ⟨k.val - 32, by omega⟩ := Fin.ext (by show (k.val + 128 - 32) % 128 = k.val - 32; omega)
      have n1 : k.val - 32 < 32 := by omega
      rw [if_neg hk, if_pos hk', dif_pos hk', dif_neg hk, e]
      simp only [cosv, sinv, n1, hk', if_true, hp]
      rw [h0 _ n1, h1 k (by omega) hk']
      have e2 : (⟨32 + (k.val - 32), by omega⟩ : Fin 128) = k := Fin.ext (by show 32 + (k.val - 32) = k.val; omega)
      rw [e2, add_comm, zero_sub, mul_neg, neg_mul]
    · rw [if_neg hk, if_neg hk', dif_neg hk']
      simp only [cosv, hk', if_false, mul_zero, add_zero]

variable (a0 : FVec Ideal S4096x512 .f32) (a1 : FVec Ideal S4096x256 .f32) (a3 : IVec S4096 32) (a4 : FVec Ideal S512 .f32) (a5 : FVec Ideal S256 .f32) (a6 : FVec Ideal S512x768 .f32) (a7 : FVec Ideal S256x1024 .f32) (a8 : FVec Ideal S4096x4x128 .f32) (a9 : FVec Ideal S4096x4x64 .f32) (a10 : FVec Ideal S4096x4x128 .f32) (a11 : FVec Ideal S4096x4x64 .f32) (a12 : FVec Ideal S4096x4x128 .f32)
variable (R : Fin 4096) (h : Fin 4) (k : Fin 128) (e : Fin 256) (c : Fin 512) (n : Fin 1024)

abbrev pos : EReal := (FloatOps.sitofp FTy.f32 (a3 (ix1 R)) : Ideal .f32)
abbrev frq : Fin 32 → EReal := fun i => rv10 (ix1 i)
abbrev r0 : Fin 512 → EReal := fun k => a0 (ix2 R k)
abbrev r1 : Fin 256 → EReal := fun k => a1 (ix2 R k)

/-- The keys' and values' cotangents, side by side for each head. -/
def KV : EReal := if h : n.val % 256 < 128 then a10 (ix3 R (⟨n.val / 256, by omega⟩ : Fin 4) (⟨n.val % 256, h⟩ : Fin 128)) else a12 (ix3 R (⟨n.val / 256, by omega⟩ : Fin 4) (⟨n.val % 256 - 128, by omega⟩ : Fin 128))

theorem rv124_at : rv124 a10 a12 (ix2 R n) = KV a10 a12 R n := by
  pointwise [rv124, rv93, rv92, rv91]
  have hn : n.val / 256 < 4 := by omega
  unfold KV
  by_cases h : n.val % 256 < 128
  · rw [dif_neg (by omega), dif_pos ⟨hn, h⟩, dif_pos h, zero_add]
  · rw [dif_pos (by omega), dif_neg (by omega), dif_neg h, add_zero]

/-- The queries' cotangents: the heads' plain columns, then their rotated columns with 64 zeros for each. -/
def QV : EReal := if h : n.val < 512 then a8 (ix3 R (⟨n.val / 128, by omega⟩ : Fin 4) (⟨n.val % 128, by omega⟩ : Fin 128))
  else rot (pos a3 R) frq (fun j => a9 (ix3 R (⟨(n.val - 512) / 128, by omega⟩ : Fin 4) j)) ⟨(n.val - 512) % 128, by omega⟩

theorem rv121_at (j : Fin 64) : rv121 a3 a9 (ix3 R h j) = rot (pos a3 R) frq (fun j => a9 (ix3 R h j)) ⟨j.val, by omega⟩ := by
  pointwise [rv121, fn_main_v121, rv120, rv117, rv119, rv118, rv116, rv115, rv114, rv113, rv112, rv111, rv110, rv109, rv108, rv62, rv63, rv17, rv18, rv16, rv15, rv14, rv13, rv12, rv11]
  unfold rot
  rw [dif_pos j.isLt]

/-- Where the call's padded column is among the heads' 192 columns. -/
def src : Option (Fin 768) := if h : n.val < 512 then some ⟨n.val / 128 * 192 + n.val % 128, by omega⟩
  else if h : (n.val - 512) % 128 < 64 then some ⟨(n.val - 512) / 128 * 192 + (128 + (n.val - 512) % 128), by omega⟩ else none

/-- A row over the 768 columns spread over the call's 1024. -/
def spread (f : Fin 768 → EReal) : EReal := if h : n.val < 512 then f ⟨n.val / 128 * 192 + n.val % 128, by omega⟩
  else if h : (n.val - 512) % 128 < 64 then f ⟨(n.val - 512) / 128 * 192 + (128 + (n.val - 512) % 128), by omega⟩ else 0

theorem sum_spread (f : Fin 768 → EReal) : ∑ j, f j = ∑ n, spread n f := by
  refine Finset.sum_of_injOn (fun j : Fin 768 => (if h : j.val % 192 < 128 then ⟨j.val / 192 * 128 + j.val % 192, by omega⟩ else ⟨512 + j.val / 192 * 128 + (j.val % 192 - 128), by omega⟩ : Fin 1024))
    (fun x _ y _ hxy => ?_) (fun _ _ => Finset.mem_coe.2 (Finset.mem_univ _)) (fun i _ hi => ?_) (fun j _ => ?_)
  · have hv := congrArg Fin.val hxy
    apply Fin.ext
    have hx := x.isLt
    have hy := y.isLt
    revert hv
    dsimp only
    split <;> split <;> intro hv <;> simp only at hv <;> omega
  · unfold spread
    by_cases h : i.val < 512
    · refine absurd ⟨⟨i.val / 128 * 192 + i.val % 128, by omega⟩, Finset.mem_coe.2 (Finset.mem_univ _), ?_⟩ hi
      dsimp only
      rw [dif_pos (by omega)]
      apply Fin.ext; simp only; omega
    · rw [dif_neg h]
      by_cases h' : (i.val - 512) % 128 < 64
      · refine absurd ⟨⟨(i.val - 512) / 128 * 192 + (128 + (i.val - 512) % 128), by omega⟩, Finset.mem_coe.2 (Finset.mem_univ _), ?_⟩ hi
        have hi := i.isLt
        dsimp only
        rw [dif_neg (by omega)]
        apply Fin.ext; simp only; omega
      · rw [dif_neg h']
  · have hj := j.isLt
    unfold spread
    by_cases h : j.val % 192 < 128
    · rw [dif_pos h, dif_pos (by simp only; omega)]
      congr 1
      apply Fin.ext; simp only; omega
    · rw [dif_neg h, dif_neg (by simp only; omega), dif_pos (by simp only; omega)]
      congr 1
      apply Fin.ext; simp only; omega

theorem spread_mul (f g : Fin 768 → EReal) : spread n (fun j => f j * g j) = spread n f * spread n g := by
  unfold spread
  split
  · rfl
  · split
    · rfl
    · rw [mul_zero]

theorem rv148_at (j : Fin 768) : rv148 a3 a8 a9 (ix2 R j) = (if h : j.val % 192 < 128 then a8 (ix3 R (⟨j.val / 192, by omega⟩ : Fin 4) (⟨j.val % 192, h⟩ : Fin 128))
    else rot (pos a3 R) frq (fun i => a9 (ix3 R (⟨j.val / 192, by omega⟩ : Fin 4) i)) ⟨j.val % 192 - 128, by omega⟩) * SC := by
  pointwise [rv148, rv147, rv146, rv123, rv122, rv94]
  have hn : j.val / 192 < 4 := by omega
  by_cases h : j.val % 192 < 128
  · rw [dif_pos ⟨hn, h⟩, dif_neg (by omega), dif_pos h, add_zero]
  · rw [dif_neg (by omega), dif_pos (by omega), dif_neg h, zero_add, rv121_at]

theorem rot_eq {P : EReal} {F : Fin 32 → EReal} {h h' : Fin 4} {k k' : Fin 128} (e : h = h') (e' : k = k') :
    rot P F (fun i => a9 (ix3 R h i)) k = rot P F (fun i => a9 (ix3 R h' i)) k' := by subst e e'; rfl

/-- The reference's scaled queries' cotangents, spread over the call's columns. -/
theorem q_spread : spread n (fun j => rv148 a3 a8 a9 (ix2 R j)) = QV a3 a8 a9 R n * SC := by
  unfold spread QV
  have hn := n.isLt
  by_cases h : n.val < 512
  · rw [dif_pos h, dif_pos h]; beta_reduce; rw [rv148_at, dif_pos (by simp only; omega)]
    congr 3
    · apply Fin.ext; simp only; omega
    · apply Fin.ext; simp only; omega
  · rw [dif_neg h, dif_neg h]
    by_cases h' : (n.val - 512) % 128 < 64
    · rw [dif_pos h']; beta_reduce; rw [rv148_at, dif_neg (by simp only; omega)]
      congr 1
      exact rot_eq a9 R (Fin.ext (by simp only; omega)) (Fin.ext (by simp only; omega))
    · rw [dif_neg h', rot, dif_neg h', zero_mul]

/-- The queries' weights, spread over the call's columns. -/
def WQ : EReal := spread n (fun j => a6 (ix2 c j))

theorem rv151_at : rv151 a3 a6 a8 a9 (ix2 R c) = ∑ n, QV a3 a8 a9 R n * SC * WQ a6 c n := by
  pointwise [rv151]
  rw [sum_spread]
  refine Finset.sum_congr rfl fun n _ => ?_
  rw [spread_mul n (fun j => rv148 a3 a8 a9 (ix2 R j)) (fun j => a6 (ix2 c j)), q_spread]; rfl

theorem rv127_at : rv127 a7 a10 a12 (ix2 R e) = ∑ n, KV a10 a12 R n * a7 (ix2 e n) := by
  pointwise [rv127]; simp only [rv124_at]

abbrev DQ : Fin 512 → EReal := fun c => ∑ n, QV a3 a8 a9 R n * SC * WQ a6 c n
abbrev DK : Fin 256 → EReal := fun e => ∑ n, KV a10 a12 R n * a7 (ix2 e n)

theorem rv27_at : rv27 a0 (ix2 R 0) = ms N512 (r0 a0 R) := by
  pointwise [rv27, rv26, rv25, rv24, rv23, rv22, rv19]; rfl
theorem rv49_at : rv49 a1 (ix2 R 0) = ms N256 (r1 a1 R) := by
  pointwise [rv49, rv48, rv47, rv46, rv45, rv44, rv41]; rfl

theorem two_f32 : Ideal.ofBits .f32 0x40000000#32 = ((2 : ℝ) : EReal) := by
  simp [Ideal.ofBits, Ideal.ieee, -EReal.coe_mul]; norm_num

theorem two_mul' (x : EReal) : ((2 : ℝ) : EReal) * x = x + x := by
  rw [show ((2 : ℝ) : EReal) = 1 + 1 by rw [← EReal.coe_one, ← EReal.coe_add]; norm_num, EReal.right_distrib_of_nonneg zero_le_one zero_le_one, one_mul]

theorem rv180_at : rv180 a0 a3 a4 a6 a8 a9 (ix2 R c) = dX N512 (r0 a0 R) (DQ a3 a6 a8 a9 R) (fun k => a4 (ix1 k)) c := by
  pointwise [rv180, rv169, rv168, rv167, rv166, rv165, rv164, rv163, rv162, rv161, rv160, rv159, rv158, rv156, rv155, rv34, rv31, rv30, rv29, rv28, rv21, rv20]
  simp only [Fin.sum_univ_one, rv27_at, rv151_at]
  rw [two_f32, mul_left_comm, two_mul', ← add_assoc, dX]
  congr 2
  exact mul_comm _ _

theorem rv181_at : rv181 a1 a5 a7 a10 a12 (ix2 R e) = dX N256 (r1 a1 R) (DK a7 a10 a12 R) (fun k => a5 (ix1 k)) e := by
  pointwise [rv181, rv145, rv144, rv143, rv142, rv141, rv140, rv139, rv138, rv137, rv136, rv135, rv134, rv132, rv131, rv56, rv53, rv52, rv51, rv50, rv43, rv42]
  simp only [Fin.sum_univ_one, rv49_at, rv127_at]
  rw [two_f32, mul_left_comm, two_mul', ← add_assoc, dX]
  congr 2
  exact mul_comm _ _

theorem rv182_at : rv182 a3 a11 (ix2 R k) = rot (pos a3 R) frq (fun j => ∑ h, a11 (ix3 R h j)) k := by
  pointwise [rv182, rv179, fn_main_v179, rv178, rv107, fn_main_v107, rv106, rv105, rv104, rv103, rv102, rv101, rv100, rv99, rv98, rv97, rv96, rv95]
  simp only [Fin.sum_univ_one]
  pointwise [rv18, rv17, rv16, rv15, rv14, rv13, rv12, rv11]
  rfl

theorem rv183_at : rv183 a0 a3 a6 a8 a9 (ix2 0 c) = ∑ R, dG N512 (r0 a0 R) (DQ a3 a6 a8 a9 R) c := by
  pointwise [rv183, rv157, rv154, rv153, rv152, rv33, rv32, rv28]
  simp only [Fin.sum_univ_one, rv27_at, rv151_at]; rfl

theorem rv184_at : rv184 a1 a7 a10 a12 (ix2 0 e) = ∑ R, dG N256 (r1 a1 R) (DK a7 a10 a12 R) e := by
  pointwise [rv184, rv133, rv130, rv129, rv128, rv55, rv54, rv50]
  simp only [Fin.sum_univ_one, rv49_at, rv127_at]; rfl

theorem rv36_at : rv36 a0 a4 (ix2 R c) = nX N512 (r0 a0 R) (fun k => a4 (ix1 k)) c := by
  pointwise [rv36, rv35, rv34, rv33, rv32, rv28]; rw [rv27_at]; rfl

theorem rv185_at : rv185 a0 a3 a4 a8 a9 (ix2 n c) = ∑ R, QV a3 a8 a9 R n * SC * nX N512 (r0 a0 R) (fun k => a4 (ix1 k)) c := by
  simp only [← q_spread]
  pointwise [rv185, fn_main_v185, rv177, rv176, fn_main_v176, rv175, rv174, rv173, rv172, rv171, rv170, rv150, rv149]
  simp only [rv36_at, spread]
  by_cases h : n.val < 512
  · simp only [dif_pos h]
  · by_cases h' : (n.val - 512) % 128 < 64
    · simp only [dif_neg h, dif_pos h']
    · simp only [dif_neg h, dif_neg h', zero_mul, Finset.sum_const_zero]

theorem rv186_at : rv186 a1 a5 a10 a12 (ix2 n e) = ∑ R, KV a10 a12 R n * nX N256 (r1 a1 R) (fun k => a5 (ix1 k)) e := by
  pointwise [rv186, rv126, rv125, rv58, rv57, rv56, rv55, rv54, rv50]
  simp only [rv124_at, rv49_at]; rfl

end Cert.Prep
end
-- ==== Proof.PrepH.lean ====
/- The latent projections' backward call, the host lines before it: what each packed array holds. -/
module

public import proofs.«01_k».proof.Proof.PrepR

@[expose] public section

set_option maxRecDepth 16384

noncomputable section

namespace Cert.Prep

open Kernel9Ideal Kernel9Ideal.Gen Idealize.ShloMosaic TcCoe Idealize.SL.Sem
open Reference9Ideal.Prep
open scoped BigOperators

section
variable (a0 : FVec Ideal S4096x512 .f32) (a1 : FVec Ideal S4096x256 .f32) (a2 : FVec Ideal S4096x64 .f32) (a3 : IVec S4096 32) (a6 : FVec Ideal S512x768 .f32) (a7 : FVec Ideal S256x1024 .f32) (a8 : FVec Ideal S4096x4x128 .f32) (a9 : FVec Ideal S4096x4x64 .f32) (a10 : FVec Ideal S4096x4x128 .f32) (a11 : FVec Ideal S4096x4x64 .f32) (a4 : FVec Ideal S512 .f32) (a5 : FVec Ideal S256 .f32) (a12 : FVec Ideal S4096x4x128 .f32)

def kv0 : FVec Ideal S4096 .f32 :=
  sitofp .f32 a3
def kv1 : FVec Ideal S4096x1 .f32 :=
  shapeCast _ (kv0 a3) shapeCasts_S4096_S4096x1
def kv2 : FVec Ideal S32 .f32 :=
  sitofp .f32 (iotaInDim S32 32 0)
def kv3 : FVec Ideal S32 .f32 :=
  broadcastInDim S32 ![] bcast_S_S32 (constant S_ .f32 0x40000000#32)
def kv4 : FVec Ideal S32 .f32 :=
  mulf kv3 kv2
def kv5 : FVec Ideal S32 .f32 :=
  broadcastInDim S32 ![] bcast_S_S32 (constant S_ .f32 0x00000000#32)
def kv6 : FVec Ideal S32 .f32 :=
  addf kv5 kv4
def kv7 : FVec Ideal S32 .f32 :=
  broadcastInDim S32 ![] bcast_S_S32 (constant S_ .f32 0x42800000#32)
def kv8 : FVec Ideal S32 .f32 :=
  Host.divf kv6 kv7
def kv9 : FVec Ideal S32 .f32 :=
  broadcastInDim S32 ![] bcast_S_S32 (constant S_ .f32 0x461C4000#32)
def kv10 : FVec Ideal S32 .f32 :=
  Host.powf kv9 kv8
def kv11 : FVec Ideal S32 .f32 :=
  broadcastInDim S32 ![] bcast_S_S32 (constant S_ .f32 0x3F800000#32)
def kv12 : FVec Ideal S32 .f32 :=
  Host.divf kv11 kv10
def kv13 : FVec Ideal S64 .f32 :=
  concatenate S64 0 [⟨S32, kv12⟩, ⟨S32, kv12⟩] concatenates_S32_S32_S64_d0
def kcall0_v0 : FVec Ideal S_ .f32 :=
  sitofp .f32 (constantI S_ 32 0#32)
def kv14 : FVec Ideal S128 .f32 :=
  pad S128 ![0] ![64] ![0] kv13 kcall0_v0 pads_S64_S128_0640 h_S_
def kv15 : FVec Ideal S1x128 .f32 :=
  shapeCast _ kv14 shapeCasts_S128_S1x128
def kv16 : FVec Ideal S4096x2048 .f32 :=
  broadcastInDim S4096x2048 ![] bcast_S_S4096x2048 (constant S_ .f32 0x00000000#32)
def kv17 : FVec Ideal S4096x128 .f32 :=
  broadcastInDim S4096x128 ![] bcast_S_S4096x128 (constant S_ .f32 0x00000000#32)
def kv18 : FVec Ideal S4096x64 .f32 :=
  broadcastInDim S4096x64 ![] bcast_S_S4096x64 (constant S_ .f32 0x00000000#32)
def kv19 : FVec Ideal S4096x3072 .f32 :=
  concatenate S4096x3072 1 [⟨S4096x2048, kv16⟩, ⟨S4096x512, a0⟩, ⟨S4096x256, a1⟩, ⟨S4096x128, kv17⟩, ⟨S4096x64, a2⟩, ⟨S4096x64, kv18⟩] concatenates_S4096x2048_S4096x512_S4096x256_S4096x128_S4096x64_S4096x64_S4096x3072_d1
def kv20 : FVec Ideal S4096x3072 .bf16 :=
  truncf .bf16 (kv19 a0 a1 a2) bitsLt_bf16_f32
def kv21 : FVec Ideal S4096x4x64 .f32 :=
  broadcastInDim S4096x4x64 ![] bcast_S_S4096x4x64 (constant S_ .f32 0x00000000#32)
def kv22 : FVec Ideal S4096x4x256 .f32 :=
  concatenate S4096x4x256 2 [⟨S4096x4x128, a8⟩, ⟨S4096x4x64, a9⟩, ⟨S4096x4x64, kv21⟩] concatenates_S4096x4x128_S4096x4x64_S4096x4x64_S4096x4x256_d2
def kv23 : FVec Ideal S4096x1024 .f32 :=
  shapeCast _ (kv22 a8 a9) shapeCasts_S4096x4x256_S4096x1024
def kv24 : FVec Ideal S4096x4x256 .f32 :=
  concatenate S4096x4x256 2 [⟨S4096x4x128, a10⟩, ⟨S4096x4x64, a11⟩, ⟨S4096x4x64, kv21⟩] concatenates_S4096x4x128_S4096x4x64_S4096x4x64_S4096x4x256_d2
def kv25 : FVec Ideal S4096x1024 .f32 :=
  shapeCast _ (kv24 a10 a11) shapeCasts_S4096x4x256_S4096x1024
def kv26 : FVec Ideal S1x512 .f32 :=
  shapeCast _ a4 shapeCasts_S512_S1x512
def kv27 : FVec Ideal S1x256 .f32 :=
  shapeCast _ a5 shapeCasts_S256_S1x256
def kv28 : FVec Ideal S768x512 .f32 :=
  transpose S768x512 [1, 0] a6 transposes_S512x768_S768x512_1_0
def kv29 : FVec Ideal S4x192x512 .f32 :=
  shapeCast _ (kv28 a6) shapeCasts_S768x512_S4x192x512
def kv30 : FVec Ideal S4x128x512 .f32 :=
  extractStridedSlice S4x128x512 ![0, 0, 0] (kv29 a6) slices_S4x192x512_S4x128x512_0_0_0
def kv31 : FVec Ideal S512x512 .f32 :=
  shapeCast _ (kv30 a6) shapeCasts_S4x128x512_S512x512
def kv32 : FVec Ideal S4x64x512 .f32 :=
  extractStridedSlice S4x64x512 ![0, 128, 0] (kv29 a6) slices_S4x192x512_S4x64x512_0_128_0
def kcall1_v0 : FVec Ideal S_ .f32 :=
  sitofp .f32 (constantI S_ 32 0#32)
def kv33 : FVec Ideal S4x128x512 .f32 :=
  pad S4x128x512 ![0, 0, 0] ![0, 64, 0] ![0, 0, 0] (kv32 a6) kcall1_v0 pads_S4x64x512_S4x128x512_000_0640_000 h_S_
def kv34 : FVec Ideal S512x512 .f32 :=
  shapeCast _ (kv33 a6) shapeCasts_S4x128x512_S512x512
def kv35 : FVec Ideal S1024x512 .f32 :=
  concatenate S1024x512 0 [⟨S512x512, (kv31 a6)⟩, ⟨S512x512, (kv34 a6)⟩] concatenates_S512x512_S512x512_S1024x512_d0
def kv36 : FVec Ideal S1024x512 .bf16 :=
  truncf .bf16 (kv35 a6) bitsLt_bf16_f32
def kv37 : FVec Ideal S1024x256 .f32 :=
  transpose S1024x256 [1, 0] a7 transposes_S256x1024_S1024x256_1_0
def kv38 : FVec Ideal S1024x256 .bf16 :=
  truncf .bf16 (kv37 a7) bitsLt_bf16_f32
def kv39 : FVec Ideal S4096x512 .f32 :=
  shapeCast _ a12 shapeCasts_S4096x4x128_S4096x512

variable (R : Fin 4096) (h : Fin 4) (k : Fin 128) (e : Fin 256) (c : Fin 512) (n : Fin 1024)

theorem kv20_0 : kv20 a0 a1 a2 (ix2 R (⟨2048 + c.val, by omega⟩ : Fin 3072)) = a0 (ix2 R c) := by
  pointwise [kv20, kv19]
theorem kv20_1 : kv20 a0 a1 a2 (ix2 R (⟨2560 + e.val, by omega⟩ : Fin 3072)) = a1 (ix2 R e) := by
  pointwise [kv20, kv19]
  rw [dif_neg (by omega), dif_neg (by omega), dif_pos (by omega)]
  congr 2; apply Fin.ext; simp only; omega
theorem kv1_at : kv1 a3 (ix2 R 0) = pos a3 R := by
  pointwise [kv1, kv0]
theorem kv12_eq : kv12 = rv10 := rfl
theorem kv15_0 (i : Fin 128) (h : i.val < 32) : kv15 (ix2 0 i) = frq ⟨i.val, h⟩ := by
  pointwise [kv15, kv14, kv13]
  rw [dif_pos (by omega), dif_pos h]; rfl
theorem kv15_1 (i : Fin 128) (h : 32 ≤ i.val) (h' : i.val < 64) : kv15 (ix2 0 i) = frq ⟨i.val - 32, by omega⟩ := by
  pointwise [kv15, kv14, kv13]
  rw [dif_pos h', dif_neg (by omega)]; rfl
theorem kv26_at : kv26 a4 (ix2 0 c) = a4 (ix1 c) := by pointwise [kv26]
theorem kv27_at : kv27 a5 (ix2 0 e) = a5 (ix1 e) := by pointwise [kv27]
theorem kv38_at : kv38 a7 (ix2 n e) = a7 (ix2 e n) := by pointwise [kv38, kv37]
theorem kv36_at : kv36 a6 (ix2 n c) = WQ a6 c n := by
  have z : kcall1_v0 (Shape.Idx.first h_S_) = 0 := by
    pointwise [kcall1_v0]
    show (((0#32 : BitVec 32).toInt : ℝ) : EReal) = 0
    simp
  pointwise [kv36, kv35, kv34, kv33, kv32, kv31, kv30, kv29, kv28]
  by_cases h : n.val < 512
  · have e : WQ a6 c n = a6 (ix2 c ⟨n.val / 128 * 192 + n.val % 128, by omega⟩) := by unfold WQ spread; exact dif_pos h
    exact (dif_pos h).trans e.symm
  · refine (dif_neg h).trans ?_
    by_cases h' : (n.val - 512) % 128 < 64
    · have e : WQ a6 c n = a6 (ix2 c ⟨(n.val - 512) / 128 * 192 + (128 + (n.val - 512) % 128), by omega⟩) := by
        unfold WQ spread; exact (dif_neg h).trans (dif_pos h')
      exact (dif_pos (show _ ∧ _ from ⟨by omega, h'⟩)).trans e.symm
    · have e : WQ a6 c n = 0 := by unfold WQ spread; exact (dif_neg h).trans (dif_neg h')
      exact (dif_neg (fun x => h' x.2)).trans (z.trans e.symm)
theorem kv39_at : kv39 a12 (ix2 R (⟨128 * h.val + k.val, by omega⟩ : Fin 512)) = a12 (ix3 R h k) := by
  pointwise [kv39]
theorem kv23_0 : kv23 a8 a9 (ix2 R (⟨128 * (2 * h.val) + k.val, by omega⟩ : Fin 1024)) = a8 (ix3 R h k) := by
  pointwise [kv23, kv22]
  rw [dif_pos (by omega)]
  congr 2; apply Fin.ext; simp only; omega
theorem kv23_1 (j : Fin 64) : kv23 a8 a9 (ix2 R (⟨128 * (2 * h.val + 1) + j.val, by omega⟩ : Fin 1024)) = a9 (ix3 R h j) := by
  pointwise [kv23, kv22]
  rw [dif_neg (by omega), dif_pos (by omega)]
  congr 2; apply Fin.ext; simp only; omega
theorem kv25_0 : kv25 a10 a11 (ix2 R (⟨128 * (2 * h.val) + k.val, by omega⟩ : Fin 1024)) = a10 (ix3 R h k) := by
  pointwise [kv25, kv24]
  rw [dif_pos (by omega)]
  congr 2; apply Fin.ext; simp only; omega
theorem kv25_1 (j : Fin 64) : kv25 a10 a11 (ix2 R (⟨128 * (2 * h.val + 1) + j.val, by omega⟩ : Fin 1024)) = a11 (ix3 R h j) := by
  pointwise [kv25, kv24]
  rw [dif_neg (by omega), dif_pos (by omega)]
  congr 2; apply Fin.ext; simp only; omega
end

variable (m : (ℓ : Loc nD τ sig) → Buf (Elt Ideal) ℓ) (c : Dev nD)

abbrev hostOps : List (HloOp τ sig (Elt Ideal)) := hostOps0 ++ (hostOps0_1 ++ (hostOps0_2 ++ (hostOps0_3 ++ hostOps0_4)))

theorem V_eq {b} : V m c b = StableHlo.after hostOps (fun b => m (c, b)) (Proc.devRef .tc b) := by
  show StableHlo.after (List.flatten [hostOps0, hostOps0_1, hostOps0_2, hostOps0_3, hostOps0_4]) (fun b => m (c, b)) _ = _
  simp only [List.flatten_cons, List.flatten_nil, List.append_nil]

theorem V_v1 : V m c main_v1 = kv1 (m ((c : Thread nD τ).loc main_arg3)) := by
  rw [V_eq]; simp only [hostOps, hostOps0, hostOps0_1, hostOps0_2, hostOps0_3, hostOps0_4, List.cons_append, List.nil_append]; after_results; rfl
theorem V_v15 : V m c main_v15 = kv15  := by
  rw [V_eq]; simp only [hostOps, hostOps0, hostOps0_1, hostOps0_2, hostOps0_3, hostOps0_4, List.cons_append, List.nil_append]; after_results; rfl
theorem V_v20 : V m c main_v20 = kv20 (m ((c : Thread nD τ).loc main_arg0)) (m ((c : Thread nD τ).loc main_arg1)) (m ((c : Thread nD τ).loc main_arg2)) := by
  rw [V_eq]; simp only [hostOps, hostOps0, hostOps0_1, hostOps0_2, hostOps0_3, hostOps0_4, List.cons_append, List.nil_append]; after_results; rfl
theorem V_v23 : V m c main_v23 = kv23 (m ((c : Thread nD τ).loc main_arg8)) (m ((c : Thread nD τ).loc main_arg9)) := by
  rw [V_eq]; simp only [hostOps, hostOps0, hostOps0_1, hostOps0_2, hostOps0_3, hostOps0_4, List.cons_append, List.nil_append]; after_results; rfl
theorem V_v25 : V m c main_v25 = kv25 (m ((c : Thread nD τ).loc main_arg10)) (m ((c : Thread nD τ).loc main_arg11)) := by
  rw [V_eq]; simp only [hostOps, hostOps0, hostOps0_1, hostOps0_2, hostOps0_3, hostOps0_4, List.cons_append, List.nil_append]; after_results; rfl
theorem V_v26 : V m c main_v26 = kv26 (m ((c : Thread nD τ).loc main_arg4)) := by
  rw [V_eq]; simp only [hostOps, hostOps0, hostOps0_1, hostOps0_2, hostOps0_3, hostOps0_4, List.cons_append, List.nil_append]; after_results; rfl
theorem V_v27 : V m c main_v27 = kv27 (m ((c : Thread nD τ).loc main_arg5)) := by
  rw [V_eq]; simp only [hostOps, hostOps0, hostOps0_1, hostOps0_2, hostOps0_3, hostOps0_4, List.cons_append, List.nil_append]; after_results; rfl
theorem V_v36 : V m c main_v36 = kv36 (m ((c : Thread nD τ).loc main_arg6)) := by
  rw [V_eq]; simp only [hostOps, hostOps0, hostOps0_1, hostOps0_2, hostOps0_3, hostOps0_4, List.cons_append, List.nil_append]; after_results; rfl
theorem V_v38 : V m c main_v38 = kv38 (m ((c : Thread nD τ).loc main_arg7)) := by
  rw [V_eq]; simp only [hostOps, hostOps0, hostOps0_1, hostOps0_2, hostOps0_3, hostOps0_4, List.cons_append, List.nil_append]; after_results; rfl
theorem V_v39 : V m c main_v39 = kv39 (m ((c : Thread nD τ).loc main_arg12)) := by
  rw [V_eq]; simp only [hostOps, hostOps0, hostOps0_1, hostOps0_2, hostOps0_3, hostOps0_4, List.cons_append, List.nil_append]; after_results; rfl

end Cert.Prep
end
-- ==== Proof.Prep.lean ====
/- The latent projections' backward call: its arrays are the reference's gradients. -/
module

public import proofs.«01_k».proof.Proof.PrepH

@[expose] public section

set_option maxRecDepth 16384

noncomputable section

namespace Cert.Prep

open Kernel9Ideal Kernel9Ideal.Gen Idealize.ShloMosaic TcCoe Idealize.SL.Sem
open Idealize.ShloMosaic.Pipeline (Dat)
open Reference9Ideal.Prep
open scoped BigOperators

theorem idx_val : ∀ t : Fin cfg0.N, win0_0.index t = ![t.val, 4] ∧ win0_1.index t = ![t.val, 10] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

variable (m : (ℓ : Loc nD τ sig) → Buf (Elt Ideal) ℓ) (c : Dev nD) (t : Fin cfg0.N)

abbrev A0 : FVec Ideal Reference9Ideal.S4096x512 .f32 := m ((c : Thread nD τ).loc main_arg0)
abbrev A1 : FVec Ideal Reference9Ideal.S4096x256 .f32 := m ((c : Thread nD τ).loc main_arg1)
abbrev A3 : IVec Reference9Ideal.S4096 32 := m ((c : Thread nD τ).loc main_arg3)
abbrev A4 : FVec Ideal Reference9Ideal.S512 .f32 := m ((c : Thread nD τ).loc main_arg4)
abbrev A5 : FVec Ideal Reference9Ideal.S256 .f32 := m ((c : Thread nD τ).loc main_arg5)
abbrev A6 : FVec Ideal Reference9Ideal.S512x768 .f32 := m ((c : Thread nD τ).loc main_arg6)
abbrev A7 : FVec Ideal Reference9Ideal.S256x1024 .f32 := m ((c : Thread nD τ).loc main_arg7)
abbrev A8 : FVec Ideal Reference9Ideal.S4096x4x128 .f32 := m ((c : Thread nD τ).loc main_arg8)
abbrev A9 : FVec Ideal Reference9Ideal.S4096x4x64 .f32 := m ((c : Thread nD τ).loc main_arg9)
abbrev A10 : FVec Ideal Reference9Ideal.S4096x4x128 .f32 := m ((c : Thread nD τ).loc main_arg10)
abbrev A11 : FVec Ideal Reference9Ideal.S4096x4x64 .f32 := m ((c : Thread nD τ).loc main_arg11)
abbrev A12 : FVec Ideal Reference9Ideal.S4096x4x128 .f32 := m ((c : Thread nD τ).loc main_arg12)

/-- The array's row a block's row is. -/
def at_ (r : Fin 512) : Fin 4096 := ⟨t.val * 512 + r.val, by have h : t.val < 8 := lt_of_lt_of_eq t.isLt N_0; have := r.isLt; omega⟩

theorem blk_0 (r : Fin 512) (k : Fin 512) : iblk m c 0 t (ix2 r k) = A0 m c (ix2 (at_ t r) k) := by
  have he : ((cfg0.win 0).blk t).view.emb (ix2 r k) = ix2 (at_ t r) (⟨2048 + k.val, by omega⟩ : Fin 3072) := by blk_ext [at_, idx_val t]
  show V m c main_v20 (((cfg0.win 0).blk t).view.emb (ix2 r k)) = _
  rw [he, V_v20]
  exact kv20_0 ..
theorem blk_1 (r : Fin 512) (k : Fin 256) : iblk m c 1 t (ix2 r k) = A1 m c (ix2 (at_ t r) k) := by
  have he : ((cfg0.win 1).blk t).view.emb (ix2 r k) = ix2 (at_ t r) (⟨2560 + k.val, by omega⟩ : Fin 3072) := by blk_ext [at_, idx_val t]
  show V m c main_v20 (((cfg0.win 1).blk t).view.emb (ix2 r k)) = _
  rw [he, V_v20]
  exact kv20_1 ..
theorem blk_3 (r : Fin 512) : iblk m c 3 t (ix2 r 0) = pos (A3 m c) (at_ t r) := by
  have he : ((cfg0.win 3).blk t).view.emb (ix2 r 0) = ix2 (at_ t r) 0 := by blk_ext [at_, idx_val t]
  show V m c main_v1 (((cfg0.win 3).blk t).view.emb (ix2 r 0)) = _
  rw [he, V_v1]
  exact kv1_at ..
theorem blk_4 (k : Fin 128) : iblk m c 4 t (ix2 0 k) = kv15 (ix2 0 k) := by
  have he : ((cfg0.win 4).blk t).view.emb (ix2 0 k) = ix2 0 k := by blk_ext [at_, idx_val t]
  show V m c main_v15 (((cfg0.win 4).blk t).view.emb (ix2 0 k)) = _
  rw [he, V_v15]
theorem blk_5 (k : Fin 512) : iblk m c 5 t (ix2 0 k) = A4 m c (ix1 k) := by
  have he : ((cfg0.win 5).blk t).view.emb (ix2 0 k) = ix2 0 k := by blk_ext [at_, idx_val t]
  show V m c main_v26 (((cfg0.win 5).blk t).view.emb (ix2 0 k)) = _
  rw [he, V_v26]
  exact kv26_at ..
theorem blk_6 (k : Fin 256) : iblk m c 6 t (ix2 0 k) = A5 m c (ix1 k) := by
  have he : ((cfg0.win 6).blk t).view.emb (ix2 0 k) = ix2 0 k := by blk_ext [at_, idx_val t]
  show V m c main_v27 (((cfg0.win 6).blk t).view.emb (ix2 0 k)) = _
  rw [he, V_v27]
  exact kv27_at ..
theorem blk_7 (n : Fin 1024) (k : Fin 512) : iblk m c 7 t (ix2 n k) = WQ (A6 m c) k n := by
  have he : ((cfg0.win 7).blk t).view.emb (ix2 n k) = ix2 n k := by blk_ext [at_, idx_val t]
  show V m c main_v36 (((cfg0.win 7).blk t).view.emb (ix2 n k)) = _
  rw [he, V_v36]
  exact kv36_at ..
theorem blk_8 (n : Fin 1024) (k : Fin 256) : iblk m c 8 t (ix2 n k) = A7 m c (ix2 k n) := by
  have he : ((cfg0.win 8).blk t).view.emb (ix2 n k) = ix2 n k := by blk_ext [at_, idx_val t]
  show V m c main_v38 (((cfg0.win 8).blk t).view.emb (ix2 n k)) = _
  rw [he, V_v38]
  exact kv38_at ..
theorem blk_9 (r : Fin 512) (n : Fin 1024) : iblk m c 9 t (ix2 r n) = kv23 (A8 m c) (A9 m c) (ix2 (at_ t r) n) := by
  have he : ((cfg0.win 9).blk t).view.emb (ix2 r n) = ix2 (at_ t r) n := by blk_ext [at_, idx_val t]
  show V m c main_v23 (((cfg0.win 9).blk t).view.emb (ix2 r n)) = _
  rw [he, V_v23]
theorem blk_10 (r : Fin 512) (n : Fin 1024) : iblk m c 10 t (ix2 r n) = kv25 (A10 m c) (A11 m c) (ix2 (at_ t r) n) := by
  have he : ((cfg0.win 10).blk t).view.emb (ix2 r n) = ix2 (at_ t r) n := by blk_ext [at_, idx_val t]
  show V m c main_v25 (((cfg0.win 10).blk t).view.emb (ix2 r n)) = _
  rw [he, V_v25]
theorem blk_11 (r : Fin 512) (n : Fin 512) : iblk m c 11 t (ix2 r n) = kv39 (A12 m c) (ix2 (at_ t r) n) := by
  have he : ((cfg0.win 11).blk t).view.emb (ix2 r n) = ix2 (at_ t r) n := by blk_ext [at_, idx_val t]
  show V m c main_v39 (((cfg0.win 11).blk t).view.emb (ix2 r n)) = _
  rw [he, V_v39]

/-- A load of 128 columns at an offset. -/
theorem ld_at (x : (⟨S512x1024, .f32⟩ : BufTy).Contents (Elt Ideal)) (o : ℕ) (inb : ∀ a, (![0, o] : Fin 2 → Nat) a + S512x128.size a ≤ S512x1024.size a) (r : Fin 512) (k : Fin 128) (hk : o + k.val < 1024) :
    (View.ld x (Rect.unit ![0, o] ![512, 128] inb) : FVec Ideal S512x128 .f32) (ix2 r k) = (x : FVec Ideal S512x1024 .f32) (ix2 r (⟨o + k.val, hk⟩ : Fin 1024)) := by
  show x _ = x _
  congr 1
  funext d; fin_cases d <;> apply Fin.ext
  · show 0 + 1 * r.val = r.val; omega
  · show o + 1 * k.val = o + k.val; omega

theorem ld_at4 (x : (⟨S512x512, .f32⟩ : BufTy).Contents (Elt Ideal)) (o : ℕ) (inb : ∀ a, (![0, o] : Fin 2 → Nat) a + S512x128.size a ≤ S512x512.size a) (r : Fin 512) (k : Fin 128) (hk : o + k.val < 512) :
    (View.ld x (Rect.unit ![0, o] ![512, 128] inb) : FVec Ideal S512x128 .f32) (ix2 r k) = (x : FVec Ideal S512x512 .f32) (ix2 r (⟨o + k.val, hk⟩ : Fin 512)) := by
  show x _ = x _
  congr 1
  funext d; fin_cases d <;> apply Fin.ext
  · show 0 + 1 * r.val = r.val; omega
  · show o + 1 * k.val = o + k.val; omega

theorem lq_0 (r : Fin 512) (k : Fin 128) : ((View.ld (iblk m c 9 t) (Rect.unit ![0, 0] ![512, 128] inb_S512x1024_S512x128_0_0)) : FVec Ideal S512x128 .f32) (ix2 r k) = A8 m c (ix3 (at_ t r) (⟨0, by decide⟩ : Fin 4) k) := by
  rw [ld_at _ 0 _ r k (by omega), blk_9]; exact kv23_0 _ _ _ (⟨0, by decide⟩ : Fin 4) k
theorem lk_0 (r : Fin 512) (k : Fin 128) : ((View.ld (iblk m c 10 t) (Rect.unit ![0, 0] ![512, 128] inb_S512x1024_S512x128_0_0)) : FVec Ideal S512x128 .f32) (ix2 r k) = A10 m c (ix3 (at_ t r) (⟨0, by decide⟩ : Fin 4) k) := by
  rw [ld_at _ 0 _ r k (by omega), blk_10]; exact kv25_0 _ _ _ (⟨0, by decide⟩ : Fin 4) k
theorem lq_1 (r : Fin 512) (j : Fin 64) : ((View.ld (iblk m c 9 t) (Rect.unit ![0, 128] ![512, 128] inb_S512x1024_S512x128_0_128)) : FVec Ideal S512x128 .f32) (ix2 r (⟨j.val, by omega⟩ : Fin 128)) = A9 m c (ix3 (at_ t r) (⟨0, by decide⟩ : Fin 4) j) := by
  rw [ld_at _ 128 _ r _ (by show 128 + j.val < 1024; omega), blk_9]; exact kv23_1 _ _ _ (⟨0, by decide⟩ : Fin 4) j
theorem lk_1 (r : Fin 512) (j : Fin 64) : ((View.ld (iblk m c 10 t) (Rect.unit ![0, 128] ![512, 128] inb_S512x1024_S512x128_0_128)) : FVec Ideal S512x128 .f32) (ix2 r (⟨j.val, by omega⟩ : Fin 128)) = A11 m c (ix3 (at_ t r) (⟨0, by decide⟩ : Fin 4) j) := by
  rw [ld_at _ 128 _ r _ (by show 128 + j.val < 1024; omega), blk_10]; exact kv25_1 _ _ _ (⟨0, by decide⟩ : Fin 4) j
theorem lq_2 (r : Fin 512) (k : Fin 128) : ((View.ld (iblk m c 9 t) (Rect.unit ![0, 256] ![512, 128] inb_S512x1024_S512x128_0_256)) : FVec Ideal S512x128 .f32) (ix2 r k) = A8 m c (ix3 (at_ t r) (⟨1, by decide⟩ : Fin 4) k) := by
  rw [ld_at _ 256 _ r k (by omega), blk_9]; exact kv23_0 _ _ _ (⟨1, by decide⟩ : Fin 4) k
theorem lk_2 (r : Fin 512) (k : Fin 128) : ((View.ld (iblk m c 10 t) (Rect.unit ![0, 256] ![512, 128] inb_S512x1024_S512x128_0_256)) : FVec Ideal S512x128 .f32) (ix2 r k) = A10 m c (ix3 (at_ t r) (⟨1, by decide⟩ : Fin 4) k) := by
  rw [ld_at _ 256 _ r k (by omega), blk_10]; exact kv25_0 _ _ _ (⟨1, by decide⟩ : Fin 4) k
theorem lq_3 (r : Fin 512) (j : Fin 64) : ((View.ld (iblk m c 9 t) (Rect.unit ![0, 384] ![512, 128] inb_S512x1024_S512x128_0_384)) : FVec Ideal S512x128 .f32) (ix2 r (⟨j.val, by omega⟩ : Fin 128)) = A9 m c (ix3 (at_ t r) (⟨1, by decide⟩ : Fin 4) j) := by
  rw [ld_at _ 384 _ r _ (by show 384 + j.val < 1024; omega), blk_9]; exact kv23_1 _ _ _ (⟨1, by decide⟩ : Fin 4) j
theorem lk_3 (r : Fin 512) (j : Fin 64) : ((View.ld (iblk m c 10 t) (Rect.unit ![0, 384] ![512, 128] inb_S512x1024_S512x128_0_384)) : FVec Ideal S512x128 .f32) (ix2 r (⟨j.val, by omega⟩ : Fin 128)) = A11 m c (ix3 (at_ t r) (⟨1, by decide⟩ : Fin 4) j) := by
  rw [ld_at _ 384 _ r _ (by show 384 + j.val < 1024; omega), blk_10]; exact kv25_1 _ _ _ (⟨1, by decide⟩ : Fin 4) j
theorem lq_4 (r : Fin 512) (k : Fin 128) : ((View.ld (iblk m c 9 t) (Rect.unit ![0, 512] ![512, 128] inb_S512x1024_S512x128_0_512)) : FVec Ideal S512x128 .f32) (ix2 r k) = A8 m c (ix3 (at_ t r) (⟨2, by decide⟩ : Fin 4) k) := by
  rw [ld_at _ 512 _ r k (by omega), blk_9]; exact kv23_0 _ _ _ (⟨2, by decide⟩ : Fin 4) k
theorem lk_4 (r : Fin 512) (k : Fin 128) : ((View.ld (iblk m c 10 t) (Rect.unit ![0, 512] ![512, 128] inb_S512x1024_S512x128_0_512)) : FVec Ideal S512x128 .f32) (ix2 r k) = A10 m c (ix3 (at_ t r) (⟨2, by decide⟩ : Fin 4) k) := by
  rw [ld_at _ 512 _ r k (by omega), blk_10]; exact kv25_0 _ _ _ (⟨2, by decide⟩ : Fin 4) k
theorem lq_5 (r : Fin 512) (j : Fin 64) : ((View.ld (iblk m c 9 t) (Rect.unit ![0, 640] ![512, 128] inb_S512x1024_S512x128_0_640)) : FVec Ideal S512x128 .f32) (ix2 r (⟨j.val, by omega⟩ : Fin 128)) = A9 m c (ix3 (at_ t r) (⟨2, by decide⟩ : Fin 4) j) := by
  rw [ld_at _ 640 _ r _ (by show 640 + j.val < 1024; omega), blk_9]; exact kv23_1 _ _ _ (⟨2, by decide⟩ : Fin 4) j
theorem lk_5 (r : Fin 512) (j : Fin 64) : ((View.ld (iblk m c 10 t) (Rect.unit ![0, 640] ![512, 128] inb_S512x1024_S512x128_0_640)) : FVec Ideal S512x128 .f32) (ix2 r (⟨j.val, by omega⟩ : Fin 128)) = A11 m c (ix3 (at_ t r) (⟨2, by decide⟩ : Fin 4) j) := by
  rw [ld_at _ 640 _ r _ (by show 640 + j.val < 1024; omega), blk_10]; exact kv25_1 _ _ _ (⟨2, by decide⟩ : Fin 4) j
theorem lq_6 (r : Fin 512) (k : Fin 128) : ((View.ld (iblk m c 9 t) (Rect.unit ![0, 768] ![512, 128] inb_S512x1024_S512x128_0_768)) : FVec Ideal S512x128 .f32) (ix2 r k) = A8 m c (ix3 (at_ t r) (⟨3, by decide⟩ : Fin 4) k) := by
  rw [ld_at _ 768 _ r k (by omega), blk_9]; exact kv23_0 _ _ _ (⟨3, by decide⟩ : Fin 4) k
theorem lk_6 (r : Fin 512) (k : Fin 128) : ((View.ld (iblk m c 10 t) (Rect.unit ![0, 768] ![512, 128] inb_S512x1024_S512x128_0_768)) : FVec Ideal S512x128 .f32) (ix2 r k) = A10 m c (ix3 (at_ t r) (⟨3, by decide⟩ : Fin 4) k) := by
  rw [ld_at _ 768 _ r k (by omega), blk_10]; exact kv25_0 _ _ _ (⟨3, by decide⟩ : Fin 4) k
theorem lq_7 (r : Fin 512) (j : Fin 64) : ((View.ld (iblk m c 9 t) (Rect.unit ![0, 896] ![512, 128] inb_S512x1024_S512x128_0_896)) : FVec Ideal S512x128 .f32) (ix2 r (⟨j.val, by omega⟩ : Fin 128)) = A9 m c (ix3 (at_ t r) (⟨3, by decide⟩ : Fin 4) j) := by
  rw [ld_at _ 896 _ r _ (by show 896 + j.val < 1024; omega), blk_9]; exact kv23_1 _ _ _ (⟨3, by decide⟩ : Fin 4) j
theorem lk_7 (r : Fin 512) (j : Fin 64) : ((View.ld (iblk m c 10 t) (Rect.unit ![0, 896] ![512, 128] inb_S512x1024_S512x128_0_896)) : FVec Ideal S512x128 .f32) (ix2 r (⟨j.val, by omega⟩ : Fin 128)) = A11 m c (ix3 (at_ t r) (⟨3, by decide⟩ : Fin 4) j) := by
  rw [ld_at _ 896 _ r _ (by show 896 + j.val < 1024; omega), blk_10]; exact kv25_1 _ _ _ (⟨3, by decide⟩ : Fin 4) j
theorem lu_0 (r : Fin 512) (k : Fin 128) : ((View.ld (iblk m c 11 t) (Rect.unit ![0, 0] ![512, 128] inb_S512x512_S512x128_0_0)) : FVec Ideal S512x128 .f32) (ix2 r k) = A12 m c (ix3 (at_ t r) (⟨0, by decide⟩ : Fin 4) k) := by
  rw [ld_at4 _ 0 _ r k (by omega), blk_11]; exact kv39_at _ _ (⟨0, by decide⟩ : Fin 4) k
theorem lu_1 (r : Fin 512) (k : Fin 128) : ((View.ld (iblk m c 11 t) (Rect.unit ![0, 128] ![512, 128] inb_S512x512_S512x128_0_128)) : FVec Ideal S512x128 .f32) (ix2 r k) = A12 m c (ix3 (at_ t r) (⟨1, by decide⟩ : Fin 4) k) := by
  rw [ld_at4 _ 128 _ r k (by omega), blk_11]; exact kv39_at _ _ (⟨1, by decide⟩ : Fin 4) k
theorem lu_2 (r : Fin 512) (k : Fin 128) : ((View.ld (iblk m c 11 t) (Rect.unit ![0, 256] ![512, 128] inb_S512x512_S512x128_0_256)) : FVec Ideal S512x128 .f32) (ix2 r k) = A12 m c (ix3 (at_ t r) (⟨2, by decide⟩ : Fin 4) k) := by
  rw [ld_at4 _ 256 _ r k (by omega), blk_11]; exact kv39_at _ _ (⟨2, by decide⟩ : Fin 4) k
theorem lu_3 (r : Fin 512) (k : Fin 128) : ((View.ld (iblk m c 11 t) (Rect.unit ![0, 384] ![512, 128] inb_S512x512_S512x128_0_384)) : FVec Ideal S512x128 .f32) (ix2 r k) = A12 m c (ix3 (at_ t r) (⟨3, by decide⟩ : Fin 4) k) := by
  rw [ld_at4 _ 384 _ r k (by omega), blk_11]; exact kv39_at _ _ (⟨3, by decide⟩ : Fin 4) k

/-- The rotary tables of a block, and the call's packed cotangents. -/
abbrev Ct := k0_pay7 (F := Ideal) (iblk m c 3 t) (iblk m c 4 t)
abbrev St := k0_pay8 (F := Ideal) (iblk m c 3 t) (iblk m c 4 t)
abbrev qv := v241 (View.ld (iblk m c 9 t) (Rect.unit ![0, 0] ![512, 128] inb_S512x1024_S512x128_0_0)) (View.ld (iblk m c 9 t) (Rect.unit ![0, 128] ![512, 128] inb_S512x1024_S512x128_0_128)) (View.ld (iblk m c 9 t) (Rect.unit ![0, 256] ![512, 128] inb_S512x1024_S512x128_0_256)) (View.ld (iblk m c 9 t) (Rect.unit ![0, 384] ![512, 128] inb_S512x1024_S512x128_0_384)) (View.ld (iblk m c 9 t) (Rect.unit ![0, 512] ![512, 128] inb_S512x1024_S512x128_0_512)) (View.ld (iblk m c 9 t) (Rect.unit ![0, 640] ![512, 128] inb_S512x1024_S512x128_0_640)) (View.ld (iblk m c 9 t) (Rect.unit ![0, 768] ![512, 128] inb_S512x1024_S512x128_0_768)) (View.ld (iblk m c 9 t) (Rect.unit ![0, 896] ![512, 128] inb_S512x1024_S512x128_0_896)) (Ct m c t) (St m c t)
abbrev kvv := v220 (View.ld (iblk m c 10 t) (Rect.unit ![0, 0] ![512, 128] inb_S512x1024_S512x128_0_0)) (View.ld (iblk m c 10 t) (Rect.unit ![0, 256] ![512, 128] inb_S512x1024_S512x128_0_256)) (View.ld (iblk m c 10 t) (Rect.unit ![0, 512] ![512, 128] inb_S512x1024_S512x128_0_512)) (View.ld (iblk m c 10 t) (Rect.unit ![0, 768] ![512, 128] inb_S512x1024_S512x128_0_768)) (View.ld (iblk m c 11 t) (Rect.unit ![0, 0] ![512, 128] inb_S512x512_S512x128_0_0)) (View.ld (iblk m c 11 t) (Rect.unit ![0, 128] ![512, 128] inb_S512x512_S512x128_0_128)) (View.ld (iblk m c 11 t) (Rect.unit ![0, 256] ![512, 128] inb_S512x512_S512x128_0_256)) (View.ld (iblk m c 11 t) (Rect.unit ![0, 384] ![512, 128] inb_S512x512_S512x128_0_384))
abbrev krv := v254 (View.ld (iblk m c 10 t) (Rect.unit ![0, 128] ![512, 128] inb_S512x1024_S512x128_0_128)) (View.ld (iblk m c 10 t) (Rect.unit ![0, 384] ![512, 128] inb_S512x1024_S512x128_0_384)) (View.ld (iblk m c 10 t) (Rect.unit ![0, 640] ![512, 128] inb_S512x1024_S512x128_0_640)) (View.ld (iblk m c 10 t) (Rect.unit ![0, 896] ![512, 128] inb_S512x1024_S512x128_0_896)) (Ct m c t) (St m c t)

theorem rt_row (r : Fin 512) (g : Fin 128 → EReal) (k : Fin 128) : rt (rw_ r (Ct m c t)) (rw_ r (St m c t)) g k
    = rot (pos (A3 m c) (at_ t r)) frq (fun j => g ⟨j.val, by omega⟩) k := by
  have e1 : rw_ r (Ct m c t) = cosv (iblk m c 3 t) (iblk m c 4 t) r := funext fun k => cos_at ..
  have e2 : rw_ r (St m c t) = sinv (iblk m c 3 t) (iblk m c 4 t) r := funext fun k => sin_at ..
  rw [e1, e2]
  exact rt_rot _ _ r _ _ (blk_3 m c t r) (fun i h => (blk_4 m c t i).trans (kv15_0 i h)) (fun i h h' => (blk_4 m c t i).trans (kv15_1 i h h')) g k

theorem split_col (n : Fin 1024) : ∃ (b : Fin 8) (k : Fin 128), n = col b k :=
  ⟨⟨n.val / 128, by omega⟩, ⟨n.val % 128, by omega⟩, Fin.ext (by show n.val = 128 * (n.val / 128) + n.val % 128; omega)⟩

theorem QV_lo (R : Fin 4096) (b : Fin 8) (h : Fin 4) (k : Fin 128) (hb : b.val = h.val) : QV (A3 m c) (A8 m c) (A9 m c) R (col b k) = A8 m c (ix3 R h k) := by
  have e : (col b k).val = 128 * b.val + k.val := rfl
  rw [QV, dif_pos (by omega)]
  congr 2 <;> apply Fin.ext <;> simp only [e] <;> omega

theorem QV_hi (R : Fin 4096) (b : Fin 8) (h : Fin 4) (k : Fin 128) (hb : b.val = 4 + h.val) : QV (A3 m c) (A8 m c) (A9 m c) R (col b k)
    = rot (pos (A3 m c) R) frq (fun j => A9 m c (ix3 R h j)) k := by
  have e : (col b k).val = 128 * b.val + k.val := rfl
  rw [QV, dif_neg (by omega)]
  exact rot_eq _ _ (Fin.ext (by simp only [e]; omega)) (Fin.ext (by simp only [e]; omega))

theorem KV_0 (R : Fin 4096) (b : Fin 8) (h : Fin 4) (k : Fin 128) (hb : b.val = 2 * h.val) : KV (A10 m c) (A12 m c) R (col b k) = A10 m c (ix3 R h k) := by
  have e : (col b k).val = 128 * b.val + k.val := rfl
  rw [KV, dif_pos (by omega)]
  congr 2 <;> apply Fin.ext <;> simp only [e] <;> omega

theorem KV_1 (R : Fin 4096) (b : Fin 8) (h : Fin 4) (k : Fin 128) (hb : b.val = 2 * h.val + 1) : KV (A10 m c) (A12 m c) R (col b k) = A12 m c (ix3 R h k) := by
  have e : (col b k).val = 128 * b.val + k.val := rfl
  rw [KV, dif_neg (by omega)]
  congr 2 <;> apply Fin.ext <;> simp only [e] <;> omega

theorem qv_col (r : Fin 512) (k : Fin 128) : ∀ b : Fin 8, qv m c t (ix2 r (col b k)) = QV (A3 m c) (A8 m c) (A9 m c) (at_ t r) (col b k)
  | 0 => by rw [qv, q_0, lq_0, QV_lo m c _ 0 (⟨0, by decide⟩ : Fin 4) k rfl]
  | 1 => by rw [qv, q_1, lq_2, QV_lo m c _ 1 (⟨1, by decide⟩ : Fin 4) k rfl]
  | 2 => by rw [qv, q_2, lq_4, QV_lo m c _ 2 (⟨2, by decide⟩ : Fin 4) k rfl]
  | 3 => by rw [qv, q_3, lq_6, QV_lo m c _ 3 (⟨3, by decide⟩ : Fin 4) k rfl]
  | 4 => by rw [qv, q_4, rt_row, QV_hi m c _ 4 (⟨0, by decide⟩ : Fin 4) k rfl]; congr 1; funext j; exact lq_1 m c t r j
  | 5 => by rw [qv, q_5, rt_row, QV_hi m c _ 5 (⟨1, by decide⟩ : Fin 4) k rfl]; congr 1; funext j; exact lq_3 m c t r j
  | 6 => by rw [qv, q_6, rt_row, QV_hi m c _ 6 (⟨2, by decide⟩ : Fin 4) k rfl]; congr 1; funext j; exact lq_5 m c t r j
  | 7 => by rw [qv, q_7, rt_row, QV_hi m c _ 7 (⟨3, by decide⟩ : Fin 4) k rfl]; congr 1; funext j; exact lq_7 m c t r j

theorem kv_col (r : Fin 512) (k : Fin 128) : ∀ b : Fin 8, kvv m c t (ix2 r (col b k)) = KV (A10 m c) (A12 m c) (at_ t r) (col b k)
  | 0 => by rw [kvv, kv_0, lk_0, KV_0 m c _ 0 (⟨0, by decide⟩ : Fin 4) k rfl]
  | 1 => by rw [kvv, kv_1, lu_0, KV_1 m c _ 1 (⟨0, by decide⟩ : Fin 4) k rfl]
  | 2 => by rw [kvv, kv_2, lk_2, KV_0 m c _ 2 (⟨1, by decide⟩ : Fin 4) k rfl]
  | 3 => by rw [kvv, kv_3, lu_1, KV_1 m c _ 3 (⟨1, by decide⟩ : Fin 4) k rfl]
  | 4 => by rw [kvv, kv_4, lk_4, KV_0 m c _ 4 (⟨2, by decide⟩ : Fin 4) k rfl]
  | 5 => by rw [kvv, kv_5, lu_2, KV_1 m c _ 5 (⟨2, by decide⟩ : Fin 4) k rfl]
  | 6 => by rw [kvv, kv_6, lk_6, KV_0 m c _ 6 (⟨3, by decide⟩ : Fin 4) k rfl]
  | 7 => by rw [kvv, kv_7, lu_3, KV_1 m c _ 7 (⟨3, by decide⟩ : Fin 4) k rfl]

theorem qv_at (r : Fin 512) (n : Fin 1024) : qv m c t (ix2 r n) = QV (A3 m c) (A8 m c) (A9 m c) (at_ t r) n := by
  obtain ⟨b, k, rfl⟩ := split_col n; exact qv_col m c t r k b
theorem kv_at (r : Fin 512) (n : Fin 1024) : kvv m c t (ix2 r n) = KV (A10 m c) (A12 m c) (at_ t r) n := by
  obtain ⟨b, k, rfl⟩ := split_col n; exact kv_col m c t r k b

theorem row_0 (r : Fin 512) : xr (iblk m c 0 t) r = r0 (A0 m c) (at_ t r) := funext fun k => blk_0 m c t r k
theorem row_1 (r : Fin 512) : yr (iblk m c 1 t) r = r1 (A1 m c) (at_ t r) := funext fun k => blk_1 m c t r k
theorem row_q (r : Fin 512) : Dq (iblk m c 7 t) r (qv m c t) = DQ (A3 m c) (A6 m c) (A8 m c) (A9 m c) (at_ t r) := funext fun k =>
  Finset.sum_congr rfl fun n _ => by rw [qv_at, blk_7]
theorem row_k (r : Fin 512) : Dk (iblk m c 8 t) r (kvv m c t) = DK (A7 m c) (A10 m c) (A12 m c) (at_ t r) := funext fun k =>
  Finset.sum_congr rfl fun n _ => by rw [kv_at, blk_8]
theorem row_5 : (fun k => iblk m c 5 t (ix2 0 k)) = (fun k => A4 m c (ix1 k)) := funext fun k => blk_5 m c t k
theorem row_6 : (fun k => iblk m c 6 t (ix2 0 k)) = (fun k => A5 m c (ix1 k)) := funext fun k => blk_6 m c t k

end Cert.Prep
end
-- ==== Proof.PrepF.lean ====
/- The latent projections' backward call: what its arrays hold at the end. -/
module

public import proofs.«01_k».proof.Proof.Prep

@[expose] public section

set_option maxRecDepth 16384

noncomputable section

namespace Cert.Prep

open Kernel9Ideal Kernel9Ideal.Gen Idealize.ShloMosaic TcCoe Idealize.SL.Sem
open Idealize.ShloMosaic.Pipeline (Dat)
open Reference9Ideal.Prep
open scoped BigOperators

variable (m : (ℓ : Loc nD τ sig) → Buf (Elt Ideal) ℓ) (c : Dev nD) (t : Fin cfg0.N)

abbrev X := iblk m c 0 t
abbrev Y := iblk m c 1 t
abbrev GQ := iblk m c 5 t
abbrev GK := iblk m c 6 t
abbrev W := iblk m c 7 t
abbrev U := iblk m c 8 t

/-- The arrays' values from the reference's lines. -/
abbrev R180 := rv180 (A0 m c) (A3 m c) (A4 m c) (A6 m c) (A8 m c) (A9 m c)
abbrev R181 := rv181 (A1 m c) (A5 m c) (A7 m c) (A10 m c) (A12 m c)
abbrev R182 := rv182 (A3 m c) (A11 m c)
abbrev R183 := rv183 (A0 m c) (A3 m c) (A6 m c) (A8 m c) (A9 m c)
abbrev R184 := rv184 (A1 m c) (A7 m c) (A10 m c) (A12 m c)
abbrev R185 := rv185 (A0 m c) (A3 m c) (A4 m c) (A8 m c) (A9 m c)
abbrev R186 := rv186 (A1 m c) (A5 m c) (A10 m c) (A12 m c)

theorem point_12 (y) : k0_pay68 (F := Ideal) (k0_pay9 (X m c t)) (k0_pay16 (k0_pay9 (X m c t))) (k0_pay17 (k0_pay9 (X m c t)))
    (k0_pay66 (k0_pay11 (GQ m c t)) (k0_pay13 (W m c t)) (qv m c t)) (k0_pay67 (k0_pay9 (X m c t)) (k0_pay11 (GQ m c t)) (k0_pay13 (W m c t)) (qv m c t)) y
    = R180 m c (((cfg0.win 12).blk t).view.emb y) := by
  obtain ⟨r, e, rfl⟩ : ∃ (r : Fin 512) (e : Fin 512), y = ix2 r e := ⟨y 0, y 1, by funext d; fin_cases d <;> rfl⟩
  have he : ((cfg0.win 12).blk t).view.emb (ix2 r e) = ix2 (at_ t r) e := by blk_ext [at_, idx_val t]
  rw [he, R180, rv180_at, ← row_0, ← row_q, ← row_5 m c t]
  exact cq_at ..

theorem point_13 (y) : k0_pay69 (F := Ideal) (k0_pay61 (k0_pay10 (Y m c t)) (k0_pay12 (GK m c t)) (k0_pay14 (U m c t)) (k0_pay21 (k0_pay10 (Y m c t))) (k0_pay22 (k0_pay10 (Y m c t))) (kvv m c t)) y
    = R181 m c (((cfg0.win 13).blk t).view.emb y) := by
  obtain ⟨r, e, rfl⟩ : ∃ (r : Fin 512) (e : Fin 256), y = ix2 r e := ⟨y 0, y 1, by funext d; fin_cases d <;> rfl⟩
  have he : ((cfg0.win 13).blk t).view.emb (ix2 r e) = ix2 (at_ t r) e := by blk_ext [at_, idx_val t]
  rw [he, R181, rv181_at, ← row_1, ← row_k, ← row_6 m c t]
  exact ckv_at ..

theorem point_14 (y) : k0_pay70 (F := Ideal) (krv m c t) y = R182 m c (((cfg0.win 14).blk t).view.emb y) := by
  obtain ⟨r, k, rfl⟩ : ∃ (r : Fin 512) (k : Fin 128), y = ix2 r k := ⟨y 0, y 1, by funext d; fin_cases d <;> rfl⟩
  have he : ((cfg0.win 14).blk t).view.emb (ix2 r k) = ix2 (at_ t r) k := by blk_ext [at_, idx_val t]
  rw [he, R182, rv182_at, krv, kr_at, rt_row]
  congr 1
  funext j
  simp only [lk_1, lk_3, lk_5, lk_7, Fin.sum_univ_four]
  rfl

theorem final_12 : (dats m 0 c).arrAt 12 (cfgs 0).N = R180 m c := by
  refine (dats m 0 c).arrAt_eq_of_covers 12 _ (by decide +kernel) fun t hf y => ?_
  blk_simp; rw [after0_12]
  by_cases ht : t.val % 8 = 0
  · rw [outsAt0_A m c t ht]; dsimp only; frame_out; exact point_12 m c t y
  · rw [outsAt0_B m c t ht]; dsimp only; frame_out; exact point_12 m c t y

theorem final_13 : (dats m 0 c).arrAt 13 (cfgs 0).N = R181 m c := by
  refine (dats m 0 c).arrAt_eq_of_covers 13 _ (by decide +kernel) fun t hf y => ?_
  blk_simp; rw [after0_13]
  by_cases ht : t.val % 8 = 0
  · rw [outsAt0_A m c t ht]; dsimp only; frame_out; exact point_13 m c t y
  · rw [outsAt0_B m c t ht]; dsimp only; frame_out; exact point_13 m c t y

theorem final_14 : (dats m 0 c).arrAt 14 (cfgs 0).N = R182 m c := by
  refine (dats m 0 c).arrAt_eq_of_covers 14 _ (by decide +kernel) fun t hf y => ?_
  blk_simp; rw [after0_14]
  by_cases ht : t.val % 8 = 0
  · rw [outsAt0_A m c t ht]; dsimp only; frame_out; exact point_14 m c t y
  · rw [outsAt0_B m c t ht]; dsimp only; frame_out; exact point_14 m c t y

/-- The reference's sum over its 4096 rows is the call's sum over eight blocks of 512. -/
theorem rows_sum (f : Fin 4096 → EReal) : ∑ p : Fin cfg0.N, ∑ r : Fin 512, f (at_ p r) = ∑ R, f R :=
  Fin.sum_mul_add_congr fun s k hl => rfl

theorem zero_15 (j : S1x512.Idx) : k0_pay2 (F := Ideal) j = 0 := by pointwise! [k0_pay2]
theorem zero_16 (j : S1x256.Idx) : k0_pay3 (F := Ideal) j = 0 := by pointwise! [k0_pay3]
theorem zero_17 (j : S1024x512.Idx) : k0_pay4 (F := Ideal) j = 0 := by pointwise! [k0_pay4]
theorem zero_18 (j : S1024x256.Idx) : k0_pay5 (F := Ideal) j = 0 := by pointwise! [k0_pay5]

/-- One row's part of each of the gains' and weights' gradients. -/
def row_15 (R : Fin 4096) (j : S1x512.Idx) : EReal := dG N512 (r0 (A0 m c) R) (DQ (A3 m c) (A6 m c) (A8 m c) (A9 m c) R) (j 1)
def row_16 (R : Fin 4096) (j : S1x256.Idx) : EReal := dG N256 (r1 (A1 m c) R) (DK (A7 m c) (A10 m c) (A12 m c) R) (j 1)
def row_17 (R : Fin 4096) (j : S1024x512.Idx) : EReal := QV (A3 m c) (A8 m c) (A9 m c) R (j 0) * SC * nX N512 (r0 (A0 m c) R) (fun k => A4 m c (ix1 k)) (j 1)
def row_18 (R : Fin 4096) (j : S1024x256.Idx) : EReal := KV (A10 m c) (A12 m c) R (j 0) * nX N256 (r1 (A1 m c) R) (fun k => A5 m c (ix1 k)) (j 1)

theorem step_15 (b : FVec Ideal S1x512 .f32) (j : S1x512.Idx) : k0_pay71 (F := Ideal) (k0_pay65 (k0_pay13 (W m c t)) (k0_pay18 (k0_pay9 (X m c t))) (qv m c t)) b j
    = b j + ∑ r, row_15 m c (at_ t r) j := by
  obtain ⟨k, rfl⟩ : ∃ k : Fin 512, j = ix2 0 k := ⟨j 1, by funext d; fin_cases d; exact Subsingleton.elim (α := Fin 1) _ _; rfl⟩
  simp only [row_15, ← row_0, ← row_q]
  exact gq_at ..

theorem step_16 (b : FVec Ideal S1x256 .f32) (j : S1x256.Idx) : k0_pay72 (F := Ideal) (k0_pay60 (k0_pay14 (U m c t)) (k0_pay23 (k0_pay10 (Y m c t))) (kvv m c t)) b j
    = b j + ∑ r, row_16 m c (at_ t r) j := by
  obtain ⟨k, rfl⟩ : ∃ k : Fin 256, j = ix2 0 k := ⟨j 1, by funext d; fin_cases d; exact Subsingleton.elim (α := Fin 1) _ _; rfl⟩
  simp only [row_16, ← row_1, ← row_k]
  exact gk_at ..

theorem step_17 (b : FVec Ideal S1024x512 .f32) (j : S1024x512.Idx) : k0_pay73 (F := Ideal) (k0_pay64 (k0_pay19 (k0_pay9 (X m c t)) (GQ m c t)) (qv m c t)) b j
    = b j + ∑ r, row_17 m c (at_ t r) j := by
  obtain ⟨n, k, rfl⟩ : ∃ (n : Fin 1024) (k : Fin 512), j = ix2 n k := ⟨j 0, j 1, by funext d; fin_cases d <;> rfl⟩
  refine (wq_at (X m c t) (GQ m c t) k n (qv m c t) b).trans (congrArg _ (Finset.sum_congr rfl fun r _ => ?_))
  rw [qv_at, row_0, row_5]; rfl

theorem step_18 (b : FVec Ideal S1024x256 .f32) (j : S1024x256.Idx) : k0_pay1 (F := Ideal) (k0_pay59 (k0_pay24 (k0_pay10 (Y m c t)) (GK m c t)) (kvv m c t)) b j
    = b j + ∑ r, row_18 m c (at_ t r) j := by
  obtain ⟨n, k, rfl⟩ : ∃ (n : Fin 1024) (k : Fin 256), j = ix2 n k := ⟨j 0, j 1, by funext d; fin_cases d <;> rfl⟩
  refine (wk_at (Y m c t) (GK m c t) k n (kvv m c t) b).trans (congrArg _ (Finset.sum_congr rfl fun r _ => ?_))
  rw [kv_at, row_1, row_6]; rfl

theorem sum_15 : (dats m 0 c).arrAt 15 (cfgs 0).N = fun j => ∑ R, row_15 m c R j := by
  refine (dats m 0 c).arrAt_eq_of_after_last 15 t0_7 (by decide +kernel) _ fun j => ?_
  blk_simp
  rw [after0_15, Pipeline.eq_sum_fin_of_reset_step_apply_last (fun n h => (outsAt0 m c n h).2.2.2.1) 8 (fun _ => 0) (fun t j => ∑ r, row_15 m c (at_ t r) j)
    (fun t h j => by rw [outsAt0_A m c t h]; frame_out; exact (step_15 m c t _ j).trans (by rw [zero_15]))
    (fun t h j => by rw [outsAt0_B m c t h]; frame_out; exact step_15 m c t _ j)
    (le_of_eq N_0) t0_7 rfl j, zero_add]
  exact rows_sum fun R => row_15 m c R j

theorem final_15 : (dats m 0 c).arrAt 15 (cfgs 0).N = R183 m c := by
  rw [sum_15]
  funext j
  obtain ⟨k, rfl⟩ : ∃ k : Fin 512, j = ix2 0 k := ⟨j 1, by funext d; fin_cases d; exact Subsingleton.elim (α := Fin 1) _ _; rfl⟩
  rw [R183, rv183_at]; rfl

theorem sum_16 : (dats m 0 c).arrAt 16 (cfgs 0).N = fun j => ∑ R, row_16 m c R j := by
  refine (dats m 0 c).arrAt_eq_of_after_last 16 t0_7 (by decide +kernel) _ fun j => ?_
  blk_simp
  rw [after0_16, Pipeline.eq_sum_fin_of_reset_step_apply_last (fun n h => (outsAt0 m c n h).2.2.2.2.1) 8 (fun _ => 0) (fun t j => ∑ r, row_16 m c (at_ t r) j)
    (fun t h j => by rw [outsAt0_A m c t h]; frame_out; exact (step_16 m c t _ j).trans (by rw [zero_16]))
    (fun t h j => by rw [outsAt0_B m c t h]; frame_out; exact step_16 m c t _ j)
    (le_of_eq N_0) t0_7 rfl j, zero_add]
  exact rows_sum fun R => row_16 m c R j

theorem final_16 : (dats m 0 c).arrAt 16 (cfgs 0).N = R184 m c := by
  rw [sum_16]
  funext j
  obtain ⟨k, rfl⟩ : ∃ k : Fin 256, j = ix2 0 k := ⟨j 1, by funext d; fin_cases d; exact Subsingleton.elim (α := Fin 1) _ _; rfl⟩
  rw [R184, rv184_at]; rfl

theorem sum_17 : (dats m 0 c).arrAt 17 (cfgs 0).N = fun j => ∑ R, row_17 m c R j := by
  refine (dats m 0 c).arrAt_eq_of_after_last 17 t0_7 (by decide +kernel) _ fun j => ?_
  blk_simp
  rw [after0_17, Pipeline.eq_sum_fin_of_reset_step_apply_last (fun n h => (outsAt0 m c n h).2.2.2.2.2.1) 8 (fun _ => 0) (fun t j => ∑ r, row_17 m c (at_ t r) j)
    (fun t h j => by rw [outsAt0_A m c t h]; frame_out; exact (step_17 m c t _ j).trans (by rw [zero_17]))
    (fun t h j => by rw [outsAt0_B m c t h]; frame_out; exact step_17 m c t _ j)
    (le_of_eq N_0) t0_7 rfl j, zero_add]
  exact rows_sum fun R => row_17 m c R j

theorem final_17 : (dats m 0 c).arrAt 17 (cfgs 0).N = R185 m c := by
  rw [sum_17]
  funext j
  obtain ⟨n, k, rfl⟩ : ∃ (n : Fin 1024) (k : Fin 512), j = ix2 n k := ⟨j 0, j 1, by funext d; fin_cases d <;> rfl⟩
  rw [R185, rv185_at]; rfl

theorem sum_18 : (dats m 0 c).arrAt 18 (cfgs 0).N = fun j => ∑ R, row_18 m c R j := by
  refine (dats m 0 c).arrAt_eq_of_after_last 18 t0_7 (by decide +kernel) _ fun j => ?_
  blk_simp
  rw [after0_18, Pipeline.eq_sum_fin_of_reset_step_apply_last (fun n h => (outsAt0 m c n h).2.2.2.2.2.2) 8 (fun _ => 0) (fun t j => ∑ r, row_18 m c (at_ t r) j)
    (fun t h j => by rw [outsAt0_A m c t h]; frame_out; exact (step_18 m c t _ j).trans (by rw [zero_18]))
    (fun t h j => by rw [outsAt0_B m c t h]; frame_out; exact step_18 m c t _ j)
    (le_of_eq N_0) t0_7 rfl j, zero_add]
  exact rows_sum fun R => row_18 m c R j

theorem final_18 : (dats m 0 c).arrAt 18 (cfgs 0).N = R186 m c := by
  rw [sum_18]
  funext j
  obtain ⟨n, k, rfl⟩ : ∃ (n : Fin 1024) (k : Fin 256), j = ix2 n k := ⟨j 0, j 1, by funext d; fin_cases d <;> rfl⟩
  rw [R186, rv186_at]; rfl

end Cert.Prep
end
-- ==== Proof.PrepClaim.lean ====
/- The claim of the latent projections' backward call. -/
module

public import proofs.«01_k».proof.Defs
public import proofs.«01_k».proof.Proof.PrepF
public import Idealize.ShloMosaic.Lib.Claim

@[expose] public section

set_option maxRecDepth 16384
set_option maxHeartbeats 2000000

noncomputable section

namespace Cert.Prep

open Idealize.ShloMosaic TcCoe Idealize.SL.Sem

/-- The reference keeps its arguments; it declares no semaphore. -/
theorem quiescent_reference : quiescent_Reference9Ideal := fun m g _ =>
  (θ_run Reference9Ideal.defs _ _).mono
    (fun r h => ⟨fun c => (h c).2.2.2.2.2.2.2, sem_eq_zero_of_no_sems (by decide) r.2⟩) (Reference9Ideal.Value.run m g)

section
open Reference9Ideal Reference9Ideal.Value Reference9Ideal.Gen Reference9Ideal.Prep
variable (m : (ℓ : Loc nD τ sig) → Buf (Elt Ideal) ℓ) (c : Dev nD)
theorem out_180 : (truncf .bf16 (addf (mulf (res_main_v156 (StableHlo.launchContents m c)) (broadcastInDim S4096x512 ![0, 1] bcast_S4096x1_S4096x512_0_1 (res_main_v28 (StableHlo.launchContents m c)))) (mulf (broadcastInDim S4096x512 ![0] bcast_S4096_S4096x512_0 (Host.reduceAdd (Host.divf (mulf (shapeCast _ (Host.reduceAdd (mulf (StableHlo.launchContents m c (Proc.devRef .tc main_arg0)) (res_main_v156 (StableHlo.launchContents m c))) (constant S_ .f32 0x00000000#32) reducesTo_S4096x512_S4096_d1 h_S_) shapeCasts_S4096_S4096x1) (mulf (broadcastInDim S4096x1 ![] bcast_S_S4096x1 (constant S_ .f32 0xBF000000#32)) (Host.divf (res_main_v28 (StableHlo.launchContents m c)) (res_main_v27 (StableHlo.launchContents m c))))) (broadcastInDim S4096x1 ![] bcast_S_S4096x1 (constant S_ .f32 0x44000000#32))) (constant S_ .f32 0x00000000#32) reducesTo_S4096x1_S4096_d1 h_S_)) (mulf (broadcastInDim S4096x512 ![] bcast_S_S4096x512 (constant S_ .f32 0x40000000#32)) (StableHlo.launchContents m c (Proc.devRef .tc main_arg0))))) bitsLt_bf16_f32 : FVec Ideal S4096x512 .bf16) = rv180 (m ((c : Thread nD τ).loc main_arg0)) (m ((c : Thread nD τ).loc main_arg3)) (m ((c : Thread nD τ).loc main_arg4)) (m ((c : Thread nD τ).loc main_arg6)) (m ((c : Thread nD τ).loc main_arg8)) (m ((c : Thread nD τ).loc main_arg9)) := by
  rw [res_v156, res_v27, res_v28]; rfl
theorem out_181 : (truncf .bf16 (addf (mulf (res_main_v132 (StableHlo.launchContents m c)) (broadcastInDim S4096x256 ![0, 1] bcast_S4096x1_S4096x256_0_1 (res_main_v50 (StableHlo.launchContents m c)))) (mulf (broadcastInDim S4096x256 ![0] bcast_S4096_S4096x256_0 (Host.reduceAdd (Host.divf (mulf (shapeCast _ (Host.reduceAdd (mulf (StableHlo.launchContents m c (Proc.devRef .tc main_arg1)) (res_main_v132 (StableHlo.launchContents m c))) (constant S_ .f32 0x00000000#32) reducesTo_S4096x256_S4096_d1 h_S_) shapeCasts_S4096_S4096x1) (mulf (broadcastInDim S4096x1 ![] bcast_S_S4096x1 (constant S_ .f32 0xBF000000#32)) (Host.divf (res_main_v50 (StableHlo.launchContents m c)) (res_main_v49 (StableHlo.launchContents m c))))) (broadcastInDim S4096x1 ![] bcast_S_S4096x1 (constant S_ .f32 0x43800000#32))) (constant S_ .f32 0x00000000#32) reducesTo_S4096x1_S4096_d1 h_S_)) (mulf (broadcastInDim S4096x256 ![] bcast_S_S4096x256 (constant S_ .f32 0x40000000#32)) (StableHlo.launchContents m c (Proc.devRef .tc main_arg1))))) bitsLt_bf16_f32 : FVec Ideal S4096x256 .bf16) = rv181 (m ((c : Thread nD τ).loc main_arg1)) (m ((c : Thread nD τ).loc main_arg5)) (m ((c : Thread nD τ).loc main_arg7)) (m ((c : Thread nD τ).loc main_arg10)) (m ((c : Thread nD τ).loc main_arg12)) := by
  rw [res_v132, res_v49, res_v50]; rfl
theorem out_182 : (truncf .bf16 (concatenate S4096x128 1 [⟨S4096x64, (concatenate S4096x64 1 [⟨S4096x32, (addf (mulf (res_main_v99 (StableHlo.launchContents m c)) (res_main_v18 (StableHlo.launchContents m c))) (mulf (res_main_v98 (StableHlo.launchContents m c)) (res_main_v17 (StableHlo.launchContents m c))))⟩, ⟨S4096x32, (addf (mulf (res_main_v99 (StableHlo.launchContents m c)) (res_main_v17 (StableHlo.launchContents m c))) (mulf (Host.negf (res_main_v98 (StableHlo.launchContents m c))) (res_main_v18 (StableHlo.launchContents m c))))⟩] concatenates_S4096x32_S4096x32_S4096x64_d1)⟩, ⟨S4096x64, (broadcastInDim S4096x64 ![] bcast_S_S4096x64 (constant S_ .f32 0x00000000#32))⟩] concatenates_S4096x64_S4096x64_S4096x128_d1) bitsLt_bf16_f32 : FVec Ideal S4096x128 .bf16) = rv182 (m ((c : Thread nD τ).loc main_arg3)) (m ((c : Thread nD τ).loc main_arg11)) := by
  rw [res_v17, res_v18, res_v98, res_v99]; rfl
theorem out_183 : (shapeCast _ (Host.reduceAdd (shapeCast _ (Host.reduceAdd (mulf (res_main_v33 (StableHlo.launchContents m c)) (res_main_v151 (StableHlo.launchContents m c))) (constant S_ .f32 0x00000000#32) reducesTo_S4096x512_S512_d0 h_S_) shapeCasts_S512_S1x512) (constant S_ .f32 0x00000000#32) reducesTo_S1x512_S512_d0 h_S_) shapeCasts_S512_S1x512 : FVec Ideal S1x512 .f32) = rv183 (m ((c : Thread nD τ).loc main_arg0)) (m ((c : Thread nD τ).loc main_arg3)) (m ((c : Thread nD τ).loc main_arg6)) (m ((c : Thread nD τ).loc main_arg8)) (m ((c : Thread nD τ).loc main_arg9)) := by
  rw [res_v151, res_v33]; rfl
theorem out_184 : (shapeCast _ (Host.reduceAdd (shapeCast _ (Host.reduceAdd (mulf (res_main_v55 (StableHlo.launchContents m c)) (res_main_v127 (StableHlo.launchContents m c))) (constant S_ .f32 0x00000000#32) reducesTo_S4096x256_S256_d0 h_S_) shapeCasts_S256_S1x256) (constant S_ .f32 0x00000000#32) reducesTo_S1x256_S256_d0 h_S_) shapeCasts_S256_S1x256 : FVec Ideal S1x256 .f32) = rv184 (m ((c : Thread nD τ).loc main_arg1)) (m ((c : Thread nD τ).loc main_arg7)) (m ((c : Thread nD τ).loc main_arg10)) (m ((c : Thread nD τ).loc main_arg12)) := by
  rw [res_v127, res_v55]; rfl
theorem out_185 : (concatenate S1024x512 0 [⟨S512x512, (shapeCast _ (extractStridedSlice S4x128x512 ![0, 0, 0] (res_main_v171 (StableHlo.launchContents m c)) slices_S4x192x512_S4x128x512_0_0_0) shapeCasts_S4x128x512_S512x512)⟩, ⟨S512x512, (shapeCast _ (concatenate S4x128x512 1 [⟨S4x64x512, (extractStridedSlice S4x64x512 ![0, 128, 0] (res_main_v171 (StableHlo.launchContents m c)) slices_S4x192x512_S4x64x512_0_128_0)⟩, ⟨S4x64x512, (broadcastInDim S4x64x512 ![] bcast_S_S4x64x512 (constant S_ .f32 0x00000000#32))⟩] concatenates_S4x64x512_S4x64x512_S4x128x512_d1) shapeCasts_S4x128x512_S512x512)⟩] concatenates_S512x512_S512x512_S1024x512_d0 : FVec Ideal S1024x512 .f32) = rv185 (m ((c : Thread nD τ).loc main_arg0)) (m ((c : Thread nD τ).loc main_arg3)) (m ((c : Thread nD τ).loc main_arg4)) (m ((c : Thread nD τ).loc main_arg8)) (m ((c : Thread nD τ).loc main_arg9)) := by
  rw [res_v171]; rfl
theorem out_186 : (transpose S1024x256 [1, 0] (transpose S256x1024 [1, 0] (Host.dotGeneral (φ₁ := .f32) (φ₂ := .f32) dot_S4096x1024_S4096x256_S1024x256_0_0_1_1_n_n none (res_main_v124 (StableHlo.launchContents m c)) (res_main_v58 (StableHlo.launchContents m c))) transposes_S1024x256_S256x1024_1_0) transposes_S256x1024_S1024x256_1_0 : FVec Ideal S1024x256 .f32) = rv186 (m ((c : Thread nD τ).loc main_arg1)) (m ((c : Thread nD τ).loc main_arg5)) (m ((c : Thread nD τ).loc main_arg10)) (m ((c : Thread nD τ).loc main_arg12)) := by
  rw [res_v124, res_v58]; rfl
end

theorem algebraic : algebraic_Kernel9Ideal_Reference9Ideal := by
  intro m g m' g' _ hagree
  refine ⟨_, _, _, _, _, _, _, Kernel9Ideal.Value.run_blocks m g,
    (θ_run Reference9Ideal.defs _ _).mono (fun r h c => ?_) (Reference9Ideal.Value.run m' g')⟩
  obtain ⟨h0, h1, h2, h3, h4, h5, h6, hk⟩ := h c
  obtain ⟨a0, a1, a2, a3, a4, a5, a6, a7, a8, a9, a10, a11, a12⟩ := hagree c
  refine ⟨?_, ?_, ?_, ?_, ?_, ?_, ?_, hk⟩
  · rw [h0, out_180, a0, a3, a4, a6, a8, a9]; exact (final_12 m c).symm
  · rw [h1, out_181, a1, a5, a7, a10, a12]; exact (final_13 m c).symm
  · rw [h2, out_182, a3, a11]; exact (final_14 m c).symm
  · rw [h3, out_183, a0, a3, a6, a8, a9]; exact (final_15 m c).symm
  · rw [h4, out_184, a1, a7, a10, a12]; exact (final_16 m c).symm
  · rw [h5, out_185, a0, a3, a4, a8, a9]; exact (final_17 m c).symm
  · rw [h6, out_186, a1, a5, a10, a12]; exact (final_18 m c).symm

end Cert.Prep
-- ==== Proof.FfnRun.lean ====
/- One grid point of the feed-forward gradients' call: what its body stores, from the blocks it reads and the partial sums it finds. -/
module

public import proofs.«01_k».proof.Proof.Gen.Kernel4Ideal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 16384

noncomputable section

namespace Cert.Ffn

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Kernel4Ideal Kernel4Ideal.Gen

variable {F : FTy → Type} [FloatOps F]

local notation "𝕄" => MT nD τ sig Unit (Elt F) ℕ (UR sig nD τ) ℕ

theorem rows_inb {R : ℕ} (h : R + 512 ≤ 4096) : ∀ a, (![R, 0] : Fin 2 → ℕ) a + S512x1024.size a ≤ S4096x1024.size a
  | ⟨0, _⟩ => h
  | ⟨1, _⟩ => le_refl 1024

theorem tile_inb (i : grid0.Coords) : 512 * (i 1).val + 512 ≤ 4096 := by
  have h : (i 1).val < 8 := (i 1).isLt
  omega

/-- The 512 rows from row `R` on of the partial sums. -/
abbrev rows (D : Vec F S4096x1024 .f32) {R : ℕ} (h : R + 512 ≤ 4096) : Vec F S512x1024 .f32 :=
  VecWindow.window D ![R, 0] S512x1024.size (rows_inb h)

abbrev putRows (D : Vec F S4096x1024 .f32) (R : ℕ) (w : Vec F S512x1024 .f32) : Vec F S4096x1024 .f32 :=
  VecWindow.put D ![R, 0] S512x1024.size w

/-- What was put into rows is read back from them. -/
theorem read_back {κ : Kind} {sp : Space} {s : Shape} {e : EltTy} (v : View sig κ sp s e) {off off' size : Fin s.rank → ℕ}
    (h : off = off') (inb : ∀ a, off a + size a ≤ s.size a) (inb' : ∀ a, off' a + size a ≤ s.size a)
    (w : (Rect.unit off size inb).shape.Idx → Elt F e) (L : List (View.Piece (Elt F) s e)) :
    v.readCov (⟨Rect.unit off size inb, w⟩ :: L) (Rect.unit off' size inb').toLoadRect = w := by
  subst h; exact View.readCov_cons_toLoadRect v _ w L

/-- A point of the first half of the columns: its share of the product is put into its rows. -/
theorem runFirst (c : Dev nD) (i : grid0.Coords) (h1 : k0_cond1 i = 1#1) (h2 : ¬ k0_cond2 i = 1#1) (h3 : ¬ k0_cond3 i = 1#1)
    (arg2 : Memref sig .tc .vmem S512x1024 .bf16) (harg2 : arg2.IsWhole) (arg3 : Memref sig .tc .vmem S1408x1024 .bf16) (harg3 : arg3.IsWhole) (arg4 : Memref sig .tc .vmem S512x1408 .bf16) (harg4 : arg4.IsWhole) (arg5 : Memref sig .tc .vmem S512x1408 .bf16) (harg5 : arg5.IsWhole) (arg6 : Memref sig .tc .vmem S1408x1024 .bf16) (harg6 : arg6.IsWhole) (arg7 : Memref sig .tc .vmem S1408x1024 .bf16) (harg7 : arg7.IsWhole) (arg8 : Memref sig .tc .vmem S512x1408 .bf16) (harg8 : arg8.IsWhole) (arg9 : Memref sig .tc .vmem S512x1408 .bf16) (harg9 : arg9.IsWhole) (arg10 : Memref sig .tc .vmem S512x1024 .bf16) (harg10 : arg10.IsWhole) (arg11 : Memref sig .tc .vmem S4096x1024 .f32) (harg11 : arg11.IsWhole)
    (x2 : Vec F S512x1024 .bf16) (x3 : Vec F S1408x1024 .bf16) (x4 x5 : Vec F S512x1408 .bf16) (x6 x7 : Vec F S1408x1024 .bf16)
    (D : Vec F S4096x1024 .f32) (K : PUnit → sProp 𝕄) :
    (iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7
      ∗ (∃ d, owns (c : Thread nD τ) arg8 fullShare d) ∗ (∃ d, owns (c : Thread nD τ) arg9 fullShare d)
      ∗ owns (c : Thread nD τ) arg11 fullShare D
      ∗ ((owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7
          ∗ owns (c : Thread nD τ) arg8 fullShare (k0_pay4 x2 x3 x4) ∗ owns (c : Thread nD τ) arg9 fullShare (k0_pay5 x2 x3 x5)
          ∗ owns (c : Thread nD τ) arg11 fullShare (putRows D (512 * (i 1).val) (k0_pay7 x2 x3 x4 x5 x6 x7)))
        -∗ K ⟨⟩)) : sProp 𝕄)
    ⊢ wp frame (wpE (defs₀ (F := F)) Variants.none (c : Thread nD τ) none) Set.univ
        (cc0_d_ffn (F := F) i arg2 harg2 arg3 harg3 arg4 harg4 arg5 harg5 arg6 harg6 arg7 harg7 arg8 harg8 arg9 harg9 arg10 harg10 arg11 harg11) K := by
  unfold cc0_d_ffn k0_part1 owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, %hf8, H8⟩, ⟨%d9, %f9, %hf9, H9⟩, ⟨%f11, %hf11, H11⟩, HK⟩
  sl_exec (disch := first | sl_exact h1 | sl_exact h2 | sl_exact h3)
  sl_step
  iapply HK
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  subst hf2 hf3 hf4 hf5 hf6 hf7 hf11
  isplitl [H8]
  · iexists _; isplitr; swap; · iexact H8
    ipureintro
    sl_unfold_run_names
    rw [View.read_writes_full, View.readAt_full, View.readAt_full, View.readAt_full]
    rfl
  isplitl [H9]
  · iexists _; isplitr; swap; · iexact H9
    ipureintro
    sl_unfold_run_names
    rw [View.read_writes_full, View.readAt_full, View.readAt_full, View.readAt_full]
    rfl
  iexists _; isplitr; swap; · iexact H11
  ipureintro
  sl_unfold_run_names
  rw [View.read_writes_cons_put arg11.view f11 _ _ _ (k0_off1_eq i)]
  rw [View.readAt_full arg2.view f2, View.readAt_full arg3.view f3, View.readAt_full arg4.view f4, View.readAt_full arg5.view f5,
    View.readAt_full arg6.view f6, View.readAt_full arg7.view f7]
  rfl

/-- A point of the second half: its share is added to its rows, and the sum goes out. -/
theorem runSecond (c : Dev nD) (i : grid0.Coords) (h1 : ¬ k0_cond1 i = 1#1) (h2 : k0_cond2 i = 1#1) (h3 : k0_cond3 i = 1#1)
    (arg2 : Memref sig .tc .vmem S512x1024 .bf16) (harg2 : arg2.IsWhole) (arg3 : Memref sig .tc .vmem S1408x1024 .bf16) (harg3 : arg3.IsWhole) (arg4 : Memref sig .tc .vmem S512x1408 .bf16) (harg4 : arg4.IsWhole) (arg5 : Memref sig .tc .vmem S512x1408 .bf16) (harg5 : arg5.IsWhole) (arg6 : Memref sig .tc .vmem S1408x1024 .bf16) (harg6 : arg6.IsWhole) (arg7 : Memref sig .tc .vmem S1408x1024 .bf16) (harg7 : arg7.IsWhole) (arg8 : Memref sig .tc .vmem S512x1408 .bf16) (harg8 : arg8.IsWhole) (arg9 : Memref sig .tc .vmem S512x1408 .bf16) (harg9 : arg9.IsWhole) (arg10 : Memref sig .tc .vmem S512x1024 .bf16) (harg10 : arg10.IsWhole) (arg11 : Memref sig .tc .vmem S4096x1024 .f32) (harg11 : arg11.IsWhole)
    (x2 : Vec F S512x1024 .bf16) (x3 : Vec F S1408x1024 .bf16) (x4 x5 : Vec F S512x1408 .bf16) (x6 x7 : Vec F S1408x1024 .bf16)
    (D : Vec F S4096x1024 .f32) (K : PUnit → sProp 𝕄) :
    (iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7
      ∗ (∃ d, owns (c : Thread nD τ) arg8 fullShare d) ∗ (∃ d, owns (c : Thread nD τ) arg9 fullShare d) ∗ (∃ d, owns (c : Thread nD τ) arg10 fullShare d)
      ∗ owns (c : Thread nD τ) arg11 fullShare D
      ∗ ((owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7
          ∗ owns (c : Thread nD τ) arg8 fullShare (k0_pay4 x2 x3 x4) ∗ owns (c : Thread nD τ) arg9 fullShare (k0_pay5 x2 x3 x5)
          ∗ owns (c : Thread nD τ) arg10 fullShare (k0_pay2 (k0_pay1 (k0_pay6 x2 x3 x4 x5 x6 x7) (rows D (tile_inb i))))
          ∗ owns (c : Thread nD τ) arg11 fullShare (putRows D (512 * (i 1).val) (k0_pay1 (k0_pay6 x2 x3 x4 x5 x6 x7) (rows D (tile_inb i)))))
        -∗ K ⟨⟩)) : sProp 𝕄)
    ⊢ wp frame (wpE (defs₀ (F := F)) Variants.none (c : Thread nD τ) none) Set.univ
        (cc0_d_ffn (F := F) i arg2 harg2 arg3 harg3 arg4 harg4 arg5 harg5 arg6 harg6 arg7 harg7 arg8 harg8 arg9 harg9 arg10 harg10 arg11 harg11) K := by
  unfold cc0_d_ffn k0_part1 owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, %hf8, H8⟩, ⟨%d9, %f9, %hf9, H9⟩, ⟨%d10, %f10, %hf10, H10⟩, ⟨%f11, %hf11, H11⟩, HK⟩
  sl_exec (disch := first | sl_exact h1 | sl_exact h2 | sl_exact h3)
  sl_step
  iapply HK
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  subst hf2 hf3 hf4 hf5 hf6 hf7 hf11
  isplitl [H8]
  · iexists _; isplitr; swap; · iexact H8
    ipureintro
    sl_unfold_run_names
    rw [View.read_writes_full, View.readAt_full, View.readAt_full, View.readAt_full]
    rfl
  isplitl [H9]
  · iexists _; isplitr; swap; · iexact H9
    ipureintro
    sl_unfold_run_names
    rw [View.read_writes_full, View.readAt_full, View.readAt_full, View.readAt_full]
    rfl
  isplitl [H10]
  · iexists _; isplitr; swap; · iexact H10
    ipureintro
    sl_unfold_run_names
    rw [View.read_writes_full, read_back arg11.view ((k0_off2_eq i).trans (k0_off3_eq i).symm),
      View.readAt_unit arg11.view f11 _ (k0_off2_eq i) (rows_inb (tile_inb i))]
    rw [View.readAt_full arg2.view f2, View.readAt_full arg3.view f3, View.readAt_full arg4.view f4, View.readAt_full arg5.view f5,
      View.readAt_full arg6.view f6, View.readAt_full arg7.view f7]
    rfl
  iexists _; isplitr; swap; · iexact H11
  ipureintro
  sl_unfold_run_names
  rw [View.read_writes_cons_put arg11.view f11 _ _ _ (k0_off2_eq i), View.readAt_unit arg11.view f11 _ (k0_off2_eq i) (rows_inb (tile_inb i))]
  rw [View.readAt_full arg2.view f2, View.readAt_full arg3.view f3, View.readAt_full arg4.view f4, View.readAt_full arg5.view f5,
    View.readAt_full arg6.view f6, View.readAt_full arg7.view f7]
  rfl

end Cert.Ffn
-- ==== Proof.FfnFrame.lean ====
/- The feed-forward gradients' call from every memory: its proof data over a scratch that carries the first half's partial sums, and its frame. -/
module

public import proofs.«01_k».proof.Proof.Gen.Kernel4Ideal.Frame
public import proofs.«01_k».proof.Proof.FfnRun
public import Idealize.ShloMosaic.Lib.Claim

@[expose] public section

set_option maxRecDepth 16384

noncomputable section

namespace Cert.Ffn

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Kernel4Ideal Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem tile_of (t : Fin cfg0.N) : (grid0.coords t 1).val = t.val % 8 :=
  (by decide +kernel : ∀ t : Fin grid0.N, (grid0.coords t 1).val = t.val % 8) t

theorem first_half (t : Fin cfg0.N) (h : t.val < 8) :
    k0_cond1 (grid0.coords t) = 1#1 ∧ ¬ k0_cond2 (grid0.coords t) = 1#1 ∧ ¬ k0_cond3 (grid0.coords t) = 1#1
      ∧ cfg0.idle 8 (cfg0.grid.coords t) = true ∧ (cfg0.win 8).flush t = false :=
  (by decide +kernel : ∀ t : Fin grid0.N, t.val < 8 →
    k0_cond1 (grid0.coords t) = 1#1 ∧ ¬ k0_cond2 (grid0.coords t) = 1#1 ∧ ¬ k0_cond3 (grid0.coords t) = 1#1
      ∧ cfg0.idle 8 (cfg0.grid.coords t) = true ∧ (cfg0.win 8).flush t = false) t h

theorem second_half (t : Fin cfg0.N) (h : 8 ≤ t.val) :
    ¬ k0_cond1 (grid0.coords t) = 1#1 ∧ k0_cond2 (grid0.coords t) = 1#1 ∧ k0_cond3 (grid0.coords t) = 1#1
      ∧ cfg0.idle 8 (cfg0.grid.coords t) = false :=
  (by decide +kernel : ∀ t : Fin grid0.N, 8 ≤ t.val →
    ¬ k0_cond1 (grid0.coords t) = 1#1 ∧ k0_cond2 (grid0.coords t) = 1#1 ∧ k0_cond3 (grid0.coords t) = 1#1
      ∧ cfg0.idle 8 (cfg0.grid.coords t) = false) t h

/-- A point's share of the third product, and the same as the first half stores it. -/
def share (c : Dev nD) (t : Fin cfg0.N) : FVec F S512x1024 .f32 :=
  k0_pay6 (iblk m c 0 t) (iblk m c 1 t) (iblk m c 2 t) (iblk m c 3 t) (iblk m c 4 t) (iblk m c 5 t)
def stored (c : Dev nD) (t : Fin cfg0.N) : FVec F S512x1024 .f32 :=
  k0_pay7 (iblk m c 0 t) (iblk m c 1 t) (iblk m c 2 t) (iblk m c 3 t) (iblk m c 4 t) (iblk m c 5 t)

/-- The point of the first half that has the rows of point `t`. -/
def mate (t : Fin cfg0.N) : Fin cfg0.N := ⟨t.val % 8, lt_of_le_of_lt (Nat.mod_le _ _) t.isLt⟩

/-- Both halves' shares added. -/
def total (c : Dev nD) (t : Fin cfg0.N) : FVec F S512x1024 .f32 := k0_pay1 (share m c t) (stored m c (mate t))

/-- Before point `n` the scratch holds, in the rows that the second half has not come to, the first half's shares so far. -/
def Held (c : Dev nD) (n : ℕ) (D : Vec F S4096x1024 .f32) : Prop :=
  ∀ (t : Fin cfg0.N) (h : t.val < 8), t.val < n → n ≤ 8 + t.val → rows D (R := 512 * t.val) (by omega) = stored m c t

theorem rows_put_ne (D : Vec F S4096x1024 .f32) {R R' : ℕ} (h : R' + 512 ≤ 4096) (hR : R + 512 ≤ R' ∨ R' + 512 ≤ R) (w : Vec F S512x1024 .f32) :
    rows (putRows D R w) h = rows D h :=
  VecWindow.window_put_of_disjoint D _ _ _ _ _ w 0 hR.symm

theorem rows_congr (D : Vec F S4096x1024 .f32) {R R' : ℕ} (hR : R = R') (h : R + 512 ≤ 4096) (h' : R' + 512 ≤ 4096) : rows D h = rows D h' := by
  subst hR; rfl

theorem rows_put_eq (D : Vec F S4096x1024 .f32) {R R' : ℕ} (h : R' + 512 ≤ 4096) (hR : R' = R) (w : Vec F S512x1024 .f32) :
    rows (putRows D R w) h = w := by
  subst hR; exact VecWindow.window_put_same D _ _ _ w

/-- A point of the first half adds its own rows. -/
theorem held_first (c : Dev nD) (t : Fin cfg0.N) (ht : t.val < 8) (D : Vec F S4096x1024 .f32) (h : Held m c t.val D) :
    Held m c (t.val + 1) (putRows D (512 * (grid0.coords t 1).val) (stored m c t)) := by
  intro s hs hlt hle
  have e := tile_of t
  by_cases hst : s = t
  · subst hst; exact rows_put_eq D _ (by omega) _
  · have : s.val ≠ t.val := fun h => hst (Fin.ext h)
    rw [rows_put_ne D (by omega) (by omega)]
    exact h s hs (by omega) (by omega)

/-- A point of the second half needs its rows for the last time. -/
theorem held_second (c : Dev nD) (t : Fin cfg0.N) (ht : 8 ≤ t.val) (D : Vec F S4096x1024 .f32) (h : Held m c t.val D) (w : Vec F S512x1024 .f32) :
    Held m c (t.val + 1) (putRows D (512 * (grid0.coords t 1).val) w) := by
  intro s hs hlt hle
  have e := tile_of t
  have hN : t.val < 16 := t.isLt
  rw [rows_put_ne D (by omega) (by omega)]
  exact h s hs (by omega) (by omega)

theorem held_rows (c : Dev nD) (t : Fin cfg0.N) (ht : 8 ≤ t.val) (D : Vec F S4096x1024 .f32) (h : Held m c t.val D) :
    rows D (tile_inb (grid0.coords t)) = stored m c (mate t) := by
  have hN : t.val < 16 := t.isLt
  have e : (mate t).val = t.val % 8 := rfl
  rw [← h (mate t) (by omega) (by omega) (by omega)]
  exact rows_congr D (by rw [tile_of t, e]) _ _

/-- The proof data: the arrays as the region finds them, and after each point the inputs' blocks and the gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (iblk m c 0 t) (iblk m c 1 t) (iblk m c 2 t)
    | ⟨7, _⟩ => k0_pay5 (iblk m c 0 t) (iblk m c 1 t) (iblk m c 3 t)
    | ⟨8, _⟩ => k0_pay2 (total m c t)
  Φ t := iprop((∃ D, ⌜Held m c t.val D⌝ ∗ owns (c : Thread nD τ) (Memref.whole cc0_scratch0) fullShare D) ∗ ∃ r, prngReg c r)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay4 (iblk m c 0 t) (iblk m c 1 t) (iblk m c 2 t) := by dsimp only [dats]
theorem after_7 (c : Dev nD) (t : Fin cfg0.N) : (dats m 0 c).after 7 t = k0_pay5 (iblk m c 0 t) (iblk m c 1 t) (iblk m c 3 t) := by dsimp only [dats]
theorem after_8 (c : Dev nD) (t : Fin cfg0.N) : (dats m 0 c).after 8 t = k0_pay2 (total m c t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

abbrev st_0 (t : Fin cfg0.N) : Memref sig .tc .vmem S512x1024 .bf16 := win0_0.stage (cfg0.slots t 0)
abbrev st_1 (t : Fin cfg0.N) : Memref sig .tc .vmem S1408x1024 .bf16 := win0_1.stage (cfg0.slots t 1)
abbrev st_2 (t : Fin cfg0.N) : Memref sig .tc .vmem S512x1408 .bf16 := win0_2.stage (cfg0.slots t 2)
abbrev st_3 (t : Fin cfg0.N) : Memref sig .tc .vmem S512x1408 .bf16 := win0_3.stage (cfg0.slots t 3)
abbrev st_4 (t : Fin cfg0.N) : Memref sig .tc .vmem S1408x1024 .bf16 := win0_4.stage (cfg0.slots t 4)
abbrev st_5 (t : Fin cfg0.N) : Memref sig .tc .vmem S1408x1024 .bf16 := win0_5.stage (cfg0.slots t 5)
abbrev st_6 (t : Fin cfg0.N) : Memref sig .tc .vmem S512x1408 .bf16 := win0_6.stage (cfg0.slots t 6)
abbrev st_7 (t : Fin cfg0.N) : Memref sig .tc .vmem S512x1408 .bf16 := win0_7.stage (cfg0.slots t 7)
abbrev st_8 (t : Fin cfg0.N) : Memref sig .tc .vmem S512x1024 .bf16 := win0_8.stage (cfg0.slots t 8)

/-- The third gradient's buffer at a point of the first half, which leaves it as it was, and of the second. -/
theorem leaves_first (c : Dev nD) (t : Fin cfg0.N) (h : t.val < 8) :
    (dats m 0 c).leavesExact 8 t = iprop(∃ d, owns (c : Thread nD τ) (st_8 t) fullShare ((dats m 0 c).before 8 t d)) :=
  (dats m 0 c).leavesExact_idle 8 t (first_half t h).2.2.2.1 (first_half t h).2.2.2.2
theorem leaves_second (c : Dev nD) (t : Fin cfg0.N) (h : 8 ≤ t.val) :
    (dats m 0 c).leavesExact 8 t = owns (c : Thread nD τ) (st_8 t) fullShare ((dats m 0 c).after 8 t) := by
  unfold Dat.leavesExact; rw [(second_half t h).2.2.2]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ d, owns (c : Thread nD τ) (st_5 t) fullShare ((dats m 0 c).before 5 t d))
    ∗ (∃ d, owns (c : Thread nD τ) (st_6 t) fullShare ((dats m 0 c).before 6 t d))
    ∗ (∃ d, owns (c : Thread nD τ) (st_7 t) fullShare ((dats m 0 c).before 7 t d))
    ∗ (∃ d, owns (c : Thread nD τ) (st_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t)
    ∗ owns (c : Thread nD τ) (st_3 t) fullShare ((dats m 0 c).after 3 t)
    ∗ owns (c : Thread nD τ) (st_4 t) fullShare ((dats m 0 c).after 4 t)
    ∗ owns (c : Thread nD τ) (st_5 t) fullShare ((dats m 0 c).after 5 t)
    ∗ owns (c : Thread nD τ) (st_6 t) fullShare ((dats m 0 c).after 6 t)
    ∗ owns (c : Thread nD τ) (st_7 t) fullShare ((dats m 0 c).after 7 t)
    ∗ (dats m 0 c).leavesExact 8 t)

set_option maxHeartbeats 2000000 in
theorem sound_first (c : Dev nD) (t : Fin cfg0.N) (ht : t.val < 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [leaves_first m c t ht,
    show (dats m 0 c).Φ t.castSucc = iprop((∃ D, ⌜Held m c t.val D⌝ ∗ owns (c : Thread nD τ) (Memref.whole cc0_scratch0) fullShare D) ∗ ∃ r, prngReg c r) from rfl,
    show (dats m 0 c).Φ t.succ = iprop((∃ D, ⌜Held m c (t.val + 1) D⌝ ∗ owns (c : Thread nD τ) (Memref.whole cc0_scratch0) fullShare D) ∗ ∃ r, prngReg c r) from rfl,
    show (dats m 0 c).owesAt () t.succ = (dats m 0 c).owesAt () t.castSucc from rfl,
    after_0, after_1, after_2, after_3, after_4, after_5, after_6, after_7]
  iintro ⟨⟨⟨%D, %hD, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (runFirst c (grid0.coords t) (first_half t ht).1 (first_half t ht).2.1 (first_half t ht).2.2.1 _ _ _ _ _ _ _ _ _ _ _ _ _ _ _ _ _ _ _ _ (iblk m c 0 t) (iblk m c 1 t) (iblk m c 2 t) (iblk m c 3 t) (iblk m c 4 t) (iblk m c 5 t) D)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS HP]
  · isplitl [HS]; swap; · iexact HP
    iexists _; isplitr; swap; · iexact HS
    ipureintro
    exact held_first m c t ht D hD
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
theorem sound_second (c : Dev nD) (t : Fin cfg0.N) (ht : 8 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [leaves_second m c t ht,
    show (dats m 0 c).Φ t.castSucc = iprop((∃ D, ⌜Held m c t.val D⌝ ∗ owns (c : Thread nD τ) (Memref.whole cc0_scratch0) fullShare D) ∗ ∃ r, prngReg c r) from rfl,
    show (dats m 0 c).Φ t.succ = iprop((∃ D, ⌜Held m c (t.val + 1) D⌝ ∗ owns (c : Thread nD τ) (Memref.whole cc0_scratch0) fullShare D) ∗ ∃ r, prngReg c r) from rfl,
    show (dats m 0 c).owesAt () t.succ = (dats m 0 c).owesAt () t.castSucc from rfl,
    after_0, after_1, after_2, after_3, after_4, after_5, after_6, after_7, after_8]
  iintro ⟨⟨⟨%D, %hD, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [total, share, ← held_rows m c t ht D hD]
  iapply (runSecond c (grid0.coords t) (second_half t ht).1 (second_half t ht).2.1 (second_half t ht).2.2.1 _ _ _ _ _ _ _ _ _ _ _ _ _ _ _ _ _ _ _ _ (iblk m c 0 t) (iblk m c 1 t) (iblk m c 2 t) (iblk m c 3 t) (iblk m c 4 t) (iblk m c 5 t) D)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  iintro ⟨H0, H1, H2, H3, H4, H5, H6, H7, H8, HS⟩
  isplitl [HS HP]
  · isplitl [HS]; swap; · iexact HP
    iexists _; isplitr; swap; · iexact HS
    ipureintro
    exact held_second m c t ht D hD _
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  rcases Nat.lt_or_ge t.val 8 with h | h
  · exact sound_first m c t h
  · exact sound_second m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Φ_eq (c : Dev nD) (t : Fin (cfg0.N + 1)) : (dats m 0 c).Φ t = iprop((∃ D, ⌜Held m c t.val D⌝ ∗ owns (c : Thread nD τ) (Memref.whole cc0_scratch0) fullShare D) ∗ ∃ r, prngReg c r) := by dsimp only [dats]

set_option maxHeartbeats 1000000 in
/-- The scratch as the region opens holds anything, -/
theorem start (c : Dev nD) : Pipeline.ΦA spec0 c ⊢ (dats m 0 c).Φ 0 := by
  unfold Pipeline.ΦA
  rw [scopedRest0_eq, Φ_eq]
  iintro ⟨⟨%f, H⟩, HP⟩
  isplitl [H]; swap; · iexact HP
  iexists f; isplitr; · ipureintro; exact fun s _ h => absurd h (Nat.not_lt_zero _)
  rw [owns_whole (c : Thread nD τ) cc0_scratch0 fullShare f]
  iexact H

set_option maxHeartbeats 1000000 in
/-- and what it holds at the end is forgotten. -/
theorem finish (c : Dev nD) : (dats m 0 c).Φ (Fin.last cfg0.N) ⊢ Pipeline.ΦA spec0 c := by
  unfold Pipeline.ΦA
  rw [scopedRest0_eq, Φ_eq]
  iintro ⟨⟨%D, %hD, H⟩, HP⟩
  isplitl [H]; swap; · iexact HP
  iexists D
  rw [owns_whole (c : Thread nD τ) cc0_scratch0 fullShare D]
  exact .rfl

set_option backward.isDefEq.respectTransparency.types false in
set_option maxHeartbeats 800000 in
/-- The run: every final state holds the arrays as the points leave them, and counters at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := start m) (hout := finish m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Ffn
-- ==== Proof.FfnArr.lean ====
/- What the feed-forward gradients' region leaves in its three result arrays, as sums over the arrays it is launched with. -/
module

public import proofs.«01_k».proof.Proof.FfnFrame
public import Idealize.ShloMosaic.Lib.Pipeline.ValueKit

@[expose] public section

set_option maxRecDepth 16384

noncomputable section

namespace Cert.Ffn

open Idealize.ShloMosaic TcCoe Idealize.ShloMosaic.Tactic
open Idealize.SL.Sem
open Idealize.ShloMosaic.Pipeline (Dat)
open Kernel4Ideal Kernel4Ideal.Gen
open scoped BigOperators

/-- Column `e` of half `j`. -/
abbrev hcol (j : Fin 2) (e : Fin 1408) : Fin 2816 := ⟨1408 * j.val + e.val, by omega⟩

section
variable (DF : FVec Ideal S4096x1024 .bf16) (WD WG WU : FVec Ideal S2816x1024 .bf16) (AG AU : FVec Ideal S4096x2816 .bf16)

/-- The cotangent of the product's left factor, -/
def dact (r : Fin 4096) (f : Fin 2816) : EReal := ∑ k, DF (ix2 r k) * WD (ix2 f k)

/-- the gradients of the two inner products, -/
def arrG : FVec Ideal S4096x2816 .bf16 := fun i => dact DF WD (i 0) (i 1) * AG i

/-- and that of the input. -/
def arrH : FVec Ideal S4096x1024 .bf16 := fun i =>
  (∑ f, arrG DF WD AG (ix2 (i 0) f) * WG (ix2 f (i 1))) + ∑ f, arrG DF WD AU (ix2 (i 0) f) * WU (ix2 f (i 1))
end

section
variable (x0 : Vec Ideal S512x1024 .bf16) (x1 x4 x5 : Vec Ideal S1408x1024 .bf16) (x2 x3 : Vec Ideal S512x1408 .bf16)

theorem pay3_at (r : Fin 512) (e : Fin 1408) : k0_pay3 (F := Ideal) x0 x1 (ix2 r e) = ∑ k : Fin 1024, x0 (ix2 r k) * x1 (ix2 e k) := by
  pointwise [k0_pay3]

theorem pay4_at (r : Fin 512) (e : Fin 1408) : k0_pay4 (F := Ideal) x0 x1 x2 (ix2 r e) = (∑ k : Fin 1024, x0 (ix2 r k) * x1 (ix2 e k)) * x2 (ix2 r e) := by
  pointwise [k0_pay4]; rw [pay3_at]

theorem pay5_at (r : Fin 512) (e : Fin 1408) : k0_pay5 (F := Ideal) x0 x1 x3 (ix2 r e) = (∑ k : Fin 1024, x0 (ix2 r k) * x1 (ix2 e k)) * x3 (ix2 r e) := by
  pointwise [k0_pay5]; rw [pay3_at]

theorem pay6_at (r : Fin 512) (k : Fin 1024) : k0_pay6 (F := Ideal) x0 x1 x2 x3 x4 x5 (ix2 r k)
    = (∑ e : Fin 1408, k0_pay4 x0 x1 x2 (ix2 r e) * x4 (ix2 e k)) + ∑ e : Fin 1408, k0_pay5 x0 x1 x3 (ix2 r e) * x5 (ix2 e k) := by
  pointwise [k0_pay6]

theorem pay7_at (r : Fin 512) (k : Fin 1024) : k0_pay7 (F := Ideal) x0 x1 x2 x3 x4 x5 (ix2 r k) = k0_pay6 x0 x1 x2 x3 x4 x5 (ix2 r k) := by
  pointwise [k0_pay7]
end

theorem pay1_at (p q : FVec Ideal S512x1024 .f32) (r : Fin 512) (k : Fin 1024) : k0_pay1 (F := Ideal) p q (ix2 r k) = q (ix2 r k) + p (ix2 r k) := by
  pointwise [k0_pay1]

theorem pay2_at (q : FVec Ideal S512x1024 .f32) (r : Fin 512) (k : Fin 1024) : k0_pay2 (F := Ideal) q (ix2 r k) = q (ix2 r k) := by
  pointwise [k0_pay2]

/-- Every window's block index at every grid point. -/
theorem idx_val : ∀ t : Fin cfg0.N, win0_0.index t = ![t.val % 8, 0]
    ∧ win0_1.index t = ![t.val / 8, 0]
    ∧ win0_2.index t = ![t.val % 8, t.val / 8]
    ∧ win0_3.index t = ![t.val % 8, t.val / 8]
    ∧ win0_4.index t = ![t.val / 8, 0]
    ∧ win0_5.index t = ![t.val / 8, 0]
    ∧ win0_6.index t = ![t.val % 8, t.val / 8]
    ∧ win0_7.index t = ![t.val % 8, t.val / 8] :=
  (by decide +kernel : ∀ t : Fin grid0.N, _)

theorem idx_8 : ∀ t : Fin cfg0.N, (cfg0.win 8).flush t = true → 8 ≤ t.val ∧ win0_8.index t = ![t.val % 8, 0] :=
  (by decide +kernel : ∀ t : Fin grid0.N, (cfg0.win 8).flush t = true → 8 ≤ t.val ∧ win0_8.index t = ![t.val % 8, 0])

theorem point_lt (t : Fin cfg0.N) : t.val < 16 := t.isLt

variable (m : (ℓ : Loc nD τ sig) → Buf (Elt Ideal) ℓ) (c : Dev nD)

/-- The arrays the region is launched with. -/
def aDF : FVec Ideal S4096x1024 .bf16 := V m c (Pipeline.arrRef spec0 0)
def aWD : FVec Ideal S2816x1024 .bf16 := V m c (Pipeline.arrRef spec0 1)
def aAG : FVec Ideal S4096x2816 .bf16 := V m c (Pipeline.arrRef spec0 2)
def aAU : FVec Ideal S4096x2816 .bf16 := V m c (Pipeline.arrRef spec0 3)
def aWG : FVec Ideal S2816x1024 .bf16 := V m c (Pipeline.arrRef spec0 4)
def aWU : FVec Ideal S2816x1024 .bf16 := V m c (Pipeline.arrRef spec0 5)

/-- The half of a point's columns, -/
abbrev hf (t : Fin cfg0.N) : Fin 2 := ⟨t.val / 8, by have := point_lt t; omega⟩
/-- and row `r` of its tile. -/
abbrev trow (t : Fin cfg0.N) (r : Fin 512) : Fin 4096 := ⟨512 * (t.val % 8) + r.val, by omega⟩

theorem blk_0 (t : Fin cfg0.N) (r : Fin 512) (k : Fin 1024) : iblk m c 0 t (ix2 r k) = aDF m c (ix2 (trow t r) k) := by
  have h : ∀ X : FVec Ideal S4096x1024 .bf16, ((cfg0.win 0).blk t).view.read (Elt Ideal) X (ix2 r k) = X (ix2 (trow t r) k) := fun X => by blk_ext [idx_val t]
  exact h (V m c (Pipeline.arrRef spec0 0))
theorem blk_1 (t : Fin cfg0.N) (e : Fin 1408) (k : Fin 1024) : iblk m c 1 t (ix2 e k) = aWD m c (ix2 (hcol (hf t) e) k) := by
  have h : ∀ X : FVec Ideal S2816x1024 .bf16, ((cfg0.win 1).blk t).view.read (Elt Ideal) X (ix2 e k) = X (ix2 (hcol (hf t) e) k) := fun X => by blk_ext [idx_val t]
  exact h (V m c (Pipeline.arrRef spec0 1))
theorem blk_2 (t : Fin cfg0.N) (r : Fin 512) (e : Fin 1408) : iblk m c 2 t (ix2 r e) = aAG m c (ix2 (trow t r) (hcol (hf t) e)) := by
  have h : ∀ X : FVec Ideal S4096x2816 .bf16, ((cfg0.win 2).blk t).view.read (Elt Ideal) X (ix2 r e) = X (ix2 (trow t r) (hcol (hf t) e)) := fun X => by blk_ext [idx_val t]
  exact h (V m c (Pipeline.arrRef spec0 2))
theorem blk_3 (t : Fin cfg0.N) (r : Fin 512) (e : Fin 1408) : iblk m c 3 t (ix2 r e) = aAU m c (ix2 (trow t r) (hcol (hf t) e)) := by
  have h : ∀ X : FVec Ideal S4096x2816 .bf16, ((cfg0.win 3).blk t).view.read (Elt Ideal) X (ix2 r e) = X (ix2 (trow t r) (hcol (hf t) e)) := fun X => by blk_ext [idx_val t]
  exact h (V m c (Pipeline.arrRef spec0 3))
theorem blk_4 (t : Fin cfg0.N) (e : Fin 1408) (k : Fin 1024) : iblk m c 4 t (ix2 e k) = aWG m c (ix2 (hcol (hf t) e) k) := by
  have h : ∀ X : FVec Ideal S2816x1024 .bf16, ((cfg0.win 4).blk t).view.read (Elt Ideal) X (ix2 e k) = X (ix2 (hcol (hf t) e) k) := fun X => by blk_ext [idx_val t]
  exact h (V m c (Pipeline.arrRef spec0 4))
theorem blk_5 (t : Fin cfg0.N) (e : Fin 1408) (k : Fin 1024) : iblk m c 5 t (ix2 e k) = aWU m c (ix2 (hcol (hf t) e) k) := by
  have h : ∀ X : FVec Ideal S2816x1024 .bf16, ((cfg0.win 5).blk t).view.read (Elt Ideal) X (ix2 e k) = X (ix2 (hcol (hf t) e) k) := fun X => by blk_ext [idx_val t]
  exact h (V m c (Pipeline.arrRef spec0 5))

theorem emb_6 (t : Fin cfg0.N) (r : Fin 512) (e : Fin 1408) : ((cfg0.win 6).blk t).view.emb (ix2 r e) = ix2 (trow t r) (hcol (hf t) e) := by
  blk_ext [idx_val t]
theorem emb_7 (t : Fin cfg0.N) (r : Fin 512) (e : Fin 1408) : ((cfg0.win 7).blk t).view.emb (ix2 r e) = ix2 (trow t r) (hcol (hf t) e) := by
  blk_ext [idx_val t]
theorem emb_8 (t : Fin cfg0.N) (h : (cfg0.win 8).flush t = true) (r : Fin 512) (k : Fin 1024) : ((cfg0.win 8).blk t).view.emb (ix2 r k) = ix2 (trow t r) k := by
  have e := (idx_8 t h).2
  blk_ext [e]

/-- What a point leaves of the two gradients of the inner products. -/
theorem dg_at (t : Fin cfg0.N) (r : Fin 512) (e : Fin 1408) :
    k0_pay4 (F := Ideal) (iblk m c 0 t) (iblk m c 1 t) (iblk m c 2 t) (ix2 r e) = arrG (aDF m c) (aWD m c) (aAG m c) (ix2 (trow t r) (hcol (hf t) e)) := by
  refine (pay4_at _ _ _ r e).trans ?_
  rw [blk_2]
  refine congrArg (· * _) (Finset.sum_congr rfl fun k _ => ?_)
  rw [blk_0, blk_1]; rfl
theorem du_at (t : Fin cfg0.N) (r : Fin 512) (e : Fin 1408) :
    k0_pay5 (F := Ideal) (iblk m c 0 t) (iblk m c 1 t) (iblk m c 3 t) (ix2 r e) = arrG (aDF m c) (aWD m c) (aAU m c) (ix2 (trow t r) (hcol (hf t) e)) := by
  refine (pay5_at _ _ _ r e).trans ?_
  rw [blk_3]
  refine congrArg (· * _) (Finset.sum_congr rfl fun k _ => ?_)
  rw [blk_0, blk_1]; rfl

/-- A half's share of the input's gradient. -/
def shareAt (R : Fin 4096) (k : Fin 1024) (j : Fin 2) : EReal :=
  (∑ e : Fin 1408, arrG (aDF m c) (aWD m c) (aAG m c) (ix2 R (hcol j e)) * aWG m c (ix2 (hcol j e) k))
    + ∑ e : Fin 1408, arrG (aDF m c) (aWD m c) (aAU m c) (ix2 R (hcol j e)) * aWU m c (ix2 (hcol j e) k)

theorem share_at (t : Fin cfg0.N) (r : Fin 512) (k : Fin 1024) : share m c t (ix2 r k) = shareAt m c (trow t r) k (hf t) := by
  refine (pay6_at _ _ _ _ _ _ r k).trans ?_
  exact congrArg₂ (· + ·) (Finset.sum_congr rfl fun e _ => by rw [dg_at, blk_4]) (Finset.sum_congr rfl fun e _ => by rw [du_at, blk_5])

theorem stored_at (t : Fin cfg0.N) (r : Fin 512) (k : Fin 1024) : stored m c t (ix2 r k) = shareAt m c (trow t r) k (hf t) :=
  (pay7_at _ _ _ _ _ _ r k).trans (share_at m c t r k)

/-- A sum over all columns is the sum over both halves. -/
theorem sum_halves (f : Fin 2816 → EReal) : ∑ i, f i = (∑ e : Fin 1408, f (hcol 0 e)) + ∑ e : Fin 1408, f (hcol 1 e) := by
  rw [← Equiv.sum_comp (finCongr (by decide : 1408 + 1408 = 2816)) f, Fin.sum_univ_add]
  exact congrArg₂ (· + ·) (Finset.sum_congr rfl fun e _ => congrArg f (Fin.ext (by simp))) (Finset.sum_congr rfl fun e _ => congrArg f (Fin.ext (by simp [Nat.add_comm])))

theorem arrH_at (R : Fin 4096) (k : Fin 1024) :
    arrH (aDF m c) (aWD m c) (aWG m c) (aWU m c) (aAG m c) (aAU m c) (ix2 R k) = shareAt m c R k 0 + shareAt m c R k 1 := by
  show (∑ f, arrG (aDF m c) (aWD m c) (aAG m c) (ix2 R f) * aWG m c (ix2 f k)) + ∑ f, arrG (aDF m c) (aWD m c) (aAU m c) (ix2 R f) * aWU m c (ix2 f k) = _
  rw [sum_halves, sum_halves, add_add_add_comm]; rfl

theorem final_6 : (dats m 0 c).arrAt 6 (cfgs 0).N = arrG (aDF m c) (aWD m c) (aAG m c) := by
  refine (dats m 0 c).arrAt_eq_of_covers 6 _ (by decide +kernel) fun t hf y => ?_
  rw [after_6]
  idx_vars y
  exact (dg_at m c t y0 y1).trans (congrArg (arrG (aDF m c) (aWD m c) (aAG m c)) (emb_6 t y0 y1).symm)

theorem final_7 : (dats m 0 c).arrAt 7 (cfgs 0).N = arrG (aDF m c) (aWD m c) (aAU m c) := by
  refine (dats m 0 c).arrAt_eq_of_covers 7 _ (by decide +kernel) fun t hf y => ?_
  rw [after_7]
  idx_vars y
  exact (du_at m c t y0 y1).trans (congrArg (arrG (aDF m c) (aWD m c) (aAU m c)) (emb_7 t y0 y1).symm)

theorem final_8 : (dats m 0 c).arrAt 8 (cfgs 0).N = arrH (aDF m c) (aWD m c) (aWG m c) (aWU m c) (aAG m c) (aAU m c) := by
  refine (dats m 0 c).arrAt_eq_of_covers 8 _ (by decide +kernel) fun t hf' y => ?_
  rw [after_8]
  idx_vars y
  have h8 := (idx_8 t hf').1
  have hlt := point_lt t
  refine (pay2_at _ y0 y1).trans ((pay1_at _ _ y0 y1).trans ?_)
  rw [stored_at, share_at]
  refine Eq.trans ?_ ((arrH_at m c (trow t y0) y1).symm.trans (congrArg (arrH (aDF m c) (aWD m c) (aWG m c) (aWU m c) (aAG m c) (aAU m c)) (emb_8 t hf' y0 y1).symm))
  have e0 : hf (mate t) = 0 := Fin.ext (by show t.val % 8 / 8 = 0; omega)
  have e1 : hf t = 1 := Fin.ext (by show t.val / 8 = 1; omega)
  have er : trow (mate t) y0 = trow t y0 := Fin.ext (by show 512 * (t.val % 8 % 8) + y0.val = 512 * (t.val % 8) + y0.val; omega)
  rw [e0, e1, er]

end Cert.Ffn
-- ==== Proof.FfnRef.lean ====
/- The feed-forward reference's lines, one definition for each, and its three results as sums over its arguments. -/
module

public import proofs.«01_k».proof.Proof.Gen.Reference4Ideal.Run
public import proofs.«01_k».proof.Proof.Gate
public import Idealize.ShloMosaic.Lib.Pipeline.ValueKit

@[expose] public section

set_option maxRecDepth 16384

noncomputable section

namespace Cert.Reference4Ideal.Ffn

open Idealize.ShloMosaic TcCoe Idealize.ShloMosaic.Tactic
open Idealize.SL.Sem
open Reference4Ideal Reference4Ideal.Gen Reference4Ideal.Value Cert.Gate
open scoped BigOperators

section
variable (a0 : FVec Ideal S4096x1024 .f32) (a1 : FVec Ideal S1024x2816 .f32) (a2 : FVec Ideal S1024x2816 .f32) (a3 : FVec Ideal S2816x1024 .f32) (a4 : FVec Ideal S4096x1024 .f32)

def rv0 : FVec Ideal S4096x2816 .f32 :=
  broadcastInDim S4096x2816 ![] bcast_S_S4096x2816 (constant S_ .f32 0x00000000#32)
def rv1 : FVec Ideal S4096x2816 .f32 :=
  Host.dotGeneral dot_S4096x1024_S1024x2816_S4096x2816_1_0_0_1_n_n none a0 a1
def rv2 : FVec Ideal S4096x2816 .f32 :=
  addf (rv1 a0 a1) rv0
def rcall0_v0 : FVec Ideal S4096x2816 .f32 :=
  Host.negf (rv2 a0 a1)
def rcall0_v1 : FVec Ideal S4096x2816 .f32 :=
  Host.exp (rcall0_v0 a0 a1)
def rcall0_v2 : FVec Ideal S4096x2816 .f32 :=
  broadcastInDim S4096x2816 ![] bcast_S_S4096x2816 (constant S_ .f32 0x3F800000#32)
def rcall0_v3 : FVec Ideal S4096x2816 .f32 :=
  addf rcall0_v2 (rcall0_v1 a0 a1)
def rcall0_v4 : FVec Ideal S4096x2816 .f32 :=
  broadcastInDim S4096x2816 ![] bcast_S_S4096x2816 (constant S_ .f32 0x3F800000#32)
def rv3_2 : FVec Ideal S4096x2816 .f32 :=
  Host.divf rcall0_v4 (rcall0_v3 a0 a1)
def rcall0_v6 : FVec Ideal S4096x2816 .f32 :=
  broadcastInDim S4096x2816 ![] bcast_S_S4096x2816 (constant S_ .f32 0x3F800000#32)
def rcall0_v7 : FVec Ideal S4096x2816 .f32 :=
  subf rcall0_v6 (rv3_2 a0 a1)
def rv3_1 : FVec Ideal S4096x2816 .f32 :=
  mulf (rv3_2 a0 a1) (rcall0_v7 a0 a1)
def rv3_0 : FVec Ideal S4096x2816 .f32 :=
  mulf (rv2 a0 a1) (rv3_2 a0 a1)
def rv4 : FVec Ideal S4096x2816 .f32 :=
  Host.dotGeneral dot_S4096x1024_S1024x2816_S4096x2816_1_0_0_1_n_n none a0 a2
def rv5 : FVec Ideal S4096x2816 .f32 :=
  addf (rv4 a0 a2) rv0
def rv8 : FVec Ideal S4096x2816 .f32 :=
  Host.dotGeneral dot_S4096x1024_S2816x1024_S4096x2816_1_1_0_0_n_n none a4 a3
def rv9 : FVec Ideal S4096x2816 .f32 :=
  mulf (rv3_0 a0 a1) (rv8 a3 a4)
def rv10 : FVec Ideal S4096x2816 .f32 :=
  mulf (rv8 a3 a4) (rv5 a0 a2)
def rv11 : FVec Ideal S4096x1024 .f32 :=
  Host.dotGeneral dot_S4096x2816_S1024x2816_S4096x1024_1_1_0_0_n_n none (rv9 a0 a1 a3 a4) a2
def rcall1_v0 : FVec Ideal S4096x2816 .f32 :=
  mulf (rv2 a0 a1) (rv10 a0 a2 a3 a4)
def rcall1_v1 : FVec Ideal S4096x2816 .f32 :=
  mulf (rv10 a0 a2 a3 a4) (rv3_2 a0 a1)
def rcall1_v2 : FVec Ideal S4096x2816 .f32 :=
  mulf (rcall1_v0 a0 a1 a2 a3 a4) (rv3_1 a0 a1)
def rv12 : FVec Ideal S4096x2816 .f32 :=
  addf (rcall1_v1 a0 a1 a2 a3 a4) (rcall1_v2 a0 a1 a2 a3 a4)
def rv13 : FVec Ideal S4096x1024 .f32 :=
  Host.dotGeneral dot_S4096x2816_S1024x2816_S4096x1024_1_1_0_0_n_n none (rv12 a0 a1 a2 a3 a4) a1
def rv14 : FVec Ideal S4096x1024 .f32 :=
  addf (rv11 a0 a1 a2 a3 a4) (rv13 a0 a1 a2 a3 a4)
def rv15 : FVec Ideal S4096x2816 .bf16 :=
  truncf .bf16 (rv12 a0 a1 a2 a3 a4) bitsLt_bf16_f32
def rv16 : FVec Ideal S4096x2816 .bf16 :=
  truncf .bf16 (rv9 a0 a1 a3 a4) bitsLt_bf16_f32
def rv17 : FVec Ideal S4096x1024 .bf16 :=
  truncf .bf16 (rv14 a0 a1 a2 a3 a4) bitsLt_bf16_f32

/-- The two inner products and the cotangent of their product. -/
def gate (r : Fin 4096) (f : Fin 2816) : EReal := ∑ k : Fin 1024, a0 (ix2 r k) * a1 (ix2 k f)
def up (r : Fin 4096) (f : Fin 2816) : EReal := ∑ k : Fin 1024, a0 (ix2 r k) * a2 (ix2 k f)
def dact (r : Fin 4096) (f : Fin 2816) : EReal := ∑ k : Fin 1024, a4 (ix2 r k) * a3 (ix2 f k)

variable (r : Fin 4096) (f : Fin 2816)

theorem rv0_at : rv0 (ix2 r f) = 0 := by
  pointwise! [rv0]
theorem rv1_at : rv1 a0 a1 (ix2 r f) = gate a0 a1 r f := by
  pointwise [rv1]; rfl
theorem rv2_at : rv2 a0 a1 (ix2 r f) = gate a0 a1 r f := by
  show rv1 a0 a1 (ix2 r f) + rv0 (ix2 r f) = _
  rw [rv0_at, rv1_at, add_zero]
theorem rv4_at : rv4 a0 a2 (ix2 r f) = up a0 a2 r f := by
  pointwise [rv4]; rfl
theorem rv5_at : rv5 a0 a2 (ix2 r f) = up a0 a2 r f := by
  show rv4 a0 a2 (ix2 r f) + rv0 (ix2 r f) = _
  rw [rv0_at, rv4_at, add_zero]
theorem rv8_at : rv8 a3 a4 (ix2 r f) = dact a3 a4 r f := by
  pointwise [rv8]; rfl
theorem one_at : (broadcastInDim S4096x2816 ![] bcast_S_S4096x2816 (constant S_ .f32 0x3F800000#32) : FVec Ideal S4096x2816 .f32) (ix2 r f) = 1 :=
  one_f32
theorem sig_at : rv3_2 a0 a1 (ix2 r f) = Gate.sig (gate a0 a1 r f) := by
  show Ideal.div (rcall0_v4 (ix2 r f)) (rcall0_v2 (ix2 r f) + Ideal.exp (-(rv2 a0 a1 (ix2 r f)))) = _
  rw [rcall0_v4, rcall0_v2, one_at, rv2_at, sig_host]

/-- The gradient of the product under the logistic function, -/
theorem rv15_at : rv15 a0 a1 a2 a3 a4 (ix2 r f) = dact a3 a4 r f * up a0 a2 r f * Gate.sig (gate a0 a1 r f)
    + gate a0 a1 r f * (dact a3 a4 r f * up a0 a2 r f) * (Gate.sig (gate a0 a1 r f) * (1 - Gate.sig (gate a0 a1 r f))) := by
  show rv8 a3 a4 (ix2 r f) * rv5 a0 a2 (ix2 r f) * rv3_2 a0 a1 (ix2 r f)
    + rv2 a0 a1 (ix2 r f) * (rv8 a3 a4 (ix2 r f) * rv5 a0 a2 (ix2 r f)) * (rv3_2 a0 a1 (ix2 r f) * (rcall0_v6 (ix2 r f) - rv3_2 a0 a1 (ix2 r f))) = _
  rw [rcall0_v6, one_at, rv8_at, rv5_at, rv2_at, sig_at]

/-- that of the other product, -/
theorem rv16_at : rv16 a0 a1 a3 a4 (ix2 r f) = gate a0 a1 r f * Gate.sig (gate a0 a1 r f) * dact a3 a4 r f := by
  show rv2 a0 a1 (ix2 r f) * rv3_2 a0 a1 (ix2 r f) * rv8 a3 a4 (ix2 r f) = _
  rw [rv8_at, rv2_at, sig_at]

/-- and that of the input. -/
theorem rv17_at (k : Fin 1024) : rv17 a0 a1 a2 a3 a4 (ix2 r k)
    = (∑ f : Fin 2816, rv16 a0 a1 a3 a4 (ix2 r f) * a2 (ix2 k f)) + ∑ f : Fin 2816, rv15 a0 a1 a2 a3 a4 (ix2 r f) * a1 (ix2 k f) := by
  pointwise [rv17, rv14, rv11, rv13]; rfl
end

end Cert.Reference4Ideal.Ffn
-- ==== Proof.FfnGate.lean ====
/- The gate's derivative as the kernel factors it and as the reference writes it, and real sums of products. -/
module

public import proofs.«01_k».proof.Proof.Gate

@[expose] public section

noncomputable section

namespace Cert.Gate

open Idealize.ShloMosaic
open scoped BigOperators

/-- The cotangent of the gate, both ways of writing it. -/
theorem gate_eq (d u : ℝ) (x : EReal) : (d : EReal) * (u * (sig x + x * sig x * (1 - sig x)))
    = d * u * sig x + x * (d * u) * (sig x * (1 - sig x)) := by
  induction x using EReal.rec with
  | bot => simp [sig_bot]
  | top =>
    have h : (1 : EReal) - 1 = 0 := by rw [← EReal.coe_one, ← EReal.coe_sub, sub_self, EReal.coe_zero]
    simp [sig_top, h]
  | coe x =>
    rw [sig_coe, ← EReal.coe_one]
    generalize (1 / (1 + Real.exp (-x)) : ℝ) = s
    simp only [← EReal.coe_mul, ← EReal.coe_add, ← EReal.coe_sub]
    congr 1; ring

/-- A sum of products of real numbers is one. -/
theorem real_sum {n : Nat} (x y : Fin n → EReal) (hx : ∀ k, ∃ a : ℝ, x k = a) (hy : ∀ k, ∃ a : ℝ, y k = a) : ∃ a : ℝ, ∑ k, x k * y k = a := by
  choose u hu using hx
  choose v hv using hy
  refine ⟨∑ k, u k * v k, ?_⟩
  rw [show ((∑ k, u k * v k : ℝ) : EReal) = ∑ k, ((u k * v k : ℝ) : EReal) from map_sum (⟨⟨Real.toEReal, EReal.coe_zero⟩, EReal.coe_add⟩ : ℝ →+ EReal) _ _]
  exact Finset.sum_congr rfl fun k _ => by rw [hu, hv, EReal.coe_mul]

end Cert.Gate

end
-- ==== Proof.FfnEq.lean ====
/- The arrays the feed-forward gradients' region is launched with, as the host lines make them, and its results at an entry beside the reference's. -/
module

public import proofs.«01_k».proof.Proof.FfnArr
public import proofs.«01_k».proof.Proof.FfnRef
public import proofs.«01_k».proof.Proof.FfnGate

@[expose] public section

set_option maxRecDepth 16384

noncomputable section

namespace Cert.Ffn

open Idealize.ShloMosaic TcCoe Idealize.ShloMosaic.Tactic
open Idealize.SL.Sem
open Kernel4Ideal Kernel4Ideal.Gen
open Reference4Ideal.Ffn (gate up rv15 rv16 rv17 rv15_at rv16_at rv17_at)
open scoped BigOperators

section
variable (a0 : FVec Ideal S4096x1024 .f32) (a1 : FVec Ideal S1024x2816 .f32) (a2 : FVec Ideal S1024x2816 .f32) (a3 : FVec Ideal S2816x1024 .f32) (a4 : FVec Ideal S4096x1024 .f32)

def hv0 : FVec Ideal S2816x1024 .f32 :=
  transpose S2816x1024 [1, 0] a1 transposes_S1024x2816_S2816x1024_1_0
def hv1 : FVec Ideal S2816x1024 .bf16 :=
  truncf .bf16 (hv0 a1) bitsLt_bf16_f32
def hv2 : FVec Ideal S2816x1024 .f32 :=
  transpose S2816x1024 [1, 0] a2 transposes_S1024x2816_S2816x1024_1_0
def hv3 : FVec Ideal S2816x1024 .bf16 :=
  truncf .bf16 (hv2 a2) bitsLt_bf16_f32
def hv4 : FVec Ideal S2816x1024 .bf16 :=
  truncf .bf16 a3 bitsLt_bf16_f32
def hv5 : FVec Ideal S2816x1024 .f32 :=
  extf .f32 (hv1 a1) bitsLt_bf16_f32
def hv6 : FVec Ideal S4096x2816 .f32 :=
  Host.dotGeneral dot_S4096x1024_S2816x1024_S4096x2816_1_1_0_0_n_n none a0 (hv5 a1)
def hv7 : FVec Ideal S2816x1024 .f32 :=
  extf .f32 (hv3 a2) bitsLt_bf16_f32
def hv8 : FVec Ideal S4096x2816 .f32 :=
  Host.dotGeneral dot_S4096x1024_S2816x1024_S4096x2816_1_1_0_0_n_n none a0 (hv7 a2)
def hv9 : FVec Ideal S4096x2816 .f32 :=
  Host.negf (hv6 a0 a1)
def hv10 : FVec Ideal S4096x2816 .f32 :=
  Host.exp (hv9 a0 a1)
def hv11 : FVec Ideal S4096x2816 .f32 :=
  broadcastInDim S4096x2816 ![] bcast_S_S4096x2816 (constant S_ .f32 0x3F800000#32)
def hv12 : FVec Ideal S4096x2816 .f32 :=
  addf hv11 (hv10 a0 a1)
def hv13 : FVec Ideal S4096x2816 .f32 :=
  broadcastInDim S4096x2816 ![] bcast_S_S4096x2816 (constant S_ .f32 0x3F800000#32)
def hv14 : FVec Ideal S4096x2816 .f32 :=
  Host.divf hv13 (hv12 a0 a1)
def hv15 : FVec Ideal S4096x2816 .f32 :=
  mulf (hv6 a0 a1) (hv14 a0 a1)
def hv16 : FVec Ideal S4096x2816 .f32 :=
  broadcastInDim S4096x2816 ![] bcast_S_S4096x2816 (constant S_ .f32 0x3F800000#32)
def hv17 : FVec Ideal S4096x2816 .f32 :=
  subf hv16 (hv14 a0 a1)
def hv18 : FVec Ideal S4096x2816 .f32 :=
  mulf (hv15 a0 a1) (hv17 a0 a1)
def hv19 : FVec Ideal S4096x2816 .f32 :=
  addf (hv14 a0 a1) (hv18 a0 a1)
def hv20 : FVec Ideal S4096x2816 .f32 :=
  mulf (hv8 a0 a2) (hv19 a0 a1)
def hv21 : FVec Ideal S4096x2816 .bf16 :=
  truncf .bf16 (hv20 a0 a1 a2) bitsLt_bf16_f32
def hv22 : FVec Ideal S4096x2816 .bf16 :=
  truncf .bf16 (hv15 a0 a1) bitsLt_bf16_f32
def hv23 : FVec Ideal S4096x1024 .bf16 :=
  truncf .bf16 a4 bitsLt_bf16_f32

variable (r : Fin 4096) (f : Fin 2816)

theorem hv1_at (k : Fin 1024) : hv1 a1 (ix2 f k) = a1 (ix2 k f) := by
  pointwise [hv1, hv0]
theorem hv3_at (k : Fin 1024) : hv3 a2 (ix2 f k) = a2 (ix2 k f) := by
  pointwise [hv3, hv2]
theorem hv6_at : hv6 a0 a1 (ix2 r f) = gate a0 a1 r f := by
  pointwise [hv6, hv5, hv1, hv0]; rfl
theorem hv8_at : hv8 a0 a2 (ix2 r f) = up a0 a2 r f := by
  pointwise [hv8, hv7, hv3, hv2]; rfl
theorem hv14_at : hv14 a0 a1 (ix2 r f) = Gate.sig (gate a0 a1 r f) := by
  show Ideal.div (hv13 (ix2 r f)) (hv11 (ix2 r f) + Ideal.exp (-(hv6 a0 a1 (ix2 r f)))) = _
  rw [show hv13 (ix2 r f) = 1 from Gate.one_f32, show hv11 (ix2 r f) = 1 from Gate.one_f32, hv6_at, Gate.sig_host]
/-- What the forward call keeps of the gate. -/
theorem hv22_at : hv22 a0 a1 (ix2 r f) = gate a0 a1 r f * Gate.sig (gate a0 a1 r f) := by
  show hv6 a0 a1 (ix2 r f) * hv14 a0 a1 (ix2 r f) = _
  rw [hv6_at, hv14_at]
theorem hv21_at : hv21 a0 a1 a2 (ix2 r f) = up a0 a2 r f * (Gate.sig (gate a0 a1 r f)
    + gate a0 a1 r f * Gate.sig (gate a0 a1 r f) * (1 - Gate.sig (gate a0 a1 r f))) := by
  show hv8 a0 a2 (ix2 r f) * (hv14 a0 a1 (ix2 r f) + hv6 a0 a1 (ix2 r f) * hv14 a0 a1 (ix2 r f) * (hv16 (ix2 r f) - hv14 a0 a1 (ix2 r f))) = _
  rw [show hv16 (ix2 r f) = 1 from Gate.one_f32, hv6_at, hv8_at, hv14_at]
end

variable (m : (ℓ : Loc nD τ sig) → Buf (Elt Ideal) ℓ) (c : Dev nD)

/-- The arguments. -/
abbrev A0 : FVec Ideal S4096x1024 .f32 := m ((c.tc : Thread nD τ).loc main_arg0)
abbrev A1 : FVec Ideal S1024x2816 .f32 := m ((c.tc : Thread nD τ).loc main_arg1)
abbrev A2 : FVec Ideal S1024x2816 .f32 := m ((c.tc : Thread nD τ).loc main_arg2)
abbrev A3 : FVec Ideal S2816x1024 .f32 := m ((c.tc : Thread nD τ).loc main_arg3)
abbrev A4 : FVec Ideal S4096x1024 .f32 := m ((c.tc : Thread nD τ).loc main_arg4)

theorem aDF_eq : aDF m c = hv23 (A4 m c) := by
  show StableHlo.after hostOps0 (fun b => m (c, b)) (Proc.devRef .tc main_v23) = _
  simp only [hostOps0]
  after_results
  rfl
theorem aWD_eq : aWD m c = hv4 (A3 m c) := by
  show StableHlo.after hostOps0 (fun b => m (c, b)) (Proc.devRef .tc main_v4) = _
  simp only [hostOps0]
  after_results
  rfl
theorem aAG_eq : aAG m c = hv21 (A0 m c) (A1 m c) (A2 m c) := by
  show StableHlo.after hostOps0 (fun b => m (c, b)) (Proc.devRef .tc main_v21) = _
  simp only [hostOps0]
  after_results
  rfl
theorem aAU_eq : aAU m c = hv22 (A0 m c) (A1 m c) := by
  show StableHlo.after hostOps0 (fun b => m (c, b)) (Proc.devRef .tc main_v22) = _
  simp only [hostOps0]
  after_results
  rfl
theorem aWG_eq : aWG m c = hv1 (A1 m c) := by
  show StableHlo.after hostOps0 (fun b => m (c, b)) (Proc.devRef .tc main_v1) = _
  simp only [hostOps0]
  after_results
  rfl
theorem aWU_eq : aWU m c = hv3 (A2 m c) := by
  show StableHlo.after hostOps0 (fun b => m (c, b)) (Proc.devRef .tc main_v3) = _
  simp only [hostOps0]
  after_results
  rfl

/-- The arguments but the gate's weight hold real numbers. -/
structure Finite : Prop where
  h0 : ∀ i, ∃ a : ℝ, A0 m c i = a
  h2 : ∀ i, ∃ a : ℝ, A2 m c i = a
  h3 : ∀ i, ∃ a : ℝ, A3 m c i = a
  h4 : ∀ i, ∃ a : ℝ, A4 m c i = a

variable (hf : Finite m c)

theorem dact_eq (r : Fin 4096) (f : Fin 2816) : dact (aDF m c) (aWD m c) r f = Reference4Ideal.Ffn.dact (A3 m c) (A4 m c) r f := by
  rw [aDF_eq, aWD_eq]; rfl

include hf in
theorem arrG_eq (r : Fin 4096) (f : Fin 2816) : arrG (aDF m c) (aWD m c) (aAG m c) (ix2 r f) = rv15 (A0 m c) (A1 m c) (A2 m c) (A3 m c) (A4 m c) (ix2 r f) := by
  show dact (aDF m c) (aWD m c) r f * aAG m c (ix2 r f) = _
  rw [dact_eq, aAG_eq, hv21_at, rv15_at]
  obtain ⟨d, hd⟩ : ∃ a : ℝ, Reference4Ideal.Ffn.dact (A3 m c) (A4 m c) r f = a := Gate.real_sum _ _ (fun k => hf.h4 _) (fun k => hf.h3 _)
  obtain ⟨u, hu⟩ : ∃ a : ℝ, up (A0 m c) (A2 m c) r f = a := Gate.real_sum _ _ (fun k => hf.h0 _) (fun k => hf.h2 _)
  rw [hd, hu, Gate.gate_eq]

theorem arrU_eq (r : Fin 4096) (f : Fin 2816) : arrG (aDF m c) (aWD m c) (aAU m c) (ix2 r f) = rv16 (A0 m c) (A1 m c) (A3 m c) (A4 m c) (ix2 r f) := by
  show dact (aDF m c) (aWD m c) r f * aAU m c (ix2 r f) = _
  rw [dact_eq, aAU_eq, hv22_at, rv16_at, mul_comm]

include hf in
/-- The region's three results are the reference's. -/
theorem out_6 : (dats m 0 c).arrAt 6 (cfgs 0).N = rv15 (A0 m c) (A1 m c) (A2 m c) (A3 m c) (A4 m c) := by
  rw [final_6]; funext i; idx_vars i; exact arrG_eq m c hf i0 i1

theorem out_7 : (dats m 0 c).arrAt 7 (cfgs 0).N = rv16 (A0 m c) (A1 m c) (A3 m c) (A4 m c) := by
  rw [final_7]; funext i; idx_vars i; exact arrU_eq m c i0 i1

include hf in
theorem out_8 : (dats m 0 c).arrAt 8 (cfgs 0).N = rv17 (A0 m c) (A1 m c) (A2 m c) (A3 m c) (A4 m c) := by
  rw [final_8]; funext i; idx_vars i
  rw [rv17_at, add_comm]
  refine congrArg₂ (· + ·) (Finset.sum_congr rfl fun f _ => ?_) (Finset.sum_congr rfl fun f _ => ?_)
  · exact congrArg₂ (· * ·) (arrG_eq m c hf i0 f) ((congrFun (aWG_eq m c) _).trans (hv1_at _ f i1))
  · exact congrArg₂ (· * ·) (arrU_eq m c i0 f) ((congrFun (aWU_eq m c) _).trans (hv3_at _ f i1))

end Cert.Ffn
-- ==== Proof.FfnClaim.lean ====
/- The claims of the feed-forward gradients' call. -/
module

public import proofs.«01_k».proof.Defs
public import proofs.«01_k».proof.Proof.FfnEq
public import proofs.«01_k».proof.Proof.Finite
public import proofs.«01_k».proof.Proof.Gen.Pre_finite4
public import Idealize.ShloMosaic.Lib.Claim

@[expose] public section

set_option maxRecDepth 16384

noncomputable section

namespace Cert.Ffn

open Idealize.ShloMosaic TcCoe Idealize.ShloMosaic.Tactic
open Idealize.SL.Sem
open Kernel4Ideal Kernel4Ideal.Gen

variable (m : (ℓ : Loc nD τ sig) → Buf (Elt Ideal) ℓ) (ρ : Dev nD → PrngReg)

/-- Arguments that satisfy the precondition hold real numbers. -/
theorem finite_of_pre (c : Dev nD) (h : Cert.Pre_finite4.fn (F := Ideal) (A0 m c) (A1 m c) (A2 m c) (A3 m c) (A4 m c) = fun _ => 1#1) : Finite m c := by
  have h0 := congrFun h ix0
  dsimp only [Cert.Pre_finite4.fn, Cert.Pre_finite4.fn_part1] at h0
  obtain ⟨h0, e4⟩ := IntOp.andi_eq_one.1 h0
  obtain ⟨h0, e3⟩ := IntOp.andi_eq_one.1 h0
  obtain ⟨e0, e2⟩ := IntOp.andi_eq_one.1 h0
  exact ⟨fun i => ⟨_, Cert.Finite.real_of_all _ _ (fun _ => Cert.Finite.top_f32) _ _ _ e0 i⟩, fun i => ⟨_, Cert.Finite.real_of_all _ _ (fun _ => Cert.Finite.top_f32) _ _ _ e2 i⟩,
    fun i => ⟨_, Cert.Finite.real_of_all _ _ (fun _ => Cert.Finite.top_f32) _ _ _ e3 i⟩, fun i => ⟨_, Cert.Finite.real_of_all _ _ (fun _ => Cert.Finite.top_f32) _ _ _ e4 i⟩⟩

/-- Every run ends with the region's three results and the arguments as they were. -/
theorem run_results : θ_run (defs (F := Ideal)) (onTc (τ := τ) (main (F := Ideal))) ⟨m, fun _ => 0, ρ⟩ (fun r => ∀ c : Dev nD,
      r.2.mem ((c.tc : Thread nD τ).loc (Pipeline.arrRef spec0 6)) = (dats m 0 c).arrAt 6 (cfgs 0).N
      ∧ r.2.mem ((c.tc : Thread nD τ).loc (Pipeline.arrRef spec0 7)) = (dats m 0 c).arrAt 7 (cfgs 0).N
      ∧ r.2.mem ((c.tc : Thread nD τ).loc (Pipeline.arrRef spec0 8)) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 6, (h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

theorem quiescent : quiescent_Kernel4Ideal := fun m g _ => frame m g

/-- The reference keeps its arguments; it declares no semaphore. -/
theorem quiescent_reference : quiescent_Reference4Ideal := fun m g _ =>
  (θ_run Reference4Ideal.defs _ _).mono
    (fun r h => ⟨fun c => (h c).2.2.2, sem_eq_zero_of_no_sems (by decide) r.2⟩) (Reference4Ideal.Value.run m g)

theorem algebraic : algebraic_Kernel4Ideal_Reference4Ideal_pre_finite4 := by
  intro m g m' g' hp hagree
  refine ⟨_, _, _, run_results m g, (θ_run Reference4Ideal.defs _ _).mono (fun r h c => ?_) (Reference4Ideal.Value.run m' g')⟩
  obtain ⟨h0, h1, h2, hk⟩ := h c
  obtain ⟨a0, a1, a2, a3, a4⟩ := hagree c
  have hf : Finite m c := finite_of_pre m c (hp c)
  refine ⟨?_, ?_, ?_, hk⟩
  · rw [h0, a0, a1, a2, a3, a4]; exact (out_6 m c hf).symm
  · rw [h1, a0, a1, a3, a4]; exact (out_7 m c).symm
  · rw [h2, a0, a1, a2, a3, a4]; exact (out_8 m c hf).symm

end Cert.Ffn
-- ==== Proof.FfnBits.lean ====
/- The frame of the program as printed: the idealised program is the same text. -/
module

public import proofs.«01_k».proof.Defs
public import proofs.«01_k».proof.Proof.Gen.Kernel4
public import proofs.«01_k».proof.Proof.FfnFrame

@[expose] public section

set_option maxRecDepth 16384

noncomputable section

namespace Cert.Ffn

open Idealize.ShloMosaic TcCoe Idealize.ShloMosaic.Tactic
open Idealize.SL.Sem
open Kernel4Ideal Kernel4Ideal.Gen

/-- The frame's statement at the programs' own arithmetic. -/
def FrameBits : Prop := ∀ (m : (ℓ : Loc nD τ sig) → Buf (Elt Bits) ℓ) (ρ : Dev nD → PrngReg),
  θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem frame_bits : FrameBits := fun m ρ => frame m ρ

/-- The same of the program as printed. -/
def FrameKernel : Prop := ∀ (m : (ℓ : Loc Kernel4.nD Kernel4.τ Kernel4.sig) → Buf (Elt Bits) ℓ) (ρ : Dev Kernel4.nD → PrngReg),
  θ_run (Kernel4.defs (F := Bits)) (onTc (τ := Kernel4.τ) (Kernel4.main (F := Bits))) ⟨m, fun _ => 0, ρ⟩ (fun r => (∀ c : Dev Kernel4.nD,
      r.2.mem ((c.tc : Thread Kernel4.nD Kernel4.τ).loc Kernel4.main_arg0) = m ((c.tc : Thread Kernel4.nD Kernel4.τ).loc Kernel4.main_arg0)
      ∧ r.2.mem ((c.tc : Thread Kernel4.nD Kernel4.τ).loc Kernel4.main_arg1) = m ((c.tc : Thread Kernel4.nD Kernel4.τ).loc Kernel4.main_arg1)
      ∧ r.2.mem ((c.tc : Thread Kernel4.nD Kernel4.τ).loc Kernel4.main_arg2) = m ((c.tc : Thread Kernel4.nD Kernel4.τ).loc Kernel4.main_arg2)
      ∧ r.2.mem ((c.tc : Thread Kernel4.nD Kernel4.τ).loc Kernel4.main_arg3) = m ((c.tc : Thread Kernel4.nD Kernel4.τ).loc Kernel4.main_arg3)
      ∧ r.2.mem ((c.tc : Thread Kernel4.nD Kernel4.τ).loc Kernel4.main_arg4) = m ((c.tc : Thread Kernel4.nD Kernel4.τ).loc Kernel4.main_arg4))
      ∧ r.2.sem = fun _ => 0)

/-- The two programs are one text, so the two statements are one. -/
theorem same : FrameKernel = FrameBits := by sl_kernel_rfl

theorem quiescent_printed : quiescent_Kernel4 := fun m g _ => cast same.symm frame_bits m g

end Cert.Ffn
-- ==== Proof.FfnIn.lean ====
/- The gated product and the two factors of its gradient: what the eight grid points leave in the three result
   arrays, and the run of the kernel against the reference's. -/
module

public import proofs.«01_k».proof.Defs
public import proofs.«01_k».proof.Proof.Gen.Kernel13Ideal.Value
public import proofs.«01_k».proof.Proof.Gen.Reference13Ideal.Run
public import proofs.«01_k».proof.Proof.Gen.Pre_finite13
public import proofs.«01_k».proof.Proof.FfnGate
public import proofs.«01_k».proof.Proof.Finite
public import Idealize.ShloMosaic.Lib.Claim
public import Idealize.ShloMosaic.Lib.Pipeline.ValueKit

@[expose] public section

set_option maxRecDepth 16384

noncomputable section

namespace Cert.FfnIn

open Idealize.ShloMosaic TcCoe Idealize.SL.Sem
open scoped BigOperators

section
open Reference13Ideal Reference13Ideal.Gen
variable (a0 : FVec Ideal S4096x1024 .f32) (a1 a2 : FVec Ideal S1024x2816 .f32)

/-- The reference's array of ones, -/
abbrev refOne : FVec Ideal S4096x2816 .f32 :=
  broadcastInDim S4096x2816 ![] bcast_S_S4096x2816 (constant S_ .f32 0x3F800000#32)

/-- its inner products, -/
abbrev refP : FVec Ideal S4096x2816 .f32 :=
  Host.dotGeneral dot_S4096x1024_S1024x2816_S4096x2816_1_0_0_1_n_n none a0 a1

/-- and the gate's sigmoid. -/
abbrev refS : FVec Ideal S4096x2816 .f32 := Host.divf refOne (addf refOne (Host.exp (Host.negf (refP a0 a1))))

/-- The first result: the gated product. -/
abbrev refA : FVec Ideal S4096x2816 .bf16 := truncf .bf16 (mulf (mulf (refP a0 a1) (refS a0 a1)) (refP a0 a2)) bitsLt_bf16_f32

/-- The second: its derivative by the gate's product. -/
abbrev refG : FVec Ideal S4096x2816 .bf16 :=
  truncf .bf16 (addf (mulf (mulf refOne (refP a0 a2)) (refS a0 a1))
    (mulf (mulf (refP a0 a1) (mulf refOne (refP a0 a2))) (mulf (refS a0 a1) (subf refOne (refS a0 a1))))) bitsLt_bf16_f32

/-- The third: its derivative by the other product. -/
abbrev refU : FVec Ideal S4096x2816 .bf16 := truncf .bf16 (mulf (mulf (refP a0 a1) (refS a0 a1)) refOne) bitsLt_bf16_f32

/-- One inner product. -/
def dotP (r : Fin 4096) (f : Fin 2816) : EReal := ∑ k, a0 (ix2 r k) * a1 (ix2 k f)

theorem refP_at (r : Fin 4096) (f : Fin 2816) : refP a0 a1 (ix2 r f) = dotP a0 a1 r f := by pointwise [refP]; rfl

theorem refA_at (r : Fin 4096) (f : Fin 2816) : refA a0 a1 a2 (ix2 r f) = dotP a0 a1 r f * Gate.sig (dotP a0 a1 r f) * dotP a0 a2 r f := by
  pointwise [refA, refS, refOne]
  simp only [Gate.sig_host, dotP]

theorem refG_at (r : Fin 4096) (f : Fin 2816) : refG a0 a1 a2 (ix2 r f) = dotP a0 a2 r f * Gate.sig (dotP a0 a1 r f)
    + dotP a0 a1 r f * dotP a0 a2 r f * (Gate.sig (dotP a0 a1 r f) * (1 - Gate.sig (dotP a0 a1 r f))) := by
  pointwise [refG, refS, refOne]
  simp only [Gate.sig_host, dotP]

theorem refU_at (r : Fin 4096) (f : Fin 2816) : refU a0 a1 (ix2 r f) = dotP a0 a1 r f * Gate.sig (dotP a0 a1 r f) := by
  pointwise [refU, refS, refOne]
  simp only [Gate.sig_host, dotP]
end

open Kernel13Ideal Kernel13Ideal.Gen

section
variable (x0 : Vec Ideal S1024x1024 .bf16) (x1 x2 : Vec Ideal S1408x1024 .bf16)

theorem pay2_at (r : Fin 1024) (e : Fin 1408) : k0_pay2 (F := Ideal) x0 x1 (ix2 r e) = ∑ k : Fin 1024, x0 (ix2 r k) * x1 (ix2 e k) := by
  pointwise [k0_pay2, k0_pay1]

theorem pay3_at (r : Fin 1024) (e : Fin 1408) : k0_pay3 (F := Ideal) x0 x2 (ix2 r e) = ∑ k : Fin 1024, x0 (ix2 r k) * x2 (ix2 e k) := by
  pointwise [k0_pay3, k0_pay1]

theorem pay4_at (r : Fin 1024) (e : Fin 1408) : k0_pay4 (F := Ideal) x0 x1 (ix2 r e) = Gate.sig (k0_pay2 x0 x1 (ix2 r e)) := by
  pointwise [k0_pay4]
  exact Gate.sig_tanh _

theorem pay5_at (r : Fin 1024) (e : Fin 1408) : k0_pay5 (F := Ideal) x0 x1 (ix2 r e) = k0_pay2 x0 x1 (ix2 r e) * Gate.sig (k0_pay2 x0 x1 (ix2 r e)) := by
  pointwise [k0_pay5]; rw [pay4_at]

theorem pay6_at (r : Fin 1024) (e : Fin 1408) : k0_pay6 (F := Ideal) x0 x1 x2 (ix2 r e)
    = k0_pay2 x0 x1 (ix2 r e) * Gate.sig (k0_pay2 x0 x1 (ix2 r e)) * k0_pay3 x0 x2 (ix2 r e) := by
  pointwise [k0_pay6]; rw [pay5_at]

theorem pay7_at (r : Fin 1024) (e : Fin 1408) : k0_pay7 (F := Ideal) x0 x1 x2 (ix2 r e)
    = k0_pay3 x0 x2 (ix2 r e) * (Gate.sig (k0_pay2 x0 x1 (ix2 r e))
      + k0_pay2 x0 x1 (ix2 r e) * Gate.sig (k0_pay2 x0 x1 (ix2 r e)) * (1 - Gate.sig (k0_pay2 x0 x1 (ix2 r e)))) := by
  pointwise [k0_pay7]; rw [pay5_at, pay4_at]

theorem pay8_at (r : Fin 1024) (e : Fin 1408) : k0_pay8 (F := Ideal) x0 x1 (ix2 r e) = k0_pay2 x0 x1 (ix2 r e) * Gate.sig (k0_pay2 x0 x1 (ix2 r e)) := by
  pointwise [k0_pay8]; rw [pay5_at]
end

variable (m : (ℓ : Loc nD τ sig) → Buf (Elt Ideal) ℓ) (c : Dev nD) (t : Fin cfg0.N)

abbrev A0 : FVec Ideal S4096x1024 .f32 := m ((c : Thread nD τ).loc main_arg0)
abbrev A1 : FVec Ideal S1024x2816 .f32 := m ((c : Thread nD τ).loc main_arg1)
abbrev A2 : FVec Ideal S1024x2816 .f32 := m ((c : Thread nD τ).loc main_arg2)

/-- Every window's block index at every grid point. -/
theorem idx_val : ∀ t : Fin cfg0.N, win0_0.index t = ![t.val / 2, 0] ∧ win0_1.index t = ![t.val % 2, 0] ∧ win0_2.index t = ![t.val % 2, 0]
    ∧ win0_3.index t = ![t.val / 2, t.val % 2] ∧ win0_4.index t = ![t.val / 2, t.val % 2] ∧ win0_5.index t = ![t.val / 2, t.val % 2] :=
  (by decide +kernel : ∀ t : Fin grid0.N, _)

theorem lt8 : t.val < 8 := lt_of_lt_of_eq t.isLt N_0

/-- Row r and column e of grid point t's block. -/
def row (r : Fin 1024) : Fin 4096 := ⟨t.val / 2 * 1024 + r.val, by have := lt8 t; omega⟩
def col (e : Fin 1408) : Fin 2816 := ⟨t.val % 2 * 1408 + e.val, by omega⟩

theorem blk_0 (r k : Fin 1024) : iblk m c 0 t (ix2 r k) = A0 m c (ix2 (row t r) k) := by
  have he : ((cfg0.win 0).blk t).view.emb (ix2 r k) = ix2 (row t r) k := by blk_ext [row, idx_val t]
  blk_simp [iblk]
  rw [he]
  entry_read
  pointwise

theorem blk_1 (e : Fin 1408) (k : Fin 1024) : iblk m c 1 t (ix2 e k) = A1 m c (ix2 k (col t e)) := by
  have he : ((cfg0.win 1).blk t).view.emb (ix2 e k) = ix2 (col t e) k := by blk_ext [col, idx_val t]
  blk_simp [iblk]
  rw [he]
  entry_read
  pointwise

theorem blk_2 (e : Fin 1408) (k : Fin 1024) : iblk m c 2 t (ix2 e k) = A2 m c (ix2 k (col t e)) := by
  have he : ((cfg0.win 2).blk t).view.emb (ix2 e k) = ix2 (col t e) k := by blk_ext [col, idx_val t]
  blk_simp [iblk]
  rw [he]
  entry_read
  pointwise

theorem gate_at (r : Fin 1024) (e : Fin 1408) : k0_pay2 (F := Ideal) (iblk m c 0 t) (iblk m c 1 t) (ix2 r e) = dotP (A0 m c) (A1 m c) (row t r) (col t e) := by
  rw [pay2_at]; simp only [blk_0, blk_1]; rfl

theorem up_at (r : Fin 1024) (e : Fin 1408) : k0_pay3 (F := Ideal) (iblk m c 0 t) (iblk m c 2 t) (ix2 r e) = dotP (A0 m c) (A2 m c) (row t r) (col t e) := by
  rw [pay3_at]; simp only [blk_0, blk_2]; rfl

theorem split (y : S1024x1408.Idx) : ∃ (r : Fin 1024) (e : Fin 1408), y = ix2 r e := ⟨y 0, y 1, by funext d; fin_cases d <;> rfl⟩

theorem final_3 : (dats m 0 c).arrAt 3 (cfgs 0).N = refA (A0 m c) (A1 m c) (A2 m c) := by
  refine (dats m 0 c).arrAt_eq_of_covers 3 _ (by decide +kernel) fun t hf y => ?_
  blk_simp; rw [after0_3]; frame_out
  obtain ⟨r, e, rfl⟩ := split y
  have he : ((cfg0.win 3).blk t).view.emb (ix2 r e) = ix2 (row t r) (col t e) := by blk_ext [row, col, idx_val t]
  rw [he, refA_at, pay6_at, gate_at, up_at]

theorem final_5 : (dats m 0 c).arrAt 5 (cfgs 0).N = refU (A0 m c) (A1 m c) := by
  refine (dats m 0 c).arrAt_eq_of_covers 5 _ (by decide +kernel) fun t hf y => ?_
  blk_simp; rw [after0_5]; frame_out
  obtain ⟨r, e, rfl⟩ := split y
  have he : ((cfg0.win 5).blk t).view.emb (ix2 r e) = ix2 (row t r) (col t e) := by blk_ext [row, col, idx_val t]
  rw [he, refU_at, pay8_at, gate_at]

theorem final_4 (hp : Cert.Pre_finite13.fn (F := Ideal) (A0 m c) (A1 m c) (A2 m c) = fun _ => 1#1) :
    (dats m 0 c).arrAt 4 (cfgs 0).N = refG (A0 m c) (A1 m c) (A2 m c) := by
  refine (dats m 0 c).arrAt_eq_of_covers 4 _ (by decide +kernel) fun t hf y => ?_
  blk_simp; rw [after0_4]; frame_out
  obtain ⟨r, e, rfl⟩ := split y
  have he : ((cfg0.win 4).blk t).view.emb (ix2 r e) = ix2 (row t r) (col t e) := by blk_ext [row, col, idx_val t]
  have h0 := congrFun hp ix0
  dsimp only [Cert.Pre_finite13.fn] at h0
  obtain ⟨e0, e2⟩ := IntOp.andi_eq_one.1 h0
  obtain ⟨u, hu⟩ : ∃ a : ℝ, dotP (A0 m c) (A2 m c) (row t r) (col t e) = a := Gate.real_sum _ _
    (fun k => ⟨_, Cert.Finite.real_of_all _ _ (fun _ => Cert.Finite.top_f32) _ _ _ e0 _⟩) (fun k => ⟨_, Cert.Finite.real_of_all _ _ (fun _ => Cert.Finite.top_f32) _ _ _ e2 _⟩)
  rw [he, refG_at, pay7_at, gate_at, up_at, hu]
  have h := Gate.gate_eq 1 u (dotP (A0 m c) (A1 m c) (row t r) (col t e))
  simpa only [EReal.coe_one, one_mul] using h

/-- The reference keeps its arguments; it declares no semaphore. -/
theorem quiescent_reference : quiescent_Reference13Ideal := fun m g _ =>
  (θ_run Reference13Ideal.defs _ _).mono
    (fun r h => ⟨fun c => (h c).2.2.2, sem_eq_zero_of_no_sems (by decide) r.2⟩) (Reference13Ideal.Value.run m g)

theorem algebraic : algebraic_Kernel13Ideal_Reference13Ideal_pre_finite13 := by
  intro m g m' g' hp hagree
  refine ⟨_, _, _, Kernel13Ideal.Value.run_blocks m g,
    (θ_run Reference13Ideal.defs _ _).mono (fun r h c => ?_) (Reference13Ideal.Value.run m' g')⟩
  obtain ⟨h0, h1, h2, hk⟩ := h c
  obtain ⟨a0, a1, a2⟩ := hagree c
  refine ⟨?_, ?_, ?_, hk⟩
  · rw [h0, a0, a1, a2]; exact (final_3 m c).symm
  · rw [h1, a0, a1, a2]; exact (final_4 m c (hp c)).symm
  · rw [h2, a0, a1]; exact (final_5 m c).symm

end Cert.FfnIn

end
-- ==== Proof.ModIn.lean ====
/- The modulated rows and their product with the padded beta and decay columns: what the eight grid points leave
   in the two result arrays, and the run of the kernel against the reference's. -/
module

public import proofs.«01_k».proof.Defs
public import proofs.«01_k».proof.Proof.Gen.Kernel14Ideal.Value
public import proofs.«01_k».proof.Proof.Gen.Reference14Ideal.Run
public import Idealize.ShloMosaic.Lib.Claim
public import Idealize.ShloMosaic.Lib.Pipeline.ValueKit

@[expose] public section

set_option maxRecDepth 16384

noncomputable section

namespace Cert.ModIn

open Idealize.ShloMosaic TcCoe Idealize.SL.Sem
open scoped BigOperators

section
open Reference14Ideal Reference14Ideal.Gen

/-- The modulated rows before their rounding. -/
abbrev refX (a0 : FVec Ideal S4096x1024 .f32) (a1 a2 : FVec Ideal S1x1024 .f32) :
    FVec Ideal S4096x1024 .f32 :=
  addf (mulf a0 (broadcastInDim S4096x1024 ![0, 1] bcast_S1x1024_S4096x1024_0_1
    (addf (broadcastInDim S1x1024 ![] bcast_S_S1x1024 (constant S_ .f32 0x3F800000#32)) a1)))
    (broadcastInDim S4096x1024 ![0, 1] bcast_S1x1024_S4096x1024_0_1 a2)

/-- The first result: the modulated rows. -/
abbrev refH (a0 : FVec Ideal S4096x1024 .f32) (a1 a2 : FVec Ideal S1x1024 .f32) :
    FVec Ideal S4096x1024 .bf16 := truncf .bf16 (refX a0 a1 a2) bitsLt_bf16_f32

/-- The second result: the product with the eight columns, 120 columns of zeros beside it. -/
abbrev refB (a0 : FVec Ideal S4096x1024 .f32) (a1 a2 : FVec Ideal S1x1024 .f32)
    (a3 : FVec Ideal S1024x8 .f32) : FVec Ideal S4096x128 .f32 :=
  concatenate S4096x128 1
    [⟨S4096x8, Host.dotGeneral dot_S4096x1024_S1024x8_S4096x8_1_0_0_1_n_n none (refX a0 a1 a2) a3⟩,
     ⟨S4096x120, broadcastInDim S4096x120 ![] bcast_S_S4096x120
        (constant S_ .f32 0x00000000#32)⟩]
    concatenates_S4096x8_S4096x120_S4096x128_d1
end

open Kernel14Ideal Kernel14Ideal.Gen

variable (m : (ℓ : Loc nD τ sig) → Buf (Elt Ideal) ℓ) (c : Dev nD) (t : Fin cfg0.N)

abbrev A0 : FVec Ideal S4096x1024 .f32 := m ((c : Thread nD τ).loc main_arg0)
abbrev A1 : FVec Ideal S1x1024 .f32 := m ((c : Thread nD τ).loc main_arg1)
abbrev A2 : FVec Ideal S1x1024 .f32 := m ((c : Thread nD τ).loc main_arg2)
abbrev A3 : FVec Ideal S1024x8 .f32 := m ((c : Thread nD τ).loc main_arg3)

/-- Every window's block index at every grid point. -/
theorem idx_val : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

theorem lt8 : t.val < 8 := lt_of_lt_of_eq t.isLt N_0

/-- Row r of grid point t's block. -/
def at_ (r : Fin 512) : Fin 4096 := ⟨t.val * 512 + r.val, by have := lt8 t; omega⟩

theorem blk_0 (r : Fin 512) (k : Fin 1024) : iblk m c 0 t (ix2 r k) = A0 m c (ix2 (at_ t r) k) := by blk_point [iblk, V, at_, idx_val t]
theorem blk_1 (k : Fin 1024) : iblk m c 1 t (ix2 0 k) = A1 m c (ix2 0 k) := by blk_point [iblk, V, idx_val t]
theorem blk_2 (k : Fin 1024) : iblk m c 2 t (ix2 0 k) = A2 m c (ix2 0 k) := by blk_point [iblk, V, idx_val t]

/-- The padded columns the call gets, transposed. -/
theorem blk_3 (e : Fin 128) (k : Fin 1024) : iblk m c 3 t (ix2 e k) = if h : e.val < 8 then A3 m c (ix2 k ⟨e.val, h⟩) else 0 := by
  have he : ((cfg0.win 3).blk t).view.emb (ix2 e k) = ix2 e k := by blk_ext [idx_val t]
  blk_simp [iblk]
  rw [he]
  entry_read
  split_ifs with h
  · pointwise
    exact dif_pos h
  · pointwise
    exact dif_neg h

theorem point_4 (y) : k0_pay1 (iblk m c 0 t) (iblk m c 1 t) (iblk m c 2 t) y = refH (A0 m c) (A1 m c) (A2 m c) (((cfg0.win 4).blk t).view.emb y) := by
  obtain ⟨r, e, rfl⟩ : ∃ (r : Fin 512) (e : Fin 1024), y = ix2 r e := ⟨y 0, y 1, by funext d; fin_cases d <;> rfl⟩
  have he : ((cfg0.win 4).blk t).view.emb (ix2 r e) = ix2 (at_ t r) e := by blk_ext [at_, idx_val t]
  rw [he]
  pointwise [k0_pay1, refH, refX]
  rw [blk_0, blk_1, blk_2]

theorem point_5 (y) : k0_pay2 (iblk m c 0 t) (iblk m c 1 t) (iblk m c 2 t) (iblk m c 3 t) y
    = refB (A0 m c) (A1 m c) (A2 m c) (A3 m c) (((cfg0.win 5).blk t).view.emb y) := by
  obtain ⟨r, e, rfl⟩ : ∃ (r : Fin 512) (e : Fin 128), y = ix2 r e := ⟨y 0, y 1, by funext d; fin_cases d <;> rfl⟩
  have he : ((cfg0.win 5).blk t).view.emb (ix2 r e) = ix2 (at_ t r) e := by blk_ext [at_, idx_val t]
  rw [he]
  by_cases h : e.val < 8
  · pointwise [k0_pay2, k0_pay1, refB, refX]
    simp only [blk_0, blk_1, blk_2, blk_3, h, dite_true]
  · pointwise [k0_pay2, k0_pay1, refB, refX]
    simp only [blk_3, h, dite_false, mul_zero, Finset.sum_const_zero]

theorem final_4 : (dats m 0 c).arrAt 4 (cfgs 0).N = refH (A0 m c) (A1 m c) (A2 m c) := by
  refine (dats m 0 c).arrAt_eq_of_covers 4 _ (by decide +kernel) fun t hf y => ?_
  blk_simp; rw [after0_4]; frame_out; exact point_4 m c t y

theorem final_5 : (dats m 0 c).arrAt 5 (cfgs 0).N = refB (A0 m c) (A1 m c) (A2 m c) (A3 m c) := by
  refine (dats m 0 c).arrAt_eq_of_covers 5 _ (by decide +kernel) fun t hf y => ?_
  blk_simp; rw [after0_5]; frame_out; exact point_5 m c t y

/-- The reference keeps its arguments; it declares no semaphore. -/
theorem quiescent_reference : quiescent_Reference14Ideal := fun m g _ =>
  (θ_run Reference14Ideal.defs _ _).mono
    (fun r h => ⟨fun c => (h c).2.2, sem_eq_zero_of_no_sems (by decide) r.2⟩) (Reference14Ideal.Value.run m g)

theorem algebraic : algebraic_Kernel14Ideal_Reference14Ideal := by
  intro m g m' g' _ hagree
  refine ⟨_, _, Kernel14Ideal.Value.run_blocks m g,
    (θ_run Reference14Ideal.defs _ _).mono (fun r h c => ?_) (Reference14Ideal.Value.run m' g')⟩
  obtain ⟨h0, h1, hk⟩ := h c
  obtain ⟨a0, a1, a2, a3⟩ := hagree c
  refine ⟨?_, ?_, hk⟩
  · rw [h0, a0, a1, a2]; exact (final_4 m c).symm
  · rw [h1, a0, a1, a2, a3]; exact (final_5 m c).symm

end Cert.ModIn

end
-- ==== Proof.MixF.lean ====
/- The gated norm beside the attention's output: what the eight grid points leave in the result array, and the
   run of the kernel against the reference's. -/
module

public import proofs.«01_k».proof.Defs
public import proofs.«01_k».proof.Proof.Gen.Kernel15Ideal.Value
public import proofs.«01_k».proof.Proof.Gen.Reference15Ideal.Run
public import proofs.«01_k».proof.Proof.Gate
public import Idealize.ShloMosaic.Lib.Claim
public import Idealize.ShloMosaic.Lib.Pipeline.ValueKit

@[expose] public section

set_option maxRecDepth 16384

noncomputable section

namespace Cert.MixF

open Idealize.ShloMosaic TcCoe Idealize.SL.Sem
open scoped BigOperators

/-- A row of one head: its 128 columns. -/
abbrev Row := Fin 128 → EReal

/-- A head's normed row times the gain and the gate. -/
def head (O Z G : Row) : Row := fun k =>
  O k * Ideal.rsqrt (Ideal.div (∑ j, O j * O j) (Ideal.ofBits .f32 0x43000000#32) + Ideal.ofBits .f32 0x358637BD#32) * G k * (Z k * Gate.sig (Z k))

/-- A column of a head; a column of the first and of the second half of a row of 1024. -/
def col (h : Fin 4) (k : Fin 128) : Fin 512 := ⟨128 * h.val + k.val, by omega⟩
def lo (e : Fin 512) : Fin 1024 := ⟨e.val, by omega⟩
def hi (e : Fin 512) : Fin 1024 := ⟨512 + e.val, by omega⟩

section
open Reference15Ideal Reference15Ideal.Gen
variable (a0 a1 a2 : FVec Ideal S4096x512 .f32) (a3 : FVec Ideal S128 .f32)

/-- The reference's heads of an array, -/
abbrev heads (x : FVec Ideal S4096x512 .f32) : FVec Ideal S4096x4x128 .f32 := shapeCast _ x shapeCasts_S4096x512_S4096x4x128

/-- ones, -/
abbrev one3 : FVec Ideal S4096x4x128 .f32 := broadcastInDim S4096x4x128 ![] bcast_S_S4096x4x128 (constant S_ .f32 0x3F800000#32)

/-- the reciprocal root of each head's mean square, -/
abbrev root (x : FVec Ideal S4096x4x128 .f32) : FVec Ideal S4096x4x1 .f32 :=
  Host.rsqrt (addf (Host.divf (broadcastInDim S4096x4x1 ![0, 1] bcast_S4096x4_S4096x4x1_0_1
    (Host.reduceAdd (mulf x x) (constant S_ .f32 0x00000000#32) reducesTo_S4096x4x128_S4096x4_d2 h_S_))
    (broadcastInDim S4096x4x1 ![] bcast_S_S4096x4x1 (constant S_ .f32 0x43000000#32)))
    (broadcastInDim S4096x4x1 ![] bcast_S_S4096x4x1 (constant S_ .f32 0x358637BD#32)))

/-- the gated norm of the heads, -/
abbrev gated : FVec Ideal S4096x4x128 .f32 :=
  mulf (mulf (mulf (heads a0) (broadcastInDim S4096x4x128 ![0, 1, 2] bcast_S4096x4x1_S4096x4x128_0_1_2 (root (heads a0))))
    (broadcastInDim S4096x4x128 ![0, 1, 2] bcast_S1x1x128_S4096x4x128_0_1_2 (broadcastInDim S1x1x128 ![2] bcast_S128_S1x1x128_2 a3)))
    (mulf (heads a1) (Host.divf one3 (addf one3 (Host.exp (Host.negf (heads a1))))))

/-- and its result: the gated norm beside the attention's output. -/
abbrev ref : FVec Ideal S4096x1024 .bf16 :=
  truncf .bf16 (concatenate S4096x1024 1 [⟨S4096x512, shapeCast _ (gated a0 a1 a3) shapeCasts_S4096x4x128_S4096x512⟩, ⟨S4096x512, a2⟩]
    concatenates_S4096x512_S4096x512_S4096x1024_d1) bitsLt_bf16_f32

variable (R : Fin 4096) (h : Fin 4) (k : Fin 128)

theorem col_flat (hh : h.val * 128 + k.val < 512) : (⟨h.val * 128 + k.val, hh⟩ : Fin 512) = col h k := Fin.ext (by show h.val * 128 + k.val = 128 * h.val + k.val; omega)
theorem col_div (hh : (col h k).val / 128 < 4) : (⟨(col h k).val / 128, hh⟩ : Fin 4) = h := Fin.ext (by show (128 * h.val + k.val) / 128 = h.val; omega)
theorem col_mod (hh : (col h k).val % 128 < 128) : (⟨(col h k).val % 128, hh⟩ : Fin 128) = k := Fin.ext (by show (128 * h.val + k.val) % 128 = k.val; omega)

theorem heads_at (x : FVec Ideal S4096x512 .f32) : heads x (ix3 R h k) = x (ix2 R (col h k)) := by
  pointwise [heads]; rw [col_flat]

theorem gated_at : gated a0 a1 a3 (ix3 R h k) = head (fun k => a0 (ix2 R (col h k))) (fun k => a1 (ix2 R (col h k))) (fun k => a3 (ix1 k)) k := by
  have h0 := fun k => heads_at R h k a0
  have h1 := fun k => heads_at R h k a1
  simp only [gated, root, one3]
  generalize heads a0 = x0 at h0 ⊢
  generalize heads a1 = x1 at h1 ⊢
  pointwise []
  simp only [h0, h1, Gate.sig_host]
  rfl

theorem ref_lo : ref a0 a1 a2 a3 (ix2 R (lo (col h k))) = head (fun k => a0 (ix2 R (col h k))) (fun k => a1 (ix2 R (col h k))) (fun k => a3 (ix1 k)) k := by
  rw [← gated_at]
  simp only [ref]
  generalize gated a0 a1 a3 = x
  have hl : ((lo (col h k) : Fin 1024) : ℕ) < 512 := (col h k).isLt
  pointwise []
  simp only [hl, dite_true]
  exact congrArg₂ (fun a b => x (ix3 R a b)) (col_div h k (by have := (col h k).isLt; omega)) (col_mod h k (Nat.mod_lt _ (by norm_num)))

theorem ref_hi (e : Fin 512) : ref a0 a1 a2 a3 (ix2 R (hi e)) = a2 (ix2 R e) := by
  simp only [ref]
  generalize gated a0 a1 a3 = x
  have hl : ¬ ((hi e : Fin 1024) : ℕ) < 512 := by show ¬ 512 + e.val < 512; omega
  pointwise []
  simp only [hl, dite_false]
  congr 2
  exact Fin.ext (by show 512 + e.val - 512 = e.val; omega)
end

open Kernel15Ideal Kernel15Ideal.Gen

section
variable (o : FVec Ideal S512x512 .f32) (z : FVec Ideal S512x512 .bf16) (q : FVec Ideal S512x512 .f32) (g : FVec Ideal S1x128 .f32) (r : Fin 512) (k : Fin 128)

theorem c0 (x : Fin 128) (hx : x.val < 512) : (⟨x.val, hx⟩ : Fin 512) = col 0 x := Fin.ext (by show x.val = 128 * 0 + x.val; omega)

abbrev hd (h : Fin 4) : EReal := head (fun k => o (ix2 r (col h k))) (fun k => z (ix2 r (col h k))) (fun k => g (ix2 0 k)) k

theorem hd_0 : k0_pay4 (F := Ideal) o z g (ix2 r k) = hd o z g r k 0 := by
  pointwise [k0_pay4, k0_pay2, k0_pay3]
  simp only [c0, Gate.sig_tanh]
  rfl

theorem hd_1 : k0_pay7 (F := Ideal) (k0_pay3 z) (k0_pay5 o) (k0_pay6 g) (ix2 r k) = hd o z g r k 1 := by
  pointwise [k0_pay7, k0_pay5, k0_pay6, k0_pay2, k0_pay3]
  simp only [Gate.sig_tanh]
  rfl

theorem hd_2 : k0_pay8 (F := Ideal) o (k0_pay2 g) (k0_pay3 z) (ix2 r k) = hd o z g r k 2 := by
  pointwise [k0_pay8, k0_pay2, k0_pay3]
  simp only [Gate.sig_tanh]
  rfl

/-- The last head's product, which the call forms as it stores. -/
abbrev v98 : FVec Ideal S512x128 .f32 :=
  mulf (k0_pay9 o (k0_pay2 g)) (mulf (k0_pay10 (k0_pay3 z)) (mulf (broadcast S512x128 (Scalar.ofBits .f32 0x3F000000#32))
    (addf (tanh (mulf (broadcast S512x128 (Scalar.ofBits .f32 0x3F000000#32)) (k0_pay10 (k0_pay3 z)))) (broadcast S512x128 (Scalar.ofBits .f32 0x3F800000#32)))))

theorem hd_3 : v98 o z g (ix2 r k) = hd o z g r k 3 := by
  pointwise [v98, k0_pay9, k0_pay10, k0_pay2, k0_pay3]
  simp only [Gate.sig_tanh]
  rfl

/-- What a grid point stores. -/
abbrev out : FVec Ideal S512x1024 .bf16 :=
  k0_pay1 (F := Ideal) q (k0_pay4 o z g) (k0_pay7 (k0_pay3 z) (k0_pay5 o) (k0_pay6 g)) (k0_pay8 o (k0_pay2 g) (k0_pay3 z)) (k0_pay9 o (k0_pay2 g)) (k0_pay10 (k0_pay3 z))

theorem out_eq : out o z q g = truncf .bf16 (concatenate S512x1024 1 [⟨S512x128, k0_pay4 o z g⟩, ⟨S512x128, k0_pay7 (k0_pay3 z) (k0_pay5 o) (k0_pay6 g)⟩,
    ⟨S512x128, k0_pay8 o (k0_pay2 g) (k0_pay3 z)⟩, ⟨S512x128, v98 o z g⟩, ⟨S512x512, q⟩]
    concatenates_S512x128_S512x128_S512x128_S512x128_S512x512_S512x1024_d1) bitsLt_bf16_f32 := rfl

theorem out_lo : ∀ h : Fin 4, out o z q g (ix2 r (lo (col h k))) = hd o z g r k h := by
  rw [out_eq]
  have e0 := hd_0 o z g r
  have e1 := hd_1 o z g r
  have e2 := hd_2 o z g r
  have e3 := hd_3 o z g r
  generalize k0_pay4 (F := Ideal) o z g = u0 at e0 ⊢
  generalize k0_pay7 (F := Ideal) (k0_pay3 z) (k0_pay5 o) (k0_pay6 g) = u1 at e1 ⊢
  generalize k0_pay8 (F := Ideal) o (k0_pay2 g) (k0_pay3 z) = u2 at e2 ⊢
  generalize v98 o z g = u3 at e3 ⊢
  intro h
  have hv : ((lo (col h k) : Fin 1024) : ℕ) = 128 * h.val + k.val := rfl
  pointwise []
  simp only [hv]
  fin_cases h
  · refine Eq.trans ?_ (e0 k)
    rw [dif_pos (by show 128 * 0 + k.val < 128; omega)]
    exact congrArg (fun x => u0 (ix2 r x)) (Fin.ext (by show 128 * 0 + k.val = k.val; omega))
  · refine Eq.trans ?_ (e1 k)
    rw [dif_neg (by show ¬ 128 * 1 + k.val < 128; omega), dif_pos (by show 128 * 1 + k.val - 128 < 128; omega)]
    exact congrArg (fun x => u1 (ix2 r x)) (Fin.ext (by show 128 * 1 + k.val - 128 = k.val; omega))
  · refine Eq.trans ?_ (e2 k)
    rw [dif_neg (by show ¬ 128 * 2 + k.val < 128; omega), dif_neg (by show ¬ 128 * 2 + k.val - 128 < 128; omega), dif_pos (by show 128 * 2 + k.val - 128 - 128 < 128; omega)]
    exact congrArg (fun x => u2 (ix2 r x)) (Fin.ext (by show 128 * 2 + k.val - 128 - 128 = k.val; omega))
  · refine Eq.trans ?_ (e3 k)
    rw [dif_neg (by show ¬ 128 * 3 + k.val < 128; omega), dif_neg (by show ¬ 128 * 3 + k.val - 128 < 128; omega), dif_neg (by show ¬ 128 * 3 + k.val - 128 - 128 < 128; omega), dif_pos (by show 128 * 3 + k.val - 128 - 128 - 128 < 128; omega)]
    exact congrArg (fun x => u3 (ix2 r x)) (Fin.ext (by show 128 * 3 + k.val - 128 - 128 - 128 = k.val; omega))

theorem out_hi (e : Fin 512) : out o z q g (ix2 r (hi e)) = q (ix2 r e) := by
  rw [out_eq]
  generalize k0_pay4 (F := Ideal) o z g = u0
  generalize k0_pay7 (F := Ideal) (k0_pay3 z) (k0_pay5 o) (k0_pay6 g) = u1
  generalize k0_pay8 (F := Ideal) o (k0_pay2 g) (k0_pay3 z) = u2
  generalize v98 o z g = u3
  have hv : ((hi e : Fin 1024) : ℕ) = 512 + e.val := rfl
  pointwise []
  simp only [hv]
  rw [dif_neg (by omega), dif_neg (by omega), dif_neg (by omega), dif_neg (by omega)]
  exact congrArg (fun x => q (ix2 r x)) (Fin.ext (by show 512 + e.val - 128 - 128 - 128 - 128 = e.val; omega))
end

variable (m : (ℓ : Loc nD τ sig) → Buf (Elt Ideal) ℓ) (c : Dev nD) (t : Fin cfg0.N)

abbrev A0 : FVec Ideal S4096x512 .f32 := m ((c : Thread nD τ).loc main_arg0)
abbrev A1 : FVec Ideal S4096x512 .f32 := m ((c : Thread nD τ).loc main_arg1)
abbrev A2 : FVec Ideal S4096x512 .f32 := m ((c : Thread nD τ).loc main_arg2)
abbrev A3 : FVec Ideal S128 .f32 := m ((c : Thread nD τ).loc main_arg3)

/-- Every window's block index at every grid point. -/
theorem idx_val : ∀ t : Fin cfg0.N, win0_0.index t = ![t.val, 0] ∧ win0_1.index t = ![t.val, 3] ∧ win0_2.index t = ![t.val, 0]
    ∧ win0_3.index t = ![0, 0] ∧ win0_4.index t = ![t.val, 0] :=
  (by decide +kernel : ∀ t : Fin grid0.N, _)

theorem lt8 : t.val < 8 := lt_of_lt_of_eq t.isLt N_0

/-- Row r of grid point t's block. -/
def at_ (r : Fin 512) : Fin 4096 := ⟨t.val * 512 + r.val, by have := lt8 t; omega⟩

theorem blk_0 (r k : Fin 512) : iblk m c 0 t (ix2 r k) = A0 m c (ix2 (at_ t r) k) := by blk_point [iblk, V, at_, idx_val t]
theorem blk_2 (r k : Fin 512) : iblk m c 2 t (ix2 r k) = A2 m c (ix2 (at_ t r) k) := by blk_point [iblk, V, at_, idx_val t]
theorem blk_3 (k : Fin 128) : iblk m c 3 t (ix2 0 k) = A3 m c (ix1 k) := by
  have he : ((cfg0.win 3).blk t).view.emb (ix2 0 k) = ix2 0 k := by blk_ext [idx_val t]
  blk_simp [iblk]
  rw [he]
  entry_read
  pointwise

theorem conc3 {a a' : FVec Ideal S4096x1536 .f32} {b b' : FVec Ideal S4096x512 .f32} {d d' : FVec Ideal S4096x1024 .f32} (ha : a = a') (hb : b = b') (hd : d = d') :
    concatenate S4096x3072 1 [⟨S4096x1536, a⟩, ⟨S4096x512, b⟩, ⟨S4096x1024, d⟩] concatenates_S4096x1536_S4096x512_S4096x1024_S4096x3072_d1
      = concatenate S4096x3072 1 [⟨S4096x1536, a'⟩, ⟨S4096x512, b'⟩, ⟨S4096x1024, d'⟩] concatenates_S4096x1536_S4096x512_S4096x1024_S4096x3072_d1 := by
  subst ha hb hd; rfl

/-- The host's first four lines. -/
abbrev front : List (HloOp τ sig (Elt Ideal)) :=
  [ StableHlo.nullary main_cst (constant (F := Ideal) S_ .f32 0x00000000#32),
    StableHlo.unary main_cst main_v0 (broadcastInDim S4096x1536 ![] bcast_S_S4096x1536 : (⟨S_, .f32⟩ : BufTy).Contents (Elt Ideal) → (⟨S4096x1536, .f32⟩ : BufTy).Contents (Elt Ideal)),
    StableHlo.nullary main_cst_0 (constant (F := Ideal) S_ .f32 0x00000000#32),
    StableHlo.unary main_cst_0 main_v1 (broadcastInDim S4096x1024 ![] bcast_S_S4096x1024 : (⟨S_, .f32⟩ : BufTy).Contents (Elt Ideal) → (⟨S4096x1024, .f32⟩ : BufTy).Contents (Elt Ideal)) ]

/-- The projections' array at the call: the gate's columns between zeros. -/
theorem V_v3 : V m c main_v3 = (truncf .bf16 (concatenate S4096x3072 1 [⟨S4096x1536, broadcastInDim S4096x1536 ![] bcast_S_S4096x1536 (constant S_ .f32 0x00000000#32)⟩, ⟨S4096x512, A1 m c⟩,
    ⟨S4096x1024, broadcastInDim S4096x1024 ![] bcast_S_S4096x1024 (constant S_ .f32 0x00000000#32)⟩] concatenates_S4096x1536_S4096x512_S4096x1024_S4096x3072_d1) bitsLt_bf16_f32 : FVec Ideal S4096x3072 .bf16) := by
  show StableHlo.after hostOps0 (fun b => m (c, b)) (Proc.devRef .tc main_v3) = _
  after_results
  refine congrArg (fun x : FVec Ideal S4096x3072 .f32 => (truncf .bf16 x bitsLt_bf16_f32 : FVec Ideal S4096x3072 .bf16)) (conc3 ?_ ?_ ?_)
  · show StableHlo.after front (fun b => m (c, b)) (Proc.devRef .tc main_v0) = _
    after_results
  · show StableHlo.after front (fun b => m (c, b)) (Proc.devRef .tc main_arg1) = _
    after_results
  · show StableHlo.after front (fun b => m (c, b)) (Proc.devRef .tc main_v1) = _
    after_results

theorem blk_1 (r k : Fin 512) : iblk m c 1 t (ix2 r k) = A1 m c (ix2 (at_ t r) k) := by
  have he : ((cfg0.win 1).blk t).view.emb (ix2 r k) = ix2 (at_ t r) (⟨1536 + k.val, by omega⟩ : Fin 3072) := by blk_ext [at_, idx_val t]
  show V m c main_v3 (((cfg0.win 1).blk t).view.emb (ix2 r k)) = _
  rw [he, V_v3]
  pointwise

theorem split_col (e : Fin 512) : ∃ (h : Fin 4) (k : Fin 128), e = col h k :=
  ⟨⟨e.val / 128, by omega⟩, ⟨e.val % 128, by omega⟩, Fin.ext (by show e.val = 128 * (e.val / 128) + e.val % 128; omega)⟩

theorem split_half (e : Fin 1024) : (∃ x : Fin 512, e = lo x) ∨ ∃ x : Fin 512, e = hi x := by
  by_cases h : e.val < 512
  · exact .inl ⟨⟨e.val, h⟩, rfl⟩
  · exact .inr ⟨⟨e.val - 512, by omega⟩, Fin.ext (by show e.val = 512 + (e.val - 512); omega)⟩

theorem point (y) : out (iblk m c 0 t) (iblk m c 1 t) (iblk m c 2 t) (iblk m c 3 t) y = ref (A0 m c) (A1 m c) (A2 m c) (A3 m c) (((cfg0.win 4).blk t).view.emb y) := by
  obtain ⟨r, e, rfl⟩ : ∃ (r : Fin 512) (e : Fin 1024), y = ix2 r e := ⟨y 0, y 1, by funext d; fin_cases d <;> rfl⟩
  have he : ((cfg0.win 4).blk t).view.emb (ix2 r e) = ix2 (at_ t r) e := by blk_ext [at_, idx_val t]
  rw [he]
  rcases split_half e with ⟨x, rfl⟩ | ⟨x, rfl⟩
  · obtain ⟨h, k, rfl⟩ := split_col x
    rw [ref_lo, out_lo, hd]
    simp only [blk_0, blk_1, blk_3]
  · rw [ref_hi, out_hi, blk_2]

theorem final : (dats m 0 c).arrAt 4 (cfgs 0).N = ref (A0 m c) (A1 m c) (A2 m c) (A3 m c) := by
  refine (dats m 0 c).arrAt_eq_of_covers 4 _ (by decide +kernel) fun t hf y => ?_
  blk_simp; rw [after0_4]; dsimp only; unfold_out out0_4; frame_out; exact point m c t y

/-- The reference keeps its arguments; it declares no semaphore. -/
theorem quiescent_reference : quiescent_Reference15Ideal := fun m g _ =>
  (θ_run Reference15Ideal.defs _ _).mono
    (fun r h => ⟨fun c => (h c).2, sem_eq_zero_of_no_sems (by decide) r.2⟩) (Reference15Ideal.Value.run m g)

theorem algebraic : algebraic_Kernel15Ideal_Reference15Ideal := by
  intro m g m' g' _ hagree
  refine ⟨_, Kernel15Ideal.Value.run_blocks m g,
    (θ_run Reference15Ideal.defs _ _).mono (fun r h c => ?_) (Reference15Ideal.Value.run m' g')⟩
  obtain ⟨h0, hk⟩ := h c
  obtain ⟨a0, a1, a2, a3⟩ := hagree c
  refine ⟨?_, hk⟩
  rw [h0, a0, a1, a2, a3]; exact (final m c).symm

end Cert.MixF

end
-- ==== Proof.Norm1F.lean ====
/- The first norm with the residual scale and the modulation behind it: what the eight grid points leave in the
   two result arrays, and the run of the kernel against the reference's. -/
module

public import proofs.«01_k».proof.Defs
public import proofs.«01_k».proof.Proof.Gen.Kernel16Ideal.Value
public import proofs.«01_k».proof.Proof.Gen.Reference16Ideal.Run
public import proofs.«01_k».proof.Proof.Norm
public import Idealize.ShloMosaic.Lib.Claim
public import Idealize.ShloMosaic.Lib.Pipeline.ValueKit

@[expose] public section

set_option maxRecDepth 16384

noncomputable section

namespace Cert.Norm1F

open Idealize.ShloMosaic TcCoe Idealize.SL.Sem
open Cert.Norm
open scoped BigOperators

section
open Reference16Ideal Reference16Ideal.Gen
variable (a0 : FVec Ideal S4096x1024 .f32) (a1 : FVec Ideal S4096x1024 .bf16) (a2 a3 a4 a5 a6 : FVec Ideal S1x1024 .f32)

/-- A vector of 1024 over all rows; one number over all rows; one number a row over its columns. -/
abbrev wide (v : FVec Ideal S1x1024 .f32) : FVec Ideal S4096x1024 .f32 := broadcastInDim S4096x1024 ![0, 1] bcast_S1x1024_S4096x1024_0_1 v
abbrev num (b : BitVec 32) : FVec Ideal S4096x1 .f32 := broadcastInDim S4096x1 ![] bcast_S_S4096x1 (constant S_ .f32 b)
abbrev rows (v : FVec Ideal S4096x1 .f32) : FVec Ideal S4096x1024 .f32 := broadcastInDim S4096x1024 ![0, 1] bcast_S4096x1_S4096x1024_0_1 v

/-- The mean of each row. -/
abbrev mean (x : FVec Ideal S4096x1024 .f32) : FVec Ideal S4096x1 .f32 :=
  Host.divf (broadcastInDim S4096x1 ![0] bcast_S4096_S4096x1_0 (Host.reduceAdd x (constant S_ .f32 0x00000000#32) reducesTo_S4096x1024_S4096_d1 h_S_)) (num 0x44800000#32)

/-- The reference's rows before the norm, -/
abbrev refX : FVec Ideal S4096x1024 .f32 :=
  addf (mulf (broadcastInDim S4096x1024 ![] bcast_S_S4096x1024 (constant S_ .f32 0x3F9837F0#32)) a0) (mulf (wide a2) (extf .f32 a1 bitsLt_bf16_f32))

/-- and less their mean. -/
abbrev refC (x : FVec Ideal S4096x1024 .f32) : FVec Ideal S4096x1024 .f32 := subf x (rows (mean x))

/-- The first result: the normed rows. -/
abbrev ref1 : FVec Ideal S4096x1024 .f32 :=
  addf (mulf (mulf (refC (refX a0 a1 a2)) (rows (Host.rsqrt (addf (mean (mulf (refC (refX a0 a1 a2)) (refC (refX a0 a1 a2)))) (num 0x3727C5AC#32))))) (wide a3)) (wide a4)

/-- The second: the same, modulated. -/
abbrev ref2 : FVec Ideal S4096x1024 .bf16 :=
  truncf .bf16 (addf (mulf (ref1 a0 a1 a2 a3 a4) (wide (addf (broadcastInDim S1x1024 ![] bcast_S_S1x1024 (constant S_ .f32 0x3F800000#32)) a5))) (wide a6)) bitsLt_bf16_f32

/-- A row of the norm's input. -/
abbrev rowX (R : Fin 4096) : Row := mix (fun k => a0 (ix2 R k)) (fun k => a1 (ix2 R k)) (fun k => a2 (ix2 0 k))

theorem refX_at (R : Fin 4096) (k : Fin 1024) : refX a0 a1 a2 (ix2 R k) = rowX a0 a1 a2 R k := by pointwise [refX]; rfl

theorem refC_at (x : FVec Ideal S4096x1024 .f32) (R : Fin 4096) (k : Fin 1024) : refC x (ix2 R k) = xc (fun k => x (ix2 R k)) k := by
  pointwise [refC]; rfl

theorem ref1_at (R : Fin 4096) (k : Fin 1024) : ref1 a0 a1 a2 a3 a4 (ix2 R k) = nrm (rowX a0 a1 a2 R) k * a3 (ix2 0 k) + a4 (ix2 0 k) := by
  have hx : (fun k => refX a0 a1 a2 (ix2 R k)) = rowX a0 a1 a2 R := funext fun k => refX_at a0 a1 a2 R k
  rw [← hx]
  simp only [ref1]
  generalize refX a0 a1 a2 = x
  have hc := refC_at x R
  generalize refC x = y at hc
  pointwise []
  simp only [hc]
  rfl

theorem ref2_at (R : Fin 4096) (k : Fin 1024) : ref2 a0 a1 a2 a3 a4 a5 a6 (ix2 R k)
    = (nrm (rowX a0 a1 a2 R) k * a3 (ix2 0 k) + a4 (ix2 0 k)) * (1 + a5 (ix2 0 k)) + a6 (ix2 0 k) := by
  rw [← ref1_at]
  simp only [ref2]
  generalize ref1 a0 a1 a2 a3 a4 = x
  pointwise []
end

open Kernel16Ideal Kernel16Ideal.Gen

theorem pay2_at (x0 : Vec Ideal S512x1024 .f32) (x1 : Vec Ideal S512x1024 .bf16) (x2 x3 x4 : Vec Ideal S1x1024 .f32) (r : Fin 512) (k : Fin 1024) :
    k0_pay2 (F := Ideal) x0 x1 x2 x3 x4 (ix2 r k)
      = nrm (mix (fun k => x0 (ix2 r k)) (fun k => x1 (ix2 r k)) (fun k => x2 (ix2 0 k))) k * x3 (ix2 0 k) + x4 (ix2 0 k) := by
  pointwise [k0_pay2]; rfl

variable (m : (ℓ : Loc nD τ sig) → Buf (Elt Ideal) ℓ) (c : Dev nD) (t : Fin cfg0.N)

abbrev A0 : FVec Ideal S4096x1024 .f32 := m ((c : Thread nD τ).loc main_arg0)
abbrev A1 : FVec Ideal S4096x1024 .bf16 := m ((c : Thread nD τ).loc main_arg1)
abbrev A2 : FVec Ideal S1x1024 .f32 := m ((c : Thread nD τ).loc main_arg2)
abbrev A3 : FVec Ideal S1x1024 .f32 := m ((c : Thread nD τ).loc main_arg3)
abbrev A4 : FVec Ideal S1x1024 .f32 := m ((c : Thread nD τ).loc main_arg4)
abbrev A5 : FVec Ideal S1x1024 .f32 := m ((c : Thread nD τ).loc main_arg5)
abbrev A6 : FVec Ideal S1x1024 .f32 := m ((c : Thread nD τ).loc main_arg6)

/-- Every window's block index at every grid point. -/
theorem idx_val : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

theorem lt8 : t.val < 8 := lt_of_lt_of_eq t.isLt N_0

/-- Row r of grid point t's block. -/
def at_ (r : Fin 512) : Fin 4096 := ⟨t.val * 512 + r.val, by have := lt8 t; omega⟩

theorem blk_0 (r : Fin 512) (k : Fin 1024) : iblk m c 0 t (ix2 r k) = A0 m c (ix2 (at_ t r) k) := by blk_point [iblk, V, at_, idx_val t]
theorem blk_1 (r : Fin 512) (k : Fin 1024) : iblk m c 1 t (ix2 r k) = A1 m c (ix2 (at_ t r) k) := by blk_point [iblk, V, at_, idx_val t]
theorem blk_2 (k : Fin 1024) : iblk m c 2 t (ix2 0 k) = A2 m c (ix2 0 k) := by blk_point [iblk, V, idx_val t]
theorem blk_3 (k : Fin 1024) : iblk m c 3 t (ix2 0 k) = A3 m c (ix2 0 k) := by blk_point [iblk, V, idx_val t]
theorem blk_4 (k : Fin 1024) : iblk m c 4 t (ix2 0 k) = A4 m c (ix2 0 k) := by blk_point [iblk, V, idx_val t]
theorem blk_5 (k : Fin 1024) : iblk m c 5 t (ix2 0 k) = A5 m c (ix2 0 k) := by blk_point [iblk, V, idx_val t]
theorem blk_6 (k : Fin 1024) : iblk m c 6 t (ix2 0 k) = A6 m c (ix2 0 k) := by blk_point [iblk, V, idx_val t]

theorem split (y : S512x1024.Idx) : ∃ (r : Fin 512) (e : Fin 1024), y = ix2 r e := ⟨y 0, y 1, by funext d; fin_cases d <;> rfl⟩

theorem final_7 : (dats m 0 c).arrAt 7 (cfgs 0).N = ref1 (A0 m c) (A1 m c) (A2 m c) (A3 m c) (A4 m c) := by
  refine (dats m 0 c).arrAt_eq_of_covers 7 _ (by decide +kernel) fun t hf y => ?_
  blk_simp; rw [after0_7]; frame_out
  obtain ⟨r, e, rfl⟩ := split y
  have he : ((cfg0.win 7).blk t).view.emb (ix2 r e) = ix2 (at_ t r) e := by blk_ext [at_, idx_val t]
  rw [he, ref1_at, pay2_at]
  simp only [blk_0, blk_1, blk_2, blk_3, blk_4]

theorem final_8 : (dats m 0 c).arrAt 8 (cfgs 0).N = ref2 (A0 m c) (A1 m c) (A2 m c) (A3 m c) (A4 m c) (A5 m c) (A6 m c) := by
  refine (dats m 0 c).arrAt_eq_of_covers 8 _ (by decide +kernel) fun t hf y => ?_
  blk_simp; rw [after0_8]; frame_out
  obtain ⟨r, e, rfl⟩ := split y
  have he : ((cfg0.win 8).blk t).view.emb (ix2 r e) = ix2 (at_ t r) e := by blk_ext [at_, idx_val t]
  rw [he, ref2_at]
  pointwise [k0_pay1, k0_pay3, k0_pay4]
  rw [pay2_at]
  simp only [blk_0, blk_1, blk_2, blk_3, blk_4, blk_5, blk_6]

/-- The reference keeps its arguments; it declares no semaphore. -/
theorem quiescent_reference : quiescent_Reference16Ideal := fun m g _ =>
  (θ_run Reference16Ideal.defs _ _).mono
    (fun r h => ⟨fun c => (h c).2.2, sem_eq_zero_of_no_sems (by decide) r.2⟩) (Reference16Ideal.Value.run m g)

theorem algebraic : algebraic_Kernel16Ideal_Reference16Ideal := by
  intro m g m' g' _ hagree
  refine ⟨_, _, Kernel16Ideal.Value.run_blocks m g,
    (θ_run Reference16Ideal.defs _ _).mono (fun r h c => ?_) (Reference16Ideal.Value.run m' g')⟩
  obtain ⟨h0, h1, hk⟩ := h c
  obtain ⟨a0, a1, a2, a3, a4, a5, a6⟩ := hagree c
  refine ⟨?_, ?_, hk⟩
  · rw [h0, a0, a1, a2, a3, a4]; exact (final_7 m c).symm
  · rw [h1, a0, a1, a2, a3, a4, a5, a6]; exact (final_8 m c).symm

end Cert.Norm1F

end
-- ==== Proof.ModF.lean ====
/- The modulation vectors: what the call leaves in its result is the conditions' silu times the weights plus the
   bias, and the run of the kernel against the reference's. -/
module

public import proofs.«01_k».proof.Defs
public import proofs.«01_k».proof.Proof.Gen.Kernel17Ideal.Value
public import proofs.«01_k».proof.Proof.Gen.Reference17Ideal.Run
public import proofs.«01_k».proof.Proof.Gate
public import Idealize.ShloMosaic.Lib.Claim
public import Idealize.ShloMosaic.Lib.Pipeline.ValueKit

@[expose] public section

set_option maxRecDepth 16384

noncomputable section

namespace Cert.ModF

open Kernel17Ideal Kernel17Ideal.Gen Idealize.ShloMosaic TcCoe Idealize.SL.Sem

/-- The reference's result: the conditions' silu times the weights, plus the bias. -/
abbrev refM (a0 : FVec Ideal Reference17Ideal.S8x1024 .f32) (a1 : FVec Ideal Reference17Ideal.S1024x768 .f32)
    (a2 : FVec Ideal Reference17Ideal.S1x768 .f32) : FVec Ideal Reference17Ideal.S8x768 .f32 :=
  addf (Host.dotGeneral Reference17Ideal.dot_S8x1024_S1024x768_S8x768_1_0_0_1_n_n none
    (mulf a0 (Host.divf (broadcastInDim Reference17Ideal.S8x1024 ![] Reference17Ideal.Gen.bcast_S_S8x1024 (constant Reference17Ideal.S_ .f32 0x3F800000#32))
      (addf (broadcastInDim Reference17Ideal.S8x1024 ![] Reference17Ideal.Gen.bcast_S_S8x1024 (constant Reference17Ideal.S_ .f32 0x3F800000#32))
        (Host.exp (Host.negf a0))))) a1)
    (broadcastInDim Reference17Ideal.S8x768 ![0, 1] Reference17Ideal.Gen.bcast_S1x768_S8x768_0_1 a2)

theorem point (a0 : FVec Ideal S8x1024 .f32) (a1 : FVec Ideal S1024x768 .f32) (a2 : FVec Ideal S1x768 .f32) :
    Kernel17Ideal.Value.G3 (F := Ideal) a0 a1 a2 = refM a0 a1 a2 := by
  funext y
  obtain ⟨r, e, rfl⟩ : ∃ (r : Fin 8) (e : Fin 768), y = ix2 r e := ⟨y 0, y 1, by funext d; fin_cases d <;> rfl⟩
  pointwise [Kernel17Ideal.Value.G3, k0_pay1, refM]
  simp only [Gate.sig_tanh, Gate.sig_host]

/-- The reference keeps its arguments; it declares no semaphore. -/
theorem quiescent_reference : quiescent_Reference17Ideal := fun m g _ =>
  (θ_run Reference17Ideal.defs _ _).mono
    (fun r h => ⟨fun c => (h c).2, sem_eq_zero_of_no_sems (by decide) r.2⟩) (Reference17Ideal.Value.run m g)

theorem algebraic : algebraic_Kernel17Ideal_Reference17Ideal := by
  intro m g m' g' _ hagree
  refine ⟨_, Kernel17Ideal.Value.run m g,
    (θ_run Reference17Ideal.defs _ _).mono (fun r h c => ?_) (Reference17Ideal.Value.run m' g')⟩
  obtain ⟨h0, hk⟩ := h c
  obtain ⟨a0, a1, a2⟩ := hagree c
  refine ⟨?_, hk⟩
  rw [h0, a0, a1, a2]; exact (point _ _ _).symm

end Cert.ModF

end
-- ==== Proof.PrepFwd.lean ====
/- The latent projections' forward call: the queries, keys and values with the rotated columns beside them. -/
module

public import proofs.«01_k».proof.Defs
public import proofs.«01_k».proof.Proof.PrepH
public import proofs.«01_k».proof.Proof.Gen.Kernel18Ideal.Value
public import proofs.«01_k».proof.Proof.Gen.Reference18Ideal.Run

@[expose] public section

set_option maxRecDepth 16384

noncomputable section

namespace Cert.PrepFwd

open Idealize.ShloMosaic TcCoe Idealize.SL.Sem
open scoped BigOperators

section
open Reference18Ideal Reference18Ideal.Gen

/-- The reference's norm of the queries' latents, -/
abbrev nrmQ (x : FVec Ideal S4096x512 .f32) (g : FVec Ideal S512 .f32) : FVec Ideal S4096x512 .f32 :=
  mulf (mulf x (broadcastInDim S4096x512 ![0, 1] bcast_S4096x1_S4096x512_0_1 (Host.rsqrt (addf (Host.divf (broadcastInDim S4096x1 ![0] bcast_S4096_S4096x1_0 (Host.reduceAdd (mulf x x) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32))))))
    (broadcastInDim S4096x512 ![0, 1] bcast_S1x512_S4096x512_0_1 (broadcastInDim S1x512 ![1] bcast_S512_S1x512_1 (g)))

/-- of the keys' and values', -/
abbrev nrmK (x : FVec Ideal S4096x256 .f32) (g : FVec Ideal S256 .f32) : FVec Ideal S4096x256 .f32 :=
  mulf (mulf x (broadcastInDim S4096x256 ![0, 1] bcast_S4096x1_S4096x256_0_1 (Host.rsqrt (addf (Host.divf (broadcastInDim S4096x1 ![0] bcast_S4096_S4096x1_0 (Host.reduceAdd (mulf x x) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32))))))
    (broadcastInDim S4096x256 ![0, 1] bcast_S1x256_S4096x256_0_1 (broadcastInDim S1x256 ![1] bcast_S256_S1x256_1 (g)))

/-- their products by heads, -/
abbrev refQ3 (x : FVec Ideal S4096x512 .f32) (g : FVec Ideal S512 .f32) (w : FVec Ideal S512x768 .f32) : FVec Ideal S4096x4x192 .f32 :=
  shapeCast _ (mulf (Host.dotGeneral dot_S4096x512_S512x768_S4096x768_1_0_0_1_n_n none (nrmQ x g) w) (broadcastInDim S4096x768 ![] bcast_S_S4096x768 (constant S_ .f32 0x3DD53B95#32))) shapeCasts_S4096x768_S4096x4x192
abbrev refK3 (x : FVec Ideal S4096x256 .f32) (g : FVec Ideal S256 .f32) (w : FVec Ideal S256x1024 .f32) : FVec Ideal S4096x4x256 .f32 :=
  shapeCast _ (Host.dotGeneral dot_S4096x256_S256x1024_S4096x1024_1_0_0_1_n_n none (nrmK x g) w) shapeCasts_S4096x1024_S4096x4x256

/-- the angles, -/
abbrev ang (p : IVec S4096 32) : FVec Ideal S4096x32 .f32 :=
  mulf (broadcastInDim S4096x32 ![0, 1] bcast_S4096x1_S4096x32_0_1 (sitofp .f32 (broadcastInDim S4096x1 ![0] bcast_S4096_S4096x1_0 (p))))
    (broadcastInDim S4096x32 ![0, 1] bcast_S1x32_S4096x32_0_1 (broadcastInDim S1x32 ![1] bcast_S32_S1x32_1 (Reference9Ideal.Prep.rv10)))

/-- each head's rotation, -/
abbrev rotQ (q : FVec Ideal S4096x4x192 .f32) (C S : FVec Ideal S4096x32 .f32) : FVec Ideal S4096x4x64 .f32 :=
  let v : FVec Ideal S4096x4x64 .f32 := extractStridedSlice S4096x4x64 ![0, 0, 128] q slices_S4096x4x192_S4096x4x64_0_0_128
  let a := extractStridedSlice S4096x4x32 ![0, 0, 0] v slices_S4096x4x64_S4096x4x32_0_0_0
  let b := extractStridedSlice S4096x4x32 ![0, 0, 32] v slices_S4096x4x64_S4096x4x32_0_0_32
  let c := broadcastInDim S4096x4x32 ![0, 1, 2] bcast_S4096x1x32_S4096x4x32_0_1_2 (broadcastInDim S4096x1x32 ![0, 2] bcast_S4096x32_S4096x1x32_0_2 (C))
  let s := broadcastInDim S4096x4x32 ![0, 1, 2] bcast_S4096x1x32_S4096x4x32_0_1_2 (broadcastInDim S4096x1x32 ![0, 2] bcast_S4096x32_S4096x1x32_0_2 (S))
  concatenate S4096x4x64 2 [⟨S4096x4x32, subf (mulf a c) (mulf b s)⟩, ⟨S4096x4x32, addf (mulf b c) (mulf a s)⟩] concatenates_S4096x4x32_S4096x4x32_S4096x4x64_d2

/-- the shared key's, -/
abbrev rotK (k : FVec Ideal S4096x64 .f32) (C S : FVec Ideal S4096x32 .f32) : FVec Ideal S4096x64 .f32 :=
  let a := extractStridedSlice S4096x32 ![0, 0] k slices_S4096x64_S4096x32_0_0
  let b := extractStridedSlice S4096x32 ![0, 32] k slices_S4096x64_S4096x32_0_32
  concatenate S4096x64 1 [⟨S4096x32, subf (mulf a C) (mulf b S)⟩, ⟨S4096x32, addf (mulf b C) (mulf a S)⟩] concatenates_S4096x32_S4096x32_S4096x64_d1

abbrev zero3 : FVec Ideal S4096x4x64 .f32 := broadcastInDim S4096x4x64 ![] bcast_S_S4096x4x64 (constant S_ .f32 0x00000000#32)

/-- and the queries and keys, packed. -/
abbrev packQ (q : FVec Ideal S4096x4x192 .f32) (z : FVec Ideal S4096x4x64 .f32) : FVec Ideal S4096x1024 .bf16 :=
  truncf .bf16 (shapeCast _ (concatenate S4096x4x256 2 [⟨S4096x4x128, extractStridedSlice S4096x4x128 ![0, 0, 0] q slices_S4096x4x192_S4096x4x128_0_0_0⟩,
    ⟨S4096x4x64, z⟩, ⟨S4096x4x64, zero3⟩] concatenates_S4096x4x128_S4096x4x64_S4096x4x64_S4096x4x256_d2) shapeCasts_S4096x4x256_S4096x1024) bitsLt_bf16_f32
abbrev packK (k : FVec Ideal S4096x4x256 .f32) (z : FVec Ideal S4096x64 .f32) : FVec Ideal S4096x1024 .bf16 :=
  truncf .bf16 (shapeCast _ (concatenate S4096x4x256 2 [⟨S4096x4x128, extractStridedSlice S4096x4x128 ![0, 0, 0] k slices_S4096x4x256_S4096x4x128_0_0_0⟩,
    ⟨S4096x4x64, broadcastInDim S4096x4x64 ![0, 1, 2] bcast_S4096x1x64_S4096x4x64_0_1_2 (broadcastInDim S4096x1x64 ![0, 2] bcast_S4096x64_S4096x1x64_0_2 (z))⟩,
    ⟨S4096x4x64, zero3⟩] concatenates_S4096x4x128_S4096x4x64_S4096x4x64_S4096x4x256_d2) shapeCasts_S4096x4x256_S4096x1024) bitsLt_bf16_f32
end

open Kernel18Ideal Kernel18Ideal.Gen
open Cert.Prep (sel_32 sel_64 nX N512 N256 SC cosv sinv spread WQ pos frq kv1 kv15 kv20 kv26 kv27 kv36 kv38)

/-- The rotation of a row of 64 columns at the angles `P * F i`. -/
def turn (P : EReal) (F : Fin 32 → EReal) (g : Fin 64 → EReal) (k : Fin 64) : EReal :=
  if h : k.val < 32 then g k * Ideal.cos (P * F ⟨k.val, h⟩) - g ⟨k.val + 32, by omega⟩ * Ideal.sin (P * F ⟨k.val, h⟩)
  else g k * Ideal.cos (P * F ⟨k.val - 32, by omega⟩) + g ⟨k.val - 32, by omega⟩ * Ideal.sin (P * F ⟨k.val - 32, by omega⟩)

/-- The call's rotation of a row of 128 columns by its tables. -/
def tw (C S g : Fin 128 → EReal) (k : Fin 128) : EReal :=
  g k * C k + (if k.val < 32 then g ⟨(k.val + 128 - 96) % 128, by omega⟩ else if k.val < 64 then g ⟨(k.val + 128 - 32) % 128, by omega⟩ else 0) * S k

section
variable (p : FVec Ideal S512x1 .f32) (f : FVec Ideal S1x128 .f32) (r : Fin 512)

theorem tw_turn (P : EReal) (F : Fin 32 → EReal) (hp : p (ix2 r 0) = P) (h0 : ∀ (i : Fin 128) (h : i.val < 32), f (ix2 0 i) = F ⟨i.val, h⟩)
    (h1 : ∀ (i : Fin 128) (h : 32 ≤ i.val) (h' : i.val < 64), f (ix2 0 i) = F ⟨i.val - 32, by omega⟩) (g : Fin 128 → EReal) (k : Fin 128) :
    tw (cosv p f r) (sinv p f r) g k = if h : k.val < 64 then turn P F (fun j => g ⟨j.val, by omega⟩) ⟨k.val, h⟩ else 0 := by
  unfold tw turn cosv sinv
  by_cases hk : k.val < 32
  · have hk' : k.val < 64 := by omega
    have e : (⟨(k.val + 128 - 96) % 128, by omega⟩ : Fin 128) = ⟨k.val + 32, by omega⟩ := Fin.ext (by show (k.val + 128 - 96) % 128 = k.val + 32; omega)
    rw [if_pos hk', if_pos hk, if_pos hk, dif_pos hk', dif_pos hk, e, hp, h0 k hk, zero_sub, mul_neg, sub_eq_add_neg]
  · by_cases hk' : k.val < 64
    · have e : (⟨(k.val + 128 - 32) % 128, by omega⟩ : Fin 128) = ⟨k.val - 32, by omega⟩ := Fin.ext (by show (k.val + 128 - 32) % 128 = k.val - 32; omega)
      rw [if_pos hk', if_neg hk, if_pos hk', if_neg hk, if_pos hk', dif_pos hk', dif_neg hk, e, hp, h1 k (by omega) hk']
    · rw [if_neg hk', if_neg hk, if_neg hk', if_neg hk, if_neg hk', dif_neg hk', mul_zero, mul_zero, add_zero]

variable (x : FVec Ideal S512x512 .bf16) (y : FVec Ideal S512x256 .bf16) (z : FVec Ideal S512x128 .bf16) (gq : FVec Ideal S1x512 .f32) (gk : FVec Ideal S1x256 .f32)
variable (wq : FVec Ideal S1024x512 .bf16) (wk : FVec Ideal S1024x256 .bf16) (C S : FVec Ideal S512x128 .f32) (Q : FVec Ideal S512x1024 .f32) (k : Fin 128) (n : Fin 1024)
abbrev row (a : FVec Ideal S512x128 .f32) : Fin 128 → EReal := fun k => a (ix2 r k)

theorem cos_at : k0_pay5 (F := Ideal) p f (ix2 r k) = cosv p f r k := by
  pointwise [k0_pay5, k0_pay4]; rw [sel_64]; rfl
theorem sin_at : k0_pay6 (F := Ideal) p f (ix2 r k) = sinv p f r k := by
  pointwise [k0_pay6, k0_pay4]; rw [sel_32, sel_64]; rfl

/-- The queries' and the keys' and values' products. -/
theorem q_at : k0_pay11 (F := Ideal) (k0_pay7 x) (k0_pay10 gq) wq (ix2 r n) = (∑ c, nX N512 (fun c => x (ix2 r c)) (fun c => gq (ix2 0 c)) c * wq (ix2 n c)) * SC := by
  pointwise [k0_pay11, k0_pay7, k0_pay10]; rfl
theorem kv_at : k0_pay12 (F := Ideal) (k0_pay8 y) gk wk (ix2 r n) = ∑ c, nX N256 (fun c => y (ix2 r c)) (fun c => gk (ix2 0 c)) c * wk (ix2 n c) := by
  pointwise [k0_pay12, k0_pay8]; rfl

/-- The shared key's rotation. -/
theorem kr_at : k0_pay17 (F := Ideal) S (k0_pay9 z) (k0_pay13 C (k0_pay9 z)) (iota .tc S512x128 32 [1] iota_S512x128_d1_w32) k0_pay14 (k0_pay15 (k0_pay9 z)) k0_pay16 (ix2 r k)
    = tw (row r C) (row r S) (fun j => z (ix2 r j)) k := by
  pointwise [k0_pay17, k0_pay9, k0_pay13, k0_pay14, k0_pay15, k0_pay16]
  rw [sel_32, sel_64]; rfl
theorem rot_0 : k0_pay39 (F := Ideal) (k0_pay19 C S Q) (ix2 r k) = tw (row r C) (row r S) (fun j => Q (ix2 r (⟨512 + j.val, by omega⟩ : Fin 1024))) k := by
  pointwise [k0_pay39, k0_pay19]
  rw [sel_32, sel_64]; rfl
theorem rot_1 : k0_pay43 (F := Ideal) (k0_pay23 C S Q) (ix2 r k) = tw (row r C) (row r S) (fun j => Q (ix2 r (⟨640 + j.val, by omega⟩ : Fin 1024))) k := by
  pointwise [k0_pay43, k0_pay23]
  rw [sel_32, sel_64]; rfl
theorem rot_2 : k0_pay47 (F := Ideal) (k0_pay30 S (k0_pay27 Q) (k0_pay28 C Q) (iota .tc S512x128 32 [1] iota_S512x128_d1_w32) k0_pay29) (ix2 r k) = tw (row r C) (row r S) (fun j => Q (ix2 r (⟨768 + j.val, by omega⟩ : Fin 1024))) k := by
  pointwise [k0_pay47, k0_pay30, k0_pay27, k0_pay28, k0_pay29]
  rw [sel_32, sel_64]; rfl
theorem rot_3 : k0_pay51 (F := Ideal) (k0_pay34 C S Q) (ix2 r k) = tw (row r C) (row r S) (fun j => Q (ix2 r (⟨896 + j.val, by omega⟩ : Fin 1024))) k := by
  pointwise [k0_pay51, k0_pay34]
  rw [sel_32, sel_64]; rfl

/-- A row of the queries' block: the plain columns of a head, then its rotated ones. -/
def QF : EReal := if n.val % 256 < 128 then Q (ix2 r (⟨128 * (n.val / 256) + n.val % 128, by omega⟩ : Fin 1024))
  else tw (row r C) (row r S) (fun j => Q (ix2 r (⟨512 + 128 * (n.val / 256) + j.val, by omega⟩ : Fin 1024))) ⟨n.val % 128, by omega⟩

/-- A row of the keys' block: the plain columns of a head, then the shared rotated ones. -/
def KF (K : FVec Ideal S512x128 .f32) : EReal := if n.val % 256 < 128 then Q (ix2 r n) else K (ix2 r (⟨n.val % 128, by omega⟩ : Fin 128))

/-- A row of the values' block: each head's last columns. -/
def VF (n : Fin 512) : EReal := Q (ix2 r (⟨256 * (n.val / 128) + 128 + n.val % 128, by omega⟩ : Fin 1024))

open View in
/-- A piece of 128 columns of a block of `M` holds the block's values at its columns. -/
theorem tile {M o : ℕ} {w : FVec Ideal S512x128 .bf16} {F : Fin M → EReal} (n : Fin M) (ho : o + 128 ≤ M) (h : ∀ k : Fin 128, w (ix2 r k) = F ⟨o + k.val, by omega⟩) :
    TileAt (S := ⟨2, ![512, M]⟩) (Val := Elt Ideal) (e := .bf16) (ix2 r n) ![0, o] S512x128.size w (F n) := by
  intro x hx
  obtain ⟨r', k, rfl⟩ : ∃ (r' : Fin 512) (k : Fin 128), x = ix2 r' k := ⟨x 0, x 1, by funext d; fin_cases d <;> rfl⟩
  have h0 : r.val = 0 + r'.val := hx 0
  have h1 : n.val = o + k.val := hx 1
  obtain rfl : r' = r := Fin.ext (by omega)
  exact (h k).trans (congrArg F (Fin.ext h1.symm))

theorem QF_even (o : ℕ) (ho : o + 128 ≤ 1024) (h : o % 256 = 0) : QF r C S Q ⟨o + k.val, by omega⟩ = Q (ix2 r (⟨o / 2 + k.val, by omega⟩ : Fin 1024)) := by
  unfold QF
  rw [if_pos (by show (o + k.val) % 256 < 128; omega)]
  exact congrArg (fun x => Q (ix2 r x)) (Fin.ext (by show 128 * ((o + k.val) / 256) + (o + k.val) % 128 = o / 2 + k.val; omega))

theorem QF_odd (o : ℕ) (ho : o + 128 ≤ 1024) (h : o % 256 = 128) :
    QF r C S Q ⟨o + k.val, by omega⟩ = tw (row r C) (row r S) (fun j => Q (ix2 r (⟨448 + o / 2 + j.val, by omega⟩ : Fin 1024))) k := by
  unfold QF
  rw [if_neg (by show ¬ (o + k.val) % 256 < 128; omega)]
  refine congrArg₂ (tw (row r C) (row r S)) (funext fun j => ?_) (Fin.ext (by show (o + k.val) % 128 = k.val; omega))
  exact congrArg (fun x => Q (ix2 r x)) (Fin.ext (by show 512 + 128 * ((o + k.val) / 256) + j.val = 448 + o / 2 + j.val; omega))

theorem KF_even (K : FVec Ideal S512x128 .f32) (o : ℕ) (ho : o + 128 ≤ 1024) (h : o % 256 = 0) : KF r Q ⟨o + k.val, by omega⟩ K = Q (ix2 r (⟨o + k.val, by omega⟩ : Fin 1024)) := by
  unfold KF
  exact if_pos (by show (o + k.val) % 256 < 128; omega)

theorem KF_odd (K : FVec Ideal S512x128 .f32) (o : ℕ) (ho : o + 128 ≤ 1024) (h : o % 256 = 128) : KF r Q ⟨o + k.val, by omega⟩ K = K (ix2 r k) := by
  unfold KF
  rw [if_neg (by show ¬ (o + k.val) % 256 < 128; omega)]
  exact congrArg (fun x => K (ix2 r x)) (Fin.ext (by show (o + k.val) % 128 = k.val; omega))

theorem VF_at (o : ℕ) (ho : o + 128 ≤ 512) (h : o % 128 = 0) : VF r Q ⟨o + k.val, by omega⟩ = Q (ix2 r (⟨2 * o + 128 + k.val, by omega⟩ : Fin 1024)) := by
  unfold VF
  exact congrArg (fun x => Q (ix2 r x)) (Fin.ext (by show 256 * ((o + k.val) / 128) + 128 + (o + k.val) % 128 = 2 * o + 128 + k.val; omega))

/-- The stored columns of a product. -/
theorem q_0 : k0_pay37 (F := Ideal) (k0_pay18 Q) (ix2 r k) = Q (ix2 r (⟨0 + k.val, by omega⟩ : Fin 1024)) := by pointwise [k0_pay37, k0_pay18]
theorem q_128 : k0_pay41 (F := Ideal) (k0_pay22 Q) (ix2 r k) = Q (ix2 r (⟨128 + k.val, by omega⟩ : Fin 1024)) := by pointwise [k0_pay41, k0_pay22]
theorem q_256 : k0_pay45 (F := Ideal) (k0_pay26 Q) (ix2 r k) = Q (ix2 r (⟨256 + k.val, by omega⟩ : Fin 1024)) := by pointwise [k0_pay45, k0_pay26]
theorem q_384 : k0_pay49 (F := Ideal) (k0_pay33 Q) (ix2 r k) = Q (ix2 r (⟨384 + k.val, by omega⟩ : Fin 1024)) := by pointwise [k0_pay49, k0_pay33]
theorem k_0 : k0_pay38 (F := Ideal) (k0_pay20 Q) (ix2 r k) = Q (ix2 r (⟨0 + k.val, by omega⟩ : Fin 1024)) := by pointwise [k0_pay38, k0_pay20]
theorem k_256 : k0_pay42 (F := Ideal) (k0_pay24 Q) (ix2 r k) = Q (ix2 r (⟨256 + k.val, by omega⟩ : Fin 1024)) := by pointwise [k0_pay42, k0_pay24]
theorem k_512 : k0_pay46 (F := Ideal) (k0_pay31 Q) (ix2 r k) = Q (ix2 r (⟨512 + k.val, by omega⟩ : Fin 1024)) := by pointwise [k0_pay46, k0_pay31]
theorem k_768 : k0_pay50 (F := Ideal) (k0_pay35 Q) (ix2 r k) = Q (ix2 r (⟨768 + k.val, by omega⟩ : Fin 1024)) := by pointwise [k0_pay50, k0_pay35]
theorem v_128 : k0_pay53 (F := Ideal) (k0_pay21 Q) (ix2 r k) = Q (ix2 r (⟨128 + k.val, by omega⟩ : Fin 1024)) := by pointwise [k0_pay53, k0_pay21]
theorem v_384 : k0_pay1 (F := Ideal) (k0_pay25 Q) (ix2 r k) = Q (ix2 r (⟨384 + k.val, by omega⟩ : Fin 1024)) := by pointwise [k0_pay1, k0_pay25]
theorem v_640 : k0_pay2 (F := Ideal) (k0_pay32 Q) (ix2 r k) = Q (ix2 r (⟨640 + k.val, by omega⟩ : Fin 1024)) := by pointwise [k0_pay2, k0_pay32]
theorem v_896 : k0_pay3 (F := Ideal) (k0_pay36 Q) (ix2 r k) = Q (ix2 r (⟨896 + k.val, by omega⟩ : Fin 1024)) := by pointwise [k0_pay3, k0_pay36]
theorem s_40 (K : FVec Ideal S512x128 .f32) : k0_pay40 (F := Ideal) K (ix2 r k) = K (ix2 r k) := by pointwise [k0_pay40]
theorem s_44 (K : FVec Ideal S512x128 .f32) : k0_pay44 (F := Ideal) K (ix2 r k) = K (ix2 r k) := by pointwise [k0_pay44]
theorem s_48 (K : FVec Ideal S512x128 .f32) : k0_pay48 (F := Ideal) K (ix2 r k) = K (ix2 r k) := by pointwise [k0_pay48]
theorem s_52 (K : FVec Ideal S512x128 .f32) : k0_pay52 (F := Ideal) K (ix2 r k) = K (ix2 r k) := by pointwise [k0_pay52]
end

open Idealize.ShloMosaic.Pipeline (Dat)

theorem idx_val : ∀ t : Fin cfg0.N, win0_0.index t = ![t.val, 4] ∧ win0_1.index t = ![t.val, 10] ∧ win0_2.index t = ![t.val, 23] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] :=
  (by decide +kernel : ∀ t : Fin grid0.N, _)

variable (m : (ℓ : Loc nD τ sig) → Buf (Elt Ideal) ℓ) (c : Dev nD) (t : Fin cfg0.N)

abbrev A0 : FVec Ideal Reference18Ideal.S4096x512 .f32 := m ((c : Thread nD τ).loc main_arg0)
abbrev A1 : FVec Ideal Reference18Ideal.S4096x256 .f32 := m ((c : Thread nD τ).loc main_arg1)
abbrev A2 : FVec Ideal Reference18Ideal.S4096x64 .f32 := m ((c : Thread nD τ).loc main_arg2)
abbrev A3 : IVec Reference18Ideal.S4096 32 := m ((c : Thread nD τ).loc main_arg3)
abbrev A4 : FVec Ideal Reference18Ideal.S512 .f32 := m ((c : Thread nD τ).loc main_arg4)
abbrev A5 : FVec Ideal Reference18Ideal.S256 .f32 := m ((c : Thread nD τ).loc main_arg5)
abbrev A6 : FVec Ideal Reference18Ideal.S512x768 .f32 := m ((c : Thread nD τ).loc main_arg6)
abbrev A7 : FVec Ideal Reference18Ideal.S256x1024 .f32 := m ((c : Thread nD τ).loc main_arg7)

abbrev hostOps : List (HloOp τ sig (Elt Ideal)) := hostOps0 ++ (hostOps0_1 ++ (hostOps0_2 ++ (hostOps0_3 ++ hostOps0_4)))

theorem V_eq {b} : V m c b = StableHlo.after hostOps (fun b => m (c, b)) (Proc.devRef .tc b) := by
  show StableHlo.after (List.flatten [hostOps0, hostOps0_1, hostOps0_2, hostOps0_3, hostOps0_4]) (fun b => m (c, b)) _ = _
  simp only [List.flatten_cons, List.flatten_nil, List.append_nil]

/-- The host lines' arrays. -/
theorem V_v1 : V m c main_v1 = kv1 (A3 m c) := by
  rw [V_eq]; simp only [hostOps, hostOps0, hostOps0_1, hostOps0_2, hostOps0_3, hostOps0_4, List.cons_append, List.nil_append]; after_results; rfl
theorem V_v15 : V m c main_v15 = kv15 := by
  rw [V_eq]; simp only [hostOps, hostOps0, hostOps0_1, hostOps0_2, hostOps0_3, hostOps0_4, List.cons_append, List.nil_append]; after_results; rfl
theorem V_v20 : V m c main_v20 = kv20 (A0 m c) (A1 m c) (A2 m c) := by
  rw [V_eq]; simp only [hostOps, hostOps0, hostOps0_1, hostOps0_2, hostOps0_3, hostOps0_4, List.cons_append, List.nil_append]; after_results; rfl
theorem V_v21 : V m c main_v21 = kv26 (A4 m c) := by
  rw [V_eq]; simp only [hostOps, hostOps0, hostOps0_1, hostOps0_2, hostOps0_3, hostOps0_4, List.cons_append, List.nil_append]; after_results; rfl
theorem V_v22 : V m c main_v22 = kv27 (A5 m c) := by
  rw [V_eq]; simp only [hostOps, hostOps0, hostOps0_1, hostOps0_2, hostOps0_3, hostOps0_4, List.cons_append, List.nil_append]; after_results; rfl
theorem V_v31 : V m c main_v31 = kv36 (A6 m c) := by
  rw [V_eq]; simp only [hostOps, hostOps0, hostOps0_1, hostOps0_2, hostOps0_3, hostOps0_4, List.cons_append, List.nil_append]; after_results; rfl
theorem V_v33 : V m c main_v33 = kv38 (A7 m c) := by
  rw [V_eq]; simp only [hostOps, hostOps0, hostOps0_1, hostOps0_2, hostOps0_3, hostOps0_4, List.cons_append, List.nil_append]; after_results; rfl

/-- The array's row a block's row is. -/
def at_ (r : Fin 512) : Fin 4096 := ⟨t.val * 512 + r.val, by have h : t.val < 8 := lt_of_lt_of_eq t.isLt N_0; have := r.isLt; omega⟩

/-- The shared key's columns among the packed ones: the call's 128, 64 of them zeros. -/
def kr (R : Fin 4096) (k : Fin 128) : EReal := if h : k.val < 64 then A2 m c (ix2 R (⟨k.val, h⟩ : Fin 64)) else 0

theorem kv20_2 (R : Fin 4096) (k : Fin 128) : kv20 (A0 m c) (A1 m c) (A2 m c) (ix2 R (⟨2944 + k.val, by omega⟩ : Fin 3072)) = kr m c R k := by
  unfold kr
  pointwise [Cert.Prep.kv20, Cert.Prep.kv19, Cert.Prep.kv18]
  rw [dif_neg (by omega), dif_neg (by omega), dif_neg (by omega), dif_neg (by omega)]
  by_cases h : k.val < 64
  · rw [dif_pos h, dif_pos (by omega)]
    exact congrArg (fun x => A2 m c (ix2 R x)) (Fin.ext (by show 2944 + k.val - 2048 - 512 - 256 - 128 = k.val; omega))
  · rw [dif_neg h, dif_neg (by omega)]

theorem blk_0 (r k : Fin 512) : iblk m c 0 t (ix2 r k) = A0 m c (ix2 (at_ t r) k) := by
  have he : ((cfg0.win 0).blk t).view.emb (ix2 r k) = ix2 (at_ t r) (⟨2048 + k.val, by omega⟩ : Fin 3072) := by blk_ext [at_, idx_val t]
  show V m c main_v20 (((cfg0.win 0).blk t).view.emb (ix2 r k)) = _
  rw [he, V_v20]
  exact Cert.Prep.kv20_0 ..
theorem blk_1 (r : Fin 512) (k : Fin 256) : iblk m c 1 t (ix2 r k) = A1 m c (ix2 (at_ t r) k) := by
  have he : ((cfg0.win 1).blk t).view.emb (ix2 r k) = ix2 (at_ t r) (⟨2560 + k.val, by omega⟩ : Fin 3072) := by blk_ext [at_, idx_val t]
  show V m c main_v20 (((cfg0.win 1).blk t).view.emb (ix2 r k)) = _
  rw [he, V_v20]
  exact Cert.Prep.kv20_1 ..
theorem blk_2 (r : Fin 512) (k : Fin 128) : iblk m c 2 t (ix2 r k) = kr m c (at_ t r) k := by
  have he : ((cfg0.win 2).blk t).view.emb (ix2 r k) = ix2 (at_ t r) (⟨2944 + k.val, by omega⟩ : Fin 3072) := by blk_ext [at_, idx_val t]
  show V m c main_v20 (((cfg0.win 2).blk t).view.emb (ix2 r k)) = _
  rw [he, V_v20]
  exact kv20_2 ..
theorem blk_3 (r : Fin 512) : iblk m c 3 t (ix2 r 0) = pos (A3 m c) (at_ t r) := by
  have he : ((cfg0.win 3).blk t).view.emb (ix2 r 0) = ix2 (at_ t r) 0 := by blk_ext [at_, idx_val t]
  show V m c main_v1 (((cfg0.win 3).blk t).view.emb (ix2 r 0)) = _
  rw [he, V_v1]
  exact Cert.Prep.kv1_at ..
theorem blk_4 (k : Fin 128) : iblk m c 4 t (ix2 0 k) = kv15 (ix2 0 k) := by
  have he : ((cfg0.win 4).blk t).view.emb (ix2 0 k) = ix2 0 k := by blk_ext [at_, idx_val t]
  show V m c main_v15 (((cfg0.win 4).blk t).view.emb (ix2 0 k)) = _
  rw [he, V_v15]
theorem blk_5 (k : Fin 512) : iblk m c 5 t (ix2 0 k) = A4 m c (ix1 k) := by
  have he : ((cfg0.win 5).blk t).view.emb (ix2 0 k) = ix2 0 k := by blk_ext [at_, idx_val t]
  show V m c main_v21 (((cfg0.win 5).blk t).view.emb (ix2 0 k)) = _
  rw [he, V_v21]
  exact Cert.Prep.kv26_at ..
theorem blk_6 (k : Fin 256) : iblk m c 6 t (ix2 0 k) = A5 m c (ix1 k) := by
  have he : ((cfg0.win 6).blk t).view.emb (ix2 0 k) = ix2 0 k := by blk_ext [at_, idx_val t]
  show V m c main_v22 (((cfg0.win 6).blk t).view.emb (ix2 0 k)) = _
  rw [he, V_v22]
  exact Cert.Prep.kv27_at ..
theorem blk_7 (n : Fin 1024) (k : Fin 512) : iblk m c 7 t (ix2 n k) = WQ (A6 m c) k n := by
  have he : ((cfg0.win 7).blk t).view.emb (ix2 n k) = ix2 n k := by blk_ext [at_, idx_val t]
  show V m c main_v31 (((cfg0.win 7).blk t).view.emb (ix2 n k)) = _
  rw [he, V_v31]
  exact Cert.Prep.kv36_at ..
theorem blk_8 (n : Fin 1024) (k : Fin 256) : iblk m c 8 t (ix2 n k) = A7 m c (ix2 k n) := by
  have he : ((cfg0.win 8).blk t).view.emb (ix2 n k) = ix2 n k := by blk_ext [at_, idx_val t]
  show V m c main_v33 (((cfg0.win 8).blk t).view.emb (ix2 n k)) = _
  rw [he, V_v33]
  exact Cert.Prep.kv38_at ..

/-- The queries' products scaled, over the heads' 192 columns; the keys' and values' products. -/
def QP (R : Fin 4096) (j : Fin 768) : EReal := (∑ k, nX N512 (fun k => A0 m c (ix2 R k)) (fun k => A4 m c (ix1 k)) k * A6 m c (ix2 k j)) * SC
def KP (R : Fin 4096) (n : Fin 1024) : EReal := ∑ k, nX N256 (fun k => A1 m c (ix2 R k)) (fun k => A5 m c (ix1 k)) k * A7 m c (ix2 k n)

/-- The three results. -/
def RQ (R : Fin 4096) (n : Fin 1024) : EReal := if h : n.val % 256 < 128 then QP m c R ⟨192 * (n.val / 256) + n.val % 256, by omega⟩
  else if h' : n.val % 256 < 192 then turn (pos (A3 m c) R) frq (fun j => QP m c R ⟨192 * (n.val / 256) + 128 + j.val, by omega⟩) ⟨n.val % 256 - 128, by omega⟩ else 0
def RK (R : Fin 4096) (n : Fin 1024) : EReal := if h : n.val % 256 < 128 then KP m c R n
  else if h' : n.val % 256 < 192 then turn (pos (A3 m c) R) frq (fun j => A2 m c (ix2 R j)) ⟨n.val % 256 - 128, by omega⟩ else 0
def RV (R : Fin 4096) (n : Fin 512) : EReal := KP m c R ⟨256 * (n.val / 128) + 128 + n.val % 128, by omega⟩

/-- The call's products and tables at a point. -/
abbrev Qb : FVec Ideal S512x1024 .f32 := k0_pay11 (k0_pay7 (iblk m c 0 t)) (k0_pay10 (iblk m c 5 t)) (iblk m c 7 t)
abbrev Kb : FVec Ideal S512x1024 .f32 := k0_pay12 (k0_pay8 (iblk m c 1 t)) (iblk m c 6 t) (iblk m c 8 t)
abbrev Cb : FVec Ideal S512x128 .f32 := k0_pay5 (iblk m c 3 t) (iblk m c 4 t)
abbrev Sb : FVec Ideal S512x128 .f32 := k0_pay6 (iblk m c 3 t) (iblk m c 4 t)
abbrev Rb : FVec Ideal S512x128 .f32 := k0_pay17 (Sb m c t) (k0_pay9 (iblk m c 2 t)) (k0_pay13 (Cb m c t) (k0_pay9 (iblk m c 2 t)))
  (iota .tc S512x128 32 [1] iota_S512x128_d1_w32) k0_pay14 (k0_pay15 (k0_pay9 (iblk m c 2 t))) k0_pay16

theorem Qb_at (r : Fin 512) (n : Fin 1024) : Qb m c t (ix2 r n) = spread n (QP m c (at_ t r)) := by
  rw [Qb, q_at]
  simp only [blk_0, blk_5, blk_7]
  unfold QP WQ spread
  split
  · rfl
  · split
    · rfl
    · simp only [mul_zero, Finset.sum_const_zero, zero_mul]

theorem Kb_at (r : Fin 512) (n : Fin 1024) : Kb m c t (ix2 r n) = KP m c (at_ t r) n := by
  rw [Kb, kv_at]
  simp only [blk_1, blk_6, blk_8]
  rfl

/-- The tables' rotation of a row at the point's positions. -/
theorem turn_at (r : Fin 512) (g : Fin 128 → EReal) (k : Fin 128) : tw (row r (Cb m c t)) (row r (Sb m c t)) g k
    = if h : k.val < 64 then turn (pos (A3 m c) (at_ t r)) frq (fun j => g ⟨j.val, by omega⟩) ⟨k.val, h⟩ else 0 := by
  have hc : row r (Cb m c t) = cosv (iblk m c 3 t) (iblk m c 4 t) r := funext fun k => cos_at ..
  have hs : row r (Sb m c t) = sinv (iblk m c 3 t) (iblk m c 4 t) r := funext fun k => sin_at ..
  rw [hc, hs]
  exact tw_turn _ _ r _ _ (blk_3 m c t r) (fun i h => (blk_4 m c t i).trans (Cert.Prep.kv15_0 i h)) (fun i h h' => (blk_4 m c t i).trans (Cert.Prep.kv15_1 i h h')) g k

theorem QF_RQ (r : Fin 512) (n : Fin 1024) : QF r (Cb m c t) (Sb m c t) (Qb m c t) n = RQ m c (at_ t r) n := by
  unfold QF RQ
  simp only [Qb_at, turn_at]
  by_cases h : n.val % 256 < 128
  · rw [if_pos h, dif_pos h]
    unfold spread
    rw [dif_pos (by show 128 * (n.val / 256) + n.val % 128 < 512; omega)]
    exact congrArg (QP m c (at_ t r)) (Fin.ext (by show (128 * (n.val / 256) + n.val % 128) / 128 * 192 + (128 * (n.val / 256) + n.val % 128) % 128 = 192 * (n.val / 256) + n.val % 256; omega))
  · rw [if_neg h, dif_neg h]
    by_cases h' : n.val % 256 < 192
    · rw [dif_pos h', dif_pos (by show n.val % 128 < 64; omega)]
      refine congrArg₂ (turn (pos (A3 m c) (at_ t r)) frq) (funext fun j => ?_) (Fin.ext (by show n.val % 128 = n.val % 256 - 128; omega))
      unfold spread
      rw [dif_neg (by show ¬ 512 + 128 * (n.val / 256) + j.val < 512; omega), dif_pos (by show (512 + 128 * (n.val / 256) + j.val - 512) % 128 < 64; omega)]
      exact congrArg (QP m c (at_ t r)) (Fin.ext (by
        show (512 + 128 * (n.val / 256) + j.val - 512) / 128 * 192 + (128 + (512 + 128 * (n.val / 256) + j.val - 512) % 128) = 192 * (n.val / 256) + 128 + j.val
        omega))
    · rw [dif_neg h', dif_neg (by show ¬ n.val % 128 < 64; omega)]

theorem KF_RK (r : Fin 512) (n : Fin 1024) : KF r (Kb m c t) n (Rb m c t) = RK m c (at_ t r) n := by
  unfold KF RK
  rw [Kb_at, Rb, kr_at, turn_at]
  by_cases h : n.val % 256 < 128
  · rw [if_pos h, dif_pos h]
  · rw [if_neg h, dif_neg h]
    by_cases h' : n.val % 256 < 192
    · rw [dif_pos h', dif_pos (by show n.val % 128 < 64; omega)]
      refine congrArg₂ (turn (pos (A3 m c) (at_ t r)) frq) (funext fun j => ?_) (Fin.ext (by show n.val % 128 = n.val % 256 - 128; omega))
      rw [blk_2, kr]
      exact dif_pos j.isLt
    · rw [dif_neg h', dif_neg (by show ¬ n.val % 128 < 64; omega)]

theorem VF_RV (r n : Fin 512) : VF r (Kb m c t) n = RV m c (at_ t r) n := by
  unfold VF RV; exact Kb_at ..

open View in
theorem point_9 (r : Fin 512) (n : Fin 1024) : (dats m 0 c).after 9 t (ix2 r n) = RQ m c (at_ t r) n := by
  rw [after0_9]
  unfold_out out0_9
  frame_out
  refine canon_eq_of_allAt _ _ _ (cover0_9 _ _ _ _ _ _ _ _ _) ?_
  rw [← QF_RQ]
  refine allAt_cons_unit _ _ _ _ _ (tile r n (by omega) fun k => (rot_3 ..).trans (QF_odd r _ _ _ k 896 (by omega) rfl).symm) ?_
  refine allAt_cons_unit _ _ _ _ _ (tile r n (by omega) fun k => (q_384 ..).trans (QF_even r _ _ _ k 768 (by omega) rfl).symm) ?_
  refine allAt_cons_unit _ _ _ _ _ (tile r n (by omega) fun k => (rot_2 ..).trans (QF_odd r _ _ _ k 640 (by omega) rfl).symm) ?_
  refine allAt_cons_unit _ _ _ _ _ (tile r n (by omega) fun k => (q_256 ..).trans (QF_even r _ _ _ k 512 (by omega) rfl).symm) ?_
  refine allAt_cons_unit _ _ _ _ _ (tile r n (by omega) fun k => (rot_1 ..).trans (QF_odd r _ _ _ k 384 (by omega) rfl).symm) ?_
  refine allAt_cons_unit _ _ _ _ _ (tile r n (by omega) fun k => (q_128 ..).trans (QF_even r _ _ _ k 256 (by omega) rfl).symm) ?_
  refine allAt_cons_unit _ _ _ _ _ (tile r n (by omega) fun k => (rot_0 ..).trans (QF_odd r _ _ _ k 128 (by omega) rfl).symm) ?_
  refine allAt_cons_unit _ _ _ _ _ (tile r n (by omega) fun k => (q_0 ..).trans (QF_even r _ _ _ k 0 (by omega) rfl).symm) ?_
  exact allAt_nil _ _

open View in
theorem point_10 (r : Fin 512) (n : Fin 1024) : (dats m 0 c).after 10 t (ix2 r n) = RK m c (at_ t r) n := by
  rw [after0_10]
  unfold_out out0_10
  frame_out
  refine canon_eq_of_allAt _ _ _ (cover0_10 _ _ _ _ _ _ _ _ _) ?_
  rw [← KF_RK]
  refine allAt_cons_unit _ _ _ _ _ (tile (F := fun n => KF r (Kb m c t) n (Rb m c t)) r n (by omega) fun k => (s_52 ..).trans (KF_odd r _ k _ 896 (by omega) rfl).symm) ?_
  refine allAt_cons_unit _ _ _ _ _ (tile (F := fun n => KF r (Kb m c t) n (Rb m c t)) r n (by omega) fun k => (k_768 ..).trans (KF_even r _ k _ 768 (by omega) rfl).symm) ?_
  refine allAt_cons_unit _ _ _ _ _ (tile (F := fun n => KF r (Kb m c t) n (Rb m c t)) r n (by omega) fun k => (s_48 ..).trans (KF_odd r _ k _ 640 (by omega) rfl).symm) ?_
  refine allAt_cons_unit _ _ _ _ _ (tile (F := fun n => KF r (Kb m c t) n (Rb m c t)) r n (by omega) fun k => (k_512 ..).trans (KF_even r _ k _ 512 (by omega) rfl).symm) ?_
  refine allAt_cons_unit _ _ _ _ _ (tile (F := fun n => KF r (Kb m c t) n (Rb m c t)) r n (by omega) fun k => (s_44 ..).trans (KF_odd r _ k _ 384 (by omega) rfl).symm) ?_
  refine allAt_cons_unit _ _ _ _ _ (tile (F := fun n => KF r (Kb m c t) n (Rb m c t)) r n (by omega) fun k => (k_256 ..).trans (KF_even r _ k _ 256 (by omega) rfl).symm) ?_
  refine allAt_cons_unit _ _ _ _ _ (tile (F := fun n => KF r (Kb m c t) n (Rb m c t)) r n (by omega) fun k => (s_40 ..).trans (KF_odd r _ k _ 128 (by omega) rfl).symm) ?_
  refine allAt_cons_unit _ _ _ _ _ (tile (F := fun n => KF r (Kb m c t) n (Rb m c t)) r n (by omega) fun k => (k_0 ..).trans (KF_even r _ k _ 0 (by omega) rfl).symm) ?_
  exact allAt_nil _ _

open View in
theorem point_11 (r n : Fin 512) : (dats m 0 c).after 11 t (ix2 r n) = RV m c (at_ t r) n := by
  rw [after0_11]
  unfold_out out0_11
  frame_out
  refine canon_eq_of_allAt _ _ _ (cover0_11 _ _ _ _ _) ?_
  rw [← VF_RV]
  refine allAt_cons_unit _ _ _ _ _ (tile r n (by omega) fun k => (v_896 ..).trans (VF_at r _ k 384 (by omega) rfl).symm) ?_
  refine allAt_cons_unit _ _ _ _ _ (tile r n (by omega) fun k => (v_640 ..).trans (VF_at r _ k 256 (by omega) rfl).symm) ?_
  refine allAt_cons_unit _ _ _ _ _ (tile r n (by omega) fun k => (v_384 ..).trans (VF_at r _ k 128 (by omega) rfl).symm) ?_
  refine allAt_cons_unit _ _ _ _ _ (tile r n (by omega) fun k => (v_128 ..).trans (VF_at r _ k 0 (by omega) rfl).symm) ?_
  exact allAt_nil _ _

/-- The reference's results. -/
abbrev refQ : FVec Ideal Reference18Ideal.S4096x1024 .bf16 := packQ (refQ3 (A0 m c) (A4 m c) (A6 m c)) (rotQ (refQ3 (A0 m c) (A4 m c) (A6 m c)) (Host.cos (ang (A3 m c))) (Host.sin (ang (A3 m c))))
abbrev refK : FVec Ideal Reference18Ideal.S4096x1024 .bf16 := packK (refK3 (A1 m c) (A5 m c) (A7 m c)) (rotK (A2 m c) (Host.cos (ang (A3 m c))) (Host.sin (ang (A3 m c))))
abbrev refV : FVec Ideal Reference18Ideal.S4096x512 .bf16 :=
  truncf .bf16 (shapeCast _ (extractStridedSlice Reference18Ideal.S4096x4x128 ![0, 0, 128] (refK3 (A1 m c) (A5 m c) (A7 m c)) Reference18Ideal.Gen.slices_S4096x4x256_S4096x4x128_0_0_128) Reference18Ideal.Gen.shapeCasts_S4096x4x128_S4096x512) Reference18Ideal.Gen.bitsLt_bf16_f32

theorem ang_at (R : Fin 4096) (i : Fin 32) : ang (A3 m c) (ix2 R i) = pos (A3 m c) R * frq i := by
  pointwise []

theorem q3_at (R : Fin 4096) (h : Fin 4) (j : Fin 192) : refQ3 (A0 m c) (A4 m c) (A6 m c) (ix3 R h j) = QP m c R ⟨192 * h.val + j.val, by omega⟩ := by
  pointwise []
  exact congrArg (QP m c R) (Fin.ext (by show h.val * 192 + j.val = 192 * h.val + j.val; omega))

theorem k3_at (R : Fin 4096) (h : Fin 4) (j : Fin 256) : refK3 (A1 m c) (A5 m c) (A7 m c) (ix3 R h j) = KP m c R ⟨256 * h.val + j.val, by omega⟩ := by
  pointwise []
  exact congrArg (KP m c R) (Fin.ext (by show h.val * 256 + j.val = 256 * h.val + j.val; omega))

theorem rotQ_at (q : FVec Ideal Reference18Ideal.S4096x4x192 .f32) (C S A : FVec Ideal Reference18Ideal.S4096x32 .f32) (hC : C = Host.cos A) (hS : S = Host.sin A) (P : EReal) (R : Fin 4096) (h : Fin 4) (j : Fin 64)
    (hA : ∀ i, A (ix2 R i) = P * frq i) : rotQ q C S (ix3 R h j) = turn P frq (fun j => q (ix3 R h (⟨128 + j.val, by omega⟩ : Fin 192))) j := by
  subst hC hS
  pointwise [rotQ]
  simp only [hA]
  unfold turn
  by_cases h' : j.val < 32
  · have e : (⟨128 + (32 + j.val), by omega⟩ : Fin 192) = ⟨128 + (j.val + 32), by omega⟩ := Fin.ext (by show 128 + (32 + j.val) = 128 + (j.val + 32); omega)
    rw [dif_pos h', dif_pos h', e]
  · have e : (⟨128 + (32 + (j.val - 32)), by omega⟩ : Fin 192) = ⟨128 + j.val, by omega⟩ := Fin.ext (by show 128 + (32 + (j.val - 32)) = 128 + j.val; omega)
    rw [dif_neg h', dif_neg h', e]

theorem rotK_at (k : FVec Ideal Reference18Ideal.S4096x64 .f32) (C S A : FVec Ideal Reference18Ideal.S4096x32 .f32) (hC : C = Host.cos A) (hS : S = Host.sin A) (P : EReal) (R : Fin 4096) (j : Fin 64)
    (hA : ∀ i, A (ix2 R i) = P * frq i) : rotK k C S (ix2 R j) = turn P frq (fun j => k (ix2 R j)) j := by
  subst hC hS
  pointwise [rotK]
  simp only [hA]
  unfold turn
  by_cases h' : j.val < 32
  · have e : (⟨32 + j.val, by omega⟩ : Fin 64) = ⟨j.val + 32, by omega⟩ := Fin.ext (by show 32 + j.val = j.val + 32; omega)
    rw [dif_pos h', dif_pos h', e]
  · have e : (⟨32 + (j.val - 32), by omega⟩ : Fin 64) = ⟨j.val, by omega⟩ := Fin.ext (by show 32 + (j.val - 32) = j.val; omega)
    rw [dif_neg h', dif_neg h', e]

theorem refQ_at (R : Fin 4096) (n : Fin 1024) : refQ m c (ix2 R n) = RQ m c R n := by
  have e1 := q3_at m c R
  have e2 := fun (h : Fin 4) (j : Fin 64) => rotQ_at (refQ3 (A0 m c) (A4 m c) (A6 m c)) _ _ (ang (A3 m c)) rfl rfl (pos (A3 m c) R) R h j (ang_at m c R)
  rw [refQ]
  generalize rotQ (refQ3 (A0 m c) (A4 m c) (A6 m c)) _ _ = z at e2 ⊢
  generalize refQ3 (A0 m c) (A4 m c) (A6 m c) = q at e1 e2 ⊢
  pointwise []
  simp only [e1, e2]
  unfold RQ
  by_cases h : n.val % 256 < 128
  · rw [dif_pos h, dif_pos h]
  · rw [dif_neg h, dif_neg h]
    by_cases h' : n.val % 256 < 192
    · rw [dif_pos h', dif_pos (by omega)]
      refine congrArg₂ (turn (pos (A3 m c) R) frq) (funext fun j => congrArg (QP m c R) (Fin.ext ?_)) rfl
      show 192 * (n.val / 256) + (128 + j.val) = 192 * (n.val / 256) + 128 + j.val
      omega
    · rw [dif_neg h', dif_neg (by omega)]

theorem refK_at (R : Fin 4096) (n : Fin 1024) : refK m c (ix2 R n) = RK m c R n := by
  have e1 := k3_at m c R
  have e2 := fun (j : Fin 64) => rotK_at (A2 m c) _ _ (ang (A3 m c)) rfl rfl (pos (A3 m c) R) R j (ang_at m c R)
  rw [refK]
  generalize rotK (A2 m c) _ _ = z at e2 ⊢
  generalize refK3 (A1 m c) (A5 m c) (A7 m c) = k at e1 ⊢
  pointwise []
  simp only [e1, e2]
  unfold RK
  by_cases h : n.val % 256 < 128
  · rw [dif_pos h, dif_pos h]
    exact congrArg (KP m c R) (Fin.ext (by show 256 * (n.val / 256) + n.val % 256 = n.val; omega))
  · rw [dif_neg h, dif_neg h]
    by_cases h' : n.val % 256 < 192
    · rw [dif_pos h', dif_pos (by omega)]
    · rw [dif_neg h', dif_neg (by omega)]

theorem refV_at (R : Fin 4096) (n : Fin 512) : refV m c (ix2 R n) = RV m c R n := by
  have e1 := k3_at m c R
  rw [refV]
  generalize refK3 (A1 m c) (A5 m c) (A7 m c) = k at e1 ⊢
  pointwise []
  rw [e1]
  exact congrArg (KP m c R) (Fin.ext (by show 256 * (n.val / 128) + (128 + n.val % 128) = 256 * (n.val / 128) + 128 + n.val % 128; omega))

theorem final_9 : (dats m 0 c).arrAt 9 (cfgs 0).N = refQ m c := by
  refine (dats m 0 c).arrAt_eq_of_covers 9 _ (by decide +kernel) fun t hf y => ?_
  blk_simp
  obtain ⟨r, n, rfl⟩ : ∃ (r : Fin 512) (n : Fin 1024), y = ix2 r n := ⟨y 0, y 1, by funext d; fin_cases d <;> rfl⟩
  have he : ((cfg0.win 9).blk t).view.emb (ix2 r n) = ix2 (at_ t r) n := by blk_ext [at_, idx_val t]
  exact (point_9 m c t r n).trans ((congrArg (refQ m c) he).trans (refQ_at ..)).symm

theorem final_10 : (dats m 0 c).arrAt 10 (cfgs 0).N = refK m c := by
  refine (dats m 0 c).arrAt_eq_of_covers 10 _ (by decide +kernel) fun t hf y => ?_
  blk_simp
  obtain ⟨r, n, rfl⟩ : ∃ (r : Fin 512) (n : Fin 1024), y = ix2 r n := ⟨y 0, y 1, by funext d; fin_cases d <;> rfl⟩
  have he : ((cfg0.win 10).blk t).view.emb (ix2 r n) = ix2 (at_ t r) n := by blk_ext [at_, idx_val t]
  exact (point_10 m c t r n).trans ((congrArg (refK m c) he).trans (refK_at ..)).symm

theorem final_11 : (dats m 0 c).arrAt 11 (cfgs 0).N = refV m c := by
  refine (dats m 0 c).arrAt_eq_of_covers 11 _ (by decide +kernel) fun t hf y => ?_
  blk_simp
  obtain ⟨r, n, rfl⟩ : ∃ r n : Fin 512, y = ix2 r n := ⟨y 0, y 1, by funext d; fin_cases d <;> rfl⟩
  have he : ((cfg0.win 11).blk t).view.emb (ix2 r n) = ix2 (at_ t r) n := by blk_ext [at_, idx_val t]
  exact (point_11 m c t r n).trans ((congrArg (refV m c) he).trans (refV_at ..)).symm

/-- The reference keeps its arguments; it declares no semaphore. -/
theorem quiescent_reference : quiescent_Reference18Ideal := fun m g _ =>
  (θ_run Reference18Ideal.defs _ _).mono
    (fun r h => ⟨fun c => (h c).2.2.2, sem_eq_zero_of_no_sems (by decide) r.2⟩) (Reference18Ideal.Value.run m g)

theorem algebraic : algebraic_Kernel18Ideal_Reference18Ideal := by
  intro m g m' g' _ hagree
  refine ⟨_, _, _, Kernel18Ideal.Value.run_blocks m g,
    (θ_run Reference18Ideal.defs _ _).mono (fun r h c => ?_) (Reference18Ideal.Value.run m' g')⟩
  obtain ⟨h0, h1, h2, hk⟩ := h c
  obtain ⟨a0, a1, a2, a3, a4, a5, a6, a7⟩ := hagree c
  refine ⟨?_, ?_, ?_, hk⟩
  · rw [h0, Reference18Ideal.Value.res_main_v85, a0, a3, a4, a6]; exact (final_9 m c).symm
  · rw [h1, Reference18Ideal.Value.res_main_v86, a1, a2, a3, a5, a7]; exact (final_10 m c).symm
  · rw [h2, a1, a5, a7]; exact (final_11 m c).symm

end Cert.PrepFwd
end
-- ==== Proof.CastW.lean ====
/- One device's columns of the input weight, transposed and rounded: the run of the kernel against the reference's. -/
module

public import proofs.«01_k».proof.Defs
public import proofs.«01_k».proof.Proof.Gen.Kernel20Ideal.Value
public import proofs.«01_k».proof.Proof.Gen.Reference20Ideal.Run
public import Idealize.ShloMosaic.Lib.Claim
public import Idealize.ShloMosaic.Lib.Pipeline.ValueKit

@[expose] public section

set_option maxRecDepth 16384

noncomputable section

namespace Cert.CastW

open Kernel20Ideal Kernel20Ideal.Gen Idealize.ShloMosaic TcCoe Idealize.SL.Sem

/-- The reference's result: the transposed columns. -/
abbrev refW (a0 : FVec Ideal Reference20Ideal.S1x1024x361 .f32) : FVec Ideal Reference20Ideal.S361x1024 .bf16 :=
  truncf .bf16 (transpose Reference20Ideal.S361x1024 [1, 0] (shapeCast Reference20Ideal.S1024x361 a0 Reference20Ideal.Gen.shapeCasts_S1x1024x361_S1024x361)
    Reference20Ideal.Gen.transposes_S1024x361_S361x1024_1_0) Reference20Ideal.Gen.bitsLt_bf16_f32

variable (m : (ℓ : Loc nD τ sig) → Buf (Elt Ideal) ℓ) (c : Dev nD)

abbrev A0 : FVec Ideal S1x1024x361 .f32 := m ((c : Thread nD τ).loc main_arg0)

theorem idx_val : ∀ t : Fin cfg0.N, win0_0.index t = ![0, 0] ∧ win0_1.index t = ![0, 0] := (by decide +kernel : ∀ t : Fin grid0.N, _)

theorem blk_0 (t : Fin cfg0.N) (r : Fin 361) (e : Fin 1024) : iblk m c 0 t (ix2 r e) = A0 m c (ix3 0 e r) := by
  have he : ((cfg0.win 0).blk t).view.emb (ix2 r e) = ix2 r e := by blk_ext [idx_val t]
  blk_simp [iblk]
  rw [he]
  entry_read
  pointwise

theorem final_1 : (dats m 0 c).arrAt 1 (cfgs 0).N = refW (A0 m c) := by
  refine (dats m 0 c).arrAt_eq_of_covers 1 _ (by decide +kernel) fun t hf y => ?_
  blk_simp; rw [after0_1]; frame_out
  obtain ⟨r, e, rfl⟩ : ∃ (r : Fin 361) (e : Fin 1024), y = ix2 r e := ⟨y 0, y 1, by funext d; fin_cases d <;> rfl⟩
  have he : ((cfg0.win 1).blk t).view.emb (ix2 r e) = ix2 r e := by blk_ext [idx_val t]
  rw [he]
  pointwise [k0_pay1, refW]
  exact blk_0 m c t r e

/-- The reference keeps its arguments; it declares no semaphore. -/
theorem quiescent_reference : quiescent_Reference20Ideal := fun m g _ =>
  (θ_run Reference20Ideal.defs _ _).mono
    (fun r h => ⟨fun c => (h c).2, sem_eq_zero_of_no_sems (by decide) r.2⟩) (Reference20Ideal.Value.run m g)

theorem algebraic : algebraic_Kernel20Ideal_Reference20Ideal := by
  intro m g m' g' _ hagree
  refine ⟨_, Kernel20Ideal.Value.run_blocks m g,
    (θ_run Reference20Ideal.defs _ _).mono (fun r h c => ?_) (Reference20Ideal.Value.run m' g')⟩
  obtain ⟨h0, hk⟩ := h c
  have a0 := hagree c
  refine ⟨?_, hk⟩
  rw [h0, a0]; exact (final_1 m c).symm

end Cert.CastW

end
-- ==== Proof.SumSlots.lean ====
/- The sum of the eight slots: what the call leaves in its result, and the run of the kernel against the reference's. -/
module

public import proofs.«01_k».proof.Defs
public import proofs.«01_k».proof.Proof.Gen.Kernel21Ideal.Value
public import proofs.«01_k».proof.Proof.Gen.Reference21Ideal.Run
public import Idealize.ShloMosaic.Lib.Claim
public import Idealize.ShloMosaic.Lib.Pipeline.ValueKit

@[expose] public section

set_option maxRecDepth 16384

noncomputable section

namespace Cert.SumSlots

open Kernel21Ideal Kernel21Ideal.Gen Idealize.ShloMosaic TcCoe Idealize.SL.Sem

/-- The reference's result: the sum over the slots. -/
abbrev refS (a0 : FVec Ideal Reference21Ideal.S8x136x128 .f32) : FVec Ideal Reference21Ideal.S136x128 .f32 :=
  Host.reduceAdd a0 (constant Reference21Ideal.S_ .f32 0x00000000#32) Reference21Ideal.Gen.reducesTo_S8x136x128_S136x128_d0 Reference21Ideal.Gen.h_S_

theorem point (a0 : FVec Ideal S8x136x128 .f32) : Kernel21Ideal.Value.G1 (F := Ideal) a0 = refS a0 := by
  funext y
  obtain ⟨r, e, rfl⟩ : ∃ (r : Fin 136) (e : Fin 128), y = ix2 r e := ⟨y 0, y 1, by funext d; fin_cases d <;> rfl⟩
  pointwise [Kernel21Ideal.Value.G1, k0_pay1, refS]
  simp only [Fin.sum_univ_eight]

/-- The reference keeps its arguments; it declares no semaphore. -/
theorem quiescent_reference : quiescent_Reference21Ideal := fun m g _ =>
  (θ_run Reference21Ideal.defs _ _).mono
    (fun r h => ⟨fun c => (h c).2, sem_eq_zero_of_no_sems (by decide) r.2⟩) (Reference21Ideal.Value.run m g)

theorem algebraic : algebraic_Kernel21Ideal_Reference21Ideal := by
  intro m g m' g' _ hagree
  refine ⟨_, Kernel21Ideal.Value.run m g,
    (θ_run Reference21Ideal.defs _ _).mono (fun r h c => ?_) (Reference21Ideal.Value.run m' g')⟩
  obtain ⟨h0, hk⟩ := h c
  have a0 := hagree c
  refine ⟨?_, hk⟩
  rw [h0, a0]; exact (point _).symm

end Cert.SumSlots

end
-- ==== Proof.AdamW.lean ====
/- The optimiser's step on one device's rows of the down product's weight: what the call leaves in its four results,
   and the run of the kernel against the reference's. -/
module

public import proofs.«01_k».proof.Defs
public import proofs.«01_k».proof.Proof.Gen.Kernel22Ideal.Value
public import proofs.«01_k».proof.Proof.Gen.Reference22Ideal.Run
public import Idealize.ShloMosaic.Lib.Claim
public import Idealize.ShloMosaic.Lib.Pipeline.ValueKit

@[expose] public section

set_option maxRecDepth 16384

noncomputable section

namespace Cert.AdamW

section
open Reference22Ideal Reference22Ideal.Gen Idealize.ShloMosaic TcCoe Idealize.SL.Sem
variable (a0 : FVec Ideal S1x352x1024 .f32) (a1 : FVec Ideal S8x352x1024 .f32) (a2 a3 : FVec Ideal S1x352x1024 .f32)

/-- The reference's gradient: the sum over the slots, -/
abbrev refG : FVec Ideal S352x1024 .f32 := Host.reduceAdd a1 (constant S_ .f32 0x00000000#32) reducesTo_S8x352x1024_S352x1024_d0 h_S_

/-- the new first moment, -/
abbrev refM : FVec Ideal S352x1024 .f32 :=
  addf (mulf (broadcastInDim S352x1024 ![] bcast_S_S352x1024 (constant S_ .f32 0x3F666666#32)) (shapeCast _ a2 shapeCasts_S1x352x1024_S352x1024)) (mulf (broadcastInDim S352x1024 ![] bcast_S_S352x1024 (constant S_ .f32 0x3DCCCCCD#32)) (refG a1))

/-- the new second moment, -/
abbrev refV : FVec Ideal S352x1024 .f32 :=
  addf (mulf (broadcastInDim S352x1024 ![] bcast_S_S352x1024 (constant S_ .f32 0x3F7FBE77#32)) (shapeCast _ a3 shapeCasts_S1x352x1024_S352x1024)) (mulf (broadcastInDim S352x1024 ![] bcast_S_S352x1024 (constant S_ .f32 0x3A83126F#32)) (mulf (refG a1) (refG a1)))

/-- and the step. -/
abbrev refD : FVec Ideal S352x1024 .f32 := mulf (broadcastInDim S352x1024 ![] bcast_S_S352x1024 (constant S_ .f32 0xBA83126F#32))
  (addf (Host.divf (Host.divf (refM a1 a2) (broadcastInDim S352x1024 ![] bcast_S_S352x1024 (constant S_ .f32 0x3F26BD02#32)))
    (addf (Host.sqrt (Host.divf (refV a1 a3) (broadcastInDim S352x1024 ![] bcast_S_S352x1024 (constant S_ .f32 0x3C231ACC#32)))) (broadcastInDim S352x1024 ![] bcast_S_S352x1024 (constant S_ .f32 0x322BCC77#32))))
    (mulf (broadcastInDim S352x1024 ![] bcast_S_S352x1024 (constant S_ .f32 0x3C23D70A#32)) (shapeCast _ a0 shapeCasts_S1x352x1024_S352x1024)))
end

open Kernel22Ideal Kernel22Ideal.Gen Idealize.ShloMosaic TcCoe Idealize.SL.Sem
open scoped BigOperators

variable (m : (ℓ : Loc nD τ sig) → Buf (Elt Ideal) ℓ) (c : Dev nD) (t : Fin cfg0.N)

abbrev A0 : FVec Ideal S1x352x1024 .f32 := m ((c : Thread nD τ).loc main_arg0)
abbrev A1 : FVec Ideal S8x352x1024 .f32 := m ((c : Thread nD τ).loc main_arg1)
abbrev A2 : FVec Ideal S1x352x1024 .f32 := m ((c : Thread nD τ).loc main_arg2)
abbrev A3 : FVec Ideal S1x352x1024 .f32 := m ((c : Thread nD τ).loc main_arg3)

theorem idx_val : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem blk_0 (r : Fin 352) (e : Fin 1024) : iblk m c 0 t (ix2 r e) = A0 m c (ix3 0 r e) := by
  have he : ((cfg0.win 0).blk t).view.emb (ix2 r e) = ix2 r e := by blk_ext [idx_val t]
  blk_simp [iblk]
  rw [he]
  entry_read
  pointwise

theorem blk_2 (r : Fin 352) (e : Fin 1024) : iblk m c 2 t (ix2 r e) = A2 m c (ix3 0 r e) := by
  have he : ((cfg0.win 2).blk t).view.emb (ix2 r e) = ix2 r e := by blk_ext [idx_val t]
  blk_simp [iblk]
  rw [he]
  entry_read
  pointwise

theorem blk_3 (r : Fin 352) (e : Fin 1024) : iblk m c 3 t (ix2 r e) = A3 m c (ix3 0 r e) := by
  have he : ((cfg0.win 3).blk t).view.emb (ix2 r e) = ix2 r e := by blk_ext [idx_val t]
  blk_simp [iblk]
  rw [he]
  entry_read
  pointwise

theorem blk_1 (s : Fin 8) (r : Fin 352) (e : Fin 1024) : iblk m c 1 t (ix3 s r e) = A1 m c (ix3 s r e) := by
  have he : ((cfg0.win 1).blk t).view.emb (ix3 s r e) = ix3 s r e := by blk_ext [idx_val t]
  blk_simp [iblk]
  rw [he]
  entry_read
  pointwise

/-- The sum the call keeps is the reference's gradient. -/
theorem sum_at (x1 : Vec Ideal S8x352x1024 .bf16) (r : Fin 352) (e : Fin 1024) :
    k0_pay4 (F := Ideal) (View.ld x1 r0_0) (View.ld x1 r0_1) (View.ld x1 r0_2) (View.ld x1 r0_3) (View.ld x1 r0_4) (View.ld x1 r0_5) (View.ld x1 r0_6)
      (View.ld x1 r0_7) (ix2 r e) = refG x1 (ix2 r e) := by
  pointwise [k0_pay4, refG]
  simp only [Fin.sum_univ_eight]

theorem grad_at (r : Fin 352) (e : Fin 1024) : refG (iblk m c 1 t) (ix2 r e) = ∑ s, A1 m c (ix3 s r e) := by
  pointwise [refG]
  simp only [blk_1]

theorem split (y : S352x1024.Idx) : ∃ (r : Fin 352) (e : Fin 1024), y = ix2 r e := ⟨y 0, y 1, by funext d; fin_cases d <;> rfl⟩

theorem final_4 : (dats m 0 c).arrAt 4 (cfgs 0).N = refG (A1 m c) := by
  refine (dats m 0 c).arrAt_eq_of_covers 4 _ (by decide +kernel) fun t hf y => ?_
  blk_simp; rw [after0_4]; unfold_out out0_4; frame_out
  obtain ⟨r, e, rfl⟩ := split y
  have he : ((cfg0.win 4).blk t).view.emb (ix2 r e) = ix2 r e := by blk_ext [idx_val t]
  rw [he]
  rw [sum_at, grad_at]
  pointwise [refG]

theorem final_5 : (dats m 0 c).arrAt 5 (cfgs 0).N = refD (A0 m c) (A1 m c) (A2 m c) (A3 m c) := by
  refine (dats m 0 c).arrAt_eq_of_covers 5 _ (by decide +kernel) fun t hf y => ?_
  blk_simp; rw [after0_5]; unfold_out out0_5; frame_out
  obtain ⟨r, e, rfl⟩ := split y
  have he : ((cfg0.win 5).blk t).view.emb (ix2 r e) = ix2 r e := by blk_ext [idx_val t]
  rw [he]
  pointwise [k0_pay3, k0_pay1, k0_pay2, refD, refM, refV]
  simp only [sum_at, grad_at, blk_0, blk_2, blk_3]

theorem final_6 : (dats m 0 c).arrAt 6 (cfgs 0).N = refM (A1 m c) (A2 m c) := by
  refine (dats m 0 c).arrAt_eq_of_covers 6 _ (by decide +kernel) fun t hf y => ?_
  blk_simp; rw [after0_6]; unfold_out out0_6; frame_out
  obtain ⟨r, e, rfl⟩ := split y
  have he : ((cfg0.win 6).blk t).view.emb (ix2 r e) = ix2 r e := by blk_ext [idx_val t]
  rw [he]
  pointwise [k0_pay1, refM]
  simp only [sum_at, grad_at, blk_2]

theorem final_7 : (dats m 0 c).arrAt 7 (cfgs 0).N = refV (A1 m c) (A3 m c) := by
  refine (dats m 0 c).arrAt_eq_of_covers 7 _ (by decide +kernel) fun t hf y => ?_
  blk_simp; rw [after0_7]; unfold_out out0_7; frame_out
  obtain ⟨r, e, rfl⟩ := split y
  have he : ((cfg0.win 7).blk t).view.emb (ix2 r e) = ix2 r e := by blk_ext [idx_val t]
  rw [he]
  pointwise [k0_pay2, refV]
  simp only [sum_at, grad_at, blk_3]

/-- The reference keeps its arguments; it declares no semaphore. -/
theorem quiescent_reference : quiescent_Reference22Ideal := fun m g _ =>
  (θ_run Reference22Ideal.defs _ _).mono
    (fun r h => ⟨fun c => (h c).2.2.2.2, sem_eq_zero_of_no_sems (by decide) r.2⟩) (Reference22Ideal.Value.run m g)

theorem algebraic : algebraic_Kernel22Ideal_Reference22Ideal := by
  intro m g m' g' _ hagree
  refine ⟨_, _, _, _, Kernel22Ideal.Value.run_blocks m g,
    (θ_run Reference22Ideal.defs _ _).mono (fun r h c => ?_) (Reference22Ideal.Value.run m' g')⟩
  obtain ⟨h0, h1, h2, h3, hk⟩ := h c
  obtain ⟨a0, a1, a2, a3⟩ := hagree c
  refine ⟨?_, ?_, ?_, ?_, hk⟩
  · rw [h0, a1]; exact (final_4 m c).symm
  · rw [h1, a0, a1, a2, a3]; exact (final_5 m c).symm
  · rw [h2, a1, a2]; exact (final_6 m c).symm
  · rw [h3, a1, a3]; exact (final_7 m c).symm

end Cert.AdamW

end
-- ==== Proof.DownT.lean ====
/- The gradient of the down product's weight: what the eleven grid points leave in the result, and the run of the
   kernel against the reference's. -/
module

public import proofs.«01_k».proof.Defs
public import proofs.«01_k».proof.Proof.Gen.Kernel23Ideal.Value
public import proofs.«01_k».proof.Proof.Gen.Reference23Ideal.Run
public import Idealize.ShloMosaic.Lib.Claim
public import Idealize.ShloMosaic.Lib.Pipeline.ValueKit

@[expose] public section

set_option maxRecDepth 16384

noncomputable section

namespace Cert.DownT

section
open Reference23Ideal Reference23Ideal.Gen Idealize.ShloMosaic TcCoe Idealize.SL.Sem

/-- The reference's result: the transposed product. -/
abbrev refD (a0 : FVec Ideal S4096x2816 .f32) (a1 : FVec Ideal S4096x1024 .f32) : FVec Ideal S2816x1024 .bf16 :=
  truncf .bf16 (Host.dotGeneral dot_S2816x4096_S4096x1024_S2816x1024_1_0_0_1_n_n none (transpose S2816x4096 [1, 0] a0 transposes_S4096x2816_S2816x4096_1_0) a1) bitsLt_bf16_f32
end

open Kernel23Ideal Kernel23Ideal.Gen Idealize.ShloMosaic TcCoe Idealize.SL.Sem

variable (m : (ℓ : Loc nD τ sig) → Buf (Elt Ideal) ℓ) (c : Dev nD) (t : Fin cfg0.N)

abbrev A0 : FVec Ideal S4096x2816 .f32 := m ((c : Thread nD τ).loc main_arg0)
abbrev A1 : FVec Ideal S4096x1024 .f32 := m ((c : Thread nD τ).loc main_arg1)

theorem idx_val : ∀ t : Fin cfg0.N, win0_0.index t = ![0, t.val] ∧ win0_1.index t = ![0, 0] ∧ win0_2.index t = ![t.val, 0] :=
  (by decide +kernel : ∀ t : Fin grid0.N, _)

/-- Column r of grid point t's block. -/
def at_ (r : Fin 256) : Fin 2816 := ⟨t.val * 256 + r.val, by have : t.val < 11 := lt_of_lt_of_eq t.isLt N_0; omega⟩

theorem blk_0 (k : Fin 4096) (r : Fin 256) : iblk m c 0 t (ix2 k r) = A0 m c (ix2 k (at_ t r)) := by
  have he : ((cfg0.win 0).blk t).view.emb (ix2 k r) = ix2 k (at_ t r) := by blk_ext [at_, idx_val t]
  blk_simp [iblk]
  rw [he]
  entry_read
  pointwise

theorem blk_1 (k : Fin 4096) (e : Fin 1024) : iblk m c 1 t (ix2 k e) = A1 m c (ix2 k e) := by
  have he : ((cfg0.win 1).blk t).view.emb (ix2 k e) = ix2 k e := by blk_ext [idx_val t]
  blk_simp [iblk]
  rw [he]
  entry_read
  pointwise

theorem final_2 : (dats m 0 c).arrAt 2 (cfgs 0).N = refD (A0 m c) (A1 m c) := by
  refine (dats m 0 c).arrAt_eq_of_covers 2 _ (by decide +kernel) fun t hf y => ?_
  blk_simp; rw [after0_2]; frame_out
  obtain ⟨r, e, rfl⟩ : ∃ (r : Fin 256) (e : Fin 1024), y = ix2 r e := ⟨y 0, y 1, by funext d; fin_cases d <;> rfl⟩
  have he : ((cfg0.win 2).blk t).view.emb (ix2 r e) = ix2 (at_ t r) e := by blk_ext [at_, idx_val t]
  rw [he]
  pointwise [k0_pay1, refD]
  simp only [blk_0, blk_1]

/-- The reference keeps its arguments; it declares no semaphore. -/
theorem quiescent_reference : quiescent_Reference23Ideal := fun m g _ =>
  (θ_run Reference23Ideal.defs _ _).mono
    (fun r h => ⟨fun c => (h c).2, sem_eq_zero_of_no_sems (by decide) r.2⟩) (Reference23Ideal.Value.run m g)

theorem algebraic : algebraic_Kernel23Ideal_Reference23Ideal := by
  intro m g m' g' _ hagree
  refine ⟨_, Kernel23Ideal.Value.run_blocks m g,
    (θ_run Reference23Ideal.defs _ _).mono (fun r h c => ?_) (Reference23Ideal.Value.run m' g')⟩
  obtain ⟨h0, hk⟩ := h c
  obtain ⟨a0, a1⟩ := hagree c
  refine ⟨?_, hk⟩
  rw [h0, a0, a1]; exact (final_2 m c).symm

end Cert.DownT

end
-- ==== Proof.GateUpT.lean ====
/- The gradients of the gate's and the other weight: what the eleven grid points leave in the two results, and the run
   of the kernel against the reference's. -/
module

public import proofs.«01_k».proof.Defs
public import proofs.«01_k».proof.Proof.Gen.Kernel24Ideal.Value
public import proofs.«01_k».proof.Proof.Gen.Reference24Ideal.Run
public import Idealize.ShloMosaic.Lib.Claim
public import Idealize.ShloMosaic.Lib.Pipeline.ValueKit

@[expose] public section

set_option maxRecDepth 16384

noncomputable section

namespace Cert.GateUpT

section
open Reference24Ideal Reference24Ideal.Gen Idealize.ShloMosaic TcCoe Idealize.SL.Sem

/-- The reference's results: a transposed product. -/
abbrev refD (a0 : FVec Ideal S4096x2816 .f32) (a1 : FVec Ideal S4096x1024 .f32) : FVec Ideal S2816x1024 .bf16 :=
  truncf .bf16 (Host.dotGeneral dot_S2816x4096_S4096x1024_S2816x1024_1_0_0_1_n_n none (transpose S2816x4096 [1, 0] a0 transposes_S4096x2816_S2816x4096_1_0) a1) bitsLt_bf16_f32
end

open Kernel24Ideal Kernel24Ideal.Gen Idealize.ShloMosaic TcCoe Idealize.SL.Sem
open scoped BigOperators

variable (m : (ℓ : Loc nD τ sig) → Buf (Elt Ideal) ℓ) (c : Dev nD) (t : Fin cfg0.N)

abbrev A0 : FVec Ideal S4096x2816 .f32 := m ((c : Thread nD τ).loc main_arg0)
abbrev A1 : FVec Ideal S4096x2816 .f32 := m ((c : Thread nD τ).loc main_arg1)
abbrev A2 : FVec Ideal S4096x1024 .f32 := m ((c : Thread nD τ).loc main_arg2)

theorem idx_val : ∀ t : Fin cfg0.N, win0_0.index t = ![0, t.val] ∧ win0_1.index t = ![0, t.val] ∧ win0_2.index t = ![0, 0]
    ∧ win0_3.index t = ![t.val, 0] ∧ win0_4.index t = ![t.val, 0] :=
  (by decide +kernel : ∀ t : Fin grid0.N, _)

/-- Column r of grid point t's block. -/
def at_ (r : Fin 256) : Fin 2816 := ⟨t.val * 256 + r.val, by have : t.val < 11 := lt_of_lt_of_eq t.isLt N_0; omega⟩

theorem blk_0 (k : Fin 4096) (r : Fin 256) : iblk m c 0 t (ix2 k r) = A0 m c (ix2 k (at_ t r)) := by
  have he : ((cfg0.win 0).blk t).view.emb (ix2 k r) = ix2 k (at_ t r) := by blk_ext [at_, idx_val t]
  blk_simp [iblk]
  rw [he]
  entry_read
  pointwise

theorem blk_1 (k : Fin 4096) (r : Fin 256) : iblk m c 1 t (ix2 k r) = A1 m c (ix2 k (at_ t r)) := by
  have he : ((cfg0.win 1).blk t).view.emb (ix2 k r) = ix2 k (at_ t r) := by blk_ext [at_, idx_val t]
  blk_simp [iblk]
  rw [he]
  entry_read
  pointwise

theorem blk_2 (k : Fin 4096) (e : Fin 1024) : iblk m c 2 t (ix2 k e) = A2 m c (ix2 k e) := by
  have he : ((cfg0.win 2).blk t).view.emb (ix2 k e) = ix2 k e := by blk_ext [idx_val t]
  blk_simp [iblk]
  rw [he]
  entry_read
  pointwise

theorem pay2_at (x0 x1 : Vec Ideal S4096x256 .bf16) (x2 : Vec Ideal S4096x1024 .bf16) (r : Fin 256) (e : Fin 1024) :
    k0_pay2 (F := Ideal) x0 x1 x2 (ix2 r e) = ∑ k : Fin 4096, x0 (ix2 k r) * x2 (ix2 k e) := by
  have h : r.val < 256 := r.isLt
  pointwise [k0_pay2, k0_pay1]

theorem pay3_at (x0 x1 : Vec Ideal S4096x256 .bf16) (x2 : Vec Ideal S4096x1024 .bf16) (r : Fin 256) (e : Fin 1024) :
    k0_pay3 (F := Ideal) x0 x1 x2 (ix2 r e) = ∑ k : Fin 4096, x1 (ix2 k r) * x2 (ix2 k e) := by
  pointwise [k0_pay3, k0_pay1]

theorem refD_at (a0 : FVec Ideal S4096x2816 .f32) (a1 : FVec Ideal S4096x1024 .f32) (r : Fin 2816) (e : Fin 1024) :
    refD a0 a1 (ix2 r e) = ∑ k : Fin 4096, a0 (ix2 k r) * a1 (ix2 k e) := by
  pointwise [refD]

theorem split (y : S256x1024.Idx) : ∃ (r : Fin 256) (e : Fin 1024), y = ix2 r e := ⟨y 0, y 1, by funext d; fin_cases d <;> rfl⟩

theorem final_3 : (dats m 0 c).arrAt 3 (cfgs 0).N = refD (A0 m c) (A2 m c) := by
  refine (dats m 0 c).arrAt_eq_of_covers 3 _ (by decide +kernel) fun t hf y => ?_
  blk_simp; rw [after0_3]; frame_out
  obtain ⟨r, e, rfl⟩ := split y
  have he : ((cfg0.win 3).blk t).view.emb (ix2 r e) = ix2 (at_ t r) e := by blk_ext [at_, idx_val t]
  rw [he, refD_at, pay2_at]
  simp only [blk_0, blk_2]

theorem final_4 : (dats m 0 c).arrAt 4 (cfgs 0).N = refD (A1 m c) (A2 m c) := by
  refine (dats m 0 c).arrAt_eq_of_covers 4 _ (by decide +kernel) fun t hf y => ?_
  blk_simp; rw [after0_4]; frame_out
  obtain ⟨r, e, rfl⟩ := split y
  have he : ((cfg0.win 4).blk t).view.emb (ix2 r e) = ix2 (at_ t r) e := by blk_ext [at_, idx_val t]
  rw [he, refD_at, pay3_at]
  simp only [blk_1, blk_2]

/-- The reference keeps its arguments; it declares no semaphore. -/
theorem quiescent_reference : quiescent_Reference24Ideal := fun m g _ =>
  (θ_run Reference24Ideal.defs _ _).mono
    (fun r h => ⟨fun c => (h c).2.2, sem_eq_zero_of_no_sems (by decide) r.2⟩) (Reference24Ideal.Value.run m g)

theorem algebraic : algebraic_Kernel24Ideal_Reference24Ideal := by
  intro m g m' g' _ hagree
  refine ⟨_, _, Kernel24Ideal.Value.run_blocks m g,
    (θ_run Reference24Ideal.defs _ _).mono (fun r h c => ?_) (Reference24Ideal.Value.run m' g')⟩
  obtain ⟨h0, h1, hk⟩ := h c
  obtain ⟨a0, a1, a2⟩ := hagree c
  refine ⟨?_, ?_, hk⟩
  · rw [h0, a0, a2]; exact (final_3 m c).symm
  · rw [h1, a1, a2]; exact (final_4 m c).symm

end Cert.GateUpT

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Pre_finite6
public import proofs.«01_k».proof.Proof.Gen.Pre_finite7
public import proofs.«01_k».proof.Proof.Gen.Pre_finite12
public import proofs.«01_k».proof.Proof.Gen.Pre_finite4
public import proofs.«01_k».proof.Proof.Gen.Pre_finite13
public import proofs.«01_k».proof.Proof.AttnClaim
public import proofs.«01_k».proof.Proof.AttnBits
public import proofs.«01_k».proof.Proof.ModClaim
public import proofs.«01_k».proof.Proof.ModWClaim
public import proofs.«01_k».proof.Proof.Norm2Claim
public import proofs.«01_k».proof.Proof.Norm1Claim
public import proofs.«01_k».proof.Proof.MixClaim
public import proofs.«01_k».proof.Proof.AttnFwdClaim
public import proofs.«01_k».proof.Proof.PrepClaim
public import proofs.«01_k».proof.Proof.FfnClaim
public import proofs.«01_k».proof.Proof.FfnBits
public import proofs.«01_k».proof.Proof.FfnIn
public import proofs.«01_k».proof.Proof.ModIn
public import proofs.«01_k».proof.Proof.MixF
public import proofs.«01_k».proof.Proof.Norm1F
public import proofs.«01_k».proof.Proof.ModF
public import proofs.«01_k».proof.Proof.PrepFwd
public import proofs.«01_k».proof.Proof.CastW
public import proofs.«01_k».proof.Proof.SumSlots
public import proofs.«01_k».proof.Proof.AdamW
public import proofs.«01_k».proof.Proof.DownT
public import proofs.«01_k».proof.Proof.GateUpT
public import Idealize.ShloMosaic.Adequacy
public import Idealize.ShloMosaic.Init
public import Idealize.ShloMosaic.Lib.Claim

@[expose] public section

noncomputable section

namespace Cert.Proof

open Idealize.ShloMosaic Idealize.SL.Sem

theorem preserves_attn : Cert.preserves_Kernel_KernelIdeal := IdealRules.named_const.statement _ _ _ _ _ rfl

theorem preserves_12 : Cert.preserves_Kernel12_Kernel12Ideal := ⟨IdealRules.named_const.statement _ _ _ _ _ rfl, IdealRules.named_const.statement _ _ _ _ _ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel12.Gen.facts, Cert.Kernel12Ideal.Gen.facts, Cert.Reference12Ideal.Gen.facts,
  Cert.Kernel9.Gen.facts, Cert.Kernel9Ideal.Gen.facts, Cert.Reference9Ideal.Gen.facts,
  Cert.Kernel4.Gen.facts, Cert.Kernel4Ideal.Gen.facts, Cert.Reference4Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Pre_finite.Gen.facts, Cert.Pre_finite6.Gen.facts, Cert.Pre_finite7.Gen.facts, Cert.Pre_finite12.Gen.facts, Cert.Pre_finite4.Gen.facts, Cert.Pre_finite13.Gen.facts,
  Cert.KernelIdeal.Attn.quiescent_printed, Cert.KernelIdeal.Attn.quiescent, fun m g _ => Cert.KernelIdeal.Attn.quiescent m g trivial,
  Cert.KernelIdeal.Attn.quiescent_reference, fun m g _ => Cert.KernelIdeal.Attn.quiescent_reference m g trivial,
  fun m g _ => Cert.Kernel2.Gen.frame m g, fun m g _ => Cert.Kernel2Ideal.Gen.frame m g,
  Cert.ModValue.quiescent_reference,
  fun m g _ => Cert.Kernel5.Gen.frame m g, fun m g _ => Cert.Kernel5Ideal.Gen.frame m g,
  Cert.ModW.quiescent_reference,
  fun m g _ => Cert.Kernel6.Gen.frame m g, fun m g _ => Cert.Kernel6Ideal.Gen.frame m g, fun m g _ => Cert.Kernel6Ideal.Gen.frame m g,
  Cert.Norm2.quiescent_reference, fun m g _ => Cert.Norm2.quiescent_reference m g trivial,
  fun m g _ => Cert.Kernel7.Gen.frame m g, fun m g _ => Cert.Kernel7Ideal.Gen.frame m g, fun m g _ => Cert.Kernel7Ideal.Gen.frame m g,
  Cert.Norm1.quiescent_reference, fun m g _ => Cert.Norm1.quiescent_reference m g trivial,
  fun m g _ => Cert.Kernel8.Gen.frame m g, fun m g _ => Cert.Kernel8Ideal.Gen.frame m g,
  Cert.Mix.quiescent_reference,
  fun m g _ => Cert.Kernel12.Gen.frame m g, fun m g _ => Cert.Kernel12Ideal.Gen.frame m g, fun m g _ => Cert.Kernel12Ideal.Gen.frame m g,
  Cert.AttnFwd.quiescent_reference, fun m g _ => Cert.AttnFwd.quiescent_reference m g trivial,
  fun m g _ => Cert.Kernel9.Gen.frame m g, fun m g _ => Cert.Kernel9Ideal.Gen.frame m g,
  Cert.Prep.quiescent_reference,
  Cert.Ffn.quiescent_printed, Cert.Ffn.quiescent, fun m g _ => Cert.Ffn.quiescent m g trivial,
  Cert.Ffn.quiescent_reference, fun m g _ => Cert.Ffn.quiescent_reference m g trivial,
  fun m g _ => Cert.Kernel13.Gen.frame m g, fun m g _ => Cert.Kernel13Ideal.Gen.frame m g, fun m g _ => Cert.Kernel13Ideal.Gen.frame m g,
  Cert.FfnIn.quiescent_reference, fun m g _ => Cert.FfnIn.quiescent_reference m g trivial,
  fun m g _ => Cert.Kernel14.Gen.frame m g, fun m g _ => Cert.Kernel14Ideal.Gen.frame m g,
  Cert.ModIn.quiescent_reference,
  fun m g _ => Cert.Kernel15.Gen.frame m g, fun m g _ => Cert.Kernel15Ideal.Gen.frame m g,
  Cert.MixF.quiescent_reference,
  fun m g _ => Cert.Kernel16.Gen.frame m g, fun m g _ => Cert.Kernel16Ideal.Gen.frame m g,
  Cert.Norm1F.quiescent_reference,
  fun m g _ => Cert.Kernel17.Gen.frame m g, fun m g _ => Cert.Kernel17Ideal.Gen.frame m g,
  Cert.ModF.quiescent_reference,
  fun m g _ => Cert.Kernel18.Gen.frame m g, fun m g _ => Cert.Kernel18Ideal.Gen.frame m g,
  Cert.PrepFwd.quiescent_reference,
  fun m g _ => Cert.Kernel20.Gen.frame m g, fun m g _ => Cert.Kernel20Ideal.Gen.frame m g,
  Cert.CastW.quiescent_reference,
  fun m g _ => Cert.Kernel21.Gen.frame m g, fun m g _ => Cert.Kernel21Ideal.Gen.frame m g,
  Cert.SumSlots.quiescent_reference,
  fun m g _ => Cert.Kernel22.Gen.frame m g, fun m g _ => Cert.Kernel22Ideal.Gen.frame m g,
  Cert.AdamW.quiescent_reference,
  fun m g _ => Cert.Kernel23.Gen.frame m g, fun m g _ => Cert.Kernel23Ideal.Gen.frame m g,
  Cert.DownT.quiescent_reference,
  fun m g _ => Cert.Kernel24.Gen.frame m g, fun m g _ => Cert.Kernel24Ideal.Gen.frame m g,
  Cert.GateUpT.quiescent_reference,
  preserves_attn, Cert.KernelIdeal.Attn.algebraic,
  trivial, Cert.ModValue.algebraic,
  trivial, Cert.ModW.algebraic,
  trivial, Cert.Norm2.algebraic,
  trivial, Cert.Norm1.algebraic,
  trivial, Cert.Mix.algebraic,
  preserves_12, Cert.AttnFwd.algebraic,
  trivial, Cert.Prep.algebraic,
  trivial, Cert.Ffn.algebraic,
  trivial, Cert.FfnIn.algebraic,
  trivial, Cert.ModIn.algebraic,
  trivial, Cert.MixF.algebraic,
  trivial, Cert.Norm1F.algebraic,
  trivial, Cert.ModF.algebraic,
  trivial, Cert.PrepFwd.algebraic,
  trivial, Cert.CastW.algebraic,
  trivial, Cert.SumSlots.algebraic,
  trivial, Cert.AdamW.algebraic,
  trivial, Cert.DownT.algebraic,
  trivial, Cert.GateUpT.algebraic⟩

end Cert.Proof

end
